-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)) (v4 : (c : Dev Cert.Kernel7Ideal.nD) → Buf (Elt Ideal) ((c.tc : Thread Cert.Kernel7Ideal.nD Cert.Kernel7Ideal.τ).loc Cert.Kernel7Ideal.main_v3_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_v3_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v12) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_v6) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_arg0) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_v56) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v2) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)) (v3 : (c : Dev Cert.Kernel13Ideal.nD) → Buf (Elt Ideal) ((c.tc : Thread Cert.Kernel13Ideal.nD Cert.Kernel13Ideal.τ).loc Cert.Kernel13Ideal.main_v5_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_v5_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_v27) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg0) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v27) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v29) = v2 c
          ∧ r.2.mem ((c.tc : Thread Cert.Reference15Ideal.nD Cert.Reference15Ideal.τ).loc Cert.Reference15Ideal.main_v30) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_v13) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_v15) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v29)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v29) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v42) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)) →
    ∃ (v0 : (c : Dev Cert.Kernel28Ideal.nD) → Buf (Elt Ideal) ((c.tc : Thread Cert.Kernel28Ideal.nD Cert.Kernel28Ideal.τ).loc Cert.Kernel28Ideal.main_v39_7)) (v1 : (c : Dev Cert.Kernel28Ideal.nD) → Buf (Elt Ideal) ((c.tc : Thread Cert.Kernel28Ideal.nD Cert.Kernel28Ideal.τ).loc Cert.Kernel28Ideal.main_v39_8)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v39_7) = v0 c
          ∧ r.2.mem ((c.tc : Thread Cert.Kernel28Ideal.nD Cert.Kernel28Ideal.τ).loc Cert.Kernel28Ideal.main_v39_8) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v166) = v0 c
          ∧ r.2.mem ((c.tc : Thread Cert.Reference28Ideal.nD Cert.Reference28Ideal.τ).loc Cert.Reference28Ideal.main_v195) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v74) = v0 c
          ∧ r.2.mem ((c.tc : Thread Cert.Reference29Ideal.nD Cert.Reference29Ideal.τ).loc Cert.Reference29Ideal.main_v75) = v1 c
          ∧ r.2.mem ((c.tc : Thread Cert.Reference29Ideal.nD Cert.Reference29Ideal.τ).loc Cert.Reference29Ideal.main_v73) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Kernel.lean ====
abbrev S2x2048x5632 : Shape := ⟨3, ![2, 2048, 5632]⟩
abbrev S5632x1024 : Shape := ⟨2, ![5632, 1024]⟩
abbrev S2x2048x1024 : Shape := ⟨3, ![2, 2048, 1024]⟩
abbrev S1024 : Shape := ⟨1, ![1024]⟩
abbrev S2x1x1024 : Shape := ⟨3, ![2, 1, 1024]⟩
abbrev S3x5632 : Shape := ⟨2, ![3, 5632]⟩
abbrev S1x1024 : Shape := ⟨2, ![1, 1024]⟩
abbrev S1x512x1408 : Shape := ⟨3, ![1, 512, 1408]⟩
abbrev S1x16x1408 : Shape := ⟨3, ![1, 16, 1408]⟩
abbrev S3x1408 : Shape := ⟨2, ![3, 1408]⟩
abbrev S1408x1024 : Shape := ⟨2, ![1408, 1024]⟩
abbrev S1x512x1024 : Shape := ⟨3, ![1, 512, 1024]⟩
abbrev S1x1x1024 : Shape := ⟨3, ![1, 1, 1024]⟩
abbrev S512x1024 : Shape := ⟨2, ![512, 1024]⟩
abbrev S512x1408 : Shape := ⟨2, ![512, 1408]⟩
abbrev S512x1 : Shape := ⟨2, ![512, 1]⟩
abbrev S16x1408 : Shape := ⟨2, ![16, 1408]⟩
abbrev S1x1408 : Shape := ⟨2, ![1, 1408]⟩
abbrev S512 : Shape := ⟨1, ![512]⟩

abbrev nBuf : Space → Nat
  | .hbm => 13
  | .vmem => 25
  | .smem => 0
  | _ => 0

abbrev bufTy : (tb : Table) → Fin (tcTables nBuf tb) → BufTy
  | .hbm, ⟨0, _⟩ => ⟨S2x2048x5632, .bf16⟩
  | .hbm, ⟨1, _⟩ => ⟨S5632x1024, .bf16⟩
  | .hbm, ⟨2, _⟩ => ⟨S2x2048x1024, .f32⟩
  | .hbm, ⟨3, _⟩ => ⟨S1024, .f32⟩
  | .hbm, ⟨4, _⟩ => ⟨S2x1x1024, .f32⟩
  | .hbm, ⟨5, _⟩ => ⟨S2x2048x1024, .f32⟩
  | .hbm, ⟨6, _⟩ => ⟨S3x5632, .f32⟩
  | .hbm, ⟨7, _⟩ => ⟨S1x1024, .f32⟩
  | .hbm, ⟨8, _⟩ => ⟨S2x2048x1024, .f32⟩
  | .hbm, ⟨9, _⟩ => ⟨S2x2048x5632, .bf16⟩
  | .hbm, ⟨10, _⟩ => ⟨S2x1x1024, .f32⟩
  | .hbm, ⟨11, _⟩ => ⟨S2x1x1024, .f32⟩
  | .hbm, ⟨12, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S3x1408, .f32⟩
  | .local _ .vmem, ⟨5, _⟩ => ⟨S3x1408, .f32⟩
  | .local _ .vmem, ⟨6, _⟩ => ⟨S1408x1024, .bf16⟩
  | .local _ .vmem, ⟨7, _⟩ => ⟨S1408x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1408, .bf16⟩
  | .local _ .vmem, ⟨18, _⟩ => ⟨S1x512x1408, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S512x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨3, ![2, 4, 4], ![false, false, false]⟩

def k0_cond4 (i : grid0.Coords) : BitVec 1 :=
  let arg2 : BitVec 32 := BitVec.ofNat 32 (i 2).val
  let c3_i32_28 : BitVec 32 := 3#32
  let v74 : BitVec 1 := Scalar.cmpi .eq arg2 c3_i32_28
  let v75 : BitVec 32 := Scalar.extui v74
  let c0_i32_29 : BitVec 32 := 0#32
  let v76 : BitVec 1 := Scalar.cmpi .ne v75 c0_i32_29
  v76

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg2 : BitVec 32 := BitVec.ofNat 32 (i 2).val
  let c0_i32_4 : BitVec 32 := 0#32
  let v8 : BitVec 1 := Scalar.cmpi .eq arg2 c0_i32_4
  let arg1 : BitVec 32 := BitVec.ofNat 32 (i 1).val
  let c0_i32_5 : BitVec 32 := 0#32
  let v9 : BitVec 1 := Scalar.cmpi .eq arg1 c0_i32_5
  let v10 : BitVec 1 := Scalar.andi v8 v9
  let arg0 : BitVec 32 := BitVec.ofNat 32 (i 0).val
  let c0_i32_6 : BitVec 32 := 0#32
  let v11 : BitVec 1 := Scalar.cmpi .eq arg0 c0_i32_6
  let v12 : BitVec 1 := Scalar.andi v10 v11
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  ![arg0.toNat, v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== ReferenceIdeal.lean ====
abbrev S2x2048x5632 : Shape := ⟨3, ![2, 2048, 5632]⟩
abbrev S5632x1024 : Shape := ⟨2, ![5632, 1024]⟩
abbrev S2x2048x1024 : Shape := ⟨3, ![2, 2048, 1024]⟩
abbrev S1024 : Shape := ⟨1, ![1024]⟩
abbrev S2x1x1024 : Shape := ⟨3, ![2, 1, 1024]⟩
abbrev S3x5632 : Shape := ⟨2, ![3, 5632]⟩
abbrev S1024x5632 : Shape := ⟨2, ![1024, 5632]⟩
abbrev S_ : Shape := ⟨0, ![]⟩
abbrev S5632 : Shape := ⟨1, ![5632]⟩
abbrev S2x2048 : Shape := ⟨2, ![2, 2048]⟩
abbrev S2x2048x1 : Shape := ⟨3, ![2, 2048, 1]⟩
abbrev S1x1x1024 : Shape := ⟨3, ![1, 1, 1024]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x1024 : Shape := ⟨2, ![2, 1024]⟩
abbrev S1x1024 : Shape := ⟨2, ![1, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S5632x1024, .bf16⟩
  | .hbm, ⟨2, _⟩ => ⟨S2x2048x1024, .f32⟩
  | .hbm, ⟨3, _⟩ => ⟨S1024, .f32⟩
  | .hbm, ⟨4, _⟩ => ⟨S2x1x1024, .f32⟩
  | .hbm, ⟨5, _⟩ => ⟨S2x2048x1024, .f32⟩
  | .hbm, ⟨6, _⟩ => ⟨S3x5632, .f32⟩
  | .hbm, ⟨7, _⟩ => ⟨S5632x1024, .f32⟩
  | .hbm, ⟨8, _⟩ => ⟨S1024x5632, .f32⟩
  | .hbm, ⟨9, _⟩ => ⟨S_, .f32⟩
  | .hbm, ⟨10, _⟩ => ⟨S2x1x1024, .f32⟩
  | .hbm, ⟨11, _⟩ => ⟨S_, .f32⟩
  | .hbm, ⟨12, _⟩ => ⟨S5632, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x5632, .f32⟩
  | .hbm, ⟨41, _⟩ => ⟨S2x2x5632, .f32⟩
  | .hbm, ⟨42, _⟩ => ⟨S_, .f32⟩
  | .hbm, ⟨43, _⟩ => ⟨S2x2x5632, .f32⟩
  | .hbm, ⟨44, _⟩ => ⟨S2x2050x5632, .f32⟩
  | .hbm, ⟨45, _⟩ => ⟨S_, .f32⟩
  | .hbm, ⟨46, _⟩ => ⟨S2x2x5632, .f32⟩
  | .hbm, ⟨47, _⟩ => ⟨S2x2048x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S2x2048x5632, .f32⟩
  | .hbm, ⟨52, _⟩ => ⟨S2x2048x5632, .f32⟩
  | .hbm, ⟨53, _⟩ => ⟨S2x2048x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S2x2048x5632, .f32⟩
  | .hbm, ⟨58, _⟩ => ⟨S2x2048x5632, .f32⟩
  | .hbm, ⟨59, _⟩ => ⟨S2x2048x5632, .f32⟩
  | .hbm, ⟨60, _⟩ => ⟨S2x2048x5632, .f32⟩
  | .hbm, ⟨61, _⟩ => ⟨S1x5632, .f32⟩
  | .hbm, ⟨62, _⟩ => ⟨S5632, .f32⟩
  | .hbm, ⟨63, _⟩ => ⟨S1x1x5632, .f32⟩
  | .hbm, ⟨64, _⟩ => ⟨S2x2048x5632, .f32⟩
  | .hbm, ⟨65, _⟩ => ⟨S2x2048x5632, .f32⟩
  | .hbm, ⟨66, _⟩ => ⟨S2x2048x5632, .f32⟩
  | .hbm, ⟨67, _⟩ => ⟨S1x1x5632, .f32⟩
  | .hbm, ⟨68, _⟩ => ⟨S2x2048x5632, .f32⟩
  | .hbm, ⟨69, _⟩ => ⟨S2x2048x5632, .f32⟩
  | .hbm, ⟨70, _⟩ => ⟨S2x2048x5632, .f32⟩
  | .hbm, ⟨71, _⟩ => ⟨S2x2048x5632, .f32⟩
  | .hbm, ⟨72, _⟩ => ⟨S2x2048x5632, .f32⟩
  | .hbm, ⟨73, _⟩ => ⟨S_, .f32⟩
  | .hbm, ⟨74, _⟩ => ⟨S2x2050x5632, .f32⟩
  | .hbm, ⟨75, _⟩ => ⟨S2x2048x5632, .f32⟩
  | .hbm, ⟨76, _⟩ => ⟨S2x2048x5632, .f32⟩
  | .hbm, ⟨77, _⟩ => ⟨S_, .f32⟩
  | .hbm, ⟨78, _⟩ => ⟨S2x2050x5632, .f32⟩
  | .hbm, ⟨79, _⟩ => ⟨S2x2050x5632, .f32⟩
  | .hbm, ⟨80, _⟩ => ⟨S2x2048x5632, .f32⟩
  | .hbm, ⟨81, _⟩ => ⟨S2x2048x5632, .f32⟩
  | .hbm, ⟨82, _⟩ => ⟨S_, .f32⟩
  | .hbm, ⟨83, _⟩ => ⟨S2x2050x5632, .f32⟩
  | .hbm, ⟨84, _⟩ => ⟨S2x2050x5632, .f32⟩
  | .hbm, ⟨85, _⟩ => ⟨S2x2x5632, .f32⟩
  | .hbm, ⟨86, _⟩ => ⟨S2x2048x5632, .f32⟩
  | .hbm, ⟨87, _⟩ => ⟨S2x2048x1024, .f32⟩
  | .hbm, ⟨88, _⟩ => ⟨S_, .f32⟩
  | .hbm, ⟨89, _⟩ => ⟨S2x1024, .f32⟩
  | .hbm, ⟨90, _⟩ => ⟨S2x1x1024, .f32⟩
  | .hbm, ⟨91, _⟩ => ⟨S2x2048x1024, .f32⟩
  | .hbm, ⟨92, _⟩ => ⟨S_, .f32⟩
  | .hbm, ⟨93, _⟩ => ⟨S2x1024, .f32⟩
  | .hbm, ⟨94, _⟩ => ⟨S2x1x1024, .f32⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S_, .f32⟩
  | .hbm, ⟨99, _⟩ => ⟨S1024, .f32⟩
  | .hbm, ⟨100, _⟩ => ⟨S1x1x1024, .f32⟩
  | .hbm, ⟨101, _⟩ => ⟨S2x2048x1024, .f32⟩
  | .hbm, ⟨102, _⟩ => ⟨S2x2048x1024, .f32⟩
  | .hbm, ⟨103, _⟩ => ⟨S_, .f32⟩
  | .hbm, ⟨104, _⟩ => ⟨S1024, .f32⟩
  | .hbm, ⟨105, _⟩ => ⟨S2x2048x1024, .f32⟩
  | .hbm, ⟨106, _⟩ => ⟨S_, .f32⟩
  | .hbm, ⟨107, _⟩ => ⟨S2x2048, .f32⟩
  | .hbm, ⟨108, _⟩ => ⟨S2x2048x1, .f32⟩
  | .hbm, ⟨109, _⟩ => ⟨S2x2048x1024, .f32⟩
  | .hbm, ⟨110, _⟩ => ⟨S2x2048x1024, .f32⟩
  | .hbm, ⟨111, _⟩ => ⟨S2x2048x1024, .f32⟩
  | .hbm, ⟨112, _⟩ => ⟨S2x2048x1, .f32⟩
  | .hbm, ⟨113, _⟩ => ⟨S_, .f32⟩
  | .hbm, ⟨114, _⟩ => ⟨S2x2048x1, .f32⟩
  | .hbm, ⟨115, _⟩ => ⟨S2x2048x1, .f32⟩
  | .hbm, ⟨116, _⟩ => ⟨S_, .f32⟩
  | .hbm, ⟨117, _⟩ => ⟨S2x2048, .f32⟩
  | .hbm, ⟨118, _⟩ => ⟨S2x2048x1024, .f32⟩
  | .hbm, ⟨119, _⟩ => ⟨S2x2048x1024, .f32⟩
  | .hbm, ⟨120, _⟩ => ⟨S2x2048x1024, .f32⟩
  | .hbm, ⟨121, _⟩ => ⟨S2x2048x1024, .f32⟩
  | .hbm, ⟨122, _⟩ => ⟨S2x2048x1024, .f32⟩
  | .hbm, ⟨123, _⟩ => ⟨S2x2048x5632, .bf16⟩
  | .hbm, ⟨124, _⟩ => ⟨S1x1024, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_cst_15 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_16 : Ref sig .tc := ⟨.hbm, 113, rfl⟩
abbrev main_v89 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩

abbrev nD : Nat := 1
abbrev τ : Topo := Topo.v7x

variable {F : FTy → Type} [FloatOps F]
-- ==== Kernel2.lean ====
abbrev S2x2048x5632 : Shape := ⟨3, ![2, 2048, 5632]⟩
abbrev S2x2048x1024 : Shape := ⟨3, ![2, 2048, 1024]⟩
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x5632, .bf16⟩
  | .hbm, ⟨1, _⟩ => ⟨S2x2048x1024, .bf16⟩
  | .hbm, ⟨2, _⟩ => ⟨S4096x5632, .bf16⟩
  | .hbm, ⟨3, _⟩ => ⟨S4096x1024, .bf16⟩
  | .hbm, ⟨4, _⟩ => ⟨S5632x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S2x2048x5632 : Shape := ⟨3, ![2, 2048, 5632]⟩
abbrev S2x2048x1024 : Shape := ⟨3, ![2, 2048, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2x2048x1024, .bf16⟩
  | .hbm, ⟨2, _⟩ => ⟨S_, .f32⟩
  | .hbm, ⟨3, _⟩ => ⟨S1024x5632, .f32⟩
  | .hbm, ⟨4, _⟩ => ⟨S2x2048x1024, .f32⟩
  | .hbm, ⟨5, _⟩ => ⟨S2x2048x5632, .f32⟩
  | .hbm, ⟨6, _⟩ => ⟨S2x2048x5632, .f32⟩
  | .hbm, ⟨7, _⟩ => ⟨S5632x1024, .f32⟩
  | .hbm, ⟨8, _⟩ => ⟨S1024x5632, .f32⟩
  | .hbm, ⟨9, _⟩ => ⟨S5632x1024, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2x2048x2816 : Shape := ⟨3, ![2, 2048, 2816]⟩
abbrev S2x2048x1024 : Shape := ⟨3, ![2, 2048, 1024]⟩
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x1024, .bf16⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x1024, .bf16⟩
  | .hbm, ⟨2, _⟩ => ⟨S_, .f32⟩
  | .hbm, ⟨3, _⟩ => ⟨S2816x1024, .f32⟩
  | .hbm, ⟨4, _⟩ => ⟨S2x2048x2816, .f32⟩
  | .hbm, ⟨5, _⟩ => ⟨S2x2048x1024, .f32⟩
  | .hbm, ⟨6, _⟩ => ⟨S2x2048x1024, .f32⟩
  | .hbm, ⟨7, _⟩ => ⟨S1024x2816, .f32⟩
  | .hbm, ⟨8, _⟩ => ⟨S2816x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2x2048x256 : Shape := ⟨3, ![2, 2048, 256]⟩
abbrev S2x2048x384 : Shape := ⟨3, ![2, 2048, 384]⟩
abbrev S2x2048x1024 : Shape := ⟨3, ![2, 2048, 1024]⟩
abbrev S4096x1024 : Shape := ⟨2, ![4096, 1024]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S2x2048x1024, .bf16⟩
  | .hbm, ⟨4, _⟩ => ⟨S2x2048x1024, .f32⟩
  | .hbm, ⟨5, _⟩ => ⟨S2x2048x1024, .bf16⟩
  | .hbm, ⟨6, _⟩ => ⟨S4096x1024, .bf16⟩
  | .hbm, ⟨7, _⟩ => ⟨S4096x1024, .bf16⟩
  | .hbm, ⟨8, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S2x2048x256 : Shape := ⟨3, ![2, 2048, 256]⟩
abbrev S2x2048x384 : Shape := ⟨3, ![2, 2048, 384]⟩
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S2x2048x1024, .bf16⟩
  | .hbm, ⟨4, _⟩ => ⟨S2x2048x1024, .f32⟩
  | .hbm, ⟨5, _⟩ => ⟨S_, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S1024x1024, .f32⟩
  | .hbm, ⟨10, _⟩ => ⟨S1024x1024, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S2x2048x2048 : Shape := ⟨3, ![2, 2048, 2048]⟩
abbrev S2x2048x1024 : Shape := ⟨3, ![2, 2048, 1024]⟩
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S2x2048x2048 : Shape := ⟨3, ![2, 2048, 2048]⟩
abbrev S2x2048x1024 : Shape := ⟨3, ![2, 2048, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2x2048x1024, .bf16⟩
  | .hbm, ⟨2, _⟩ => ⟨S_, .f32⟩
  | .hbm, ⟨3, _⟩ => ⟨S1024x2048, .f32⟩
  | .hbm, ⟨4, _⟩ => ⟨S2x2048x1024, .f32⟩
  | .hbm, ⟨5, _⟩ => ⟨S2x2048x2048, .f32⟩
  | .hbm, ⟨6, _⟩ => ⟨S2x2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x1x1024 : Shape := ⟨3, ![2, 1, 1024]⟩
abbrev S2816x1024 : Shape := ⟨2, ![2816, 1024]⟩
abbrev S2x2048x2816 : Shape := ⟨3, ![2, 2048, 2816]⟩
abbrev S1x512x1024 : Shape := ⟨3, ![1, 512, 1024]⟩
abbrev S1x1x1024 : Shape := ⟨3, ![1, 1, 1024]⟩
abbrev S1x512x2816 : Shape := ⟨3, ![1, 512, 2816]⟩
abbrev S1x1024 : Shape := ⟨2, ![1, 1024]⟩
abbrev S512x1024 : Shape := ⟨2, ![512, 1024]⟩
abbrev S1024 : Shape := ⟨1, ![1024]⟩
abbrev S512x2816 : Shape := ⟨2, ![512, 2816]⟩

abbrev nBuf : Space → Nat
  | .hbm => 7
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1x1024, .f32⟩
  | .hbm, ⟨3, _⟩ => ⟨S2816x1024, .bf16⟩
  | .hbm, ⟨4, _⟩ => ⟨S2x2048x2816, .f32⟩
  | .hbm, ⟨5, _⟩ => ⟨S2x2048x1024, .bf16⟩
  | .hbm, ⟨6, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S2816x1024, .bf16⟩
  | .local _ .vmem, ⟨7, _⟩ => ⟨S1x512x2816, .f32⟩
  | .local _ .vmem, ⟨8, _⟩ => ⟨S1x512x2816, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1x1024, .f32⟩
  | .local _ .vmem, ⟨12, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S2x2048x1024 : Shape := ⟨3, ![2, 2048, 1024]⟩
abbrev S2x1x1024 : Shape := ⟨3, ![2, 1, 1024]⟩
abbrev S2816x1024 : Shape := ⟨2, ![2816, 1024]⟩
abbrev S_ : Shape := ⟨0, ![]⟩
abbrev S2x1024 : Shape := ⟨2, ![2, 1024]⟩
abbrev S2x2048x2816 : Shape := ⟨3, ![2, 2048, 2816]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1x1024, .f32⟩
  | .hbm, ⟨3, _⟩ => ⟨S2816x1024, .bf16⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x1024, .f32⟩
  | .hbm, ⟨11, _⟩ => ⟨S2x1x1024, .f32⟩
  | .hbm, ⟨12, _⟩ => ⟨S_, .f32⟩
  | .hbm, ⟨13, _⟩ => ⟨S2x2048x2816, .f32⟩
  | .hbm, ⟨14, _⟩ => ⟨S2816x1024, .f32⟩
  | .hbm, ⟨15, _⟩ => ⟨S2x2048x1024, .f32⟩
  | .hbm, ⟨16, _⟩ => ⟨S2x2048x2816, .f32⟩
  | .hbm, ⟨17, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x1x1024 : Shape := ⟨3, ![2, 1, 1024]⟩
abbrev S1024x1024 : Shape := ⟨2, ![1024, 1024]⟩
abbrev S256x1024 : Shape := ⟨2, ![256, 1024]⟩
abbrev S384x1024 : Shape := ⟨2, ![384, 1024]⟩
abbrev S2x2048x256 : Shape := ⟨3, ![2, 2048, 256]⟩
abbrev S2x2048x384 : Shape := ⟨3, ![2, 2048, 384]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x384 : Shape := ⟨3, ![1, 512, 384]⟩
abbrev S1x1024 : Shape := ⟨2, ![1, 1024]⟩
abbrev S512x1024 : Shape := ⟨2, ![512, 1024]⟩
abbrev S1024 : Shape := ⟨1, ![1024]⟩
abbrev S512x256 : Shape := ⟨2, ![512, 256]⟩
abbrev S512x384 : Shape := ⟨2, ![512, 384]⟩

abbrev nBuf : Space → Nat
  | .hbm => 12
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1x1024, .f32⟩
  | .hbm, ⟨3, _⟩ => ⟨S1024x1024, .bf16⟩
  | .hbm, ⟨4, _⟩ => ⟨S256x1024, .bf16⟩
  | .hbm, ⟨5, _⟩ => ⟨S384x1024, .bf16⟩
  | .hbm, ⟨6, _⟩ => ⟨S384x1024, .bf16⟩
  | .hbm, ⟨7, _⟩ => ⟨S2x2048x256, .f32⟩
  | .hbm, ⟨8, _⟩ => ⟨S2x2048x384, .f32⟩
  | .hbm, ⟨9, _⟩ => ⟨S2x2048x384, .f32⟩
  | .hbm, ⟨10, _⟩ => ⟨S2x2048x1024, .bf16⟩
  | .hbm, ⟨11, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S384x1024, .bf16⟩
  | .local _ .vmem, ⟨8, _⟩ => ⟨S384x1024, .bf16⟩
  | .local _ .vmem, ⟨9, _⟩ => ⟨S1x512x256, .f32⟩
  | .local _ .vmem, ⟨10, _⟩ => ⟨S1x512x256, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1x1024, .f32⟩
  | .local _ .vmem, ⟨18, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S2x2048x1024 : Shape := ⟨3, ![2, 2048, 1024]⟩
abbrev S2x1x1024 : Shape := ⟨3, ![2, 1, 1024]⟩
abbrev S1024x1024 : Shape := ⟨2, ![1024, 1024]⟩
abbrev S_ : Shape := ⟨0, ![]⟩
abbrev S2x1024 : Shape := ⟨2, ![2, 1024]⟩
abbrev S2x2048x256 : Shape := ⟨3, ![2, 2048, 256]⟩
abbrev S2x2048x384 : Shape := ⟨3, ![2, 2048, 384]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1x1024, .f32⟩
  | .hbm, ⟨3, _⟩ => ⟨S1024x1024, .bf16⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x1024, .f32⟩
  | .hbm, ⟨11, _⟩ => ⟨S2x1x1024, .f32⟩
  | .hbm, ⟨12, _⟩ => ⟨S_, .f32⟩
  | .hbm, ⟨13, _⟩ => ⟨S2x2048x1024, .f32⟩
  | .hbm, ⟨14, _⟩ => ⟨S1024x1024, .f32⟩
  | .hbm, ⟨15, _⟩ => ⟨S2x2048x1024, .f32⟩
  | .hbm, ⟨16, _⟩ => ⟨S2x2048x1024, .f32⟩
  | .hbm, ⟨17, _⟩ => ⟨S2x2048x256, .f32⟩
  | .hbm, ⟨18, _⟩ => ⟨S2x2048x384, .f32⟩
  | .hbm, ⟨19, _⟩ => ⟨S2x2048x384, .f32⟩
  | .hbm, ⟨20, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S1024 : Shape := ⟨1, ![1024]⟩
abbrev S2x1x1024 : Shape := ⟨3, ![2, 1, 1024]⟩
abbrev S1x1024 : Shape := ⟨2, ![1, 1024]⟩
abbrev S1x512x1024 : Shape := ⟨3, ![1, 512, 1024]⟩
abbrev S1024x1024 : Shape := ⟨2, ![1024, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 21
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x1024, .f32⟩
  | .hbm, ⟨3, _⟩ => ⟨S1024, .f32⟩
  | .hbm, ⟨4, _⟩ => ⟨S2x1x1024, .f32⟩
  | .hbm, ⟨5, _⟩ => ⟨S2x2048x1024, .f32⟩
  | .hbm, ⟨6, _⟩ => ⟨S1x1024, .f32⟩
  | .hbm, ⟨7, _⟩ => ⟨S2x2048x1024, .f32⟩
  | .hbm, ⟨8, _⟩ => ⟨S2x2048x2048, .bf16⟩
  | .hbm, ⟨9, _⟩ => ⟨S2x1x1024, .f32⟩
  | .hbm, ⟨10, _⟩ => ⟨S2x1x1024, .f32⟩
  | .hbm, ⟨11, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S512x1024, .f32⟩
  | _, _ => ⟨S2x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨3, ![2, 4, 2], ![false, false, false]⟩

def k0_cond4 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_19 : BitVec 32 := 0#32
  let v31 : BitVec 1 := Scalar.cmpi .ne v30 c0_i32_19
  v31

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg2 : BitVec 32 := BitVec.ofNat 32 (i 2).val
  let c0_i32_4 : BitVec 32 := 0#32
  let v8 : BitVec 1 := Scalar.cmpi .eq arg2 c0_i32_4
  let arg1 : BitVec 32 := BitVec.ofNat 32 (i 1).val
  let c0_i32_5 : BitVec 32 := 0#32
  let v9 : BitVec 1 := Scalar.cmpi .eq arg1 c0_i32_5
  let v10 : BitVec 1 := Scalar.andi v8 v9
  let arg0 : BitVec 32 := BitVec.ofNat 32 (i 0).val
  let c0_i32_6 : BitVec 32 := 0#32
  let v11 : BitVec 1 := Scalar.cmpi .eq arg0 c0_i32_6
  let v12 : BitVec 1 := Scalar.andi v10 v11
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference8Ideal.lean ====
abbrev S2x2048x2048 : Shape := ⟨3, ![2, 2048, 2048]⟩
abbrev S2048x1024 : Shape := ⟨2, ![2048, 1024]⟩
abbrev S2x2048x1024 : Shape := ⟨3, ![2, 2048, 1024]⟩
abbrev S1024 : Shape := ⟨1, ![1024]⟩
abbrev S2x1x1024 : Shape := ⟨3, ![2, 1, 1024]⟩
abbrev S1024x2048 : Shape := ⟨2, ![1024, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x2048, .bf16⟩
  | .hbm, ⟨1, _⟩ => ⟨S2048x1024, .bf16⟩
  | .hbm, ⟨2, _⟩ => ⟨S2x2048x1024, .f32⟩
  | .hbm, ⟨3, _⟩ => ⟨S1024, .f32⟩
  | .hbm, ⟨4, _⟩ => ⟨S2x1x1024, .f32⟩
  | .hbm, ⟨5, _⟩ => ⟨S2x2048x1024, .f32⟩
  | .hbm, ⟨6, _⟩ => ⟨S2048x1024, .f32⟩
  | .hbm, ⟨7, _⟩ => ⟨S1024x2048, .f32⟩
  | .hbm, ⟨8, _⟩ => ⟨S_, .f32⟩
  | .hbm, ⟨9, _⟩ => ⟨S2x1x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x2048, .f32⟩
  | .hbm, ⟨38, _⟩ => ⟨S2x2048x2048, .f32⟩
  | .hbm, ⟨39, _⟩ => ⟨S2x2048x1024, .f32⟩
  | .hbm, ⟨40, _⟩ => ⟨S_, .f32⟩
  | .hbm, ⟨41, _⟩ => ⟨S2x1024, .f32⟩
  | .hbm, ⟨42, _⟩ => ⟨S2x1x1024, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S1x1024, .f32⟩
  | _, _ => ⟨S2x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel9.lean ====
abbrev S2x2048x256 : Shape := ⟨3, ![2, 2048, 256]⟩
abbrev S2x2048x384 : Shape := ⟨3, ![2, 2048, 384]⟩
abbrev S1024x1024 : Shape := ⟨2, ![1024, 1024]⟩
abbrev S2x1x1024 : Shape := ⟨3, ![2, 1, 1024]⟩
abbrev S2x2048x1024 : Shape := ⟨3, ![2, 2048, 1024]⟩
abbrev S256x1024 : Shape := ⟨2, ![256, 1024]⟩
abbrev S384x1024 : Shape := ⟨2, ![384, 1024]⟩
abbrev S1x512x256 : Shape := ⟨3, ![1, 512, 256]⟩
abbrev S1x512x384 : Shape := ⟨3, ![1, 512, 384]⟩
abbrev S1x1x1024 : Shape := ⟨3, ![1, 1, 1024]⟩
abbrev S1x512x1024 : Shape := ⟨3, ![1, 512, 1024]⟩
abbrev S512x256 : Shape := ⟨2, ![512, 256]⟩
abbrev S512x1024 : Shape := ⟨2, ![512, 1024]⟩
abbrev S512x384 : Shape := ⟨2, ![512, 384]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S1024x1024, .bf16⟩
  | .hbm, ⟨4, _⟩ => ⟨S2x1x1024, .f32⟩
  | .hbm, ⟨5, _⟩ => ⟨S2x2048x1024, .f32⟩
  | .hbm, ⟨6, _⟩ => ⟨S256x1024, .bf16⟩
  | .hbm, ⟨7, _⟩ => ⟨S384x1024, .bf16⟩
  | .hbm, ⟨8, _⟩ => ⟨S384x1024, .bf16⟩
  | .hbm, ⟨9, _⟩ => ⟨S2x2048x1024, .f32⟩
  | .hbm, ⟨10, _⟩ => ⟨S2x2048x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S256x1024, .bf16⟩
  | .local _ .vmem, ⟨7, _⟩ => ⟨S384x1024, .bf16⟩
  | .local _ .vmem, ⟨8, _⟩ => ⟨S384x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S2x2048x256 : Shape := ⟨3, ![2, 2048, 256]⟩
abbrev S2x2048x384 : Shape := ⟨3, ![2, 2048, 384]⟩
abbrev S1024x1024 : Shape := ⟨2, ![1024, 1024]⟩
abbrev S2x1x1024 : Shape := ⟨3, ![2, 1, 1024]⟩
abbrev S2x2048x1024 : Shape := ⟨3, ![2, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x384, .f32⟩
  | .hbm, ⟨2, _⟩ => ⟨S2x2048x384, .f32⟩
  | .hbm, ⟨3, _⟩ => ⟨S1024x1024, .bf16⟩
  | .hbm, ⟨4, _⟩ => ⟨S2x1x1024, .f32⟩
  | .hbm, ⟨5, _⟩ => ⟨S2x2048x1024, .f32⟩
  | .hbm, ⟨6, _⟩ => ⟨S2x2048x1024, .f32⟩
  | .hbm, ⟨7, _⟩ => ⟨S1024x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel10.lean ====
abbrev S2x2048x5632 : Shape := ⟨3, ![2, 2048, 5632]⟩
abbrev S3x5632 : Shape := ⟨2, ![3, 5632]⟩
abbrev S5632 : Shape := ⟨1, ![5632]⟩
abbrev S2816x1024 : Shape := ⟨2, ![2816, 1024]⟩
abbrev S2x1x1024 : Shape := ⟨3, ![2, 1, 1024]⟩
abbrev S2x2048x1024 : Shape := ⟨3, ![2, 2048, 1024]⟩
abbrev S1x5632 : Shape := ⟨2, ![1, 5632]⟩
abbrev S1x512x1408 : Shape := ⟨3, ![1, 512, 1408]⟩
abbrev S1x16x1408 : Shape := ⟨3, ![1, 16, 1408]⟩
abbrev S3x1408 : Shape := ⟨2, ![3, 1408]⟩
abbrev S1x1408 : Shape := ⟨2, ![1, 1408]⟩
abbrev S1408x1024 : Shape := ⟨2, ![1408, 1024]⟩
abbrev S1x1x1024 : Shape := ⟨3, ![1, 1, 1024]⟩
abbrev S1x512x1024 : Shape := ⟨3, ![1, 512, 1024]⟩
abbrev S512x1024 : Shape := ⟨2, ![512, 1024]⟩
abbrev S512x1 : Shape := ⟨2, ![512, 1]⟩
abbrev S512x1408 : Shape := ⟨2, ![512, 1408]⟩
abbrev S16x1408 : Shape := ⟨2, ![16, 1408]⟩
abbrev S1x1024 : Shape := ⟨2, ![1, 1024]⟩

abbrev nBuf : Space → Nat
  | .hbm => 9
  | .vmem => 27
  | .smem => 0
  | _ => 0

abbrev bufTy : (tb : Table) → Fin (tcTables nBuf tb) → BufTy
  | .hbm, ⟨0, _⟩ => ⟨S2x2048x5632, .bf16⟩
  | .hbm, ⟨1, _⟩ => ⟨S3x5632, .f32⟩
  | .hbm, ⟨2, _⟩ => ⟨S5632, .f32⟩
  | .hbm, ⟨3, _⟩ => ⟨S2816x1024, .bf16⟩
  | .hbm, ⟨4, _⟩ => ⟨S2x1x1024, .f32⟩
  | .hbm, ⟨5, _⟩ => ⟨S2x2048x1024, .f32⟩
  | .hbm, ⟨6, _⟩ => ⟨S1x5632, .f32⟩
  | .hbm, ⟨7, _⟩ => ⟨S2x2048x1024, .f32⟩
  | .hbm, ⟨8, _⟩ => ⟨S2x2048x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x16x1408, .bf16⟩
  | .local _ .vmem, ⟨5, _⟩ => ⟨S1x16x1408, .bf16⟩
  | .local _ .vmem, ⟨6, _⟩ => ⟨S1x16x1408, .bf16⟩
  | .local _ .vmem, ⟨7, _⟩ => ⟨S1x16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S1408x1024, .bf16⟩
  | .local _ .vmem, ⟨17, _⟩ => ⟨S1408x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S512x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32_41 : BitVec 32 := 1#32
  let v121 : BitVec 1 := Scalar.cmpi .eq arg2 c1_i32_41
  let v122 : BitVec 32 := Scalar.extui v121
  let c0_i32_42 : BitVec 32 := 0#32
  let v123 : BitVec 1 := Scalar.cmpi .ne v122 c0_i32_42
  v123

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg2 c0_i32_0
  let c0_i32_1 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg2 c2_i32
  let c0_i32_0 : BitVec 32 := 0#32
  ![arg0.toNat, v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference10Ideal.lean ====
abbrev S2x2048x5632 : Shape := ⟨3, ![2, 2048, 5632]⟩
abbrev S3x5632 : Shape := ⟨2, ![3, 5632]⟩
abbrev S5632 : Shape := ⟨1, ![5632]⟩
abbrev S2816x1024 : Shape := ⟨2, ![2816, 1024]⟩
abbrev S2x1x1024 : Shape := ⟨3, ![2, 1, 1024]⟩
abbrev S2x2048x1024 : Shape := ⟨3, ![2, 2048, 1024]⟩
abbrev S2x2x5632 : Shape := ⟨3, ![2, 2, 5632]⟩
abbrev S_ : Shape := ⟨0, ![]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S3x5632, .f32⟩
  | .hbm, ⟨2, _⟩ => ⟨S5632, .f32⟩
  | .hbm, ⟨3, _⟩ => ⟨S2816x1024, .bf16⟩
  | .hbm, ⟨4, _⟩ => ⟨S2x1x1024, .f32⟩
  | .hbm, ⟨5, _⟩ => ⟨S2x2048x1024, .f32⟩
  | .hbm, ⟨6, _⟩ => ⟨S2x2048x5632, .f32⟩
  | .hbm, ⟨7, _⟩ => ⟨S2x2x5632, .f32⟩
  | .hbm, ⟨8, _⟩ => ⟨S_, .f32⟩
  | .hbm, ⟨9, _⟩ => ⟨S2x2x5632, .f32⟩
  | .hbm, ⟨10, _⟩ => ⟨S2x2050x5632, .f32⟩
  | .hbm, ⟨11, _⟩ => ⟨S2x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S2x2048x5632, .f32⟩
  | .hbm, ⟨16, _⟩ => ⟨S2x2048x5632, .f32⟩
  | .hbm, ⟨17, _⟩ => ⟨S2x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S2x2048x5632, .f32⟩
  | .hbm, ⟨29, _⟩ => ⟨S2x2048x5632, .f32⟩
  | .hbm, ⟨30, _⟩ => ⟨S2x2048x5632, .f32⟩
  | .hbm, ⟨31, _⟩ => ⟨S1x1x5632, .f32⟩
  | .hbm, ⟨32, _⟩ => ⟨S2x2048x5632, .f32⟩
  | .hbm, ⟨33, _⟩ => ⟨S2x2048x5632, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2816x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024 : Shape := ⟨1, ![1024]⟩
abbrev S2x1x1024 : Shape := ⟨3, ![2, 1, 1024]⟩
abbrev S2048x1024 : Shape := ⟨2, ![2048, 1024]⟩
abbrev S1x1024 : Shape := ⟨2, ![1, 1024]⟩
abbrev S2x2048x2048 : Shape := ⟨3, ![2, 2048, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2048x1024, .bf16⟩
  | .hbm, ⟨5, _⟩ => ⟨S1x1024, .f32⟩
  | .hbm, ⟨6, _⟩ => ⟨S2x2048x2048, .bf16⟩
  | .hbm, ⟨7, _⟩ => ⟨S2x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference11Ideal.lean ====
abbrev S2x2048x1024 : Shape := ⟨3, ![2, 2048, 1024]⟩
abbrev S1024 : Shape := ⟨1, ![1024]⟩
abbrev S2x1x1024 : Shape := ⟨3, ![2, 1, 1024]⟩
abbrev S2048x1024 : Shape := ⟨2, ![2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2048 : Shape := ⟨2, ![1024, 2048]⟩
abbrev S2x2048x2048 : Shape := ⟨3, ![2, 2048, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2048x1024, .bf16⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2048x1024, .f32⟩
  | .hbm, ⟨29, _⟩ => ⟨S1024x2048, .f32⟩
  | .hbm, ⟨30, _⟩ => ⟨S2x2048x2048, .f32⟩
  | .hbm, ⟨31, _⟩ => ⟨S2x2048x2048, .bf16⟩
  | .hbm, ⟨32, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel12.lean ====
abbrev S2x2048x1024 : Shape := ⟨3, ![2, 2048, 1024]⟩
abbrev S1024 : Shape := ⟨1, ![1024]⟩
abbrev S2x1x1024 : Shape := ⟨3, ![2, 1, 1024]⟩
abbrev S5632x1024 : Shape := ⟨2, ![5632, 1024]⟩
abbrev S1x1024 : Shape := ⟨2, ![1, 1024]⟩
abbrev S2x2048x5632 : Shape := ⟨3, ![2, 2048, 5632]⟩
abbrev S1x1024x1024 : Shape := ⟨3, ![1, 1024, 1024]⟩
abbrev S1x1x1024 : Shape := ⟨3, ![1, 1, 1024]⟩
abbrev S1408x1024 : Shape := ⟨2, ![1408, 1024]⟩
abbrev S1x1024x1408 : Shape := ⟨3, ![1, 1024, 1408]⟩
abbrev S1024x1024 : Shape := ⟨2, ![1024, 1024]⟩
abbrev S1024x1 : Shape := ⟨2, ![1024, 1]⟩
abbrev S1024x1408 : Shape := ⟨2, ![1024, 1408]⟩

abbrev nBuf : Space → Nat
  | .hbm => 8
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S5632x1024, .bf16⟩
  | .hbm, ⟨5, _⟩ => ⟨S1x1024, .f32⟩
  | .hbm, ⟨6, _⟩ => ⟨S2x2048x5632, .bf16⟩
  | .hbm, ⟨7, _⟩ => ⟨S2x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1408x1024, .bf16⟩
  | .local _ .vmem, ⟨8, _⟩ => ⟨S1408x1024, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference12Ideal.lean ====
abbrev S2x2048x1024 : Shape := ⟨3, ![2, 2048, 1024]⟩
abbrev S1024 : Shape := ⟨1, ![1024]⟩
abbrev S2x1x1024 : Shape := ⟨3, ![2, 1, 1024]⟩
abbrev S5632x1024 : Shape := ⟨2, ![5632, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S5632x1024, .bf16⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S5632x1024, .f32⟩
  | .hbm, ⟨29, _⟩ => ⟨S1024x5632, .f32⟩
  | .hbm, ⟨30, _⟩ => ⟨S2x2048x5632, .f32⟩
  | .hbm, ⟨31, _⟩ => ⟨S2x2048x5632, .bf16⟩
  | .hbm, ⟨32, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel13.lean ====
abbrev S2x1024x768 : Shape := ⟨3, ![2, 1024, 768]⟩
abbrev S2048x768 : Shape := ⟨2, ![2048, 768]⟩
abbrev S1x2048x768 : Shape := ⟨3, ![1, 2048, 768]⟩
abbrev S1x512x768 : Shape := ⟨3, ![1, 512, 768]⟩
abbrev S512x768 : Shape := ⟨2, ![512, 768]⟩

abbrev nBuf : Space → Nat
  | .hbm => 13
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S1x2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S2x6144 : Shape := ⟨2, ![2, 6144]⟩
abbrev S1x2x6144 : Shape := ⟨3, ![1, 2, 6144]⟩

abbrev nBuf : Space → Nat
  | .hbm => 9
  | .vmem => 8
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S1x2x6144, .f32⟩
  | .hbm, ⟨5, _⟩ => ⟨S2x6144, .f32⟩
  | .hbm, ⟨6, _⟩ => ⟨S2x6144, .f32⟩
  | .hbm, ⟨7, _⟩ => ⟨S2x6144, .f32⟩
  | .hbm, ⟨8, _⟩ => ⟨S2x6144, .f32⟩
  | .local _ .vmem, ⟨0, _⟩ => ⟨S1x2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | .local _ .vmem, ⟨7, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x704x1024 : Shape := ⟨3, ![4, 704, 1024]⟩
abbrev S1024x704 : Shape := ⟨2, ![1024, 704]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4x704x1024 : Shape := ⟨3, ![4, 704, 1024]⟩
abbrev S1024x704 : Shape := ⟨2, ![1024, 704]⟩
abbrev S_ : Shape := ⟨0, ![]⟩
abbrev S704x1024 : Shape := ⟨2, ![704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel16.lean ====
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S4x400x1024 : Shape := ⟨3, ![4, 400, 1024]⟩
abbrev S400x1024 : Shape := ⟨2, ![400, 1024]⟩
abbrev S1x400x1024 : Shape := ⟨3, ![1, 400, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x400x1024, .bf16⟩
  | .hbm, ⟨1, _⟩ => ⟨S400x1024, .f32⟩
  | .hbm, ⟨2, _⟩ => ⟨S400x1024, .f32⟩
  | .hbm, ⟨3, _⟩ => ⟨S400x1024, .f32⟩
  | .hbm, ⟨4, _⟩ => ⟨S400x1024, .f32⟩
  | .hbm, ⟨5, _⟩ => ⟨S400x1024, .f32⟩
  | .hbm, ⟨6, _⟩ => ⟨S400x1024, .f32⟩
  | .hbm, ⟨7, _⟩ => ⟨S400x1024, .f32⟩
  | .local _ .vmem, ⟨0, _⟩ => ⟨S4x400x1024, .bf16⟩
  | .local _ .vmem, ⟨1, _⟩ => ⟨S400x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | _, _ => ⟨S4x400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x400x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S400x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S400x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S400x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S400x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S400x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S400x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S400x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S4x400x1024 : Shape := ⟨3, ![4, 400, 1024]⟩
abbrev S400x1024 : Shape := ⟨2, ![400, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x400x1024, .bf16⟩
  | .hbm, ⟨1, _⟩ => ⟨S400x1024, .f32⟩
  | .hbm, ⟨2, _⟩ => ⟨S400x1024, .f32⟩
  | .hbm, ⟨3, _⟩ => ⟨S400x1024, .f32⟩
  | .hbm, ⟨4, _⟩ => ⟨S4x400x1024, .f32⟩
  | .hbm, ⟨5, _⟩ => ⟨S_, .f32⟩
  | .hbm, ⟨6, _⟩ => ⟨S400x1024, .f32⟩
  | .hbm, ⟨7, _⟩ => ⟨S_, .f32⟩
  | .hbm, ⟨8, _⟩ => ⟨S400x1024, .f32⟩
  | .hbm, ⟨9, _⟩ => ⟨S400x1024, .f32⟩
  | .hbm, ⟨10, _⟩ => ⟨S_, .f32⟩
  | .hbm, ⟨11, _⟩ => ⟨S400x1024, .f32⟩
  | .hbm, ⟨12, _⟩ => ⟨S400x1024, .f32⟩
  | .hbm, ⟨13, _⟩ => ⟨S400x1024, .f32⟩
  | .hbm, ⟨14, _⟩ => ⟨S_, .f32⟩
  | .hbm, ⟨15, _⟩ => ⟨S400x1024, .f32⟩
  | .hbm, ⟨16, _⟩ => ⟨S400x1024, .f32⟩
  | .hbm, ⟨17, _⟩ => ⟨S400x1024, .f32⟩
  | .hbm, ⟨18, _⟩ => ⟨S_, .f32⟩
  | .hbm, ⟨19, _⟩ => ⟨S400x1024, .f32⟩
  | .hbm, ⟨20, _⟩ => ⟨S400x1024, .f32⟩
  | .hbm, ⟨21, _⟩ => ⟨S400x1024, .f32⟩
  | .hbm, ⟨22, _⟩ => ⟨S_, .f32⟩
  | .hbm, ⟨23, _⟩ => ⟨S400x1024, .f32⟩
  | .hbm, ⟨24, _⟩ => ⟨S400x1024, .f32⟩
  | .hbm, ⟨25, _⟩ => ⟨S_, .f32⟩
  | .hbm, ⟨26, _⟩ => ⟨S400x1024, .f32⟩
  | .hbm, ⟨27, _⟩ => ⟨S400x1024, .f32⟩
  | .hbm, ⟨28, _⟩ => ⟨S400x1024, .f32⟩
  | .hbm, ⟨29, _⟩ => ⟨S_, .f32⟩
  | .hbm, ⟨30, _⟩ => ⟨S400x1024, .f32⟩
  | .hbm, ⟨31, _⟩ => ⟨S400x1024, .f32⟩
  | .hbm, ⟨32, _⟩ => ⟨S400x1024, .f32⟩
  | .hbm, ⟨33, _⟩ => ⟨S_, .f32⟩
  | .hbm, ⟨34, _⟩ => ⟨S400x1024, .f32⟩
  | .hbm, ⟨35, _⟩ => ⟨S400x1024, .f32⟩
  | .hbm, ⟨36, _⟩ => ⟨S400x1024, .f32⟩
  | .hbm, ⟨37, _⟩ => ⟨S_, .f32⟩
  | .hbm, ⟨38, _⟩ => ⟨S400x1024, .f32⟩
  | .hbm, ⟨39, _⟩ => ⟨S400x1024, .f32⟩
  | _, _ => ⟨S4x400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x136x128 : Shape := ⟨3, ![8, 136, 128]⟩
abbrev S136x128 : Shape := ⟨2, ![136, 128]⟩
abbrev S1x136x128 : Shape := ⟨3, ![1, 136, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S136x128, .f32⟩
  | .hbm, ⟨5, _⟩ => ⟨S136x128, .f32⟩
  | .hbm, ⟨6, _⟩ => ⟨S136x128, .f32⟩
  | .hbm, ⟨7, _⟩ => ⟨S136x128, .f32⟩
  | .local _ .vmem, ⟨0, _⟩ => ⟨S8x136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | .local _ .vmem, ⟨7, _⟩ => ⟨S136x128, .f32⟩
  | _, _ => ⟨S8x136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S136x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x136x128 : Shape := ⟨3, ![8, 136, 128]⟩
abbrev S136x128 : Shape := ⟨2, ![136, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S_, .f32⟩
  | .hbm, ⟨5, _⟩ => ⟨S136x128, .f32⟩
  | .hbm, ⟨6, _⟩ => ⟨S_, .f32⟩
  | .hbm, ⟨7, _⟩ => ⟨S136x128, .f32⟩
  | .hbm, ⟨8, _⟩ => ⟨S136x128, .f32⟩
  | .hbm, ⟨9, _⟩ => ⟨S_, .f32⟩
  | .hbm, ⟨10, _⟩ => ⟨S136x128, .f32⟩
  | .hbm, ⟨11, _⟩ => ⟨S136x128, .f32⟩
  | .hbm, ⟨12, _⟩ => ⟨S136x128, .f32⟩
  | .hbm, ⟨13, _⟩ => ⟨S_, .f32⟩
  | .hbm, ⟨14, _⟩ => ⟨S136x128, .f32⟩
  | .hbm, ⟨15, _⟩ => ⟨S136x128, .f32⟩
  | .hbm, ⟨16, _⟩ => ⟨S136x128, .f32⟩
  | .hbm, ⟨17, _⟩ => ⟨S_, .f32⟩
  | .hbm, ⟨18, _⟩ => ⟨S136x128, .f32⟩
  | .hbm, ⟨19, _⟩ => ⟨S136x128, .f32⟩
  | .hbm, ⟨20, _⟩ => ⟨S136x128, .f32⟩
  | .hbm, ⟨21, _⟩ => ⟨S_, .f32⟩
  | .hbm, ⟨22, _⟩ => ⟨S136x128, .f32⟩
  | .hbm, ⟨23, _⟩ => ⟨S136x128, .f32⟩
  | .hbm, ⟨24, _⟩ => ⟨S_, .f32⟩
  | .hbm, ⟨25, _⟩ => ⟨S136x128, .f32⟩
  | .hbm, ⟨26, _⟩ => ⟨S136x128, .f32⟩
  | .hbm, ⟨27, _⟩ => ⟨S136x128, .f32⟩
  | .hbm, ⟨28, _⟩ => ⟨S_, .f32⟩
  | .hbm, ⟨29, _⟩ => ⟨S136x128, .f32⟩
  | .hbm, ⟨30, _⟩ => ⟨S136x128, .f32⟩
  | .hbm, ⟨31, _⟩ => ⟨S136x128, .f32⟩
  | .hbm, ⟨32, _⟩ => ⟨S_, .f32⟩
  | .hbm, ⟨33, _⟩ => ⟨S136x128, .f32⟩
  | .hbm, ⟨34, _⟩ => ⟨S136x128, .f32⟩
  | .hbm, ⟨35, _⟩ => ⟨S136x128, .f32⟩
  | .hbm, ⟨36, _⟩ => ⟨S_, .f32⟩
  | .hbm, ⟨37, _⟩ => ⟨S136x128, .f32⟩
  | .hbm, ⟨38, _⟩ => ⟨S136x128, .f32⟩
  | _, _ => ⟨S8x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S16x1024 : Shape := ⟨2, ![16, 1024]⟩
abbrev S2x16x768 : Shape := ⟨3, ![2, 16, 768]⟩
abbrev S2x16x6144 : Shape := ⟨3, ![2, 16, 6144]⟩
abbrev S2x1024x768 : Shape := ⟨3, ![2, 1024, 768]⟩
abbrev S2x1x6144 : Shape := ⟨3, ![2, 1, 6144]⟩
abbrev S1x16x768 : Shape := ⟨3, ![1, 16, 768]⟩
abbrev S1x16x6144 : Shape := ⟨3, ![1, 16, 6144]⟩
abbrev S1x1024x768 : Shape := ⟨3, ![1, 1024, 768]⟩
abbrev S1x1x6144 : Shape := ⟨3, ![1, 1, 6144]⟩
abbrev S16x768 : Shape := ⟨2, ![16, 768]⟩
abbrev S1024x768 : Shape := ⟨2, ![1024, 768]⟩
abbrev S16x6144 : Shape := ⟨2, ![16, 6144]⟩
abbrev S6144 : Shape := ⟨1, ![6144]⟩
abbrev S1x6144 : Shape := ⟨2, ![1, 6144]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x16x6144, .f32⟩
  | .hbm, ⟨3, _⟩ => ⟨S2x1024x768, .f32⟩
  | .hbm, ⟨4, _⟩ => ⟨S2x1x6144, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x16x6144, .f32⟩
  | .local _ .vmem, ⟨4, _⟩ => ⟨S1x16x6144, .f32⟩
  | .local _ .vmem, ⟨5, _⟩ => ⟨S1x1024x768, .f32⟩
  | .local _ .vmem, ⟨6, _⟩ => ⟨S1x1024x768, .f32⟩
  | .local _ .vmem, ⟨7, _⟩ => ⟨S1x1x6144, .f32⟩
  | .local _ .vmem, ⟨8, _⟩ => ⟨S1x1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S16x1024 : Shape := ⟨2, ![16, 1024]⟩
abbrev S2x16x768 : Shape := ⟨3, ![2, 16, 768]⟩
abbrev S2x16x6144 : Shape := ⟨3, ![2, 16, 6144]⟩
abbrev S_ : Shape := ⟨0, ![]⟩
abbrev S2x1024x768 : Shape := ⟨3, ![2, 1024, 768]⟩
abbrev S2x1x6144 : Shape := ⟨3, ![2, 1, 6144]⟩
abbrev S2x1x768 : Shape := ⟨3, ![2, 1, 768]⟩
abbrev S2x768x16 : Shape := ⟨3, ![2, 768, 16]⟩
abbrev S2x768x1024 : Shape := ⟨3, ![2, 768, 1024]⟩
abbrev S2x6144 : Shape := ⟨2, ![2, 6144]⟩

abbrev nBuf : Space → Nat
  | .hbm => 29
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x16x6144, .f32⟩
  | .hbm, ⟨3, _⟩ => ⟨S_, .f32⟩
  | .hbm, ⟨4, _⟩ => ⟨S2x1024x768, .f32⟩
  | .hbm, ⟨5, _⟩ => ⟨S_, .f32⟩
  | .hbm, ⟨6, _⟩ => ⟨S2x1x6144, .f32⟩
  | .hbm, ⟨7, _⟩ => ⟨S_, .f32⟩
  | .hbm, ⟨8, _⟩ => ⟨S2x1x768, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S2x768x16, .f32⟩
  | .hbm, ⟨19, _⟩ => ⟨S2x16x768, .f32⟩
  | .hbm, ⟨20, _⟩ => ⟨S2x16x768, .f32⟩
  | .hbm, ⟨21, _⟩ => ⟨S2x16x768, .f32⟩
  | .hbm, ⟨22, _⟩ => ⟨S2x16x6144, .f32⟩
  | .hbm, ⟨23, _⟩ => ⟨S2x768x16, .f32⟩
  | .hbm, ⟨24, _⟩ => ⟨S2x768x1024, .f32⟩
  | .hbm, ⟨25, _⟩ => ⟨S2x1024x768, .f32⟩
  | .hbm, ⟨26, _⟩ => ⟨S_, .f32⟩
  | .hbm, ⟨27, _⟩ => ⟨S2x6144, .f32⟩
  | .hbm, ⟨28, _⟩ => ⟨S2x1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]
-- ==== Kernel20.lean ====
abbrev S16x1024 : Shape := ⟨2, ![16, 1024]⟩
abbrev S2x1024x768 : Shape := ⟨3, ![2, 1024, 768]⟩
abbrev S2x1x768 : Shape := ⟨3, ![2, 1, 768]⟩
abbrev S2x16x768 : Shape := ⟨3, ![2, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x1x768, .f32⟩
  | .hbm, ⟨3, _⟩ => ⟨S2x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S16x1024 : Shape := ⟨2, ![16, 1024]⟩
abbrev S2x1024x768 : Shape := ⟨3, ![2, 1024, 768]⟩
abbrev S2x1x768 : Shape := ⟨3, ![2, 1, 768]⟩
abbrev S_ : Shape := ⟨0, ![]⟩
abbrev S2x768x16 : Shape := ⟨3, ![2, 768, 16]⟩
abbrev S2x16x768 : Shape := ⟨3, ![2, 16, 768]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x768x16, .f32⟩
  | .hbm, ⟨13, _⟩ => ⟨S2x16x768, .f32⟩
  | .hbm, ⟨14, _⟩ => ⟨S2x16x768, .f32⟩
  | .hbm, ⟨15, _⟩ => ⟨S2x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel21.lean ====
abbrev S2x2048x1024 : Shape := ⟨3, ![2, 2048, 1024]⟩
abbrev S8x128 : Shape := ⟨2, ![8, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S8x128, .f32⟩
  | .hbm, ⟨3, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S8x128, .f32⟩
  | .local _ .vmem, ⟨5, _⟩ => ⟨S1x512x1024, .f32⟩
  | .local _ .vmem, ⟨6, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S2x2048x1024 : Shape := ⟨3, ![2, 2048, 1024]⟩
abbrev S_ : Shape := ⟨0, ![]⟩
abbrev S2x2048 : Shape := ⟨2, ![2, 2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S_, .f32⟩
  | .hbm, ⟨22, _⟩ => ⟨S2x2048, .f32⟩
  | .hbm, ⟨23, _⟩ => ⟨S2x2048, .f32⟩
  | .hbm, ⟨24, _⟩ => ⟨S2x2048x1024, .f32⟩
  | .hbm, ⟨25, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel22.lean ====
abbrev S6x128x256 : Shape := ⟨3, ![6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x128 : Shape := ⟨2, ![8, 128]⟩
abbrev S1x128x256 : Shape := ⟨3, ![1, 128, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 40
  | .vmem => 3
  | .smem => 0
  | _ => 0

abbrev bufTy : (tb : Table) → Fin (tcTables nBuf tb) → BufTy
  | .hbm, ⟨0, _⟩ => ⟨S6x128x256, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S8x128, .f32⟩
  | .local _ .vmem, ⟨0, _⟩ => ⟨S6x128x256, .f32⟩
  | .local _ .vmem, ⟨1, _⟩ => ⟨S128x256, .i32⟩
  | .local _ .vmem, ⟨2, _⟩ => ⟨S8x128, .f32⟩
  | _, _ => ⟨S6x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference22Ideal.lean ====
abbrev S6x128x256 : Shape := ⟨3, ![6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32x6 : Shape := ⟨2, ![32, 6]⟩
abbrev S128x256x1 : Shape := ⟨3, ![128, 256, 1]⟩
abbrev S128x256x6 : Shape := ⟨3, ![128, 256, 6]⟩
abbrev S6x32 : Shape := ⟨2, ![6, 32]⟩
abbrev S8x128 : Shape := ⟨2, ![8, 128]⟩

abbrev nBuf : Space → Nat
  | .hbm => 59
  | .vmem => 0
  | .smem => 0
  | _ => 0

abbrev bufTy : (tb : Table) → Fin (tcTables nBuf tb) → BufTy
  | .hbm, ⟨0, _⟩ => ⟨S6x128x256, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S_, .f32⟩
  | .hbm, ⟨40, _⟩ => ⟨S32x6, .f32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S128x256x1, .i32⟩
  | .hbm, ⟨49, _⟩ => ⟨S128x256x6, .f32⟩
  | .hbm, ⟨50, _⟩ => ⟨S6x128x256, .f32⟩
  | .hbm, ⟨51, _⟩ => ⟨S128x256x6, .f32⟩
  | .hbm, ⟨52, _⟩ => ⟨S_, .f32⟩
  | .hbm, ⟨53, _⟩ => ⟨S32x6, .f32⟩
  | .hbm, ⟨54, _⟩ => ⟨S32x6, .f32⟩
  | .hbm, ⟨55, _⟩ => ⟨S6x32, .f32⟩
  | .hbm, ⟨56, _⟩ => ⟨S_, .i32⟩
  | .hbm, ⟨57, _⟩ => ⟨S_, .f32⟩
  | .hbm, ⟨58, _⟩ => ⟨S8x128, .f32⟩
  | _, _ => ⟨S6x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_c_8 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_11 : Ref sig .tc := ⟨.hbm, 56, rfl⟩
abbrev main_call1_v0 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel28.lean ====
abbrev S2x2048x1824 : Shape := ⟨3, ![2, 2048, 1824]⟩
abbrev S2x2048 : Shape := ⟨2, ![2, 2048]⟩
abbrev S256 : Shape := ⟨1, ![256]⟩
abbrev S128 : Shape := ⟨1, ![128]⟩
abbrev S96 : Shape := ⟨1, ![96]⟩
abbrev S256x576 : Shape := ⟨2, ![256, 576]⟩
abbrev S128x768 : Shape := ⟨2, ![128, 768]⟩
abbrev S2x2048x768 : Shape := ⟨3, ![2, 2048, 768]⟩
abbrev S2x2048x384 : Shape := ⟨3, ![2, 2048, 384]⟩
abbrev S2x2048x1152 : Shape := ⟨3, ![2, 2048, 1152]⟩
abbrev S2x2048x640 : Shape := ⟨3, ![2, 2048, 640]⟩
abbrev S_ : Shape := ⟨0, ![]⟩
abbrev S2x2048x64 : Shape := ⟨3, ![2, 2048, 64]⟩
abbrev S2x2048x32 : Shape := ⟨3, ![2, 2048, 32]⟩
abbrev S2x2048x160 : Shape := ⟨3, ![2, 2048, 160]⟩
abbrev S2x2048x2048 : Shape := ⟨3, ![2, 2048, 2048]⟩
abbrev S16 : Shape := ⟨1, ![16]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x128 : Shape := ⟨3, ![2, 2048, 128]⟩
abbrev S1x256 : Shape := ⟨2, ![1, 256]⟩
abbrev S1x128 : Shape := ⟨2, ![1, 128]⟩
abbrev S576x256 : Shape := ⟨2, ![576, 256]⟩
abbrev S6x96x256 : Shape := ⟨3, ![6, 96, 256]⟩
abbrev S6x128x256 : Shape := ⟨3, ![6, 128, 256]⟩
abbrev S768x256 : Shape := ⟨2, ![768, 256]⟩
abbrev S768x128 : Shape := ⟨2, ![768, 128]⟩
abbrev S2x2048x256 : Shape := ⟨3, ![2, 2048, 256]⟩
abbrev S1x512x256 : Shape := ⟨3, ![1, 512, 256]⟩
abbrev S1x512x128 : Shape := ⟨3, ![1, 512, 128]⟩
abbrev S1x512x768 : Shape := ⟨3, ![1, 512, 768]⟩
abbrev S1x512x384 : Shape := ⟨3, ![1, 512, 384]⟩
abbrev S512x768 : Shape := ⟨2, ![512, 768]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 73
  | .vmem => 36
  | .smem => 0
  | _ => 0

abbrev bufTy : (tb : Table) → Fin (tcTables nBuf tb) → BufTy
  | .hbm, ⟨0, _⟩ => ⟨S2x2048x1824, .bf16⟩
  | .hbm, ⟨1, _⟩ => ⟨S2x2048, .i32⟩
  | .hbm, ⟨2, _⟩ => ⟨S256, .f32⟩
  | .hbm, ⟨3, _⟩ => ⟨S128, .f32⟩
  | .hbm, ⟨4, _⟩ => ⟨S96, .f32⟩
  | .hbm, ⟨5, _⟩ => ⟨S96, .f32⟩
  | .hbm, ⟨6, _⟩ => ⟨S256x576, .bf16⟩
  | .hbm, ⟨7, _⟩ => ⟨S128x768, .bf16⟩
  | .hbm, ⟨8, _⟩ => ⟨S2x2048x768, .f32⟩
  | .hbm, ⟨9, _⟩ => ⟨S2x2048x768, .f32⟩
  | .hbm, ⟨10, _⟩ => ⟨S2x2048x384, .f32⟩
  | .hbm, ⟨11, _⟩ => ⟨S2x2048x1152, .bf16⟩
  | .hbm, ⟨12, _⟩ => ⟨S2x2048x640, .bf16⟩
  | .hbm, ⟨13, _⟩ => ⟨S_, .bf16⟩
  | .hbm, ⟨14, _⟩ => ⟨S2x2048x64, .bf16⟩
  | .hbm, ⟨15, _⟩ => ⟨S2x2048x32, .bf16⟩
  | .hbm, ⟨16, _⟩ => ⟨S_, .bf16⟩
  | .hbm, ⟨17, _⟩ => ⟨S2x2048x160, .bf16⟩
  | .hbm, ⟨18, _⟩ => ⟨S2x2048x2048, .bf16⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S2x2048, .f32⟩
  | .hbm, ⟨28, _⟩ => ⟨S2x2048x1, .f32⟩
  | .hbm, ⟨29, _⟩ => ⟨S1x1x16, .f32⟩
  | .hbm, ⟨30, _⟩ => ⟨S2x2048x16, .f32⟩
  | .hbm, ⟨31, _⟩ => ⟨S2x2048x16, .f32⟩
  | .hbm, ⟨32, _⟩ => ⟨S2x2048x16, .f32⟩
  | .hbm, ⟨33, _⟩ => ⟨S_, .f32⟩
  | .hbm, ⟨34, _⟩ => ⟨S2x2048x64, .f32⟩
  | .hbm, ⟨35, _⟩ => ⟨S2x2048x16, .f32⟩
  | .hbm, ⟨36, _⟩ => ⟨S2x2048x16, .f32⟩
  | .hbm, ⟨37, _⟩ => ⟨S_, .f32⟩
  | .hbm, ⟨38, _⟩ => ⟨S2x2048x32, .f32⟩
  | .hbm, ⟨39, _⟩ => ⟨S2x2048x128, .f32⟩
  | .hbm, ⟨40, _⟩ => ⟨S_, .f32⟩
  | .hbm, ⟨41, _⟩ => ⟨S2x2048x64, .f32⟩
  | .hbm, ⟨42, _⟩ => ⟨S2x2048x16, .f32⟩
  | .hbm, ⟨43, _⟩ => ⟨S2x2048x16, .f32⟩
  | .hbm, ⟨44, _⟩ => ⟨S_, .f32⟩
  | .hbm, ⟨45, _⟩ => ⟨S2x2048x32, .f32⟩
  | .hbm, ⟨46, _⟩ => ⟨S2x2048x128, .f32⟩
  | .hbm, ⟨47, _⟩ => ⟨S1x256, .f32⟩
  | .hbm, ⟨48, _⟩ => ⟨S1x128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S576x256, .bf16⟩
  | .hbm, ⟨58, _⟩ => ⟨S6x96x256, .bf16⟩
  | .hbm, ⟨59, _⟩ => ⟨S_, .i32⟩
  | .hbm, ⟨60, _⟩ => ⟨S_, .bf16⟩
  | .hbm, ⟨61, _⟩ => ⟨S6x128x256, .bf16⟩
  | .hbm, ⟨62, _⟩ => ⟨S768x256, .bf16⟩
  | .hbm, ⟨63, _⟩ => ⟨S768x128, .bf16⟩
  | .hbm, ⟨64, _⟩ => ⟨S2x2048x256, .f32⟩
  | .hbm, ⟨65, _⟩ => ⟨S2x2048x128, .f32⟩
  | .hbm, ⟨66, _⟩ => ⟨S2x2048x128, .f32⟩
  | .hbm, ⟨67, _⟩ => ⟨S768x256, .f32⟩
  | .hbm, ⟨68, _⟩ => ⟨S768x128, .f32⟩
  | .hbm, ⟨69, _⟩ => ⟨S1x256, .f32⟩
  | .hbm, ⟨70, _⟩ => ⟨S1x128, .f32⟩
  | .hbm, ⟨71, _⟩ => ⟨S1x128, .f32⟩
  | .hbm, ⟨72, _⟩ => ⟨S1x128, .f32⟩
  | .local _ .vmem, ⟨0, _⟩ => ⟨S1x512x256, .bf16⟩
  | .local _ .vmem, ⟨1, _⟩ => ⟨S1x512x256, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S768x256, .bf16⟩
  | .local _ .vmem, ⟨15, _⟩ => ⟨S768x128, .bf16⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x384, .f32⟩
  | .local _ .vmem, ⟨21, _⟩ => ⟨S1x512x384, .f32⟩
  | .local _ .vmem, ⟨22, _⟩ => ⟨S1x512x256, .f32⟩
  | .local _ .vmem, ⟨23, _⟩ => ⟨S1x512x256, .f32⟩
  | .local _ .vmem, ⟨24, _⟩ => ⟨S1x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | .local _ .vmem, ⟨28, _⟩ => ⟨S768x256, .f32⟩
  | .local _ .vmem, ⟨29, _⟩ => ⟨S768x128, .f32⟩
  | .local _ .vmem, ⟨30, _⟩ => ⟨S1x256, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S512x768, .bf16⟩
  | .local _ .vmem, ⟨35, _⟩ => ⟨S512x768, .bf16⟩
  | _, _ => ⟨S2x2048x1824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_call1_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_call2_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39_0 : Ref sig .tc := ⟨.hbm, 64, rfl⟩
abbrev main_v39_1 : Ref sig .tc := ⟨.hbm, 65, rfl⟩
abbrev main_v39_2 : Ref sig .tc := ⟨.hbm, 66, rfl⟩
abbrev main_v39_3 : Ref sig .tc := ⟨.hbm, 67, rfl⟩
abbrev main_v39_4 : Ref sig .tc := ⟨.hbm, 68, rfl⟩
abbrev main_v39_5 : Ref sig .tc := ⟨.hbm, 69, rfl⟩
abbrev main_v39_6 : Ref sig .tc := ⟨.hbm, 70, rfl⟩
abbrev main_v39_7 : Ref sig .tc := ⟨.hbm, 71, rfl⟩
abbrev main_v39_8 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S768x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S768x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== Reference28Ideal.lean ====
abbrev S2x2048x1824 : Shape := ⟨3, ![2, 2048, 1824]⟩
abbrev S2x2048 : Shape := ⟨2, ![2, 2048]⟩
abbrev S256 : Shape := ⟨1, ![256]⟩
abbrev S128 : Shape := ⟨1, ![128]⟩
abbrev S96 : Shape := ⟨1, ![96]⟩
abbrev S256x576 : Shape := ⟨2, ![256, 576]⟩
abbrev S128x768 : Shape := ⟨2, ![128, 768]⟩
abbrev S2x2048x768 : Shape := ⟨3, ![2, 2048, 768]⟩
abbrev S2x2048x384 : Shape := ⟨3, ![2, 2048, 384]⟩
abbrev S2x2048x256 : Shape := ⟨3, ![2, 2048, 256]⟩
abbrev S2x2048x128 : Shape := ⟨3, ![2, 2048, 128]⟩
abbrev S2x2048x32 : Shape := ⟨3, ![2, 2048, 32]⟩
abbrev S_ : Shape := ⟨0, ![]⟩
abbrev S2x2048x1 : Shape := ⟨3, ![2, 2048, 1]⟩
abbrev S1x1x256 : Shape := ⟨3, ![1, 1, 256]⟩
abbrev S2x2048x576 : Shape := ⟨3, ![2, 2048, 576]⟩
abbrev S2x2048x6x96 : Shape := ⟨4, ![2, 2048, 6, 96]⟩
abbrev S2x2048x6 : Shape := ⟨3, ![2, 2048, 6]⟩
abbrev S2x2048x6x1 : Shape := ⟨4, ![2, 2048, 6, 1]⟩
abbrev S1x1x1x96 : Shape := ⟨4, ![1, 1, 1, 96]⟩
abbrev S2x2048x6x64 : Shape := ⟨4, ![2, 2048, 6, 64]⟩
abbrev S2x2048x6x32 : Shape := ⟨4, ![2, 2048, 6, 32]⟩
abbrev S16 : Shape := ⟨1, ![16]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x6x16 : Shape := ⟨4, ![2, 2048, 6, 16]⟩
abbrev S1x1x128 : Shape := ⟨3, ![1, 1, 128]⟩
abbrev S2x2048x6x128 : Shape := ⟨4, ![2, 2048, 6, 128]⟩
abbrev S2x2048x1x32 : Shape := ⟨4, ![2, 2048, 1, 32]⟩
abbrev S1x128 : Shape := ⟨2, ![1, 128]⟩

abbrev nBuf : Space → Nat
  | .hbm => 239
  | .vmem => 0
  | .smem => 0
  | _ => 0

abbrev hbmTy0_0 (i : Nat) : BufTy := match i % 128 with
  | 0 => ⟨S2x2048x1824, .bf16⟩
  | 1 => ⟨S2x2048, .i32⟩
  | 2 => ⟨S256, .f32⟩
  | 3 => ⟨S128, .f32⟩
  | 4 => ⟨S96, .f32⟩
  | 5 => ⟨S96, .f32⟩
  | 6 => ⟨S256x576, .bf16⟩
  | 7 => ⟨S128x768, .bf16⟩
  | 8 => ⟨S2x2048x768, .f32⟩
  | 9 => ⟨S2x2048x768, .f32⟩
  | 10 => ⟨S2x2048x384, .f32⟩
  | 11 => ⟨S2x2048x256, .bf16⟩
  | 12 => ⟨S2x2048x256, .bf16⟩
  | 13 => ⟨S2x2048x256, .bf16⟩
  | 14 => ⟨S2x2048x256, .bf16⟩
  | 15 => ⟨S2x2048x128, .bf16⟩
  | 16 => ⟨S2x2048x32, .bf16⟩
  | 17 => ⟨S2x2048x384, .bf16⟩
  | 18 => ⟨S2x2048x128, .bf16⟩
  | 19 => ⟨S2x2048x128, .bf16⟩
  | 20 => ⟨S2x2048x256, .f32⟩
  | 21 => ⟨S2x2048x128, .f32⟩
  | 22 => ⟨S2x2048x32, .f32⟩
  | 23 => ⟨S256x576, .f32⟩
  | 24 => ⟨S2x2048x256, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S_, .f32⟩
  | 32 => ⟨S2x2048x1, .f32⟩
  | 33 => ⟨S2x2048x1, .f32⟩
  | 34 => ⟨S2x2048x1, .f32⟩
  | 35 => ⟨S2x2048x256, .f32⟩
  | 36 => ⟨S2x2048x256, .f32⟩
  | 37 => ⟨S1x1x256, .f32⟩
  | 38 => ⟨S2x2048x256, .f32⟩
  | 39 => ⟨S2x2048x256, .f32⟩
  | 40 => ⟨S2x2048x576, .f32⟩
  | 41 => ⟨S2x2048x6x96, .f32⟩
  | 42 => ⟨S2x2048x6x96, .f32⟩
  | 43 => ⟨S_, .f32⟩
  | 44 => ⟨S2x2048x6, .f32⟩
  | 45 => ⟨S2x2048x6x1, .f32⟩
  | 46 => ⟨S_, .f32⟩
  | 47 => ⟨S2x2048x6x1, .f32⟩
  | 48 => ⟨S2x2048x6x1, .f32⟩
  | 49 => ⟨S_, .f32⟩
  | 50 => ⟨S2x2048x6x1, .f32⟩
  | 51 => ⟨S2x2048x6x1, .f32⟩
  | 52 => ⟨S2x2048x6x1, .f32⟩
  | 53 => ⟨S2x2048x6x96, .f32⟩
  | 54 => ⟨S2x2048x6x96, .f32⟩
  | 55 => ⟨S1x1x1x96, .f32⟩
  | 56 => ⟨S2x2048x6x96, .f32⟩
  | 57 => ⟨S2x2048x6x96, .f32⟩
  | 58 => ⟨S2x2048x6x64, .f32⟩
  | 59 => ⟨S2x2048x6x32, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S2x2048, .f32⟩
  | 69 => ⟨S2x2048x1, .f32⟩
  | 70 => ⟨S1x1x16, .f32⟩
  | 71 => ⟨S2x2048x16, .f32⟩
  | 72 => ⟨S2x2048x16, .f32⟩
  | 73 => ⟨S2x2048x16, .f32⟩
  | 74 => ⟨S2x2048x16, .f32⟩
  | 75 => ⟨S2x2048x1x16, .f32⟩
  | 76 => ⟨S2x2048x16, .f32⟩
  | 77 => ⟨S2x2048x1x16, .f32⟩
  | 78 => ⟨S2x2048x6x16, .f32⟩
  | 79 => ⟨S2x2048x6x16, .f32⟩
  | 80 => ⟨S2x2048x6x16, .f32⟩
  | 81 => ⟨S2x2048x6x16, .f32⟩
  | 82 => ⟨S2x2048x6x16, .f32⟩
  | 83 => ⟨S2x2048x6x16, .f32⟩
  | 84 => ⟨S2x2048x6x16, .f32⟩
  | 85 => ⟨S2x2048x6x16, .f32⟩
  | 86 => ⟨S2x2048x6x16, .f32⟩
  | 87 => ⟨S2x2048x6x16, .f32⟩
  | 88 => ⟨S2x2048x6x16, .f32⟩
  | 89 => ⟨S2x2048x6x16, .f32⟩
  | 90 => ⟨S2x2048x6x32, .f32⟩
  | 91 => ⟨S2x2048x6x96, .f32⟩
  | 92 => ⟨S128x768, .f32⟩
  | 93 => ⟨S2x2048x128, .f32⟩
  | 94 => ⟨S_, .f32⟩
  | 95 => ⟨S2x2048, .f32⟩
  | 96 => ⟨S2x2048x1, .f32⟩
  | 97 => ⟨S_, .f32⟩
  | 98 => ⟨S2x2048x1, .f32⟩
  | 99 => ⟨S2x2048x1, .f32⟩
  | 100 => ⟨S_, .f32⟩
  | 101 => ⟨S2x2048x1, .f32⟩
  | 102 => ⟨S2x2048x1, .f32⟩
  | 103 => ⟨S2x2048x1, .f32⟩
  | 104 => ⟨S2x2048x128, .f32⟩
  | 105 => ⟨S2x2048x128, .f32⟩
  | 106 => ⟨S1x1x128, .f32⟩
  | 107 => ⟨S2x2048x128, .f32⟩
  | 108 => ⟨S2x2048x128, .f32⟩
  | 109 => ⟨S2x2048x768, .f32⟩
  | 110 => ⟨S2x2048x6x128, .f32⟩
  | 111 => ⟨S2x2048x6x64, .f32⟩
  | 112 => ⟨S2x2048x1x32, .f32⟩
  | 113 => ⟨S2x2048x6x32, .f32⟩
  | 114 => ⟨S2x2048x6x96, .f32⟩
  | 115 => ⟨S2x2048x6x96, .f32⟩
  | 116 => ⟨S_, .f32⟩
  | 117 => ⟨S2x2048x6, .f32⟩
  | 118 => ⟨S2x2048x6x1, .f32⟩
  | 119 => ⟨S_, .f32⟩
  | 120 => ⟨S2x2048x6x1, .f32⟩
  | 121 => ⟨S2x2048x6x1, .f32⟩
  | 122 => ⟨S_, .f32⟩
  | 123 => ⟨S2x2048x6x1, .f32⟩
  | 124 => ⟨S2x2048x6x1, .f32⟩
  | 125 => ⟨S2x2048x6x1, .f32⟩
  | 126 => ⟨S2x2048x6x96, .f32⟩
  | 127 => ⟨S2x2048x6x96, .f32⟩
  | _ => ⟨S2x2048x1824, .bf16⟩

abbrev hbmTy0_1 (i : Nat) : BufTy := match i % 128 with
  | 0 => ⟨S1x1x1x96, .f32⟩
  | 1 => ⟨S2x2048x6x96, .f32⟩
  | 2 => ⟨S2x2048x6x96, .f32⟩
  | 3 => ⟨S2x2048x6x64, .f32⟩
  | 4 => ⟨S2x2048x6x32, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S2x2048, .f32⟩
  | 14 => ⟨S2x2048x1, .f32⟩
  | 15 => ⟨S1x1x16, .f32⟩
  | 16 => ⟨S2x2048x16, .f32⟩
  | 17 => ⟨S2x2048x16, .f32⟩
  | 18 => ⟨S2x2048x16, .f32⟩
  | 19 => ⟨S2x2048x16, .f32⟩
  | 20 => ⟨S2x2048x1x16, .f32⟩
  | 21 => ⟨S2x2048x16, .f32⟩
  | 22 => ⟨S2x2048x1x16, .f32⟩
  | 23 => ⟨S2x2048x6x16, .f32⟩
  | 24 => ⟨S2x2048x6x16, .f32⟩
  | 25 => ⟨S2x2048x6x16, .f32⟩
  | 26 => ⟨S2x2048x6x16, .f32⟩
  | 27 => ⟨S2x2048x6x16, .f32⟩
  | 28 => ⟨S2x2048x6x16, .f32⟩
  | 29 => ⟨S2x2048x6x16, .f32⟩
  | 30 => ⟨S2x2048x6x16, .f32⟩
  | 31 => ⟨S2x2048x6x16, .f32⟩
  | 32 => ⟨S2x2048x6x16, .f32⟩
  | 33 => ⟨S2x2048x6x16, .f32⟩
  | 34 => ⟨S2x2048x6x16, .f32⟩
  | 35 => ⟨S2x2048x6x32, .f32⟩
  | 36 => ⟨S2x2048x6x96, .f32⟩
  | 37 => ⟨S2x2048x6x128, .f32⟩
  | 38 => ⟨S2x2048x6x96, .f32⟩
  | 39 => ⟨S2x2048x6x64, .f32⟩
  | 40 => ⟨S2x2048x6x32, .f32⟩
  | 41 => ⟨S2x2048x6x16, .f32⟩
  | 42 => ⟨S2x2048x6x16, .f32⟩
  | 43 => ⟨S2x2048x6x16, .f32⟩
  | 44 => ⟨S2x2048x6x16, .f32⟩
  | 45 => ⟨S2x2048x6x16, .f32⟩
  | 46 => ⟨S2x2048x6x16, .f32⟩
  | 47 => ⟨S2x2048x6x16, .f32⟩
  | 48 => ⟨S2x2048x6x16, .f32⟩
  | 49 => ⟨S2x2048x6x16, .f32⟩
  | 50 => ⟨S2x2048x6x16, .f32⟩
  | 51 => ⟨S2x2048x6x16, .f32⟩
  | 52 => ⟨S2x2048x6x16, .f32⟩
  | 53 => ⟨S2x2048x6x16, .f32⟩
  | 54 => ⟨S_, .f32⟩
  | 55 => ⟨S2x2048x6x32, .f32⟩
  | 56 => ⟨S_, .f32⟩
  | 57 => ⟨S2x2048x6x32, .f32⟩
  | 58 => ⟨S2x2048x6x32, .f32⟩
  | 59 => ⟨S_, .f32⟩
  | 60 => ⟨S2x2048x6x96, .f32⟩
  | 61 => ⟨S_, .f32⟩
  | 62 => ⟨S2x2048x6x96, .f32⟩
  | 63 => ⟨S2x2048x6x96, .f32⟩
  | 64 => ⟨S2x2048x6x96, .f32⟩
  | 65 => ⟨S_, .f32⟩
  | 66 => ⟨S96, .f32⟩
  | 67 => ⟨S1x1x1x96, .f32⟩
  | 68 => ⟨S_, .f32⟩
  | 69 => ⟨S96, .f32⟩
  | 70 => ⟨S_, .i32⟩
  | 71 => ⟨S_, .f32⟩
  | 72 => ⟨S128, .f32⟩
  | 73 => ⟨S1x128, .f32⟩
  | 74 => ⟨S2x2048x6x128, .f32⟩
  | 75 => ⟨S2x2048x6x96, .f32⟩
  | 76 => ⟨S2x2048x6x64, .f32⟩
  | 77 => ⟨S2x2048x6x32, .f32⟩
  | 78 => ⟨S2x2048x6x16, .f32⟩
  | 79 => ⟨S2x2048x6x16, .f32⟩
  | 80 => ⟨S2x2048x6x16, .f32⟩
  | 81 => ⟨S2x2048x6x16, .f32⟩
  | 82 => ⟨S2x2048x6x16, .f32⟩
  | 83 => ⟨S2x2048x6x16, .f32⟩
  | 84 => ⟨S2x2048x6x16, .f32⟩
  | 85 => ⟨S2x2048x6x16, .f32⟩
  | 86 => ⟨S2x2048x6x16, .f32⟩
  | 87 => ⟨S2x2048x6x16, .f32⟩
  | 88 => ⟨S2x2048x6x16, .f32⟩
  | 89 => ⟨S2x2048x6x16, .f32⟩
  | 90 => ⟨S2x2048x6x16, .f32⟩
  | 91 => ⟨S_, .f32⟩
  | 92 => ⟨S2x2048x6x32, .f32⟩
  | 93 => ⟨S_, .f32⟩
  | 94 => ⟨S2x2048x6x32, .f32⟩
  | 95 => ⟨S2x2048x6x32, .f32⟩
  | 96 => ⟨S_, .f32⟩
  | 97 => ⟨S2x2048x6x96, .f32⟩
  | 98 => ⟨S_, .f32⟩
  | 99 => ⟨S2x2048x6x96, .f32⟩
  | 100 => ⟨S2x2048x6x96, .f32⟩
  | 101 => ⟨S2x2048x6x96, .f32⟩
  | 102 => ⟨S_, .f32⟩
  | 103 => ⟨S96, .f32⟩
  | 104 => ⟨S1x1x1x96, .f32⟩
  | 105 => ⟨S_, .f32⟩
  | 106 => ⟨S96, .f32⟩
  | 107 => ⟨S_, .i32⟩
  | 108 => ⟨S_, .f32⟩
  | 109 => ⟨S128, .f32⟩
  | 110 => ⟨S1x128, .f32⟩
  | _ => ⟨S2x2048x1824, .bf16⟩

abbrev hbmTy (i : Nat) : BufTy := match i / 128 with
  | 0 => hbmTy0_0 i
  | 1 => hbmTy0_1 i
  | _ => ⟨S2x2048x1824, .bf16⟩

abbrev bufTy : (tb : Table) → Fin (tcTables nBuf tb) → BufTy
  | .hbm, ⟨i, _⟩ => hbmTy i
  | _, _ => ⟨S2x2048x1824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_cst_8 : Ref sig .tc := ⟨.hbm, 97, rfl⟩
abbrev main_v77 : Ref sig .tc := ⟨.hbm, 98, rfl⟩
abbrev main_v78 : Ref sig .tc := ⟨.hbm, 99, rfl⟩
abbrev main_cst_9 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_10 : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_cst_12 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_13 : Ref sig .tc := ⟨.hbm, 135, rfl⟩
abbrev main_v110 : Ref sig .tc := ⟨.hbm, 136, rfl⟩
abbrev main_v111 : Ref sig .tc := ⟨.hbm, 137, rfl⟩
abbrev main_cst_14 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_cst_15 : Ref sig .tc := ⟨.hbm, 182, rfl⟩
abbrev main_v155 : Ref sig .tc := ⟨.hbm, 183, rfl⟩
abbrev main_cst_16 : Ref sig .tc := ⟨.hbm, 184, rfl⟩
abbrev main_v156 : Ref sig .tc := ⟨.hbm, 185, rfl⟩
abbrev main_v157 : Ref sig .tc := ⟨.hbm, 186, rfl⟩
abbrev main_cst_17 : Ref sig .tc := ⟨.hbm, 187, rfl⟩
abbrev main_v158 : Ref sig .tc := ⟨.hbm, 188, rfl⟩
abbrev main_cst_18 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_19 : Ref sig .tc := ⟨.hbm, 193, rfl⟩
abbrev main_v162 : Ref sig .tc := ⟨.hbm, 194, rfl⟩
abbrev main_v163 : Ref sig .tc := ⟨.hbm, 195, rfl⟩
abbrev main_cst_20 : Ref sig .tc := ⟨.hbm, 196, rfl⟩
abbrev main_v164 : Ref sig .tc := ⟨.hbm, 197, rfl⟩
abbrev main_c : Ref sig .tc := ⟨.hbm, 198, rfl⟩
abbrev main_call0_v0 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_cst_21 : Ref sig .tc := ⟨.hbm, 219, rfl⟩
abbrev main_v184 : Ref sig .tc := ⟨.hbm, 220, rfl⟩
abbrev main_cst_22 : Ref sig .tc := ⟨.hbm, 221, rfl⟩
abbrev main_v185 : Ref sig .tc := ⟨.hbm, 222, rfl⟩
abbrev main_v186 : Ref sig .tc := ⟨.hbm, 223, rfl⟩
abbrev main_cst_23 : Ref sig .tc := ⟨.hbm, 224, rfl⟩
abbrev main_v187 : Ref sig .tc := ⟨.hbm, 225, rfl⟩
abbrev main_cst_24 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_25 : Ref sig .tc := ⟨.hbm, 230, rfl⟩
abbrev main_v191 : Ref sig .tc := ⟨.hbm, 231, rfl⟩
abbrev main_v192 : Ref sig .tc := ⟨.hbm, 232, rfl⟩
abbrev main_cst_26 : Ref sig .tc := ⟨.hbm, 233, rfl⟩
abbrev main_v193 : Ref sig .tc := ⟨.hbm, 234, rfl⟩
abbrev main_c_27 : Ref sig .tc := ⟨.hbm, 235, rfl⟩
abbrev main_call1_v0 : Ref sig .tc := ⟨.hbm, 236, rfl⟩
abbrev main_v194 : Ref sig .tc := ⟨.hbm, 237, rfl⟩
abbrev main_v195 : Ref sig .tc := ⟨.hbm, 238, rfl⟩

abbrev nD : Nat := 1
abbrev τ : Topo := Topo.v7x

variable {F : FTy → Type} [FloatOps F]
-- ==== Kernel29.lean ====
abbrev S2x2048x2816 : Shape := ⟨3, ![2, 2048, 2816]⟩
abbrev S2x2048x5632 : Shape := ⟨3, ![2, 2048, 5632]⟩
abbrev S3x5632 : Shape := ⟨2, ![3, 5632]⟩
abbrev S5632 : Shape := ⟨1, ![5632]⟩
abbrev S1x5632 : Shape := ⟨2, ![1, 5632]⟩
abbrev S8x5632 : Shape := ⟨2, ![8, 5632]⟩
abbrev S1x128x2816 : Shape := ⟨3, ![1, 128, 2816]⟩
abbrev S1x128x5632 : Shape := ⟨3, ![1, 128, 5632]⟩
abbrev S1x16x5632 : Shape := ⟨3, ![1, 16, 5632]⟩
abbrev S128x1 : Shape := ⟨2, ![128, 1]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S1x128 : Shape := ⟨2, ![1, 128]⟩
abbrev S3x128 : Shape := ⟨2, ![3, 128]⟩
abbrev S128 : Shape := ⟨1, ![128]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x2816, .f32⟩
  | .hbm, ⟨1, _⟩ => ⟨S2x2048x5632, .bf16⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S2x2048x5632, .bf16⟩
  | .hbm, ⟨6, _⟩ => ⟨S2x2048x2816, .bf16⟩
  | .hbm, ⟨7, _⟩ => ⟨S8x5632, .f32⟩
  | .local _ .vmem, ⟨0, _⟩ => ⟨S1x128x2816, .f32⟩
  | .local _ .vmem, ⟨1, _⟩ => ⟨S1x128x2816, .f32⟩
  | .local _ .vmem, ⟨2, _⟩ => ⟨S1x128x5632, .bf16⟩
  | .local _ .vmem, ⟨3, _⟩ => ⟨S1x128x5632, .bf16⟩
  | .local _ .vmem, ⟨4, _⟩ => ⟨S1x16x5632, .bf16⟩
  | .local _ .vmem, ⟨5, _⟩ => ⟨S1x16x5632, .bf16⟩
  | .local _ .vmem, ⟨6, _⟩ => ⟨S3x5632, .f32⟩
  | .local _ .vmem, ⟨7, _⟩ => ⟨S1x5632, .f32⟩
  | .local _ .vmem, ⟨8, _⟩ => ⟨S1x128x5632, .bf16⟩
  | .local _ .vmem, ⟨9, _⟩ => ⟨S1x128x5632, .bf16⟩
  | .local _ .vmem, ⟨10, _⟩ => ⟨S1x128x2816, .bf16⟩
  | .local _ .vmem, ⟨11, _⟩ => ⟨S1x128x2816, .bf16⟩
  | .local _ .vmem, ⟨12, _⟩ => ⟨S8x5632, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference29Ideal.lean ====
abbrev S2x2048x2816 : Shape := ⟨3, ![2, 2048, 2816]⟩
abbrev S2x2048x5632 : Shape := ⟨3, ![2, 2048, 5632]⟩
abbrev S3x5632 : Shape := ⟨2, ![3, 5632]⟩
abbrev S5632 : Shape := ⟨1, ![5632]⟩
abbrev S2x2x5632 : Shape := ⟨3, ![2, 2, 5632]⟩
abbrev S_ : Shape := ⟨0, ![]⟩
abbrev S2x2050x5632 : Shape := ⟨3, ![2, 2050, 5632]⟩
abbrev S1x5632 : Shape := ⟨2, ![1, 5632]⟩
abbrev S1x1x5632 : Shape := ⟨3, ![1, 1, 5632]⟩
abbrev S4x5632 : Shape := ⟨2, ![4, 5632]⟩
abbrev S8x5632 : Shape := ⟨2, ![8, 5632]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x5632, .bf16⟩
  | .hbm, ⟨2, _⟩ => ⟨S3x5632, .f32⟩
  | .hbm, ⟨3, _⟩ => ⟨S5632, .f32⟩
  | .hbm, ⟨4, _⟩ => ⟨S2x2048x5632, .f32⟩
  | .hbm, ⟨5, _⟩ => ⟨S2x2x5632, .f32⟩
  | .hbm, ⟨6, _⟩ => ⟨S_, .f32⟩
  | .hbm, ⟨7, _⟩ => ⟨S2x2x5632, .f32⟩
  | .hbm, ⟨8, _⟩ => ⟨S2x2050x5632, .f32⟩
  | .hbm, ⟨9, _⟩ => ⟨S2x2048x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S2x2048x5632, .f32⟩
  | .hbm, ⟨14, _⟩ => ⟨S2x2048x5632, .f32⟩
  | .hbm, ⟨15, _⟩ => ⟨S2x2048x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S2x2048x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S_, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S_, .f32⟩
  | .hbm, ⟨53, _⟩ => ⟨S2x2048x5632, .f32⟩
  | .hbm, ⟨54, _⟩ => ⟨S2x2048x2816, .f32⟩
  | .hbm, ⟨55, _⟩ => ⟨S_, .f32⟩
  | .hbm, ⟨56, _⟩ => ⟨S2x2048x5632, .f32⟩
  | .hbm, ⟨57, _⟩ => ⟨S2x2048x5632, .f32⟩
  | .hbm, ⟨58, _⟩ => ⟨S_, .f32⟩
  | .hbm, ⟨59, _⟩ => ⟨S5632, .f32⟩
  | .hbm, ⟨60, _⟩ => ⟨S1x1x5632, .f32⟩
  | .hbm, ⟨61, _⟩ => ⟨S_, .f32⟩
  | .hbm, ⟨62, _⟩ => ⟨S5632, .f32⟩
  | .hbm, ⟨63, _⟩ => ⟨S2x2048x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S2x2048x5632, .f32⟩
  | .hbm, ⟨73, _⟩ => ⟨S_, .f32⟩
  | .hbm, ⟨74, _⟩ => ⟨S5632, .f32⟩
  | .hbm, ⟨75, _⟩ => ⟨S1x1x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S3x5632, .f32⟩
  | .hbm, ⟨82, _⟩ => ⟨S2x2048x5632, .f32⟩
  | .hbm, ⟨83, _⟩ => ⟨S_, .f32⟩
  | .hbm, ⟨84, _⟩ => ⟨S5632, .f32⟩
  | .hbm, ⟨85, _⟩ => ⟨S1x1x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S3x5632, .f32⟩
  | .hbm, ⟨91, _⟩ => ⟨S3x5632, .f32⟩
  | .hbm, ⟨92, _⟩ => ⟨S1x5632, .f32⟩
  | .hbm, ⟨93, _⟩ => ⟨S_, .f32⟩
  | .hbm, ⟨94, _⟩ => ⟨S4x5632, .f32⟩
  | .hbm, ⟨95, _⟩ => ⟨S8x5632, .f32⟩
  | .hbm, ⟨96, _⟩ => ⟨S2x2048x5632, .bf16⟩
  | .hbm, ⟨97, _⟩ => ⟨S2x2048x2816, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.Model.lean ====
/-
  The mathematics of the gradient of one "normalise, modulate, project" sub-layer, over the extended reals and free of any
  program: `y = (x * rstd x * g * (1 + scale) + shift) · wᵀ`, `rstd x = 1 / sqrt (mean x² + eps)`, every row of 1024
  elements on its own. `dxRow` is the gradient that reaches `x`, in the form with one factored row statistic; `dx_eq` proves
  that the form automatic differentiation produces — the derivative of the mean of squares taken through `-1/2 * rstd / var`
  and multiplied by `x` twice — is the same extended real for every input, the infinite ones included.
-/
module

public import Idealize.ShloMosaic.Lib.Pointwise

@[expose] public section

set_option maxRecDepth 16384

noncomputable section

open Idealize.ShloMosaic

namespace Cert.Model

/-- A host reduction over the two leading axes of a rank-3 array, read at an index: the initial value plus the double sum. -/
theorem hostReduceAdd_01 {n0 n1 n2 : ℕ} (h : (⟨3, ![n0, n1, n2]⟩ : Shape).ReducesTo [0, 1] ⟨1, ![n2]⟩)
    (v : (⟨3, ![n0, n1, n2]⟩ : Shape).Idx → EReal) (e : EReal) (j : Fin n2) :
    Ideal.hostReduceAdd h v e (ix1 j) = e + ∑ a : Fin n0, ∑ b : Fin n1, v (ix3 a b j) := by
  unfold Ideal.hostReduceAdd
  congr 1
  rw [Finset.sum_filter_eq_sum_of_fiber _ (fun k : Fin n0 × Fin n1 => (ix3 k.1 k.2 j : (⟨3, ![n0, n1, n2]⟩ : Shape).Idx)),
    Fintype.sum_prod_type]
  · intro k k' hk
    have h0 := congrFun hk 0
    have h1 := congrFun hk 1
    exact Prod.ext h0 h1
  · intro i
    constructor
    · intro e
      refine ⟨(i 0, i 1), ?_⟩
      funext a
      match a with
      | ⟨0, _⟩ => rfl
      | ⟨1, _⟩ => rfl
      | ⟨2, _⟩ => exact Fin.ext (congrArg Fin.val (congrFun e 0)).symm
    · rintro ⟨k, rfl⟩
      funext a
      match a with
      | ⟨0, _⟩ => rfl

/-- The mean of a row of 1024 elements: its sum divided by the constant 1024. -/
def mean (f : Fin 1024 → EReal) : EReal := Ideal.div (∑ k, f k) (Ideal.ofBits .f32 0x44800000#32)

/-- The mean of the squares of a row, plus the constant `eps`. -/
def var (x : Fin 1024 → EReal) : EReal := mean (fun k => x k * x k) + Ideal.ofBits .f32 0x358637BD#32

/-- The reciprocal standard deviation of a row. -/
def rstd (x : Fin 1024 → EReal) : EReal := Ideal.rsqrt (var x)

/-- The gradient that reaches `x`: `dh` is the gradient of the modulated row, `dr` the one along the residual path. -/
def dxRow (dh x g sc dr : Fin 1024 → EReal) (d : Fin 1024) : EReal :=
  dr d + rstd x * (dh d * g d * (1 + sc d) - x d * rstd x * mean (fun k => dh k * g k * (1 + sc k) * (x k * rstd x)))

/-- The gradient before the three-tap causal convolution: `du` at rows `s`, `s + 1` and `s + 2` of the same sequence against taps 2, 1
    and 0, the rows past the end counting nothing. -/
def conv (du : Fin 2048 → EReal) (cw : Fin 3 → EReal) (s : Fin 2048) : EReal :=
  cw 2 * du s + cw 1 * (if h : s.val + 1 < 2048 then du ⟨s.val + 1, h⟩ else 0)
    + cw 0 * (if h : s.val + 2 < 2048 then du ⟨s.val + 2, h⟩ else 0)

/-- Row `n` of a block of 512 rows followed by the 16 rows of the next block; the rows past the last block are zero. -/
def ahead (blk : ℕ) (dy : Fin 512 → EReal) (nx : Fin 16 → EReal) (n : ℕ) : EReal :=
  if h : n < 512 then dy ⟨n, h⟩ else if blk = 3 then 0 else nx ⟨(n - 512) % 16, Nat.mod_lt _ (by omega)⟩

/-- The constant 1024. -/
theorem ofBits_1024 : Ideal.ofBits .f32 0x44800000#32 = ((1024 : ℝ) : EReal) := by
  simp [Ideal.ofBits, Ideal.ieee, -EReal.coe_mul]; norm_num

/-- The constant `-1/2`. -/
theorem ofBits_neg_half : Ideal.ofBits .f32 0xBF000000#32 = ((-(1/2) : ℝ) : EReal) := by
  simp [Ideal.ofBits, Ideal.ieee, -EReal.coe_mul, -EReal.coe_neg]; norm_num

/-- The constant `eps` is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A nonnegative real factor comes out of a finite sum of extended reals. -/
theorem sum_mul_coe {n : ℕ} (f : Fin n → EReal) {r : ℝ} (hr : 0 ≤ r) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.mpr hr) (EReal.coe_ne_top r)]

/-- The mean of squares plus `eps` is infinite or a positive real. -/
theorem var_cases (x : Fin 1024 → EReal) : var x = ⊤ ∨ ∃ v : ℝ, 0 < v ∧ var x = (v : EReal) := by
  obtain ⟨e, he, hE⟩ := ofBits_eps
  have hs : 0 ≤ ∑ k, x k * x k := Finset.sum_nonneg fun k _ => by
    rcases le_total 0 (x k) with h | h
    · exact mul_nonneg h h
    · rw [← neg_mul_neg]
      exact mul_nonneg (EReal.neg_nonneg.mpr h) (EReal.neg_nonneg.mpr h)
  unfold var mean
  rw [hE, ofBits_1024, Ideal.div_coe (by norm_num)]
  generalize (∑ k, x k * x k) = S at hs ⊢
  induction S with
  | bot => exact absurd hs (by simp)
  | top => left; rw [EReal.top_mul_coe_of_pos (by norm_num)]; exact EReal.top_add_coe e
  | coe S =>
    right
    refine ⟨S * (1 / 1024) + e, ?_, by norm_cast⟩
    have : 0 ≤ S := by exact_mod_cast hs
    positivity

/-- The gradient through the normalisation as automatic differentiation writes it — `m` the sum of `x * dn`, carried through
    `-1/2 * (rstd / var)`, the mean's division, and `x` twice — is `dxRow`. -/
theorem dx_eq (dh x g sc dr : Fin 1024 → EReal) (d : Fin 1024) (T : EReal)
    (hT : T = Ideal.div ((∑ k, x k * (dh k * (1 + sc k) * g k)) * (Ideal.ofBits .f32 0xBF000000#32 * Ideal.div (rstd x) (var x)))
      (Ideal.ofBits .f32 0x44800000#32)) :
    dr d + dh d * (1 + sc d) * g d * rstd x + x d * T + T * x d = dxRow dh x g sc dr d := by
  have hdn : ∀ k, dh k * (1 + sc k) * g k = dh k * g k * (1 + sc k) := fun k => mul_right_comm _ _ _
  unfold dxRow mean
  simp only [hdn] at hT ⊢
  generalize hv : (fun k => dh k * g k * (1 + sc k)) = dn at hT ⊢
  have hdk : ∀ k, dh k * g k * (1 + sc k) = dn k := fun k => congrFun hv k
  simp only [hdk] at hT ⊢
  rw [ofBits_1024, Ideal.div_coe (by norm_num), ofBits_neg_half] at hT
  rw [ofBits_1024, Ideal.div_coe (by norm_num)]
  rcases var_cases x with h | ⟨v, hv0, h⟩
  · have hr : rstd x = 0 := by rw [rstd, h, Ideal.rsqrt_top]
    rw [hr, h] at hT
    have h0 : Ideal.div 0 ⊤ = 0 := by simp [Ideal.div]
    rw [h0, mul_zero, mul_zero, zero_mul] at hT
    rw [hT, hr]
    simp
  · obtain ⟨r, hr0, hrv, hr⟩ : ∃ r : ℝ, 0 < r ∧ r * r * v = 1 ∧ rstd x = (r : EReal) := by
      refine ⟨(Real.sqrt v)⁻¹, by positivity, ?_, ?_⟩
      · have := Real.mul_self_sqrt hv0.le
        have hs : Real.sqrt v ≠ 0 := by positivity
        field_simp
        nlinarith
      · rw [rstd, h, Ideal.rsqrt_coe, if_neg (by linarith), if_neg (by linarith)]
    rw [hr, h, Ideal.div_coe hv0.ne'] at hT
    rw [hr]
    have hM : ∑ k, dn k * (x k * (r : EReal)) = (∑ k, x k * dn k) * (r : EReal) := by
      rw [← sum_mul_coe _ hr0.le]
      exact Finset.sum_congr rfl fun k _ => by rw [mul_left_comm, mul_assoc]
    rw [hM]
    generalize (∑ k, x k * dn k) = M at hT ⊢
    have hT' : T = M * ((-(1 / 2) * (r * (1 / v)) * (1 / 1024) : ℝ) : EReal) := by
      rw [hT, mul_assoc]; norm_cast
    have hq : (r * (1 / v) : ℝ) = r * r * r := by
      have : r * r = 1 / v := by field_simp; linarith
      rw [← this]; ring
    rw [hq] at hT'
    have hP : x d * T + T * x d = -(x d * M * ((r * r * r * (1 / 1024) : ℝ) : EReal)) := by
      rw [hT', mul_comm _ (x d), ← mul_assoc,
        show ((-(1 / 2) * (r * r * r) * (1 / 1024) : ℝ) : EReal) = -((r * r * r * (1 / 2048) : ℝ) : EReal) by
          rw [← EReal.coe_neg]; congr 1; ring]
      have h2 : ((r * r * r * (1 / 1024) : ℝ) : EReal) = ((r * r * r * (1 / 2048) : ℝ) : EReal) + ((r * r * r * (1 / 2048) : ℝ) : EReal) := by
        rw [← EReal.coe_add]; congr 1; ring
      have h3 : (0 : EReal) ≤ ((r * r * r * (1 / 2048) : ℝ) : EReal) := EReal.coe_nonneg.mpr (by positivity)
      rw [h2, EReal.left_distrib_of_nonneg h3 h3]
      generalize hq : ((r * r * r * (1 / 2048) : ℝ) : EReal) = q
      rw [mul_neg, ← sub_eq_add_neg, EReal.neg_add]
      · by_cases hz : x d * M * q = ⊥
        · exact Or.inr (by rw [hz]; exact bot_ne_top)
        · exact Or.inl hz
      · by_cases hz : x d * M * q = ⊤
        · exact Or.inr (by rw [hz]; exact top_ne_bot)
        · exact Or.inl hz
    rw [add_assoc, hP, add_assoc]
    congr 1
    rw [sub_eq_add_neg, EReal.left_distrib_of_nonneg_of_ne_top (EReal.coe_nonneg.mpr hr0.le) (EReal.coe_ne_top r), mul_comm (dn d) _, mul_neg]
    congr 2
    rw [show ((r * r * r * (1 / 1024) : ℝ) : EReal) = (r : EReal) * r * r * ((1 / 1024 : ℝ) : EReal) by norm_cast]
    ac_rfl

end Cert.Model
-- ==== Proof.Payloads.lean ====
module

public import proofs.«01_k».proof.Proof.Gen.KernelIdeal.Skeleton
public import proofs.«01_k».proof.Proof.Model
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen

namespace Cert.KernelIdeal.Payloads

/-- The rows of the next block that the shifted gradient reads: zero at the last block of a sequence. -/
theorem pay17_apply (i : grid0.Coords) (nx : FVec Ideal S1x16x1408 .bf16) (r : Fin 16) (k : Fin 1408) :
    k0_pay17 (F := Ideal) i nx (ix2 r k) = if (i 1).val = 3 then 0 else nx (ix3 0 r k) := by
  have h : (i 1).val < 4 := (i 1).isLt
  pointwise [k0_pay17]
  simp (disch := word_cmp_side) only [hlo_ix]

/-- The block of the gradient shifted by one row. -/
theorem pay18_apply (i : grid0.Coords) (dy : FVec Ideal S1x512x1408 .bf16) (nx : FVec Ideal S1x16x1408 .bf16)
    (r : Fin 512) (k : Fin 1408) :
    k0_pay18 (F := Ideal) i dy nx (ix2 r k)
      = Model.ahead (i 1).val (fun r => dy (ix3 0 r k)) (fun r => nx (ix3 0 r k)) (r.val + 1) := by
  have h := pay17_apply i nx 0 k
  generalize hp : k0_pay17 (F := Ideal) i nx = p at h
  pointwise [k0_pay18, k0_pay16]
  rw [hp, h]
  simp (disch := word_cmp_side) only [hlo_ix]
  have hr := r.isLt
  unfold Model.ahead
  by_cases h511 : r.val = 511
  · simp [h511]
  · rw [if_neg h511, dif_pos (by omega)]
    congr 2
    ext
    simp only
    omega

/-- The gradient of the convolution's argument over one block of rows and columns. -/
def dp (i : grid0.Coords) (dy : FVec Ideal S1x512x1408 .bf16) (nx : FVec Ideal S1x16x1408 .bf16)
    (cw : FVec Ideal S3x1408 .f32) : FVec Ideal S512x1408 .bf16 :=
  k0_pay19 (F := Ideal) (k0_pay16 dy) (iota .tc S512x1 32 [0] iota_S512x1_d0_w32) (k0_pay17 i nx) (k0_pay18 i dy nx)
    510#32 cw

theorem dp_apply (i : grid0.Coords) (dy : FVec Ideal S1x512x1408 .bf16) (nx : FVec Ideal S1x16x1408 .bf16)
    (cw : FVec Ideal S3x1408 .f32) (r : Fin 512) (k : Fin 1408) :
    dp i dy nx cw (ix2 r k)
      = cw (ix2 2 k) * dy (ix3 0 r k)
        + cw (ix2 1 k) * Model.ahead (i 1).val (fun r => dy (ix3 0 r k)) (fun r => nx (ix3 0 r k)) (r.val + 1)
        + cw (ix2 0 k) * Model.ahead (i 1).val (fun r => dy (ix3 0 r k)) (fun r => nx (ix3 0 r k)) (r.val + 2) := by
  have h16 : ∀ r : Fin 512, k0_pay16 (F := Ideal) dy (ix2 r k) = dy (ix3 0 r k) := fun r => by pointwise [k0_pay16]
  have h0 := pay17_apply i nx 0 k
  have h1 := pay17_apply i nx 1 k
  have h18 := pay18_apply i dy nx r k
  unfold dp
  generalize k0_pay17 (F := Ideal) i nx = p at h0 h1
  generalize k0_pay18 (F := Ideal) i dy nx = q at h18
  generalize k0_pay16 (F := Ideal) dy = u at h16
  pointwise [k0_pay19]
  simp (disch := word_cmp_side) only [hlo_ix]
  rw [h16, h16, h18, h0, h1]
  have hr := r.isLt
  congr 2
  unfold Model.ahead
  by_cases h510 : r.val = 510
  · simp [h510]
  by_cases h511 : r.val = 511
  · simp [h511]
  · rw [if_neg h510, if_neg h511, dif_pos (by omega)]
    congr 2
    ext
    simp only
    omega

/-- One step of the contraction: the tile of products is added to what has been summed. -/
theorem pay21_apply (i : grid0.Coords) (dy : FVec Ideal S1x512x1408 .bf16) (nx : FVec Ideal S1x16x1408 .bf16)
    (cw : FVec Ideal S3x1408 .f32) (a : FVec Ideal S512x1024 .f32) (w : FVec Ideal S1408x1024 .bf16)
    (r : Fin 512) (d : Fin 1024) :
    k0_pay21 (F := Ideal) (k0_pay16 dy) (iota .tc S512x1 32 [0] iota_S512x1_d0_w32) (k0_pay17 i nx) (k0_pay18 i dy nx)
        510#32 cw a w (ix2 r d)
      = a (ix2 r d) + ∑ k : Fin 1408, dp i dy nx cw (ix2 r k) * w (ix2 k d) := by
  unfold dp
  pointwise [k0_pay21]

theorem pay20_apply (i : grid0.Coords) (dy : FVec Ideal S1x512x1408 .bf16) (nx : FVec Ideal S1x16x1408 .bf16)
    (cw : FVec Ideal S3x1408 .f32) (z : Fin 1) (r : Fin 512) (k : Fin 1408) :
    k0_pay20 (F := Ideal) (k0_pay16 dy) (iota .tc S512x1 32 [0] iota_S512x1_d0_w32) (k0_pay17 i nx) (k0_pay18 i dy nx)
        510#32 cw (ix3 z r k)
      = dp i dy nx cw (ix2 r k) := by
  unfold dp
  pointwise [k0_pay20]

theorem pay12_apply (r : Fin 512) (d : Fin 1024) : k0_pay12 (F := Ideal) (ix2 r d) = 0 := by pointwise [k0_pay12]
theorem pay13_apply (d : Fin 1024) : k0_pay13 (F := Ideal) (ix3 0 0 d) = 0 := by pointwise [k0_pay13]
theorem pay14_apply (d : Fin 1024) : k0_pay14 (F := Ideal) (ix3 0 0 d) = 0 := by pointwise [k0_pay14]
theorem pay15_apply (d : Fin 1024) : k0_pay15 (F := Ideal) (ix2 0 d) = 0 := by pointwise [k0_pay15]

/-- The inverse root mean square of a row. -/
theorem pay5_apply (x : FVec Ideal S1x512x1024 .f32) (r : Fin 512) (z : Fin 1) :
    k0_pay5 (F := Ideal) x (ix2 r z) = Model.rstd (fun k => x (ix3 0 r k)) := by
  unfold Model.rstd Model.var Model.mean
  pointwise [k0_pay5, k0_pay4]

/-- The normalised row. -/
theorem pay6_apply (x : FVec Ideal S1x512x1024 .f32) (r : Fin 512) (d : Fin 1024) :
    k0_pay6 (F := Ideal) x (ix2 r d) = x (ix3 0 r d) * Model.rstd (fun k => x (ix3 0 r k)) := by
  have h := pay5_apply x r 0
  generalize hp : k0_pay5 (F := Ideal) x = p at h
  pointwise [k0_pay6, k0_pay4]
  rw [hp, h]

theorem pay8_apply (sc : FVec Ideal S1x1x1024 .f32) (z : Fin 1) (d : Fin 1024) :
    k0_pay8 (F := Ideal) sc (ix2 z d) = 1 + sc (ix3 0 0 d) := by
  pointwise [k0_pay8]

/-- The gradient of the block's argument. -/
theorem pay3_apply (dh : FVec Ideal S512x1024 .f32) (x : FVec Ideal S1x512x1024 .f32) (g : FVec Ideal S1x1024 .f32)
    (sc : FVec Ideal S1x1x1024 .f32) (dr : FVec Ideal S1x512x1024 .f32) (z : Fin 1) (r : Fin 512) (d : Fin 1024) :
    k0_pay3 (F := Ideal) dh (k0_pay5 x) (k0_pay6 x) (k0_pay7 g) (k0_pay8 sc) dr (ix3 z r d)
      = Model.dxRow (fun k => dh (ix2 r k)) (fun k => x (ix3 0 r k)) (fun k => g (ix2 0 k)) (fun k => sc (ix3 0 0 k))
          (fun k => dr (ix3 0 r k)) d := by
  have h5 := pay5_apply x r 0
  have h6 := pay6_apply x r
  have h8 := pay8_apply sc 0
  have h7 : ∀ d, k0_pay7 (F := Ideal) g (ix2 0 d) = g (ix2 0 d) := fun d => by pointwise [k0_pay7]
  unfold Model.dxRow Model.mean
  generalize k0_pay5 (F := Ideal) x = p5 at h5
  generalize k0_pay6 (F := Ideal) x = p6 at h6
  generalize k0_pay7 (F := Ideal) g = p7 at h7
  generalize k0_pay8 (F := Ideal) sc = p8 at h8
  pointwise [k0_pay3]
  simp only [h5, h6, h7, h8]

/-- One block's part of the gradient of the gain. -/
theorem pay2_apply (dh : FVec Ideal S512x1024 .f32) (x : FVec Ideal S1x512x1024 .f32) (sc : FVec Ideal S1x1x1024 .f32)
    (a : FVec Ideal S1x1024 .f32) (d : Fin 1024) :
    k0_pay2 (F := Ideal) dh (k0_pay6 x) (k0_pay8 sc) a (ix2 0 d)
      = a (ix2 0 d)
        + ∑ r : Fin 512, dh (ix2 r d) * (x (ix3 0 r d) * Model.rstd (fun k => x (ix3 0 r k))) * (1 + sc (ix3 0 0 d)) := by
  have h6 := fun r => pay6_apply x r d
  have h8 := pay8_apply sc 0 d
  generalize k0_pay6 (F := Ideal) x = p6 at h6
  generalize k0_pay8 (F := Ideal) sc = p8 at h8
  pointwise [k0_pay2]
  simp only [h6, h8]

/-- One block's part of the gradient of the shift. -/
theorem pay9_apply (dh : FVec Ideal S512x1024 .f32) (a : FVec Ideal S1x1x1024 .f32) (d : Fin 1024) :
    k0_pay9 (F := Ideal) dh a (ix3 0 0 d) = a (ix3 0 0 d) + ∑ r : Fin 512, dh (ix2 r d) := by
  pointwise [k0_pay9]

/-- One block's part of the gradient of the scale. -/
theorem pay1_apply (dh : FVec Ideal S512x1024 .f32) (x : FVec Ideal S1x512x1024 .f32) (g : FVec Ideal S1x1024 .f32)
    (a : FVec Ideal S1x1x1024 .f32) (d : Fin 1024) :
    k0_pay1 (F := Ideal) (k0_pay10 a) (k0_pay11 dh x g) (ix3 0 0 d)
      = a (ix3 0 0 d)
        + ∑ r : Fin 512, dh (ix2 r d) * (x (ix3 0 r d) * Model.rstd (fun k => x (ix3 0 r k))) * g (ix2 0 d) := by
  have h6 := fun r => pay6_apply x r d
  generalize hp : k0_pay6 (F := Ideal) x = p6 at h6
  pointwise [k0_pay1, k0_pay10, k0_pay11, k0_pay7]
  simp only [hp, h6]

end Cert.KernelIdeal.Payloads
-- ==== Proof.Steps.lean ====
module

public import proofs.«01_k».proof.Proof.Payloads
public import proofs.«01_k».proof.Proof.Gen.KernelIdeal.Value
public import Idealize.ShloMosaic.Lib.Pipeline.ValueKit
public import Idealize.ShloMosaic.Lib.Pipeline.ReadBack

@[expose] public section

/-! What each point of the grid leaves in the blocks it carries, at an index of the block. -/

set_option maxRecDepth 16384

noncomputable section

open Idealize.ShloMosaic Idealize.ShloMosaic.TcCoe Idealize.SL.Sem
open Cert.KernelIdeal Cert.KernelIdeal.Gen Cert.KernelIdeal.Payloads

namespace Cert.KernelIdeal.Steps

variable (m : (ℓ : Loc nD τ sig) → Buf (Elt Ideal) ℓ) (c : Dev nD)

/-- The blocks of the seven arguments at a point. -/
def bDy (t : Fin cfg0.N) : FVec Ideal S1x512x1408 .bf16 := iblk m c 0 t
def bNx (t : Fin cfg0.N) : FVec Ideal S1x16x1408 .bf16 := iblk m c 1 t
def bCw (t : Fin cfg0.N) : FVec Ideal S3x1408 .f32 := iblk m c 2 t
def bW (t : Fin cfg0.N) : FVec Ideal S1408x1024 .bf16 := iblk m c 3 t
def bX (t : Fin cfg0.N) : FVec Ideal S1x512x1024 .f32 := iblk m c 4 t
def bG (t : Fin cfg0.N) : FVec Ideal S1x1024 .f32 := iblk m c 5 t
def bSc (t : Fin cfg0.N) : FVec Ideal S1x1x1024 .f32 := iblk m c 6 t
def bDr (t : Fin cfg0.N) : FVec Ideal S1x512x1024 .f32 := iblk m c 7 t

/-- The sum of products the scratch holds after a point. -/
def acc (n : Nat) (h : n < cfg0.N) : FVec Ideal S512x1024 .f32 := (outsAt0 m c n h).2.2.2.2.2
def sh (n : Nat) (h : n < cfg0.N) : FVec Ideal S1x1x1024 .f32 := (outsAt0 m c n h).2.2.1
def scl (n : Nat) (h : n < cfg0.N) : FVec Ideal S1x1x1024 .f32 := (outsAt0 m c n h).2.2.2.1
def gn (n : Nat) (h : n < cfg0.N) : FVec Ideal S1x1024 .f32 := (outsAt0 m c n h).2.2.2.2.1

/-- The block of the gradient before the convolution. -/
def dpAt (t : Fin cfg0.N) : FVec Ideal S512x1408 .bf16 := dp (grid0.coords t) (bDy m c t) (bNx m c t) (bCw m c t)

/-- The sum of products with one more tile, as the body writes it. -/
def stepAcc (t : Fin cfg0.N) (a : FVec Ideal S512x1024 .f32) : FVec Ideal S512x1024 .f32 :=
  k0_pay21 (F := Ideal) (k0_pay16 (bDy m c t)) (iota .tc S512x1 32 [0] iota_S512x1_d0_w32)
    (k0_pay17 (grid0.coords t) (bNx m c t)) (k0_pay18 (grid0.coords t) (bDy m c t) (bNx m c t)) 510#32 (bCw m c t) a (bW m c t)

theorem stepAcc_apply (t : Fin cfg0.N) (a : FVec Ideal S512x1024 .f32) (r : Fin 512) (d : Fin 1024) :
    stepAcc m c t a (ix2 r d) = a (ix2 r d) + ∑ k : Fin 1408, dpAt m c t (ix2 r k) * bW m c t (ix2 k d) :=
  pay21_apply _ _ _ _ _ _ _ _

theorem acc_A (t : Fin cfg0.N) (h0 : t.val % 4 = 0) (h1 : t.val % 16 = 0) (h2 : t.val % 32 = 0) (h3 : ¬t.val % 4 = 3) :
    acc m c t.val t.isLt = stepAcc m c t (k0_pay12 (F := Ideal)) := by
  unfold acc
  rw [outsAt0_A m c t h0 h1 h2 h3]
  frame_out
  rfl

theorem acc_D (t : Fin cfg0.N) (h0 : t.val % 4 = 0) (h1 : ¬t.val % 16 = 0) (h2 : ¬t.val % 32 = 0) (h3 : ¬t.val % 4 = 3) :
    acc m c t.val t.isLt = stepAcc m c t (k0_pay12 (F := Ideal)) := by
  unfold acc
  rw [outsAt0_D m c t h0 h1 h2 h3]
  frame_out
  rfl

theorem acc_E (t : Fin cfg0.N) (h0 : t.val % 4 = 0) (h1 : t.val % 16 = 0) (h2 : ¬t.val % 32 = 0) (h3 : ¬t.val % 4 = 3) :
    acc m c t.val t.isLt = stepAcc m c t (k0_pay12 (F := Ideal)) := by
  unfold acc
  rw [outsAt0_E m c t h0 h1 h2 h3]
  frame_out
  rfl

theorem acc_B (t : Fin cfg0.N) (h0 : ¬t.val % 4 = 0) (h1 : ¬t.val % 16 = 0) (h2 : ¬t.val % 32 = 0) (h3 : ¬t.val % 4 = 3) :
    acc m c t.val t.isLt = stepAcc m c t (acc m c (t.val - 1) (Nat.lt_of_le_of_lt (Nat.sub_le _ _) t.isLt)) := by
  unfold acc
  rw [outsAt0_B m c t h0 h1 h2 h3]
  frame_out
  rw [read_unread_whole]
  rfl

theorem acc_C (t : Fin cfg0.N) (h0 : ¬t.val % 4 = 0) (h1 : ¬t.val % 16 = 0) (h2 : ¬t.val % 32 = 0) (h3 : t.val % 4 = 3) :
    acc m c t.val t.isLt = stepAcc m c t (acc m c (t.val - 1) (Nat.lt_of_le_of_lt (Nat.sub_le _ _) t.isLt)) := by
  unfold acc
  rw [outsAt0_C m c t h0 h1 h2 h3]
  frame_out
  rw [read_unread_whole]
  rfl

theorem out8_C (t : Fin cfg0.N) (h0 : ¬t.val % 4 = 0) (h1 : ¬t.val % 16 = 0) (h2 : ¬t.val % 32 = 0) (h3 : t.val % 4 = 3) :
    (outsAt0 m c t.val t.isLt).1 = k0_pay3 (F := Ideal) (acc m c t.val t.isLt) (k0_pay5 (bX m c t)) (k0_pay6 (bX m c t))
      (k0_pay7 (bG m c t)) (k0_pay8 (bSc m c t)) (bDr m c t) := by
  rw [acc_C m c t h0 h1 h2 h3, outsAt0_C m c t h0 h1 h2 h3]
  frame_out
  rw [read_unread_whole]
  rfl

theorem out9_A (t : Fin cfg0.N) (h0 : t.val % 4 = 0) (h1 : t.val % 16 = 0) (h2 : t.val % 32 = 0) (h3 : ¬t.val % 4 = 3) :
    (outsAt0 m c t.val t.isLt).2.1 = k0_pay20 (F := Ideal) (k0_pay16 (bDy m c t)) (iota .tc S512x1 32 [0] iota_S512x1_d0_w32)
      (k0_pay17 (grid0.coords t) (bNx m c t)) (k0_pay18 (grid0.coords t) (bDy m c t) (bNx m c t)) 510#32 (bCw m c t) := by
  rw [outsAt0_A m c t h0 h1 h2 h3]
  frame_out
  rfl

theorem out9_B (t : Fin cfg0.N) (h0 : ¬t.val % 4 = 0) (h1 : ¬t.val % 16 = 0) (h2 : ¬t.val % 32 = 0) (h3 : ¬t.val % 4 = 3) :
    (outsAt0 m c t.val t.isLt).2.1 = k0_pay20 (F := Ideal) (k0_pay16 (bDy m c t)) (iota .tc S512x1 32 [0] iota_S512x1_d0_w32)
      (k0_pay17 (grid0.coords t) (bNx m c t)) (k0_pay18 (grid0.coords t) (bDy m c t) (bNx m c t)) 510#32 (bCw m c t) := by
  rw [outsAt0_B m c t h0 h1 h2 h3]
  frame_out
  rfl

theorem out9_C (t : Fin cfg0.N) (h0 : ¬t.val % 4 = 0) (h1 : ¬t.val % 16 = 0) (h2 : ¬t.val % 32 = 0) (h3 : t.val % 4 = 3) :
    (outsAt0 m c t.val t.isLt).2.1 = k0_pay20 (F := Ideal) (k0_pay16 (bDy m c t)) (iota .tc S512x1 32 [0] iota_S512x1_d0_w32)
      (k0_pay17 (grid0.coords t) (bNx m c t)) (k0_pay18 (grid0.coords t) (bDy m c t) (bNx m c t)) 510#32 (bCw m c t) := by
  rw [outsAt0_C m c t h0 h1 h2 h3]
  frame_out
  rfl

theorem out9_D (t : Fin cfg0.N) (h0 : t.val % 4 = 0) (h1 : ¬t.val % 16 = 0) (h2 : ¬t.val % 32 = 0) (h3 : ¬t.val % 4 = 3) :
    (outsAt0 m c t.val t.isLt).2.1 = k0_pay20 (F := Ideal) (k0_pay16 (bDy m c t)) (iota .tc S512x1 32 [0] iota_S512x1_d0_w32)
      (k0_pay17 (grid0.coords t) (bNx m c t)) (k0_pay18 (grid0.coords t) (bDy m c t) (bNx m c t)) 510#32 (bCw m c t) := by
  rw [outsAt0_D m c t h0 h1 h2 h3]
  frame_out
  rfl

theorem out9_E (t : Fin cfg0.N) (h0 : t.val % 4 = 0) (h1 : t.val % 16 = 0) (h2 : ¬t.val % 32 = 0) (h3 : ¬t.val % 4 = 3) :
    (outsAt0 m c t.val t.isLt).2.1 = k0_pay20 (F := Ideal) (k0_pay16 (bDy m c t)) (iota .tc S512x1 32 [0] iota_S512x1_d0_w32)
      (k0_pay17 (grid0.coords t) (bNx m c t)) (k0_pay18 (grid0.coords t) (bDy m c t) (bNx m c t)) 510#32 (bCw m c t) := by
  rw [outsAt0_E m c t h0 h1 h2 h3]
  frame_out
  rfl

theorem sh_A (t : Fin cfg0.N) (h0 : t.val % 4 = 0) (h1 : t.val % 16 = 0) (h2 : t.val % 32 = 0) (h3 : ¬t.val % 4 = 3) :
    sh m c t.val t.isLt = k0_pay13 (F := Ideal) := by
  unfold sh
  rw [outsAt0_A m c t h0 h1 h2 h3]
  frame_out

theorem sh_E (t : Fin cfg0.N) (h0 : t.val % 4 = 0) (h1 : t.val % 16 = 0) (h2 : ¬t.val % 32 = 0) (h3 : ¬t.val % 4 = 3) :
    sh m c t.val t.isLt = k0_pay13 (F := Ideal) := by
  unfold sh
  rw [outsAt0_E m c t h0 h1 h2 h3]
  frame_out

theorem sh_B (t : Fin cfg0.N) (h0 : ¬t.val % 4 = 0) (h1 : ¬t.val % 16 = 0) (h2 : ¬t.val % 32 = 0) (h3 : ¬t.val % 4 = 3) :
    sh m c t.val t.isLt = sh m c (t.val - 1) (Nat.lt_of_le_of_lt (Nat.sub_le _ _) t.isLt) := by
  unfold sh
  rw [outsAt0_B m c t h0 h1 h2 h3]
  frame_out
  rfl

theorem sh_D (t : Fin cfg0.N) (h0 : t.val % 4 = 0) (h1 : ¬t.val % 16 = 0) (h2 : ¬t.val % 32 = 0) (h3 : ¬t.val % 4 = 3) :
    sh m c t.val t.isLt = sh m c (t.val - 1) (Nat.lt_of_le_of_lt (Nat.sub_le _ _) t.isLt) := by
  unfold sh
  rw [outsAt0_D m c t h0 h1 h2 h3]
  frame_out
  rfl

theorem scl_A (t : Fin cfg0.N) (h0 : t.val % 4 = 0) (h1 : t.val % 16 = 0) (h2 : t.val % 32 = 0) (h3 : ¬t.val % 4 = 3) :
    scl m c t.val t.isLt = k0_pay14 (F := Ideal) := by
  unfold scl
  rw [outsAt0_A m c t h0 h1 h2 h3]
  frame_out

theorem scl_E (t : Fin cfg0.N) (h0 : t.val % 4 = 0) (h1 : t.val % 16 = 0) (h2 : ¬t.val % 32 = 0) (h3 : ¬t.val % 4 = 3) :
    scl m c t.val t.isLt = k0_pay14 (F := Ideal) := by
  unfold scl
  rw [outsAt0_E m c t h0 h1 h2 h3]
  frame_out

theorem scl_B (t : Fin cfg0.N) (h0 : ¬t.val % 4 = 0) (h1 : ¬t.val % 16 = 0) (h2 : ¬t.val % 32 = 0) (h3 : ¬t.val % 4 = 3) :
    scl m c t.val t.isLt = scl m c (t.val - 1) (Nat.lt_of_le_of_lt (Nat.sub_le _ _) t.isLt) := by
  unfold scl
  rw [outsAt0_B m c t h0 h1 h2 h3]
  frame_out
  rfl

theorem scl_D (t : Fin cfg0.N) (h0 : t.val % 4 = 0) (h1 : ¬t.val % 16 = 0) (h2 : ¬t.val % 32 = 0) (h3 : ¬t.val % 4 = 3) :
    scl m c t.val t.isLt = scl m c (t.val - 1) (Nat.lt_of_le_of_lt (Nat.sub_le _ _) t.isLt) := by
  unfold scl
  rw [outsAt0_D m c t h0 h1 h2 h3]
  frame_out
  rfl

theorem gn_A (t : Fin cfg0.N) (h0 : t.val % 4 = 0) (h1 : t.val % 16 = 0) (h2 : t.val % 32 = 0) (h3 : ¬t.val % 4 = 3) :
    gn m c t.val t.isLt = k0_pay15 (F := Ideal) := by
  unfold gn
  rw [outsAt0_A m c t h0 h1 h2 h3]
  frame_out

theorem gn_B (t : Fin cfg0.N) (h0 : ¬t.val % 4 = 0) (h1 : ¬t.val % 16 = 0) (h2 : ¬t.val % 32 = 0) (h3 : ¬t.val % 4 = 3) :
    gn m c t.val t.isLt = gn m c (t.val - 1) (Nat.lt_of_le_of_lt (Nat.sub_le _ _) t.isLt) := by
  unfold gn
  rw [outsAt0_B m c t h0 h1 h2 h3]
  frame_out
  rfl

theorem gn_D (t : Fin cfg0.N) (h0 : t.val % 4 = 0) (h1 : ¬t.val % 16 = 0) (h2 : ¬t.val % 32 = 0) (h3 : ¬t.val % 4 = 3) :
    gn m c t.val t.isLt = gn m c (t.val - 1) (Nat.lt_of_le_of_lt (Nat.sub_le _ _) t.isLt) := by
  unfold gn
  rw [outsAt0_D m c t h0 h1 h2 h3]
  frame_out
  rfl

theorem gn_E (t : Fin cfg0.N) (h0 : t.val % 4 = 0) (h1 : t.val % 16 = 0) (h2 : ¬t.val % 32 = 0) (h3 : ¬t.val % 4 = 3) :
    gn m c t.val t.isLt = gn m c (t.val - 1) (Nat.lt_of_le_of_lt (Nat.sub_le _ _) t.isLt) := by
  unfold gn
  rw [outsAt0_E m c t h0 h1 h2 h3]
  frame_out
  rfl

theorem sh_C (t : Fin cfg0.N) (h0 : ¬t.val % 4 = 0) (h1 : ¬t.val % 16 = 0) (h2 : ¬t.val % 32 = 0) (h3 : t.val % 4 = 3) :
    sh m c t.val t.isLt
      = k0_pay9 (F := Ideal) (acc m c t.val t.isLt) (sh m c (t.val - 1) (Nat.lt_of_le_of_lt (Nat.sub_le _ _) t.isLt)) := by
  rw [acc_C m c t h0 h1 h2 h3]
  unfold sh
  rw [outsAt0_C m c t h0 h1 h2 h3]
  frame_out
  rw [read_unread_whole]
  rfl

theorem scl_C (t : Fin cfg0.N) (h0 : ¬t.val % 4 = 0) (h1 : ¬t.val % 16 = 0) (h2 : ¬t.val % 32 = 0) (h3 : t.val % 4 = 3) :
    scl m c t.val t.isLt
      = k0_pay1 (F := Ideal) (k0_pay10 (scl m c (t.val - 1) (Nat.lt_of_le_of_lt (Nat.sub_le _ _) t.isLt))) (k0_pay11 (acc m c t.val t.isLt) (bX m c t) (bG m c t)) := by
  rw [acc_C m c t h0 h1 h2 h3]
  unfold scl
  rw [outsAt0_C m c t h0 h1 h2 h3]
  frame_out
  rw [read_unread_whole]
  rfl

theorem gn_C (t : Fin cfg0.N) (h0 : ¬t.val % 4 = 0) (h1 : ¬t.val % 16 = 0) (h2 : ¬t.val % 32 = 0) (h3 : t.val % 4 = 3) :
    gn m c t.val t.isLt
      = k0_pay2 (F := Ideal) (acc m c t.val t.isLt) (k0_pay6 (bX m c t)) (k0_pay8 (bSc m c t)) (gn m c (t.val - 1) (Nat.lt_of_le_of_lt (Nat.sub_le _ _) t.isLt)) := by
  rw [acc_C m c t h0 h1 h2 h3]
  unfold gn
  rw [outsAt0_C m c t h0 h1 h2 h3]
  frame_out
  rw [read_unread_whole]
  rfl

end Cert.KernelIdeal.Steps
-- ==== Proof.Blocks.lean ====
module

public import proofs.«01_k».proof.Proof.Steps

@[expose] public section

/-! Which entries of the arguments the blocks at a point hold. Point `t` of the grid is batch `t / 16`, row block `t / 4 % 4` and
column tile `t % 4`. -/

set_option maxRecDepth 16384

noncomputable section

open Idealize.ShloMosaic Idealize.ShloMosaic.TcCoe Idealize.SL.Sem
open Cert.KernelIdeal Cert.KernelIdeal.Gen Cert.KernelIdeal.Payloads Cert.KernelIdeal.Steps

namespace Cert.KernelIdeal.Blocks

variable (m : (ℓ : Loc nD τ sig) → Buf (Elt Ideal) ℓ) (c : Dev nD)

/-- The seven arguments as arrays. -/
def aDu : FVec Ideal S2x2048x5632 .bf16 := m ((c : Thread nD τ).loc main_arg0)
def aW : FVec Ideal S5632x1024 .bf16 := m ((c : Thread nD τ).loc main_arg1)
def aX : FVec Ideal S2x2048x1024 .f32 := m ((c : Thread nD τ).loc main_arg2)
def aG : FVec Ideal S1024 .f32 := m ((c : Thread nD τ).loc main_arg3)
def aSc : FVec Ideal S2x1x1024 .f32 := m ((c : Thread nD τ).loc main_arg4)
def aDr : FVec Ideal S2x2048x1024 .f32 := m ((c : Thread nD τ).loc main_arg5)
def aCw : FVec Ideal S3x5632 .f32 := m ((c : Thread nD τ).loc main_arg6)

theorem idx : ∀ t : Fin cfg0.N,
    win0_0.index t = ![t.val / 16, t.val / 4 % 4, t.val % 4]
    ∧ win0_1.index t = ![t.val / 16, min (32 * (t.val / 4 % 4 + 1)) 127, t.val % 4]
    ∧ win0_2.index t = ![0, t.val % 4]
    ∧ win0_3.index t = ![t.val % 4, 0]
    ∧ win0_4.index t = ![t.val / 16, t.val / 4 % 4, 0]
    ∧ win0_5.index t = ![0, 0]
    ∧ win0_6.index t = ![t.val / 16, 0, 0]
    ∧ win0_7.index t = ![t.val / 16, t.val / 4 % 4, 0]
    ∧ win0_8.index t = ![t.val / 16, t.val / 4 % 4, 0]
    ∧ win0_9.index t = ![t.val / 16, t.val / 4 % 4, t.val % 4]
    ∧ win0_10.index t = ![t.val / 16, 0, 0]
    ∧ win0_11.index t = ![t.val / 16, 0, 0]
    ∧ win0_12.index t = ![0, 0] := (by decide +kernel : ∀ t : Fin grid0.N, _)

theorem coord1 : ∀ t : Fin cfg0.N, (grid0.coords t 1).val = t.val / 4 % 4 := (by decide +kernel : ∀ t : Fin grid0.N, _)

variable (t : Fin cfg0.N)

theorem lt32 : t.val < 32 := lt_of_lt_of_eq t.isLt N_0

theorem bDy_apply (r : Fin 512) (k : Fin 1408) (b : Fin 2) (s : Fin 2048) (K : Fin 5632)
    (hb : b.val = t.val / 16) (hs : s.val = t.val / 4 % 4 * 512 + r.val) (hK : K.val = t.val % 4 * 1408 + k.val) :
    bDy m c t (ix3 0 r k) = aDu m c (ix3 b s K) := by
  unfold bDy aDu
  blk_ext [iblk, V, idx t]

theorem bNx_apply (r : Fin 16) (k : Fin 1408) (b : Fin 2) (s : Fin 2048) (K : Fin 5632)
    (hb : b.val = t.val / 16) (hi : t.val / 4 % 4 ≠ 3) (hs : s.val = (t.val / 4 % 4 + 1) * 512 + r.val)
    (hK : K.val = t.val % 4 * 1408 + k.val) :
    bNx m c t (ix3 0 r k) = aDu m c (ix3 b s K) := by
  have h : min (32 * (t.val / 4 % 4 + 1)) 127 = 32 * (t.val / 4 % 4 + 1) := by omega
  have hx := idx t
  rw [h] at hx
  unfold bNx aDu
  blk_ext [iblk, V, hx]

theorem bCw_apply (a : Fin 3) (k : Fin 1408) (K : Fin 5632) (hK : K.val = t.val % 4 * 1408 + k.val) :
    bCw m c t (ix2 a k) = aCw m c (ix2 a K) := by
  unfold bCw aCw
  blk_ext [iblk, V, idx t]

theorem bW_apply (k : Fin 1408) (d : Fin 1024) (K : Fin 5632) (hK : K.val = t.val % 4 * 1408 + k.val) :
    bW m c t (ix2 k d) = aW m c (ix2 K d) := by
  unfold bW aW
  blk_ext [iblk, V, idx t]

theorem bX_apply (r : Fin 512) (d : Fin 1024) (b : Fin 2) (s : Fin 2048)
    (hb : b.val = t.val / 16) (hs : s.val = t.val / 4 % 4 * 512 + r.val) :
    bX m c t (ix3 0 r d) = aX m c (ix3 b s d) := by
  unfold bX aX
  blk_ext [iblk, V, idx t]

theorem bDr_apply (r : Fin 512) (d : Fin 1024) (b : Fin 2) (s : Fin 2048)
    (hb : b.val = t.val / 16) (hs : s.val = t.val / 4 % 4 * 512 + r.val) :
    bDr m c t (ix3 0 r d) = aDr m c (ix3 b s d) := by
  unfold bDr aDr
  blk_ext [iblk, V, idx t]

theorem bSc_apply (d : Fin 1024) (b : Fin 2) (hb : b.val = t.val / 16) :
    bSc m c t (ix3 0 0 d) = aSc m c (ix3 b 0 d) := by
  unfold bSc aSc
  blk_ext [iblk, V, idx t]

theorem bG_apply (d : Fin 1024) : bG m c t (ix2 0 d) = aG m c (ix1 d) := by
  unfold bG aG
  have h : iblk m c 5 t (ix2 0 d) = V m c main_v0 (ix2 0 d) := by
    blk_ext [iblk, idx t]
  rw [h]
  entry_read
  pointwise

end Cert.KernelIdeal.Blocks
-- ==== Proof.Folds.lean ====
module

public import proofs.«01_k».proof.Proof.Blocks

@[expose] public section

/-! The blocks carried from point to point in closed form: the sum of products over the four column tiles, and the three sums over the
rows. -/

set_option maxRecDepth 16384

noncomputable section

open Idealize.ShloMosaic Idealize.ShloMosaic.TcCoe Idealize.SL.Sem
open Cert.KernelIdeal Cert.KernelIdeal.Gen Cert.KernelIdeal.Payloads Cert.KernelIdeal.Steps Cert.KernelIdeal.Blocks

namespace Cert.KernelIdeal.Folds

variable (m : (ℓ : Loc nD τ sig) → Buf (Elt Ideal) ℓ) (c : Dev nD)

/-- The gradient before the convolution, at sequence `b`, row `s`, column `K`. -/
def convAt (b : Fin 2) (s : Fin 2048) (K : Fin 5632) : EReal :=
  Model.conv (fun s => aDu m c (ix3 b s K)) (fun a => aCw m c (ix2 a K)) s

/-- The gradient of the modulated row. -/
def dhAt (b : Fin 2) (s : Fin 2048) (d : Fin 1024) : EReal := ∑ K : Fin 5632, convAt m c b s K * aW m c (ix2 K d)

/-- Reading on past the end of a block of rows reads the next block's rows, or zero past the end of the sequence. -/
theorem ahead_eq (t : Fin cfg0.N) (r : Fin 512) (k : Fin 1408) (b : Fin 2) (s : Fin 2048) (K : Fin 5632)
    (hb : b.val = t.val / 16) (hs : s.val = t.val / 4 % 4 * 512 + r.val) (hK : K.val = t.val % 4 * 1408 + k.val)
    (e : ℕ) (he : e ≤ 2) :
    Model.ahead (grid0.coords t 1).val (fun r => bDy m c t (ix3 0 r k)) (fun r => bNx m c t (ix3 0 r k)) (r.val + e)
      = if h : s.val + e < 2048 then aDu m c (ix3 b ⟨s.val + e, h⟩ K) else 0 := by
  have hr := r.isLt
  have ht := lt32 t
  rw [coord1]
  unfold Model.ahead
  by_cases h1 : r.val + e < 512
  · rw [dif_pos h1, dif_pos (by omega)]
    exact bDy_apply m c t _ k b _ K hb (by simp only; omega) hK
  · rw [dif_neg h1]
    by_cases h3 : t.val / 4 % 4 = 3
    · rw [if_pos h3, dif_neg (by omega)]
    · rw [if_neg h3, dif_pos (by omega)]
      exact bNx_apply m c t _ k b _ K hb h3 (by simp only; omega) hK

theorem dpAt_eq (t : Fin cfg0.N) (r : Fin 512) (k : Fin 1408) (b : Fin 2) (s : Fin 2048) (K : Fin 5632)
    (hb : b.val = t.val / 16) (hs : s.val = t.val / 4 % 4 * 512 + r.val) (hK : K.val = t.val % 4 * 1408 + k.val) :
    dpAt m c t (ix2 r k) = convAt m c b s K := by
  unfold dpAt convAt Model.conv
  rw [dp_apply, ahead_eq m c t r k b s K hb hs hK 1 (by omega), ahead_eq m c t r k b s K hb hs hK 2 (by omega),
    bDy_apply m c t r k b s K hb hs hK, bCw_apply m c t 0 k K hK, bCw_apply m c t 1 k K hK, bCw_apply m c t 2 k K hK]

theorem acc_reset (t : Fin cfg0.N) (h : t.val % 4 = 0) (r : Fin 512) (d : Fin 1024) :
    acc m c t.val t.isLt (ix2 r d) = 0 + ∑ k : Fin 1408, dpAt m c t (ix2 r k) * bW m c t (ix2 k d) := by
  have e : acc m c t.val t.isLt = stepAcc m c t (k0_pay12 (F := Ideal)) := by
    by_cases h2 : t.val % 32 = 0
    · exact acc_A m c t h (by omega) h2 (by omega)
    · by_cases h1 : t.val % 16 = 0
      · exact acc_E m c t h h1 h2 (by omega)
      · exact acc_D m c t h h1 h2 (by omega)
  rw [e, stepAcc_apply, pay12_apply]

theorem acc_step (t : Fin cfg0.N) (h : ¬t.val % 4 = 0) (r : Fin 512) (d : Fin 1024) :
    acc m c t.val t.isLt (ix2 r d) = acc m c (t.val - 1) (Nat.lt_of_le_of_lt (Nat.sub_le _ _) t.isLt) (ix2 r d)
      + ∑ k : Fin 1408, dpAt m c t (ix2 r k) * bW m c t (ix2 k d) := by
  by_cases h3 : t.val % 4 = 3
  · rw [acc_C m c t h (by omega) (by omega) h3, stepAcc_apply]
  · rw [acc_B m c t h (by omega) (by omega) h3, stepAcc_apply]

/-- After the last column tile the scratch holds the gradient of the modulated rows of the block. -/
theorem acc_eq (t : Fin cfg0.N) (h : t.val % 4 = 3) (r : Fin 512) (d : Fin 1024) (b : Fin 2) (s : Fin 2048)
    (hb : b.val = t.val / 16) (hs : s.val = t.val / 4 % 4 * 512 + r.val) :
    acc m c t.val t.isLt (ix2 r d) = dhAt m c b s d := by
  have ht := lt32 t
  have e := Pipeline.eq_sum_fin_of_reset_step_apply_of_flush (fun n h (i : Fin 512 × Fin 1024) => acc m c n h (ix2 i.1 i.2)) 4
    (fun _ => 0) (fun t i => ∑ k : Fin 1408, dpAt m c t (ix2 i.1 k) * bW m c t (ix2 k i.2))
    (fun t h i => acc_reset m c t h i.1 i.2) (fun t h i => acc_step m c t h i.1 i.2) t h (r, d)
  simp only at e
  rw [e, zero_add]
  unfold dhAt
  refine Fin.sum_mul_add_congr fun j k hl => ?_
  have hj := j.isLt
  have hk := k.isLt
  have h4 : (4 * (t.val / 4) + j.val) / 16 = t.val / 16 := by omega
  have h5 : (4 * (t.val / 4) + j.val) / 4 % 4 = t.val / 4 % 4 := by omega
  have h6 : (4 * (t.val / 4) + j.val) % 4 = j.val := by omega
  rw [dpAt_eq m c ⟨4 * (t.val / 4) + j.val, _⟩ r k b s ⟨j.val * 1408 + k.val, hl⟩ (by simp only [h4]; exact hb)
      (by simp only [h5]; exact hs) (by simp only [h6]),
    bW_apply m c ⟨4 * (t.val / 4) + j.val, _⟩ k d ⟨j.val * 1408 + k.val, hl⟩ (by simp only [h6])]

/-- A point's part of the three sums over rows: nothing before the last column tile. -/
def part (f : Fin 2 → Fin 2048 → EReal) (t : Fin cfg0.N) : EReal :=
  if t.val % 4 = 3 then ∑ r : Fin 512, f ⟨t.val / 16 % 2, by omega⟩ ⟨t.val / 4 % 4 * 512 + r.val, by omega⟩ else 0

/-- The sum of the parts of the sixteen points of a sequence is the sum over its rows. -/
theorem sum_part (f : Fin 2 → Fin 2048 → EReal) (q : ℕ) (hq : q < 2) :
    ∑ s : Fin 16, part f ⟨16 * q + s.val, by rw [show cfg0.N = 32 from N_0]; omega⟩ = ∑ s : Fin 2048, f ⟨q, hq⟩ s := by
  rw [Fin.sum_univ_tiles 4 4 rfl, Fin.sum_univ_tiles 4 512 rfl]
  refine Finset.sum_congr rfl fun i _ => ?_
  rw [Fin.sum_univ_four]
  have hi := i.isLt
  unfold part
  rw [if_neg (by simp; omega), if_neg (by simp; omega), if_neg (by simp; omega), if_pos (by simp; omega)]
  simp only [zero_add]
  refine Finset.sum_congr rfl fun r _ => ?_
  congr 1
  · ext; simp; omega
  · ext; simp; omega

/-- The three summands. -/
def shTerm (d : Fin 1024) (b : Fin 2) (s : Fin 2048) : EReal := dhAt m c b s d
def sclTerm (d : Fin 1024) (b : Fin 2) (s : Fin 2048) : EReal :=
  dhAt m c b s d * (aX m c (ix3 b s d) * Model.rstd (fun k => aX m c (ix3 b s k))) * aG m c (ix1 d)
def gnTerm (d : Fin 1024) (b : Fin 2) (s : Fin 2048) : EReal :=
  dhAt m c b s d * (aX m c (ix3 b s d) * Model.rstd (fun k => aX m c (ix3 b s k))) * (1 + aSc m c (ix3 b 0 d))

theorem part_pos {f : Fin 2 → Fin 2048 → EReal} {t : Fin cfg0.N} (h : t.val % 4 = 3) {g : Fin 512 → EReal}
    (hg : ∀ (r : Fin 512) (b : Fin 2) (s : Fin 2048), b.val = t.val / 16 → s.val = t.val / 4 % 4 * 512 + r.val → g r = f b s) :
    ∑ r : Fin 512, g r = part f t := by
  have ht := lt32 t
  unfold part
  rw [if_pos h]
  exact Finset.sum_congr rfl fun r _ => hg r _ _ (by simp only; omega) (by simp only)

theorem part_neg {f : Fin 2 → Fin 2048 → EReal} {t : Fin cfg0.N} (h : ¬t.val % 4 = 3) : part f t = 0 := if_neg h

theorem sh_reset (t : Fin cfg0.N) (h : t.val % 16 = 0) (d : Fin 1024) :
    sh m c t.val t.isLt (ix3 0 0 d) = 0 + part (shTerm m c d) t := by
  rw [part_neg (by omega), add_zero, ← pay13_apply d]
  by_cases h2 : t.val % 32 = 0
  · rw [sh_A m c t (by omega) h h2 (by omega)]
  · rw [sh_E m c t (by omega) h h2 (by omega)]

theorem sh_step (t : Fin cfg0.N) (h : ¬t.val % 16 = 0) (d : Fin 1024) :
    sh m c t.val t.isLt (ix3 0 0 d) = sh m c (t.val - 1) (Nat.lt_of_le_of_lt (Nat.sub_le _ _) t.isLt) (ix3 0 0 d)
      + part (shTerm m c d) t := by
  by_cases h3 : t.val % 4 = 3
  · rw [sh_C m c t (by omega) h (by omega) h3, pay9_apply, part_pos h3 (fun r b s hb hs => acc_eq m c t h3 r d b s hb hs)]
    rfl
  · rw [part_neg h3, add_zero]
    by_cases h0 : t.val % 4 = 0
    · rw [sh_D m c t h0 h (by omega) h3]
    · rw [sh_B m c t h0 h (by omega) h3]

theorem scl_reset (t : Fin cfg0.N) (h : t.val % 16 = 0) (d : Fin 1024) :
    scl m c t.val t.isLt (ix3 0 0 d) = 0 + part (sclTerm m c d) t := by
  rw [part_neg (by omega), add_zero, ← pay14_apply d]
  by_cases h2 : t.val % 32 = 0
  · rw [scl_A m c t (by omega) h h2 (by omega)]
  · rw [scl_E m c t (by omega) h h2 (by omega)]

/-- The row of the block the row sums read. -/
theorem row_eq (t : Fin cfg0.N) (r : Fin 512) (b : Fin 2) (s : Fin 2048)
    (hb : b.val = t.val / 16) (hs : s.val = t.val / 4 % 4 * 512 + r.val) :
    (fun k => bX m c t (ix3 0 r k)) = fun k => aX m c (ix3 b s k) :=
  funext fun k => bX_apply m c t r k b s hb hs

theorem scl_step (t : Fin cfg0.N) (h : ¬t.val % 16 = 0) (d : Fin 1024) :
    scl m c t.val t.isLt (ix3 0 0 d) = scl m c (t.val - 1) (Nat.lt_of_le_of_lt (Nat.sub_le _ _) t.isLt) (ix3 0 0 d)
      + part (sclTerm m c d) t := by
  by_cases h3 : t.val % 4 = 3
  · rw [scl_C m c t (by omega) h (by omega) h3, pay1_apply, part_pos h3 (fun r b s hb hs => ?_)]
    rw [acc_eq m c t h3 r d b s hb hs, bX_apply m c t r d b s hb hs, row_eq m c t r b s hb hs, bG_apply]
    rfl
  · rw [part_neg h3, add_zero]
    by_cases h0 : t.val % 4 = 0
    · rw [scl_D m c t h0 h (by omega) h3]
    · rw [scl_B m c t h0 h (by omega) h3]

theorem gn_reset (t : Fin cfg0.N) (h : t.val % 32 = 0) (d : Fin 1024) :
    gn m c t.val t.isLt (ix2 0 d) = 0 + part (gnTerm m c d) t := by
  rw [part_neg (by omega), add_zero, ← pay15_apply d, gn_A m c t (by omega) (by omega) h (by omega)]

theorem gn_step (t : Fin cfg0.N) (h : ¬t.val % 32 = 0) (d : Fin 1024) :
    gn m c t.val t.isLt (ix2 0 d) = gn m c (t.val - 1) (Nat.lt_of_le_of_lt (Nat.sub_le _ _) t.isLt) (ix2 0 d)
      + part (gnTerm m c d) t := by
  by_cases h3 : t.val % 4 = 3
  · rw [gn_C m c t (by omega) (by omega) h h3, pay2_apply, part_pos h3 (fun r b s hb hs => ?_)]
    rw [acc_eq m c t h3 r d b s hb hs, bX_apply m c t r d b s hb hs, row_eq m c t r b s hb hs, bSc_apply m c t d b hb]
    rfl
  · rw [part_neg h3, add_zero]
    by_cases h1 : t.val % 16 = 0
    · rw [gn_E m c t (by omega) h1 h h3]
    by_cases h0 : t.val % 4 = 0
    · rw [gn_D m c t h0 h1 h h3]
    · rw [gn_B m c t h0 h1 h h3]

theorem sh_eq (t : Fin cfg0.N) (h : t.val % 16 = 15) (d : Fin 1024) (b : Fin 2) (hb : b.val = t.val / 16) :
    sh m c t.val t.isLt (ix3 0 0 d) = ∑ s : Fin 2048, shTerm m c d b s := by
  have ht := lt32 t
  have e := Pipeline.eq_sum_fin_of_reset_step_apply_of_flush (fun n h (d : Fin 1024) => sh m c n h (ix3 0 0 d)) 16
    (fun _ => 0) (fun t d => part (shTerm m c d) t) (fun t h d => sh_reset m c t h d) (fun t h d => sh_step m c t h d) t h d
  rw [e, zero_add, sum_part _ (t.val / 16) (by omega)]
  exact congrArg (fun b => ∑ s : Fin 2048, shTerm m c d b s) (Fin.ext hb.symm)

theorem scl_eq (t : Fin cfg0.N) (h : t.val % 16 = 15) (d : Fin 1024) (b : Fin 2) (hb : b.val = t.val / 16) :
    scl m c t.val t.isLt (ix3 0 0 d) = ∑ s : Fin 2048, sclTerm m c d b s := by
  have ht := lt32 t
  have e := Pipeline.eq_sum_fin_of_reset_step_apply_of_flush (fun n h (d : Fin 1024) => scl m c n h (ix3 0 0 d)) 16
    (fun _ => 0) (fun t d => part (sclTerm m c d) t) (fun t h d => scl_reset m c t h d) (fun t h d => scl_step m c t h d) t h d
  rw [e, zero_add, sum_part _ (t.val / 16) (by omega)]
  exact congrArg (fun b => ∑ s : Fin 2048, sclTerm m c d b s) (Fin.ext hb.symm)

theorem gn_eq (t : Fin cfg0.N) (h : t.val % 32 = 31) (d : Fin 1024) :
    gn m c t.val t.isLt (ix2 0 d) = ∑ b : Fin 2, ∑ s : Fin 2048, gnTerm m c d b s := by
  have ht := lt32 t
  have e := Pipeline.eq_sum_fin_of_reset_step_apply_of_flush (fun n h (d : Fin 1024) => gn m c n h (ix2 0 d)) 32
    (fun _ => 0) (fun t d => part (gnTerm m c d) t) (fun t h d => gn_reset m c t h d) (fun t h d => gn_step m c t h d) t h d
  rw [e, zero_add, Fin.sum_univ_tiles 2 16 rfl]
  refine Finset.sum_congr rfl fun b _ => ?_
  rw [← sum_part _ b.val b.isLt]
  refine Finset.sum_congr rfl fun s _ => congrArg _ (Fin.ext ?_)
  simp only
  omega

end Cert.KernelIdeal.Folds
-- ==== Proof.Arrays.lean ====
module

public import proofs.«01_k».proof.Proof.Folds

@[expose] public section

/-! What the five results of the kernel hold, entry by entry, in terms of the arguments. -/

set_option maxRecDepth 16384

noncomputable section

open Idealize.ShloMosaic Idealize.ShloMosaic.TcCoe Idealize.SL.Sem
open Cert.KernelIdeal Cert.KernelIdeal.Gen Cert.KernelIdeal.Payloads Cert.KernelIdeal.Steps Cert.KernelIdeal.Blocks
open Cert.KernelIdeal.Folds

namespace Cert.KernelIdeal.Arrays

variable (m : (ℓ : Loc nD τ sig) → Buf (Elt Ideal) ℓ) (c : Dev nD)

def dxAt (b : Fin 2) (s : Fin 2048) (d : Fin 1024) : EReal :=
  Model.dxRow (fun k => dhAt m c b s k) (fun k => aX m c (ix3 b s k)) (fun k => aG m c (ix1 k)) (fun k => aSc m c (ix3 b 0 k))
    (fun k => aDr m c (ix3 b s k)) d

def G8 : FVec Ideal S2x2048x1024 .f32 := fun i => dxAt m c (i 0) (i 1) (i 2)
def G9 : FVec Ideal S2x2048x5632 .bf16 := fun i => convAt m c (i 0) (i 1) (i 2)
def G10 : FVec Ideal S2x1x1024 .f32 := fun i => ∑ s : Fin 2048, shTerm m c (i 2) (i 0) s
def G11 : FVec Ideal S2x1x1024 .f32 := fun i => ∑ s : Fin 2048, sclTerm m c (i 2) (i 0) s
def G12 : FVec Ideal S1x1024 .f32 := fun i => ∑ b : Fin 2, ∑ s : Fin 2048, gnTerm m c (i 1) b s

theorem point8 (t : Fin cfg0.N) (h3 : t.val % 4 = 3) (y : S1x512x1024.Idx) (i : S2x2048x1024.Idx)
    (h0 : (i 0).val = t.val / 16) (h1 : (i 1).val = t.val / 4 % 4 * 512 + (y 1).val) (h2 : (i 2).val = (y 2).val) :
    (outsAt0 m c t.val t.isLt).1 y = G8 m c i := by
  rw [out8_C m c t (by omega) (by omega) (by omega) h3]
  obtain ⟨z, r, d, rfl⟩ : ∃ z r d, y = ix3 z r d := ⟨y 0, y 1, y 2, eq_ix3 y⟩
  obtain ⟨b, s, e, rfl⟩ : ∃ b s e, i = ix3 b s e := ⟨i 0, i 1, i 2, eq_ix3 i⟩
  obtain rfl : e = d := Fin.ext h2
  rw [pay3_apply]
  show _ = dxAt m c b s e
  unfold dxAt
  rw [row_eq m c t r b s h0 h1, funext fun k => acc_eq m c t h3 r k b s h0 h1, funext fun k => bG_apply m c t k,
    funext fun k => bSc_apply m c t k b h0, funext fun k => bDr_apply m c t r k b s h0 h1]

theorem point9 (t : Fin cfg0.N) (y : S1x512x1408.Idx) (i : S2x2048x5632.Idx)
    (h0 : (i 0).val = t.val / 16) (h1 : (i 1).val = t.val / 4 % 4 * 512 + (y 1).val)
    (h2 : (i 2).val = t.val % 4 * 1408 + (y 2).val) :
    (outsAt0 m c t.val t.isLt).2.1 y = G9 m c i := by
  have e : (outsAt0 m c t.val t.isLt).2.1 = k0_pay20 (F := Ideal) (k0_pay16 (bDy m c t))
      (iota .tc S512x1 32 [0] iota_S512x1_d0_w32) (k0_pay17 (grid0.coords t) (bNx m c t))
      (k0_pay18 (grid0.coords t) (bDy m c t) (bNx m c t)) 510#32 (bCw m c t) := by
    by_cases g0 : t.val % 4 = 0
    · by_cases g2 : t.val % 32 = 0
      · exact out9_A m c t g0 (by omega) g2 (by omega)
      · by_cases g1 : t.val % 16 = 0
        · exact out9_E m c t g0 g1 g2 (by omega)
        · exact out9_D m c t g0 g1 g2 (by omega)
    · by_cases g3 : t.val % 4 = 3
      · exact out9_C m c t g0 (by omega) (by omega) g3
      · exact out9_B m c t g0 (by omega) (by omega) g3
  rw [e]
  obtain ⟨z, r, k, rfl⟩ : ∃ z r k, y = ix3 z r k := ⟨y 0, y 1, y 2, eq_ix3 y⟩
  obtain ⟨b, s, K, rfl⟩ : ∃ b s K, i = ix3 b s K := ⟨i 0, i 1, i 2, eq_ix3 i⟩
  rw [pay20_apply]
  exact dpAt_eq m c t r k b s K h0 h1 h2

theorem point10 (t : Fin cfg0.N) (h : t.val % 16 = 15) (y : S1x1x1024.Idx) (i : S2x1x1024.Idx)
    (h0 : (i 0).val = t.val / 16) (h2 : (i 2).val = (y 2).val) :
    (outsAt0 m c t.val t.isLt).2.2.1 y = G10 m c i := by
  obtain ⟨z, z', d, rfl⟩ : ∃ z z' d, y = ix3 z z' d := ⟨y 0, y 1, y 2, eq_ix3 y⟩
  obtain ⟨b, z'', e, rfl⟩ : ∃ b z'' e, i = ix3 b z'' e := ⟨i 0, i 1, i 2, eq_ix3 i⟩
  obtain rfl : e = d := Fin.ext h2
  obtain rfl : z = 0 := Subsingleton.elim _ _
  obtain rfl : z' = 0 := Subsingleton.elim _ _
  exact sh_eq m c t h e b h0

theorem point11 (t : Fin cfg0.N) (h : t.val % 16 = 15) (y : S1x1x1024.Idx) (i : S2x1x1024.Idx)
    (h0 : (i 0).val = t.val / 16) (h2 : (i 2).val = (y 2).val) :
    (outsAt0 m c t.val t.isLt).2.2.2.1 y = G11 m c i := by
  obtain ⟨z, z', d, rfl⟩ : ∃ z z' d, y = ix3 z z' d := ⟨y 0, y 1, y 2, eq_ix3 y⟩
  obtain ⟨b, z'', e, rfl⟩ : ∃ b z'' e, i = ix3 b z'' e := ⟨i 0, i 1, i 2, eq_ix3 i⟩
  obtain rfl : e = d := Fin.ext h2
  obtain rfl : z = 0 := Subsingleton.elim _ _
  obtain rfl : z' = 0 := Subsingleton.elim _ _
  exact scl_eq m c t h e b h0

theorem point12 (t : Fin cfg0.N) (h : t.val % 32 = 31) (y : S1x1024.Idx) (i : S1x1024.Idx) (h1 : (i 1).val = (y 1).val) :
    (outsAt0 m c t.val t.isLt).2.2.2.2.1 y = G12 m c i := by
  obtain ⟨z, d, rfl⟩ : ∃ z d, y = ix2 z d := ⟨y 0, y 1, eq_ix2 y⟩
  obtain ⟨z', e, rfl⟩ : ∃ z' e, i = ix2 z' e := ⟨i 0, i 1, eq_ix2 i⟩
  obtain rfl : e = d := Fin.ext h1
  obtain rfl : z = 0 := Subsingleton.elim _ _
  exact gn_eq m c t h e

theorem final8 : (dats m 0 c).arrAt 8 cfg0.N = G8 m c := by
  refine (dats m 0 c).arrAt_eq_of_covers 8 (G8 m c) (by decide +kernel) fun t hf y => ?_
  have h3 := (flush0_8 t).mp hf
  blk_simp
  rw [after0_8]
  refine point8 m c t h3 y _ ?_ ?_ ?_ <;> (blk_simp [idx t] <;> try omega)

theorem final9 : (dats m 0 c).arrAt 9 cfg0.N = G9 m c := by
  refine (dats m 0 c).arrAt_eq_of_covers 9 (G9 m c) (by decide +kernel) fun t hf y => ?_
  blk_simp
  rw [after0_9]
  refine point9 m c t  y _ ?_ ?_ ?_ <;> (blk_simp [idx t] <;> try omega)

theorem final10 : (dats m 0 c).arrAt 10 cfg0.N = G10 m c := by
  refine (dats m 0 c).arrAt_eq_of_covers 10 (G10 m c) (by decide +kernel) fun t hf y => ?_
  have h3 := (flush0_10 t).mp hf
  blk_simp
  rw [after0_10]
  refine point10 m c t h3 y _ ?_ ?_ <;> (blk_simp [idx t] <;> try omega)

theorem final11 : (dats m 0 c).arrAt 11 cfg0.N = G11 m c := by
  refine (dats m 0 c).arrAt_eq_of_covers 11 (G11 m c) (by decide +kernel) fun t hf y => ?_
  have h3 := (flush0_11 t).mp hf
  blk_simp
  rw [after0_11]
  refine point11 m c t h3 y _ ?_ ?_ <;> (blk_simp [idx t] <;> try omega)

theorem final12 : (dats m 0 c).arrAt 12 cfg0.N = G12 m c := by
  refine (dats m 0 c).arrAt_eq_of_covers 12 (G12 m c) (by decide +kernel) fun t hf y => ?_
  have h3 := (flush0_12 t).mp hf
  blk_simp
  rw [after0_12]
  refine point12 m c t h3 y _ ?_ <;> (blk_simp [idx t] <;> try omega)

end Cert.KernelIdeal.Arrays
-- ==== Proof.RefValue.lean ====
/-
  What the reference computes: its five results, each read at an index. The reference is a straight line of host
  operations; its results are named here by the four tensors they go through — the gradient before the convolution
  (`convGrad`), the gradient of the modulated rows (`hidGrad`), the row variances (`varCol`) and the row statistic of the
  norm's derivative (`statCol`) — and read at an index as the formulas of `Cert.Model`.
-/
module

public import proofs.«01_k».proof.Proof.Model
public import proofs.«01_k».proof.Proof.Gen.ReferenceIdeal.Run

@[expose] public section

set_option maxRecDepth 16384

noncomputable section

open Idealize.ShloMosaic Idealize.ShloMosaic.TcCoe Idealize.SL.Sem
open Cert.ReferenceIdeal Cert.ReferenceIdeal.Gen

namespace Cert.ReferenceIdeal.Value

/-- The gradient before the convolution. -/
def convGrad (du : FVec Ideal S2x2048x5632 .bf16) (cw : FVec Ideal S3x5632 .f32) : FVec Ideal S2x2048x5632 .f32 :=
  extractStridedSlice S2x2048x5632 ![0, 2, 0] (addf (addf (pad S2x2050x5632 ![0, 2, 0] ![0, 0, 0] ![0, 0, 0] (mulf (extf .f32 du bitsLt_bf16_f32) (broadcastInDim S2x2048x5632 ![0, 1, 2] bcast_S1x1x5632_S2x2048x5632_0_1_2 (broadcastInDim S1x1x5632 ![2] bcast_S5632_S1x1x5632_2 (shapeCast _ (extractStridedSlice S1x5632 ![2, 0] cw slices_S3x5632_S1x5632_2_0) shapeCasts_S1x5632_S5632)))) (constant S_ .f32 0x00000000#32) pads_S2x2048x5632_S2x2050x5632_000_200_000 h_S_) (pad S2x2050x5632 ![0, 1, 0] ![0, 1, 0] ![0, 0, 0] (mulf (extf .f32 du bitsLt_bf16_f32) (broadcastInDim S2x2048x5632 ![0, 1, 2] bcast_S1x1x5632_S2x2048x5632_0_1_2 (broadcastInDim S1x1x5632 ![2] bcast_S5632_S1x1x5632_2 (shapeCast _ (extractStridedSlice S1x5632 ![1, 0] cw slices_S3x5632_S1x5632_1_0) shapeCasts_S1x5632_S5632)))) (constant S_ .f32 0x00000000#32) pads_S2x2048x5632_S2x2050x5632_000_110_000 h_S_)) (pad S2x2050x5632 ![0, 0, 0] ![0, 2, 0] ![0, 0, 0] (mulf (extf .f32 du bitsLt_bf16_f32) (broadcastInDim S2x2048x5632 ![0, 1, 2] bcast_S1x1x5632_S2x2048x5632_0_1_2 (broadcastInDim S1x1x5632 ![2] bcast_S5632_S1x1x5632_2 (shapeCast _ (extractStridedSlice S1x5632 ![0, 0] cw slices_S3x5632_S1x5632_0_0) shapeCasts_S1x5632_S5632)))) (constant S_ .f32 0x00000000#32) pads_S2x2048x5632_S2x2050x5632_000_020_000 h_S_)) slices_S2x2050x5632_S2x2048x5632_0_2_0

/-- The gradient of the modulated rows: `u` times the transposed weights. -/
def hidGrad (u : FVec Ideal S2x2048x5632 .f32) (w : FVec Ideal S5632x1024 .bf16) : FVec Ideal S2x2048x1024 .f32 :=
  Host.dotGeneral dot_S2x2048x5632_S1024x5632_S2x2048x1024_2_1_01_0_n_n none u (transpose S1024x5632 [1, 0] (extf .f32 w bitsLt_bf16_f32) transposes_S5632x1024_S1024x5632_1_0)

/-- The row variances plus `eps`, a column per batch. -/
def varCol (x : FVec Ideal S2x2048x1024 .f32) : FVec Ideal S2x2048x1 .f32 :=
  addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The row statistic of the norm's derivative. -/
def statCol (dh x : FVec Ideal S2x2048x1024 .f32) (g : FVec Ideal S1024 .f32) (sc : FVec Ideal S2x1x1024 .f32) : FVec Ideal S2x2048 .f32 :=
  Host.reduceAdd (Host.divf (mulf (shapeCast _ (Host.reduceAdd (mulf x (mulf (mulf dh (broadcastInDim S2x2048x1024 ![0, 1, 2] bcast_S2x1x1024_S2x2048x1024_0_1_2 (addf (broadcastInDim S2x1x1024 ![] bcast_S_S2x1x1024 (constant S_ .f32 0x3F800000#32)) sc))) (broadcastInDim S2x2048x1024 ![0, 1, 2] bcast_S1x1x1024_S2x2048x1024_0_1_2 (broadcastInDim S1x1x1024 ![2] bcast_S1024_S1x1x1024_2 g)))) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (varCol x)) (varCol x)))) (broadcastInDim S2x2048x1 ![] bcast_S_S2x2048x1 (constant S_ .f32 0x44800000#32))) (constant S_ .f32 0x00000000#32) reducesTo_S2x2048x1_S2x2048_d2 h_S_

/-- The gradient that reaches `x`. -/
def dxOut (dh x : FVec Ideal S2x2048x1024 .f32) (g : FVec Ideal S1024 .f32) (sc : FVec Ideal S2x1x1024 .f32) (dres : FVec Ideal S2x2048x1024 .f32) : FVec Ideal S2x2048x1024 .f32 :=
  addf (addf (addf dres (mulf (mulf (mulf dh (broadcastInDim S2x2048x1024 ![0, 1, 2] bcast_S2x1x1024_S2x2048x1024_0_1_2 (addf (broadcastInDim S2x1x1024 ![] bcast_S_S2x1x1024 (constant S_ .f32 0x3F800000#32)) sc))) (broadcastInDim S2x2048x1024 ![0, 1, 2] bcast_S1x1x1024_S2x2048x1024_0_1_2 (broadcastInDim S1x1x1024 ![2] bcast_S1024_S1x1x1024_2 g))) (broadcastInDim S2x2048x1024 ![0, 1, 2] bcast_S2x2048x1_S2x2048x1024_0_1_2 (Host.rsqrt (varCol x))))) (mulf x (broadcastInDim S2x2048x1024 ![0, 1] bcast_S2x2048_S2x2048x1024_0_1 (statCol dh x g sc)))) (mulf (broadcastInDim S2x2048x1024 ![0, 1] bcast_S2x2048_S2x2048x1024_0_1 (statCol dh x g sc)) x)

/-- The gradient of the shift. -/
def dshOut (dh : FVec Ideal S2x2048x1024 .f32) : FVec Ideal S2x1x1024 .f32 :=
  shapeCast _ (Host.reduceAdd dh (constant S_ .f32 0x00000000#32) reducesTo_S2x2048x1024_S2x1024_d1 h_S_) shapeCasts_S2x1024_S2x1x1024

/-- The gradient of the scale. -/
def dscOut (dh x : FVec Ideal S2x2048x1024 .f32) (g : FVec Ideal S1024 .f32) : FVec Ideal S2x1x1024 .f32 :=
  shapeCast _ (Host.reduceAdd (mulf (mulf (mulf x (broadcastInDim S2x2048x1024 ![0, 1, 2] bcast_S2x2048x1_S2x2048x1024_0_1_2 (Host.rsqrt (varCol x)))) (broadcastInDim S2x2048x1024 ![0, 1, 2] bcast_S1x1x1024_S2x2048x1024_0_1_2 (broadcastInDim S1x1x1024 ![2] bcast_S1024_S1x1x1024_2 g))) dh) (constant S_ .f32 0x00000000#32) reducesTo_S2x2048x1024_S2x1024_d1 h_S_) shapeCasts_S2x1024_S2x1x1024

/-- The gradient of the norm's weights. -/
def dgOut (dh x : FVec Ideal S2x2048x1024 .f32) (sc : FVec Ideal S2x1x1024 .f32) : FVec Ideal S1x1024 .f32 :=
  shapeCast _ (Host.reduceAdd (shapeCast _ (Host.reduceAdd (mulf (mulf x (broadcastInDim S2x2048x1024 ![0, 1, 2] bcast_S2x2048x1_S2x2048x1024_0_1_2 (Host.rsqrt (varCol x)))) (mulf dh (broadcastInDim S2x2048x1024 ![0, 1, 2] bcast_S2x1x1024_S2x2048x1024_0_1_2 (addf (broadcastInDim S2x1x1024 ![] bcast_S_S2x1x1024 (constant S_ .f32 0x3F800000#32)) sc)))) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem convGrad_apply (du : FVec Ideal S2x2048x5632 .bf16) (cw : FVec Ideal S3x5632 .f32) (b : Fin 2) (s : Fin 2048) (k : Fin 5632) :
    convGrad du cw (ix3 b s k) = Model.conv (fun s => du (ix3 b s k)) (fun a => cw (ix2 a k)) s := by
  pointwise [convGrad, Model.conv]
  refine congrArg₂ (· + ·) (congrArg₂ (· + ·) (mul_comm _ _) ?_) ?_
  · by_cases h : s.val + 1 < 2048
    · rw [dif_pos (by omega), dif_pos h, mul_comm]
      congr 4
      omega
    · rw [dif_neg (by omega), dif_neg h, mul_zero]
  · by_cases h : s.val + 2 < 2048
    · rw [dif_pos (by omega), dif_pos h, mul_comm]
      congr 4
      omega
    · rw [dif_neg (by omega), dif_neg h, mul_zero]

theorem hidGrad_apply (u : FVec Ideal S2x2048x5632 .f32) (w : FVec Ideal S5632x1024 .bf16) (b : Fin 2) (s : Fin 2048) (d : Fin 1024) :
    hidGrad u w (ix3 b s d) = ∑ k : Fin 5632, u (ix3 b s k) * w (ix2 k d) := by
  pointwise [hidGrad]

theorem varCol_apply (x : FVec Ideal S2x2048x1024 .f32) (b : Fin 2) (s : Fin 2048) (o : Fin 1) :
    varCol x (ix3 b s o) = Model.var (fun k => x (ix3 b s k)) := by
  pointwise [varCol, Model.var, Model.mean]

theorem statCol_apply (dh x : FVec Ideal S2x2048x1024 .f32) (g : FVec Ideal S1024 .f32) (sc : FVec Ideal S2x1x1024 .f32) (b : Fin 2) (s : Fin 2048) :
    statCol dh x g sc (ix2 b s) = Ideal.div ((∑ k : Fin 1024, x (ix3 b s k) * (dh (ix3 b s k) * (1 + sc (ix3 b 0 k)) * g (ix1 k)))
      * (Ideal.ofBits .f32 0xBF000000#32 * Ideal.div (Model.rstd fun k => x (ix3 b s k)) (Model.var fun k => x (ix3 b s k))))
      (Ideal.ofBits .f32 0x44800000#32) := by
  pointwise [statCol, varCol_apply, Model.rstd]
  exact Fin.sum_univ_one _

theorem dxOut_apply (dh x : FVec Ideal S2x2048x1024 .f32) (g : FVec Ideal S1024 .f32) (sc : FVec Ideal S2x1x1024 .f32) (dres : FVec Ideal S2x2048x1024 .f32) (b : Fin 2) (s : Fin 2048) (d : Fin 1024) :
    dxOut dh x g sc dres (ix3 b s d) = Model.dxRow (fun k => dh (ix3 b s k)) (fun k => x (ix3 b s k)) (fun k => g (ix1 k))
      (fun k => sc (ix3 b 0 k)) (fun k => dres (ix3 b s k)) d := by
  refine Eq.trans ?_ (Model.dx_eq _ _ _ _ _ _ _ (statCol_apply dh x g sc b s))
  pointwise [dxOut, varCol_apply, Model.rstd]

theorem dshOut_apply (dh : FVec Ideal S2x2048x1024 .f32) (b : Fin 2) (d : Fin 1024) :
    dshOut dh (ix3 b 0 d) = ∑ s : Fin 2048, dh (ix3 b s d) := by
  pointwise [dshOut]

theorem dscOut_apply (dh x : FVec Ideal S2x2048x1024 .f32) (g : FVec Ideal S1024 .f32) (b : Fin 2) (d : Fin 1024) :
    dscOut dh x g (ix3 b 0 d) = ∑ s : Fin 2048, dh (ix3 b s d) * (x (ix3 b s d) * Model.rstd fun k => x (ix3 b s k)) * g (ix1 d) := by
  pointwise! [dscOut, varCol_apply, Model.rstd]

theorem dgOut_apply (dh x : FVec Ideal S2x2048x1024 .f32) (sc : FVec Ideal S2x1x1024 .f32) (d : Fin 1024) :
    dgOut dh x sc (ix2 0 d) = ∑ b : Fin 2, ∑ s : Fin 2048, dh (ix3 b s d) * (x (ix3 b s d) * Model.rstd fun k => x (ix3 b s k)) * (1 + sc (ix3 b 0 d)) := by
  pointwise [dgOut]
  rw [Model.hostReduceAdd_01, zero_add, Fin.sum_univ_one, Fin.sum_univ_one]
  pointwise
  rw [Model.hostReduceAdd_01, zero_add]
  pointwise! [varCol_apply, Model.rstd]

end Cert.ReferenceIdeal.Value
-- ==== Proof.Equation.lean ====
module

public import proofs.«01_k».proof.Proof.Arrays
public import proofs.«01_k».proof.Proof.RefValue

@[expose] public section

/-! The reference's results over the kernel's arguments are the arrays the kernel leaves. -/

set_option maxRecDepth 16384

noncomputable section

open Idealize.ShloMosaic Idealize.ShloMosaic.TcCoe Idealize.SL.Sem
open Cert.KernelIdeal Cert.KernelIdeal.Gen Cert.KernelIdeal.Blocks Cert.KernelIdeal.Folds Cert.KernelIdeal.Arrays
open Cert.ReferenceIdeal.Value

namespace Cert.KernelIdeal.Equation

variable (m : (ℓ : Loc nD τ sig) → Buf (Elt Ideal) ℓ) (c : Dev nD)

/-- The reference's two first tensors over the kernel's arguments. -/
abbrev rConv : FVec Ideal S2x2048x5632 .f32 := convGrad (aDu m c) (aCw m c)
abbrev rHid : FVec Ideal S2x2048x1024 .f32 := hidGrad (rConv m c) (aW m c)

theorem rConv_apply (b : Fin 2) (s : Fin 2048) (k : Fin 5632) : rConv m c (ix3 b s k) = convAt m c b s k :=
  convGrad_apply _ _ _ _ _

theorem rHid_apply (b : Fin 2) (s : Fin 2048) (d : Fin 1024) : rHid m c (ix3 b s d) = dhAt m c b s d := by
  unfold rHid dhAt
  rw [hidGrad_apply]
  exact Finset.sum_congr rfl fun k _ => by rw [rConv_apply]

theorem eq8 : dxOut (rHid m c) (aX m c) (aG m c) (aSc m c) (aDr m c) = G8 m c := by
  funext i
  obtain ⟨b, s, d, rfl⟩ : ∃ (b : Fin 2) (s : Fin 2048) (d : Fin 1024), i = ix3 b s d := ⟨i 0, i 1, i 2, eq_ix3 i⟩
  rw [dxOut_apply]
  show _ = dxAt m c b s d
  unfold dxAt
  rw [funext fun k => rHid_apply m c b s k]

theorem eq9 : truncf .bf16 (rConv m c) Cert.ReferenceIdeal.Gen.facts.bitsLt_bf16_f32 = G9 m c := by
  funext i
  obtain ⟨b, s, k, rfl⟩ : ∃ (b : Fin 2) (s : Fin 2048) (k : Fin 5632), i = ix3 b s k := ⟨i 0, i 1, i 2, eq_ix3 i⟩
  exact rConv_apply m c b s k

theorem eq10 : dshOut (rHid m c) = G10 m c := by
  funext i
  obtain ⟨b, z, d, rfl⟩ : ∃ (b : Fin 2) (z : Fin 1) (d : Fin 1024), i = ix3 b z d := ⟨i 0, i 1, i 2, eq_ix3 i⟩
  obtain rfl : z = 0 := Subsingleton.elim _ _
  rw [dshOut_apply]
  exact Finset.sum_congr rfl fun s _ => rHid_apply m c b s d

theorem eq11 : dscOut (rHid m c) (aX m c) (aG m c) = G11 m c := by
  funext i
  obtain ⟨b, z, d, rfl⟩ : ∃ (b : Fin 2) (z : Fin 1) (d : Fin 1024), i = ix3 b z d := ⟨i 0, i 1, i 2, eq_ix3 i⟩
  obtain rfl : z = 0 := Subsingleton.elim _ _
  rw [dscOut_apply]
  exact Finset.sum_congr rfl fun s _ => by rw [rHid_apply]; rfl

theorem eq12 : dgOut (rHid m c) (aX m c) (aSc m c) = G12 m c := by
  funext i
  obtain ⟨z, d, rfl⟩ : ∃ (z : Fin 1) (d : Fin 1024), i = ix2 z d := ⟨i 0, i 1, eq_ix2 i⟩
  obtain rfl : z = 0 := Subsingleton.elim _ _
  rw [dgOut_apply]
  exact Finset.sum_congr rfl fun b _ => Finset.sum_congr rfl fun s _ => by rw [rHid_apply]; rfl

end Cert.KernelIdeal.Equation
-- ==== Proof.RefRun.lean ====
module

public import proofs.«01_k».proof.Proof.RefValue

@[expose] public section

/-! The reference's run, its results named. -/

set_option maxRecDepth 16384

noncomputable section

open Idealize.ShloMosaic Idealize.ShloMosaic.TcCoe Idealize.SL.Sem
open Cert.ReferenceIdeal Cert.ReferenceIdeal.Gen

namespace Cert.ReferenceIdeal.Value

theorem run_named (m : (ℓ : Loc nD τ sig) → Buf (Elt Ideal) ℓ) (ρ : Dev nD → PrngReg)
    (du : Dev nD → FVec Ideal S2x2048x5632 .bf16) (w : Dev nD → FVec Ideal S5632x1024 .bf16)
    (x : Dev nD → FVec Ideal S2x2048x1024 .f32) (g : Dev nD → FVec Ideal S1024 .f32)
    (sc : Dev nD → FVec Ideal S2x1x1024 .f32) (dr : Dev nD → FVec Ideal S2x2048x1024 .f32)
    (cw : Dev nD → FVec Ideal S3x5632 .f32)
    (h0 : ∀ c : Dev nD, m ((c.tc : Thread nD τ).loc main_arg0) = du c)
    (h1 : ∀ c : Dev nD, m ((c.tc : Thread nD τ).loc main_arg1) = w c)
    (h2 : ∀ c : Dev nD, m ((c.tc : Thread nD τ).loc main_arg2) = x c)
    (h3 : ∀ c : Dev nD, m ((c.tc : Thread nD τ).loc main_arg3) = g c)
    (h4 : ∀ c : Dev nD, m ((c.tc : Thread nD τ).loc main_arg4) = sc c)
    (h5 : ∀ c : Dev nD, m ((c.tc : Thread nD τ).loc main_arg5) = dr c)
    (h6 : ∀ c : Dev nD, m ((c.tc : Thread nD τ).loc main_arg6) = cw c) :
    θ_run defs (onTc (τ := τ) (main (F := Ideal))) ⟨m, fun _ => 0, ρ⟩ fun r => ∀ c : Dev nD,
      r.2.mem ((c.tc : Thread nD τ).loc main_v96) = dxOut (hidGrad (convGrad (du c) (cw c)) (w c)) (x c) (g c) (sc c) (dr c)
      ∧ r.2.mem ((c.tc : Thread nD τ).loc main_v97) = truncf .bf16 (convGrad (du c) (cw c)) bitsLt_bf16_f32
      ∧ r.2.mem ((c.tc : Thread nD τ).loc main_v70) = dshOut (hidGrad (convGrad (du c) (cw c)) (w c))
      ∧ r.2.mem ((c.tc : Thread nD τ).loc main_v73) = dscOut (hidGrad (convGrad (du c) (cw c)) (w c)) (x c) (g c)
      ∧ r.2.mem ((c.tc : Thread nD τ).loc main_v98) = dgOut (hidGrad (convGrad (du c) (cw c)) (w c)) (x c) (sc c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  obtain rfl := funext h0
  obtain rfl := funext h1
  obtain rfl := funext h2
  obtain rfl := funext h3
  obtain rfl := funext h4
  obtain rfl := funext h5
  obtain rfl := funext h6
  exact (θ_run defs _ _).mono (fun r h c => ⟨(h c).1, (h c).2⟩) (run m ρ)

end Cert.ReferenceIdeal.Value
-- ==== Proof.Algebraic.lean ====
module

public import proofs.«01_k».proof.Defs
public import proofs.«01_k».proof.Proof.Equation
public import proofs.«01_k».proof.Proof.RefRun
public import Idealize.ShloMosaic.Lib.Claim

@[expose] public section

/-! The two programs' runs side by side. -/

set_option maxRecDepth 16384

noncomputable section

open Idealize.ShloMosaic Idealize.ShloMosaic.TcCoe Idealize.SL.Sem
open Cert.KernelIdeal.Blocks Cert.KernelIdeal.Equation

namespace Cert.Proof

open Cert.KernelIdeal.Arrays

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => G8 m c, fun c => G9 m c, fun c => G10 m c, fun c => G11 m c, fun c => G12 m c, ?_, ?_⟩
  · refine (θ_run _ _ _).mono (fun r h c => ?_) (Cert.KernelIdeal.Value.run_blocks m g)
    obtain ⟨h8, h9, h10, h11, h12, hk⟩ := h c
    exact ⟨h8.trans (final8 m c), h9.trans (final9 m c), h10.trans (final10 m c), h11.trans (final11 m c),
      h12.trans (final12 m c), hk⟩
  · refine (θ_run _ _ _).mono (fun r h c => ?_) (Cert.ReferenceIdeal.Value.run_named m' g' (aDu m) (aW m) (aX m) (aG m) (aSc m)
      (aDr m) (aCw m) (fun c => (hagree c).1) (fun c => (hagree c).2.1) (fun c => (hagree c).2.2.1)
      (fun c => (hagree c).2.2.2.1) (fun c => (hagree c).2.2.2.2.1) (fun c => (hagree c).2.2.2.2.2.1)
      (fun c => (hagree c).2.2.2.2.2.2))
    obtain ⟨h8, h9, h10, h11, h12, hk⟩ := h c
    exact ⟨h8.trans (eq8 m c), h9.trans (eq9 m c), h10.trans (eq10 m c), h11.trans (eq11 m c), h12.trans (eq12 m c), hk⟩

end Cert.Proof
-- ==== Proof.WGradModel.lean ====
module

public import Idealize.ShloMosaic.Lib.Pointwise

@[expose] public section

/-! Sums over the rows of both sequences: as two nested sums, and as four blocks of 1024 rows. -/

noncomputable section

open Idealize.ShloMosaic

namespace Cert.Model

/-- The sequence that row block `q` belongs to. -/
def seqOf (q : Fin 4) : Fin 2 := ⟨q.val / 2, by omega⟩

/-- Row `r` of block `q`, counted within its sequence. -/
def rowOf (q : Fin 4) (r : Fin 1024) : Fin 2048 := ⟨q.val % 2 * 1024 + r.val, by omega⟩

/-- Four blocks of rows are the rows of both sequences. -/
theorem sum_rows (f : Fin 2 → Fin 2048 → EReal) :
    ∑ q : Fin 4, ∑ r : Fin 1024, f (seqOf q) (rowOf q r) = ∑ b : Fin 2, ∑ s : Fin 2048, f b s := by
  rw [Fin.sum_univ_tiles 2 2 rfl]
  refine Finset.sum_congr rfl fun b _ => ?_
  rw [Fin.sum_univ_tiles 2 1024 rfl]
  refine Finset.sum_congr rfl fun i _ => Finset.sum_congr rfl fun r _ => ?_
  have hb := b.isLt
  have hi := i.isLt
  congr 1
  · ext; simp only [seqOf]; omega
  · ext; simp only [rowOf]; omega

end Cert.Model
-- ==== Proof.WGrad2.lean ====
module

public import proofs.«01_k».proof.Proof.WGradModel
public import proofs.«01_k».proof.Proof.Gen.Kernel2Ideal.Value
public import Idealize.ShloMosaic.Lib.Pipeline.ValueKit

@[expose] public section

/-! The weight gradient of program 2: what the array the kernel leaves holds, the sum over every row of both sequences. Point `t` of the
grid adds the product of row block `t % 4` to result tile `t / 4`. -/

set_option maxRecDepth 16384

noncomputable section

open Idealize.ShloMosaic Idealize.ShloMosaic.TcCoe Idealize.SL.Sem
open Cert.Kernel2Ideal Cert.Kernel2Ideal.Gen Cert.Kernel2Ideal.Value

namespace Cert.Kernel2Ideal.WGrad

variable (m : (ℓ : Loc nD τ sig) → Buf (Elt Ideal) ℓ) (c : Dev nD)

/-- The two arguments as arrays. -/
def aX : FVec Ideal S2x2048x5632 .bf16 := m ((c : Thread nD τ).loc main_arg0)
def aY : FVec Ideal S2x2048x1024 .bf16 := m ((c : Thread nD τ).loc main_arg1)

/-- The blocks of the two operands at a point. -/
def bX (t : Fin cfg0.N) : FVec Ideal S1024x1408 .bf16 := iblk m c 0 t
def bY (t : Fin cfg0.N) : FVec Ideal S1024x1024 .bf16 := iblk m c 1 t

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem pay1_apply (i : Fin 1408) (j : Fin 1024) : k0_pay1 (F := Ideal) (ix2 i j) = 0 := by
  pointwise [k0_pay1]

theorem pay2_apply (a : FVec Ideal S1408x1024 .f32) (x : FVec Ideal S1024x1408 .bf16) (y : FVec Ideal S1024x1024 .bf16)
    (i : Fin 1408) (j : Fin 1024) :
    k0_pay2 (F := Ideal) a x y (ix2 i j) = a (ix2 i j) + ∑ r : Fin 1024, x (ix2 r i) * y (ix2 r j) := by
  pointwise [k0_pay2]

theorem bX_apply (t : Fin cfg0.N) (r : Fin 1024) (k : Fin 1408) (b : Fin 2) (s : Fin 2048) (i : Fin 5632)
    (hr : t.val % 4 * 1024 + r.val = b.val * 2048 + s.val) (hi : i.val = t.val / 4 * 1408 + k.val) :
    bX m c t (ix2 r k) = aX m c (ix3 b s i) := by
  have hb := b.isLt
  have hs := s.isLt
  have h : bX m c t (ix2 r k) = V m c main_v0 (ix2 ⟨b.val * 2048 + s.val, by omega⟩ i) := by
    unfold bX
    blk_ext [iblk, idx t]
  rw [h]
  unfold aX
  entry_read
  pointwise

theorem bY_apply (t : Fin cfg0.N) (r : Fin 1024) (j : Fin 1024) (b : Fin 2) (s : Fin 2048)
    (hr : t.val % 4 * 1024 + r.val = b.val * 2048 + s.val) :
    bY m c t (ix2 r j) = aY m c (ix3 b s j) := by
  have hb := b.isLt
  have hs := s.isLt
  have h : bY m c t (ix2 r j) = V m c main_v1 (ix2 ⟨b.val * 2048 + s.val, by omega⟩ j) := by
    unfold bY
    blk_ext [iblk, idx t]
  rw [h]
  unfold aY
  entry_read
  pointwise

theorem reset (t : Fin cfg0.N) (h : t.val % 4 = 0) (i : Fin 1408) (j : Fin 1024) :
    outsAt0 m c t.val t.isLt (ix2 i j) = 0 + ∑ r : Fin 1024, bX m c t (ix2 r i) * bY m c t (ix2 r j) := by
  rw [outsAt0_A m c t h, out_A_2_eq, pay2_apply, pay1_apply]
  rfl

theorem step (t : Fin cfg0.N) (h : ¬t.val % 4 = 0) (i : Fin 1408) (j : Fin 1024) :
    outsAt0 m c t.val t.isLt (ix2 i j) = outsAt0 m c (t.val - 1) (Nat.lt_of_le_of_lt (Nat.sub_le _ _) t.isLt) (ix2 i j)
      + ∑ r : Fin 1024, bX m c t (ix2 r i) * bY m c t (ix2 r j) := by
  rw [outsAt0_B m c t h, out_B_2_eq, pay2_apply]
  rfl

/-- An entry of the result: the sum over both sequences and all their rows. -/
def gAt (c : Dev nD) (i : Fin 5632) (j : Fin 1024) : EReal :=
  ∑ b : Fin 2, ∑ s : Fin 2048, aX m c (ix3 b s i) * aY m c (ix3 b s j)

/-- The result as an array. -/
def G (c : Dev nD) : FVec Ideal S5632x1024 .f32 := fun i => gAt m c (i 0) (i 1)

theorem last (t : Fin cfg0.N) (h : t.val % 4 = 3) (k : Fin 1408) (j : Fin 1024) (i : Fin 5632) (hi : i.val = t.val / 4 * 1408 + k.val) :
    outsAt0 m c t.val t.isLt (ix2 k j) = G m c (ix2 i j) := by
  have ht : t.val < 16 := lt_of_lt_of_eq t.isLt N_0
  have e := Pipeline.eq_sum_fin_of_reset_step_apply_of_flush (fun n h (i : Fin 1408 × Fin 1024) => outsAt0 m c n h (ix2 i.1 i.2)) 4
    (fun _ => 0) (fun t i => ∑ r : Fin 1024, bX m c t (ix2 r i.1) * bY m c t (ix2 r i.2))
    (fun t h i => reset m c t h i.1 i.2) (fun t h i => step m c t h i.1 i.2) t h (k, j)
  simp only at e
  rw [e, zero_add]
  show _ = gAt m c i j
  unfold gAt
  rw [← Model.sum_rows (fun b s => aX m c (ix3 b s i) * aY m c (ix3 b s j))]
  refine Finset.sum_congr rfl fun q _ => Finset.sum_congr rfl fun r _ => ?_
  have hq := q.isLt
  have hr := r.isLt
  rw [bX_apply m c ⟨4 * (t.val / 4) + q.val, _⟩ r k (Model.seqOf q) (Model.rowOf q r) i
      (by simp only [Model.seqOf, Model.rowOf]; omega) (by simp only; omega),
    bY_apply m c ⟨4 * (t.val / 4) + q.val, _⟩ r j (Model.seqOf q) (Model.rowOf q r)
      (by simp only [Model.seqOf, Model.rowOf]; omega)]

/-- The array after the run. -/
theorem final (c : Dev nD) : (dats m 0 c).arrAt 2 cfg0.N = G m c := by
  refine (dats m 0 c).arrAt_eq_of_covers 2 (G m c) (by decide +kernel) fun t hf y => ?_
  have h3 := (flush0_2 t).mp hf
  blk_simp
  rw [after0_2]
  obtain ⟨k, j, rfl⟩ : ∃ k j, y = ix2 k j := ⟨y 0, y 1, eq_ix2 y⟩
  have ht : t.val < 16 := lt_of_lt_of_eq t.isLt N_0
  have hk : k.val < 1408 := k.isLt
  refine (last m c t h3 k j ⟨t.val / 4 * 1408 + k.val, by omega⟩ rfl).trans (congrArg (G m c) ?_)
  blk_ext [idx t]

end Cert.Kernel2Ideal.WGrad
-- ==== Proof.WGradEq2.lean ====
module

public import proofs.«01_k».proof.Defs
public import proofs.«01_k».proof.Proof.WGrad2
public import proofs.«01_k».proof.Proof.Gen.Kernel2.Frame
public import proofs.«01_k».proof.Proof.Gen.Reference2Ideal.Run
public import Idealize.ShloMosaic.Lib.Claim
public import Idealize.ShloMosaic.Lib.Quiescent

@[expose] public section

/-! The weight gradient of program 2: the reference's contraction over sequences and rows is the array the kernel leaves. -/

set_option maxRecDepth 16384

noncomputable section

open Idealize.ShloMosaic Idealize.ShloMosaic.TcCoe Idealize.SL.Sem
open Cert.Reference2Ideal Cert.Reference2Ideal.Gen

namespace Cert.Reference2Ideal.WGrad

/-- The reference's contraction at an entry. -/
theorem dot_apply (x : FVec Ideal S2x2048x5632 .bf16) (y : FVec Ideal S2x2048x1024 .bf16) (i : Fin 5632) (j : Fin 1024) :
    transpose S5632x1024 [1, 0] (transpose S1024x5632 [1, 0] (Host.dotGeneral dot_S2x2048x5632_S2x2048x1024_S5632x1024_01_01_2_2_n_n none
      (extf (F := Ideal) .f32 x bitsLt_bf16_f32) (extf .f32 y bitsLt_bf16_f32)) transposes_S5632x1024_S1024x5632_1_0) transposes_S1024x5632_S5632x1024_1_0 (ix2 i j)
      = ∑ b : Fin 2, ∑ s : Fin 2048, x (ix3 b s i) * y (ix3 b s j) := by
  pointwise

theorem dot_eq (m : (ℓ : Loc Cert.Kernel2Ideal.nD Cert.Kernel2Ideal.τ Cert.Kernel2Ideal.sig) → Buf (Elt Ideal) ℓ)
    (c : Dev Cert.Kernel2Ideal.nD) (x : FVec Ideal S2x2048x5632 .bf16) (y : FVec Ideal S2x2048x1024 .bf16)
    (hx : x = Cert.Kernel2Ideal.WGrad.aX m c) (hy : y = Cert.Kernel2Ideal.WGrad.aY m c) :
    transpose S5632x1024 [1, 0] (transpose S1024x5632 [1, 0] (Host.dotGeneral dot_S2x2048x5632_S2x2048x1024_S5632x1024_01_01_2_2_n_n none
      (extf (F := Ideal) .f32 x bitsLt_bf16_f32) (extf .f32 y bitsLt_bf16_f32)) transposes_S5632x1024_S1024x5632_1_0) transposes_S1024x5632_S5632x1024_1_0
      = Cert.Kernel2Ideal.WGrad.G m c := by
  subst hx hy
  funext i
  obtain ⟨k, j, rfl⟩ : ∃ k j, i = ix2 k j := ⟨i 0, i 1, eq_ix2 i⟩
  exact dot_apply _ _ k j

theorem frame : Cert.quiescent_Reference2Ideal (hReference2Ideal := Cert.Reference2Ideal.Gen.facts) := by
  intro m ρ _
  exact (θ_run Cert.Reference2Ideal.defs _ _).mono
    (fun r h => ⟨fun c => (h c).2, sem_eq_zero_of_no_sems (by decide) r.2⟩) (Cert.Reference2Ideal.Value.run m ρ)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.WGrad.G m c, ?_, ?_⟩
  · refine (θ_run _ _ _).mono (fun r h c => ?_) (Cert.Kernel2Ideal.Value.run_blocks m g)
    exact ⟨(h c).1.trans (Cert.Kernel2Ideal.WGrad.final m c), (h c).2⟩
  · refine (θ_run _ _ _).mono (fun r h c => ?_) (Cert.Reference2Ideal.Value.run m' g')
    obtain ⟨h0, hk⟩ := h c
    obtain ⟨a0, a1⟩ := hagree c
    refine ⟨h0.trans (dot_eq m c _ _ ?_ ?_), hk⟩
    · exact a0
    · exact a1

end Cert.Reference2Ideal.WGrad
-- ==== Proof.WGrad3.lean ====
module

public import proofs.«01_k».proof.Proof.WGradModel
public import proofs.«01_k».proof.Proof.Gen.Kernel3Ideal.Value
public import Idealize.ShloMosaic.Lib.Pipeline.ValueKit

@[expose] public section

/-! The weight gradient of program 3: what the array the kernel leaves holds, the sum over every row of both sequences. Point `t` of the
grid adds the product of row block `t % 4` to result tile `t / 4`. -/

set_option maxRecDepth 16384

noncomputable section

open Idealize.ShloMosaic Idealize.ShloMosaic.TcCoe Idealize.SL.Sem
open Cert.Kernel3Ideal Cert.Kernel3Ideal.Gen Cert.Kernel3Ideal.Value

namespace Cert.Kernel3Ideal.WGrad

variable (m : (ℓ : Loc nD τ sig) → Buf (Elt Ideal) ℓ) (c : Dev nD)

/-- The two arguments as arrays. -/
def aX : FVec Ideal S2x2048x2816 .bf16 := m ((c : Thread nD τ).loc main_arg0)
def aY : FVec Ideal S2x2048x1024 .bf16 := m ((c : Thread nD τ).loc main_arg1)

/-- The blocks of the two operands at a point. -/
def bX (t : Fin cfg0.N) : FVec Ideal S1024x1408 .bf16 := iblk m c 0 t
def bY (t : Fin cfg0.N) : FVec Ideal S1024x1024 .bf16 := iblk m c 1 t

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem pay1_apply (i : Fin 1408) (j : Fin 1024) : k0_pay1 (F := Ideal) (ix2 i j) = 0 := by
  pointwise [k0_pay1]

theorem pay2_apply (a : FVec Ideal S1408x1024 .f32) (x : FVec Ideal S1024x1408 .bf16) (y : FVec Ideal S1024x1024 .bf16)
    (i : Fin 1408) (j : Fin 1024) :
    k0_pay2 (F := Ideal) a x y (ix2 i j) = a (ix2 i j) + ∑ r : Fin 1024, x (ix2 r i) * y (ix2 r j) := by
  pointwise [k0_pay2]

theorem bX_apply (t : Fin cfg0.N) (r : Fin 1024) (k : Fin 1408) (b : Fin 2) (s : Fin 2048) (i : Fin 2816)
    (hr : t.val % 4 * 1024 + r.val = b.val * 2048 + s.val) (hi : i.val = t.val / 4 * 1408 + k.val) :
    bX m c t (ix2 r k) = aX m c (ix3 b s i) := by
  have hb := b.isLt
  have hs := s.isLt
  have h : bX m c t (ix2 r k) = V m c main_v0 (ix2 ⟨b.val * 2048 + s.val, by omega⟩ i) := by
    unfold bX
    blk_ext [iblk, idx t]
  rw [h]
  unfold aX
  entry_read
  pointwise

theorem bY_apply (t : Fin cfg0.N) (r : Fin 1024) (j : Fin 1024) (b : Fin 2) (s : Fin 2048)
    (hr : t.val % 4 * 1024 + r.val = b.val * 2048 + s.val) :
    bY m c t (ix2 r j) = aY m c (ix3 b s j) := by
  have hb := b.isLt
  have hs := s.isLt
  have h : bY m c t (ix2 r j) = V m c main_v1 (ix2 ⟨b.val * 2048 + s.val, by omega⟩ j) := by
    unfold bY
    blk_ext [iblk, idx t]
  rw [h]
  unfold aY
  entry_read
  pointwise

theorem reset (t : Fin cfg0.N) (h : t.val % 4 = 0) (i : Fin 1408) (j : Fin 1024) :
    outsAt0 m c t.val t.isLt (ix2 i j) = 0 + ∑ r : Fin 1024, bX m c t (ix2 r i) * bY m c t (ix2 r j) := by
  rw [outsAt0_A m c t h, out_A_2_eq, pay2_apply, pay1_apply]
  rfl

theorem step (t : Fin cfg0.N) (h : ¬t.val % 4 = 0) (i : Fin 1408) (j : Fin 1024) :
    outsAt0 m c t.val t.isLt (ix2 i j) = outsAt0 m c (t.val - 1) (Nat.lt_of_le_of_lt (Nat.sub_le _ _) t.isLt) (ix2 i j)
      + ∑ r : Fin 1024, bX m c t (ix2 r i) * bY m c t (ix2 r j) := by
  rw [outsAt0_B m c t h, out_B_2_eq, pay2_apply]
  rfl

/-- An entry of the result: the sum over both sequences and all their rows. -/
def gAt (c : Dev nD) (i : Fin 2816) (j : Fin 1024) : EReal :=
  ∑ b : Fin 2, ∑ s : Fin 2048, aX m c (ix3 b s i) * aY m c (ix3 b s j)

/-- The result as an array. -/
def G (c : Dev nD) : FVec Ideal S2816x1024 .f32 := fun i => gAt m c (i 0) (i 1)

theorem last (t : Fin cfg0.N) (h : t.val % 4 = 3) (k : Fin 1408) (j : Fin 1024) (i : Fin 2816) (hi : i.val = t.val / 4 * 1408 + k.val) :
    outsAt0 m c t.val t.isLt (ix2 k j) = G m c (ix2 i j) := by
  have ht : t.val < 8 := lt_of_lt_of_eq t.isLt N_0
  have e := Pipeline.eq_sum_fin_of_reset_step_apply_of_flush (fun n h (i : Fin 1408 × Fin 1024) => outsAt0 m c n h (ix2 i.1 i.2)) 4
    (fun _ => 0) (fun t i => ∑ r : Fin 1024, bX m c t (ix2 r i.1) * bY m c t (ix2 r i.2))
    (fun t h i => reset m c t h i.1 i.2) (fun t h i => step m c t h i.1 i.2) t h (k, j)
  simp only at e
  rw [e, zero_add]
  show _ = gAt m c i j
  unfold gAt
  rw [← Model.sum_rows (fun b s => aX m c (ix3 b s i) * aY m c (ix3 b s j))]
  refine Finset.sum_congr rfl fun q _ => Finset.sum_congr rfl fun r _ => ?_
  have hq := q.isLt
  have hr := r.isLt
  rw [bX_apply m c ⟨4 * (t.val / 4) + q.val, _⟩ r k (Model.seqOf q) (Model.rowOf q r) i
      (by simp only [Model.seqOf, Model.rowOf]; omega) (by simp only; omega),
    bY_apply m c ⟨4 * (t.val / 4) + q.val, _⟩ r j (Model.seqOf q) (Model.rowOf q r)
      (by simp only [Model.seqOf, Model.rowOf]; omega)]

/-- The array after the run. -/
theorem final (c : Dev nD) : (dats m 0 c).arrAt 2 cfg0.N = G m c := by
  refine (dats m 0 c).arrAt_eq_of_covers 2 (G m c) (by decide +kernel) fun t hf y => ?_
  have h3 := (flush0_2 t).mp hf
  blk_simp
  rw [after0_2]
  obtain ⟨k, j, rfl⟩ : ∃ k j, y = ix2 k j := ⟨y 0, y 1, eq_ix2 y⟩
  have ht : t.val < 8 := lt_of_lt_of_eq t.isLt N_0
  have hk : k.val < 1408 := k.isLt
  refine (last m c t h3 k j ⟨t.val / 4 * 1408 + k.val, by omega⟩ rfl).trans (congrArg (G m c) ?_)
  blk_ext [idx t]

end Cert.Kernel3Ideal.WGrad
-- ==== Proof.WGradEq3.lean ====
module

public import proofs.«01_k».proof.Defs
public import proofs.«01_k».proof.Proof.WGrad3
public import proofs.«01_k».proof.Proof.Gen.Kernel3.Frame
public import proofs.«01_k».proof.Proof.Gen.Reference3Ideal.Run
public import Idealize.ShloMosaic.Lib.Claim
public import Idealize.ShloMosaic.Lib.Quiescent

@[expose] public section

/-! The weight gradient of program 3: the reference's contraction over sequences and rows is the array the kernel leaves. -/

set_option maxRecDepth 16384

noncomputable section

open Idealize.ShloMosaic Idealize.ShloMosaic.TcCoe Idealize.SL.Sem
open Cert.Reference3Ideal Cert.Reference3Ideal.Gen

namespace Cert.Reference3Ideal.WGrad

/-- The reference's contraction at an entry. -/
theorem dot_apply (x : FVec Ideal S2x2048x2816 .bf16) (y : FVec Ideal S2x2048x1024 .bf16) (i : Fin 2816) (j : Fin 1024) :
    transpose S2816x1024 [1, 0] (Host.dotGeneral dot_S2x2048x1024_S2x2048x2816_S1024x2816_01_01_2_2_n_n none
      (extf (F := Ideal) .f32 y bitsLt_bf16_f32) (extf .f32 x bitsLt_bf16_f32)) transposes_S1024x2816_S2816x1024_1_0 (ix2 i j)
      = ∑ b : Fin 2, ∑ s : Fin 2048, x (ix3 b s i) * y (ix3 b s j) := by
  pointwise
  exact Finset.sum_congr rfl fun b _ => Finset.sum_congr rfl fun s _ => mul_comm _ _

theorem dot_eq (m : (ℓ : Loc Cert.Kernel3Ideal.nD Cert.Kernel3Ideal.τ Cert.Kernel3Ideal.sig) → Buf (Elt Ideal) ℓ)
    (c : Dev Cert.Kernel3Ideal.nD) (x : FVec Ideal S2x2048x2816 .bf16) (y : FVec Ideal S2x2048x1024 .bf16)
    (hx : x = Cert.Kernel3Ideal.WGrad.aX m c) (hy : y = Cert.Kernel3Ideal.WGrad.aY m c) :
    transpose S2816x1024 [1, 0] (Host.dotGeneral dot_S2x2048x1024_S2x2048x2816_S1024x2816_01_01_2_2_n_n none
      (extf (F := Ideal) .f32 y bitsLt_bf16_f32) (extf .f32 x bitsLt_bf16_f32)) transposes_S1024x2816_S2816x1024_1_0
      = Cert.Kernel3Ideal.WGrad.G m c := by
  subst hx hy
  funext i
  obtain ⟨k, j, rfl⟩ : ∃ k j, i = ix2 k j := ⟨i 0, i 1, eq_ix2 i⟩
  exact dot_apply _ _ k j

theorem frame : Cert.quiescent_Reference3Ideal (hReference3Ideal := Cert.Reference3Ideal.Gen.facts) := by
  intro m ρ _
  exact (θ_run Cert.Reference3Ideal.defs _ _).mono
    (fun r h => ⟨fun c => (h c).2, sem_eq_zero_of_no_sems (by decide) r.2⟩) (Cert.Reference3Ideal.Value.run m ρ)

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.WGrad.G m c, ?_, ?_⟩
  · refine (θ_run _ _ _).mono (fun r h c => ?_) (Cert.Kernel3Ideal.Value.run_blocks m g)
    exact ⟨(h c).1.trans (Cert.Kernel3Ideal.WGrad.final m c), (h c).2⟩
  · refine (θ_run _ _ _).mono (fun r h c => ?_) (Cert.Reference3Ideal.Value.run m' g')
    obtain ⟨h0, hk⟩ := h c
    obtain ⟨a0, a1⟩ := hagree c
    refine ⟨h0.trans (dot_eq m c _ _ ?_ ?_), hk⟩
    · exact a0
    · exact a1

end Cert.Reference3Ideal.WGrad
-- ==== Proof.WGrad4.lean ====
module

public import proofs.«01_k».proof.Proof.WGradModel
public import proofs.«01_k».proof.Proof.Gen.Kernel4Ideal.Value
public import Idealize.ShloMosaic.Lib.Pipeline.ValueKit

@[expose] public section

/-! The weight gradient of program 4: what the array the kernel leaves holds, the sum over every row of both sequences. Point `t` of the
grid adds the product of row block `t % 4` to result tile `t / 4`. -/

set_option maxRecDepth 16384

noncomputable section

open Idealize.ShloMosaic Idealize.ShloMosaic.TcCoe Idealize.SL.Sem
open Cert.Kernel4Ideal Cert.Kernel4Ideal.Gen Cert.Kernel4Ideal.Value

namespace Cert.Kernel4Ideal.WGrad

variable (m : (ℓ : Loc nD τ sig) → Buf (Elt Ideal) ℓ) (c : Dev nD)

/-- The arguments as arrays: the outputs of the three branches, and the gradient of the projection's output. -/
def aO0 : FVec Ideal S2x2048x256 .f32 := m ((c : Thread nD τ).loc main_arg0)
def aO1 : FVec Ideal S2x2048x384 .f32 := m ((c : Thread nD τ).loc main_arg1)
def aO2 : FVec Ideal S2x2048x384 .f32 := m ((c : Thread nD τ).loc main_arg2)
def aY : FVec Ideal S2x2048x1024 .bf16 := m ((c : Thread nD τ).loc main_arg3)

/-- The three outputs side by side. -/
def aX : FVec Ideal S2x2048x1024 .f32 :=
  concatenate S2x2048x1024 2 [⟨S2x2048x256, aO0 m c⟩, ⟨S2x2048x384, aO1 m c⟩, ⟨S2x2048x384, aO2 m c⟩]
    concatenates_S2x2048x256_S2x2048x384_S2x2048x384_S2x2048x1024_d2

/-- The blocks of the two operands at a point. -/
def bX (t : Fin cfg0.N) : FVec Ideal S1024x1024 .bf16 := iblk m c 0 t
def bY (t : Fin cfg0.N) : FVec Ideal S1024x1024 .bf16 := iblk m c 1 t

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem pay1_apply (i : Fin 1024) (j : Fin 1024) : k0_pay1 (F := Ideal) (ix2 i j) = 0 := by
  pointwise [k0_pay1]

theorem pay2_apply (a : FVec Ideal S1024x1024 .f32) (x : FVec Ideal S1024x1024 .bf16) (y : FVec Ideal S1024x1024 .bf16)
    (i : Fin 1024) (j : Fin 1024) :
    k0_pay2 (F := Ideal) a x y (ix2 i j) = a (ix2 i j) + ∑ r : Fin 1024, x (ix2 r i) * y (ix2 r j) := by
  pointwise [k0_pay2]

theorem bX_apply (t : Fin cfg0.N) (r : Fin 1024) (k : Fin 1024) (b : Fin 2) (s : Fin 2048) (i : Fin 1024)
    (hr : t.val % 4 * 1024 + r.val = b.val * 2048 + s.val) (hi : i.val = t.val / 4 * 1024 + k.val) :
    bX m c t (ix2 r k) = aX m c (ix3 b s i) := by
  have hb := b.isLt
  have hs := s.isLt
  have h : bX m c t (ix2 r k) = V m c main_v2 (ix2 ⟨b.val * 2048 + s.val, by omega⟩ i) := by
    unfold bX
    blk_ext [iblk, idx t]
  rw [h]
  unfold aX aO0 aO1 aO2
  entry_read
  pointwise

theorem bY_apply (t : Fin cfg0.N) (r : Fin 1024) (j : Fin 1024) (b : Fin 2) (s : Fin 2048)
    (hr : t.val % 4 * 1024 + r.val = b.val * 2048 + s.val) :
    bY m c t (ix2 r j) = aY m c (ix3 b s j) := by
  have hb := b.isLt
  have hs := s.isLt
  have h : bY m c t (ix2 r j) = V m c main_v3 (ix2 ⟨b.val * 2048 + s.val, by omega⟩ j) := by
    unfold bY
    blk_ext [iblk, idx t]
  rw [h]
  unfold aY
  entry_read
  pointwise

theorem reset (t : Fin cfg0.N) (h : t.val % 4 = 0) (i : Fin 1024) (j : Fin 1024) :
    outsAt0 m c t.val t.isLt (ix2 i j) = 0 + ∑ r : Fin 1024, bX m c t (ix2 r i) * bY m c t (ix2 r j) := by
  rw [outsAt0_A m c t h, out_A_2_eq, pay2_apply, pay1_apply]
  rfl

theorem step (t : Fin cfg0.N) (h : ¬t.val % 4 = 0) (i : Fin 1024) (j : Fin 1024) :
    outsAt0 m c t.val t.isLt (ix2 i j) = outsAt0 m c (t.val - 1) (Nat.lt_of_le_of_lt (Nat.sub_le _ _) t.isLt) (ix2 i j)
      + ∑ r : Fin 1024, bX m c t (ix2 r i) * bY m c t (ix2 r j) := by
  rw [outsAt0_B m c t h, out_B_2_eq, pay2_apply]
  rfl

/-- An entry of the result: the sum over both sequences and all their rows. -/
def gAt (c : Dev nD) (i : Fin 1024) (j : Fin 1024) : EReal :=
  ∑ b : Fin 2, ∑ s : Fin 2048, aX m c (ix3 b s i) * aY m c (ix3 b s j)

/-- The result as an array. -/
def G (c : Dev nD) : FVec Ideal S1024x1024 .f32 := fun i => gAt m c (i 0) (i 1)

theorem last (t : Fin cfg0.N) (h : t.val % 4 = 3) (k : Fin 1024) (j : Fin 1024) (i : Fin 1024) (hi : i.val = t.val / 4 * 1024 + k.val) :
    outsAt0 m c t.val t.isLt (ix2 k j) = G m c (ix2 i j) := by
  have ht : t.val < 4 := lt_of_lt_of_eq t.isLt N_0
  have e := Pipeline.eq_sum_fin_of_reset_step_apply_of_flush (fun n h (i : Fin 1024 × Fin 1024) => outsAt0 m c n h (ix2 i.1 i.2)) 4
    (fun _ => 0) (fun t i => ∑ r : Fin 1024, bX m c t (ix2 r i.1) * bY m c t (ix2 r i.2))
    (fun t h i => reset m c t h i.1 i.2) (fun t h i => step m c t h i.1 i.2) t h (k, j)
  simp only at e
  rw [e, zero_add]
  show _ = gAt m c i j
  unfold gAt
  rw [← Model.sum_rows (fun b s => aX m c (ix3 b s i) * aY m c (ix3 b s j))]
  refine Finset.sum_congr rfl fun q _ => Finset.sum_congr rfl fun r _ => ?_
  have hq := q.isLt
  have hr := r.isLt
  rw [bX_apply m c ⟨4 * (t.val / 4) + q.val, _⟩ r k (Model.seqOf q) (Model.rowOf q r) i
      (by simp only [Model.seqOf, Model.rowOf]; omega) (by simp only; omega),
    bY_apply m c ⟨4 * (t.val / 4) + q.val, _⟩ r j (Model.seqOf q) (Model.rowOf q r)
      (by simp only [Model.seqOf, Model.rowOf]; omega)]

/-- The array after the run. -/
theorem final (c : Dev nD) : (dats m 0 c).arrAt 2 cfg0.N = G m c := by
  refine (dats m 0 c).arrAt_eq_of_covers 2 (G m c) (by decide +kernel) fun t hf y => ?_
  have h3 := (flush0_2 t).mp hf
  blk_simp
  rw [after0_2]
  obtain ⟨k, j, rfl⟩ : ∃ k j, y = ix2 k j := ⟨y 0, y 1, eq_ix2 y⟩
  have ht : t.val < 4 := lt_of_lt_of_eq t.isLt N_0
  have hk : k.val < 1024 := k.isLt
  refine (last m c t h3 k j ⟨t.val / 4 * 1024 + k.val, by omega⟩ rfl).trans (congrArg (G m c) ?_)
  blk_ext [idx t]

end Cert.Kernel4Ideal.WGrad
-- ==== Proof.WGradEq4.lean ====
module

public import proofs.«01_k».proof.Defs
public import proofs.«01_k».proof.Proof.WGrad4
public import proofs.«01_k».proof.Proof.Gen.Kernel4.Frame
public import proofs.«01_k».proof.Proof.Gen.Reference4Ideal.Run
public import Idealize.ShloMosaic.Lib.Claim
public import Idealize.ShloMosaic.Lib.Quiescent

@[expose] public section

/-! The weight gradient of program 4: the reference's contraction over sequences and rows is the array the kernel leaves. -/

set_option maxRecDepth 16384

noncomputable section

open Idealize.ShloMosaic Idealize.ShloMosaic.TcCoe Idealize.SL.Sem
open Cert.Reference4Ideal Cert.Reference4Ideal.Gen

namespace Cert.Reference4Ideal.WGrad

/-- The reference's contraction at an entry. -/
theorem dot_apply (x : FVec Ideal S2x2048x1024 .f32) (y : FVec Ideal S2x2048x1024 .bf16) (i : Fin 1024) (j : Fin 1024) :
    transpose S1024x1024 [1, 0] (Host.dotGeneral dot_S2x2048x1024_S2x2048x1024_S1024x1024_01_01_2_2_n_n none
      (extf (F := Ideal) .f32 y bitsLt_bf16_f32) x) transposes_S1024x1024_S1024x1024_1_0 (ix2 i j)
      = ∑ b : Fin 2, ∑ s : Fin 2048, x (ix3 b s i) * y (ix3 b s j) := by
  pointwise
  exact Finset.sum_congr rfl fun b _ => Finset.sum_congr rfl fun s _ => mul_comm _ _

theorem dot_eq (m : (ℓ : Loc Cert.Kernel4Ideal.nD Cert.Kernel4Ideal.τ Cert.Kernel4Ideal.sig) → Buf (Elt Ideal) ℓ)
    (c : Dev Cert.Kernel4Ideal.nD) (x : FVec Ideal S2x2048x1024 .f32) (y : FVec Ideal S2x2048x1024 .bf16)
    (hx : x = Cert.Kernel4Ideal.WGrad.aX m c) (hy : y = Cert.Kernel4Ideal.WGrad.aY m c) :
    transpose S1024x1024 [1, 0] (Host.dotGeneral dot_S2x2048x1024_S2x2048x1024_S1024x1024_01_01_2_2_n_n none
      (extf (F := Ideal) .f32 y bitsLt_bf16_f32) x) transposes_S1024x1024_S1024x1024_1_0
      = Cert.Kernel4Ideal.WGrad.G m c := by
  subst hx hy
  funext i
  obtain ⟨k, j, rfl⟩ : ∃ k j, i = ix2 k j := ⟨i 0, i 1, eq_ix2 i⟩
  exact dot_apply _ _ k j

theorem frame : Cert.quiescent_Reference4Ideal (hReference4Ideal := Cert.Reference4Ideal.Gen.facts) := by
  intro m ρ _
  exact (θ_run Cert.Reference4Ideal.defs _ _).mono
    (fun r h => ⟨fun c => (h c).2, sem_eq_zero_of_no_sems (by decide) r.2⟩) (Cert.Reference4Ideal.Value.run m ρ)

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.WGrad.G m c, ?_, ?_⟩
  · refine (θ_run _ _ _).mono (fun r h c => ?_) (Cert.Kernel4Ideal.Value.run_blocks m g)
    exact ⟨(h c).1.trans (Cert.Kernel4Ideal.WGrad.final m c), (h c).2⟩
  · refine (θ_run _ _ _).mono (fun r h c => ?_) (Cert.Reference4Ideal.Value.run m' g')
    obtain ⟨h0, hk⟩ := h c
    obtain ⟨a0, a1, a2, a3⟩ := hagree c
    refine ⟨h0.trans (dot_eq m c _ _ ?_ ?_), hk⟩
    · rw [a0, a1, a2]; rfl
    · exact a3

end Cert.Reference4Ideal.WGrad
-- ==== Proof.WGrad5.lean ====
module

public import proofs.«01_k».proof.Proof.WGradModel
public import proofs.«01_k».proof.Proof.Gen.Kernel5Ideal.Value
public import Idealize.ShloMosaic.Lib.Pipeline.ValueKit

@[expose] public section

/-! The weight gradient of program 5: what the array the kernel leaves holds, the sum over every row of both sequences. Point `t` of the
grid adds the product of row block `t % 4` to result tile `t / 4`. -/

set_option maxRecDepth 16384

noncomputable section

open Idealize.ShloMosaic Idealize.ShloMosaic.TcCoe Idealize.SL.Sem
open Cert.Kernel5Ideal Cert.Kernel5Ideal.Gen Cert.Kernel5Ideal.Value

namespace Cert.Kernel5Ideal.WGrad

variable (m : (ℓ : Loc nD τ sig) → Buf (Elt Ideal) ℓ) (c : Dev nD)

/-- The two arguments as arrays. -/
def aX : FVec Ideal S2x2048x2048 .bf16 := m ((c : Thread nD τ).loc main_arg0)
def aY : FVec Ideal S2x2048x1024 .bf16 := m ((c : Thread nD τ).loc main_arg1)

/-- The blocks of the two operands at a point. -/
def bX (t : Fin cfg0.N) : FVec Ideal S1024x1024 .bf16 := iblk m c 0 t
def bY (t : Fin cfg0.N) : FVec Ideal S1024x1024 .bf16 := iblk m c 1 t

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem pay1_apply (i : Fin 1024) (j : Fin 1024) : k0_pay1 (F := Ideal) (ix2 i j) = 0 := by
  pointwise [k0_pay1]

theorem pay2_apply (a : FVec Ideal S1024x1024 .f32) (x : FVec Ideal S1024x1024 .bf16) (y : FVec Ideal S1024x1024 .bf16)
    (i : Fin 1024) (j : Fin 1024) :
    k0_pay2 (F := Ideal) a x y (ix2 i j) = a (ix2 i j) + ∑ r : Fin 1024, x (ix2 r i) * y (ix2 r j) := by
  pointwise [k0_pay2]

theorem bX_apply (t : Fin cfg0.N) (r : Fin 1024) (k : Fin 1024) (b : Fin 2) (s : Fin 2048) (i : Fin 2048)
    (hr : t.val % 4 * 1024 + r.val = b.val * 2048 + s.val) (hi : i.val = t.val / 4 * 1024 + k.val) :
    bX m c t (ix2 r k) = aX m c (ix3 b s i) := by
  have hb := b.isLt
  have hs := s.isLt
  have h : bX m c t (ix2 r k) = V m c main_v0 (ix2 ⟨b.val * 2048 + s.val, by omega⟩ i) := by
    unfold bX
    blk_ext [iblk, idx t]
  rw [h]
  unfold aX
  entry_read
  pointwise

theorem bY_apply (t : Fin cfg0.N) (r : Fin 1024) (j : Fin 1024) (b : Fin 2) (s : Fin 2048)
    (hr : t.val % 4 * 1024 + r.val = b.val * 2048 + s.val) :
    bY m c t (ix2 r j) = aY m c (ix3 b s j) := by
  have hb := b.isLt
  have hs := s.isLt
  have h : bY m c t (ix2 r j) = V m c main_v1 (ix2 ⟨b.val * 2048 + s.val, by omega⟩ j) := by
    unfold bY
    blk_ext [iblk, idx t]
  rw [h]
  unfold aY
  entry_read
  pointwise

theorem reset (t : Fin cfg0.N) (h : t.val % 4 = 0) (i : Fin 1024) (j : Fin 1024) :
    outsAt0 m c t.val t.isLt (ix2 i j) = 0 + ∑ r : Fin 1024, bX m c t (ix2 r i) * bY m c t (ix2 r j) := by
  rw [outsAt0_A m c t h, out_A_2_eq, pay2_apply, pay1_apply]
  rfl

theorem step (t : Fin cfg0.N) (h : ¬t.val % 4 = 0) (i : Fin 1024) (j : Fin 1024) :
    outsAt0 m c t.val t.isLt (ix2 i j) = outsAt0 m c (t.val - 1) (Nat.lt_of_le_of_lt (Nat.sub_le _ _) t.isLt) (ix2 i j)
      + ∑ r : Fin 1024, bX m c t (ix2 r i) * bY m c t (ix2 r j) := by
  rw [outsAt0_B m c t h, out_B_2_eq, pay2_apply]
  rfl

/-- An entry of the result: the sum over both sequences and all their rows. -/
def gAt (c : Dev nD) (i : Fin 2048) (j : Fin 1024) : EReal :=
  ∑ b : Fin 2, ∑ s : Fin 2048, aX m c (ix3 b s i) * aY m c (ix3 b s j)

/-- The result as an array. -/
def G (c : Dev nD) : FVec Ideal S2048x1024 .f32 := fun i => gAt m c (i 0) (i 1)

theorem last (t : Fin cfg0.N) (h : t.val % 4 = 3) (k : Fin 1024) (j : Fin 1024) (i : Fin 2048) (hi : i.val = t.val / 4 * 1024 + k.val) :
    outsAt0 m c t.val t.isLt (ix2 k j) = G m c (ix2 i j) := by
  have ht : t.val < 8 := lt_of_lt_of_eq t.isLt N_0
  have e := Pipeline.eq_sum_fin_of_reset_step_apply_of_flush (fun n h (i : Fin 1024 × Fin 1024) => outsAt0 m c n h (ix2 i.1 i.2)) 4
    (fun _ => 0) (fun t i => ∑ r : Fin 1024, bX m c t (ix2 r i.1) * bY m c t (ix2 r i.2))
    (fun t h i => reset m c t h i.1 i.2) (fun t h i => step m c t h i.1 i.2) t h (k, j)
  simp only at e
  rw [e, zero_add]
  show _ = gAt m c i j
  unfold gAt
  rw [← Model.sum_rows (fun b s => aX m c (ix3 b s i) * aY m c (ix3 b s j))]
  refine Finset.sum_congr rfl fun q _ => Finset.sum_congr rfl fun r _ => ?_
  have hq := q.isLt
  have hr := r.isLt
  rw [bX_apply m c ⟨4 * (t.val / 4) + q.val, _⟩ r k (Model.seqOf q) (Model.rowOf q r) i
      (by simp only [Model.seqOf, Model.rowOf]; omega) (by simp only; omega),
    bY_apply m c ⟨4 * (t.val / 4) + q.val, _⟩ r j (Model.seqOf q) (Model.rowOf q r)
      (by simp only [Model.seqOf, Model.rowOf]; omega)]

/-- The array after the run. -/
theorem final (c : Dev nD) : (dats m 0 c).arrAt 2 cfg0.N = G m c := by
  refine (dats m 0 c).arrAt_eq_of_covers 2 (G m c) (by decide +kernel) fun t hf y => ?_
  have h3 := (flush0_2 t).mp hf
  blk_simp
  rw [after0_2]
  obtain ⟨k, j, rfl⟩ : ∃ k j, y = ix2 k j := ⟨y 0, y 1, eq_ix2 y⟩
  have ht : t.val < 8 := lt_of_lt_of_eq t.isLt N_0
  have hk : k.val < 1024 := k.isLt
  refine (last m c t h3 k j ⟨t.val / 4 * 1024 + k.val, by omega⟩ rfl).trans (congrArg (G m c) ?_)
  blk_ext [idx t]

end Cert.Kernel5Ideal.WGrad
-- ==== Proof.WGradEq5.lean ====
module

public import proofs.«01_k».proof.Defs
public import proofs.«01_k».proof.Proof.WGrad5
public import proofs.«01_k».proof.Proof.Gen.Kernel5.Frame
public import proofs.«01_k».proof.Proof.Gen.Reference5Ideal.Run
public import Idealize.ShloMosaic.Lib.Claim
public import Idealize.ShloMosaic.Lib.Quiescent

@[expose] public section

/-! The weight gradient of program 5: the reference's contraction over sequences and rows is the array the kernel leaves. -/

set_option maxRecDepth 16384

noncomputable section

open Idealize.ShloMosaic Idealize.ShloMosaic.TcCoe Idealize.SL.Sem
open Cert.Reference5Ideal Cert.Reference5Ideal.Gen

namespace Cert.Reference5Ideal.WGrad

/-- The reference's contraction at an entry. -/
theorem dot_apply (x : FVec Ideal S2x2048x2048 .bf16) (y : FVec Ideal S2x2048x1024 .bf16) (i : Fin 2048) (j : Fin 1024) :
    transpose S2048x1024 [1, 0] (transpose S1024x2048 [1, 0] (Host.dotGeneral dot_S2x2048x2048_S2x2048x1024_S2048x1024_01_01_2_2_n_n none
      (extf (F := Ideal) .f32 x bitsLt_bf16_f32) (extf .f32 y bitsLt_bf16_f32)) transposes_S2048x1024_S1024x2048_1_0) transposes_S1024x2048_S2048x1024_1_0 (ix2 i j)
      = ∑ b : Fin 2, ∑ s : Fin 2048, x (ix3 b s i) * y (ix3 b s j) := by
  pointwise

theorem dot_eq (m : (ℓ : Loc Cert.Kernel5Ideal.nD Cert.Kernel5Ideal.τ Cert.Kernel5Ideal.sig) → Buf (Elt Ideal) ℓ)
    (c : Dev Cert.Kernel5Ideal.nD) (x : FVec Ideal S2x2048x2048 .bf16) (y : FVec Ideal S2x2048x1024 .bf16)
    (hx : x = Cert.Kernel5Ideal.WGrad.aX m c) (hy : y = Cert.Kernel5Ideal.WGrad.aY m c) :
    transpose S2048x1024 [1, 0] (transpose S1024x2048 [1, 0] (Host.dotGeneral dot_S2x2048x2048_S2x2048x1024_S2048x1024_01_01_2_2_n_n none
      (extf (F := Ideal) .f32 x bitsLt_bf16_f32) (extf .f32 y bitsLt_bf16_f32)) transposes_S2048x1024_S1024x2048_1_0) transposes_S1024x2048_S2048x1024_1_0
      = Cert.Kernel5Ideal.WGrad.G m c := by
  subst hx hy
  funext i
  obtain ⟨k, j, rfl⟩ : ∃ k j, i = ix2 k j := ⟨i 0, i 1, eq_ix2 i⟩
  exact dot_apply _ _ k j

theorem frame : Cert.quiescent_Reference5Ideal (hReference5Ideal := Cert.Reference5Ideal.Gen.facts) := by
  intro m ρ _
  exact (θ_run Cert.Reference5Ideal.defs _ _).mono
    (fun r h => ⟨fun c => (h c).2, sem_eq_zero_of_no_sems (by decide) r.2⟩) (Cert.Reference5Ideal.Value.run m ρ)

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.WGrad.G m c, ?_, ?_⟩
  · refine (θ_run _ _ _).mono (fun r h c => ?_) (Cert.Kernel5Ideal.Value.run_blocks m g)
    exact ⟨(h c).1.trans (Cert.Kernel5Ideal.WGrad.final m c), (h c).2⟩
  · refine (θ_run _ _ _).mono (fun r h c => ?_) (Cert.Reference5Ideal.Value.run m' g')
    obtain ⟨h0, hk⟩ := h c
    obtain ⟨a0, a1⟩ := hagree c
    refine ⟨h0.trans (dot_eq m c _ _ ?_ ?_), hk⟩
    · exact a0
    · exact a1

end Cert.Reference5Ideal.WGrad
-- ==== Proof.Gate6.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The gradient of one gated projection, program 6: the gate times the incoming gradient, that product against the transposed weight, and
the gate's own gradient, a sum over the rows of a sequence. Point `t` of the grid is sequence `t / 4`, row block `t % 4`. -/

set_option maxRecDepth 16384

noncomputable section

open Idealize.ShloMosaic Idealize.ShloMosaic.TcCoe Idealize.SL.Sem

namespace Cert.Kernel6Ideal.Gate

open Cert.Kernel6Ideal Cert.Kernel6Ideal.Gen

variable (m : (ℓ : Loc nD τ sig) → Buf (Elt Ideal) ℓ) (c : Dev nD)

/-- The arguments as arrays: the incoming gradient, the projection's output, the gate, the weight. -/
def aX : FVec Ideal S2x2048x1024 .f32 := m ((c : Thread nD τ).loc main_arg0)
def aY : FVec Ideal S2x2048x1024 .f32 := m ((c : Thread nD τ).loc main_arg1)
def aG : FVec Ideal S2x1x1024 .f32 := m ((c : Thread nD τ).loc main_arg2)
def aW : FVec Ideal S2816x1024 .bf16 := m ((c : Thread nD τ).loc main_arg3)

/-- The blocks of the operands at a point. -/
def bX (t : Fin cfg0.N) : FVec Ideal S1x512x1024 .f32 := iblk m c 0 t
def bY (t : Fin cfg0.N) : FVec Ideal S1x512x1024 .f32 := iblk m c 1 t
def bG (t : Fin cfg0.N) : FVec Ideal S1x1x1024 .f32 := iblk m c 2 t
def bW (t : Fin cfg0.N) : FVec Ideal S2816x1024 .bf16 := iblk m c 3 t

theorem idx : ∀ t : Fin cfg0.N,
    win0_0.index t = ![t.val / 4, t.val % 4, 0] ∧ win0_1.index t = ![t.val / 4, t.val % 4, 0]
    ∧ win0_2.index t = ![t.val / 4, 0, 0] ∧ win0_3.index t = ![0, 0]
    ∧ win0_4.index t = ![t.val / 4, t.val % 4, 0]
    ∧ win0_5.index t = ![t.val / 4, t.val % 4, 0]
    ∧ win0_6.index t = ![t.val / 4, 0, 0] :=
  (by decide +kernel : ∀ t : Fin grid0.N, _)

theorem zero_apply (i : S1x1x1024.Idx) : k0_pay2 (F := Ideal) i = 0 := by
  pointwise [k0_pay2]

theorem dy_apply (x : FVec Ideal S1x512x1024 .f32) (g : FVec Ideal S1x1x1024 .f32) (z : Fin 1) (r : Fin 512) (d : Fin 1024) :
    k0_pay5 (F := Ideal) x g (ix3 z r d) = x (ix3 0 r d) * g (ix3 0 0 d) := by
  pointwise [k0_pay5, k0_pay4, k0_pay3]

theorem dg_apply (x : FVec Ideal S1x512x1024 .f32) (a : FVec Ideal S1x1x1024 .f32) (y : FVec Ideal S1x512x1024 .f32)
    (d : Fin 1024) :
    k0_pay6 (F := Ideal) x a y (ix3 0 0 d) = a (ix3 0 0 d) + ∑ r : Fin 512, x (ix3 0 r d) * y (ix3 0 r d) := by
  pointwise [k0_pay6, k0_pay3]

theorem da_apply (x : FVec Ideal S1x512x1024 .f32) (g : FVec Ideal S1x1x1024 .f32) (w : FVec Ideal S2816x1024 .bf16)
    (z : Fin 1) (r : Fin 512) (k : Fin 2816) :
    k0_pay1 (F := Ideal) (k0_pay7 x g w) (ix3 z r k) = ∑ d : Fin 1024, x (ix3 0 r d) * g (ix3 0 0 d) * w (ix2 k d) := by
  pointwise [k0_pay1, k0_pay7, k0_pay4, k0_pay3]

variable (t : Fin cfg0.N)

theorem bX_apply (r : Fin 512) (d : Fin 1024) (b : Fin 2) (s : Fin 2048)
    (hb : b.val = t.val / 4) (hs : s.val = t.val % 4 * 512 + r.val) :
    bX m c t (ix3 0 r d) = aX m c (ix3 b s d) := by
  unfold bX aX
  blk_ext [iblk, V, idx t]

theorem bY_apply (r : Fin 512) (d : Fin 1024) (b : Fin 2) (s : Fin 2048)
    (hb : b.val = t.val / 4) (hs : s.val = t.val % 4 * 512 + r.val) :
    bY m c t (ix3 0 r d) = aY m c (ix3 b s d) := by
  unfold bY aY
  blk_ext [iblk, V, idx t]

theorem bG_apply (d : Fin 1024) (b : Fin 2) (hb : b.val = t.val / 4) : bG m c t (ix3 0 0 d) = aG m c (ix3 b 0 d) := by
  unfold bG aG
  blk_ext [iblk, V, idx t]

theorem bW_apply (k : Fin 2816) (d : Fin 1024) : bW m c t (ix2 k d) = aW m c (ix2 k d) := by
  unfold bW aW
  blk_ext [iblk, V, idx t]

theorem outDa : (outsAt0 m c t.val t.isLt).1 = k0_pay1 (F := Ideal) (k0_pay7 (bX m c t) (bG m c t) (bW m c t)) := by
  by_cases h : t.val % 4 = 0
  · rw [outsAt0_A m c t h]
    frame_out
    rfl
  · rw [outsAt0_B m c t h]
    frame_out
    rfl

theorem outDy : (outsAt0 m c t.val t.isLt).2.1 = k0_pay5 (F := Ideal) (bX m c t) (bG m c t) := by
  by_cases h : t.val % 4 = 0
  · rw [outsAt0_A m c t h]
    frame_out
    rfl
  · rw [outsAt0_B m c t h]
    frame_out
    rfl

/-- The running sum of the gate's gradient after a point. -/
def acc (n : ℕ) (h : n < cfg0.N) : FVec Ideal S1x1x1024 .f32 := (outsAt0 m c n h).2.2

theorem acc_A (h : t.val % 4 = 0) : acc m c t.val t.isLt = k0_pay6 (F := Ideal) (bX m c t) (k0_pay2 (F := Ideal)) (bY m c t) := by
  unfold acc
  rw [outsAt0_A m c t h]
  frame_out
  rfl

theorem acc_B (h : ¬t.val % 4 = 0) :
    acc m c t.val t.isLt
      = k0_pay6 (F := Ideal) (bX m c t) (acc m c (t.val - 1) (Nat.lt_of_le_of_lt (Nat.sub_le _ _) t.isLt)) (bY m c t) := by
  unfold acc
  rw [outsAt0_B m c t h]
  frame_out
  rfl

theorem acc_eq (h : t.val % 4 = 3) (d : Fin 1024) (b : Fin 2) (hb : b.val = t.val / 4) :
    acc m c t.val t.isLt (ix3 0 0 d) = ∑ s : Fin 2048, aX m c (ix3 b s d) * aY m c (ix3 b s d) := by
  have ht : t.val < 8 := lt_of_lt_of_eq t.isLt N_0
  have e := Pipeline.eq_sum_fin_of_reset_step_apply_of_flush (fun n h (d : Fin 1024) => acc m c n h (ix3 0 0 d)) 4
    (fun _ => 0) (fun t d => ∑ r : Fin 512, bX m c t (ix3 0 r d) * bY m c t (ix3 0 r d))
    (fun t h d => by rw [acc_A m c t h, dg_apply, zero_apply]) (fun t h d => by rw [acc_B m c t h, dg_apply]) t h d
  rw [e, zero_add]
  refine Fin.sum_mul_add_congr fun j r hl => ?_
  have hj := j.isLt
  have hr := r.isLt
  rw [bX_apply m c ⟨4 * (t.val / 4) + j.val, _⟩ r d b ⟨j.val * 512 + r.val, hl⟩ (by simp only; omega) (by simp only; omega),
    bY_apply m c ⟨4 * (t.val / 4) + j.val, _⟩ r d b ⟨j.val * 512 + r.val, hl⟩ (by simp only; omega) (by simp only; omega)]

/-! The arrays the kernel leaves. -/

def daAt (b : Fin 2) (s : Fin 2048) (k : Fin 2816) : EReal :=
  ∑ d : Fin 1024, aX m c (ix3 b s d) * aG m c (ix3 b 0 d) * aW m c (ix2 k d)
def dyAt (b : Fin 2) (s : Fin 2048) (d : Fin 1024) : EReal := aX m c (ix3 b s d) * aG m c (ix3 b 0 d)
def dgAt (b : Fin 2) (d : Fin 1024) : EReal := ∑ s : Fin 2048, aX m c (ix3 b s d) * aY m c (ix3 b s d)

def Da : FVec Ideal S2x2048x2816 .f32 := fun i => daAt m c (i 0) (i 1) (i 2)
def Dy : FVec Ideal S2x2048x1024 .bf16 := fun i => dyAt m c (i 0) (i 1) (i 2)
def Dg : FVec Ideal S2x1x1024 .f32 := fun i => dgAt m c (i 0) (i 2)

theorem finalDa (c : Dev nD) : (dats m 0 c).arrAt 4 cfg0.N = Da m c := by
  refine (dats m 0 c).arrAt_eq_of_covers 4 (Da m c) (by decide +kernel) fun t hf y => ?_
  blk_simp
  rw [after0_4, outDa m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  have hk : k.val < 2816 := k.isLt
  have e : k0_pay1 (F := Ideal) (k0_pay7 (bX m c t) (bG m c t) (bW m c t)) (ix3 z r k)
      = Da m c (ix3 ⟨t.val / 4, by omega⟩ ⟨t.val % 4 * 512 + r.val, by omega⟩ k) := by
    rw [da_apply]
    show _ = daAt m c ⟨t.val / 4, by omega⟩ ⟨t.val % 4 * 512 + r.val, by omega⟩ k
    unfold daAt
    refine Finset.sum_congr rfl fun d _ => ?_
    rw [bX_apply m c t r d ⟨t.val / 4, by omega⟩ ⟨t.val % 4 * 512 + r.val, by omega⟩ rfl rfl,
      bG_apply m c t d ⟨t.val / 4, by omega⟩ rfl, bW_apply]
  refine e.trans (congrArg (Da m c) ?_)
  obtain rfl : z = 0 := Subsingleton.elim _ _
  blk_ext [idx t]

theorem finalDy (c : Dev nD) : (dats m 0 c).arrAt 5 cfg0.N = Dy m c := by
  refine (dats m 0 c).arrAt_eq_of_covers 5 (Dy m c) (by decide +kernel) fun t hf y => ?_
  blk_simp
  rw [after0_5, outDy m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  have e : k0_pay5 (F := Ideal) (bX m c t) (bG m c t) (ix3 z r k)
      = Dy m c (ix3 ⟨t.val / 4, by omega⟩ ⟨t.val % 4 * 512 + r.val, by omega⟩ k) := by
    rw [dy_apply, bX_apply m c t r k ⟨t.val / 4, by omega⟩ ⟨t.val % 4 * 512 + r.val, by omega⟩ rfl rfl,
      bG_apply m c t k ⟨t.val / 4, by omega⟩ rfl]
    rfl
  refine e.trans (congrArg (Dy m c) ?_)
  obtain rfl : z = 0 := Subsingleton.elim _ _
  blk_ext [idx t]

theorem finalDg (c : Dev nD) : (dats m 0 c).arrAt 6 cfg0.N = Dg m c := by
  refine (dats m 0 c).arrAt_eq_of_covers 6 (Dg m c) (by decide +kernel) fun t hf y => ?_
  have h3 := (flush0_6 t).mp hf
  blk_simp
  rw [after0_6]
  obtain ⟨z, z', d, rfl⟩ : ∃ z z' d, y = ix3 z z' d := ⟨y 0, y 1, y 2, eq_ix3 y⟩
  obtain rfl : z = 0 := Subsingleton.elim _ _
  obtain rfl : z' = 0 := Subsingleton.elim _ _
  have ht : t.val < 8 := lt_of_lt_of_eq t.isLt N_0
  refine (acc_eq m c t h3 d ⟨t.val / 4, by omega⟩ rfl).trans ?_
  show Dg m c (ix3 ⟨t.val / 4, by omega⟩ 0 d) = _
  refine congrArg (Dg m c) ?_
  blk_ext [idx t]

end Cert.Kernel6Ideal.Gate

/-! The reference's terms at an index. -/

namespace Cert.Reference6Ideal.Gate

open Cert.Reference6Ideal Cert.Reference6Ideal.Gen

theorem dy_apply (x : FVec Ideal S2x2048x1024 .f32) (g : FVec Ideal S2x1x1024 .f32) (b : Fin 2) (s : Fin 2048) (d : Fin 1024) :
    truncf (F := Ideal) .bf16 (mulf (broadcastInDim S2x2048x1024 ![0, 1, 2] bcast_S2x1x1024_S2x2048x1024_0_1_2 g) x) bitsLt_bf16_f32
      (ix3 b s d) = x (ix3 b s d) * g (ix3 b 0 d) := by
  pointwise
  exact mul_comm _ _

theorem dg_apply (x y : FVec Ideal S2x2048x1024 .f32) (b : Fin 2) (z : Fin 1) (d : Fin 1024) :
    shapeCast S2x1x1024 (Host.reduceAdd (F := Ideal) (mulf x y) (constant S_ .f32 0x00000000#32) reducesTo_S2x2048x1024_S2x1024_d1 h_S_)
      shapeCasts_S2x1024_S2x1x1024 (ix3 b z d) = ∑ s : Fin 2048, x (ix3 b s d) * y (ix3 b s d) := by
  pointwise

theorem da_apply (x : FVec Ideal S2x2048x1024 .f32) (g : FVec Ideal S2x1x1024 .f32) (w : FVec Ideal S2816x1024 .bf16)
    (b : Fin 2) (s : Fin 2048) (k : Fin 2816) :
    Host.dotGeneral dot_S2x2048x1024_S2816x1024_S2x2048x2816_2_1_01_0_n_n none
      (mulf (F := Ideal) (broadcastInDim S2x2048x1024 ![0, 1, 2] bcast_S2x1x1024_S2x2048x1024_0_1_2 g) x) (extf .f32 w bitsLt_bf16_f32) (ix3 b s k)
      = ∑ d : Fin 1024, x (ix3 b s d) * g (ix3 b 0 d) * w (ix2 k d) := by
  pointwise
  refine Finset.sum_congr rfl fun d _ => ?_
  rw [mul_comm (g _)]

theorem frame : Cert.quiescent_Reference6Ideal (hReference6Ideal := Cert.Reference6Ideal.Gen.facts) := by
  intro m ρ _
  exact (θ_run Cert.Reference6Ideal.defs _ _).mono
    (fun r h => ⟨fun c => (h c).2.2.2, sem_eq_zero_of_no_sems (by decide) r.2⟩) (Cert.Reference6Ideal.Value.run m ρ)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Gate.Da m c, fun c => Cert.Kernel6Ideal.Gate.Dy m c,
    fun c => Cert.Kernel6Ideal.Gate.Dg m c, ?_, ?_⟩
  · refine (θ_run _ _ _).mono (fun r h c => ?_) (Cert.Kernel6Ideal.Value.run_blocks m g)
    obtain ⟨h0, h1, h2, hk⟩ := h c
    exact ⟨h0.trans (Cert.Kernel6Ideal.Gate.finalDa m c), h1.trans (Cert.Kernel6Ideal.Gate.finalDy m c),
      h2.trans (Cert.Kernel6Ideal.Gate.finalDg m c), hk⟩
  · refine (θ_run _ _ _).mono (fun r h c => ?_) (Cert.Reference6Ideal.Value.run m' g')
    obtain ⟨h0, h1, h2, hk⟩ := h c
    obtain ⟨a0, a1, a2, a3⟩ := hagree c
    refine ⟨h0.trans ?_, h1.trans ?_, h2.trans ?_, hk⟩
    · rw [a0, a2, a3]
      funext i
      obtain ⟨b, s, k, rfl⟩ : ∃ b s k, i = ix3 b s k := ⟨i 0, i 1, i 2, eq_ix3 i⟩
      exact da_apply _ _ _ b s k
    · rw [a0, a2]
      funext i
      obtain ⟨b, s, k, rfl⟩ : ∃ b s k, i = ix3 b s k := ⟨i 0, i 1, i 2, eq_ix3 i⟩
      exact dy_apply _ _ b s k
    · rw [a0, a1]
      funext i
      obtain ⟨b, s, k, rfl⟩ : ∃ b s k, i = ix3 b s k := ⟨i 0, i 1, i 2, eq_ix3 i⟩
      exact dg_apply _ _ b s k

end Cert.Reference6Ideal.Gate
-- ==== Proof.Gate7.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The gradient of one gated projection, program 7: the gate times the incoming gradient, that product against the transposed weight, and
the gate's own gradient, a sum over the rows of a sequence. Point `t` of the grid is sequence `t / 4`, row block `t % 4`. -/

set_option maxRecDepth 16384

noncomputable section

open Idealize.ShloMosaic Idealize.ShloMosaic.TcCoe Idealize.SL.Sem

namespace Cert.Kernel7Ideal.Gate

open Cert.Kernel7Ideal Cert.Kernel7Ideal.Gen

variable (m : (ℓ : Loc nD τ sig) → Buf (Elt Ideal) ℓ) (c : Dev nD)

/-- The arguments as arrays: the incoming gradient, the projection's output, the gate, the weight. -/
def aX : FVec Ideal S2x2048x1024 .f32 := m ((c : Thread nD τ).loc main_arg0)
def aY : FVec Ideal S2x2048x1024 .f32 := m ((c : Thread nD τ).loc main_arg1)
def aG : FVec Ideal S2x1x1024 .f32 := m ((c : Thread nD τ).loc main_arg2)
def aW : FVec Ideal S1024x1024 .bf16 := m ((c : Thread nD τ).loc main_arg3)

/-- The blocks of the operands at a point. -/
def bX (t : Fin cfg0.N) : FVec Ideal S1x512x1024 .f32 := iblk m c 0 t
def bY (t : Fin cfg0.N) : FVec Ideal S1x512x1024 .f32 := iblk m c 1 t
def bG (t : Fin cfg0.N) : FVec Ideal S1x1x1024 .f32 := iblk m c 2 t
def bW0 (t : Fin cfg0.N) : FVec Ideal S256x1024 .bf16 := iblk m c 3 t
def bW1 (t : Fin cfg0.N) : FVec Ideal S384x1024 .bf16 := iblk m c 4 t
def bW2 (t : Fin cfg0.N) : FVec Ideal S384x1024 .bf16 := iblk m c 5 t

theorem idx : ∀ t : Fin cfg0.N,
    win0_0.index t = ![t.val / 4, t.val % 4, 0] ∧ win0_1.index t = ![t.val / 4, t.val % 4, 0]
    ∧ win0_2.index t = ![t.val / 4, 0, 0] ∧ win0_3.index t = ![0, 0] ∧ win0_4.index t = ![0, 0] ∧ win0_5.index t = ![0, 0]
    ∧ win0_6.index t = ![t.val / 4, t.val % 4, 0]
    ∧ win0_7.index t = ![t.val / 4, t.val % 4, 0]
    ∧ win0_8.index t = ![t.val / 4, t.val % 4, 0]
    ∧ win0_9.index t = ![t.val / 4, t.val % 4, 0]
    ∧ win0_10.index t = ![t.val / 4, 0, 0] :=
  (by decide +kernel : ∀ t : Fin grid0.N, _)

theorem zero_apply (i : S1x1x1024.Idx) : k0_pay4 (F := Ideal) i = 0 := by
  pointwise [k0_pay4]

theorem dy_apply (x : FVec Ideal S1x512x1024 .f32) (g : FVec Ideal S1x1x1024 .f32) (z : Fin 1) (r : Fin 512) (d : Fin 1024) :
    k0_pay7 (F := Ideal) x g (ix3 z r d) = x (ix3 0 r d) * g (ix3 0 0 d) := by
  pointwise [k0_pay7, k0_pay6, k0_pay5]

theorem dg_apply (x : FVec Ideal S1x512x1024 .f32) (a : FVec Ideal S1x1x1024 .f32) (y : FVec Ideal S1x512x1024 .f32)
    (d : Fin 1024) :
    k0_pay8 (F := Ideal) x a y (ix3 0 0 d) = a (ix3 0 0 d) + ∑ r : Fin 512, x (ix3 0 r d) * y (ix3 0 r d) := by
  pointwise [k0_pay8, k0_pay5]

theorem da0_apply (x : FVec Ideal S1x512x1024 .f32) (g : FVec Ideal S1x1x1024 .f32) (w : FVec Ideal S256x1024 .bf16)
    (z : Fin 1) (r : Fin 512) (k : Fin 256) :
    k0_pay1 (F := Ideal) (k0_pay9 x g w) (ix3 z r k) = ∑ d : Fin 1024, x (ix3 0 r d) * g (ix3 0 0 d) * w (ix2 k d) := by
  pointwise [k0_pay1, k0_pay9, k0_pay6, k0_pay5]

theorem da1_apply (x : FVec Ideal S1x512x1024 .f32) (g : FVec Ideal S1x1x1024 .f32) (w : FVec Ideal S384x1024 .bf16)
    (z : Fin 1) (r : Fin 512) (k : Fin 384) :
    k0_pay2 (F := Ideal) (k0_pay6 x g) w (ix3 z r k) = ∑ d : Fin 1024, x (ix3 0 r d) * g (ix3 0 0 d) * w (ix2 k d) := by
  pointwise [k0_pay2, k0_pay6, k0_pay5]

theorem da2_apply (x : FVec Ideal S1x512x1024 .f32) (g : FVec Ideal S1x1x1024 .f32) (w : FVec Ideal S384x1024 .bf16)
    (z : Fin 1) (r : Fin 512) (k : Fin 384) :
    k0_pay3 (F := Ideal) (k0_pay6 x g) w (ix3 z r k) = ∑ d : Fin 1024, x (ix3 0 r d) * g (ix3 0 0 d) * w (ix2 k d) := by
  pointwise [k0_pay3, k0_pay6, k0_pay5]

variable (t : Fin cfg0.N)

theorem bX_apply (r : Fin 512) (d : Fin 1024) (b : Fin 2) (s : Fin 2048)
    (hb : b.val = t.val / 4) (hs : s.val = t.val % 4 * 512 + r.val) :
    bX m c t (ix3 0 r d) = aX m c (ix3 b s d) := by
  unfold bX aX
  blk_ext [iblk, V, idx t]

theorem bY_apply (r : Fin 512) (d : Fin 1024) (b : Fin 2) (s : Fin 2048)
    (hb : b.val = t.val / 4) (hs : s.val = t.val % 4 * 512 + r.val) :
    bY m c t (ix3 0 r d) = aY m c (ix3 b s d) := by
  unfold bY aY
  blk_ext [iblk, V, idx t]

theorem bG_apply (d : Fin 1024) (b : Fin 2) (hb : b.val = t.val / 4) : bG m c t (ix3 0 0 d) = aG m c (ix3 b 0 d) := by
  unfold bG aG
  blk_ext [iblk, V, idx t]

theorem bW0_apply (k : Fin 256) (d : Fin 1024) (K : Fin 1024) (hK : K.val = 0 + k.val) :
    bW0 m c t (ix2 k d) = aW m c (ix2 K d) := by
  have h : bW0 m c t (ix2 k d) = V m c main_v0 (ix2 k d) := by
    unfold bW0
    blk_ext [iblk, idx t]
  rw [h]
  unfold aW
  entry_read
  pointwise
  congr 2
  ext
  simp only
  omega

theorem bW1_apply (k : Fin 384) (d : Fin 1024) (K : Fin 1024) (hK : K.val = 256 + k.val) :
    bW1 m c t (ix2 k d) = aW m c (ix2 K d) := by
  have h : bW1 m c t (ix2 k d) = V m c main_v1 (ix2 k d) := by
    unfold bW1
    blk_ext [iblk, idx t]
  rw [h]
  unfold aW
  entry_read
  pointwise
  congr 2
  ext
  simp only
  omega

theorem bW2_apply (k : Fin 384) (d : Fin 1024) (K : Fin 1024) (hK : K.val = 640 + k.val) :
    bW2 m c t (ix2 k d) = aW m c (ix2 K d) := by
  have h : bW2 m c t (ix2 k d) = V m c main_v2 (ix2 k d) := by
    unfold bW2
    blk_ext [iblk, idx t]
  rw [h]
  unfold aW
  entry_read
  pointwise
  congr 2
  ext
  simp only
  omega

theorem outDa0 : (outsAt0 m c t.val t.isLt).1 = k0_pay1 (F := Ideal) (k0_pay9 (bX m c t) (bG m c t) (bW0 m c t)) := by
  by_cases h : t.val % 4 = 0
  · rw [outsAt0_A m c t h]
    frame_out
    rfl
  · rw [outsAt0_B m c t h]
    frame_out
    rfl

theorem outDa1 : (outsAt0 m c t.val t.isLt).2.1 = k0_pay2 (F := Ideal) (k0_pay6 (bX m c t) (bG m c t)) (bW1 m c t) := by
  by_cases h : t.val % 4 = 0
  · rw [outsAt0_A m c t h]
    frame_out
    rfl
  · rw [outsAt0_B m c t h]
    frame_out
    rfl

theorem outDa2 : (outsAt0 m c t.val t.isLt).2.2.1 = k0_pay3 (F := Ideal) (k0_pay6 (bX m c t) (bG m c t)) (bW2 m c t) := by
  by_cases h : t.val % 4 = 0
  · rw [outsAt0_A m c t h]
    frame_out
    rfl
  · rw [outsAt0_B m c t h]
    frame_out
    rfl

theorem outDy : (outsAt0 m c t.val t.isLt).2.2.2.1 = k0_pay7 (F := Ideal) (bX m c t) (bG m c t) := by
  by_cases h : t.val % 4 = 0
  · rw [outsAt0_A m c t h]
    frame_out
    rfl
  · rw [outsAt0_B m c t h]
    frame_out
    rfl

/-- The running sum of the gate's gradient after a point. -/
def acc (n : ℕ) (h : n < cfg0.N) : FVec Ideal S1x1x1024 .f32 := (outsAt0 m c n h).2.2.2.2

theorem acc_A (h : t.val % 4 = 0) : acc m c t.val t.isLt = k0_pay8 (F := Ideal) (bX m c t) (k0_pay4 (F := Ideal)) (bY m c t) := by
  unfold acc
  rw [outsAt0_A m c t h]
  frame_out
  rfl

theorem acc_B (h : ¬t.val % 4 = 0) :
    acc m c t.val t.isLt
      = k0_pay8 (F := Ideal) (bX m c t) (acc m c (t.val - 1) (Nat.lt_of_le_of_lt (Nat.sub_le _ _) t.isLt)) (bY m c t) := by
  unfold acc
  rw [outsAt0_B m c t h]
  frame_out
  rfl

theorem acc_eq (h : t.val % 4 = 3) (d : Fin 1024) (b : Fin 2) (hb : b.val = t.val / 4) :
    acc m c t.val t.isLt (ix3 0 0 d) = ∑ s : Fin 2048, aX m c (ix3 b s d) * aY m c (ix3 b s d) := by
  have ht : t.val < 8 := lt_of_lt_of_eq t.isLt N_0
  have e := Pipeline.eq_sum_fin_of_reset_step_apply_of_flush (fun n h (d : Fin 1024) => acc m c n h (ix3 0 0 d)) 4
    (fun _ => 0) (fun t d => ∑ r : Fin 512, bX m c t (ix3 0 r d) * bY m c t (ix3 0 r d))
    (fun t h d => by rw [acc_A m c t h, dg_apply, zero_apply]) (fun t h d => by rw [acc_B m c t h, dg_apply]) t h d
  rw [e, zero_add]
  refine Fin.sum_mul_add_congr fun j r hl => ?_
  have hj := j.isLt
  have hr := r.isLt
  rw [bX_apply m c ⟨4 * (t.val / 4) + j.val, _⟩ r d b ⟨j.val * 512 + r.val, hl⟩ (by simp only; omega) (by simp only; omega),
    bY_apply m c ⟨4 * (t.val / 4) + j.val, _⟩ r d b ⟨j.val * 512 + r.val, hl⟩ (by simp only; omega) (by simp only; omega)]

/-! The arrays the kernel leaves. -/

def daAt0 (b : Fin 2) (s : Fin 2048) (k : Fin 256) : EReal :=
  ∑ d : Fin 1024, aX m c (ix3 b s d) * aG m c (ix3 b 0 d) * aW m c (ix2 ⟨0 + k.val, by omega⟩ d)
def daAt1 (b : Fin 2) (s : Fin 2048) (k : Fin 384) : EReal :=
  ∑ d : Fin 1024, aX m c (ix3 b s d) * aG m c (ix3 b 0 d) * aW m c (ix2 ⟨256 + k.val, by omega⟩ d)
def daAt2 (b : Fin 2) (s : Fin 2048) (k : Fin 384) : EReal :=
  ∑ d : Fin 1024, aX m c (ix3 b s d) * aG m c (ix3 b 0 d) * aW m c (ix2 ⟨640 + k.val, by omega⟩ d)
def dyAt (b : Fin 2) (s : Fin 2048) (d : Fin 1024) : EReal := aX m c (ix3 b s d) * aG m c (ix3 b 0 d)
def dgAt (b : Fin 2) (d : Fin 1024) : EReal := ∑ s : Fin 2048, aX m c (ix3 b s d) * aY m c (ix3 b s d)

def Da0 : FVec Ideal S2x2048x256 .f32 := fun i => daAt0 m c (i 0) (i 1) (i 2)
def Da1 : FVec Ideal S2x2048x384 .f32 := fun i => daAt1 m c (i 0) (i 1) (i 2)
def Da2 : FVec Ideal S2x2048x384 .f32 := fun i => daAt2 m c (i 0) (i 1) (i 2)
def Dy : FVec Ideal S2x2048x1024 .bf16 := fun i => dyAt m c (i 0) (i 1) (i 2)
def Dg : FVec Ideal S2x1x1024 .f32 := fun i => dgAt m c (i 0) (i 2)

theorem finalDa0 (c : Dev nD) : (dats m 0 c).arrAt 6 cfg0.N = Da0 m c := by
  refine (dats m 0 c).arrAt_eq_of_covers 6 (Da0 m c) (by decide +kernel) fun t hf y => ?_
  blk_simp
  rw [after0_6, outDa0 m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  have hk : k.val < 256 := k.isLt
  have e : k0_pay1 (F := Ideal) (k0_pay9 (bX m c t) (bG m c t) (bW0 m c t)) (ix3 z r k)
      = Da0 m c (ix3 ⟨t.val / 4, by omega⟩ ⟨t.val % 4 * 512 + r.val, by omega⟩ k) := by
    rw [da0_apply]
    show _ = daAt0 m c ⟨t.val / 4, by omega⟩ ⟨t.val % 4 * 512 + r.val, by omega⟩ k
    unfold daAt0
    refine Finset.sum_congr rfl fun d _ => ?_
    rw [bX_apply m c t r d ⟨t.val / 4, by omega⟩ ⟨t.val % 4 * 512 + r.val, by omega⟩ rfl rfl,
      bG_apply m c t d ⟨t.val / 4, by omega⟩ rfl, bW0_apply m c t k d ⟨0 + k.val, by omega⟩ rfl]
  refine e.trans (congrArg (Da0 m c) ?_)
  obtain rfl : z = 0 := Subsingleton.elim _ _
  blk_ext [idx t]

theorem finalDa1 (c : Dev nD) : (dats m 0 c).arrAt 7 cfg0.N = Da1 m c := by
  refine (dats m 0 c).arrAt_eq_of_covers 7 (Da1 m c) (by decide +kernel) fun t hf y => ?_
  blk_simp
  rw [after0_7, outDa1 m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  have hk : k.val < 384 := k.isLt
  have e : k0_pay2 (F := Ideal) (k0_pay6 (bX m c t) (bG m c t)) (bW1 m c t) (ix3 z r k)
      = Da1 m c (ix3 ⟨t.val / 4, by omega⟩ ⟨t.val % 4 * 512 + r.val, by omega⟩ k) := by
    rw [da1_apply]
    show _ = daAt1 m c ⟨t.val / 4, by omega⟩ ⟨t.val % 4 * 512 + r.val, by omega⟩ k
    unfold daAt1
    refine Finset.sum_congr rfl fun d _ => ?_
    rw [bX_apply m c t r d ⟨t.val / 4, by omega⟩ ⟨t.val % 4 * 512 + r.val, by omega⟩ rfl rfl,
      bG_apply m c t d ⟨t.val / 4, by omega⟩ rfl, bW1_apply m c t k d ⟨256 + k.val, by omega⟩ rfl]
  refine e.trans (congrArg (Da1 m c) ?_)
  obtain rfl : z = 0 := Subsingleton.elim _ _
  blk_ext [idx t]

theorem finalDa2 (c : Dev nD) : (dats m 0 c).arrAt 8 cfg0.N = Da2 m c := by
  refine (dats m 0 c).arrAt_eq_of_covers 8 (Da2 m c) (by decide +kernel) fun t hf y => ?_
  blk_simp
  rw [after0_8, outDa2 m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  have hk : k.val < 384 := k.isLt
  have e : k0_pay3 (F := Ideal) (k0_pay6 (bX m c t) (bG m c t)) (bW2 m c t) (ix3 z r k)
      = Da2 m c (ix3 ⟨t.val / 4, by omega⟩ ⟨t.val % 4 * 512 + r.val, by omega⟩ k) := by
    rw [da2_apply]
    show _ = daAt2 m c ⟨t.val / 4, by omega⟩ ⟨t.val % 4 * 512 + r.val, by omega⟩ k
    unfold daAt2
    refine Finset.sum_congr rfl fun d _ => ?_
    rw [bX_apply m c t r d ⟨t.val / 4, by omega⟩ ⟨t.val % 4 * 512 + r.val, by omega⟩ rfl rfl,
      bG_apply m c t d ⟨t.val / 4, by omega⟩ rfl, bW2_apply m c t k d ⟨640 + k.val, by omega⟩ rfl]
  refine e.trans (congrArg (Da2 m c) ?_)
  obtain rfl : z = 0 := Subsingleton.elim _ _
  blk_ext [idx t]

theorem finalDy (c : Dev nD) : (dats m 0 c).arrAt 9 cfg0.N = Dy m c := by
  refine (dats m 0 c).arrAt_eq_of_covers 9 (Dy m c) (by decide +kernel) fun t hf y => ?_
  blk_simp
  rw [after0_9, outDy m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  have e : k0_pay7 (F := Ideal) (bX m c t) (bG m c t) (ix3 z r k)
      = Dy m c (ix3 ⟨t.val / 4, by omega⟩ ⟨t.val % 4 * 512 + r.val, by omega⟩ k) := by
    rw [dy_apply, bX_apply m c t r k ⟨t.val / 4, by omega⟩ ⟨t.val % 4 * 512 + r.val, by omega⟩ rfl rfl,
      bG_apply m c t k ⟨t.val / 4, by omega⟩ rfl]
    rfl
  refine e.trans (congrArg (Dy m c) ?_)
  obtain rfl : z = 0 := Subsingleton.elim _ _
  blk_ext [idx t]

theorem finalDg (c : Dev nD) : (dats m 0 c).arrAt 10 cfg0.N = Dg m c := by
  refine (dats m 0 c).arrAt_eq_of_covers 10 (Dg m c) (by decide +kernel) fun t hf y => ?_
  have h3 := (flush0_10 t).mp hf
  blk_simp
  rw [after0_10]
  obtain ⟨z, z', d, rfl⟩ : ∃ z z' d, y = ix3 z z' d := ⟨y 0, y 1, y 2, eq_ix3 y⟩
  obtain rfl : z = 0 := Subsingleton.elim _ _
  obtain rfl : z' = 0 := Subsingleton.elim _ _
  have ht : t.val < 8 := lt_of_lt_of_eq t.isLt N_0
  refine (acc_eq m c t h3 d ⟨t.val / 4, by omega⟩ rfl).trans ?_
  show Dg m c (ix3 ⟨t.val / 4, by omega⟩ 0 d) = _
  refine congrArg (Dg m c) ?_
  blk_ext [idx t]

end Cert.Kernel7Ideal.Gate

/-! The reference's terms at an index. -/

namespace Cert.Reference7Ideal.Gate

open Cert.Reference7Ideal Cert.Reference7Ideal.Gen

theorem dy_apply (x : FVec Ideal S2x2048x1024 .f32) (g : FVec Ideal S2x1x1024 .f32) (b : Fin 2) (s : Fin 2048) (d : Fin 1024) :
    truncf (F := Ideal) .bf16 (mulf (broadcastInDim S2x2048x1024 ![0, 1, 2] bcast_S2x1x1024_S2x2048x1024_0_1_2 g) x) bitsLt_bf16_f32
      (ix3 b s d) = x (ix3 b s d) * g (ix3 b 0 d) := by
  pointwise
  exact mul_comm _ _

theorem dg_apply (x y : FVec Ideal S2x2048x1024 .f32) (b : Fin 2) (z : Fin 1) (d : Fin 1024) :
    shapeCast S2x1x1024 (Host.reduceAdd (F := Ideal) (mulf x y) (constant S_ .f32 0x00000000#32) reducesTo_S2x2048x1024_S2x1024_d1 h_S_)
      shapeCasts_S2x1024_S2x1x1024 (ix3 b z d) = ∑ s : Fin 2048, x (ix3 b s d) * y (ix3 b s d) := by
  pointwise

theorem da0_apply (x : FVec Ideal S2x2048x1024 .f32) (g : FVec Ideal S2x1x1024 .f32) (w : FVec Ideal S1024x1024 .bf16)
    (b : Fin 2) (s : Fin 2048) (k : Fin 256) :
    extractStridedSlice S2x2048x256 ![0, 0, 0] (Host.dotGeneral dot_S2x2048x1024_S1024x1024_S2x2048x1024_2_1_01_0_n_n none
      (mulf (F := Ideal) (broadcastInDim S2x2048x1024 ![0, 1, 2] bcast_S2x1x1024_S2x2048x1024_0_1_2 g) x) (extf .f32 w bitsLt_bf16_f32)) slices_S2x2048x1024_S2x2048x256_0_0_0 (ix3 b s k)
      = ∑ d : Fin 1024, x (ix3 b s d) * g (ix3 b 0 d) * w (ix2 ⟨0 + k.val, by omega⟩ d) := by
  pointwise
  refine Finset.sum_congr rfl fun d _ => ?_
  rw [mul_comm (g _)]

theorem da1_apply (x : FVec Ideal S2x2048x1024 .f32) (g : FVec Ideal S2x1x1024 .f32) (w : FVec Ideal S1024x1024 .bf16)
    (b : Fin 2) (s : Fin 2048) (k : Fin 384) :
    extractStridedSlice S2x2048x384 ![0, 0, 256] (Host.dotGeneral dot_S2x2048x1024_S1024x1024_S2x2048x1024_2_1_01_0_n_n none
      (mulf (F := Ideal) (broadcastInDim S2x2048x1024 ![0, 1, 2] bcast_S2x1x1024_S2x2048x1024_0_1_2 g) x) (extf .f32 w bitsLt_bf16_f32)) slices_S2x2048x1024_S2x2048x384_0_0_256 (ix3 b s k)
      = ∑ d : Fin 1024, x (ix3 b s d) * g (ix3 b 0 d) * w (ix2 ⟨256 + k.val, by omega⟩ d) := by
  pointwise
  refine Finset.sum_congr rfl fun d _ => ?_
  rw [mul_comm (g _)]

theorem da2_apply (x : FVec Ideal S2x2048x1024 .f32) (g : FVec Ideal S2x1x1024 .f32) (w : FVec Ideal S1024x1024 .bf16)
    (b : Fin 2) (s : Fin 2048) (k : Fin 384) :
    extractStridedSlice S2x2048x384 ![0, 0, 640] (Host.dotGeneral dot_S2x2048x1024_S1024x1024_S2x2048x1024_2_1_01_0_n_n none
      (mulf (F := Ideal) (broadcastInDim S2x2048x1024 ![0, 1, 2] bcast_S2x1x1024_S2x2048x1024_0_1_2 g) x) (extf .f32 w bitsLt_bf16_f32)) slices_S2x2048x1024_S2x2048x384_0_0_640 (ix3 b s k)
      = ∑ d : Fin 1024, x (ix3 b s d) * g (ix3 b 0 d) * w (ix2 ⟨640 + k.val, by omega⟩ d) := by
  pointwise
  refine Finset.sum_congr rfl fun d _ => ?_
  rw [mul_comm (g _)]

theorem frame : Cert.quiescent_Reference7Ideal (hReference7Ideal := Cert.Reference7Ideal.Gen.facts) := by
  intro m ρ _
  exact (θ_run Cert.Reference7Ideal.defs _ _).mono
    (fun r h => ⟨fun c => (h c).2.2.2.2.2, sem_eq_zero_of_no_sems (by decide) r.2⟩) (Cert.Reference7Ideal.Value.run m ρ)

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Gate.Da0 m c, fun c => Cert.Kernel7Ideal.Gate.Da1 m c, fun c => Cert.Kernel7Ideal.Gate.Da2 m c, fun c => Cert.Kernel7Ideal.Gate.Dy m c,
    fun c => Cert.Kernel7Ideal.Gate.Dg m c, ?_, ?_⟩
  · refine (θ_run _ _ _).mono (fun r h c => ?_) (Cert.Kernel7Ideal.Value.run_blocks m g)
    obtain ⟨h0, h1, h2, h3, h4, hk⟩ := h c
    exact ⟨h0.trans (Cert.Kernel7Ideal.Gate.finalDa0 m c), h1.trans (Cert.Kernel7Ideal.Gate.finalDa1 m c), h2.trans (Cert.Kernel7Ideal.Gate.finalDa2 m c), h3.trans (Cert.Kernel7Ideal.Gate.finalDy m c),
      h4.trans (Cert.Kernel7Ideal.Gate.finalDg m c), hk⟩
  · refine (θ_run _ _ _).mono (fun r h c => ?_) (Cert.Reference7Ideal.Value.run m' g')
    obtain ⟨h0, h1, h2, h3, h4, hk⟩ := h c
    obtain ⟨a0, a1, a2, a3⟩ := hagree c
    refine ⟨h0.trans ?_, h1.trans ?_, h2.trans ?_, h3.trans ?_, h4.trans ?_, hk⟩
    · rw [a0, a2, a3]
      funext i
      obtain ⟨b, s, k, rfl⟩ : ∃ b s k, i = ix3 b s k := ⟨i 0, i 1, i 2, eq_ix3 i⟩
      exact da0_apply _ _ _ b s k
    · rw [a0, a2, a3]
      funext i
      obtain ⟨b, s, k, rfl⟩ : ∃ b s k, i = ix3 b s k := ⟨i 0, i 1, i 2, eq_ix3 i⟩
      exact da1_apply _ _ _ b s k
    · rw [a0, a2, a3]
      funext i
      obtain ⟨b, s, k, rfl⟩ : ∃ b s k, i = ix3 b s k := ⟨i 0, i 1, i 2, eq_ix3 i⟩
      exact da2_apply _ _ _ b s k
    · rw [a0, a2]
      funext i
      obtain ⟨b, s, k, rfl⟩ : ∃ b s k, i = ix3 b s k := ⟨i 0, i 1, i 2, eq_ix3 i⟩
      exact dy_apply _ _ b s k
    · rw [a0, a1]
      funext i
      obtain ⟨b, s, k, rfl⟩ : ∃ b s k, i = ix3 b s k := ⟨i 0, i 1, i 2, eq_ix3 i⟩
      exact dg_apply _ _ b s k

end Cert.Reference7Ideal.Gate
-- ==== Proof.InPay8.lean ====
module

public import proofs.«01_k».proof.Proof.Gen.Kernel8Ideal.Skeleton
public import proofs.«01_k».proof.Proof.Model
public import Idealize.ShloMosaic.Lib.Pointwise

@[expose] public section

/-! The values the body of the in-projection's backward, program 8, computes from its blocks, at an index. -/

set_option maxRecDepth 16384

noncomputable section

open Idealize.ShloMosaic Idealize.ShloMosaic.TcCoe Idealize.SL.Sem
open Cert.Kernel8Ideal Cert.Kernel8Ideal.Gen

namespace Cert.Kernel8Ideal.Payloads

/-- The block of the gradient of the product, as the body reads it. -/
theorem pay16_apply (dy : FVec Ideal S1x512x1024 .bf16) (r : Fin 512) (k : Fin 1024) :
    k0_pay16 (F := Ideal) dy (ix2 r k) = dy (ix3 0 r k) := by
  pointwise [k0_pay16]

theorem pay17_apply (dy : FVec Ideal S1x512x1024 .bf16) (z : Fin 1) (r : Fin 512) (k : Fin 1024) :
    k0_pay17 (F := Ideal) dy (ix3 z r k) = dy (ix3 0 r k) := by
  pointwise [k0_pay17, k0_pay16]

/-- One step of the contraction: the tile of products is added to what has been summed. -/
theorem pay18_apply (dy : FVec Ideal S1x512x1024 .bf16) (a : FVec Ideal S512x1024 .f32) (w : FVec Ideal S1024x1024 .bf16)
    (r : Fin 512) (d : Fin 1024) :
    k0_pay18 (F := Ideal) dy a w (ix2 r d) = a (ix2 r d) + ∑ k : Fin 1024, dy (ix3 0 r k) * w (ix2 k d) := by
  pointwise [k0_pay18, k0_pay16]

theorem pay12_apply (r : Fin 512) (d : Fin 1024) : k0_pay12 (F := Ideal) (ix2 r d) = 0 := by pointwise [k0_pay12]
theorem pay13_apply (d : Fin 1024) : k0_pay13 (F := Ideal) (ix3 0 0 d) = 0 := by pointwise [k0_pay13]
theorem pay14_apply (d : Fin 1024) : k0_pay14 (F := Ideal) (ix3 0 0 d) = 0 := by pointwise [k0_pay14]
theorem pay15_apply (d : Fin 1024) : k0_pay15 (F := Ideal) (ix2 0 d) = 0 := by pointwise [k0_pay15]

/-- The inverse root mean square of a row. -/
theorem pay5_apply (x : FVec Ideal S1x512x1024 .f32) (r : Fin 512) (z : Fin 1) :
    k0_pay5 (F := Ideal) x (ix2 r z) = Model.rstd (fun k => x (ix3 0 r k)) := by
  unfold Model.rstd Model.var Model.mean
  pointwise [k0_pay5, k0_pay4]

/-- The normalised row. -/
theorem pay6_apply (x : FVec Ideal S1x512x1024 .f32) (r : Fin 512) (d : Fin 1024) :
    k0_pay6 (F := Ideal) x (ix2 r d) = x (ix3 0 r d) * Model.rstd (fun k => x (ix3 0 r k)) := by
  have h := pay5_apply x r 0
  generalize hp : k0_pay5 (F := Ideal) x = p at h
  pointwise [k0_pay6, k0_pay4]
  rw [hp, h]

theorem pay8_apply (sc : FVec Ideal S1x1x1024 .f32) (z : Fin 1) (d : Fin 1024) :
    k0_pay8 (F := Ideal) sc (ix2 z d) = 1 + sc (ix3 0 0 d) := by
  pointwise [k0_pay8]

/-- The gradient of the block's argument. -/
theorem pay3_apply (dh : FVec Ideal S512x1024 .f32) (x : FVec Ideal S1x512x1024 .f32) (g : FVec Ideal S1x1024 .f32)
    (sc : FVec Ideal S1x1x1024 .f32) (dr : FVec Ideal S1x512x1024 .f32) (z : Fin 1) (r : Fin 512) (d : Fin 1024) :
    k0_pay3 (F := Ideal) dh (k0_pay5 x) (k0_pay6 x) (k0_pay7 g) (k0_pay8 sc) dr (ix3 z r d)
      = Model.dxRow (fun k => dh (ix2 r k)) (fun k => x (ix3 0 r k)) (fun k => g (ix2 0 k)) (fun k => sc (ix3 0 0 k))
          (fun k => dr (ix3 0 r k)) d := by
  have h5 := pay5_apply x r 0
  have h6 := pay6_apply x r
  have h8 := pay8_apply sc 0
  have h7 : ∀ d, k0_pay7 (F := Ideal) g (ix2 0 d) = g (ix2 0 d) := fun d => by pointwise [k0_pay7]
  unfold Model.dxRow Model.mean
  generalize k0_pay5 (F := Ideal) x = p5 at h5
  generalize k0_pay6 (F := Ideal) x = p6 at h6
  generalize k0_pay7 (F := Ideal) g = p7 at h7
  generalize k0_pay8 (F := Ideal) sc = p8 at h8
  pointwise [k0_pay3]
  simp only [h5, h6, h7, h8]

/-- One block's part of the gradient of the gain. -/
theorem pay2_apply (dh : FVec Ideal S512x1024 .f32) (x : FVec Ideal S1x512x1024 .f32) (sc : FVec Ideal S1x1x1024 .f32)
    (a : FVec Ideal S1x1024 .f32) (d : Fin 1024) :
    k0_pay2 (F := Ideal) dh (k0_pay6 x) (k0_pay8 sc) a (ix2 0 d)
      = a (ix2 0 d)
        + ∑ r : Fin 512, dh (ix2 r d) * (x (ix3 0 r d) * Model.rstd (fun k => x (ix3 0 r k))) * (1 + sc (ix3 0 0 d)) := by
  have h6 := fun r => pay6_apply x r d
  have h8 := pay8_apply sc 0 d
  generalize k0_pay6 (F := Ideal) x = p6 at h6
  generalize k0_pay8 (F := Ideal) sc = p8 at h8
  pointwise [k0_pay2]
  simp only [h6, h8]

/-- One block's part of the gradient of the shift. -/
theorem pay9_apply (dh : FVec Ideal S512x1024 .f32) (a : FVec Ideal S1x1x1024 .f32) (d : Fin 1024) :
    k0_pay9 (F := Ideal) dh a (ix3 0 0 d) = a (ix3 0 0 d) + ∑ r : Fin 512, dh (ix2 r d) := by
  pointwise [k0_pay9]

/-- One block's part of the gradient of the scale. -/
theorem pay1_apply (dh : FVec Ideal S512x1024 .f32) (x : FVec Ideal S1x512x1024 .f32) (g : FVec Ideal S1x1024 .f32)
    (a : FVec Ideal S1x1x1024 .f32) (d : Fin 1024) :
    k0_pay1 (F := Ideal) (k0_pay10 a) (k0_pay11 dh x g) (ix3 0 0 d)
      = a (ix3 0 0 d)
        + ∑ r : Fin 512, dh (ix2 r d) * (x (ix3 0 r d) * Model.rstd (fun k => x (ix3 0 r k))) * g (ix2 0 d) := by
  have h6 := fun r => pay6_apply x r d
  generalize hp : k0_pay6 (F := Ideal) x = p6 at h6
  pointwise [k0_pay1, k0_pay10, k0_pay11, k0_pay7]
  simp only [hp, h6]

end Cert.Kernel8Ideal.Payloads
-- ==== Proof.InStep8.lean ====
module

public import proofs.«01_k».proof.Proof.InPay8
public import proofs.«01_k».proof.Proof.Gen.Kernel8Ideal.Value
public import Idealize.ShloMosaic.Lib.Pipeline.ValueKit
public import Idealize.ShloMosaic.Lib.Pipeline.ReadBack

@[expose] public section

/-! What each point of the grid leaves in the blocks it carries, at an index of the block. -/

set_option maxRecDepth 16384

noncomputable section

open Idealize.ShloMosaic Idealize.ShloMosaic.TcCoe Idealize.SL.Sem
open Cert.Kernel8Ideal Cert.Kernel8Ideal.Gen Cert.Kernel8Ideal.Payloads

namespace Cert.Kernel8Ideal.Steps

variable (m : (ℓ : Loc nD τ sig) → Buf (Elt Ideal) ℓ) (c : Dev nD)

/-- The blocks of the six arguments at a point. -/
def bDy (t : Fin cfg0.N) : FVec Ideal S1x512x1024 .bf16 := iblk m c 0 t
def bW (t : Fin cfg0.N) : FVec Ideal S1024x1024 .bf16 := iblk m c 1 t
def bX (t : Fin cfg0.N) : FVec Ideal S1x512x1024 .f32 := iblk m c 2 t
def bG (t : Fin cfg0.N) : FVec Ideal S1x1024 .f32 := iblk m c 3 t
def bSc (t : Fin cfg0.N) : FVec Ideal S1x1x1024 .f32 := iblk m c 4 t
def bDr (t : Fin cfg0.N) : FVec Ideal S1x512x1024 .f32 := iblk m c 5 t

/-- The sum of products the scratch holds after a point, and the three running sums over rows. -/
def acc (n : Nat) (h : n < cfg0.N) : FVec Ideal S512x1024 .f32 := (outsAt0 m c n h).2.2.2.2.2
def sh (n : Nat) (h : n < cfg0.N) : FVec Ideal S1x1x1024 .f32 := (outsAt0 m c n h).2.2.1
def scl (n : Nat) (h : n < cfg0.N) : FVec Ideal S1x1x1024 .f32 := (outsAt0 m c n h).2.2.2.1
def gn (n : Nat) (h : n < cfg0.N) : FVec Ideal S1x1024 .f32 := (outsAt0 m c n h).2.2.2.2.1

theorem acc_A (t : Fin cfg0.N) (h0 : t.val % 2 = 0) (h1 : t.val % 8 = 0) (h2 : t.val % 16 = 0) (h3 : ¬t.val % 2 = 1) :
    acc m c t.val t.isLt = k0_pay18 (F := Ideal) (bDy m c t) (k0_pay12 (F := Ideal)) (bW m c t) := by
  unfold acc
  rw [outsAt0_A m c t h0 h1 h2 h3]
  frame_out
  rfl

theorem acc_C (t : Fin cfg0.N) (h0 : t.val % 2 = 0) (h1 : ¬t.val % 8 = 0) (h2 : ¬t.val % 16 = 0) (h3 : ¬t.val % 2 = 1) :
    acc m c t.val t.isLt = k0_pay18 (F := Ideal) (bDy m c t) (k0_pay12 (F := Ideal)) (bW m c t) := by
  unfold acc
  rw [outsAt0_C m c t h0 h1 h2 h3]
  frame_out
  rfl

theorem acc_D (t : Fin cfg0.N) (h0 : t.val % 2 = 0) (h1 : t.val % 8 = 0) (h2 : ¬t.val % 16 = 0) (h3 : ¬t.val % 2 = 1) :
    acc m c t.val t.isLt = k0_pay18 (F := Ideal) (bDy m c t) (k0_pay12 (F := Ideal)) (bW m c t) := by
  unfold acc
  rw [outsAt0_D m c t h0 h1 h2 h3]
  frame_out
  rfl

theorem acc_B (t : Fin cfg0.N) (h0 : ¬t.val % 2 = 0) (h1 : ¬t.val % 8 = 0) (h2 : ¬t.val % 16 = 0) (h3 : t.val % 2 = 1) :
    acc m c t.val t.isLt = k0_pay18 (F := Ideal) (bDy m c t) (acc m c (t.val - 1) (Nat.lt_of_le_of_lt (Nat.sub_le _ _) t.isLt)) (bW m c t) := by
  unfold acc
  rw [outsAt0_B m c t h0 h1 h2 h3]
  frame_out
  rw [read_unread_whole]
  rfl

theorem out6_B (t : Fin cfg0.N) (h0 : ¬t.val % 2 = 0) (h1 : ¬t.val % 8 = 0) (h2 : ¬t.val % 16 = 0) (h3 : t.val % 2 = 1) :
    (outsAt0 m c t.val t.isLt).1 = k0_pay3 (F := Ideal) (acc m c t.val t.isLt) (k0_pay5 (bX m c t)) (k0_pay6 (bX m c t))
      (k0_pay7 (bG m c t)) (k0_pay8 (bSc m c t)) (bDr m c t) := by
  rw [acc_B m c t h0 h1 h2 h3]
  rw [outsAt0_B m c t h0 h1 h2 h3]
  frame_out
  rw [read_unread_whole]
  rfl

theorem out7_A (t : Fin cfg0.N) (h0 : t.val % 2 = 0) (h1 : t.val % 8 = 0) (h2 : t.val % 16 = 0) (h3 : ¬t.val % 2 = 1) :
    (outsAt0 m c t.val t.isLt).2.1 = k0_pay17 (F := Ideal) (bDy m c t) := by
  rw [outsAt0_A m c t h0 h1 h2 h3]
  frame_out
  rfl

theorem out7_B (t : Fin cfg0.N) (h0 : ¬t.val % 2 = 0) (h1 : ¬t.val % 8 = 0) (h2 : ¬t.val % 16 = 0) (h3 : t.val % 2 = 1) :
    (outsAt0 m c t.val t.isLt).2.1 = k0_pay17 (F := Ideal) (bDy m c t) := by
  rw [outsAt0_B m c t h0 h1 h2 h3]
  frame_out
  rfl

theorem out7_C (t : Fin cfg0.N) (h0 : t.val % 2 = 0) (h1 : ¬t.val % 8 = 0) (h2 : ¬t.val % 16 = 0) (h3 : ¬t.val % 2 = 1) :
    (outsAt0 m c t.val t.isLt).2.1 = k0_pay17 (F := Ideal) (bDy m c t) := by
  rw [outsAt0_C m c t h0 h1 h2 h3]
  frame_out
  rfl

theorem out7_D (t : Fin cfg0.N) (h0 : t.val % 2 = 0) (h1 : t.val % 8 = 0) (h2 : ¬t.val % 16 = 0) (h3 : ¬t.val % 2 = 1) :
    (outsAt0 m c t.val t.isLt).2.1 = k0_pay17 (F := Ideal) (bDy m c t) := by
  rw [outsAt0_D m c t h0 h1 h2 h3]
  frame_out
  rfl

theorem sh_A (t : Fin cfg0.N) (h0 : t.val % 2 = 0) (h1 : t.val % 8 = 0) (h2 : t.val % 16 = 0) (h3 : ¬t.val % 2 = 1) :
    sh m c t.val t.isLt = k0_pay13 (F := Ideal) := by
  unfold sh
  rw [outsAt0_A m c t h0 h1 h2 h3]
  frame_out

theorem sh_D (t : Fin cfg0.N) (h0 : t.val % 2 = 0) (h1 : t.val % 8 = 0) (h2 : ¬t.val % 16 = 0) (h3 : ¬t.val % 2 = 1) :
    sh m c t.val t.isLt = k0_pay13 (F := Ideal) := by
  unfold sh
  rw [outsAt0_D m c t h0 h1 h2 h3]
  frame_out

theorem sh_C (t : Fin cfg0.N) (h0 : t.val % 2 = 0) (h1 : ¬t.val % 8 = 0) (h2 : ¬t.val % 16 = 0) (h3 : ¬t.val % 2 = 1) :
    sh m c t.val t.isLt = sh m c (t.val - 1) (Nat.lt_of_le_of_lt (Nat.sub_le _ _) t.isLt) := by
  unfold sh
  rw [outsAt0_C m c t h0 h1 h2 h3]
  frame_out
  rfl

theorem scl_A (t : Fin cfg0.N) (h0 : t.val % 2 = 0) (h1 : t.val % 8 = 0) (h2 : t.val % 16 = 0) (h3 : ¬t.val % 2 = 1) :
    scl m c t.val t.isLt = k0_pay14 (F := Ideal) := by
  unfold scl
  rw [outsAt0_A m c t h0 h1 h2 h3]
  frame_out

theorem scl_D (t : Fin cfg0.N) (h0 : t.val % 2 = 0) (h1 : t.val % 8 = 0) (h2 : ¬t.val % 16 = 0) (h3 : ¬t.val % 2 = 1) :
    scl m c t.val t.isLt = k0_pay14 (F := Ideal) := by
  unfold scl
  rw [outsAt0_D m c t h0 h1 h2 h3]
  frame_out

theorem scl_C (t : Fin cfg0.N) (h0 : t.val % 2 = 0) (h1 : ¬t.val % 8 = 0) (h2 : ¬t.val % 16 = 0) (h3 : ¬t.val % 2 = 1) :
    scl m c t.val t.isLt = scl m c (t.val - 1) (Nat.lt_of_le_of_lt (Nat.sub_le _ _) t.isLt) := by
  unfold scl
  rw [outsAt0_C m c t h0 h1 h2 h3]
  frame_out
  rfl

theorem gn_A (t : Fin cfg0.N) (h0 : t.val % 2 = 0) (h1 : t.val % 8 = 0) (h2 : t.val % 16 = 0) (h3 : ¬t.val % 2 = 1) :
    gn m c t.val t.isLt = k0_pay15 (F := Ideal) := by
  unfold gn
  rw [outsAt0_A m c t h0 h1 h2 h3]
  frame_out

theorem gn_C (t : Fin cfg0.N) (h0 : t.val % 2 = 0) (h1 : ¬t.val % 8 = 0) (h2 : ¬t.val % 16 = 0) (h3 : ¬t.val % 2 = 1) :
    gn m c t.val t.isLt = gn m c (t.val - 1) (Nat.lt_of_le_of_lt (Nat.sub_le _ _) t.isLt) := by
  unfold gn
  rw [outsAt0_C m c t h0 h1 h2 h3]
  frame_out
  rfl

theorem gn_D (t : Fin cfg0.N) (h0 : t.val % 2 = 0) (h1 : t.val % 8 = 0) (h2 : ¬t.val % 16 = 0) (h3 : ¬t.val % 2 = 1) :
    gn m c t.val t.isLt = gn m c (t.val - 1) (Nat.lt_of_le_of_lt (Nat.sub_le _ _) t.isLt) := by
  unfold gn
  rw [outsAt0_D m c t h0 h1 h2 h3]
  frame_out
  rfl

theorem sh_B (t : Fin cfg0.N) (h0 : ¬t.val % 2 = 0) (h1 : ¬t.val % 8 = 0) (h2 : ¬t.val % 16 = 0) (h3 : t.val % 2 = 1) :
    sh m c t.val t.isLt = k0_pay9 (F := Ideal) (acc m c t.val t.isLt) (sh m c (t.val - 1) (Nat.lt_of_le_of_lt (Nat.sub_le _ _) t.isLt)) := by
  rw [acc_B m c t h0 h1 h2 h3]
  unfold sh
  rw [outsAt0_B m c t h0 h1 h2 h3]
  frame_out
  rw [read_unread_whole]
  rfl

theorem scl_B (t : Fin cfg0.N) (h0 : ¬t.val % 2 = 0) (h1 : ¬t.val % 8 = 0) (h2 : ¬t.val % 16 = 0) (h3 : t.val % 2 = 1) :
    scl m c t.val t.isLt = k0_pay1 (F := Ideal) (k0_pay10 (scl m c (t.val - 1) (Nat.lt_of_le_of_lt (Nat.sub_le _ _) t.isLt))) (k0_pay11 (acc m c t.val t.isLt) (bX m c t) (bG m c t)) := by
  rw [acc_B m c t h0 h1 h2 h3]
  unfold scl
  rw [outsAt0_B m c t h0 h1 h2 h3]
  frame_out
  rw [read_unread_whole]
  rfl

theorem gn_B (t : Fin cfg0.N) (h0 : ¬t.val % 2 = 0) (h1 : ¬t.val % 8 = 0) (h2 : ¬t.val % 16 = 0) (h3 : t.val % 2 = 1) :
    gn m c t.val t.isLt = k0_pay2 (F := Ideal) (acc m c t.val t.isLt) (k0_pay6 (bX m c t)) (k0_pay8 (bSc m c t)) (gn m c (t.val - 1) (Nat.lt_of_le_of_lt (Nat.sub_le _ _) t.isLt)) := by
  rw [acc_B m c t h0 h1 h2 h3]
  unfold gn
  rw [outsAt0_B m c t h0 h1 h2 h3]
  frame_out
  rw [read_unread_whole]
  rfl

end Cert.Kernel8Ideal.Steps
-- ==== Proof.InBlk8.lean ====
module

public import proofs.«01_k».proof.Proof.InStep8

@[expose] public section

/-! Which entries of the arguments the blocks at a point hold. Point `t` of the grid is batch `t / 8`, row block `t / 2 % 4` and
column tile `t % 2`. -/

set_option maxRecDepth 16384

noncomputable section

open Idealize.ShloMosaic Idealize.ShloMosaic.TcCoe Idealize.SL.Sem
open Cert.Kernel8Ideal Cert.Kernel8Ideal.Gen Cert.Kernel8Ideal.Payloads Cert.Kernel8Ideal.Steps

namespace Cert.Kernel8Ideal.Blocks

variable (m : (ℓ : Loc nD τ sig) → Buf (Elt Ideal) ℓ) (c : Dev nD)

/-- The six arguments as arrays. -/
def aDu : FVec Ideal S2x2048x2048 .bf16 := m ((c : Thread nD τ).loc main_arg0)
def aW : FVec Ideal S2048x1024 .bf16 := m ((c : Thread nD τ).loc main_arg1)
def aX : FVec Ideal S2x2048x1024 .f32 := m ((c : Thread nD τ).loc main_arg2)
def aG : FVec Ideal S1024 .f32 := m ((c : Thread nD τ).loc main_arg3)
def aSc : FVec Ideal S2x1x1024 .f32 := m ((c : Thread nD τ).loc main_arg4)
def aDr : FVec Ideal S2x2048x1024 .f32 := m ((c : Thread nD τ).loc main_arg5)

theorem idx : ∀ t : Fin cfg0.N,
    win0_0.index t = ![t.val / 8, t.val / 2 % 4, t.val % 2]
    ∧ win0_1.index t = ![t.val % 2, 0]
    ∧ win0_2.index t = ![t.val / 8, t.val / 2 % 4, 0]
    ∧ win0_3.index t = ![0, 0]
    ∧ win0_4.index t = ![t.val / 8, 0, 0]
    ∧ win0_5.index t = ![t.val / 8, t.val / 2 % 4, 0]
    ∧ win0_6.index t = ![t.val / 8, t.val / 2 % 4, 0]
    ∧ win0_7.index t = ![t.val / 8, t.val / 2 % 4, t.val % 2]
    ∧ win0_8.index t = ![t.val / 8, 0, 0]
    ∧ win0_9.index t = ![t.val / 8, 0, 0]
    ∧ win0_10.index t = ![0, 0] := (by decide +kernel : ∀ t : Fin grid0.N, _)

variable (t : Fin cfg0.N)

theorem lt16 : t.val < 16 := lt_of_lt_of_eq t.isLt N_0

theorem bDy_apply (r : Fin 512) (k : Fin 1024) (b : Fin 2) (s : Fin 2048) (K : Fin 2048)
    (hb : b.val = t.val / 8) (hs : s.val = t.val / 2 % 4 * 512 + r.val) (hK : K.val = t.val % 2 * 1024 + k.val) :
    bDy m c t (ix3 0 r k) = aDu m c (ix3 b s K) := by
  unfold bDy aDu
  blk_ext [iblk, V, idx t]

theorem bW_apply (k : Fin 1024) (d : Fin 1024) (K : Fin 2048) (hK : K.val = t.val % 2 * 1024 + k.val) :
    bW m c t (ix2 k d) = aW m c (ix2 K d) := by
  unfold bW aW
  blk_ext [iblk, V, idx t]

theorem bX_apply (r : Fin 512) (d : Fin 1024) (b : Fin 2) (s : Fin 2048)
    (hb : b.val = t.val / 8) (hs : s.val = t.val / 2 % 4 * 512 + r.val) :
    bX m c t (ix3 0 r d) = aX m c (ix3 b s d) := by
  unfold bX aX
  blk_ext [iblk, V, idx t]

theorem bDr_apply (r : Fin 512) (d : Fin 1024) (b : Fin 2) (s : Fin 2048)
    (hb : b.val = t.val / 8) (hs : s.val = t.val / 2 % 4 * 512 + r.val) :
    bDr m c t (ix3 0 r d) = aDr m c (ix3 b s d) := by
  unfold bDr aDr
  blk_ext [iblk, V, idx t]

theorem bSc_apply (d : Fin 1024) (b : Fin 2) (hb : b.val = t.val / 8) :
    bSc m c t (ix3 0 0 d) = aSc m c (ix3 b 0 d) := by
  unfold bSc aSc
  blk_ext [iblk, V, idx t]

theorem bG_apply (d : Fin 1024) : bG m c t (ix2 0 d) = aG m c (ix1 d) := by
  unfold bG aG
  have h : iblk m c 3 t (ix2 0 d) = V m c main_v0 (ix2 0 d) := by
    blk_ext [iblk, idx t]
  rw [h]
  entry_read
  pointwise

end Cert.Kernel8Ideal.Blocks
-- ==== Proof.InFold8.lean ====
module

public import proofs.«01_k».proof.Proof.InBlk8

@[expose] public section

/-! The blocks carried from point to point in closed form: the sum of products over the four column tiles, and the three sums over the
rows. -/

set_option maxRecDepth 16384

noncomputable section

open Idealize.ShloMosaic Idealize.ShloMosaic.TcCoe Idealize.SL.Sem
open Cert.Kernel8Ideal Cert.Kernel8Ideal.Gen Cert.Kernel8Ideal.Payloads Cert.Kernel8Ideal.Steps Cert.Kernel8Ideal.Blocks

namespace Cert.Kernel8Ideal.Folds

variable (m : (ℓ : Loc nD τ sig) → Buf (Elt Ideal) ℓ) (c : Dev nD)

/-- The gradient of the modulated row. -/
def dhAt (b : Fin 2) (s : Fin 2048) (d : Fin 1024) : EReal := ∑ K : Fin 2048, aDu m c (ix3 b s K) * aW m c (ix2 K d)

theorem acc_reset (t : Fin cfg0.N) (h : t.val % 2 = 0) (r : Fin 512) (d : Fin 1024) :
    acc m c t.val t.isLt (ix2 r d) = 0 + ∑ k : Fin 1024, bDy m c t (ix3 0 r k) * bW m c t (ix2 k d) := by
  have e : acc m c t.val t.isLt = k0_pay18 (F := Ideal) (bDy m c t) (k0_pay12 (F := Ideal)) (bW m c t) := by
    by_cases h2 : t.val % 16 = 0
    · exact acc_A m c t h (by omega) h2 (by omega)
    · by_cases h1 : t.val % 8 = 0
      · exact acc_D m c t h h1 h2 (by omega)
      · exact acc_C m c t h h1 h2 (by omega)
  rw [e, pay18_apply, pay12_apply]

theorem acc_step (t : Fin cfg0.N) (h : ¬t.val % 2 = 0) (r : Fin 512) (d : Fin 1024) :
    acc m c t.val t.isLt (ix2 r d) = acc m c (t.val - 1) (Nat.lt_of_le_of_lt (Nat.sub_le _ _) t.isLt) (ix2 r d)
      + ∑ k : Fin 1024, bDy m c t (ix3 0 r k) * bW m c t (ix2 k d) := by
  rw [acc_B m c t h (by omega) (by omega) (by omega), pay18_apply]

/-- After the last column tile the scratch holds the gradient of the modulated rows of the block. -/
theorem acc_eq (t : Fin cfg0.N) (h : t.val % 2 = 1) (r : Fin 512) (d : Fin 1024) (b : Fin 2) (s : Fin 2048)
    (hb : b.val = t.val / 8) (hs : s.val = t.val / 2 % 4 * 512 + r.val) :
    acc m c t.val t.isLt (ix2 r d) = dhAt m c b s d := by
  have ht := lt16 t
  have e := Pipeline.eq_sum_fin_of_reset_step_apply_of_flush (fun n h (i : Fin 512 × Fin 1024) => acc m c n h (ix2 i.1 i.2)) 2
    (fun _ => 0) (fun t i => ∑ k : Fin 1024, bDy m c t (ix3 0 i.1 k) * bW m c t (ix2 k i.2))
    (fun t h i => acc_reset m c t h i.1 i.2) (fun t h i => acc_step m c t h i.1 i.2) t h (r, d)
  simp only at e
  rw [e, zero_add]
  unfold dhAt
  refine Fin.sum_mul_add_congr fun j k hl => ?_
  have hj := j.isLt
  have hk := k.isLt
  have h4 : (2 * (t.val / 2) + j.val) / 8 = t.val / 8 := by omega
  have h5 : (2 * (t.val / 2) + j.val) / 2 % 4 = t.val / 2 % 4 := by omega
  have h6 : (2 * (t.val / 2) + j.val) % 2 = j.val := by omega
  rw [bDy_apply m c ⟨2 * (t.val / 2) + j.val, _⟩ r k b s ⟨j.val * 1024 + k.val, hl⟩ (by simp only [h4]; exact hb)
      (by simp only [h5]; exact hs) (by simp only [h6]),
    bW_apply m c ⟨2 * (t.val / 2) + j.val, _⟩ k d ⟨j.val * 1024 + k.val, hl⟩ (by simp only [h6])]

/-- A point's part of the three sums over rows: nothing before the last column tile. -/
def part (f : Fin 2 → Fin 2048 → EReal) (t : Fin cfg0.N) : EReal :=
  if t.val % 2 = 1 then ∑ r : Fin 512, f ⟨t.val / 8 % 2, by omega⟩ ⟨t.val / 2 % 4 * 512 + r.val, by omega⟩ else 0

/-- The sum of the parts of the eight points of a sequence is the sum over its rows. -/
theorem sum_part (f : Fin 2 → Fin 2048 → EReal) (q : ℕ) (hq : q < 2) :
    ∑ s : Fin 8, part f ⟨8 * q + s.val, by rw [show cfg0.N = 16 from N_0]; omega⟩ = ∑ s : Fin 2048, f ⟨q, hq⟩ s := by
  rw [Fin.sum_univ_tiles 4 2 rfl, Fin.sum_univ_tiles 4 512 rfl]
  refine Finset.sum_congr rfl fun i _ => ?_
  rw [Fin.sum_univ_two]
  have hi := i.isLt
  unfold part
  rw [if_neg (by simp; omega), if_pos (by simp; omega)]
  simp only [zero_add]
  refine Finset.sum_congr rfl fun r _ => ?_
  congr 1
  · ext; simp; omega
  · ext; simp; omega

/-- The three summands. -/
def shTerm (d : Fin 1024) (b : Fin 2) (s : Fin 2048) : EReal := dhAt m c b s d
def sclTerm (d : Fin 1024) (b : Fin 2) (s : Fin 2048) : EReal :=
  dhAt m c b s d * (aX m c (ix3 b s d) * Model.rstd (fun k => aX m c (ix3 b s k))) * aG m c (ix1 d)
def gnTerm (d : Fin 1024) (b : Fin 2) (s : Fin 2048) : EReal :=
  dhAt m c b s d * (aX m c (ix3 b s d) * Model.rstd (fun k => aX m c (ix3 b s k))) * (1 + aSc m c (ix3 b 0 d))

theorem part_pos {f : Fin 2 → Fin 2048 → EReal} {t : Fin cfg0.N} (h : t.val % 2 = 1) {g : Fin 512 → EReal}
    (hg : ∀ (r : Fin 512) (b : Fin 2) (s : Fin 2048), b.val = t.val / 8 → s.val = t.val / 2 % 4 * 512 + r.val → g r = f b s) :
    ∑ r : Fin 512, g r = part f t := by
  have ht := lt16 t
  unfold part
  rw [if_pos h]
  exact Finset.sum_congr rfl fun r _ => hg r _ _ (by simp only; omega) (by simp only)

theorem part_neg {f : Fin 2 → Fin 2048 → EReal} {t : Fin cfg0.N} (h : ¬t.val % 2 = 1) : part f t = 0 := if_neg h

theorem sh_reset (t : Fin cfg0.N) (h : t.val % 8 = 0) (d : Fin 1024) :
    sh m c t.val t.isLt (ix3 0 0 d) = 0 + part (shTerm m c d) t := by
  rw [part_neg (by omega), add_zero, ← pay13_apply d]
  by_cases h2 : t.val % 16 = 0
  · rw [sh_A m c t (by omega) h h2 (by omega)]
  · rw [sh_D m c t (by omega) h h2 (by omega)]

theorem sh_step (t : Fin cfg0.N) (h : ¬t.val % 8 = 0) (d : Fin 1024) :
    sh m c t.val t.isLt (ix3 0 0 d) = sh m c (t.val - 1) (Nat.lt_of_le_of_lt (Nat.sub_le _ _) t.isLt) (ix3 0 0 d)
      + part (shTerm m c d) t := by
  by_cases h3 : t.val % 2 = 1
  · rw [sh_B m c t (by omega) h (by omega) h3, pay9_apply, part_pos h3 (fun r b s hb hs => acc_eq m c t h3 r d b s hb hs)]
    rfl
  · rw [part_neg h3, add_zero]
    rw [sh_C m c t (by omega) h (by omega) h3]

theorem scl_reset (t : Fin cfg0.N) (h : t.val % 8 = 0) (d : Fin 1024) :
    scl m c t.val t.isLt (ix3 0 0 d) = 0 + part (sclTerm m c d) t := by
  rw [part_neg (by omega), add_zero, ← pay14_apply d]
  by_cases h2 : t.val % 16 = 0
  · rw [scl_A m c t (by omega) h h2 (by omega)]
  · rw [scl_D m c t (by omega) h h2 (by omega)]

/-- The row of the block the row sums read. -/
theorem row_eq (t : Fin cfg0.N) (r : Fin 512) (b : Fin 2) (s : Fin 2048)
    (hb : b.val = t.val / 8) (hs : s.val = t.val / 2 % 4 * 512 + r.val) :
    (fun k => bX m c t (ix3 0 r k)) = fun k => aX m c (ix3 b s k) :=
  funext fun k => bX_apply m c t r k b s hb hs

theorem scl_step (t : Fin cfg0.N) (h : ¬t.val % 8 = 0) (d : Fin 1024) :
    scl m c t.val t.isLt (ix3 0 0 d) = scl m c (t.val - 1) (Nat.lt_of_le_of_lt (Nat.sub_le _ _) t.isLt) (ix3 0 0 d)
      + part (sclTerm m c d) t := by
  by_cases h3 : t.val % 2 = 1
  · rw [scl_B m c t (by omega) h (by omega) h3, pay1_apply, part_pos h3 (fun r b s hb hs => ?_)]
    rw [acc_eq m c t h3 r d b s hb hs, bX_apply m c t r d b s hb hs, row_eq m c t r b s hb hs, bG_apply]
    rfl
  · rw [part_neg h3, add_zero]
    rw [scl_C m c t (by omega) h (by omega) h3]

theorem gn_reset (t : Fin cfg0.N) (h : t.val % 16 = 0) (d : Fin 1024) :
    gn m c t.val t.isLt (ix2 0 d) = 0 + part (gnTerm m c d) t := by
  rw [part_neg (by omega), add_zero, ← pay15_apply d, gn_A m c t (by omega) (by omega) h (by omega)]

theorem gn_step (t : Fin cfg0.N) (h : ¬t.val % 16 = 0) (d : Fin 1024) :
    gn m c t.val t.isLt (ix2 0 d) = gn m c (t.val - 1) (Nat.lt_of_le_of_lt (Nat.sub_le _ _) t.isLt) (ix2 0 d)
      + part (gnTerm m c d) t := by
  by_cases h3 : t.val % 2 = 1
  · rw [gn_B m c t (by omega) (by omega) h h3, pay2_apply, part_pos h3 (fun r b s hb hs => ?_)]
    rw [acc_eq m c t h3 r d b s hb hs, bX_apply m c t r d b s hb hs, row_eq m c t r b s hb hs, bSc_apply m c t d b hb]
    rfl
  · rw [part_neg h3, add_zero]
    by_cases h1 : t.val % 8 = 0
    · rw [gn_D m c t (by omega) h1 h h3]
    · rw [gn_C m c t (by omega) h1 h h3]

theorem sh_eq (t : Fin cfg0.N) (h : t.val % 8 = 7) (d : Fin 1024) (b : Fin 2) (hb : b.val = t.val / 8) :
    sh m c t.val t.isLt (ix3 0 0 d) = ∑ s : Fin 2048, shTerm m c d b s := by
  have ht := lt16 t
  have e := Pipeline.eq_sum_fin_of_reset_step_apply_of_flush (fun n h (d : Fin 1024) => sh m c n h (ix3 0 0 d)) 8
    (fun _ => 0) (fun t d => part (shTerm m c d) t) (fun t h d => sh_reset m c t h d) (fun t h d => sh_step m c t h d) t h d
  rw [e, zero_add, sum_part _ (t.val / 8) (by omega)]
  exact congrArg (fun b => ∑ s : Fin 2048, shTerm m c d b s) (Fin.ext hb.symm)

theorem scl_eq (t : Fin cfg0.N) (h : t.val % 8 = 7) (d : Fin 1024) (b : Fin 2) (hb : b.val = t.val / 8) :
    scl m c t.val t.isLt (ix3 0 0 d) = ∑ s : Fin 2048, sclTerm m c d b s := by
  have ht := lt16 t
  have e := Pipeline.eq_sum_fin_of_reset_step_apply_of_flush (fun n h (d : Fin 1024) => scl m c n h (ix3 0 0 d)) 8
    (fun _ => 0) (fun t d => part (sclTerm m c d) t) (fun t h d => scl_reset m c t h d) (fun t h d => scl_step m c t h d) t h d
  rw [e, zero_add, sum_part _ (t.val / 8) (by omega)]
  exact congrArg (fun b => ∑ s : Fin 2048, sclTerm m c d b s) (Fin.ext hb.symm)

theorem gn_eq (t : Fin cfg0.N) (h : t.val % 16 = 15) (d : Fin 1024) :
    gn m c t.val t.isLt (ix2 0 d) = ∑ b : Fin 2, ∑ s : Fin 2048, gnTerm m c d b s := by
  have ht := lt16 t
  have e := Pipeline.eq_sum_fin_of_reset_step_apply_of_flush (fun n h (d : Fin 1024) => gn m c n h (ix2 0 d)) 16
    (fun _ => 0) (fun t d => part (gnTerm m c d) t) (fun t h d => gn_reset m c t h d) (fun t h d => gn_step m c t h d) t h d
  rw [e, zero_add, Fin.sum_univ_tiles 2 8 rfl]
  refine Finset.sum_congr rfl fun b _ => ?_
  rw [← sum_part _ b.val b.isLt]
  refine Finset.sum_congr rfl fun s _ => congrArg _ (Fin.ext ?_)
  simp only
  omega

end Cert.Kernel8Ideal.Folds
-- ==== Proof.InArr8.lean ====
module

public import proofs.«01_k».proof.Proof.InFold8

@[expose] public section

/-! What the five results of the kernel hold, entry by entry, in terms of the arguments. -/

set_option maxRecDepth 16384

noncomputable section

open Idealize.ShloMosaic Idealize.ShloMosaic.TcCoe Idealize.SL.Sem
open Cert.Kernel8Ideal Cert.Kernel8Ideal.Gen Cert.Kernel8Ideal.Payloads Cert.Kernel8Ideal.Steps Cert.Kernel8Ideal.Blocks
open Cert.Kernel8Ideal.Folds

namespace Cert.Kernel8Ideal.Arrays

variable (m : (ℓ : Loc nD τ sig) → Buf (Elt Ideal) ℓ) (c : Dev nD)

def dxAt (b : Fin 2) (s : Fin 2048) (d : Fin 1024) : EReal :=
  Model.dxRow (fun k => dhAt m c b s k) (fun k => aX m c (ix3 b s k)) (fun k => aG m c (ix1 k)) (fun k => aSc m c (ix3 b 0 k))
    (fun k => aDr m c (ix3 b s k)) d

def G6 : FVec Ideal S2x2048x1024 .f32 := fun i => dxAt m c (i 0) (i 1) (i 2)
def G8 : FVec Ideal S2x1x1024 .f32 := fun i => ∑ s : Fin 2048, shTerm m c (i 2) (i 0) s
def G9 : FVec Ideal S2x1x1024 .f32 := fun i => ∑ s : Fin 2048, sclTerm m c (i 2) (i 0) s
def G10 : FVec Ideal S1x1024 .f32 := fun i => ∑ b : Fin 2, ∑ s : Fin 2048, gnTerm m c (i 1) b s

theorem point6 (t : Fin cfg0.N) (h3 : t.val % 2 = 1) (y : S1x512x1024.Idx) (i : S2x2048x1024.Idx)
    (h0 : (i 0).val = t.val / 8) (h1 : (i 1).val = t.val / 2 % 4 * 512 + (y 1).val) (h2 : (i 2).val = (y 2).val) :
    (outsAt0 m c t.val t.isLt).1 y = G6 m c i := by
  rw [out6_B m c t (by omega) (by omega) (by omega) h3]
  obtain ⟨z, r, d, rfl⟩ : ∃ z r d, y = ix3 z r d := ⟨y 0, y 1, y 2, eq_ix3 y⟩
  obtain ⟨b, s, e, rfl⟩ : ∃ b s e, i = ix3 b s e := ⟨i 0, i 1, i 2, eq_ix3 i⟩
  obtain rfl : e = d := Fin.ext h2
  rw [pay3_apply]
  show _ = dxAt m c b s e
  unfold dxAt
  rw [row_eq m c t r b s h0 h1, funext fun k => acc_eq m c t h3 r k b s h0 h1, funext fun k => bG_apply m c t k,
    funext fun k => bSc_apply m c t k b h0, funext fun k => bDr_apply m c t r k b s h0 h1]

theorem point7 (t : Fin cfg0.N) (y : S1x512x1024.Idx) (i : S2x2048x2048.Idx)
    (h0 : (i 0).val = t.val / 8) (h1 : (i 1).val = t.val / 2 % 4 * 512 + (y 1).val)
    (h2 : (i 2).val = t.val % 2 * 1024 + (y 2).val) :
    (outsAt0 m c t.val t.isLt).2.1 y = aDu m c i := by
  have e : (outsAt0 m c t.val t.isLt).2.1 = k0_pay17 (F := Ideal) (bDy m c t) := by
    by_cases g0 : t.val % 2 = 0
    · by_cases g2 : t.val % 16 = 0
      · exact out7_A m c t g0 (by omega) g2 (by omega)
      · by_cases g1 : t.val % 8 = 0
        · exact out7_D m c t g0 g1 g2 (by omega)
        · exact out7_C m c t g0 g1 g2 (by omega)
    · exact out7_B m c t g0 (by omega) (by omega) (by omega)
  rw [e]
  obtain ⟨z, r, k, rfl⟩ : ∃ z r k, y = ix3 z r k := ⟨y 0, y 1, y 2, eq_ix3 y⟩
  obtain ⟨b, s, K, rfl⟩ : ∃ b s K, i = ix3 b s K := ⟨i 0, i 1, i 2, eq_ix3 i⟩
  rw [pay17_apply]
  exact bDy_apply m c t r k b s K h0 h1 h2

theorem point8 (t : Fin cfg0.N) (h : t.val % 8 = 7) (y : S1x1x1024.Idx) (i : S2x1x1024.Idx)
    (h0 : (i 0).val = t.val / 8) (h2 : (i 2).val = (y 2).val) :
    (outsAt0 m c t.val t.isLt).2.2.1 y = G8 m c i := by
  obtain ⟨z, z', d, rfl⟩ : ∃ z z' d, y = ix3 z z' d := ⟨y 0, y 1, y 2, eq_ix3 y⟩
  obtain ⟨b, z'', e, rfl⟩ : ∃ b z'' e, i = ix3 b z'' e := ⟨i 0, i 1, i 2, eq_ix3 i⟩
  obtain rfl : e = d := Fin.ext h2
  obtain rfl : z = 0 := Subsingleton.elim _ _
  obtain rfl : z' = 0 := Subsingleton.elim _ _
  exact sh_eq m c t h e b h0

theorem point9 (t : Fin cfg0.N) (h : t.val % 8 = 7) (y : S1x1x1024.Idx) (i : S2x1x1024.Idx)
    (h0 : (i 0).val = t.val / 8) (h2 : (i 2).val = (y 2).val) :
    (outsAt0 m c t.val t.isLt).2.2.2.1 y = G9 m c i := by
  obtain ⟨z, z', d, rfl⟩ : ∃ z z' d, y = ix3 z z' d := ⟨y 0, y 1, y 2, eq_ix3 y⟩
  obtain ⟨b, z'', e, rfl⟩ : ∃ b z'' e, i = ix3 b z'' e := ⟨i 0, i 1, i 2, eq_ix3 i⟩
  obtain rfl : e = d := Fin.ext h2
  obtain rfl : z = 0 := Subsingleton.elim _ _
  obtain rfl : z' = 0 := Subsingleton.elim _ _
  exact scl_eq m c t h e b h0

theorem point10 (t : Fin cfg0.N) (h : t.val % 16 = 15) (y : S1x1024.Idx) (i : S1x1024.Idx) (h1 : (i 1).val = (y 1).val) :
    (outsAt0 m c t.val t.isLt).2.2.2.2.1 y = G10 m c i := by
  obtain ⟨z, d, rfl⟩ : ∃ z d, y = ix2 z d := ⟨y 0, y 1, eq_ix2 y⟩
  obtain ⟨z', e, rfl⟩ : ∃ z' e, i = ix2 z' e := ⟨i 0, i 1, eq_ix2 i⟩
  obtain rfl : e = d := Fin.ext h1
  obtain rfl : z = 0 := Subsingleton.elim _ _
  exact gn_eq m c t h e

theorem final6 : (dats m 0 c).arrAt 6 cfg0.N = G6 m c := by
  refine (dats m 0 c).arrAt_eq_of_covers 6 (G6 m c) (by decide +kernel) fun t hf y => ?_
  have h3 := (flush0_6 t).mp hf
  blk_simp
  rw [after0_6]
  refine point6 m c t h3 y _ ?_ ?_ ?_ <;> (blk_simp [idx t] <;> try omega)

theorem final7 : (dats m 0 c).arrAt 7 cfg0.N = aDu m c := by
  refine (dats m 0 c).arrAt_eq_of_covers 7 (aDu m c) (by decide +kernel) fun t hf y => ?_
  blk_simp
  rw [after0_7]
  refine point7 m c t  y _ ?_ ?_ ?_ <;> (blk_simp [idx t] <;> try omega)

theorem final8 : (dats m 0 c).arrAt 8 cfg0.N = G8 m c := by
  refine (dats m 0 c).arrAt_eq_of_covers 8 (G8 m c) (by decide +kernel) fun t hf y => ?_
  have h3 := (flush0_8 t).mp hf
  blk_simp
  rw [after0_8]
  refine point8 m c t h3 y _ ?_ ?_ <;> (blk_simp [idx t] <;> try omega)

theorem final9 : (dats m 0 c).arrAt 9 cfg0.N = G9 m c := by
  refine (dats m 0 c).arrAt_eq_of_covers 9 (G9 m c) (by decide +kernel) fun t hf y => ?_
  have h3 := (flush0_9 t).mp hf
  blk_simp
  rw [after0_9]
  refine point9 m c t h3 y _ ?_ ?_ <;> (blk_simp [idx t] <;> try omega)

theorem final10 : (dats m 0 c).arrAt 10 cfg0.N = G10 m c := by
  refine (dats m 0 c).arrAt_eq_of_covers 10 (G10 m c) (by decide +kernel) fun t hf y => ?_
  have h3 := (flush0_10 t).mp hf
  blk_simp
  rw [after0_10]
  refine point10 m c t h3 y _ ?_ <;> (blk_simp [idx t] <;> try omega)

end Cert.Kernel8Ideal.Arrays
-- ==== Proof.InRef8.lean ====
module

public import proofs.«01_k».proof.Proof.Model
public import proofs.«01_k».proof.Proof.Gen.Reference8Ideal.Run

@[expose] public section

/-! What the reference of program 8 computes: its results named by the tensors they go through — the gradient of the modulated rows
(`hidGrad`), the row variances (`varCol`) and the row statistic of the norm's derivative (`statCol`) — and read at an index. -/

set_option maxRecDepth 16384

noncomputable section

open Idealize.ShloMosaic Idealize.ShloMosaic.TcCoe Idealize.SL.Sem
open Cert.Reference8Ideal Cert.Reference8Ideal.Gen

namespace Cert.Reference8Ideal.Value

/-- The gradient of the modulated rows: `u` times the transposed weights. -/
def hidGrad (u : FVec Ideal S2x2048x2048 .bf16) (w : FVec Ideal S2048x1024 .bf16) : FVec Ideal S2x2048x1024 .f32 :=
  Host.dotGeneral dot_S2x2048x2048_S1024x2048_S2x2048x1024_2_1_01_0_n_n none (extf .f32 u bitsLt_bf16_f32) (transpose S1024x2048 [1, 0] (extf .f32 w bitsLt_bf16_f32) transposes_S2048x1024_S1024x2048_1_0)

/-- The row variances plus `eps`, a column per batch. -/
def varCol (x : FVec Ideal S2x2048x1024 .f32) : FVec Ideal S2x2048x1 .f32 :=
  addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The row statistic of the norm's derivative. -/
def statCol (dh x : FVec Ideal S2x2048x1024 .f32) (g : FVec Ideal S1024 .f32) (sc : FVec Ideal S2x1x1024 .f32) : FVec Ideal S2x2048 .f32 :=
  Host.reduceAdd (Host.divf (mulf (shapeCast _ (Host.reduceAdd (mulf x (mulf (mulf dh (broadcastInDim S2x2048x1024 ![0, 1, 2] bcast_S2x1x1024_S2x2048x1024_0_1_2 (addf (broadcastInDim S2x1x1024 ![] bcast_S_S2x1x1024 (constant S_ .f32 0x3F800000#32)) sc))) (broadcastInDim S2x2048x1024 ![0, 1, 2] bcast_S1x1x1024_S2x2048x1024_0_1_2 (broadcastInDim S1x1x1024 ![2] bcast_S1024_S1x1x1024_2 g)))) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (varCol x)) (varCol x)))) (broadcastInDim S2x2048x1 ![] bcast_S_S2x2048x1 (constant S_ .f32 0x44800000#32))) (constant S_ .f32 0x00000000#32) reducesTo_S2x2048x1_S2x2048_d2 h_S_

/-- The gradient that reaches `x`. -/
def dxOut (dh x : FVec Ideal S2x2048x1024 .f32) (g : FVec Ideal S1024 .f32) (sc : FVec Ideal S2x1x1024 .f32) (dres : FVec Ideal S2x2048x1024 .f32) : FVec Ideal S2x2048x1024 .f32 :=
  addf (addf (addf dres (mulf (mulf (mulf dh (broadcastInDim S2x2048x1024 ![0, 1, 2] bcast_S2x1x1024_S2x2048x1024_0_1_2 (addf (broadcastInDim S2x1x1024 ![] bcast_S_S2x1x1024 (constant S_ .f32 0x3F800000#32)) sc))) (broadcastInDim S2x2048x1024 ![0, 1, 2] bcast_S1x1x1024_S2x2048x1024_0_1_2 (broadcastInDim S1x1x1024 ![2] bcast_S1024_S1x1x1024_2 g))) (broadcastInDim S2x2048x1024 ![0, 1, 2] bcast_S2x2048x1_S2x2048x1024_0_1_2 (Host.rsqrt (varCol x))))) (mulf x (broadcastInDim S2x2048x1024 ![0, 1] bcast_S2x2048_S2x2048x1024_0_1 (statCol dh x g sc)))) (mulf (broadcastInDim S2x2048x1024 ![0, 1] bcast_S2x2048_S2x2048x1024_0_1 (statCol dh x g sc)) x)

/-- The gradient of the shift. -/
def dshOut (dh : FVec Ideal S2x2048x1024 .f32) : FVec Ideal S2x1x1024 .f32 :=
  shapeCast _ (Host.reduceAdd dh (constant S_ .f32 0x00000000#32) reducesTo_S2x2048x1024_S2x1024_d1 h_S_) shapeCasts_S2x1024_S2x1x1024

/-- The gradient of the scale. -/
def dscOut (dh x : FVec Ideal S2x2048x1024 .f32) (g : FVec Ideal S1024 .f32) : FVec Ideal S2x1x1024 .f32 :=
  shapeCast _ (Host.reduceAdd (mulf (mulf (mulf x (broadcastInDim S2x2048x1024 ![0, 1, 2] bcast_S2x2048x1_S2x2048x1024_0_1_2 (Host.rsqrt (varCol x)))) (broadcastInDim S2x2048x1024 ![0, 1, 2] bcast_S1x1x1024_S2x2048x1024_0_1_2 (broadcastInDim S1x1x1024 ![2] bcast_S1024_S1x1x1024_2 g))) dh) (constant S_ .f32 0x00000000#32) reducesTo_S2x2048x1024_S2x1024_d1 h_S_) shapeCasts_S2x1024_S2x1x1024

/-- The gradient of the norm's weights. -/
def dgOut (dh x : FVec Ideal S2x2048x1024 .f32) (sc : FVec Ideal S2x1x1024 .f32) : FVec Ideal S1x1024 .f32 :=
  shapeCast _ (Host.reduceAdd (shapeCast _ (Host.reduceAdd (mulf (mulf x (broadcastInDim S2x2048x1024 ![0, 1, 2] bcast_S2x2048x1_S2x2048x1024_0_1_2 (Host.rsqrt (varCol x)))) (mulf dh (broadcastInDim S2x2048x1024 ![0, 1, 2] bcast_S2x1x1024_S2x2048x1024_0_1_2 (addf (broadcastInDim S2x1x1024 ![] bcast_S_S2x1x1024 (constant S_ .f32 0x3F800000#32)) sc)))) (constant S_ .f32 0x00000000#32) reducesTo_S2x2048x1024_S1024_d0_1 h_S_) shapeCasts_S1024_S1x1x1024) (constant S_ .f32 0x00000000#32) reducesTo_S1x1x1024_S1024_d0_1 h_S_) shapeCasts_S1024_S1x1024

theorem hidGrad_apply (u : FVec Ideal S2x2048x2048 .bf16) (w : FVec Ideal S2048x1024 .bf16) (b : Fin 2) (s : Fin 2048) (d : Fin 1024) :
    hidGrad u w (ix3 b s d) = ∑ k : Fin 2048, u (ix3 b s k) * w (ix2 k d) := by
  pointwise [hidGrad]

theorem varCol_apply (x : FVec Ideal S2x2048x1024 .f32) (b : Fin 2) (s : Fin 2048) (o : Fin 1) :
    varCol x (ix3 b s o) = Model.var (fun k => x (ix3 b s k)) := by
  pointwise [varCol, Model.var, Model.mean]

theorem statCol_apply (dh x : FVec Ideal S2x2048x1024 .f32) (g : FVec Ideal S1024 .f32) (sc : FVec Ideal S2x1x1024 .f32) (b : Fin 2) (s : Fin 2048) :
    statCol dh x g sc (ix2 b s) = Ideal.div ((∑ k : Fin 1024, x (ix3 b s k) * (dh (ix3 b s k) * (1 + sc (ix3 b 0 k)) * g (ix1 k)))
      * (Ideal.ofBits .f32 0xBF000000#32 * Ideal.div (Model.rstd fun k => x (ix3 b s k)) (Model.var fun k => x (ix3 b s k))))
      (Ideal.ofBits .f32 0x44800000#32) := by
  pointwise [statCol, varCol_apply, Model.rstd]
  exact Fin.sum_univ_one _

theorem dxOut_apply (dh x : FVec Ideal S2x2048x1024 .f32) (g : FVec Ideal S1024 .f32) (sc : FVec Ideal S2x1x1024 .f32) (dres : FVec Ideal S2x2048x1024 .f32) (b : Fin 2) (s : Fin 2048) (d : Fin 1024) :
    dxOut dh x g sc dres (ix3 b s d) = Model.dxRow (fun k => dh (ix3 b s k)) (fun k => x (ix3 b s k)) (fun k => g (ix1 k))
      (fun k => sc (ix3 b 0 k)) (fun k => dres (ix3 b s k)) d := by
  refine Eq.trans ?_ (Model.dx_eq _ _ _ _ _ _ _ (statCol_apply dh x g sc b s))
  pointwise [dxOut, varCol_apply, Model.rstd]

theorem dshOut_apply (dh : FVec Ideal S2x2048x1024 .f32) (b : Fin 2) (d : Fin 1024) :
    dshOut dh (ix3 b 0 d) = ∑ s : Fin 2048, dh (ix3 b s d) := by
  pointwise [dshOut]

theorem dscOut_apply (dh x : FVec Ideal S2x2048x1024 .f32) (g : FVec Ideal S1024 .f32) (b : Fin 2) (d : Fin 1024) :
    dscOut dh x g (ix3 b 0 d) = ∑ s : Fin 2048, dh (ix3 b s d) * (x (ix3 b s d) * Model.rstd fun k => x (ix3 b s k)) * g (ix1 d) := by
  pointwise! [dscOut, varCol_apply, Model.rstd]

theorem dgOut_apply (dh x : FVec Ideal S2x2048x1024 .f32) (sc : FVec Ideal S2x1x1024 .f32) (d : Fin 1024) :
    dgOut dh x sc (ix2 0 d) = ∑ b : Fin 2, ∑ s : Fin 2048, dh (ix3 b s d) * (x (ix3 b s d) * Model.rstd fun k => x (ix3 b s k)) * (1 + sc (ix3 b 0 d)) := by
  pointwise [dgOut]
  rw [Model.hostReduceAdd_01, zero_add, Fin.sum_univ_one, Fin.sum_univ_one]
  pointwise
  rw [Model.hostReduceAdd_01, zero_add]
  pointwise! [varCol_apply, Model.rstd]

theorem run_named (m : (ℓ : Loc nD τ sig) → Buf (Elt Ideal) ℓ) (ρ : Dev nD → PrngReg)
    (du : Dev nD → FVec Ideal S2x2048x2048 .bf16) (w : Dev nD → FVec Ideal S2048x1024 .bf16)
    (x : Dev nD → FVec Ideal S2x2048x1024 .f32) (g : Dev nD → FVec Ideal S1024 .f32)
    (sc : Dev nD → FVec Ideal S2x1x1024 .f32) (dr : Dev nD → FVec Ideal S2x2048x1024 .f32)
    (h0 : ∀ c : Dev nD, m ((c.tc : Thread nD τ).loc main_arg0) = du c)
    (h1 : ∀ c : Dev nD, m ((c.tc : Thread nD τ).loc main_arg1) = w c)
    (h2 : ∀ c : Dev nD, m ((c.tc : Thread nD τ).loc main_arg2) = x c)
    (h3 : ∀ c : Dev nD, m ((c.tc : Thread nD τ).loc main_arg3) = g c)
    (h4 : ∀ c : Dev nD, m ((c.tc : Thread nD τ).loc main_arg4) = sc c)
    (h5 : ∀ c : Dev nD, m ((c.tc : Thread nD τ).loc main_arg5) = dr c) :
    θ_run defs (onTc (τ := τ) (main (F := Ideal))) ⟨m, fun _ => 0, ρ⟩ fun r => ∀ c : Dev nD,
      r.2.mem ((c.tc : Thread nD τ).loc main_v55) = dxOut (hidGrad (du c) (w c)) (x c) (g c) (sc c) (dr c)
      ∧ r.2.mem ((c.tc : Thread nD τ).loc main_arg0) = du c
      ∧ r.2.mem ((c.tc : Thread nD τ).loc main_v29) = dshOut (hidGrad (du c) (w c))
      ∧ r.2.mem ((c.tc : Thread nD τ).loc main_v32) = dscOut (hidGrad (du c) (w c)) (x c) (g c)
      ∧ r.2.mem ((c.tc : Thread nD τ).loc main_v56) = dgOut (hidGrad (du c) (w c)) (x c) (sc c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain rfl := funext h0
  obtain rfl := funext h1
  obtain rfl := funext h2
  obtain rfl := funext h3
  obtain rfl := funext h4
  obtain rfl := funext h5
  exact (θ_run defs _ _).mono (fun r h c => ⟨(h c).1, (h c).2⟩) (run m ρ)

end Cert.Reference8Ideal.Value
-- ==== Proof.InBwd8.lean ====
module

public import proofs.«01_k».proof.Defs
public import proofs.«01_k».proof.Proof.InArr8
public import proofs.«01_k».proof.Proof.InRef8
public import Idealize.ShloMosaic.Lib.Claim
public import Idealize.ShloMosaic.Lib.Quiescent

@[expose] public section

/-! The reference's results over the kernel's arguments are the arrays the kernel leaves. -/

set_option maxRecDepth 16384

noncomputable section

open Idealize.ShloMosaic Idealize.ShloMosaic.TcCoe Idealize.SL.Sem
open Cert.Kernel8Ideal Cert.Kernel8Ideal.Gen Cert.Kernel8Ideal.Blocks Cert.Kernel8Ideal.Folds Cert.Kernel8Ideal.Arrays
open Cert.Reference8Ideal.Value

namespace Cert.Kernel8Ideal.Equation

variable (m : (ℓ : Loc nD τ sig) → Buf (Elt Ideal) ℓ) (c : Dev nD)

/-- The gradient of the modulated rows over the kernel's arguments. -/
abbrev rHid : FVec Ideal S2x2048x1024 .f32 := hidGrad (aDu m c) (aW m c)

theorem rHid_apply (b : Fin 2) (s : Fin 2048) (d : Fin 1024) : rHid m c (ix3 b s d) = dhAt m c b s d := by
  unfold rHid dhAt
  rw [hidGrad_apply]

theorem eq6 : dxOut (rHid m c) (aX m c) (aG m c) (aSc m c) (aDr m c) = G6 m c := by
  funext i
  obtain ⟨b, s, d, rfl⟩ : ∃ (b : Fin 2) (s : Fin 2048) (d : Fin 1024), i = ix3 b s d := ⟨i 0, i 1, i 2, eq_ix3 i⟩
  rw [dxOut_apply]
  show _ = dxAt m c b s d
  unfold dxAt
  rw [funext fun k => rHid_apply m c b s k]

theorem eq8 : dshOut (rHid m c) = G8 m c := by
  funext i
  obtain ⟨b, z, d, rfl⟩ : ∃ (b : Fin 2) (z : Fin 1) (d : Fin 1024), i = ix3 b z d := ⟨i 0, i 1, i 2, eq_ix3 i⟩
  obtain rfl : z = 0 := Subsingleton.elim _ _
  rw [dshOut_apply]
  exact Finset.sum_congr rfl fun s _ => rHid_apply m c b s d

theorem eq9 : dscOut (rHid m c) (aX m c) (aG m c) = G9 m c := by
  funext i
  obtain ⟨b, z, d, rfl⟩ : ∃ (b : Fin 2) (z : Fin 1) (d : Fin 1024), i = ix3 b z d := ⟨i 0, i 1, i 2, eq_ix3 i⟩
  obtain rfl : z = 0 := Subsingleton.elim _ _
  rw [dscOut_apply]
  exact Finset.sum_congr rfl fun s _ => by rw [rHid_apply]; rfl

theorem eq10 : dgOut (rHid m c) (aX m c) (aSc m c) = G10 m c := by
  funext i
  obtain ⟨z, d, rfl⟩ : ∃ (z : Fin 1) (d : Fin 1024), i = ix2 z d := ⟨i 0, i 1, eq_ix2 i⟩
  obtain rfl : z = 0 := Subsingleton.elim _ _
  rw [dgOut_apply]
  exact Finset.sum_congr rfl fun b _ => Finset.sum_congr rfl fun s _ => by rw [rHid_apply]; rfl

end Cert.Kernel8Ideal.Equation

namespace Cert.Reference8Ideal.InBwd

open Cert.Reference8Ideal.Value Cert.Kernel8Ideal.Equation

/-- The reference leaves its arguments as they were. -/
theorem frame : Cert.quiescent_Reference8Ideal (hReference8Ideal := Cert.Reference8Ideal.Gen.facts) := by
  intro m ρ _
  exact (θ_run Cert.Reference8Ideal.defs _ _).mono
    (fun r h => ⟨fun c => (h c).2.2.2.2.2, sem_eq_zero_of_no_sems (by decide) r.2⟩) (Cert.Reference8Ideal.Value.run m ρ)

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => G6 m c, fun c => aDu m c, fun c => G8 m c, fun c => G9 m c, fun c => G10 m c, ?_, ?_⟩
  · refine (θ_run _ _ _).mono (fun r h c => ?_) (Cert.Kernel8Ideal.Value.run_blocks m g)
    obtain ⟨h6, h7, h8, h9, h10, hk⟩ := h c
    exact ⟨h6.trans (final6 m c), h7.trans (final7 m c), h8.trans (final8 m c), h9.trans (final9 m c),
      h10.trans (final10 m c), hk⟩
  · refine (θ_run _ _ _).mono (fun r h c => ?_) (Cert.Reference8Ideal.Value.run_named m' g' (aDu m) (aW m) (aX m) (aG m) (aSc m)
      (aDr m) (fun c => (hagree c).1) (fun c => (hagree c).2.1) (fun c => (hagree c).2.2.1)
      (fun c => (hagree c).2.2.2.1) (fun c => (hagree c).2.2.2.2.1) (fun c => (hagree c).2.2.2.2.2))
    obtain ⟨h6, h7, h8, h9, h10, hk⟩ := h c
    exact ⟨h6.trans (eq6 m c), h7, h8.trans (eq8 m c), h9.trans (eq9 m c), h10.trans (eq10 m c), hk⟩

end Cert.Reference8Ideal.InBwd
-- ==== Proof.Out9.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The attention branches' output projection, program 9: three products, one for each branch's rows of the weight, added; the reference
multiplies the concatenated outputs by the whole weight. Point `t` of the grid is sequence `t / 4`, row block `t % 4`. -/

set_option maxRecDepth 16384

noncomputable section

open Idealize.ShloMosaic Idealize.ShloMosaic.TcCoe Idealize.SL.Sem

namespace Cert.Kernel9Ideal.Out

open Cert.Kernel9Ideal Cert.Kernel9Ideal.Gen

variable (m : (ℓ : Loc nD τ sig) → Buf (Elt Ideal) ℓ) (c : Dev nD)

/-- The arguments as arrays: the three branches' outputs, the weight, the gate, the residual. -/
def aO0 : FVec Ideal S2x2048x256 .f32 := m ((c : Thread nD τ).loc main_arg0)
def aO1 : FVec Ideal S2x2048x384 .f32 := m ((c : Thread nD τ).loc main_arg1)
def aO2 : FVec Ideal S2x2048x384 .f32 := m ((c : Thread nD τ).loc main_arg2)
def aW : FVec Ideal S1024x1024 .bf16 := m ((c : Thread nD τ).loc main_arg3)
def aG : FVec Ideal S2x1x1024 .f32 := m ((c : Thread nD τ).loc main_arg4)
def aR : FVec Ideal S2x2048x1024 .f32 := m ((c : Thread nD τ).loc main_arg5)

/-- The blocks of the operands at a point. -/
def bO0 (t : Fin cfg0.N) : FVec Ideal S1x512x256 .f32 := iblk m c 0 t
def bO1 (t : Fin cfg0.N) : FVec Ideal S1x512x384 .f32 := iblk m c 1 t
def bO2 (t : Fin cfg0.N) : FVec Ideal S1x512x384 .f32 := iblk m c 2 t
def bW0 (t : Fin cfg0.N) : FVec Ideal S256x1024 .bf16 := iblk m c 3 t
def bW1 (t : Fin cfg0.N) : FVec Ideal S384x1024 .bf16 := iblk m c 4 t
def bW2 (t : Fin cfg0.N) : FVec Ideal S384x1024 .bf16 := iblk m c 5 t
def bG (t : Fin cfg0.N) : FVec Ideal S1x1x1024 .f32 := iblk m c 6 t
def bR (t : Fin cfg0.N) : FVec Ideal S1x512x1024 .f32 := iblk m c 7 t

theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![0, 0] ∧ win0_4.index t = ![0, 0]
    ∧ win0_5.index t = ![0, 0] ∧ win0_6.index t = ![t.val / 4, 0, 0] ∧ win0_7.index t = ![t.val / 4, t.val % 4, 0]
    ∧ win0_8.index t = ![t.val / 4, t.val % 4, 0] ∧ win0_9.index t = ![t.val / 4, t.val % 4, 0] :=
  (by decide +kernel : ∀ t : Fin grid0.N, _)

theorem pay2_apply (o0 : FVec Ideal S1x512x256 .f32) (w0 : FVec Ideal S256x1024 .bf16) (o1 : FVec Ideal S1x512x384 .f32)
    (w1 : FVec Ideal S384x1024 .bf16) (o2 : FVec Ideal S1x512x384 .f32) (w2 : FVec Ideal S384x1024 .bf16)
    (r : Fin 512) (d : Fin 1024) :
    k0_pay2 (F := Ideal) o0 w0 o1 w1 o2 w2 (ix2 r d)
      = (∑ k : Fin 256, o0 (ix3 0 r k) * w0 (ix2 k d)) + (∑ k : Fin 384, o1 (ix3 0 r k) * w1 (ix2 k d))
        + ∑ k : Fin 384, o2 (ix3 0 r k) * w2 (ix2 k d) := by
  pointwise [k0_pay2]

theorem pay3_apply (o0 : FVec Ideal S1x512x256 .f32) (w0 : FVec Ideal S256x1024 .bf16) (o1 : FVec Ideal S1x512x384 .f32)
    (w1 : FVec Ideal S384x1024 .bf16) (o2 : FVec Ideal S1x512x384 .f32) (w2 : FVec Ideal S384x1024 .bf16)
    (z : Fin 1) (r : Fin 512) (d : Fin 1024) :
    k0_pay3 (F := Ideal) o0 w0 o1 w1 o2 w2 (ix3 z r d) = k0_pay2 (F := Ideal) o0 w0 o1 w1 o2 w2 (ix2 r d) := by
  unfold k0_pay3
  generalize k0_pay2 (F := Ideal) o0 w0 o1 w1 o2 w2 = p
  pointwise

theorem pay4_apply (o0 : FVec Ideal S1x512x256 .f32) (w0 : FVec Ideal S256x1024 .bf16) (o1 : FVec Ideal S1x512x384 .f32)
    (w1 : FVec Ideal S384x1024 .bf16) (o2 : FVec Ideal S1x512x384 .f32) (w2 : FVec Ideal S384x1024 .bf16)
    (x : FVec Ideal S1x512x1024 .f32) (g : FVec Ideal S1x1x1024 .f32) (z : Fin 1) (r : Fin 512) (d : Fin 1024) :
    k0_pay1 (F := Ideal) (k0_pay4 o0 w0 o1 w1 o2 w2 x g) (ix3 z r d)
      = x (ix3 0 r d) + g (ix3 0 0 d) * k0_pay2 (F := Ideal) o0 w0 o1 w1 o2 w2 (ix2 r d) := by
  unfold k0_pay4
  generalize k0_pay2 (F := Ideal) o0 w0 o1 w1 o2 w2 = p
  pointwise [k0_pay1]

variable (t : Fin cfg0.N)

theorem bO0_apply (r : Fin 512) (k : Fin 256) (b : Fin 2) (s : Fin 2048)
    (hb : b.val = t.val / 4) (hs : s.val = t.val % 4 * 512 + r.val) :
    bO0 m c t (ix3 0 r k) = aO0 m c (ix3 b s k) := by
  unfold bO0 aO0
  blk_ext [iblk, V, idx t]

theorem bW0_apply (k : Fin 256) (d : Fin 1024) (K : Fin 1024) (hK : K.val = 0 + k.val) :
    bW0 m c t (ix2 k d) = aW m c (ix2 K d) := by
  have h : bW0 m c t (ix2 k d) = V m c main_v0 (ix2 k d) := by
    unfold bW0
    blk_ext [iblk, idx t]
  rw [h]
  unfold aW
  entry_read
  pointwise
  congr 2
  ext
  simp only
  omega

theorem bO1_apply (r : Fin 512) (k : Fin 384) (b : Fin 2) (s : Fin 2048)
    (hb : b.val = t.val / 4) (hs : s.val = t.val % 4 * 512 + r.val) :
    bO1 m c t (ix3 0 r k) = aO1 m c (ix3 b s k) := by
  unfold bO1 aO1
  blk_ext [iblk, V, idx t]

theorem bW1_apply (k : Fin 384) (d : Fin 1024) (K : Fin 1024) (hK : K.val = 256 + k.val) :
    bW1 m c t (ix2 k d) = aW m c (ix2 K d) := by
  have h : bW1 m c t (ix2 k d) = V m c main_v1 (ix2 k d) := by
    unfold bW1
    blk_ext [iblk, idx t]
  rw [h]
  unfold aW
  entry_read
  pointwise
  congr 2
  ext
  simp only
  omega

theorem bO2_apply (r : Fin 512) (k : Fin 384) (b : Fin 2) (s : Fin 2048)
    (hb : b.val = t.val / 4) (hs : s.val = t.val % 4 * 512 + r.val) :
    bO2 m c t (ix3 0 r k) = aO2 m c (ix3 b s k) := by
  unfold bO2 aO2
  blk_ext [iblk, V, idx t]

theorem bW2_apply (k : Fin 384) (d : Fin 1024) (K : Fin 1024) (hK : K.val = 640 + k.val) :
    bW2 m c t (ix2 k d) = aW m c (ix2 K d) := by
  have h : bW2 m c t (ix2 k d) = V m c main_v2 (ix2 k d) := by
    unfold bW2
    blk_ext [iblk, idx t]
  rw [h]
  unfold aW
  entry_read
  pointwise
  congr 2
  ext
  simp only
  omega

theorem bG_apply (d : Fin 1024) (b : Fin 2) (hb : b.val = t.val / 4) : bG m c t (ix3 0 0 d) = aG m c (ix3 b 0 d) := by
  unfold bG aG
  blk_ext [iblk, V, idx t]

theorem bR_apply (r : Fin 512) (d : Fin 1024) (b : Fin 2) (s : Fin 2048)
    (hb : b.val = t.val / 4) (hs : s.val = t.val % 4 * 512 + r.val) :
    bR m c t (ix3 0 r d) = aR m c (ix3 b s d) := by
  unfold bR aR
  blk_ext [iblk, V, idx t]

theorem out8 : out0_8 (iblk m c 0 t) (iblk m c 1 t) (iblk m c 2 t) (iblk m c 3 t) (iblk m c 4 t) (iblk m c 5 t) (iblk m c 6 t)
    (iblk m c 7 t)
    = k0_pay1 (F := Ideal) (k0_pay4 (bO0 m c t) (bW0 m c t) (bO1 m c t) (bW1 m c t) (bO2 m c t) (bW2 m c t) (bR m c t)
        (bG m c t)) := by
  frame_out
  rfl

theorem out9 : out0_9 (iblk m c 0 t) (iblk m c 1 t) (iblk m c 2 t) (iblk m c 3 t) (iblk m c 4 t) (iblk m c 5 t) (iblk m c 6 t)
    (iblk m c 7 t)
    = k0_pay3 (F := Ideal) (bO0 m c t) (bW0 m c t) (bO1 m c t) (bW1 m c t) (bO2 m c t) (bW2 m c t) := by
  frame_out
  rfl

/-- The projection at a sequence, a row and a column. -/
def yAt (b : Fin 2) (s : Fin 2048) (d : Fin 1024) : EReal :=
  (∑ k : Fin 256, aO0 m c (ix3 b s k) * aW m c (ix2 ⟨0 + k.val, by omega⟩ d))
    + (∑ k : Fin 384, aO1 m c (ix3 b s k) * aW m c (ix2 ⟨256 + k.val, by omega⟩ d))
    + ∑ k : Fin 384, aO2 m c (ix3 b s k) * aW m c (ix2 ⟨640 + k.val, by omega⟩ d)

/-- The gated projection added to the residual. -/
def xAt (b : Fin 2) (s : Fin 2048) (d : Fin 1024) : EReal := aR m c (ix3 b s d) + aG m c (ix3 b 0 d) * yAt m c b s d

def Y : FVec Ideal S2x2048x1024 .f32 := fun i => yAt m c (i 0) (i 1) (i 2)
def X : FVec Ideal S2x2048x1024 .f32 := fun i => xAt m c (i 0) (i 1) (i 2)

theorem pay2_eq (r : Fin 512) (d : Fin 1024) (b : Fin 2) (s : Fin 2048)
    (hb : b.val = t.val / 4) (hs : s.val = t.val % 4 * 512 + r.val) :
    k0_pay2 (F := Ideal) (bO0 m c t) (bW0 m c t) (bO1 m c t) (bW1 m c t) (bO2 m c t) (bW2 m c t) (ix2 r d) = yAt m c b s d := by
  rw [pay2_apply]
  unfold yAt
  congr 1
  · congr 1
    · exact Finset.sum_congr rfl fun k _ => by rw [bO0_apply m c t r k b s hb hs, bW0_apply m c t k d ⟨0 + k.val, by omega⟩ rfl]
    · exact Finset.sum_congr rfl fun k _ => by rw [bO1_apply m c t r k b s hb hs, bW1_apply m c t k d ⟨256 + k.val, by omega⟩ rfl]
  · exact Finset.sum_congr rfl fun k _ => by rw [bO2_apply m c t r k b s hb hs, bW2_apply m c t k d ⟨640 + k.val, by omega⟩ rfl]

theorem final8 (c : Dev nD) : (dats m 0 c).arrAt 8 cfg0.N = X m c := by
  refine (dats m 0 c).arrAt_eq_of_covers 8 (X m c) (by decide +kernel) fun t hf y => ?_
  blk_simp
  rw [after0_8, out8 m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  refine (pay4_apply _ _ _ _ _ _ _ _ z r k).trans ?_
  rw [pay2_eq m c t r k ⟨t.val / 4, by omega⟩ ⟨t.val % 4 * 512 + r.val, by omega⟩ rfl rfl,
    bG_apply m c t k ⟨t.val / 4, by omega⟩ rfl, bR_apply m c t r k ⟨t.val / 4, by omega⟩ ⟨t.val % 4 * 512 + r.val, by omega⟩ rfl rfl]
  show X m c (ix3 ⟨t.val / 4, by omega⟩ ⟨t.val % 4 * 512 + r.val, by omega⟩ k) = _
  refine congrArg (X m c) ?_
  obtain rfl : z = 0 := Subsingleton.elim _ _
  blk_ext [idx t]

theorem final9 (c : Dev nD) : (dats m 0 c).arrAt 9 cfg0.N = Y m c := by
  refine (dats m 0 c).arrAt_eq_of_covers 9 (Y m c) (by decide +kernel) fun t hf y => ?_
  blk_simp
  rw [after0_9, out9 m c t]
  obtain ⟨z, r, k, rfl⟩ : ∃ z r k, y = ix3 z r k := ⟨y 0, y 1, y 2, eq_ix3 y⟩
  have ht : t.val < 8 := lt_of_lt_of_eq t.isLt N_0
  have hr : r.val < 512 := r.isLt
  refine (pay3_apply _ _ _ _ _ _ z r k).trans ?_
  rw [pay2_eq m c t r k ⟨t.val / 4, by omega⟩ ⟨t.val % 4 * 512 + r.val, by omega⟩ rfl rfl]
  show Y m c (ix3 ⟨t.val / 4, by omega⟩ ⟨t.val % 4 * 512 + r.val, by omega⟩ k) = _
  refine congrArg (Y m c) ?_
  obtain rfl : z = 0 := Subsingleton.elim _ _
  blk_ext [idx t]

end Cert.Kernel9Ideal.Out

namespace Cert.Reference9Ideal.Out

open Cert.Reference9Ideal Cert.Reference9Ideal.Gen

/-- A sum over the 1024 rows of the weight, cut where one branch's rows end and the next one's begin. -/
theorem sum_cut (f : Fin 1024 → EReal) :
    ∑ k, f k = (∑ k : Fin 256, f ⟨k.val, by omega⟩) + (∑ k : Fin 384, f ⟨256 + k.val, by omega⟩)
      + ∑ k : Fin 384, f ⟨640 + k.val, by omega⟩ := by
  have e : ∑ k, f k = ∑ k : Fin (256 + 384 + 384), f k := rfl
  rw [e, Fin.sum_univ_add, Fin.sum_univ_add]
  rfl

/-- The reference's projection at an index. -/
theorem y_apply (o0 : FVec Ideal S2x2048x256 .f32) (o1 o2 : FVec Ideal S2x2048x384 .f32) (w : FVec Ideal S1024x1024 .bf16)
    (b : Fin 2) (s : Fin 2048) (d : Fin 1024) :
    Host.dotGeneral dot_S2x2048x1024_S1024x1024_S2x2048x1024_2_0_01_1_n_n none
      (concatenate S2x2048x1024 2 [⟨S2x2048x256, o0⟩, ⟨S2x2048x384, o1⟩, ⟨S2x2048x384, o2⟩]
        concatenates_S2x2048x256_S2x2048x384_S2x2048x384_S2x2048x1024_d2 : FVec Ideal S2x2048x1024 .f32)
      (extf .f32 w bitsLt_bf16_f32) (ix3 b s d)
      = (∑ k : Fin 256, o0 (ix3 b s k) * w (ix2 ⟨0 + k.val, by omega⟩ d))
        + (∑ k : Fin 384, o1 (ix3 b s k) * w (ix2 ⟨256 + k.val, by omega⟩ d))
        + ∑ k : Fin 384, o2 (ix3 b s k) * w (ix2 ⟨640 + k.val, by omega⟩ d) := by
  pointwise
  rw [sum_cut]
  congr 1

theorem x_apply (r y : FVec Ideal S2x2048x1024 .f32) (g : FVec Ideal S2x1x1024 .f32) (b : Fin 2) (s : Fin 2048) (d : Fin 1024) :
    addf (F := Ideal) r (mulf (broadcastInDim S2x2048x1024 ![0, 1, 2] bcast_S2x1x1024_S2x2048x1024_0_1_2 g) y) (ix3 b s d)
      = r (ix3 b s d) + g (ix3 b 0 d) * y (ix3 b s d) := by
  pointwise

theorem frame : Cert.quiescent_Reference9Ideal (hReference9Ideal := Cert.Reference9Ideal.Gen.facts) := by
  intro m ρ _
  exact (θ_run Cert.Reference9Ideal.defs _ _).mono
    (fun r h => ⟨fun c => (h c).2.2, sem_eq_zero_of_no_sems (by decide) r.2⟩) (Cert.Reference9Ideal.Value.run m ρ)

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.Out.X m c, fun c => Cert.Kernel9Ideal.Out.Y m c, ?_, ?_⟩
  · refine (θ_run _ _ _).mono (fun r h c => ?_) (Cert.Kernel9Ideal.Value.run_blocks m g)
    obtain ⟨h0, h1, hk⟩ := h c
    exact ⟨h0.trans (Cert.Kernel9Ideal.Out.final8 m c), h1.trans (Cert.Kernel9Ideal.Out.final9 m c), hk⟩
  · refine (θ_run _ _ _).mono (fun r h c => ?_) (Cert.Reference9Ideal.Value.run m' g')
    obtain ⟨h0, h1, hk⟩ := h c
    obtain ⟨a0, a1, a2, a3, a4, a5⟩ := hagree c
    refine ⟨h0.trans ?_, h1.trans ?_, hk⟩
    · rw [a0, a1, a2, a3, a4, a5]
      funext i
      obtain ⟨b, s, d, rfl⟩ : ∃ b s d, i = ix3 b s d := ⟨i 0, i 1, i 2, eq_ix3 i⟩
      refine (x_apply _ _ _ b s d).trans ?_
      rw [y_apply]
      rfl
    · rw [a0, a1, a2, a3]
      funext i
      obtain ⟨b, s, d, rfl⟩ : ∃ b s d, i = ix3 b s d := ⟨i 0, i 1, i 2, eq_ix3 i⟩
      exact y_apply _ _ _ _ b s d

end Cert.Reference9Ideal.Out
-- ==== Proof.DownPay10.lean ====
module

public import proofs.«01_k».proof.Proof.Gen.Kernel10Ideal.Skeleton
public import Idealize.ShloMosaic.Lib.Pointwise
public import Idealize.ShloMosaic.Lib.WordCmp

@[expose] public section

/-! The down-projection behind the causal convolution and the gate, program 10: what the body computes of its blocks, at an index. -/

set_option maxRecDepth 16384

noncomputable section

open Idealize.ShloMosaic Idealize.ShloMosaic.TcCoe Idealize.SL.Sem

namespace Cert.Kernel10Ideal.Down

open Cert.Kernel10Ideal Cert.Kernel10Ideal.Gen

/-- The rows above a block, taken from the rows before it: zero for a sequence's first block. -/
theorem halo_apply (i : grid0.Coords) (h : FVec Ideal S1x16x1408 .bf16) (r : Fin 16) (k : Fin 1408) :
    k0_pay3 (F := Ideal) i h (ix2 r k) = if (i 1).val = 0 then 0 else h (ix3 0 r k) := by
  have hi : (i 1).val < 4 := (i 1).isLt
  pointwise [k0_pay3]
  simp (disch := word_cmp_side) only [hlo_ix]

theorem halo'_apply (i : grid0.Coords) (h : FVec Ideal S1x16x1408 .bf16) (r : Fin 16) (k : Fin 1408) :
    k0_pay9 (F := Ideal) (BitVec.ofNat 32 (i 1).val) h (ix2 r k) = if (i 1).val = 0 then 0 else h (ix3 0 r k) := by
  have hi : (i 1).val < 4 := (i 1).isLt
  pointwise [k0_pay9]
  simp (disch := word_cmp_side) only [hlo_ix]

/-- A block's column one row back, the row above the block taken from the halo. -/
theorem back1_apply (i : grid0.Coords) (u : FVec Ideal S1x512x1408 .bf16) (h : FVec Ideal S1x16x1408 .bf16) (r : Fin 512) (k : Fin 1408) :
    k0_pay5 (F := Ideal) i u h (ix2 r k)
      = if r.val = 0 then k0_pay3 (F := Ideal) i h (ix2 15 k) else u (ix3 0 ⟨r.val - 1, by omega⟩ k) := by
  unfold k0_pay5 k0_pay4
  generalize k0_pay3 (F := Ideal) i h = p
  pointwise [k0_pay2]
  simp (disch := word_cmp_side) only [hlo_ix]
  split_ifs with hr
  · rfl
  · congr 2; ext; simp only; omega

theorem back1'_apply (i : grid0.Coords) (u : FVec Ideal S1x512x1408 .bf16) (h : FVec Ideal S1x16x1408 .bf16) (r : Fin 512) (k : Fin 1408) :
    k0_pay12 (F := Ideal) (BitVec.ofNat 32 (i 1).val) (iota .tc S512x1 32 [0] iota_S512x1_d0_w32) u h (ix2 r k)
      = if r.val = 0 then k0_pay9 (F := Ideal) (BitVec.ofNat 32 (i 1).val) h (ix2 15 k) else u (ix3 0 ⟨r.val - 1, by omega⟩ k) := by
  unfold k0_pay12 k0_pay10
  generalize k0_pay9 (F := Ideal) (BitVec.ofNat 32 (i 1).val) h = p
  pointwise [k0_pay8]
  simp (disch := word_cmp_side) only [hlo_ix]
  split_ifs with hr
  · rfl
  · congr 2; ext; simp only; omega

/-- The same two rows back. -/
theorem back2_apply (i : grid0.Coords) (u : FVec Ideal S1x512x1408 .bf16) (h : FVec Ideal S1x16x1408 .bf16) (r : Fin 512) (k : Fin 1408) :
    k0_pay6 (F := Ideal) i u h (ix2 r k)
      = if r.val = 0 then k0_pay3 (F := Ideal) i h (ix2 14 k) else if r.val = 1 then k0_pay3 (F := Ideal) i h (ix2 15 k)
        else u (ix3 0 ⟨r.val - 2, by omega⟩ k) := by
  unfold k0_pay6 k0_pay4
  generalize k0_pay3 (F := Ideal) i h = p
  pointwise [k0_pay2]
  simp (disch := word_cmp_side) only [hlo_ix]
  split_ifs with hr hr'
  · rfl
  · rfl
  · congr 2; ext; simp only; omega

theorem back2'_apply (i : grid0.Coords) (u : FVec Ideal S1x512x1408 .bf16) (h : FVec Ideal S1x16x1408 .bf16) (r : Fin 512) (k : Fin 1408) :
    Scalar.select (k0_pay14 (iota .tc S512x1 32 [0] iota_S512x1_d0_w32) (ix2 r 0))
      (k0_pay11 (F := Ideal) (BitVec.ofNat 32 (i 1).val) h (ix2 0 k))
      (k0_pay13 (F := Ideal) (BitVec.ofNat 32 (i 1).val) (iota .tc S512x1 32 [0] iota_S512x1_d0_w32) u h (ix2 r k))
      = if r.val = 0 then k0_pay9 (F := Ideal) (BitVec.ofNat 32 (i 1).val) h (ix2 14 k) else if r.val = 1 then
          k0_pay9 (F := Ideal) (BitVec.ofNat 32 (i 1).val) h (ix2 15 k) else u (ix3 0 ⟨r.val - 2, by omega⟩ k) := by
  unfold k0_pay13 k0_pay11 k0_pay10
  generalize k0_pay9 (F := Ideal) (BitVec.ofNat 32 (i 1).val) h = p
  pointwise [k0_pay8, k0_pay14]
  simp (disch := word_cmp_side) only [hlo_ix]
  split_ifs with hr hr'
  · rfl
  · rfl
  · congr 2; ext; simp only; omega

/-- The gate's convolution at an index. -/
theorem conv_apply (u b1 b2 : FVec Ideal S512x1408 .f32) (w : FVec Ideal S3x1408 .f32) (b : FVec Ideal S1x1408 .f32)
    (r : Fin 512) (k : Fin 1408) :
    k0_pay7 (F := Ideal) u b1 b2 w b (ix2 r k)
      = w (ix2 2 k) * u (ix2 r k) + w (ix2 1 k) * b1 (ix2 r k) + w (ix2 0 k) * b2 (ix2 r k) + b (ix2 0 k) := by
  pointwise [k0_pay7]

theorem u_apply (u : FVec Ideal S1x512x1408 .bf16) (r : Fin 512) (k : Fin 1408) :
    k0_pay2 (F := Ideal) u (ix2 r k) = u (ix3 0 r k) := by
  pointwise [k0_pay2]

theorem u'_apply (u : FVec Ideal S1x512x1408 .bf16) (r : Fin 512) (k : Fin 1408) :
    k0_pay8 (F := Ideal) u (ix2 r k) = u (ix3 0 r k) := by
  pointwise [k0_pay8]

theorem zero_apply (i : S512x1024.Idx) : k0_pay1 (F := Ideal) i = 0 := by
  pointwise [k0_pay1]

/-- One column tile's term of the product, added to what is accumulated. -/
theorem acc_apply (c u : FVec Ideal S512x1408 .f32) (p : FVec Ideal S1x1408 .f32) (b1 q : FVec Ideal S512x1408 .f32)
    (z : IVec S512x1 1) (w : FVec Ideal S3x1408 .f32) (b : FVec Ideal S1x1408 .f32) (a : FVec Ideal S512x1024 .f32)
    (wd : FVec Ideal S1408x1024 .bf16) (r : Fin 512) (d : Fin 1024) :
    k0_pay15 (F := Ideal) c u p b1 q z w b a wd (ix2 r d)
      = a (ix2 r d) + ∑ k : Fin 1408, c (ix2 r k) * Ideal.div 1 (1 + Ideal.exp (0 - c (ix2 r k)))
        * (w (ix2 2 k) * u (ix2 r k) + w (ix2 1 k) * b1 (ix2 r k)
          + w (ix2 0 k) * Scalar.select (z (ix2 r 0)) (p (ix2 0 k)) (q (ix2 r k)) + b (ix2 0 k)) * wd (ix2 k d) := by
  pointwise [k0_pay15]

theorem y_apply (a : FVec Ideal S512x1024 .f32) (z : Fin 1) (r : Fin 512) (d : Fin 1024) :
    k0_pay16 (F := Ideal) a (ix3 z r d) = a (ix2 r d) := by
  pointwise [k0_pay16]

theorem x_apply (a : FVec Ideal S512x1024 .f32) (x : FVec Ideal S1x512x1024 .f32) (g : FVec Ideal S1x1x1024 .f32)
    (z : Fin 1) (r : Fin 512) (d : Fin 1024) :
    k0_pay17 (F := Ideal) a x g (ix3 z r d) = x (ix3 0 r d) + g (ix3 0 0 d) * a (ix2 r d) := by
  pointwise [k0_pay17]

end Cert.Kernel10Ideal.Down
-- ==== Proof.Down10.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.DownPay10
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The down-projection behind the causal convolution and the gate, program 10. Point `t` of the grid is sequence `t / 8`, row block
`t / 2 % 4` and column tile `t % 2` of the gated activation; the product accumulates over the column tiles. -/

set_option maxRecDepth 16384

noncomputable section

open Idealize.ShloMosaic Idealize.ShloMosaic.TcCoe Idealize.SL.Sem

namespace Cert.Kernel10Ideal.Down

open Cert.Kernel10Ideal Cert.Kernel10Ideal.Gen

/-! The mathematics, on the arguments as arrays. -/

/-- The rows of a sequence with two rows of zeros in front of them. -/
def up (u : FVec Ideal S2x2048x5632 .bf16) (b : Fin 2) (n : ℕ) (hn : n < 2050) (k : Fin 5632) : EReal :=
  if h : n < 2 then 0 else u (ix3 b ⟨n - 2, by omega⟩ k)

/-- The causal convolution of width three with its bias. -/
def conv (u : FVec Ideal S2x2048x5632 .bf16) (w : FVec Ideal S3x5632 .f32) (v : FVec Ideal S5632 .f32) (b : Fin 2) (s : Fin 2048)
    (k : Fin 5632) : EReal :=
  w (ix2 2 k) * u (ix3 b s k) + w (ix2 1 k) * up u b (s.val + 1) (by omega) k + w (ix2 0 k) * up u b s.val (by omega) k + v (ix1 k)

/-- The gated activation: the first half through `x · 1 / (1 + exp (0 - x))`, times the second half. -/
def act (u : FVec Ideal S2x2048x5632 .bf16) (w : FVec Ideal S3x5632 .f32) (v : FVec Ideal S5632 .f32) (b : Fin 2) (s : Fin 2048)
    (k : Fin 2816) : EReal :=
  conv u w v b s ⟨k.val, by omega⟩ * Ideal.div 1 (1 + Ideal.exp (0 - conv u w v b s ⟨k.val, by omega⟩))
    * conv u w v b s ⟨2816 + k.val, by omega⟩

variable (m : (ℓ : Loc nD τ sig) → Buf (Elt Ideal) ℓ) (c : Dev nD)

/-- The arguments as arrays: the product before the convolution, the convolution's weight and bias, the weight, the gate, the residual. -/
def aU : FVec Ideal S2x2048x5632 .bf16 := m ((c : Thread nD τ).loc main_arg0)
def aC : FVec Ideal S3x5632 .f32 := m ((c : Thread nD τ).loc main_arg1)
def aB : FVec Ideal S5632 .f32 := m ((c : Thread nD τ).loc main_arg2)
def aW : FVec Ideal S2816x1024 .bf16 := m ((c : Thread nD τ).loc main_arg3)
def aG : FVec Ideal S2x1x1024 .f32 := m ((c : Thread nD τ).loc main_arg4)
def aR : FVec Ideal S2x2048x1024 .f32 := m ((c : Thread nD τ).loc main_arg5)

/-- The blocks of the operands at a point; those of the gate's half end in 0, those of the other half in 1. -/
def bU0 (t : Fin cfg0.N) : FVec Ideal S1x512x1408 .bf16 := iblk m c 0 t
def bU1 (t : Fin cfg0.N) : FVec Ideal S1x512x1408 .bf16 := iblk m c 1 t
def bH0 (t : Fin cfg0.N) : FVec Ideal S1x16x1408 .bf16 := iblk m c 2 t
def bH1 (t : Fin cfg0.N) : FVec Ideal S1x16x1408 .bf16 := iblk m c 3 t
def bC0 (t : Fin cfg0.N) : FVec Ideal S3x1408 .f32 := iblk m c 4 t
def bC1 (t : Fin cfg0.N) : FVec Ideal S3x1408 .f32 := iblk m c 5 t
def bB0 (t : Fin cfg0.N) : FVec Ideal S1x1408 .f32 := iblk m c 6 t
def bB1 (t : Fin cfg0.N) : FVec Ideal S1x1408 .f32 := iblk m c 7 t
def bW (t : Fin cfg0.N) : FVec Ideal S1408x1024 .bf16 := iblk m c 8 t
def bG (t : Fin cfg0.N) : FVec Ideal S1x1x1024 .f32 := iblk m c 9 t
def bR (t : Fin cfg0.N) : FVec Ideal S1x512x1024 .f32 := iblk m c 10 t

theorem idx : ∀ t : Fin cfg0.N,
    win0_0.index t = ![t.val / 8, t.val / 2 % 4, t.val % 2] ∧ win0_1.index t = ![t.val / 8, t.val / 2 % 4, t.val % 2 + 2]
    ∧ win0_2.index t = ![t.val / 8, t.val / 2 % 4 * 32 - 1, t.val % 2] ∧ win0_3.index t = ![t.val / 8, t.val / 2 % 4 * 32 - 1, t.val % 2 + 2]
    ∧ win0_4.index t = ![0, t.val % 2] ∧ win0_5.index t = ![0, t.val % 2 + 2]
    ∧ win0_6.index t = ![0, t.val % 2] ∧ win0_7.index t = ![0, t.val % 2 + 2]
    ∧ win0_8.index t = ![t.val % 2, 0] ∧ win0_9.index t = ![t.val / 8, 0, 0] ∧ win0_10.index t = ![t.val / 8, t.val / 2 % 4, 0]
    ∧ win0_11.index t = ![t.val / 8, t.val / 2 % 4, 0] ∧ win0_12.index t = ![t.val / 8, t.val / 2 % 4, 0] :=
  (by decide +kernel : ∀ t : Fin grid0.N, _)

theorem rowBlock : ∀ t : Fin cfg0.N, ((grid0.coords t) 1).val = t.val / 2 % 4 :=
  (by decide +kernel : ∀ t : Fin grid0.N, _)

variable (t : Fin cfg0.N)

theorem bU0_apply (r : Fin 512) (k : Fin 1408) (b : Fin 2) (s : Fin 2048) (K : Fin 5632)
    (hb : b.val = t.val / 8) (hs : s.val = t.val / 2 % 4 * 512 + r.val) (hK : K.val = 0 + t.val % 2 * 1408 + k.val) :
    bU0 m c t (ix3 0 r k) = aU m c (ix3 b s K) := by
  unfold bU0 aU
  blk_ext [iblk, V, idx t] <;> omega

theorem bH0_apply (r : Fin 16) (k : Fin 1408) (b : Fin 2) (s : Fin 2048) (K : Fin 5632)
    (hb : b.val = t.val / 8) (hs : s.val + 16 = t.val / 2 % 4 * 512 + r.val) (hK : K.val = 0 + t.val % 2 * 1408 + k.val) :
    bH0 m c t (ix3 0 r k) = aU m c (ix3 b s K) := by
  unfold bH0 aU
  blk_ext [iblk, V, idx t] <;> omega

theorem bC0_apply (j : Fin 3) (k : Fin 1408) (K : Fin 5632) (hK : K.val = 0 + t.val % 2 * 1408 + k.val) :
    bC0 m c t (ix2 j k) = aC m c (ix2 j K) := by
  unfold bC0 aC
  blk_ext [iblk, V, idx t] <;> omega

theorem bB0_apply (k : Fin 1408) (K : Fin 5632) (hK : K.val = 0 + t.val % 2 * 1408 + k.val) :
    bB0 m c t (ix2 0 k) = aB m c (ix1 K) := by
  have h : bB0 m c t (ix2 0 k) = V m c main_v0 (ix2 0 K) := by
    unfold bB0
    blk_ext [iblk, idx t] <;> omega
  rw [h]
  unfold aB
  entry_read
  pointwise

theorem bU1_apply (r : Fin 512) (k : Fin 1408) (b : Fin 2) (s : Fin 2048) (K : Fin 5632)
    (hb : b.val = t.val / 8) (hs : s.val = t.val / 2 % 4 * 512 + r.val) (hK : K.val = 2816 + t.val % 2 * 1408 + k.val) :
    bU1 m c t (ix3 0 r k) = aU m c (ix3 b s K) := by
  unfold bU1 aU
  blk_ext [iblk, V, idx t] <;> omega

theorem bH1_apply (r : Fin 16) (k : Fin 1408) (b : Fin 2) (s : Fin 2048) (K : Fin 5632)
    (hb : b.val = t.val / 8) (hs : s.val + 16 = t.val / 2 % 4 * 512 + r.val) (hK : K.val = 2816 + t.val % 2 * 1408 + k.val) :
    bH1 m c t (ix3 0 r k) = aU m c (ix3 b s K) := by
  unfold bH1 aU
  blk_ext [iblk, V, idx t] <;> omega

theorem bC1_apply (j : Fin 3) (k : Fin 1408) (K : Fin 5632) (hK : K.val = 2816 + t.val % 2 * 1408 + k.val) :
    bC1 m c t (ix2 j k) = aC m c (ix2 j K) := by
  unfold bC1 aC
  blk_ext [iblk, V, idx t] <;> omega

theorem bB1_apply (k : Fin 1408) (K : Fin 5632) (hK : K.val = 2816 + t.val % 2 * 1408 + k.val) :
    bB1 m c t (ix2 0 k) = aB m c (ix1 K) := by
  have h : bB1 m c t (ix2 0 k) = V m c main_v0 (ix2 0 K) := by
    unfold bB1
    blk_ext [iblk, idx t] <;> omega
  rw [h]
  unfold aB
  entry_read
  pointwise

theorem bW_apply (k : Fin 1408) (d : Fin 1024) (K : Fin 2816) (hK : K.val = t.val % 2 * 1408 + k.val) :
    bW m c t (ix2 k d) = aW m c (ix2 K d) := by
  unfold bW aW
  blk_ext [iblk, V, idx t] <;> omega

theorem bG_apply (d : Fin 1024) (b : Fin 2) (hb : b.val = t.val / 8) : bG m c t (ix3 0 0 d) = aG m c (ix3 b 0 d) := by
  unfold bG aG
  blk_ext [iblk, V, idx t]

theorem bR_apply (r : Fin 512) (d : Fin 1024) (b : Fin 2) (s : Fin 2048)
    (hb : b.val = t.val / 8) (hs : s.val = t.val / 2 % 4 * 512 + r.val) :
    bR m c t (ix3 0 r d) = aR m c (ix3 b s d) := by
  unfold bR aR
  blk_ext [iblk, V, idx t]

/-! The two convolutions at a point. -/

theorem halo0 (q : Fin 16) (k : Fin 1408) (b : Fin 2) (n : ℕ) (hn : n < 2050) (K : Fin 5632) (hb : b.val = t.val / 8)
    (hs : n + 14 = t.val / 2 % 4 * 512 + q.val) (hK : K.val = 0 + t.val % 2 * 1408 + k.val) :
    k0_pay3 (F := Ideal) (grid0.coords t) (bH0 m c t) (ix2 q k) = up (aU m c) b n hn K := by
  have hq := q.isLt
  rw [halo_apply, rowBlock t]
  unfold up
  by_cases h0 : t.val / 2 % 4 = 0
  · rw [if_pos h0, dif_pos (by omega)]
  · rw [if_neg h0, dif_neg (by omega)]
    exact bH0_apply m c t q k b _ K hb (by simp only; omega) hK

theorem back1_0 (r : Fin 512) (k : Fin 1408) (b : Fin 2) (s : Fin 2048) (K : Fin 5632) (hb : b.val = t.val / 8)
    (hs : s.val = t.val / 2 % 4 * 512 + r.val) (hK : K.val = 0 + t.val % 2 * 1408 + k.val) :
    k0_pay5 (F := Ideal) (grid0.coords t) (bU0 m c t) (bH0 m c t) (ix2 r k)
      = up (aU m c) b (s.val + 1) (by omega) K := by
  rw [back1_apply]
  by_cases h0 : r.val = 0
  · rw [if_pos h0]
    exact halo0 m c t 15 k b _ _ K hb (by show _ = _ + 15; omega) hK
  · rw [if_neg h0]
    unfold up
    rw [dif_neg (by omega)]
    exact bU0_apply m c t _ k b _ K hb (by simp only; omega) hK

theorem back2_0 (r : Fin 512) (k : Fin 1408) (b : Fin 2) (s : Fin 2048) (K : Fin 5632) (hb : b.val = t.val / 8)
    (hs : s.val = t.val / 2 % 4 * 512 + r.val) (hK : K.val = 0 + t.val % 2 * 1408 + k.val) :
    k0_pay6 (F := Ideal) (grid0.coords t) (bU0 m c t) (bH0 m c t) (ix2 r k)
      = up (aU m c) b s.val (by omega) K := by
  rw [back2_apply]
  by_cases h0 : r.val = 0
  · rw [if_pos h0]
    exact halo0 m c t 14 k b _ _ K hb (by show _ = _ + 14; omega) hK
  · rw [if_neg h0]
    by_cases h1 : r.val = 1
    · rw [if_pos h1]
      exact halo0 m c t 15 k b _ _ K hb (by show _ = _ + 15; omega) hK
    · rw [if_neg h1]
      unfold up
      rw [dif_neg (by omega)]
      exact bU0_apply m c t _ k b _ K hb (by simp only; omega) hK

theorem halo1 (q : Fin 16) (k : Fin 1408) (b : Fin 2) (n : ℕ) (hn : n < 2050) (K : Fin 5632) (hb : b.val = t.val / 8)
    (hs : n + 14 = t.val / 2 % 4 * 512 + q.val) (hK : K.val = 2816 + t.val % 2 * 1408 + k.val) :
    k0_pay9 (F := Ideal) (BitVec.ofNat 32 ((grid0.coords t) 1).val) (bH1 m c t) (ix2 q k) = up (aU m c) b n hn K := by
  have hq := q.isLt
  rw [halo'_apply, rowBlock t]
  unfold up
  by_cases h0 : t.val / 2 % 4 = 0
  · rw [if_pos h0, dif_pos (by omega)]
  · rw [if_neg h0, dif_neg (by omega)]
    exact bH1_apply m c t q k b _ K hb (by simp only; omega) hK

theorem back1_1 (r : Fin 512) (k : Fin 1408) (b : Fin 2) (s : Fin 2048) (K : Fin 5632) (hb : b.val = t.val / 8)
    (hs : s.val = t.val / 2 % 4 * 512 + r.val) (hK : K.val = 2816 + t.val % 2 * 1408 + k.val) :
    k0_pay12 (F := Ideal) (BitVec.ofNat 32 ((grid0.coords t) 1).val) (iota .tc S512x1 32 [0] iota_S512x1_d0_w32) (bU1 m c t) (bH1 m c t) (ix2 r k)
      = up (aU m c) b (s.val + 1) (by omega) K := by
  rw [back1'_apply]
  by_cases h0 : r.val = 0
  · rw [if_pos h0]
    exact halo1 m c t 15 k b _ _ K hb (by show _ = _ + 15; omega) hK
  · rw [if_neg h0]
    unfold up
    rw [dif_neg (by omega)]
    exact bU1_apply m c t _ k b _ K hb (by simp only; omega) hK

theorem back2_1 (r : Fin 512) (k : Fin 1408) (b : Fin 2) (s : Fin 2048) (K : Fin 5632) (hb : b.val = t.val / 8)
    (hs : s.val = t.val / 2 % 4 * 512 + r.val) (hK : K.val = 2816 + t.val % 2 * 1408 + k.val) :
    Scalar.select (k0_pay14 (iota .tc S512x1 32 [0] iota_S512x1_d0_w32) (ix2 r 0))
      (k0_pay11 (F := Ideal) (BitVec.ofNat 32 ((grid0.coords t) 1).val) (bH1 m c t) (ix2 0 k))
      (k0_pay13 (F := Ideal) (BitVec.ofNat 32 ((grid0.coords t) 1).val) (iota .tc S512x1 32 [0] iota_S512x1_d0_w32) (bU1 m c t) (bH1 m c t)
        (ix2 r k))
      = up (aU m c) b s.val (by omega) K := by
  rw [back2'_apply]
  by_cases h0 : r.val = 0
  · rw [if_pos h0]
    exact halo1 m c t 14 k b _ _ K hb (by show _ = _ + 14; omega) hK
  · rw [if_neg h0]
    by_cases h1 : r.val = 1
    · rw [if_pos h1]
      exact halo1 m c t 15 k b _ _ K hb (by show _ = _ + 15; omega) hK
    · rw [if_neg h1]
      unfold up
      rw [dif_neg (by omega)]
      exact bU1_apply m c t _ k b _ K hb (by simp only; omega) hK

/-- The gate's convolution at a point. -/
def bV0 : FVec Ideal S512x1408 .f32 :=
  k0_pay7 (F := Ideal) (k0_pay2 (bU0 m c t)) (k0_pay5 (grid0.coords t) (bU0 m c t) (bH0 m c t))
    (k0_pay6 (grid0.coords t) (bU0 m c t) (bH0 m c t)) (bC0 m c t) (bB0 m c t)

theorem bV0_apply (r : Fin 512) (k : Fin 1408) (b : Fin 2) (s : Fin 2048) (K : Fin 5632) (hb : b.val = t.val / 8)
    (hs : s.val = t.val / 2 % 4 * 512 + r.val) (hK : K.val = 0 + t.val % 2 * 1408 + k.val) :
    bV0 m c t (ix2 r k) = conv (aU m c) (aC m c) (aB m c) b s K := by
  unfold bV0 conv
  rw [conv_apply, u_apply, bU0_apply m c t r k b s K hb hs hK, back1_0 m c t r k b s K hb hs hK, back2_0 m c t r k b s K hb hs hK,
    bC0_apply m c t 0 k K hK, bC0_apply m c t 1 k K hK, bC0_apply m c t 2 k K hK, bB0_apply m c t k K hK]

/-- What the body accumulates at a point. -/
def step (a : FVec Ideal S512x1024 .f32) : FVec Ideal S512x1024 .f32 :=
  k0_pay15 (F := Ideal) (bV0 m c t) (k0_pay8 (bU1 m c t)) (k0_pay11 (BitVec.ofNat 32 ((grid0.coords t) 1).val) (bH1 m c t))
    (k0_pay12 (BitVec.ofNat 32 ((grid0.coords t) 1).val) (iota .tc S512x1 32 [0] iota_S512x1_d0_w32) (bU1 m c t) (bH1 m c t))
    (k0_pay13 (BitVec.ofNat 32 ((grid0.coords t) 1).val) (iota .tc S512x1 32 [0] iota_S512x1_d0_w32) (bU1 m c t) (bH1 m c t))
    (k0_pay14 (iota .tc S512x1 32 [0] iota_S512x1_d0_w32)) (bC1 m c t) (bB1 m c t) a (bW m c t)

/-- One column tile of the product, on the arguments. -/
def term (r : Fin 512) (d : Fin 1024) : EReal :=
  ∑ k : Fin 1408, bV0 m c t (ix2 r k) * Ideal.div 1 (1 + Ideal.exp (0 - bV0 m c t (ix2 r k)))
    * (bC1 m c t (ix2 2 k) * k0_pay8 (F := Ideal) (bU1 m c t) (ix2 r k)
      + bC1 m c t (ix2 1 k) * k0_pay12 (F := Ideal) (BitVec.ofNat 32 ((grid0.coords t) 1).val) (iota .tc S512x1 32 [0] iota_S512x1_d0_w32)
        (bU1 m c t) (bH1 m c t) (ix2 r k)
      + bC1 m c t (ix2 0 k) * Scalar.select (k0_pay14 (iota .tc S512x1 32 [0] iota_S512x1_d0_w32) (ix2 r 0))
        (k0_pay11 (F := Ideal) (BitVec.ofNat 32 ((grid0.coords t) 1).val) (bH1 m c t) (ix2 0 k))
        (k0_pay13 (F := Ideal) (BitVec.ofNat 32 ((grid0.coords t) 1).val) (iota .tc S512x1 32 [0] iota_S512x1_d0_w32) (bU1 m c t) (bH1 m c t)
          (ix2 r k))
      + bB1 m c t (ix2 0 k)) * bW m c t (ix2 k d)

theorem step_apply (a : FVec Ideal S512x1024 .f32) (r : Fin 512) (d : Fin 1024) :
    step m c t a (ix2 r d) = a (ix2 r d) + term m c t r d := acc_apply _ _ _ _ _ _ _ _ _ _ r d

theorem term_apply (r : Fin 512) (k : Fin 1408) (d : Fin 1024) (b : Fin 2) (s : Fin 2048) (K : Fin 2816) (hb : b.val = t.val / 8)
    (hs : s.val = t.val / 2 % 4 * 512 + r.val) (hK : K.val = t.val % 2 * 1408 + k.val) :
    bV0 m c t (ix2 r k) * Ideal.div 1 (1 + Ideal.exp (0 - bV0 m c t (ix2 r k)))
    * (bC1 m c t (ix2 2 k) * k0_pay8 (F := Ideal) (bU1 m c t) (ix2 r k)
      + bC1 m c t (ix2 1 k) * k0_pay12 (F := Ideal) (BitVec.ofNat 32 ((grid0.coords t) 1).val) (iota .tc S512x1 32 [0] iota_S512x1_d0_w32)
        (bU1 m c t) (bH1 m c t) (ix2 r k)
      + bC1 m c t (ix2 0 k) * Scalar.select (k0_pay14 (iota .tc S512x1 32 [0] iota_S512x1_d0_w32) (ix2 r 0))
        (k0_pay11 (F := Ideal) (BitVec.ofNat 32 ((grid0.coords t) 1).val) (bH1 m c t) (ix2 0 k))
        (k0_pay13 (F := Ideal) (BitVec.ofNat 32 ((grid0.coords t) 1).val) (iota .tc S512x1 32 [0] iota_S512x1_d0_w32) (bU1 m c t) (bH1 m c t)
          (ix2 r k))
      + bB1 m c t (ix2 0 k)) * bW m c t (ix2 k d)
      = act (aU m c) (aC m c) (aB m c) b s K * aW m c (ix2 K d) := by
  have h0 : K.val = 0 + t.val % 2 * 1408 + k.val := by omega
  have h1 : 2816 + K.val = 2816 + t.val % 2 * 1408 + k.val := by omega
  have hk := K.isLt
  rw [bV0_apply m c t r k b s ⟨K.val, by omega⟩ hb hs h0, u'_apply, bU1_apply m c t r k b s ⟨2816 + K.val, by omega⟩ hb hs h1,
    back1_1 m c t r k b s ⟨2816 + K.val, by omega⟩ hb hs h1, back2_1 m c t r k b s ⟨2816 + K.val, by omega⟩ hb hs h1,
    bC1_apply m c t 0 k ⟨2816 + K.val, by omega⟩ h1, bC1_apply m c t 1 k ⟨2816 + K.val, by omega⟩ h1,
    bC1_apply m c t 2 k ⟨2816 + K.val, by omega⟩ h1, bB1_apply m c t k ⟨2816 + K.val, by omega⟩ h1, bW_apply m c t k d K hK]
  rfl

/-! The accumulation over the column tiles. -/

/-- What the accumulator holds after a point. -/
def acc (n : ℕ) (h : n < cfg0.N) : FVec Ideal S512x1024 .f32 := (outsAt0 m c n h).2.2

theorem acc_A (h : t.val % 2 = 0) : acc m c t.val t.isLt = step m c t (k0_pay1 (F := Ideal)) := by
  unfold acc
  rw [outsAt0_A m c t h (by omega)]
  frame_out
  rfl

theorem acc_B (h : ¬t.val % 2 = 0) :
    acc m c t.val t.isLt = step m c t (acc m c (t.val - 1) (Nat.lt_of_le_of_lt (Nat.sub_le _ _) t.isLt)) := by
  unfold acc
  rw [outsAt0_B m c t h (by omega)]
  frame_out
  rw [read_unread_whole]
  rfl

theorem out11 (h : t.val % 2 = 1) :
    (outsAt0 m c t.val t.isLt).1 = k0_pay17 (F := Ideal) (acc m c t.val t.isLt) (bR m c t) (bG m c t) := by
  rw [acc_B m c t (by omega)]
  unfold acc
  rw [outsAt0_B m c t (by omega) h]
  frame_out
  rw [read_unread_whole]
  rfl

theorem out12 (h : t.val % 2 = 1) : (outsAt0 m c t.val t.isLt).2.1 = k0_pay16 (F := Ideal) (acc m c t.val t.isLt) := by
  rw [acc_B m c t (by omega)]
  unfold acc
  rw [outsAt0_B m c t (by omega) h]
  frame_out
  rw [read_unread_whole]
  rfl

/-- The down-projection at a sequence, a row and a column. -/
def yAt (b : Fin 2) (s : Fin 2048) (d : Fin 1024) : EReal :=
  ∑ k : Fin 2816, act (aU m c) (aC m c) (aB m c) b s k * aW m c (ix2 k d)

/-- The gated projection added to the residual. -/
def xAt (b : Fin 2) (s : Fin 2048) (d : Fin 1024) : EReal := aR m c (ix3 b s d) + aG m c (ix3 b 0 d) * yAt m c b s d

def Y : FVec Ideal S2x2048x1024 .f32 := fun i => yAt m c (i 0) (i 1) (i 2)
def X : FVec Ideal S2x2048x1024 .f32 := fun i => xAt m c (i 0) (i 1) (i 2)

theorem acc_eq (h : t.val % 2 = 1) (r : Fin 512) (d : Fin 1024) (b : Fin 2) (s : Fin 2048) (hb : b.val = t.val / 8)
    (hs : s.val = t.val / 2 % 4 * 512 + r.val) : acc m c t.val t.isLt (ix2 r d) = yAt m c b s d := by
  have ht : t.val < 16 := lt_of_lt_of_eq t.isLt N_0
  have e := Pipeline.eq_sum_fin_of_reset_step_apply_of_flush (fun n h (d : Fin 1024) => acc m c n h (ix2 r d)) 2
    (fun _ => 0) (fun t d => term m c t r d)
    (fun t h d => by rw [acc_A m c t h, step_apply, zero_apply]) (fun t h d => by rw [acc_B m c t h, step_apply]) t h d
  rw [e, zero_add]
  unfold yAt
  refine Fin.sum_mul_add_congr fun j k hl => ?_
  have hj := j.isLt
  have hk := k.isLt
  exact term_apply m c ⟨2 * (t.val / 2) + j.val, _⟩ r k d b s ⟨j.val * 1408 + k.val, hl⟩ (by simp only; omega) (by simp only; omega)
    (by simp only; omega)

theorem final11 (c : Dev nD) : (dats m 0 c).arrAt 11 cfg0.N = X m c := by
  refine (dats m 0 c).arrAt_eq_of_covers 11 (X m c) (by decide +kernel) fun t hf y => ?_
  have h1 := (flush0_11 t).mp hf
  blk_simp
  rw [after0_11, out11 m c t h1]
  obtain ⟨z, r, k, rfl⟩ : ∃ z r k, y = ix3 z r k := ⟨y 0, y 1, y 2, eq_ix3 y⟩
  have ht : t.val < 16 := lt_of_lt_of_eq t.isLt N_0
  have hr : r.val < 512 := r.isLt
  refine (x_apply _ _ _ z r k).trans ?_
  rw [acc_eq m c t h1 r k ⟨t.val / 8, by omega⟩ ⟨t.val / 2 % 4 * 512 + r.val, by omega⟩ rfl rfl,
    bG_apply m c t k ⟨t.val / 8, by omega⟩ rfl, bR_apply m c t r k ⟨t.val / 8, by omega⟩ ⟨t.val / 2 % 4 * 512 + r.val, by omega⟩ rfl rfl]
  show X m c (ix3 ⟨t.val / 8, by omega⟩ ⟨t.val / 2 % 4 * 512 + r.val, by omega⟩ k) = _
  refine congrArg (X m c) ?_
  obtain rfl : z = 0 := Subsingleton.elim _ _
  blk_ext [idx t]

theorem final12 (c : Dev nD) : (dats m 0 c).arrAt 12 cfg0.N = Y m c := by
  refine (dats m 0 c).arrAt_eq_of_covers 12 (Y m c) (by decide +kernel) fun t hf y => ?_
  have h1 := (flush0_12 t).mp hf
  blk_simp
  rw [after0_12, out12 m c t h1]
  obtain ⟨z, r, k, rfl⟩ : ∃ z r k, y = ix3 z r k := ⟨y 0, y 1, y 2, eq_ix3 y⟩
  have ht : t.val < 16 := lt_of_lt_of_eq t.isLt N_0
  have hr : r.val < 512 := r.isLt
  refine (y_apply _ z r k).trans ?_
  rw [acc_eq m c t h1 r k ⟨t.val / 8, by omega⟩ ⟨t.val / 2 % 4 * 512 + r.val, by omega⟩ rfl rfl]
  show Y m c (ix3 ⟨t.val / 8, by omega⟩ ⟨t.val / 2 % 4 * 512 + r.val, by omega⟩ k) = _
  refine congrArg (Y m c) ?_
  obtain rfl : z = 0 := Subsingleton.elim _ _
  blk_ext [idx t]

end Cert.Kernel10Ideal.Down

/-! The reference's terms at an index. -/

namespace Cert.Reference10Ideal.Down

open Cert.Reference10Ideal Cert.Reference10Ideal.Gen
open Cert.Kernel10Ideal.Down (up conv act)

theorem up_apply (u : FVec Ideal S2x2048x5632 .bf16) (b : Fin 2) (n : Fin 2050) (k : Fin 5632) :
    (concatenate S2x2050x5632 1 [⟨S2x2x5632, (broadcastInDim S2x2x5632 ![] bcast_S_S2x2x5632 (constant S_ .f32 0x00000000#32))⟩,
      ⟨S2x2048x5632, (extf .f32 u bitsLt_bf16_f32)⟩] concatenates_S2x2x5632_S2x2048x5632_S2x2050x5632_d1 : FVec Ideal S2x2050x5632 .f32)
      (ix3 b n k) = up u b n.val n.isLt k := by
  unfold up
  pointwise

/-- The convolution as the reference writes it, of the padded rows `p`. -/
def convR (p : FVec Ideal S2x2050x5632 .f32) (w : FVec Ideal S3x5632 .f32) (v : FVec Ideal S5632 .f32) : FVec Ideal S2x2048x5632 .f32 :=
  addf (addf (addf
    (mulf (extractStridedSlice S2x2048x5632 ![0, 0, 0] p slices_S2x2050x5632_S2x2048x5632_0_0_0) (broadcastInDim S2x2048x5632 ![0, 1, 2] bcast_S1x1x5632_S2x2048x5632_0_1_2 (broadcastInDim S1x1x5632 ![2] bcast_S5632_S1x1x5632_2 (shapeCast _ (extractStridedSlice S1x5632 ![0, 0] w slices_S3x5632_S1x5632_0_0) shapeCasts_S1x5632_S5632))))
    (mulf (extractStridedSlice S2x2048x5632 ![0, 1, 0] p slices_S2x2050x5632_S2x2048x5632_0_1_0) (broadcastInDim S2x2048x5632 ![0, 1, 2] bcast_S1x1x5632_S2x2048x5632_0_1_2 (broadcastInDim S1x1x5632 ![2] bcast_S5632_S1x1x5632_2 (shapeCast _ (extractStridedSlice S1x5632 ![1, 0] w slices_S3x5632_S1x5632_1_0) shapeCasts_S1x5632_S5632)))))
    (mulf (extractStridedSlice S2x2048x5632 ![0, 2, 0] p slices_S2x2050x5632_S2x2048x5632_0_2_0) (broadcastInDim S2x2048x5632 ![0, 1, 2] bcast_S1x1x5632_S2x2048x5632_0_1_2 (broadcastInDim S1x1x5632 ![2] bcast_S5632_S1x1x5632_2 (shapeCast _ (extractStridedSlice S1x5632 ![2, 0] w slices_S3x5632_S1x5632_2_0) shapeCasts_S1x5632_S5632)))))
    (broadcastInDim S2x2048x5632 ![0, 1, 2] bcast_S1x1x5632_S2x2048x5632_0_1_2 (broadcastInDim S1x1x5632 ![2] bcast_S5632_S1x1x5632_2 v))

theorem convR_apply (p : FVec Ideal S2x2050x5632 .f32) (w : FVec Ideal S3x5632 .f32) (v : FVec Ideal S5632 .f32) (b : Fin 2)
    (s : Fin 2048) (k : Fin 5632) :
    convR p w v (ix3 b s k) = p (ix3 b ⟨s.val, by omega⟩ k) * w (ix2 0 k) + p (ix3 b ⟨1 + s.val, by omega⟩ k) * w (ix2 1 k)
      + p (ix3 b ⟨2 + s.val, by omega⟩ k) * w (ix2 2 k) + v (ix1 k) := by
  pointwise [convR]

/-- The product as the reference writes it, of the convolution `f`. -/
def yR (f : FVec Ideal S2x2048x5632 .f32) (w : FVec Ideal S2816x1024 .bf16) : FVec Ideal S2x2048x1024 .f32 :=
  Host.dotGeneral dot_S2x2048x2816_S2816x1024_S2x2048x1024_2_0_01_1_n_n none
    (mulf (mulf (extractStridedSlice S2x2048x2816 ![0, 0, 0] f slices_S2x2048x5632_S2x2048x2816_0_0_0)
      (Host.divf (broadcastInDim S2x2048x2816 ![] bcast_S_S2x2048x2816 (constant S_ .f32 0x3F800000#32))
        (addf (broadcastInDim S2x2048x2816 ![] bcast_S_S2x2048x2816 (constant S_ .f32 0x3F800000#32))
          (Host.exp (Host.negf (extractStridedSlice S2x2048x2816 ![0, 0, 0] f slices_S2x2048x5632_S2x2048x2816_0_0_0))))))
      (extractStridedSlice S2x2048x2816 ![0, 0, 2816] f slices_S2x2048x5632_S2x2048x2816_0_0_2816)) (extf .f32 w bitsLt_bf16_f32)

theorem yR_apply (f : FVec Ideal S2x2048x5632 .f32) (w : FVec Ideal S2816x1024 .bf16) (b : Fin 2) (s : Fin 2048) (d : Fin 1024) :
    yR f w (ix3 b s d) = ∑ k : Fin 2816, f (ix3 b s ⟨k.val, by omega⟩) * Ideal.div 1 (1 + Ideal.exp (-f (ix3 b s ⟨k.val, by omega⟩)))
      * f (ix3 b s ⟨2816 + k.val, by omega⟩) * w (ix2 k d) := by
  pointwise [yR]

theorem xR_apply (r y : FVec Ideal S2x2048x1024 .f32) (g : FVec Ideal S2x1x1024 .f32) (b : Fin 2) (s : Fin 2048) (d : Fin 1024) :
    addf (F := Ideal) r (mulf (broadcastInDim S2x2048x1024 ![0, 1, 2] bcast_S2x1x1024_S2x2048x1024_0_1_2 g) y) (ix3 b s d)
      = r (ix3 b s d) + g (ix3 b 0 d) * y (ix3 b s d) := by
  pointwise

/-- The reference's padded rows. -/
def padR (u : FVec Ideal S2x2048x5632 .bf16) : FVec Ideal S2x2050x5632 .f32 :=
  concatenate S2x2050x5632 1 [⟨S2x2x5632, (broadcastInDim S2x2x5632 ![] bcast_S_S2x2x5632 (constant S_ .f32 0x00000000#32))⟩,
    ⟨S2x2048x5632, (extf .f32 u bitsLt_bf16_f32)⟩] concatenates_S2x2x5632_S2x2048x5632_S2x2050x5632_d1

theorem conv_eq (u : FVec Ideal S2x2048x5632 .bf16) (w : FVec Ideal S3x5632 .f32) (v : FVec Ideal S5632 .f32) (b : Fin 2) (s : Fin 2048)
    (k : Fin 5632) : convR (padR u) w v (ix3 b s k) = conv u w v b s k := by
  have h0 := up_apply u b ⟨s.val, by omega⟩ k
  have h1 := up_apply u b ⟨1 + s.val, by omega⟩ k
  have h2 := up_apply u b ⟨2 + s.val, by omega⟩ k
  have e2 : up u b (2 + s.val) (by omega) k = u (ix3 b s k) := by
    unfold up
    rw [dif_neg (by omega)]
    congr 2
    ext
    simp only
    omega
  have e1 : up u b (1 + s.val) (by omega) k = up u b (s.val + 1) (by omega) k := by
    congr 1
    omega
  rw [convR_apply]
  refine (congrArg (· + v (ix1 k)) (congrArg₂ (· + ·) (congrArg₂ (· + ·) (congrArg (· * w (ix2 0 k)) h0) (congrArg (· * w (ix2 1 k)) h1))
    (congrArg (· * w (ix2 2 k)) h2))).trans ?_
  show up u b s.val _ k * w (ix2 0 k) + up u b (1 + s.val) _ k * w (ix2 1 k) + up u b (2 + s.val) _ k * w (ix2 2 k) + v (ix1 k) = _
  rw [e1, e2]
  unfold conv
  rw [mul_comm (w (ix2 2 k)), mul_comm (w (ix2 1 k)), mul_comm (w (ix2 0 k))]
  congr 1
  rw [add_comm, add_comm (up u b s.val _ k * w (ix2 0 k)), ← add_assoc]

/-- The reference's product is the kernel's, at an index. -/
theorem y_eq (u : FVec Ideal S2x2048x5632 .bf16) (w : FVec Ideal S3x5632 .f32) (v : FVec Ideal S5632 .f32) (wd : FVec Ideal S2816x1024 .bf16)
    (b : Fin 2) (s : Fin 2048) (d : Fin 1024) :
    yR (convR (padR u) w v) wd (ix3 b s d) = ∑ k : Fin 2816, act u w v b s k * wd (ix2 k d) := by
  rw [yR_apply]
  refine Finset.sum_congr rfl fun k _ => ?_
  rw [conv_eq, conv_eq]
  unfold act
  rw [zero_sub]

theorem y_of (m : (ℓ : Loc nD τ sig) → Buf (Elt Ideal) ℓ) (c : Dev nD) : Cert.Reference10Ideal.Value.res_main_v32 m c
    = yR (convR (padR (m ((c : Thread nD τ).loc main_arg0))) (m ((c : Thread nD τ).loc main_arg1)) (m ((c : Thread nD τ).loc main_arg2)))
      (m ((c : Thread nD τ).loc main_arg3)) := rfl

theorem x_of (m : (ℓ : Loc nD τ sig) → Buf (Elt Ideal) ℓ) (c : Dev nD) : Cert.Reference10Ideal.Value.res_main_v35 m c
    = addf (F := Ideal) (m ((c : Thread nD τ).loc main_arg5)) (mulf (broadcastInDim S2x2048x1024 ![0, 1, 2]
      bcast_S2x1x1024_S2x2048x1024_0_1_2 (m ((c : Thread nD τ).loc main_arg4))) (yR (convR (padR (m ((c : Thread nD τ).loc main_arg0)))
      (m ((c : Thread nD τ).loc main_arg1)) (m ((c : Thread nD τ).loc main_arg2))) (m ((c : Thread nD τ).loc main_arg3)))) := rfl

theorem frame : Cert.quiescent_Reference10Ideal (hReference10Ideal := Cert.Reference10Ideal.Gen.facts) := by
  intro m ρ _
  exact (θ_run Cert.Reference10Ideal.defs _ _).mono
    (fun r h => ⟨fun c => (h c).2.2, sem_eq_zero_of_no_sems (by decide) r.2⟩) (Cert.Reference10Ideal.Value.run m ρ)

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Down.X m c, fun c => Cert.Kernel10Ideal.Down.Y m c, ?_, ?_⟩
  · refine (θ_run _ _ _).mono (fun r h c => ?_) (Cert.Kernel10Ideal.Value.run_blocks m g)
    obtain ⟨h0, h1, hk⟩ := h c
    exact ⟨h0.trans (Cert.Kernel10Ideal.Down.final11 m c), h1.trans (Cert.Kernel10Ideal.Down.final12 m c), hk⟩
  · refine (θ_run _ _ _).mono (fun r h c => ?_) (Cert.Reference10Ideal.Value.run m' g')
    obtain ⟨h0, h1, hk⟩ := h c
    obtain ⟨a0, a1, a2, a3, a4, a5⟩ := hagree c
    refine ⟨h0.trans ?_, h1.trans ?_, hk⟩
    · rw [x_of, a0, a1, a2, a3, a4, a5]
      funext i
      obtain ⟨b, s, d, rfl⟩ : ∃ b s d, i = ix3 b s d := ⟨i 0, i 1, i 2, eq_ix3 i⟩
      refine (xR_apply _ _ _ b s d).trans ?_
      rw [y_eq]
      rfl
    · rw [y_of, a0, a1, a2, a3]
      funext i
      obtain ⟨b, s, d, rfl⟩ : ∃ b s d, i = ix3 b s d := ⟨i 0, i 1, i 2, eq_ix3 i⟩
      exact y_eq _ _ _ _ b s d

end Cert.Reference10Ideal.Down
-- ==== Proof.LnFrame11I.lean ====
/-
The runs of the forward call `cc0_l1_in_proj` (program 11, over the reals) at one grid point, and its frame.

At the first column tile of a row block the body normalises the rows, modulates them, keeps the
result in its scratch buffer and copies it to the second result's block; at every column tile it
multiplies the kept rows by its tile of the weights.  So the scratch buffer and the second
result's block are written once per row block and must be shown to keep their contents at the
later tiles, where the body does not touch them.  The number of column tiles is 2.
-/
module

public import proofs.«01_k».proof.Proof.Gen.Kernel11Ideal.Skeleton
public import proofs.«01_k».proof.Proof.Gen.Kernel11Ideal.Frame
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel11Ideal.Ln

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point of the grid -/

/-- A load of a whole view reads what the view reads. -/
theorem readAt_whole {sig' : RefSig} {κ : Kind} {sp : Space} {s : Shape} {e : EltTy} {Val : EltTy → Type}
    (v : View sig' κ sp s e) (f : v.ty.Contents Val) {off : Fin s.rank → ℕ} (inb : ∀ a, off a + s.size a ≤ s.size a) :
    v.readAt Val (Rect.unit off s.size inb).toLoadRect f = v.read Val f := by
  funext y
  show v.read Val f ((Rect.unit off s.size inb).toLoadRect.idx y) = v.read Val f y
  refine congrArg _ (funext fun a => Fin.ext ?_)
  show off a + 1 * (y a).val = (y a).val
  have := inb a
  omega

/-- The body's branch is taken exactly at the first column tile of a row block. -/
theorem first_iff (t : Fin cfg0.N) : k0_cond1 (grid0.coords t) = 1#1 ↔ t.val % 2 = 0 := by
  have ht : t.val < 8 := Nat.lt_of_lt_of_eq t.isLt N_0
  have e2 : (grid0.coords t 2).val = t.val / 1 % 2 := Pipeline.Grid.coords_val t 2 (by decide) rfl
  unfold k0_cond1
  simp only [e2]
  word_cmp

section Run

variable (c : Dev nD) (i : grid0.Coords)
  (a3 : Memref sig .tc .vmem S1x1024x1024 .f32) (h3 : a3.IsWhole)
  (a4 : Memref sig .tc .vmem S1x1024 .f32) (h4 : a4.IsWhole)
  (a5 : Memref sig .tc .vmem S1x1x1024 .f32) (h5 : a5.IsWhole)
  (a6 : Memref sig .tc .vmem S1x1x1024 .f32) (h6 : a6.IsWhole)
  (a7 : Memref sig .tc .vmem S1024x1024 .bf16) (h7 : a7.IsWhole)
  (a8 : Memref sig .tc .vmem S1x1024x1024 .bf16) (h8 : a8.IsWhole)
  (a9 : Memref sig .tc .vmem S1x1024x1024 .bf16) (h9 : a9.IsWhole)
  (a10 : Memref sig .tc .vmem S1024x1024 .bf16) (h10 : a10.IsWhole)
  (x : Vec F S1x1024x1024 .f32) (g : Vec F S1x1024 .f32) (sc sh : Vec F S1x1x1024 .f32)
  (w : Vec F S1024x1024 .bf16)

set_option maxHeartbeats 4000000 in
/-- The body at the first column tile: whatever the scratch buffer and the results' blocks held,
it leaves the modulated rows in the scratch buffer and in the second block, and their product with
the weights' tile in the first. -/
theorem run_first (hc : k0_cond1 i = 1#1) (E : Set ℕ) (Q : PUnit → sProp 𝕄) :
    iprop(owns (c : Thread nD τ) a3 fullShare x ∗ owns (c : Thread nD τ) a4 fullShare g
        ∗ owns (c : Thread nD τ) a5 fullShare sc ∗ owns (c : Thread nD τ) a6 fullShare sh
        ∗ owns (c : Thread nD τ) a7 fullShare w
        ∗ (∃ d, owns (c : Thread nD τ) a8 fullShare d) ∗ (∃ d, owns (c : Thread nD τ) a9 fullShare d)
        ∗ (∃ d, owns (c : Thread nD τ) a10 fullShare d)
        ∗ (iprop(owns (c : Thread nD τ) a3 fullShare x ∗ owns (c : Thread nD τ) a4 fullShare g
            ∗ owns (c : Thread nD τ) a5 fullShare sc ∗ owns (c : Thread nD τ) a6 fullShare sh
            ∗ owns (c : Thread nD τ) a7 fullShare w
            ∗ owns (c : Thread nD τ) a8 fullShare (k0_pay3 (k0_pay1 x g sc sh) w)
            ∗ owns (c : Thread nD τ) a9 fullShare (k0_pay2 (k0_pay1 x g sc sh))
            ∗ owns (c : Thread nD τ) a10 fullShare (k0_pay1 x g sc sh)) -∗ Q ⟨⟩))
      ⊢ wp frame (wpE (defs₀ (F := F)) Variants.none c none) E
          (cc0_l1_in_proj i a3 h3 a4 h4 a5 h5 a6 h6 a7 h7 a8 h8 a9 h9 a10 h10) Q := by
  simp only [cc0_l1_in_proj_eq_skeleton]; unfold cc0_l1_in_proj_skel
  unfold owns
  iintro ⟨⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%d10, %f10, -, H10⟩, Hk⟩
  obtain rfl := h3.eq_unread e3; obtain rfl := h4.eq_unread e4; obtain rfl := h5.eq_unread e5
  obtain rfl := h6.eq_unread e6; obtain rfl := h7.eq_unread e7
  sl_exec (disch := first | sl_exact hc)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  have k : (View.readCov a10.view (run_first.sl.H10_1 c a3 h3 a4 h4 a5 h5 a6 h6 x g sc sh)
      (Rect.unit ![0, 0] S1024x1024.size inb_S1024x1024_S1024x1024_0_0).toLoadRect : Vec F S1024x1024 .bf16)
      = k0_pay1 x g sc sh := by
    unfold View.readCov run_first.sl.H10_1
    rw [readAt_whole, View.read_writes_full, readAt_whole, readAt_whole, readAt_whole, readAt_whole, e3, e4, e5, e6]
  isplitl [H8]
  · iexists _; isplitr
    swap; · iexact H8
    ipureintro
    rw [View.read_writes_full]
    unfold run_first.sl.v40
    rw [k, readAt_whole, e7]
  isplitl [H9]
  · iexists _; isplitr
    swap; · iexact H9
    ipureintro
    rw [View.read_writes_full]
    unfold run_first.sl.v40
    rw [k]
  iexists _; isplitr
  swap; · iexact H10
  ipureintro
  unfold run_first.sl.H10_1
  rw [View.read_writes_full, readAt_whole, readAt_whole, readAt_whole, readAt_whole, e3, e4, e5, e6]

set_option maxHeartbeats 4000000 in
/-- The body at a later column tile: it finds the modulated rows `s` in the scratch buffer and
leaves their product with the weights' tile in the first result's block; the scratch buffer and the
second result's block keep what they held. -/
theorem run_later (s : Vec F S1024x1024 .bf16) (o : Vec F S1x1024x1024 .bf16) (hc : ¬k0_cond1 i = 1#1)
    (E : Set ℕ) (Q : PUnit → sProp 𝕄) :
    iprop(owns (c : Thread nD τ) a3 fullShare x ∗ owns (c : Thread nD τ) a4 fullShare g
        ∗ owns (c : Thread nD τ) a5 fullShare sc ∗ owns (c : Thread nD τ) a6 fullShare sh
        ∗ owns (c : Thread nD τ) a7 fullShare w
        ∗ (∃ d, owns (c : Thread nD τ) a8 fullShare d) ∗ owns (c : Thread nD τ) a9 fullShare o
        ∗ owns (c : Thread nD τ) a10 fullShare s
        ∗ (iprop(owns (c : Thread nD τ) a3 fullShare x ∗ owns (c : Thread nD τ) a4 fullShare g
            ∗ owns (c : Thread nD τ) a5 fullShare sc ∗ owns (c : Thread nD τ) a6 fullShare sh
            ∗ owns (c : Thread nD τ) a7 fullShare w
            ∗ owns (c : Thread nD τ) a8 fullShare (k0_pay3 s w)
            ∗ owns (c : Thread nD τ) a9 fullShare o
            ∗ owns (c : Thread nD τ) a10 fullShare s) -∗ Q ⟨⟩))
      ⊢ wp frame (wpE (defs₀ (F := F)) Variants.none c none) E
          (cc0_l1_in_proj i a3 h3 a4 h4 a5 h5 a6 h6 a7 h7 a8 h8 a9 h9 a10 h10) Q := by
  simp only [cc0_l1_in_proj_eq_skeleton]; unfold cc0_l1_in_proj_skel
  unfold owns
  iintro ⟨H3, H4, H5, H6, ⟨%f7, %e7, H7⟩, ⟨%d8, %f8, -, H8⟩, H9, ⟨%f10, %e10, H10⟩, Hk⟩
  obtain rfl := h7.eq_unread e7; obtain rfl := h10.eq_unread e10
  sl_exec (disch := first | sl_exact hc)
  sl_step
  iapply Hk
  isplitl [H3]; · iexact H3
  isplitl [H4]; · iexact H4
  isplitl [H5]; · iexact H5
  isplitl [H6]; · iexact H6
  isplitl [H7]
  · iexists _; isplitr; · ipureintro; exact h7.read_unread _
    iexact H7
  isplitl [H8]
  · iexists _; isplitr
    swap; · iexact H8
    ipureintro
    rw [View.read_writes_full, readAt_whole, readAt_whole, e7, e10]
  isplitl [H9]; · iexact H9
  iexists _; isplitr; · ipureintro; exact h10.read_unread _
  iexact H10

end Run

/-! ## What the buffers hold after each point -/

/-- The first point of the row block of point `t`. -/
def start (t : Fin cfg0.N) : Fin cfg0.N := ⟨t.val - t.val % 2, Nat.lt_of_le_of_lt (Nat.sub_le _ _) t.isLt⟩

/-- The modulated rows of the row block of point `t`, made at its first point. -/
def rowsAt (c : Dev nD) (t : Fin cfg0.N) : Vec F S1024x1024 .bf16 :=
  k0_pay1 (iblk m c 0 (start t)) (iblk m c 1 (start t)) (iblk m c 2 (start t)) (iblk m c 3 (start t))

theorem start_first (t : Fin cfg0.N) (h : t.val % 2 = 0) : start t = t :=
  Fin.ext (by show t.val - t.val % 2 = t.val; omega)

/-- At a later column tile the row block is that of the point before. -/
theorem rowsAt_later (c : Dev nD) (t : Fin cfg0.N) (h : ¬t.val % 2 = 0) :
    rowsAt m c ⟨t.val - 1, Nat.lt_of_le_of_lt (Nat.sub_le _ _) t.isLt⟩ = rowsAt m c t := by
  have e : start ⟨t.val - 1, Nat.lt_of_le_of_lt (Nat.sub_le _ _) t.isLt⟩ = start t :=
    Fin.ext (by show t.val - 1 - (t.val - 1) % 2 = t.val - t.val % 2; omega)
  unfold rowsAt
  rw [e]

/-- The scratch buffer, as the body is handed it. -/
abbrev scr : Memref sig .tc .vmem S1024x1024 .bf16 := Memref.whole cc0_scratch0

/-- What is held between two points: before the first, the scratch buffer at anything; after point
`n`, the scratch buffer at the modulated rows of that point's row block. -/
def held (c : Dev nD) : (n : ℕ) → n ≤ cfg0.N → sProp 𝕄
  | 0, _ => Pipeline.ΦA spec0 c
  | n + 1, hn => iprop(owns (c : Thread nD τ) scr fullShare (rowsAt m c ⟨n, hn⟩) ∗ (∃ r, prngReg c r))

theorem held_pos (c : Dev nD) (n : ℕ) (h : n ≤ cfg0.N) (hz : n ≠ 0) :
    held m c n h = iprop(owns (c : Thread nD τ) scr fullShare (rowsAt m c ⟨n - 1, by omega⟩) ∗ (∃ r, prngReg c r)) := by
  cases n with
  | zero => exact absurd rfl hz
  | succ n => rfl

/-- The launch's holdings: the scratch buffer at anything, and the generator's register. -/
theorem launch_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

/-- Between two points at least the scratch buffer is held, at something. -/
theorem held_some (c : Dev nD) (n : ℕ) (h : n ≤ cfg0.N) :
    held m c n h ⊢ iprop((∃ d, owns (c : Thread nD τ) scr fullShare d) ∗ (∃ r, prngReg c r)) := by
  cases n with
  | zero =>
    show Pipeline.ΦA spec0 c ⊢ _
    rw [launch_eq]
    try exact Idealize.SL.BI.Entails.refl _
  | succ n =>
    show iprop(owns (c : Thread nD τ) scr fullShare (rowsAt m c ⟨n, h⟩) ∗ (∃ r, prngReg c r)) ⊢ _
    iintro ⟨H, Hg⟩
    isplitl [H]
    · iexists _; iexact H
    iexact Hg

/-- The pipeline's data on core `c`: an operand's buffer keeps its block; the first result's holds
the product of the modulated rows with the weights' tile, the second's the modulated rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (rowsAt m c t) (iblk m c 4 t)
    | ⟨6, _⟩ => k0_pay2 (rowsAt m c t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay3 (rowsAt m c t) (iblk m c 4 t) := by
  dsimp only [dats]
theorem after0_6 (c : Dev nD) (t : Fin cfg0.N) : (dats m 0 c).after 6 t = k0_pay2 (rowsAt m c t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's buffer is left untouched exactly at the later column tiles. -/
theorem untouched_first (t : Fin cfg0.N) (h : t.val % 2 = 0) : cfg0.idle 6 (grid0.coords t) = false := by
  show (!(k0_cond1 (grid0.coords t) == 1#1)) = false
  rw [(first_iff t).mpr h]; rfl

theorem untouched_later (t : Fin cfg0.N) (h : ¬t.val % 2 = 0) : cfg0.idle 6 (grid0.coords t) = true := by
  show (!(k0_cond1 (grid0.coords t) == 1#1)) = true
  rw [Bool.not_eq_true', beq_eq_false_iff_ne]
  exact fun k => h ((first_iff t).mp k)

/-- At a later column tile the second result's buffer still holds the modulated rows: it was
neither written back nor stored into since the first tile. -/
theorem before0_6 (c : Dev nD) : ∀ (n : ℕ) (t : Fin cfg0.N), t.val = n → ¬t.val % 2 = 0 → ∀ d,
    (dats m 0 c).before 6 t d = k0_pay2 (rowsAt m c t) := by
  intro n
  induction n with
  | zero => intro t e h; exact absurd (by rw [e]) h
  | succ n ih =>
    intro t e h d
    have hN : t.val < 8 := lt_of_lt_of_eq t.isLt (show cfg0.N = 8 from N_0)
    rw [Dat.before_of_pos _ 6 t (by omega) ((cfg0.win 6).fetch_out rfl t),
      if_neg (fun hf => by have := (flush0_6 _).mp hf; dsimp only at this; omega)]
    rw [← rowsAt_later m c t h]
    unfold Dat.left
    by_cases k : (t.val - 1) % 2 = 0
    · rw [untouched_first ⟨t.val - 1, Nat.lt_of_le_of_lt (Nat.sub_le _ _) t.isLt⟩ k]
      show (dats m 0 c).kept 6 _ d = _
      unfold Dat.kept
      rw [Pipeline.fill_of_clip_none 6 _ (fun _ => rfl) d ((dats m 0 c).after 6 _), Pipeline.Window.fill_cut,
        after0_6]
    · rw [untouched_later ⟨t.val - 1, Nat.lt_of_le_of_lt (Nat.sub_le _ _) t.isLt⟩ k]
      exact ih _ (by show t.val - 1 = n; omega) k d

/-- So a body that ends with the modulated rows in that buffer leaves it as the pipeline expects. -/
theorem left_6 (c : Dev nD) (t : Fin cfg0.N) :
    owns (c : Thread nD τ) (win0_6.stage (cfg0.slots t 6)) fullShare (k0_pay2 (rowsAt m c t))
      ⊢ (dats m 0 c).leavesExact 6 t := by
  by_cases h : t.val % 2 = 0
  · unfold Dat.leavesExact
    rw [untouched_first t h]
    show _ ⊢ owns _ _ _ ((dats m 0 c).after 6 t)
    rw [after0_6]
    try exact Idealize.SL.BI.Entails.refl _
  · by_cases k : t.val % 2 = 1
    · unfold Dat.leavesExact
      rw [untouched_later t h, (flush0_6 t).mpr k]
      show _ ⊢ owns _ _ _ ((dats m 0 c).after 6 t)
      rw [after0_6]
      try exact Idealize.SL.BI.Entails.refl _
    · rw [Dat.leavesExact_idle (dats m 0 c) 6 t (untouched_later t h)
        (Bool.eq_false_iff.mpr fun hf => k ((flush0_6 t).mp hf))]
      simp only [before0_6 m c t.val t rfl h]
      iintro H
      iexists (k0_pay2 (rowsAt m c t))
      iexact H

/-! ## The body at every point, and the run -/

/-- The staging buffer of each window at point `t`, with the fact that it is whole. -/
abbrev ms0 (t : Fin cfg0.N) : Memref sig .tc .vmem S1x1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1x1024 .f32 := win0_2.stage (cfg0.slots t 2)
abbrev ms3 (t : Fin cfg0.N) : Memref sig .tc .vmem S1x1x1024 .f32 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1x1024x1024 .bf16 := win0_5.stage (cfg0.slots t 5)
abbrev ms6 (t : Fin cfg0.N) : Memref sig .tc .vmem S1x1024x1024 .bf16 := win0_6.stage (cfg0.slots t 6)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

set_option maxHeartbeats 4000000 in
/-- The body at any point, by the two runs. -/
theorem body_at (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2, before0_3, before0_4]
  rw [show (dats m 0 c).owesAt () t.succ = (dats m 0 c).owesAt () t.castSucc from rfl,
    show (dats m 0 c).Φ t.succ = iprop(owns (c : Thread nD τ) scr fullShare (rowsAt m c t) ∗ (∃ r, prngReg c r)) from rfl,
    held_castSucc, after0_0, after0_1, after0_2, after0_3, after0_4, after0_5]
  by_cases h : t.val % 2 = 0
  · have hr : rowsAt m c t = k0_pay1 (iblk m c 0 t) (iblk m c 1 t) (iblk m c 2 t) (iblk m c 3 t) := by
      unfold rowsAt; rw [start_first t h]
    have h6 := left_6 m c t
    rw [hr] at h6 ⊢
    iintro ⟨HΦ, Ho, ⟨%d0, H0⟩, ⟨%d1, H1⟩, ⟨%d2, H2⟩, ⟨%d3, H3⟩, ⟨%d4, H4⟩, ⟨%d5, H5⟩, ⟨%d6, H6⟩⟩
    ihave H := (held_some m c t.val (Nat.le_of_lt t.isLt)) $$ HΦ
    icases H with ⟨HS, Hg⟩
    iapply (run_first c (grid0.coords t) _ _ _ _ _ _ _ _ _ _ _ _ _ _ _ _ (iblk m c 0 t) (iblk m c 1 t) (iblk m c 2 t)
      (iblk m c 3 t) (iblk m c 4 t) ((first_iff t).mpr h) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply h6; iexact H6
  · simp only [before0_6 m c t.val t rfl h]
    rw [held_pos m c t.val _ (by omega), rowsAt_later m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (iblk m c 0 t) (iblk m c 1 t) (iblk m c 2 t)
      (iblk m c 3 t) (iblk m c 4 t) (rowsAt m c t) (k0_pay2 (rowsAt m c t)) (fun k => h ((first_iff t).mp k)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (left_6 m c t); iexact H6

/-- The pipeline's call at point `t` is the body on that point's buffers. -/
theorem row_eq (t : Fin cfg0.N) : defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, row_eq]
  exact triple_restated (body_at m c t) rfl .rfl fun _ => .rfl

theorem hin (c : Dev nD) : Pipeline.ΦA spec0 c ⊢ (dats m 0 c).Φ 0 := by
  rw [show (dats m 0 c).Φ 0 = held m c 0 (Nat.zero_le _) from rfl]
  exact Idealize.SL.BI.Entails.refl _

theorem hout (c : Dev nD) : (dats m 0 c).Φ (Fin.last cfg0.N) ⊢ Pipeline.ΦA spec0 c := by
  rw [launch_eq, show (dats m 0 c).Φ (Fin.last cfg0.N) = held m c (Fin.last cfg0.N).val (Nat.le_of_lt_succ (Fin.last cfg0.N).isLt) from rfl]
  exact held_some m c _ _

-- the launch theorem's own arguments are found by unfolding plain definitions
set_option backward.isDefEq.respectTransparency.types false in
/-- Every fair execution terminates with the results' arrays as the pipeline's data says and every
counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_quiescent m ρ))

end Cert.Kernel11Ideal.Ln

end
-- ==== Proof.LnEq11.lean ====
module

public import proofs.«01_k».proof.Defs
public import proofs.«01_k».proof.Proof.Gen.Kernel11.Frame
public import proofs.«01_k».proof.Proof.LnFrame11I
public import proofs.«01_k».proof.Proof.Gen.Reference11Ideal.Run
public import proofs.«01_k».proof.Proof.Model
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The forward call `l1_in_proj`, program 11: rows normalised by their root mean square and modulated, then multiplied by the
weight.  Point `t` of the grid is sequence `t / 4`, row block `t / 2 % 2` of 1024 rows and column tile `t % 2` of
1024 columns.  The modulated rows of a row block are computed at its first tile; they are the second result. -/

set_option maxRecDepth 16384

noncomputable section

open Idealize.ShloMosaic Idealize.ShloMosaic.TcCoe Idealize.SL.Sem

namespace Cert.Kernel11Ideal.Ln

open Cert.Kernel11Ideal Cert.Kernel11Ideal.Gen

section

variable (m : (ℓ : Loc nD τ sig) → Buf (Elt Ideal) ℓ) (c : Dev nD)

/-- The arguments as arrays: the rows, the norm's gain, the scale, the shift, the transposed weight. -/
def aX : FVec Ideal S2x2048x1024 .f32 := m ((c : Thread nD τ).loc main_arg0)
def aN : FVec Ideal S1024 .f32 := m ((c : Thread nD τ).loc main_arg1)
def aC : FVec Ideal S2x1x1024 .f32 := m ((c : Thread nD τ).loc main_arg2)
def aH : FVec Ideal S2x1x1024 .f32 := m ((c : Thread nD τ).loc main_arg3)
def aW : FVec Ideal S2048x1024 .bf16 := m ((c : Thread nD τ).loc main_arg4)

/-- The blocks of the operands at a point. -/
def bX (t : Fin cfg0.N) : FVec Ideal S1x1024x1024 .f32 := iblk m c 0 t
def bN (t : Fin cfg0.N) : FVec Ideal S1x1024 .f32 := iblk m c 1 t
def bC (t : Fin cfg0.N) : FVec Ideal S1x1x1024 .f32 := iblk m c 2 t
def bH (t : Fin cfg0.N) : FVec Ideal S1x1x1024 .f32 := iblk m c 3 t
def bW (t : Fin cfg0.N) : FVec Ideal S1024x1024 .bf16 := iblk m c 4 t

theorem idx : ∀ t : Fin cfg0.N,
    win0_0.index t = ![t.val / 4, t.val / 2 % 2, 0] ∧ win0_1.index t = ![0, 0]
    ∧ win0_2.index t = ![t.val / 4, 0, 0] ∧ win0_3.index t = ![t.val / 4, 0, 0]
    ∧ win0_4.index t = ![t.val % 2, 0]
    ∧ win0_5.index t = ![t.val / 4, t.val / 2 % 2, t.val % 2]
    ∧ win0_6.index t = ![t.val / 4, t.val / 2 % 2, 0] :=
  (by decide +kernel : ∀ t : Fin grid0.N, _)

/-- The modulated rows of one block. -/
theorem rows_apply (x : FVec Ideal S1x1024x1024 .f32) (g : FVec Ideal S1x1024 .f32) (sc sh : FVec Ideal S1x1x1024 .f32)
    (r d : Fin 1024) :
    k0_pay1 (F := Ideal) x g sc sh (ix2 r d)
      = x (ix3 0 r d) * Model.rstd (fun k => x (ix3 0 r k)) * g (ix2 0 d) * (1 + sc (ix3 0 0 d)) + sh (ix3 0 0 d) := by
  pointwise [k0_pay1, Model.rstd, Model.var, Model.mean]

/-- The second result's block is the kept rows. -/
theorem kept_apply (h : FVec Ideal S1024x1024 .bf16) (z : Fin 1) (r d : Fin 1024) :
    k0_pay2 (F := Ideal) h (ix3 z r d) = h (ix2 r d) := by
  pointwise [k0_pay2]

/-- The first result's block is the product of the kept rows with the tile of the weight. -/
theorem prod_apply (h : FVec Ideal S1024x1024 .bf16) (w : FVec Ideal S1024x1024 .bf16) (z : Fin 1) (r : Fin 1024) (j : Fin 1024) :
    k0_pay3 (F := Ideal) h w (ix3 z r j) = ∑ k : Fin 1024, h (ix2 r k) * w (ix2 j k) := by
  pointwise [k0_pay3]

variable (t : Fin cfg0.N)

theorem bX_apply (r k : Fin 1024) (b : Fin 2) (s : Fin 2048)
    (hb : b.val = t.val / 4) (hs : s.val = t.val / 2 % 2 * 1024 + r.val) :
    bX m c t (ix3 0 r k) = aX m c (ix3 b s k) := by
  unfold bX aX
  blk_ext [iblk, V, idx t]

theorem bN_apply (d : Fin 1024) : bN m c t (ix2 0 d) = aN m c (ix1 d) := by
  have h : bN m c t (ix2 0 d) = V m c main_v0 (ix2 0 d) := by
    unfold bN
    blk_ext [iblk, idx t]
  rw [h]
  unfold aN
  entry_read
  pointwise

theorem bC_apply (d : Fin 1024) (b : Fin 2) (hb : b.val = t.val / 4) : bC m c t (ix3 0 0 d) = aC m c (ix3 b 0 d) := by
  unfold bC aC
  blk_ext [iblk, V, idx t]

theorem bH_apply (d : Fin 1024) (b : Fin 2) (hb : b.val = t.val / 4) : bH m c t (ix3 0 0 d) = aH m c (ix3 b 0 d) := by
  unfold bH aH
  blk_ext [iblk, V, idx t]

theorem bW_apply (j : Fin 1024) (k : Fin 1024) (e : Fin 2048) (he : e.val = t.val % 2 * 1024 + j.val) :
    bW m c t (ix2 j k) = aW m c (ix2 e k) := by
  unfold bW aW
  blk_ext [iblk, V, idx t]

/-- A modulated row at a sequence, a row and a column. -/
def hAt (b : Fin 2) (s : Fin 2048) (d : Fin 1024) : EReal :=
  aX m c (ix3 b s d) * Model.rstd (fun k => aX m c (ix3 b s k)) * aN m c (ix1 d) * (1 + aC m c (ix3 b 0 d)) + aH m c (ix3 b 0 d)

/-- The product with the weight at a sequence, a row and a column. -/
def yAt (b : Fin 2) (s : Fin 2048) (e : Fin 2048) : EReal := ∑ k : Fin 1024, hAt m c b s k * aW m c (ix2 e k)

def H : FVec Ideal S2x2048x1024 .bf16 := fun i => hAt m c (i 0) (i 1) (i 2)
def Y : FVec Ideal S2x2048x2048 .bf16 := fun i => yAt m c (i 0) (i 1) (i 2)

/-- The rows kept at a point are the modulated rows of the point's own row block. -/
theorem rowsAt_apply (r d : Fin 1024) (b : Fin 2) (s : Fin 2048)
    (hb : b.val = t.val / 4) (hs : s.val = t.val / 2 % 2 * 1024 + r.val) :
    rowsAt m c t (ix2 r d) = hAt m c b s d := by
  have hv : (start t).val = t.val - t.val % 2 := rfl
  have hb' : b.val = (start t).val / 4 := by omega
  have hs' : s.val = (start t).val / 2 % 2 * 1024 + r.val := by omega
  have hx : ∀ k, bX m c (start t) (ix3 0 r k) = aX m c (ix3 b s k) := fun k => bX_apply m c (start t) r k b s hb' hs'
  refine (rows_apply (bX m c (start t)) (bN m c (start t)) (bC m c (start t)) (bH m c (start t)) r d).trans ?_
  simp only [hx]
  rw [bN_apply, bC_apply m c (start t) d b hb', bH_apply m c (start t) d b hb']
  rfl

end

variable (m : (ℓ : Loc nD τ sig) → Buf (Elt Ideal) ℓ)

theorem final5 (c : Dev nD) : (dats m 0 c).arrAt 5 cfg0.N = Y m c := by
  refine (dats m 0 c).arrAt_eq_of_covers 5 (Y m c) (by decide +kernel) fun t hf y => ?_
  blk_simp
  rw [after0_5]
  obtain ⟨z, r, j, rfl⟩ : ∃ z r j, y = ix3 z r j := ⟨y 0, y 1, y 2, eq_ix3 y⟩
  have ht : t.val < 8 := lt_of_lt_of_eq t.isLt N_0
  have hr : r.val < 1024 := r.isLt
  have hj : j.val < 1024 := j.isLt
  refine (prod_apply (rowsAt m c t) (bW m c t) z r j).trans ?_
  have hsum : ∑ k : Fin 1024, rowsAt m c t (ix2 r k) * bW m c t (ix2 j k)
      = yAt m c ⟨t.val / 4, by omega⟩ ⟨t.val / 2 % 2 * 1024 + r.val, by omega⟩ ⟨t.val % 2 * 1024 + j.val, by omega⟩ :=
    Finset.sum_congr rfl fun k _ => by
      rw [rowsAt_apply m c t r k ⟨t.val / 4, by omega⟩ ⟨t.val / 2 % 2 * 1024 + r.val, by omega⟩ rfl rfl,
        bW_apply m c t j k ⟨t.val % 2 * 1024 + j.val, by omega⟩ rfl]
  refine hsum.trans ?_
  show Y m c (ix3 ⟨t.val / 4, by omega⟩ ⟨t.val / 2 % 2 * 1024 + r.val, by omega⟩ ⟨t.val % 2 * 1024 + j.val, by omega⟩) = _
  refine congrArg (Y m c) ?_
  obtain rfl : z = 0 := Subsingleton.elim _ _
  blk_ext [idx t]

theorem final6 (c : Dev nD) : (dats m 0 c).arrAt 6 cfg0.N = H m c := by
  refine (dats m 0 c).arrAt_eq_of_covers 6 (H m c) (by decide +kernel) fun t hf y => ?_
  blk_simp
  rw [after0_6]
  obtain ⟨z, r, k, rfl⟩ : ∃ z r k, y = ix3 z r k := ⟨y 0, y 1, y 2, eq_ix3 y⟩
  have ht : t.val < 8 := lt_of_lt_of_eq t.isLt N_0
  have hr : r.val < 1024 := r.isLt
  refine (kept_apply (rowsAt m c t) z r k).trans ?_
  rw [rowsAt_apply m c t r k ⟨t.val / 4, by omega⟩ ⟨t.val / 2 % 2 * 1024 + r.val, by omega⟩ rfl rfl]
  show H m c (ix3 ⟨t.val / 4, by omega⟩ ⟨t.val / 2 % 2 * 1024 + r.val, by omega⟩ k) = _
  refine congrArg (H m c) ?_
  obtain rfl : z = 0 := Subsingleton.elim _ _
  blk_ext [idx t]

/-- Every execution ends with the two results at these arrays and the arguments unchanged. -/
theorem results (ρ : Dev nD → PrngReg) : θ_run defs (onTc (τ := τ) (main (F := Ideal))) ⟨m, fun _ => 0, ρ⟩ fun r => ∀ c : Dev nD,
      r.2.mem ((c : Thread nD τ).loc main_v1_0) = Y m c
      ∧ r.2.mem ((c : Thread nD τ).loc main_v1_1) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 5).trans (final5 m c), ((h.2 c).1 6).trans (final6 m c), h.1.1 c⟩)
    (θ_run_and (frame m ρ) (run_main m ρ))

end Cert.Kernel11Ideal.Ln

namespace Cert.Reference11Ideal.Ln

open Cert.Reference11Ideal Cert.Reference11Ideal.Gen

/-- The reference's reciprocal root mean square, one column. -/
def rstdCol (x : FVec Ideal S2x2048x1024 .f32) : FVec Ideal S2x2048x1 .f32 :=
  Host.rsqrt (addf (Host.divf (broadcastInDim S2x2048x1 ![0, 1] bcast_S2x2048_S2x2048x1_0_1
    (Host.reduceAdd (mulf x x) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32)))

/-- The reference's modulated rows. -/
def hOut (x : FVec Ideal S2x2048x1024 .f32) (g : FVec Ideal S1024 .f32) (sc sh : FVec Ideal S2x1x1024 .f32) :
    FVec Ideal S2x2048x1024 .f32 :=
  addf (mulf (mulf (mulf x (broadcastInDim S2x2048x1024 ![0, 1, 2] bcast_S2x2048x1_S2x2048x1024_0_1_2 (rstdCol x)))
    (broadcastInDim S2x2048x1024 ![0, 1, 2] bcast_S1x1x1024_S2x2048x1024_0_1_2 (broadcastInDim S1x1x1024 ![2] bcast_S1024_S1x1x1024_2 g)))
    (broadcastInDim S2x2048x1024 ![0, 1, 2] bcast_S2x1x1024_S2x2048x1024_0_1_2
      (addf (broadcastInDim S2x1x1024 ![] bcast_S_S2x1x1024 (constant S_ .f32 0x3F800000#32)) sc)))
    (broadcastInDim S2x2048x1024 ![0, 1, 2] bcast_S2x1x1024_S2x2048x1024_0_1_2 sh)

/-- The reference's product of rows with the weight. -/
def yOut (h : FVec Ideal S2x2048x1024 .f32) (w : FVec Ideal S2048x1024 .bf16) : FVec Ideal S2x2048x2048 .bf16 :=
  truncf .bf16 (Host.dotGeneral dot_S2x2048x1024_S1024x2048_S2x2048x2048_2_0_01_1_n_n none h
    (transpose S1024x2048 [1, 0] (extf .f32 w bitsLt_bf16_f32) transposes_S2048x1024_S1024x2048_1_0)) bitsLt_bf16_f32

theorem rstdCol_apply (x : FVec Ideal S2x2048x1024 .f32) (b : Fin 2) (s : Fin 2048) (o : Fin 1) :
    rstdCol x (ix3 b s o) = Model.rstd (fun k => x (ix3 b s k)) := by
  pointwise [rstdCol, Model.rstd, Model.var, Model.mean]

theorem hOut_apply (x : FVec Ideal S2x2048x1024 .f32) (g : FVec Ideal S1024 .f32) (sc sh : FVec Ideal S2x1x1024 .f32)
    (b : Fin 2) (s : Fin 2048) (d : Fin 1024) :
    hOut x g sc sh (ix3 b s d)
      = x (ix3 b s d) * Model.rstd (fun k => x (ix3 b s k)) * g (ix1 d) * (1 + sc (ix3 b 0 d)) + sh (ix3 b 0 d) := by
  pointwise [hOut, rstdCol_apply]

theorem yOut_apply (h : FVec Ideal S2x2048x1024 .f32) (w : FVec Ideal S2048x1024 .bf16) (b : Fin 2) (s : Fin 2048) (e : Fin 2048) :
    yOut h w (ix3 b s e) = ∑ k : Fin 1024, h (ix3 b s k) * w (ix2 e k) := by
  pointwise [yOut]

/-- The reference's product over the kernel's arguments. -/
theorem y_eq (m : (ℓ : Loc Cert.Kernel11Ideal.nD Cert.Kernel11Ideal.τ Cert.Kernel11Ideal.sig) → Buf (Elt Ideal) ℓ)
    (c : Dev Cert.Kernel11Ideal.nD) (b : Fin 2) (s : Fin 2048) (e : Fin 2048) :
    (∑ k : Fin 1024, hOut (Cert.Kernel11Ideal.Ln.aX m c) (Cert.Kernel11Ideal.Ln.aN m c) (Cert.Kernel11Ideal.Ln.aC m c)
        (Cert.Kernel11Ideal.Ln.aH m c) (ix3 b s k) * Cert.Kernel11Ideal.Ln.aW m c (ix2 e k))
      = Cert.Kernel11Ideal.Ln.yAt m c b s e := by
  unfold Cert.Kernel11Ideal.Ln.yAt
  exact Finset.sum_congr rfl fun k _ => by rw [hOut_apply]; rfl

theorem frame : Cert.quiescent_Reference11Ideal (hReference11Ideal := Cert.Reference11Ideal.Gen.facts) := by
  intro m ρ _
  exact (θ_run Cert.Reference11Ideal.defs _ _).mono
    (fun r h => ⟨fun c => (h c).2.2, sem_eq_zero_of_no_sems (by decide) r.2⟩) (Cert.Reference11Ideal.Value.run m ρ)

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Kernel11Ideal.Ln.Y m c, fun c => Cert.Kernel11Ideal.Ln.H m c, Cert.Kernel11Ideal.Ln.results m g, ?_⟩
  refine (θ_run _ _ _).mono (fun r h c => ?_) (Cert.Reference11Ideal.Value.run m' g')
  obtain ⟨h0, h1, hk⟩ := h c
  obtain ⟨a0, a1, a2, a3, a4⟩ := hagree c
  refine ⟨h0.trans ?_, h1.trans ?_, hk⟩
  · rw [a0, a1, a2, a3, a4]
    funext i
    obtain ⟨b, s, e, rfl⟩ : ∃ b s e, i = ix3 b s e := ⟨i 0, i 1, i 2, eq_ix3 i⟩
    refine (yOut_apply (hOut _ _ _ _) _ b s e).trans ?_
    exact y_eq m c b s e
  · rw [a0, a1, a2, a3]
    funext i
    obtain ⟨b, s, d, rfl⟩ : ∃ b s d, i = ix3 b s d := ⟨i 0, i 1, i 2, eq_ix3 i⟩
    exact hOut_apply _ _ _ _ b s d

end Cert.Reference11Ideal.Ln
-- ==== Proof.LnFrame12I.lean ====
/-
The runs of the forward call `cc0_l1_up_proj` (program 12, over the reals) at one grid point, and its frame.

At the first column tile of a row block the body normalises the rows, modulates them, keeps the
result in its scratch buffer and copies it to the second result's block; at every column tile it
multiplies the kept rows by its tile of the weights.  So the scratch buffer and the second
result's block are written once per row block and must be shown to keep their contents at the
later tiles, where the body does not touch them.  The number of column tiles is 4.
-/
module

public import proofs.«01_k».proof.Proof.Gen.Kernel12Ideal.Skeleton
public import proofs.«01_k».proof.Proof.Gen.Kernel12Ideal.Frame
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel12Ideal.Ln

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel12Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point of the grid -/

/-- A load of a whole view reads what the view reads. -/
theorem readAt_whole {sig' : RefSig} {κ : Kind} {sp : Space} {s : Shape} {e : EltTy} {Val : EltTy → Type}
    (v : View sig' κ sp s e) (f : v.ty.Contents Val) {off : Fin s.rank → ℕ} (inb : ∀ a, off a + s.size a ≤ s.size a) :
    v.readAt Val (Rect.unit off s.size inb).toLoadRect f = v.read Val f := by
  funext y
  show v.read Val f ((Rect.unit off s.size inb).toLoadRect.idx y) = v.read Val f y
  refine congrArg _ (funext fun a => Fin.ext ?_)
  show off a + 1 * (y a).val = (y a).val
  have := inb a
  omega

/-- The body's branch is taken exactly at the first column tile of a row block. -/
theorem first_iff (t : Fin cfg0.N) : k0_cond1 (grid0.coords t) = 1#1 ↔ t.val % 4 = 0 := by
  have ht : t.val < 16 := Nat.lt_of_lt_of_eq t.isLt N_0
  have e2 : (grid0.coords t 2).val = t.val / 1 % 4 := Pipeline.Grid.coords_val t 2 (by decide) rfl
  unfold k0_cond1
  simp only [e2]
  word_cmp

section Run

variable (c : Dev nD) (i : grid0.Coords)
  (a3 : Memref sig .tc .vmem S1x1024x1024 .f32) (h3 : a3.IsWhole)
  (a4 : Memref sig .tc .vmem S1x1024 .f32) (h4 : a4.IsWhole)
  (a5 : Memref sig .tc .vmem S1x1x1024 .f32) (h5 : a5.IsWhole)
  (a6 : Memref sig .tc .vmem S1x1x1024 .f32) (h6 : a6.IsWhole)
  (a7 : Memref sig .tc .vmem S1408x1024 .bf16) (h7 : a7.IsWhole)
  (a8 : Memref sig .tc .vmem S1x1024x1408 .bf16) (h8 : a8.IsWhole)
  (a9 : Memref sig .tc .vmem S1x1024x1024 .bf16) (h9 : a9.IsWhole)
  (a10 : Memref sig .tc .vmem S1024x1024 .bf16) (h10 : a10.IsWhole)
  (x : Vec F S1x1024x1024 .f32) (g : Vec F S1x1024 .f32) (sc sh : Vec F S1x1x1024 .f32)
  (w : Vec F S1408x1024 .bf16)

set_option maxHeartbeats 4000000 in
/-- The body at the first column tile: whatever the scratch buffer and the results' blocks held,
it leaves the modulated rows in the scratch buffer and in the second block, and their product with
the weights' tile in the first. -/
theorem run_first (hc : k0_cond1 i = 1#1) (E : Set ℕ) (Q : PUnit → sProp 𝕄) :
    iprop(owns (c : Thread nD τ) a3 fullShare x ∗ owns (c : Thread nD τ) a4 fullShare g
        ∗ owns (c : Thread nD τ) a5 fullShare sc ∗ owns (c : Thread nD τ) a6 fullShare sh
        ∗ owns (c : Thread nD τ) a7 fullShare w
        ∗ (∃ d, owns (c : Thread nD τ) a8 fullShare d) ∗ (∃ d, owns (c : Thread nD τ) a9 fullShare d)
        ∗ (∃ d, owns (c : Thread nD τ) a10 fullShare d)
        ∗ (iprop(owns (c : Thread nD τ) a3 fullShare x ∗ owns (c : Thread nD τ) a4 fullShare g
            ∗ owns (c : Thread nD τ) a5 fullShare sc ∗ owns (c : Thread nD τ) a6 fullShare sh
            ∗ owns (c : Thread nD τ) a7 fullShare w
            ∗ owns (c : Thread nD τ) a8 fullShare (k0_pay3 (k0_pay1 x g sc sh) w)
            ∗ owns (c : Thread nD τ) a9 fullShare (k0_pay2 (k0_pay1 x g sc sh))
            ∗ owns (c : Thread nD τ) a10 fullShare (k0_pay1 x g sc sh)) -∗ Q ⟨⟩))
      ⊢ wp frame (wpE (defs₀ (F := F)) Variants.none c none) E
          (cc0_l1_up_proj i a3 h3 a4 h4 a5 h5 a6 h6 a7 h7 a8 h8 a9 h9 a10 h10) Q := by
  simp only [cc0_l1_up_proj_eq_skeleton]; unfold cc0_l1_up_proj_skel
  unfold owns
  iintro ⟨⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%d10, %f10, -, H10⟩, Hk⟩
  obtain rfl := h3.eq_unread e3; obtain rfl := h4.eq_unread e4; obtain rfl := h5.eq_unread e5
  obtain rfl := h6.eq_unread e6; obtain rfl := h7.eq_unread e7
  sl_exec (disch := first | sl_exact hc)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  have k : (View.readCov a10.view (run_first.sl.H10_1 c a3 h3 a4 h4 a5 h5 a6 h6 x g sc sh)
      (Rect.unit ![0, 0] S1024x1024.size inb_S1024x1024_S1024x1024_0_0).toLoadRect : Vec F S1024x1024 .bf16)
      = k0_pay1 x g sc sh := by
    unfold View.readCov run_first.sl.H10_1
    rw [readAt_whole, View.read_writes_full, readAt_whole, readAt_whole, readAt_whole, readAt_whole, e3, e4, e5, e6]
  isplitl [H8]
  · iexists _; isplitr
    swap; · iexact H8
    ipureintro
    rw [View.read_writes_full]
    unfold run_first.sl.v40
    rw [k, readAt_whole, e7]
  isplitl [H9]
  · iexists _; isplitr
    swap; · iexact H9
    ipureintro
    rw [View.read_writes_full]
    unfold run_first.sl.v40
    rw [k]
  iexists _; isplitr
  swap; · iexact H10
  ipureintro
  unfold run_first.sl.H10_1
  rw [View.read_writes_full, readAt_whole, readAt_whole, readAt_whole, readAt_whole, e3, e4, e5, e6]

set_option maxHeartbeats 4000000 in
/-- The body at a later column tile: it finds the modulated rows `s` in the scratch buffer and
leaves their product with the weights' tile in the first result's block; the scratch buffer and the
second result's block keep what they held. -/
theorem run_later (s : Vec F S1024x1024 .bf16) (o : Vec F S1x1024x1024 .bf16) (hc : ¬k0_cond1 i = 1#1)
    (E : Set ℕ) (Q : PUnit → sProp 𝕄) :
    iprop(owns (c : Thread nD τ) a3 fullShare x ∗ owns (c : Thread nD τ) a4 fullShare g
        ∗ owns (c : Thread nD τ) a5 fullShare sc ∗ owns (c : Thread nD τ) a6 fullShare sh
        ∗ owns (c : Thread nD τ) a7 fullShare w
        ∗ (∃ d, owns (c : Thread nD τ) a8 fullShare d) ∗ owns (c : Thread nD τ) a9 fullShare o
        ∗ owns (c : Thread nD τ) a10 fullShare s
        ∗ (iprop(owns (c : Thread nD τ) a3 fullShare x ∗ owns (c : Thread nD τ) a4 fullShare g
            ∗ owns (c : Thread nD τ) a5 fullShare sc ∗ owns (c : Thread nD τ) a6 fullShare sh
            ∗ owns (c : Thread nD τ) a7 fullShare w
            ∗ owns (c : Thread nD τ) a8 fullShare (k0_pay3 s w)
            ∗ owns (c : Thread nD τ) a9 fullShare o
            ∗ owns (c : Thread nD τ) a10 fullShare s) -∗ Q ⟨⟩))
      ⊢ wp frame (wpE (defs₀ (F := F)) Variants.none c none) E
          (cc0_l1_up_proj i a3 h3 a4 h4 a5 h5 a6 h6 a7 h7 a8 h8 a9 h9 a10 h10) Q := by
  simp only [cc0_l1_up_proj_eq_skeleton]; unfold cc0_l1_up_proj_skel
  unfold owns
  iintro ⟨H3, H4, H5, H6, ⟨%f7, %e7, H7⟩, ⟨%d8, %f8, -, H8⟩, H9, ⟨%f10, %e10, H10⟩, Hk⟩
  obtain rfl := h7.eq_unread e7; obtain rfl := h10.eq_unread e10
  sl_exec (disch := first | sl_exact hc)
  sl_step
  iapply Hk
  isplitl [H3]; · iexact H3
  isplitl [H4]; · iexact H4
  isplitl [H5]; · iexact H5
  isplitl [H6]; · iexact H6
  isplitl [H7]
  · iexists _; isplitr; · ipureintro; exact h7.read_unread _
    iexact H7
  isplitl [H8]
  · iexists _; isplitr
    swap; · iexact H8
    ipureintro
    rw [View.read_writes_full, readAt_whole, readAt_whole, e7, e10]
  isplitl [H9]; · iexact H9
  iexists _; isplitr; · ipureintro; exact h10.read_unread _
  iexact H10

end Run

/-! ## What the buffers hold after each point -/

/-- The first point of the row block of point `t`. -/
def start (t : Fin cfg0.N) : Fin cfg0.N := ⟨t.val - t.val % 4, Nat.lt_of_le_of_lt (Nat.sub_le _ _) t.isLt⟩

/-- The modulated rows of the row block of point `t`, made at its first point. -/
def rowsAt (c : Dev nD) (t : Fin cfg0.N) : Vec F S1024x1024 .bf16 :=
  k0_pay1 (iblk m c 0 (start t)) (iblk m c 1 (start t)) (iblk m c 2 (start t)) (iblk m c 3 (start t))

theorem start_first (t : Fin cfg0.N) (h : t.val % 4 = 0) : start t = t :=
  Fin.ext (by show t.val - t.val % 4 = t.val; omega)

/-- At a later column tile the row block is that of the point before. -/
theorem rowsAt_later (c : Dev nD) (t : Fin cfg0.N) (h : ¬t.val % 4 = 0) :
    rowsAt m c ⟨t.val - 1, Nat.lt_of_le_of_lt (Nat.sub_le _ _) t.isLt⟩ = rowsAt m c t := by
  have e : start ⟨t.val - 1, Nat.lt_of_le_of_lt (Nat.sub_le _ _) t.isLt⟩ = start t :=
    Fin.ext (by show t.val - 1 - (t.val - 1) % 4 = t.val - t.val % 4; omega)
  unfold rowsAt
  rw [e]

/-- The scratch buffer, as the body is handed it. -/
abbrev scr : Memref sig .tc .vmem S1024x1024 .bf16 := Memref.whole cc0_scratch0

/-- What is held between two points: before the first, the scratch buffer at anything; after point
`n`, the scratch buffer at the modulated rows of that point's row block. -/
def held (c : Dev nD) : (n : ℕ) → n ≤ cfg0.N → sProp 𝕄
  | 0, _ => Pipeline.ΦA spec0 c
  | n + 1, hn => iprop(owns (c : Thread nD τ) scr fullShare (rowsAt m c ⟨n, hn⟩) ∗ (∃ r, prngReg c r))

theorem held_pos (c : Dev nD) (n : ℕ) (h : n ≤ cfg0.N) (hz : n ≠ 0) :
    held m c n h = iprop(owns (c : Thread nD τ) scr fullShare (rowsAt m c ⟨n - 1, by omega⟩) ∗ (∃ r, prngReg c r)) := by
  cases n with
  | zero => exact absurd rfl hz
  | succ n => rfl

/-- The launch's holdings: the scratch buffer at anything, and the generator's register. -/
theorem launch_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

/-- Between two points at least the scratch buffer is held, at something. -/
theorem held_some (c : Dev nD) (n : ℕ) (h : n ≤ cfg0.N) :
    held m c n h ⊢ iprop((∃ d, owns (c : Thread nD τ) scr fullShare d) ∗ (∃ r, prngReg c r)) := by
  cases n with
  | zero =>
    show Pipeline.ΦA spec0 c ⊢ _
    rw [launch_eq]
    try exact Idealize.SL.BI.Entails.refl _
  | succ n =>
    show iprop(owns (c : Thread nD τ) scr fullShare (rowsAt m c ⟨n, h⟩) ∗ (∃ r, prngReg c r)) ⊢ _
    iintro ⟨H, Hg⟩
    isplitl [H]
    · iexists _; iexact H
    iexact Hg

/-- The pipeline's data on core `c`: an operand's buffer keeps its block; the first result's holds
the product of the modulated rows with the weights' tile, the second's the modulated rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (rowsAt m c t) (iblk m c 4 t)
    | ⟨6, _⟩ => k0_pay2 (rowsAt m c t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay3 (rowsAt m c t) (iblk m c 4 t) := by
  dsimp only [dats]
theorem after0_6 (c : Dev nD) (t : Fin cfg0.N) : (dats m 0 c).after 6 t = k0_pay2 (rowsAt m c t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's buffer is left untouched exactly at the later column tiles. -/
theorem untouched_first (t : Fin cfg0.N) (h : t.val % 4 = 0) : cfg0.idle 6 (grid0.coords t) = false := by
  show (!(k0_cond1 (grid0.coords t) == 1#1)) = false
  rw [(first_iff t).mpr h]; rfl

theorem untouched_later (t : Fin cfg0.N) (h : ¬t.val % 4 = 0) : cfg0.idle 6 (grid0.coords t) = true := by
  show (!(k0_cond1 (grid0.coords t) == 1#1)) = true
  rw [Bool.not_eq_true', beq_eq_false_iff_ne]
  exact fun k => h ((first_iff t).mp k)

/-- At a later column tile the second result's buffer still holds the modulated rows: it was
neither written back nor stored into since the first tile. -/
theorem before0_6 (c : Dev nD) : ∀ (n : ℕ) (t : Fin cfg0.N), t.val = n → ¬t.val % 4 = 0 → ∀ d,
    (dats m 0 c).before 6 t d = k0_pay2 (rowsAt m c t) := by
  intro n
  induction n with
  | zero => intro t e h; exact absurd (by rw [e]) h
  | succ n ih =>
    intro t e h d
    have hN : t.val < 16 := lt_of_lt_of_eq t.isLt (show cfg0.N = 16 from N_0)
    rw [Dat.before_of_pos _ 6 t (by omega) ((cfg0.win 6).fetch_out rfl t),
      if_neg (fun hf => by have := (flush0_6 _).mp hf; dsimp only at this; omega)]
    rw [← rowsAt_later m c t h]
    unfold Dat.left
    by_cases k : (t.val - 1) % 4 = 0
    · rw [untouched_first ⟨t.val - 1, Nat.lt_of_le_of_lt (Nat.sub_le _ _) t.isLt⟩ k]
      show (dats m 0 c).kept 6 _ d = _
      unfold Dat.kept
      rw [Pipeline.fill_of_clip_none 6 _ (fun _ => rfl) d ((dats m 0 c).after 6 _), Pipeline.Window.fill_cut,
        after0_6]
    · rw [untouched_later ⟨t.val - 1, Nat.lt_of_le_of_lt (Nat.sub_le _ _) t.isLt⟩ k]
      exact ih _ (by show t.val - 1 = n; omega) k d

/-- So a body that ends with the modulated rows in that buffer leaves it as the pipeline expects. -/
theorem left_6 (c : Dev nD) (t : Fin cfg0.N) :
    owns (c : Thread nD τ) (win0_6.stage (cfg0.slots t 6)) fullShare (k0_pay2 (rowsAt m c t))
      ⊢ (dats m 0 c).leavesExact 6 t := by
  by_cases h : t.val % 4 = 0
  · unfold Dat.leavesExact
    rw [untouched_first t h]
    show _ ⊢ owns _ _ _ ((dats m 0 c).after 6 t)
    rw [after0_6]
    try exact Idealize.SL.BI.Entails.refl _
  · by_cases k : t.val % 4 = 3
    · unfold Dat.leavesExact
      rw [untouched_later t h, (flush0_6 t).mpr k]
      show _ ⊢ owns _ _ _ ((dats m 0 c).after 6 t)
      rw [after0_6]
      try exact Idealize.SL.BI.Entails.refl _
    · rw [Dat.leavesExact_idle (dats m 0 c) 6 t (untouched_later t h)
        (Bool.eq_false_iff.mpr fun hf => k ((flush0_6 t).mp hf))]
      simp only [before0_6 m c t.val t rfl h]
      iintro H
      iexists (k0_pay2 (rowsAt m c t))
      iexact H

/-! ## The body at every point, and the run -/

/-- The staging buffer of each window at point `t`, with the fact that it is whole. -/
abbrev ms0 (t : Fin cfg0.N) : Memref sig .tc .vmem S1x1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1x1024 .f32 := win0_2.stage (cfg0.slots t 2)
abbrev ms3 (t : Fin cfg0.N) : Memref sig .tc .vmem S1x1x1024 .f32 := win0_3.stage (cfg0.slots t 3)
abbrev ms4 (t : Fin cfg0.N) : Memref sig .tc .vmem S1408x1024 .bf16 := win0_4.stage (cfg0.slots t 4)
abbrev ms5 (t : Fin cfg0.N) : Memref sig .tc .vmem S1x1024x1408 .bf16 := win0_5.stage (cfg0.slots t 5)
abbrev ms6 (t : Fin cfg0.N) : Memref sig .tc .vmem S1x1024x1024 .bf16 := win0_6.stage (cfg0.slots t 6)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

set_option maxHeartbeats 4000000 in
/-- The body at any point, by the two runs. -/
theorem body_at (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2, before0_3, before0_4]
  rw [show (dats m 0 c).owesAt () t.succ = (dats m 0 c).owesAt () t.castSucc from rfl,
    show (dats m 0 c).Φ t.succ = iprop(owns (c : Thread nD τ) scr fullShare (rowsAt m c t) ∗ (∃ r, prngReg c r)) from rfl,
    held_castSucc, after0_0, after0_1, after0_2, after0_3, after0_4, after0_5]
  by_cases h : t.val % 4 = 0
  · have hr : rowsAt m c t = k0_pay1 (iblk m c 0 t) (iblk m c 1 t) (iblk m c 2 t) (iblk m c 3 t) := by
      unfold rowsAt; rw [start_first t h]
    have h6 := left_6 m c t
    rw [hr] at h6 ⊢
    iintro ⟨HΦ, Ho, ⟨%d0, H0⟩, ⟨%d1, H1⟩, ⟨%d2, H2⟩, ⟨%d3, H3⟩, ⟨%d4, H4⟩, ⟨%d5, H5⟩, ⟨%d6, H6⟩⟩
    ihave H := (held_some m c t.val (Nat.le_of_lt t.isLt)) $$ HΦ
    icases H with ⟨HS, Hg⟩
    iapply (run_first c (grid0.coords t) _ _ _ _ _ _ _ _ _ _ _ _ _ _ _ _ (iblk m c 0 t) (iblk m c 1 t) (iblk m c 2 t)
      (iblk m c 3 t) (iblk m c 4 t) ((first_iff t).mpr h) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply h6; iexact H6
  · simp only [before0_6 m c t.val t rfl h]
    rw [held_pos m c t.val _ (by omega), rowsAt_later m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (iblk m c 0 t) (iblk m c 1 t) (iblk m c 2 t)
      (iblk m c 3 t) (iblk m c 4 t) (rowsAt m c t) (k0_pay2 (rowsAt m c t)) (fun k => h ((first_iff t).mp k)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (left_6 m c t); iexact H6

/-- The pipeline's call at point `t` is the body on that point's buffers. -/
theorem row_eq (t : Fin cfg0.N) : defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, row_eq]
  exact triple_restated (body_at m c t) rfl .rfl fun _ => .rfl

theorem hin (c : Dev nD) : Pipeline.ΦA spec0 c ⊢ (dats m 0 c).Φ 0 := by
  rw [show (dats m 0 c).Φ 0 = held m c 0 (Nat.zero_le _) from rfl]
  exact Idealize.SL.BI.Entails.refl _

theorem hout (c : Dev nD) : (dats m 0 c).Φ (Fin.last cfg0.N) ⊢ Pipeline.ΦA spec0 c := by
  rw [launch_eq, show (dats m 0 c).Φ (Fin.last cfg0.N) = held m c (Fin.last cfg0.N).val (Nat.le_of_lt_succ (Fin.last cfg0.N).isLt) from rfl]
  exact held_some m c _ _

-- the launch theorem's own arguments are found by unfolding plain definitions
set_option backward.isDefEq.respectTransparency.types false in
/-- Every fair execution terminates with the results' arrays as the pipeline's data says and every
counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_all m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_quiescent m ρ))

end Cert.Kernel12Ideal.Ln

end
-- ==== Proof.LnEq12.lean ====
module

public import proofs.«01_k».proof.Defs
public import proofs.«01_k».proof.Proof.Gen.Kernel12.Frame
public import proofs.«01_k».proof.Proof.LnFrame12I
public import proofs.«01_k».proof.Proof.Gen.Reference12Ideal.Run
public import proofs.«01_k».proof.Proof.Model
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The forward call `l1_up_proj`, program 12: rows normalised by their root mean square and modulated, then multiplied by the
weight.  Point `t` of the grid is sequence `t / 8`, row block `t / 4 % 2` of 1024 rows and column tile `t % 4` of
1408 columns.  The modulated rows of a row block are computed at its first tile; they are the second result. -/

set_option maxRecDepth 16384

noncomputable section

open Idealize.ShloMosaic Idealize.ShloMosaic.TcCoe Idealize.SL.Sem

namespace Cert.Kernel12Ideal.Ln

open Cert.Kernel12Ideal Cert.Kernel12Ideal.Gen

section

variable (m : (ℓ : Loc nD τ sig) → Buf (Elt Ideal) ℓ) (c : Dev nD)

/-- The arguments as arrays: the rows, the norm's gain, the scale, the shift, the transposed weight. -/
def aX : FVec Ideal S2x2048x1024 .f32 := m ((c : Thread nD τ).loc main_arg0)
def aN : FVec Ideal S1024 .f32 := m ((c : Thread nD τ).loc main_arg1)
def aC : FVec Ideal S2x1x1024 .f32 := m ((c : Thread nD τ).loc main_arg2)
def aH : FVec Ideal S2x1x1024 .f32 := m ((c : Thread nD τ).loc main_arg3)
def aW : FVec Ideal S5632x1024 .bf16 := m ((c : Thread nD τ).loc main_arg4)

/-- The blocks of the operands at a point. -/
def bX (t : Fin cfg0.N) : FVec Ideal S1x1024x1024 .f32 := iblk m c 0 t
def bN (t : Fin cfg0.N) : FVec Ideal S1x1024 .f32 := iblk m c 1 t
def bC (t : Fin cfg0.N) : FVec Ideal S1x1x1024 .f32 := iblk m c 2 t
def bH (t : Fin cfg0.N) : FVec Ideal S1x1x1024 .f32 := iblk m c 3 t
def bW (t : Fin cfg0.N) : FVec Ideal S1408x1024 .bf16 := iblk m c 4 t

theorem idx : ∀ t : Fin cfg0.N,
    win0_0.index t = ![t.val / 8, t.val / 4 % 2, 0] ∧ win0_1.index t = ![0, 0]
    ∧ win0_2.index t = ![t.val / 8, 0, 0] ∧ win0_3.index t = ![t.val / 8, 0, 0]
    ∧ win0_4.index t = ![t.val % 4, 0]
    ∧ win0_5.index t = ![t.val / 8, t.val / 4 % 2, t.val % 4]
    ∧ win0_6.index t = ![t.val / 8, t.val / 4 % 2, 0] :=
  (by decide +kernel : ∀ t : Fin grid0.N, _)

/-- The modulated rows of one block. -/
theorem rows_apply (x : FVec Ideal S1x1024x1024 .f32) (g : FVec Ideal S1x1024 .f32) (sc sh : FVec Ideal S1x1x1024 .f32)
    (r d : Fin 1024) :
    k0_pay1 (F := Ideal) x g sc sh (ix2 r d)
      = x (ix3 0 r d) * Model.rstd (fun k => x (ix3 0 r k)) * g (ix2 0 d) * (1 + sc (ix3 0 0 d)) + sh (ix3 0 0 d) := by
  pointwise [k0_pay1, Model.rstd, Model.var, Model.mean]

/-- The second result's block is the kept rows. -/
theorem kept_apply (h : FVec Ideal S1024x1024 .bf16) (z : Fin 1) (r d : Fin 1024) :
    k0_pay2 (F := Ideal) h (ix3 z r d) = h (ix2 r d) := by
  pointwise [k0_pay2]

/-- The first result's block is the product of the kept rows with the tile of the weight. -/
theorem prod_apply (h : FVec Ideal S1024x1024 .bf16) (w : FVec Ideal S1408x1024 .bf16) (z : Fin 1) (r : Fin 1024) (j : Fin 1408) :
    k0_pay3 (F := Ideal) h w (ix3 z r j) = ∑ k : Fin 1024, h (ix2 r k) * w (ix2 j k) := by
  pointwise [k0_pay3]

variable (t : Fin cfg0.N)

theorem bX_apply (r k : Fin 1024) (b : Fin 2) (s : Fin 2048)
    (hb : b.val = t.val / 8) (hs : s.val = t.val / 4 % 2 * 1024 + r.val) :
    bX m c t (ix3 0 r k) = aX m c (ix3 b s k) := by
  unfold bX aX
  blk_ext [iblk, V, idx t]

theorem bN_apply (d : Fin 1024) : bN m c t (ix2 0 d) = aN m c (ix1 d) := by
  have h : bN m c t (ix2 0 d) = V m c main_v0 (ix2 0 d) := by
    unfold bN
    blk_ext [iblk, idx t]
  rw [h]
  unfold aN
  entry_read
  pointwise

theorem bC_apply (d : Fin 1024) (b : Fin 2) (hb : b.val = t.val / 8) : bC m c t (ix3 0 0 d) = aC m c (ix3 b 0 d) := by
  unfold bC aC
  blk_ext [iblk, V, idx t]

theorem bH_apply (d : Fin 1024) (b : Fin 2) (hb : b.val = t.val / 8) : bH m c t (ix3 0 0 d) = aH m c (ix3 b 0 d) := by
  unfold bH aH
  blk_ext [iblk, V, idx t]

theorem bW_apply (j : Fin 1408) (k : Fin 1024) (e : Fin 5632) (he : e.val = t.val % 4 * 1408 + j.val) :
    bW m c t (ix2 j k) = aW m c (ix2 e k) := by
  unfold bW aW
  blk_ext [iblk, V, idx t]

/-- A modulated row at a sequence, a row and a column. -/
def hAt (b : Fin 2) (s : Fin 2048) (d : Fin 1024) : EReal :=
  aX m c (ix3 b s d) * Model.rstd (fun k => aX m c (ix3 b s k)) * aN m c (ix1 d) * (1 + aC m c (ix3 b 0 d)) + aH m c (ix3 b 0 d)

/-- The product with the weight at a sequence, a row and a column. -/
def yAt (b : Fin 2) (s : Fin 2048) (e : Fin 5632) : EReal := ∑ k : Fin 1024, hAt m c b s k * aW m c (ix2 e k)

def H : FVec Ideal S2x2048x1024 .bf16 := fun i => hAt m c (i 0) (i 1) (i 2)
def Y : FVec Ideal S2x2048x5632 .bf16 := fun i => yAt m c (i 0) (i 1) (i 2)

/-- The rows kept at a point are the modulated rows of the point's own row block. -/
theorem rowsAt_apply (r d : Fin 1024) (b : Fin 2) (s : Fin 2048)
    (hb : b.val = t.val / 8) (hs : s.val = t.val / 4 % 2 * 1024 + r.val) :
    rowsAt m c t (ix2 r d) = hAt m c b s d := by
  have hv : (start t).val = t.val - t.val % 4 := rfl
  have hb' : b.val = (start t).val / 8 := by omega
  have hs' : s.val = (start t).val / 4 % 2 * 1024 + r.val := by omega
  have hx : ∀ k, bX m c (start t) (ix3 0 r k) = aX m c (ix3 b s k) := fun k => bX_apply m c (start t) r k b s hb' hs'
  refine (rows_apply (bX m c (start t)) (bN m c (start t)) (bC m c (start t)) (bH m c (start t)) r d).trans ?_
  simp only [hx]
  rw [bN_apply, bC_apply m c (start t) d b hb', bH_apply m c (start t) d b hb']
  rfl

end

variable (m : (ℓ : Loc nD τ sig) → Buf (Elt Ideal) ℓ)

theorem final5 (c : Dev nD) : (dats m 0 c).arrAt 5 cfg0.N = Y m c := by
  refine (dats m 0 c).arrAt_eq_of_covers 5 (Y m c) (by decide +kernel) fun t hf y => ?_
  blk_simp
  rw [after0_5]
  obtain ⟨z, r, j, rfl⟩ : ∃ z r j, y = ix3 z r j := ⟨y 0, y 1, y 2, eq_ix3 y⟩
  have ht : t.val < 16 := lt_of_lt_of_eq t.isLt N_0
  have hr : r.val < 1024 := r.isLt
  have hj : j.val < 1408 := j.isLt
  refine (prod_apply (rowsAt m c t) (bW m c t) z r j).trans ?_
  have hsum : ∑ k : Fin 1024, rowsAt m c t (ix2 r k) * bW m c t (ix2 j k)
      = yAt m c ⟨t.val / 8, by omega⟩ ⟨t.val / 4 % 2 * 1024 + r.val, by omega⟩ ⟨t.val % 4 * 1408 + j.val, by omega⟩ :=
    Finset.sum_congr rfl fun k _ => by
      rw [rowsAt_apply m c t r k ⟨t.val / 8, by omega⟩ ⟨t.val / 4 % 2 * 1024 + r.val, by omega⟩ rfl rfl,
        bW_apply m c t j k ⟨t.val % 4 * 1408 + j.val, by omega⟩ rfl]
  refine hsum.trans ?_
  show Y m c (ix3 ⟨t.val / 8, by omega⟩ ⟨t.val / 4 % 2 * 1024 + r.val, by omega⟩ ⟨t.val % 4 * 1408 + j.val, by omega⟩) = _
  refine congrArg (Y m c) ?_
  obtain rfl : z = 0 := Subsingleton.elim _ _
  blk_ext [idx t]

theorem final6 (c : Dev nD) : (dats m 0 c).arrAt 6 cfg0.N = H m c := by
  refine (dats m 0 c).arrAt_eq_of_covers 6 (H m c) (by decide +kernel) fun t hf y => ?_
  blk_simp
  rw [after0_6]
  obtain ⟨z, r, k, rfl⟩ : ∃ z r k, y = ix3 z r k := ⟨y 0, y 1, y 2, eq_ix3 y⟩
  have ht : t.val < 16 := lt_of_lt_of_eq t.isLt N_0
  have hr : r.val < 1024 := r.isLt
  refine (kept_apply (rowsAt m c t) z r k).trans ?_
  rw [rowsAt_apply m c t r k ⟨t.val / 8, by omega⟩ ⟨t.val / 4 % 2 * 1024 + r.val, by omega⟩ rfl rfl]
  show H m c (ix3 ⟨t.val / 8, by omega⟩ ⟨t.val / 4 % 2 * 1024 + r.val, by omega⟩ k) = _
  refine congrArg (H m c) ?_
  obtain rfl : z = 0 := Subsingleton.elim _ _
  blk_ext [idx t]

/-- Every execution ends with the two results at these arrays and the arguments unchanged. -/
theorem results (ρ : Dev nD → PrngReg) : θ_run defs (onTc (τ := τ) (main (F := Ideal))) ⟨m, fun _ => 0, ρ⟩ fun r => ∀ c : Dev nD,
      r.2.mem ((c : Thread nD τ).loc main_v1_0) = Y m c
      ∧ r.2.mem ((c : Thread nD τ).loc main_v1_1) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 5).trans (final5 m c), ((h.2 c).1 6).trans (final6 m c), h.1.1 c⟩)
    (θ_run_and (frame m ρ) (run_main m ρ))

end Cert.Kernel12Ideal.Ln

namespace Cert.Reference12Ideal.Ln

open Cert.Reference12Ideal Cert.Reference12Ideal.Gen

/-- The reference's reciprocal root mean square, one column. -/
def rstdCol (x : FVec Ideal S2x2048x1024 .f32) : FVec Ideal S2x2048x1 .f32 :=
  Host.rsqrt (addf (Host.divf (broadcastInDim S2x2048x1 ![0, 1] bcast_S2x2048_S2x2048x1_0_1
    (Host.reduceAdd (mulf x x) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32)))

/-- The reference's modulated rows. -/
def hOut (x : FVec Ideal S2x2048x1024 .f32) (g : FVec Ideal S1024 .f32) (sc sh : FVec Ideal S2x1x1024 .f32) :
    FVec Ideal S2x2048x1024 .f32 :=
  addf (mulf (mulf (mulf x (broadcastInDim S2x2048x1024 ![0, 1, 2] bcast_S2x2048x1_S2x2048x1024_0_1_2 (rstdCol x)))
    (broadcastInDim S2x2048x1024 ![0, 1, 2] bcast_S1x1x1024_S2x2048x1024_0_1_2 (broadcastInDim S1x1x1024 ![2] bcast_S1024_S1x1x1024_2 g)))
    (broadcastInDim S2x2048x1024 ![0, 1, 2] bcast_S2x1x1024_S2x2048x1024_0_1_2
      (addf (broadcastInDim S2x1x1024 ![] bcast_S_S2x1x1024 (constant S_ .f32 0x3F800000#32)) sc)))
    (broadcastInDim S2x2048x1024 ![0, 1, 2] bcast_S2x1x1024_S2x2048x1024_0_1_2 sh)

/-- The reference's product of rows with the weight. -/
def yOut (h : FVec Ideal S2x2048x1024 .f32) (w : FVec Ideal S5632x1024 .bf16) : FVec Ideal S2x2048x5632 .bf16 :=
  truncf .bf16 (Host.dotGeneral dot_S2x2048x1024_S1024x5632_S2x2048x5632_2_0_01_1_n_n none h
    (transpose S1024x5632 [1, 0] (extf .f32 w bitsLt_bf16_f32) transposes_S5632x1024_S1024x5632_1_0)) bitsLt_bf16_f32

theorem rstdCol_apply (x : FVec Ideal S2x2048x1024 .f32) (b : Fin 2) (s : Fin 2048) (o : Fin 1) :
    rstdCol x (ix3 b s o) = Model.rstd (fun k => x (ix3 b s k)) := by
  pointwise [rstdCol, Model.rstd, Model.var, Model.mean]

theorem hOut_apply (x : FVec Ideal S2x2048x1024 .f32) (g : FVec Ideal S1024 .f32) (sc sh : FVec Ideal S2x1x1024 .f32)
    (b : Fin 2) (s : Fin 2048) (d : Fin 1024) :
    hOut x g sc sh (ix3 b s d)
      = x (ix3 b s d) * Model.rstd (fun k => x (ix3 b s k)) * g (ix1 d) * (1 + sc (ix3 b 0 d)) + sh (ix3 b 0 d) := by
  pointwise [hOut, rstdCol_apply]

theorem yOut_apply (h : FVec Ideal S2x2048x1024 .f32) (w : FVec Ideal S5632x1024 .bf16) (b : Fin 2) (s : Fin 2048) (e : Fin 5632) :
    yOut h w (ix3 b s e) = ∑ k : Fin 1024, h (ix3 b s k) * w (ix2 e k) := by
  pointwise [yOut]

/-- The reference's product over the kernel's arguments. -/
theorem y_eq (m : (ℓ : Loc Cert.Kernel12Ideal.nD Cert.Kernel12Ideal.τ Cert.Kernel12Ideal.sig) → Buf (Elt Ideal) ℓ)
    (c : Dev Cert.Kernel12Ideal.nD) (b : Fin 2) (s : Fin 2048) (e : Fin 5632) :
    (∑ k : Fin 1024, hOut (Cert.Kernel12Ideal.Ln.aX m c) (Cert.Kernel12Ideal.Ln.aN m c) (Cert.Kernel12Ideal.Ln.aC m c)
        (Cert.Kernel12Ideal.Ln.aH m c) (ix3 b s k) * Cert.Kernel12Ideal.Ln.aW m c (ix2 e k))
      = Cert.Kernel12Ideal.Ln.yAt m c b s e := by
  unfold Cert.Kernel12Ideal.Ln.yAt
  exact Finset.sum_congr rfl fun k _ => by rw [hOut_apply]; rfl

theorem frame : Cert.quiescent_Reference12Ideal (hReference12Ideal := Cert.Reference12Ideal.Gen.facts) := by
  intro m ρ _
  exact (θ_run Cert.Reference12Ideal.defs _ _).mono
    (fun r h => ⟨fun c => (h c).2.2, sem_eq_zero_of_no_sems (by decide) r.2⟩) (Cert.Reference12Ideal.Value.run m ρ)

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Kernel12Ideal.Ln.Y m c, fun c => Cert.Kernel12Ideal.Ln.H m c, Cert.Kernel12Ideal.Ln.results m g, ?_⟩
  refine (θ_run _ _ _).mono (fun r h c => ?_) (Cert.Reference12Ideal.Value.run m' g')
  obtain ⟨h0, h1, hk⟩ := h c
  obtain ⟨a0, a1, a2, a3, a4⟩ := hagree c
  refine ⟨h0.trans ?_, h1.trans ?_, hk⟩
  · rw [a0, a1, a2, a3, a4]
    funext i
    obtain ⟨b, s, e, rfl⟩ : ∃ b s e, i = ix3 b s e := ⟨i 0, i 1, i 2, eq_ix3 i⟩
    refine (yOut_apply (hOut _ _ _ _) _ b s e).trans ?_
    exact y_eq m c b s e
  · rw [a0, a1, a2, a3]
    funext i
    obtain ⟨b, s, d, rfl⟩ : ∃ b s d, i = ix3 b s d := ⟨i 0, i 1, i 2, eq_ix3 i⟩
    exact hOut_apply _ _ _ _ b s d

end Cert.Reference12Ideal.Ln
-- ==== Proof.Adam.lean ====
module

public import Idealize.ShloMosaic.Lib.Pointwise

@[expose] public section

/-! AdamW at one entry: the two moments from the gradient, and the weight's change from the moments and the weight. The constants are
the step's own, as it writes them: 0.9, 0.1, 0.999, 0.001, the two bias corrections at step ten, the small number under the root, the
decay and the negated rate. -/

noncomputable section

open Idealize.ShloMosaic

namespace Cert.Adam

/-- The new first moment, from the gradient and the old one. -/
def newM (g μ : EReal) : EReal := Ideal.ofBits .f32 0x3F666666#32 * μ + Ideal.ofBits .f32 0x3DCCCCCD#32 * g

/-- The new second moment. -/
def newV (g ν : EReal) : EReal := Ideal.ofBits .f32 0x3F7FBE77#32 * ν + Ideal.ofBits .f32 0x3A83126F#32 * (g * g)

/-- The weight's change, from the new moments and the weight. -/
def delta (μ ν w : EReal) : EReal :=
  Ideal.ofBits .f32 0xBA83126F#32
    * (Ideal.div (Ideal.div μ (Ideal.ofBits .f32 0x3F26BD02#32))
        (Ideal.sqrt (Ideal.div ν (Ideal.ofBits .f32 0x3C231ACC#32)) + Ideal.ofBits .f32 0x322BCC77#32)
      + Ideal.ofBits .f32 0x3C23D70A#32 * w)

end Cert.Adam
-- ==== Proof.Adam13.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Adam
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The optimiser step of AdamW, program 13: the conditioning weight. The gradient is read with the two layers' rows stacked; point `t` of the grid is a tile of 512 rows. -/

set_option maxRecDepth 16384

noncomputable section

open Idealize.ShloMosaic Idealize.ShloMosaic.TcCoe Idealize.SL.Sem
open Cert.Adam

namespace Cert.Kernel13Ideal.Step

open Cert.Kernel13Ideal Cert.Kernel13Ideal.Gen

variable (m : (ℓ : Loc nD τ sig) → Buf (Elt Ideal) ℓ) (c : Dev nD)

/-- The arguments as arrays: the gradient or its parts, the weight, the two moments. -/
def aG : FVec Ideal S2x1024x768 .f32 := m ((c : Thread nD τ).loc main_arg0)
def aW : FVec Ideal S2x1024x768 .f32 := m ((c : Thread nD τ).loc main_arg1)
def aM : FVec Ideal S2x1024x768 .f32 := m ((c : Thread nD τ).loc main_arg2)
def aV : FVec Ideal S2x1024x768 .f32 := m ((c : Thread nD τ).loc main_arg3)

/-- The blocks of the operands at a point. -/
def bG (t : Fin cfg0.N) : FVec Ideal S1x512x768 .f32 := iblk m c 0 t
def bW (t : Fin cfg0.N) : FVec Ideal S512x768 .f32 := iblk m c 1 t
def bM (t : Fin cfg0.N) : FVec Ideal S512x768 .f32 := iblk m c 2 t
def bV (t : Fin cfg0.N) : FVec Ideal S512x768 .f32 := iblk m c 3 t

theorem idx : ∀ t : Fin cfg0.N,
    win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the moments and the weight's change at a row and a column. -/
def gAt (s : Fin 2048) (k : Fin 768) : EReal := aG m c (ix3 ⟨s.val / 1024, by omega⟩ ⟨s.val % 1024, by omega⟩ k)
def mAt (s : Fin 2048) (k : Fin 768) : EReal := newM (gAt m c s k) (aM m c (ix3 ⟨s.val / 1024, by omega⟩ ⟨s.val % 1024, by omega⟩ k))
def vAt (s : Fin 2048) (k : Fin 768) : EReal := newV (gAt m c s k) (aV m c (ix3 ⟨s.val / 1024, by omega⟩ ⟨s.val % 1024, by omega⟩ k))
def dAt (s : Fin 2048) (k : Fin 768) : EReal := delta (mAt m c s k) (vAt m c s k) (aW m c (ix3 ⟨s.val / 1024, by omega⟩ ⟨s.val % 1024, by omega⟩ k))

/-- The result arrays. -/
def resG : FVec Ideal S2048x768 .f32 := fun i => gAt m c (i 0) (i 1)
def resD : FVec Ideal S2048x768 .f32 := fun i => dAt m c (i 0) (i 1)
def resM : FVec Ideal S2048x768 .f32 := fun i => mAt m c (i 0) (i 1)
def resV : FVec Ideal S2048x768 .f32 := fun i => vAt m c (i 0) (i 1)

/-- The gradient in a block of the parts. -/
def gB (x : FVec Ideal S1x512x768 .f32) (r : Fin 512) (k : Fin 768) : EReal := x (ix3 0 r k)

section Block

variable (x0 : FVec Ideal S1x512x768 .f32) (x1 x2 x3 : FVec Ideal S512x768 .f32) (r : Fin 512) (k : Fin 768)

theorem sum_ld : k0_pay2 (F := Ideal) x0 (ix2 r k) = gB x0 r k := by
  unfold gB
  pointwise [k0_pay2]

theorem blkM : k0_pay3 (F := Ideal) x0 x2 (ix2 r k)
    = newM (gB x0 r k) (x2 (ix2 r k)) := by
  rw [← sum_ld x0 r k]
  unfold k0_pay3
  generalize k0_pay2 (F := Ideal) x0 = q
  unfold newM
  pointwise

theorem blkV : k0_pay4 (F := Ideal) x0 x3 (ix2 r k)
    = newV (gB x0 r k) (x3 (ix2 r k)) := by
  rw [← sum_ld x0 r k]
  unfold k0_pay4
  generalize k0_pay2 (F := Ideal) x0 = q
  unfold newV
  pointwise

theorem blkD : k0_pay1 (F := Ideal) (k0_pay5 x0 x2 x3 x1) (ix2 r k)
    = delta (newM (gB x0 r k) (x2 (ix2 r k))) (newV (gB x0 r k) (x3 (ix2 r k))) (x1 (ix2 r k)) := by
  have hm := blkM x0 x2 r k
  have hv := blkV x0 x3 r k
  rw [← hm, ← hv]
  unfold k0_pay1 k0_pay5
  generalize k0_pay3 (F := Ideal) x0 x2 = p
  generalize k0_pay4 (F := Ideal) x0 x3 = q
  unfold delta
  pointwise

end Block

variable (t : Fin cfg0.N)

theorem out4 : out0_4 (iblk m c 0 t) (iblk m c 1 t) (iblk m c 2 t) (iblk m c 3 t)
    = k0_pay2 (F := Ideal) (bG m c t) := by
  frame_out
  rfl

theorem out5 : out0_5 (iblk m c 0 t) (iblk m c 1 t) (iblk m c 2 t) (iblk m c 3 t)
    = k0_pay1 (F := Ideal) (k0_pay5 (bG m c t) (bM m c t) (bV m c t) (bW m c t)) := by
  frame_out
  rfl

theorem out6 : out0_6 (iblk m c 0 t) (iblk m c 1 t) (iblk m c 2 t) (iblk m c 3 t)
    = k0_pay3 (F := Ideal) (bG m c t) (bM m c t) := by
  frame_out
  rfl

theorem out7 : out0_7 (iblk m c 0 t) (iblk m c 1 t) (iblk m c 2 t) (iblk m c 3 t)
    = k0_pay4 (F := Ideal) (bG m c t) (bV m c t) := by
  frame_out
  rfl

theorem bW_apply (r : Fin 512) (k : Fin 768) (s : Fin 2048) (hs : s.val = t.val * 512 + r.val) :
    bW m c t (ix2 r k) = aW m c (ix3 ⟨s.val / 1024, by omega⟩ ⟨s.val % 1024, by omega⟩ k) := by
  have h : bW m c t (ix2 r k) = V m c main_v2 (ix2 s k) := by
    unfold bW
    blk_ext [iblk, idx t]
  rw [h]
  unfold aW
  entry_read
  pointwise

theorem bM_apply (r : Fin 512) (k : Fin 768) (s : Fin 2048) (hs : s.val = t.val * 512 + r.val) :
    bM m c t (ix2 r k) = aM m c (ix3 ⟨s.val / 1024, by omega⟩ ⟨s.val % 1024, by omega⟩ k) := by
  have h : bM m c t (ix2 r k) = V m c main_v3 (ix2 s k) := by
    unfold bM
    blk_ext [iblk, idx t]
  rw [h]
  unfold aM
  entry_read
  pointwise

theorem bV_apply (r : Fin 512) (k : Fin 768) (s : Fin 2048) (hs : s.val = t.val * 512 + r.val) :
    bV m c t (ix2 r k) = aV m c (ix3 ⟨s.val / 1024, by omega⟩ ⟨s.val % 1024, by omega⟩ k) := by
  have h : bV m c t (ix2 r k) = V m c main_v4 (ix2 s k) := by
    unfold bV
    blk_ext [iblk, idx t]
  rw [h]
  unfold aV
  entry_read
  pointwise

theorem bG_apply (r : Fin 512) (k : Fin 768) (s : Fin 2048) (hs : s.val = t.val * 512 + r.val) :
    gB (bG m c t) r k = gAt m c s k := by
  have h : bG m c t (ix3 0 r k) = V m c main_v1 (ix3 0 s k) := by
    unfold bG
    blk_ext [iblk, idx t]
  unfold gB gAt
  rw [h]
  unfold aG
  entry_read
  pointwise

theorem final4 (c : Dev nD) : (dats m 0 c).arrAt 4 cfg0.N = resG m c := by
  refine (dats m 0 c).arrAt_eq_of_covers 4 (resG m c) (by decide +kernel) fun t hf y => ?_
  blk_simp
  rw [after0_4, out4 m c t]
  obtain ⟨r, k, rfl⟩ : ∃ r k, y = ix2 r k := ⟨y 0, y 1, eq_ix2 y⟩
  have ht : t.val < 4 := lt_of_lt_of_eq t.isLt N_0
  have hr : r.val < 512 := r.isLt
  refine (sum_ld (bG m c t) r k).trans ?_
  rw [bG_apply m c t r k ⟨t.val * 512 + r.val, by omega⟩ rfl]
  show resG m c (ix2 ⟨t.val * 512 + r.val, by omega⟩ k) = _
  refine congrArg (resG m c) ?_
  blk_ext [idx t]

theorem final5 (c : Dev nD) : (dats m 0 c).arrAt 5 cfg0.N = resD m c := by
  refine (dats m 0 c).arrAt_eq_of_covers 5 (resD m c) (by decide +kernel) fun t hf y => ?_
  blk_simp
  rw [after0_5, out5 m c t]
  obtain ⟨r, k, rfl⟩ : ∃ r k, y = ix2 r k := ⟨y 0, y 1, eq_ix2 y⟩
  have ht : t.val < 4 := lt_of_lt_of_eq t.isLt N_0
  have hr : r.val < 512 := r.isLt
  refine (blkD (bG m c t) (bW m c t) (bM m c t) (bV m c t) r k).trans ?_
  rw [bG_apply m c t r k ⟨t.val * 512 + r.val, by omega⟩ rfl, bW_apply m c t r k ⟨t.val * 512 + r.val, by omega⟩ rfl, bM_apply m c t r k ⟨t.val * 512 + r.val, by omega⟩ rfl, bV_apply m c t r k ⟨t.val * 512 + r.val, by omega⟩ rfl]
  show resD m c (ix2 ⟨t.val * 512 + r.val, by omega⟩ k) = _
  refine congrArg (resD m c) ?_
  blk_ext [idx t]

theorem final6 (c : Dev nD) : (dats m 0 c).arrAt 6 cfg0.N = resM m c := by
  refine (dats m 0 c).arrAt_eq_of_covers 6 (resM m c) (by decide +kernel) fun t hf y => ?_
  blk_simp
  rw [after0_6, out6 m c t]
  obtain ⟨r, k, rfl⟩ : ∃ r k, y = ix2 r k := ⟨y 0, y 1, eq_ix2 y⟩
  have ht : t.val < 4 := lt_of_lt_of_eq t.isLt N_0
  have hr : r.val < 512 := r.isLt
  refine (blkM (bG m c t) (bM m c t) r k).trans ?_
  rw [bG_apply m c t r k ⟨t.val * 512 + r.val, by omega⟩ rfl, bM_apply m c t r k ⟨t.val * 512 + r.val, by omega⟩ rfl]
  show resM m c (ix2 ⟨t.val * 512 + r.val, by omega⟩ k) = _
  refine congrArg (resM m c) ?_
  blk_ext [idx t]

theorem final7 (c : Dev nD) : (dats m 0 c).arrAt 7 cfg0.N = resV m c := by
  refine (dats m 0 c).arrAt_eq_of_covers 7 (resV m c) (by decide +kernel) fun t hf y => ?_
  blk_simp
  rw [after0_7, out7 m c t]
  obtain ⟨r, k, rfl⟩ : ∃ r k, y = ix2 r k := ⟨y 0, y 1, eq_ix2 y⟩
  have ht : t.val < 4 := lt_of_lt_of_eq t.isLt N_0
  have hr : r.val < 512 := r.isLt
  refine (blkV (bG m c t) (bV m c t) r k).trans ?_
  rw [bG_apply m c t r k ⟨t.val * 512 + r.val, by omega⟩ rfl, bV_apply m c t r k ⟨t.val * 512 + r.val, by omega⟩ rfl]
  show resV m c (ix2 ⟨t.val * 512 + r.val, by omega⟩ k) = _
  refine congrArg (resV m c) ?_
  blk_ext [idx t]

end Cert.Kernel13Ideal.Step

namespace Cert.Reference13Ideal.Step

open Cert.Reference13Ideal Cert.Reference13Ideal.Gen

variable (g w μ ν : FVec Ideal S2x1024x768 .f32)

/-- The gradient at a row and a column. -/
def gAt (s : Fin 2048) (k : Fin 768) : EReal := g (ix3 ⟨s.val / 1024, by omega⟩ ⟨s.val % 1024, by omega⟩ k)

theorem m_apply (s : Fin 2048) (k : Fin 768) : (shapeCast S2048x768 (addf (F := Ideal) (mulf (broadcastInDim S2x1024x768 ![] bcast_S_S2x1024x768 (constant S_ .f32 0x3F666666#32)) μ) (mulf (broadcastInDim S2x1024x768 ![] bcast_S_S2x1024x768 (constant S_ .f32 0x3DCCCCCD#32)) g)) shapeCasts_S2x1024x768_S2048x768 : FVec Ideal S2048x768 .f32) (ix2 s k)
    = newM (gAt g s k) (μ (ix3 ⟨s.val / 1024, by omega⟩ ⟨s.val % 1024, by omega⟩ k)) := by
  unfold gAt
  unfold newM
  pointwise

theorem v_apply (s : Fin 2048) (k : Fin 768) : (shapeCast S2048x768 (addf (F := Ideal) (mulf (broadcastInDim S2x1024x768 ![] bcast_S_S2x1024x768 (constant S_ .f32 0x3F7FBE77#32)) ν) (mulf (broadcastInDim S2x1024x768 ![] bcast_S_S2x1024x768 (constant S_ .f32 0x3A83126F#32)) (mulf g g))) shapeCasts_S2x1024x768_S2048x768 : FVec Ideal S2048x768 .f32) (ix2 s k)
    = newV (gAt g s k) (ν (ix3 ⟨s.val / 1024, by omega⟩ ⟨s.val % 1024, by omega⟩ k)) := by
  unfold gAt
  unfold newV
  pointwise

theorem d_apply (s : Fin 2048) (k : Fin 768) : (shapeCast S2048x768 (mulf (F := Ideal) (broadcastInDim S2x1024x768 ![] bcast_S_S2x1024x768 (constant S_ .f32 0xBA83126F#32)) (addf (Host.divf (Host.divf (addf (F := Ideal) (mulf (broadcastInDim S2x1024x768 ![] bcast_S_S2x1024x768 (constant S_ .f32 0x3F666666#32)) μ) (mulf (broadcastInDim S2x1024x768 ![] bcast_S_S2x1024x768 (constant S_ .f32 0x3DCCCCCD#32)) g)) (broadcastInDim S2x1024x768 ![] bcast_S_S2x1024x768 (constant S_ .f32 0x3F26BD02#32))) (addf (Host.sqrt (Host.divf (addf (F := Ideal) (mulf (broadcastInDim S2x1024x768 ![] bcast_S_S2x1024x768 (constant S_ .f32 0x3F7FBE77#32)) ν) (mulf (broadcastInDim S2x1024x768 ![] bcast_S_S2x1024x768 (constant S_ .f32 0x3A83126F#32)) (mulf g g))) (broadcastInDim S2x1024x768 ![] bcast_S_S2x1024x768 (constant S_ .f32 0x3C231ACC#32)))) (broadcastInDim S2x1024x768 ![] bcast_S_S2x1024x768 (constant S_ .f32 0x322BCC77#32)))) (mulf (broadcastInDim S2x1024x768 ![] bcast_S_S2x1024x768 (constant S_ .f32 0x3C23D70A#32)) w))) shapeCasts_S2x1024x768_S2048x768 : FVec Ideal S2048x768 .f32) (ix2 s k)
    = delta (newM (gAt g s k) (μ (ix3 ⟨s.val / 1024, by omega⟩ ⟨s.val % 1024, by omega⟩ k))) (newV (gAt g s k) (ν (ix3 ⟨s.val / 1024, by omega⟩ ⟨s.val % 1024, by omega⟩ k))) (w (ix3 ⟨s.val / 1024, by omega⟩ ⟨s.val % 1024, by omega⟩ k)) := by
  unfold gAt
  unfold delta newM newV
  pointwise

theorem g_apply (s : Fin 2048) (k : Fin 768) : (shapeCast S2048x768 (g) shapeCasts_S2x1024x768_S2048x768 : FVec Ideal S2048x768 .f32) (ix2 s k) = gAt g s k := by
  unfold gAt
  pointwise

theorem frame : Cert.quiescent_Reference13Ideal (hReference13Ideal := Cert.Reference13Ideal.Gen.facts) := by
  intro m ρ _
  exact (θ_run Cert.Reference13Ideal.defs _ _).mono
    (fun r h => ⟨fun c => (h c).2.2.2.2, sem_eq_zero_of_no_sems (by decide) r.2⟩) (Cert.Reference13Ideal.Value.run m ρ)

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Kernel13Ideal.Step.resG m c, fun c => Cert.Kernel13Ideal.Step.resD m c, fun c => Cert.Kernel13Ideal.Step.resM m c, fun c => Cert.Kernel13Ideal.Step.resV m c, ?_, ?_⟩
  · refine (θ_run _ _ _).mono (fun r h c => ?_) (Cert.Kernel13Ideal.Value.run_blocks m g)
    obtain ⟨h0, h1, h2, h3, hk⟩ := h c
    exact ⟨h0.trans (Cert.Kernel13Ideal.Step.final4 m c), h1.trans (Cert.Kernel13Ideal.Step.final5 m c), h2.trans (Cert.Kernel13Ideal.Step.final6 m c), h3.trans (Cert.Kernel13Ideal.Step.final7 m c), hk⟩
  · refine (θ_run _ _ _).mono (fun r h c => ?_) (Cert.Reference13Ideal.Value.run m' g')
    obtain ⟨h0, h1, h2, h3, hk⟩ := h c
    obtain ⟨a0, a1, a2, a3⟩ := hagree c
    refine ⟨h0.trans ?_, h1.trans ?_, h2.trans ?_, h3.trans ?_, hk⟩
    · rw [a0]
      funext i
      obtain ⟨s, k, rfl⟩ : ∃ s k, i = ix2 s k := ⟨i 0, i 1, eq_ix2 i⟩
      exact g_apply _ s k
    · rw [a0, a1, a2, a3]
      funext i
      obtain ⟨s, k, rfl⟩ : ∃ s k, i = ix2 s k := ⟨i 0, i 1, eq_ix2 i⟩
      exact d_apply _ _ _ _ s k
    · rw [a0, a2]
      funext i
      obtain ⟨s, k, rfl⟩ : ∃ s k, i = ix2 s k := ⟨i 0, i 1, eq_ix2 i⟩
      exact m_apply _ _ s k
    · rw [a0, a3]
      funext i
      obtain ⟨s, k, rfl⟩ : ∃ s k, i = ix2 s k := ⟨i 0, i 1, eq_ix2 i⟩
      exact v_apply _ _ s k

end Cert.Reference13Ideal.Step
-- ==== Proof.Adam14.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Adam
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The optimiser step of AdamW, program 14: the conditioning bias, one block. -/

set_option maxRecDepth 16384

noncomputable section

open Idealize.ShloMosaic Idealize.ShloMosaic.TcCoe Idealize.SL.Sem
open Cert.Adam

namespace Cert.Kernel14Ideal.Step

open Cert.Kernel14Ideal Cert.Kernel14Ideal.Gen

variable (m : (ℓ : Loc nD τ sig) → Buf (Elt Ideal) ℓ) (c : Dev nD)

/-- The arguments as arrays: the gradient or its parts, the weight, the two moments. -/
def aG : FVec Ideal S2x6144 .f32 := m ((c : Thread nD τ).loc main_arg0)
def aW : FVec Ideal S2x6144 .f32 := m ((c : Thread nD τ).loc main_arg1)
def aM : FVec Ideal S2x6144 .f32 := m ((c : Thread nD τ).loc main_arg2)
def aV : FVec Ideal S2x6144 .f32 := m ((c : Thread nD τ).loc main_arg3)

/-- The blocks of the operands at a point. -/
def bG (t : Fin cfg0.N) : FVec Ideal S1x2x6144 .f32 := iblk m c 0 t
def bW (t : Fin cfg0.N) : FVec Ideal S2x6144 .f32 := iblk m c 1 t
def bM (t : Fin cfg0.N) : FVec Ideal S2x6144 .f32 := iblk m c 2 t
def bV (t : Fin cfg0.N) : FVec Ideal S2x6144 .f32 := iblk m c 3 t

theorem idx : ∀ t : Fin cfg0.N,
    win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The gradient, the moments and the weight's change at a row and a column. -/
def gAt (s : Fin 2) (k : Fin 6144) : EReal := aG m c (ix2 s k)
def mAt (s : Fin 2) (k : Fin 6144) : EReal := newM (gAt m c s k) (aM m c (ix2 s k))
def vAt (s : Fin 2) (k : Fin 6144) : EReal := newV (gAt m c s k) (aV m c (ix2 s k))
def dAt (s : Fin 2) (k : Fin 6144) : EReal := delta (mAt m c s k) (vAt m c s k) (aW m c (ix2 s k))

/-- The result arrays. -/
def resG : FVec Ideal S2x6144 .f32 := fun i => gAt m c (i 0) (i 1)
def resD : FVec Ideal S2x6144 .f32 := fun i => dAt m c (i 0) (i 1)
def resM : FVec Ideal S2x6144 .f32 := fun i => mAt m c (i 0) (i 1)
def resV : FVec Ideal S2x6144 .f32 := fun i => vAt m c (i 0) (i 1)

/-- The gradient in a block of the parts. -/
def gB (x : FVec Ideal S1x2x6144 .f32) (r : Fin 2) (k : Fin 6144) : EReal := x (ix3 0 r k)

section Block

variable (x0 : FVec Ideal S1x2x6144 .f32) (x1 x2 x3 : FVec Ideal S2x6144 .f32) (r : Fin 2) (k : Fin 6144)

theorem sum_ld : k0_pay1 (F := Ideal) x0 (ix2 r k) = gB x0 r k := by
  unfold gB
  pointwise [k0_pay1]

theorem blkM : k0_pay2 (F := Ideal) x0 x2 (ix2 r k)
    = newM (gB x0 r k) (x2 (ix2 r k)) := by
  rw [← sum_ld x0 r k]
  unfold k0_pay2
  generalize k0_pay1 (F := Ideal) x0 = q
  unfold newM
  pointwise

theorem blkV : k0_pay3 (F := Ideal) x0 x3 (ix2 r k)
    = newV (gB x0 r k) (x3 (ix2 r k)) := by
  rw [← sum_ld x0 r k]
  unfold k0_pay3
  generalize k0_pay1 (F := Ideal) x0 = q
  unfold newV
  pointwise

theorem blkD : k0_pay4 (F := Ideal) x0 x2 x3 x1 (ix2 r k)
    = delta (newM (gB x0 r k) (x2 (ix2 r k))) (newV (gB x0 r k) (x3 (ix2 r k))) (x1 (ix2 r k)) := by
  have hm := blkM x0 x2 r k
  have hv := blkV x0 x3 r k
  rw [← hm, ← hv]
  unfold k0_pay4
  generalize k0_pay2 (F := Ideal) x0 x2 = p
  generalize k0_pay3 (F := Ideal) x0 x3 = q
  unfold delta
  pointwise

end Block

variable (t : Fin cfg0.N)

theorem out4 : out0_4 (iblk m c 0 t) (iblk m c 1 t) (iblk m c 2 t) (iblk m c 3 t)
    = k0_pay1 (F := Ideal) (bG m c t) := by
  frame_out
  rfl

theorem out5 : out0_5 (iblk m c 0 t) (iblk m c 1 t) (iblk m c 2 t) (iblk m c 3 t)
    = k0_pay4 (F := Ideal) (bG m c t) (bM m c t) (bV m c t) (bW m c t) := by
  frame_out
  rfl

theorem out6 : out0_6 (iblk m c 0 t) (iblk m c 1 t) (iblk m c 2 t) (iblk m c 3 t)
    = k0_pay2 (F := Ideal) (bG m c t) (bM m c t) := by
  frame_out
  rfl

theorem out7 : out0_7 (iblk m c 0 t) (iblk m c 1 t) (iblk m c 2 t) (iblk m c 3 t)
    = k0_pay3 (F := Ideal) (bG m c t) (bV m c t) := by
  frame_out
  rfl

theorem bW_apply (r : Fin 2) (k : Fin 6144) (s : Fin 2) (hs : s.val = r.val) :
    bW m c t (ix2 r k) = aW m c (ix2 s k) := by
  unfold bW aW
  blk_ext [iblk, V, idx t]

theorem bM_apply (r : Fin 2) (k : Fin 6144) (s : Fin 2) (hs : s.val = r.val) :
    bM m c t (ix2 r k) = aM m c (ix2 s k) := by
  unfold bM aM
  blk_ext [iblk, V, idx t]

theorem bV_apply (r : Fin 2) (k : Fin 6144) (s : Fin 2) (hs : s.val = r.val) :
    bV m c t (ix2 r k) = aV m c (ix2 s k) := by
  unfold bV aV
  blk_ext [iblk, V, idx t]

theorem bG_apply (r : Fin 2) (k : Fin 6144) (s : Fin 2) (hs : s.val = r.val) :
    gB (bG m c t) r k = gAt m c s k := by
  have h : bG m c t (ix3 0 r k) = V m c main_v0 (ix3 0 s k) := by
    unfold bG
    blk_ext [iblk, idx t]
  unfold gB gAt
  rw [h]
  unfold aG
  entry_read
  pointwise

theorem final4 (c : Dev nD) : (dats m 0 c).arrAt 4 cfg0.N = resG m c := by
  refine (dats m 0 c).arrAt_eq_of_covers 4 (resG m c) (by decide +kernel) fun t hf y => ?_
  blk_simp
  rw [after0_4, out4 m c t]
  obtain ⟨r, k, rfl⟩ : ∃ r k, y = ix2 r k := ⟨y 0, y 1, eq_ix2 y⟩
  have ht : t.val < 1 := lt_of_lt_of_eq t.isLt N_0
  have hr : r.val < 2 := r.isLt
  refine (sum_ld (bG m c t) r k).trans ?_
  rw [bG_apply m c t r k r rfl]
  show resG m c (ix2 r k) = _
  refine congrArg (resG m c) ?_
  blk_ext [idx t]

theorem final5 (c : Dev nD) : (dats m 0 c).arrAt 5 cfg0.N = resD m c := by
  refine (dats m 0 c).arrAt_eq_of_covers 5 (resD m c) (by decide +kernel) fun t hf y => ?_
  blk_simp
  rw [after0_5, out5 m c t]
  obtain ⟨r, k, rfl⟩ : ∃ r k, y = ix2 r k := ⟨y 0, y 1, eq_ix2 y⟩
  have ht : t.val < 1 := lt_of_lt_of_eq t.isLt N_0
  have hr : r.val < 2 := r.isLt
  refine (blkD (bG m c t) (bW m c t) (bM m c t) (bV m c t) r k).trans ?_
  rw [bG_apply m c t r k r rfl, bW_apply m c t r k r rfl, bM_apply m c t r k r rfl, bV_apply m c t r k r rfl]
  show resD m c (ix2 r k) = _
  refine congrArg (resD m c) ?_
  blk_ext [idx t]

theorem final6 (c : Dev nD) : (dats m 0 c).arrAt 6 cfg0.N = resM m c := by
  refine (dats m 0 c).arrAt_eq_of_covers 6 (resM m c) (by decide +kernel) fun t hf y => ?_
  blk_simp
  rw [after0_6, out6 m c t]
  obtain ⟨r, k, rfl⟩ : ∃ r k, y = ix2 r k := ⟨y 0, y 1, eq_ix2 y⟩
  have ht : t.val < 1 := lt_of_lt_of_eq t.isLt N_0
  have hr : r.val < 2 := r.isLt
  refine (blkM (bG m c t) (bM m c t) r k).trans ?_
  rw [bG_apply m c t r k r rfl, bM_apply m c t r k r rfl]
  show resM m c (ix2 r k) = _
  refine congrArg (resM m c) ?_
  blk_ext [idx t]

theorem final7 (c : Dev nD) : (dats m 0 c).arrAt 7 cfg0.N = resV m c := by
  refine (dats m 0 c).arrAt_eq_of_covers 7 (resV m c) (by decide +kernel) fun t hf y => ?_
  blk_simp
  rw [after0_7, out7 m c t]
  obtain ⟨r, k, rfl⟩ : ∃ r k, y = ix2 r k := ⟨y 0, y 1, eq_ix2 y⟩
  have ht : t.val < 1 := lt_of_lt_of_eq t.isLt N_0
  have hr : r.val < 2 := r.isLt
  refine (blkV (bG m c t) (bV m c t) r k).trans ?_
  rw [bG_apply m c t r k r rfl, bV_apply m c t r k r rfl]
  show resV m c (ix2 r k) = _
  refine congrArg (resV m c) ?_
  blk_ext [idx t]

end Cert.Kernel14Ideal.Step

namespace Cert.Reference14Ideal.Step

open Cert.Reference14Ideal Cert.Reference14Ideal.Gen

variable (g w μ ν : FVec Ideal S2x6144 .f32)

/-- The gradient at a row and a column. -/
def gAt (s : Fin 2) (k : Fin 6144) : EReal := g (ix2 s k)

theorem m_apply (s : Fin 2) (k : Fin 6144) : (addf (F := Ideal) (mulf (broadcastInDim S2x6144 ![] bcast_S_S2x6144 (constant S_ .f32 0x3F666666#32)) μ) (mulf (broadcastInDim S2x6144 ![] bcast_S_S2x6144 (constant S_ .f32 0x3DCCCCCD#32)) g) : FVec Ideal S2x6144 .f32) (ix2 s k)
    = newM (gAt g s k) (μ (ix2 s k)) := by
  unfold gAt
  unfold newM
  pointwise

theorem v_apply (s : Fin 2) (k : Fin 6144) : (addf (F := Ideal) (mulf (broadcastInDim S2x6144 ![] bcast_S_S2x6144 (constant S_ .f32 0x3F7FBE77#32)) ν) (mulf (broadcastInDim S2x6144 ![] bcast_S_S2x6144 (constant S_ .f32 0x3A83126F#32)) (mulf g g)) : FVec Ideal S2x6144 .f32) (ix2 s k)
    = newV (gAt g s k) (ν (ix2 s k)) := by
  unfold gAt
  unfold newV
  pointwise

theorem d_apply (s : Fin 2) (k : Fin 6144) : (mulf (F := Ideal) (broadcastInDim S2x6144 ![] bcast_S_S2x6144 (constant S_ .f32 0xBA83126F#32)) (addf (Host.divf (Host.divf (addf (F := Ideal) (mulf (broadcastInDim S2x6144 ![] bcast_S_S2x6144 (constant S_ .f32 0x3F666666#32)) μ) (mulf (broadcastInDim S2x6144 ![] bcast_S_S2x6144 (constant S_ .f32 0x3DCCCCCD#32)) g)) (broadcastInDim S2x6144 ![] bcast_S_S2x6144 (constant S_ .f32 0x3F26BD02#32))) (addf (Host.sqrt (Host.divf (addf (F := Ideal) (mulf (broadcastInDim S2x6144 ![] bcast_S_S2x6144 (constant S_ .f32 0x3F7FBE77#32)) ν) (mulf (broadcastInDim S2x6144 ![] bcast_S_S2x6144 (constant S_ .f32 0x3A83126F#32)) (mulf g g))) (broadcastInDim S2x6144 ![] bcast_S_S2x6144 (constant S_ .f32 0x3C231ACC#32)))) (broadcastInDim S2x6144 ![] bcast_S_S2x6144 (constant S_ .f32 0x322BCC77#32)))) (mulf (broadcastInDim S2x6144 ![] bcast_S_S2x6144 (constant S_ .f32 0x3C23D70A#32)) w)) : FVec Ideal S2x6144 .f32) (ix2 s k)
    = delta (newM (gAt g s k) (μ (ix2 s k))) (newV (gAt g s k) (ν (ix2 s k))) (w (ix2 s k)) := by
  unfold gAt
  unfold delta newM newV
  pointwise

theorem frame : Cert.quiescent_Reference14Ideal (hReference14Ideal := Cert.Reference14Ideal.Gen.facts) := by
  intro m ρ _
  exact (θ_run Cert.Reference14Ideal.defs _ _).mono
    (fun r h => ⟨fun c => (h c).2.2.2.2, sem_eq_zero_of_no_sems (by decide) r.2⟩) (Cert.Reference14Ideal.Value.run m ρ)

theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => Cert.Kernel14Ideal.Step.resG m c, fun c => Cert.Kernel14Ideal.Step.resD m c, fun c => Cert.Kernel14Ideal.Step.resM m c, fun c => Cert.Kernel14Ideal.Step.resV m c, ?_, ?_⟩
  · refine (θ_run _ _ _).mono (fun r h c => ?_) (Cert.Kernel14Ideal.Value.run_blocks m g)
    obtain ⟨h0, h1, h2, h3, hk⟩ := h c
    exact ⟨h0.trans (Cert.Kernel14Ideal.Step.final4 m c), h1.trans (Cert.Kernel14Ideal.Step.final5 m c), h2.trans (Cert.Kernel14Ideal.Step.final6 m c), h3.trans (Cert.Kernel14Ideal.Step.final7 m c), hk⟩
  · refine (θ_run _ _ _).mono (fun r h c => ?_) (Cert.Reference14Ideal.Value.run m' g')
    obtain ⟨h0, h1, h2, h3, hk⟩ := h c
    obtain ⟨a0, a1, a2, a3⟩ := hagree c
    refine ⟨h0.trans ?_, h1.trans ?_, h2.trans ?_, h3.trans ?_, hk⟩
    · rw [a0]
      funext i
      obtain ⟨s, k, rfl⟩ : ∃ s k, i = ix2 s k := ⟨i 0, i 1, eq_ix2 i⟩
      exact rfl
    · rw [a0, a1, a2, a3]
      funext i
      obtain ⟨s, k, rfl⟩ : ∃ s k, i = ix2 s k := ⟨i 0, i 1, eq_ix2 i⟩
      exact d_apply _ _ _ _ s k
    · rw [a0, a2]
      funext i
      obtain ⟨s, k, rfl⟩ : ∃ s k, i = ix2 s k := ⟨i 0, i 1, eq_ix2 i⟩
      exact m_apply _ _ s k
    · rw [a0, a3]
      funext i
      obtain ⟨s, k, rfl⟩ : ∃ s k, i = ix2 s k := ⟨i 0, i 1, eq_ix2 i⟩
      exact v_apply _ _ s k

end Cert.Reference14Ideal.Step
-- ==== Proof.Adam15.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Adam
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The optimiser step of AdamW, program 15: the feed-forward's first weight, transposed. The gradient is the sum of the four parts; point `t` of the grid is a tile of 352 rows. -/

set_option maxRecDepth 16384

noncomputable section

open Idealize.ShloMosaic Idealize.ShloMosaic.TcCoe Idealize.SL.Sem
open Cert.Adam

namespace Cert.Kernel15Ideal.Step

open Cert.Kernel15Ideal Cert.Kernel15Ideal.Gen

variable (m : (ℓ : Loc nD τ sig) → Buf (Elt Ideal) ℓ) (c : Dev nD)

/-- The arguments as arrays: the gradient or its parts, the weight, the two moments. -/
def aG : FVec Ideal S4x704x1024 .bf16 := m ((c : Thread nD τ).loc main_arg0)
def aW : FVec Ideal S1024x704 .f32 := m ((c : Thread nD τ).loc main_arg1)
def aM : FVec Ideal S1024x704 .f32 := m ((c : Thread nD τ).loc main_arg2)
def aV : FVec Ideal S1024x704 .f32 := m ((c : Thread nD τ).loc main_arg3)

/-- The blocks of the operands at a point. -/
def bG (t : Fin cfg0.N) : FVec Ideal S4x352x1024 .bf16 := iblk m c 0 t
def bW (t : Fin cfg0.N) : FVec Ideal S352x1024 .f32 := iblk m c 1 t
def bM (t : Fin cfg0.N) : FVec Ideal S352x1024 .f32 := iblk m c 2 t
def bV (t : Fin cfg0.N) : FVec Ideal S352x1024 .f32 := iblk m c 3 t

theorem idx : ∀ t : Fin cfg0.N,
    win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient, the moments and the weight's change at a row and a column. -/
def gAt (s : Fin 704) (k : Fin 1024) : EReal := aG m c (ix3 0 s k) + aG m c (ix3 1 s k) + aG m c (ix3 2 s k) + aG m c (ix3 3 s k)
def mAt (s : Fin 704) (k : Fin 1024) : EReal := newM (gAt m c s k) (aM m c (ix2 k s))
def vAt (s : Fin 704) (k : Fin 1024) : EReal := newV (gAt m c s k) (aV m c (ix2 k s))
def dAt (s : Fin 704) (k : Fin 1024) : EReal := delta (mAt m c s k) (vAt m c s k) (aW m c (ix2 k s))

/-- The result arrays. -/
def resG : FVec Ideal S704x1024 .f32 := fun i => gAt m c (i 0) (i 1)
def resD : FVec Ideal S704x1024 .f32 := fun i => dAt m c (i 0) (i 1)
def resM : FVec Ideal S704x1024 .f32 := fun i => mAt m c (i 0) (i 1)
def resV : FVec Ideal S704x1024 .f32 := fun i => vAt m c (i 0) (i 1)

/-- The parts, one at a time. -/
def cut0 (x : FVec Ideal S4x352x1024 .bf16) : FVec Ideal S1x352x1024 .bf16 := fun i => x (r0_0.idx i)
def cut1 (x : FVec Ideal S4x352x1024 .bf16) : FVec Ideal S1x352x1024 .bf16 := fun i => x (r0_1.idx i)
def cut2 (x : FVec Ideal S4x352x1024 .bf16) : FVec Ideal S1x352x1024 .bf16 := fun i => x (r0_2.idx i)
def cut3 (x : FVec Ideal S4x352x1024 .bf16) : FVec Ideal S1x352x1024 .bf16 := fun i => x (r0_3.idx i)

/-- The gradient in a block of the parts. -/
def gB (x : FVec Ideal S4x352x1024 .bf16) (r : Fin 352) (k : Fin 1024) : EReal := x (ix3 0 r k) + x (ix3 1 r k) + x (ix3 2 r k) + x (ix3 3 r k)

section Block

variable (x0 : FVec Ideal S4x352x1024 .bf16) (x1 x2 x3 : FVec Ideal S352x1024 .f32) (r : Fin 352) (k : Fin 1024)

theorem paySum (p0 p1 p2 p3 : FVec Ideal S1x352x1024 .bf16) :
    k0_pay2 (F := Ideal) p0 p1 p2 p3 (ix2 r k) = p0 (ix3 0 r k) + p1 (ix3 0 r k) + p2 (ix3 0 r k) + p3 (ix3 0 r k) := by
  pointwise [k0_pay2]

theorem sum_ld : k0_pay2 (F := Ideal) (cut0 x0) (cut1 x0) (cut2 x0) (cut3 x0) (ix2 r k) = gB x0 r k := by
  refine (paySum r k _ _ _ _).trans ?_
  unfold gB
  have e0 : cut0 x0 (ix3 0 r k) = x0 (ix3 0 r k) := by
    refine congrArg x0 (funext fun a => Fin.ext ?_)
    match a with
    | ⟨0, _⟩ => show 0 + 1 * 0 = 0; rfl
    | ⟨1, _⟩ => show 0 + 1 * r.val = r.val; omega
    | ⟨2, _⟩ => show 0 + 1 * k.val = k.val; omega
  have e1 : cut1 x0 (ix3 0 r k) = x0 (ix3 1 r k) := by
    refine congrArg x0 (funext fun a => Fin.ext ?_)
    match a with
    | ⟨0, _⟩ => show 1 + 1 * 0 = 1; rfl
    | ⟨1, _⟩ => show 0 + 1 * r.val = r.val; omega
    | ⟨2, _⟩ => show 0 + 1 * k.val = k.val; omega
  have e2 : cut2 x0 (ix3 0 r k) = x0 (ix3 2 r k) := by
    refine congrArg x0 (funext fun a => Fin.ext ?_)
    match a with
    | ⟨0, _⟩ => show 2 + 1 * 0 = 2; rfl
    | ⟨1, _⟩ => show 0 + 1 * r.val = r.val; omega
    | ⟨2, _⟩ => show 0 + 1 * k.val = k.val; omega
  have e3 : cut3 x0 (ix3 0 r k) = x0 (ix3 3 r k) := by
    refine congrArg x0 (funext fun a => Fin.ext ?_)
    match a with
    | ⟨0, _⟩ => show 3 + 1 * 0 = 3; rfl
    | ⟨1, _⟩ => show 0 + 1 * r.val = r.val; omega
    | ⟨2, _⟩ => show 0 + 1 * k.val = k.val; omega
  rw [e0, e1, e2, e3]

theorem blkM : k0_pay3 (F := Ideal) (cut0 x0) (cut1 x0) (cut2 x0) (cut3 x0) x2 (ix2 r k)
    = newM (gB x0 r k) (x2 (ix2 r k)) := by
  rw [← sum_ld x0 r k]
  unfold k0_pay3
  generalize k0_pay2 (F := Ideal) (cut0 x0) (cut1 x0) (cut2 x0) (cut3 x0) = q
  unfold newM
  pointwise

theorem blkV : k0_pay4 (F := Ideal) (cut0 x0) (cut1 x0) (cut2 x0) (cut3 x0) x3 (ix2 r k)
    = newV (gB x0 r k) (x3 (ix2 r k)) := by
  rw [← sum_ld x0 r k]
  unfold k0_pay4
  generalize k0_pay2 (F := Ideal) (cut0 x0) (cut1 x0) (cut2 x0) (cut3 x0) = q
  unfold newV
  pointwise

theorem blkD : k0_pay1 (F := Ideal) (k0_pay3 (cut0 x0) (cut1 x0) (cut2 x0) (cut3 x0) x2) (k0_pay4 (cut0 x0) (cut1 x0) (cut2 x0) (cut3 x0) x3) x1 (ix2 r k)
    = delta (newM (gB x0 r k) (x2 (ix2 r k))) (newV (gB x0 r k) (x3 (ix2 r k))) (x1 (ix2 r k)) := by
  have hm := blkM x0 x2 r k
  have hv := blkV x0 x3 r k
  rw [← hm, ← hv]
  unfold k0_pay1
  generalize k0_pay3 (F := Ideal) (cut0 x0) (cut1 x0) (cut2 x0) (cut3 x0) x2 = p
  generalize k0_pay4 (F := Ideal) (cut0 x0) (cut1 x0) (cut2 x0) (cut3 x0) x3 = q
  unfold delta
  pointwise

end Block

variable (t : Fin cfg0.N)

theorem out4 : out0_4 (iblk m c 0 t) (iblk m c 1 t) (iblk m c 2 t) (iblk m c 3 t)
    = k0_pay2 (F := Ideal) (cut0 (bG m c t)) (cut1 (bG m c t)) (cut2 (bG m c t)) (cut3 (bG m c t)) := by
  frame_out
  rfl

theorem out5 : out0_5 (iblk m c 0 t) (iblk m c 1 t) (iblk m c 2 t) (iblk m c 3 t)
    = k0_pay1 (F := Ideal) (k0_pay3 (cut0 (bG m c t)) (cut1 (bG m c t)) (cut2 (bG m c t)) (cut3 (bG m c t)) (bM m c t)) (k0_pay4 (cut0 (bG m c t)) (cut1 (bG m c t)) (cut2 (bG m c t)) (cut3 (bG m c t)) (bV m c t)) (bW m c t) := by
  frame_out
  unfold k0_pay5
  simp (disch := decide) only [View.ld_unit_lit']
  rfl

theorem out6 : out0_6 (iblk m c 0 t) (iblk m c 1 t) (iblk m c 2 t) (iblk m c 3 t)
    = k0_pay3 (F := Ideal) (cut0 (bG m c t)) (cut1 (bG m c t)) (cut2 (bG m c t)) (cut3 (bG m c t)) (bM m c t) := by
  frame_out
  rfl

theorem out7 : out0_7 (iblk m c 0 t) (iblk m c 1 t) (iblk m c 2 t) (iblk m c 3 t)
    = k0_pay4 (F := Ideal) (cut0 (bG m c t)) (cut1 (bG m c t)) (cut2 (bG m c t)) (cut3 (bG m c t)) (bV m c t) := by
  frame_out
  unfold k0_pay5
  simp (disch := decide) only [View.ld_unit_lit']
  rfl

theorem bW_apply (r : Fin 352) (k : Fin 1024) (s : Fin 704) (hs : s.val = t.val * 352 + r.val) :
    bW m c t (ix2 r k) = aW m c (ix2 k s) := by
  have h : bW m c t (ix2 r k) = V m c main_v0 (ix2 s k) := by
    unfold bW
    blk_ext [iblk, idx t]
  rw [h]
  unfold aW
  entry_read
  pointwise

theorem bM_apply (r : Fin 352) (k : Fin 1024) (s : Fin 704) (hs : s.val = t.val * 352 + r.val) :
    bM m c t (ix2 r k) = aM m c (ix2 k s) := by
  have h : bM m c t (ix2 r k) = V m c main_v1 (ix2 s k) := by
    unfold bM
    blk_ext [iblk, idx t]
  rw [h]
  unfold aM
  entry_read
  pointwise

theorem bV_apply (r : Fin 352) (k : Fin 1024) (s : Fin 704) (hs : s.val = t.val * 352 + r.val) :
    bV m c t (ix2 r k) = aV m c (ix2 k s) := by
  have h : bV m c t (ix2 r k) = V m c main_v2 (ix2 s k) := by
    unfold bV
    blk_ext [iblk, idx t]
  rw [h]
  unfold aV
  entry_read
  pointwise

theorem bG_entry (z : Fin 4) (r : Fin 352) (k : Fin 1024) (s : Fin 704) (hs : s.val = t.val * 352 + r.val) :
    bG m c t (ix3 z r k) = aG m c (ix3 z s k) := by
  unfold bG aG
  blk_ext [iblk, V, idx t]

theorem bG_apply (r : Fin 352) (k : Fin 1024) (s : Fin 704) (hs : s.val = t.val * 352 + r.val) :
    gB (bG m c t) r k = gAt m c s k := by
  unfold gB gAt
  rw [bG_entry m c t 0 r k s hs, bG_entry m c t 1 r k s hs, bG_entry m c t 2 r k s hs, bG_entry m c t 3 r k s hs]

theorem final4 (c : Dev nD) : (dats m 0 c).arrAt 4 cfg0.N = resG m c := by
  refine (dats m 0 c).arrAt_eq_of_covers 4 (resG m c) (by decide +kernel) fun t hf y => ?_
  blk_simp
  rw [after0_4, out4 m c t]
  obtain ⟨r, k, rfl⟩ : ∃ r k, y = ix2 r k := ⟨y 0, y 1, eq_ix2 y⟩
  have ht : t.val < 2 := lt_of_lt_of_eq t.isLt N_0
  have hr : r.val < 352 := r.isLt
  refine (sum_ld (bG m c t) r k).trans ?_
  rw [bG_apply m c t r k ⟨t.val * 352 + r.val, by omega⟩ rfl]
  show resG m c (ix2 ⟨t.val * 352 + r.val, by omega⟩ k) = _
  refine congrArg (resG m c) ?_
  blk_ext [idx t]

theorem final5 (c : Dev nD) : (dats m 0 c).arrAt 5 cfg0.N = resD m c := by
  refine (dats m 0 c).arrAt_eq_of_covers 5 (resD m c) (by decide +kernel) fun t hf y => ?_
  blk_simp
  rw [after0_5, out5 m c t]
  obtain ⟨r, k, rfl⟩ : ∃ r k, y = ix2 r k := ⟨y 0, y 1, eq_ix2 y⟩
  have ht : t.val < 2 := lt_of_lt_of_eq t.isLt N_0
  have hr : r.val < 352 := r.isLt
  refine (blkD (bG m c t) (bW m c t) (bM m c t) (bV m c t) r k).trans ?_
  rw [bG_apply m c t r k ⟨t.val * 352 + r.val, by omega⟩ rfl, bW_apply m c t r k ⟨t.val * 352 + r.val, by omega⟩ rfl, bM_apply m c t r k ⟨t.val * 352 + r.val, by omega⟩ rfl, bV_apply m c t r k ⟨t.val * 352 + r.val, by omega⟩ rfl]
  show resD m c (ix2 ⟨t.val * 352 + r.val, by omega⟩ k) = _
  refine congrArg (resD m c) ?_
  blk_ext [idx t]

theorem final6 (c : Dev nD) : (dats m 0 c).arrAt 6 cfg0.N = resM m c := by
  refine (dats m 0 c).arrAt_eq_of_covers 6 (resM m c) (by decide +kernel) fun t hf y => ?_
  blk_simp
  rw [after0_6, out6 m c t]
  obtain ⟨r, k, rfl⟩ : ∃ r k, y = ix2 r k := ⟨y 0, y 1, eq_ix2 y⟩
  have ht : t.val < 2 := lt_of_lt_of_eq t.isLt N_0
  have hr : r.val < 352 := r.isLt
  refine (blkM (bG m c t) (bM m c t) r k).trans ?_
  rw [bG_apply m c t r k ⟨t.val * 352 + r.val, by omega⟩ rfl, bM_apply m c t r k ⟨t.val * 352 + r.val, by omega⟩ rfl]
  show resM m c (ix2 ⟨t.val * 352 + r.val, by omega⟩ k) = _
  refine congrArg (resM m c) ?_
  blk_ext [idx t]

theorem final7 (c : Dev nD) : (dats m 0 c).arrAt 7 cfg0.N = resV m c := by
  refine (dats m 0 c).arrAt_eq_of_covers 7 (resV m c) (by decide +kernel) fun t hf y => ?_
  blk_simp
  rw [after0_7, out7 m c t]
  obtain ⟨r, k, rfl⟩ : ∃ r k, y = ix2 r k := ⟨y 0, y 1, eq_ix2 y⟩
  have ht : t.val < 2 := lt_of_lt_of_eq t.isLt N_0
  have hr : r.val < 352 := r.isLt
  refine (blkV (bG m c t) (bV m c t) r k).trans ?_
  rw [bG_apply m c t r k ⟨t.val * 352 + r.val, by omega⟩ rfl, bV_apply m c t r k ⟨t.val * 352 + r.val, by omega⟩ rfl]
  show resV m c (ix2 ⟨t.val * 352 + r.val, by omega⟩ k) = _
  refine congrArg (resV m c) ?_
  blk_ext [idx t]

end Cert.Kernel15Ideal.Step

namespace Cert.Reference15Ideal.Step

open Cert.Reference15Ideal Cert.Reference15Ideal.Gen

variable (p : FVec Ideal S4x704x1024 .bf16) (w μ ν : FVec Ideal S1024x704 .f32)

/-- The gradient at a row and a column. -/
def gAt (s : Fin 704) (k : Fin 1024) : EReal := p (ix3 0 s k) + p (ix3 1 s k) + p (ix3 2 s k) + p (ix3 3 s k)

theorem red_apply (s : Fin 704) (k : Fin 1024) : (transpose S1024x704 [1, 0] (Host.reduceAdd (extf .f32 p bitsLt_bf16_f32) (constant S_ .f32 0x00000000#32) reducesTo_S4x704x1024_S704x1024_d0 h_S_) transposes_S704x1024_S1024x704_1_0) (ix2 k s) = gAt p s k := by
  have h : (Host.reduceAdd (extf .f32 p bitsLt_bf16_f32) (constant S_ .f32 0x00000000#32) reducesTo_S4x704x1024_S704x1024_d0 h_S_) (ix2 s k) = Ideal.ofBits .f32 0x00000000#32 + ∑ z : Fin 4, p (ix3 z s k) := by
    pointwise
  have h' : (Host.reduceAdd (extf .f32 p bitsLt_bf16_f32) (constant S_ .f32 0x00000000#32) reducesTo_S4x704x1024_S704x1024_d0 h_S_) (ix2 s k) = gAt p s k := by
    rw [h]
    unfold gAt
    rw [Fin.sum_univ_four, Ideal.ofBits_zero, zero_add]
  rw [← h']
  generalize (Host.reduceAdd (extf .f32 p bitsLt_bf16_f32) (constant S_ .f32 0x00000000#32) reducesTo_S4x704x1024_S704x1024_d0 h_S_) = q
  pointwise

theorem m_apply (s : Fin 704) (k : Fin 1024) : (transpose S704x1024 [1, 0] (addf (F := Ideal) (mulf (broadcastInDim S1024x704 ![] bcast_S_S1024x704 (constant S_ .f32 0x3F666666#32)) μ) (mulf (broadcastInDim S1024x704 ![] bcast_S_S1024x704 (constant S_ .f32 0x3DCCCCCD#32)) (transpose S1024x704 [1, 0] (Host.reduceAdd (extf .f32 p bitsLt_bf16_f32) (constant S_ .f32 0x00000000#32) reducesTo_S4x704x1024_S704x1024_d0 h_S_) transposes_S704x1024_S1024x704_1_0))) transposes_S1024x704_S704x1024_1_0 : FVec Ideal S704x1024 .f32) (ix2 s k)
    = newM (gAt p s k) (μ (ix2 k s)) := by
  rw [← red_apply p s k]
  generalize (transpose S1024x704 [1, 0] (Host.reduceAdd (extf .f32 p bitsLt_bf16_f32) (constant S_ .f32 0x00000000#32) reducesTo_S4x704x1024_S704x1024_d0 h_S_) transposes_S704x1024_S1024x704_1_0) = q
  unfold newM
  pointwise

theorem v_apply (s : Fin 704) (k : Fin 1024) : (transpose S704x1024 [1, 0] (addf (F := Ideal) (mulf (broadcastInDim S1024x704 ![] bcast_S_S1024x704 (constant S_ .f32 0x3F7FBE77#32)) ν) (mulf (broadcastInDim S1024x704 ![] bcast_S_S1024x704 (constant S_ .f32 0x3A83126F#32)) (mulf (transpose S1024x704 [1, 0] (Host.reduceAdd (extf .f32 p bitsLt_bf16_f32) (constant S_ .f32 0x00000000#32) reducesTo_S4x704x1024_S704x1024_d0 h_S_) transposes_S704x1024_S1024x704_1_0) (transpose S1024x704 [1, 0] (Host.reduceAdd (extf .f32 p bitsLt_bf16_f32) (constant S_ .f32 0x00000000#32) reducesTo_S4x704x1024_S704x1024_d0 h_S_) transposes_S704x1024_S1024x704_1_0)))) transposes_S1024x704_S704x1024_1_0 : FVec Ideal S704x1024 .f32) (ix2 s k)
    = newV (gAt p s k) (ν (ix2 k s)) := by
  rw [← red_apply p s k]
  generalize (transpose S1024x704 [1, 0] (Host.reduceAdd (extf .f32 p bitsLt_bf16_f32) (constant S_ .f32 0x00000000#32) reducesTo_S4x704x1024_S704x1024_d0 h_S_) transposes_S704x1024_S1024x704_1_0) = q
  unfold newV
  pointwise

theorem d_apply (s : Fin 704) (k : Fin 1024) : (transpose S704x1024 [1, 0] (mulf (F := Ideal) (broadcastInDim S1024x704 ![] bcast_S_S1024x704 (constant S_ .f32 0xBA83126F#32)) (addf (Host.divf (Host.divf (addf (F := Ideal) (mulf (broadcastInDim S1024x704 ![] bcast_S_S1024x704 (constant S_ .f32 0x3F666666#32)) μ) (mulf (broadcastInDim S1024x704 ![] bcast_S_S1024x704 (constant S_ .f32 0x3DCCCCCD#32)) (transpose S1024x704 [1, 0] (Host.reduceAdd (extf .f32 p bitsLt_bf16_f32) (constant S_ .f32 0x00000000#32) reducesTo_S4x704x1024_S704x1024_d0 h_S_) transposes_S704x1024_S1024x704_1_0))) (broadcastInDim S1024x704 ![] bcast_S_S1024x704 (constant S_ .f32 0x3F26BD02#32))) (addf (Host.sqrt (Host.divf (addf (F := Ideal) (mulf (broadcastInDim S1024x704 ![] bcast_S_S1024x704 (constant S_ .f32 0x3F7FBE77#32)) ν) (mulf (broadcastInDim S1024x704 ![] bcast_S_S1024x704 (constant S_ .f32 0x3A83126F#32)) (mulf (transpose S1024x704 [1, 0] (Host.reduceAdd (extf .f32 p bitsLt_bf16_f32) (constant S_ .f32 0x00000000#32) reducesTo_S4x704x1024_S704x1024_d0 h_S_) transposes_S704x1024_S1024x704_1_0) (transpose S1024x704 [1, 0] (Host.reduceAdd (extf .f32 p bitsLt_bf16_f32) (constant S_ .f32 0x00000000#32) reducesTo_S4x704x1024_S704x1024_d0 h_S_) transposes_S704x1024_S1024x704_1_0)))) (broadcastInDim S1024x704 ![] bcast_S_S1024x704 (constant S_ .f32 0x3C231ACC#32)))) (broadcastInDim S1024x704 ![] bcast_S_S1024x704 (constant S_ .f32 0x322BCC77#32)))) (mulf (broadcastInDim S1024x704 ![] bcast_S_S1024x704 (constant S_ .f32 0x3C23D70A#32)) w))) transposes_S1024x704_S704x1024_1_0 : FVec Ideal S704x1024 .f32) (ix2 s k)
    = delta (newM (gAt p s k) (μ (ix2 k s))) (newV (gAt p s k) (ν (ix2 k s))) (w (ix2 k s)) := by
  rw [← red_apply p s k]
  generalize (transpose S1024x704 [1, 0] (Host.reduceAdd (extf .f32 p bitsLt_bf16_f32) (constant S_ .f32 0x00000000#32) reducesTo_S4x704x1024_S704x1024_d0 h_S_) transposes_S704x1024_S1024x704_1_0) = q
  unfold delta newM newV
  pointwise

theorem g_apply (s : Fin 704) (k : Fin 1024) : (transpose S704x1024 [1, 0] ((transpose S1024x704 [1, 0] (Host.reduceAdd (extf .f32 p bitsLt_bf16_f32) (constant S_ .f32 0x00000000#32) reducesTo_S4x704x1024_S704x1024_d0 h_S_) transposes_S704x1024_S1024x704_1_0)) transposes_S1024x704_S704x1024_1_0 : FVec Ideal S704x1024 .f32) (ix2 s k) = gAt p s k := by
  rw [← red_apply p s k]
  generalize (transpose S1024x704 [1, 0] (Host.reduceAdd (extf .f32 p bitsLt_bf16_f32) (constant S_ .f32 0x00000000#32) reducesTo_S4x704x1024_S704x1024_d0 h_S_) transposes_S704x1024_S1024x704_1_0) = q
  pointwise

theorem frame : Cert.quiescent_Reference15Ideal (hReference15Ideal := Cert.Reference15Ideal.Gen.facts) := by
  intro m ρ _
  exact (θ_run Cert.Reference15Ideal.defs _ _).mono
    (fun r h => ⟨fun c => (h c).2.2.2.2, sem_eq_zero_of_no_sems (by decide) r.2⟩) (Cert.Reference15Ideal.Value.run m ρ)

theorem algebraic : Cert.algebraic_Kernel15Ideal_Reference15Ideal (hKernel15Ideal := Cert.Kernel15Ideal.Gen.facts)
    (hReference15Ideal := Cert.Reference15Ideal.Gen.facts) := by
  intro m g m' g' _ hagree
  refine ⟨fun c => Cert.Kernel15Ideal.Step.resG m c, fun c => Cert.Kernel15Ideal.Step.resD m c, fun c => Cert.Kernel15Ideal.Step.resM m c, fun c => Cert.Kernel15Ideal.Step.resV m c, ?_, ?_⟩
  · refine (θ_run _ _ _).mono (fun r h c => ?_) (Cert.Kernel15Ideal.Value.run_blocks m g)
    obtain ⟨h0, h1, h2, h3, hk⟩ := h c
    exact ⟨h0.trans (Cert.Kernel15Ideal.Step.final4 m c), h1.trans (Cert.Kernel15Ideal.Step.final5 m c), h2.trans (Cert.Kernel15Ideal.Step.final6 m c), h3.trans (Cert.Kernel15Ideal.Step.final7 m c), hk⟩
  · refine (θ_run _ _ _).mono (fun r h c => ?_) (Cert.Reference15Ideal.Value.run m' g')
    obtain ⟨h0, h1, h2, h3, hk⟩ := h c
    obtain ⟨a0, a1, a2, a3⟩ := hagree c
    refine ⟨h0.trans ?_, h1.trans ?_, h2.trans ?_, h3.trans ?_, hk⟩
    · rw [a0]
      funext i
      obtain ⟨s, k, rfl⟩ : ∃ s k, i = ix2 s k := ⟨i 0, i 1, eq_ix2 i⟩
      exact g_apply _ s k
    · rw [a0, a1, a2, a3]
      funext i
      obtain ⟨s, k, rfl⟩ : ∃ s k, i = ix2 s k := ⟨i 0, i 1, eq_ix2 i⟩
      exact d_apply _ _ _ _ s k
    · rw [a0, a2]
      funext i
      obtain ⟨s, k, rfl⟩ : ∃ s k, i = ix2 s k := ⟨i 0, i 1, eq_ix2 i⟩
      exact m_apply _ _ s k
    · rw [a0, a3]
      funext i
      obtain ⟨s, k, rfl⟩ : ∃ s k, i = ix2 s k := ⟨i 0, i 1, eq_ix2 i⟩
      exact v_apply _ _ s k

end Cert.Reference15Ideal.Step
-- ==== Proof.Adam16.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Adam
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The optimiser step of AdamW, program 16: the feed-forward's last weight. The gradient is the sum of the four parts, one block. -/

set_option maxRecDepth 16384

noncomputable section

open Idealize.ShloMosaic Idealize.ShloMosaic.TcCoe Idealize.SL.Sem
open Cert.Adam

namespace Cert.Kernel16Ideal.Step

open Cert.Kernel16Ideal Cert.Kernel16Ideal.Gen

variable (m : (ℓ : Loc nD τ sig) → Buf (Elt Ideal) ℓ) (c : Dev nD)

/-- The arguments as arrays: the gradient or its parts, the weight, the two moments. -/
def aG : FVec Ideal S4x352x1024 .bf16 := m ((c : Thread nD τ).loc main_arg0)
def aW : FVec Ideal S352x1024 .f32 := m ((c : Thread nD τ).loc main_arg1)
def aM : FVec Ideal S352x1024 .f32 := m ((c : Thread nD τ).loc main_arg2)
def aV : FVec Ideal S352x1024 .f32 := m ((c : Thread nD τ).loc main_arg3)

/-- The blocks of the operands at a point. -/
def bG (t : Fin cfg0.N) : FVec Ideal S4x352x1024 .bf16 := iblk m c 0 t
def bW (t : Fin cfg0.N) : FVec Ideal S352x1024 .f32 := iblk m c 1 t
def bM (t : Fin cfg0.N) : FVec Ideal S352x1024 .f32 := iblk m c 2 t
def bV (t : Fin cfg0.N) : FVec Ideal S352x1024 .f32 := iblk m c 3 t

theorem idx : ∀ t : Fin cfg0.N,
    win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The gradient, the moments and the weight's change at a row and a column. -/
def gAt (s : Fin 352) (k : Fin 1024) : EReal := aG m c (ix3 0 s k) + aG m c (ix3 1 s k) + aG m c (ix3 2 s k) + aG m c (ix3 3 s k)
def mAt (s : Fin 352) (k : Fin 1024) : EReal := newM (gAt m c s k) (aM m c (ix2 s k))
def vAt (s : Fin 352) (k : Fin 1024) : EReal := newV (gAt m c s k) (aV m c (ix2 s k))
def dAt (s : Fin 352) (k : Fin 1024) : EReal := delta (mAt m c s k) (vAt m c s k) (aW m c (ix2 s k))

/-- The result arrays. -/
def resG : FVec Ideal S352x1024 .f32 := fun i => gAt m c (i 0) (i 1)
def resD : FVec Ideal S352x1024 .f32 := fun i => dAt m c (i 0) (i 1)
def resM : FVec Ideal S352x1024 .f32 := fun i => mAt m c (i 0) (i 1)
def resV : FVec Ideal S352x1024 .f32 := fun i => vAt m c (i 0) (i 1)

/-- The parts, one at a time. -/
def cut0 (x : FVec Ideal S4x352x1024 .bf16) : FVec Ideal S1x352x1024 .bf16 := fun i => x (r0_0.idx i)
def cut1 (x : FVec Ideal S4x352x1024 .bf16) : FVec Ideal S1x352x1024 .bf16 := fun i => x (r0_1.idx i)
def cut2 (x : FVec Ideal S4x352x1024 .bf16) : FVec Ideal S1x352x1024 .bf16 := fun i => x (r0_2.idx i)
def cut3 (x : FVec Ideal S4x352x1024 .bf16) : FVec Ideal S1x352x1024 .bf16 := fun i => x (r0_3.idx i)

/-- The gradient in a block of the parts. -/
def gB (x : FVec Ideal S4x352x1024 .bf16) (r : Fin 352) (k : Fin 1024) : EReal := x (ix3 0 r k) + x (ix3 1 r k) + x (ix3 2 r k) + x (ix3 3 r k)

section Block

variable (x0 : FVec Ideal S4x352x1024 .bf16) (x1 x2 x3 : FVec Ideal S352x1024 .f32) (r : Fin 352) (k : Fin 1024)

theorem paySum (p0 p1 p2 p3 : FVec Ideal S1x352x1024 .bf16) :
    k0_pay2 (F := Ideal) p0 p1 p2 p3 (ix2 r k) = p0 (ix3 0 r k) + p1 (ix3 0 r k) + p2 (ix3 0 r k) + p3 (ix3 0 r k) := by
  pointwise [k0_pay2]

theorem sum_ld : k0_pay2 (F := Ideal) (cut0 x0) (cut1 x0) (cut2 x0) (cut3 x0) (ix2 r k) = gB x0 r k := by
  refine (paySum r k _ _ _ _).trans ?_
  unfold gB
  have e0 : cut0 x0 (ix3 0 r k) = x0 (ix3 0 r k) := by
    refine congrArg x0 (funext fun a => Fin.ext ?_)
    match a with
    | ⟨0, _⟩ => show 0 + 1 * 0 = 0; rfl
    | ⟨1, _⟩ => show 0 + 1 * r.val = r.val; omega
    | ⟨2, _⟩ => show 0 + 1 * k.val = k.val; omega
  have e1 : cut1 x0 (ix3 0 r k) = x0 (ix3 1 r k) := by
    refine congrArg x0 (funext fun a => Fin.ext ?_)
    match a with
    | ⟨0, _⟩ => show 1 + 1 * 0 = 1; rfl
    | ⟨1, _⟩ => show 0 + 1 * r.val = r.val; omega
    | ⟨2, _⟩ => show 0 + 1 * k.val = k.val; omega
  have e2 : cut2 x0 (ix3 0 r k) = x0 (ix3 2 r k) := by
    refine congrArg x0 (funext fun a => Fin.ext ?_)
    match a with
    | ⟨0, _⟩ => show 2 + 1 * 0 = 2; rfl
    | ⟨1, _⟩ => show 0 + 1 * r.val = r.val; omega
    | ⟨2, _⟩ => show 0 + 1 * k.val = k.val; omega
  have e3 : cut3 x0 (ix3 0 r k) = x0 (ix3 3 r k) := by
    refine congrArg x0 (funext fun a => Fin.ext ?_)
    match a with
    | ⟨0, _⟩ => show 3 + 1 * 0 = 3; rfl
    | ⟨1, _⟩ => show 0 + 1 * r.val = r.val; omega
    | ⟨2, _⟩ => show 0 + 1 * k.val = k.val; omega
  rw [e0, e1, e2, e3]

theorem blkM : k0_pay3 (F := Ideal) (cut0 x0) (cut1 x0) (cut2 x0) (cut3 x0) x2 (ix2 r k)
    = newM (gB x0 r k) (x2 (ix2 r k)) := by
  rw [← sum_ld x0 r k]
  unfold k0_pay3
  generalize k0_pay2 (F := Ideal) (cut0 x0) (cut1 x0) (cut2 x0) (cut3 x0) = q
  unfold newM
  pointwise

theorem blkV : k0_pay4 (F := Ideal) (cut0 x0) (cut1 x0) (cut2 x0) (cut3 x0) x3 (ix2 r k)
    = newV (gB x0 r k) (x3 (ix2 r k)) := by
  rw [← sum_ld x0 r k]
  unfold k0_pay4
  generalize k0_pay2 (F := Ideal) (cut0 x0) (cut1 x0) (cut2 x0) (cut3 x0) = q
  unfold newV
  pointwise

theorem blkD : k0_pay1 (F := Ideal) (k0_pay3 (cut0 x0) (cut1 x0) (cut2 x0) (cut3 x0) x2) (k0_pay4 (cut0 x0) (cut1 x0) (cut2 x0) (cut3 x0) x3) x1 (ix2 r k)
    = delta (newM (gB x0 r k) (x2 (ix2 r k))) (newV (gB x0 r k) (x3 (ix2 r k))) (x1 (ix2 r k)) := by
  have hm := blkM x0 x2 r k
  have hv := blkV x0 x3 r k
  rw [← hm, ← hv]
  unfold k0_pay1
  generalize k0_pay3 (F := Ideal) (cut0 x0) (cut1 x0) (cut2 x0) (cut3 x0) x2 = p
  generalize k0_pay4 (F := Ideal) (cut0 x0) (cut1 x0) (cut2 x0) (cut3 x0) x3 = q
  unfold delta
  pointwise

end Block

variable (t : Fin cfg0.N)

theorem out4 : out0_4 (iblk m c 0 t) (iblk m c 1 t) (iblk m c 2 t) (iblk m c 3 t)
    = k0_pay2 (F := Ideal) (cut0 (bG m c t)) (cut1 (bG m c t)) (cut2 (bG m c t)) (cut3 (bG m c t)) := by
  frame_out
  rfl

theorem out5 : out0_5 (iblk m c 0 t) (iblk m c 1 t) (iblk m c 2 t) (iblk m c 3 t)
    = k0_pay1 (F := Ideal) (k0_pay3 (cut0 (bG m c t)) (cut1 (bG m c t)) (cut2 (bG m c t)) (cut3 (bG m c t)) (bM m c t)) (k0_pay4 (cut0 (bG m c t)) (cut1 (bG m c t)) (cut2 (bG m c t)) (cut3 (bG m c t)) (bV m c t)) (bW m c t) := by
  frame_out
  unfold k0_pay5
  simp (disch := decide) only [View.ld_unit_lit']
  rfl

theorem out6 : out0_6 (iblk m c 0 t) (iblk m c 1 t) (iblk m c 2 t) (iblk m c 3 t)
    = k0_pay3 (F := Ideal) (cut0 (bG m c t)) (cut1 (bG m c t)) (cut2 (bG m c t)) (cut3 (bG m c t)) (bM m c t) := by
  frame_out
  rfl

theorem out7 : out0_7 (iblk m c 0 t) (iblk m c 1 t) (iblk m c 2 t) (iblk m c 3 t)
    = k0_pay4 (F := Ideal) (cut0 (bG m c t)) (cut1 (bG m c t)) (cut2 (bG m c t)) (cut3 (bG m c t)) (bV m c t) := by
  frame_out
  unfold k0_pay5
  simp (disch := decide) only [View.ld_unit_lit']
  rfl

theorem bW_apply (r : Fin 352) (k : Fin 1024) (s : Fin 352) (hs : s.val = r.val) :
    bW m c t (ix2 r k) = aW m c (ix2 s k) := by
  unfold bW aW
  blk_ext [iblk, V, idx t]

theorem bM_apply (r : Fin 352) (k : Fin 1024) (s : Fin 352) (hs : s.val = r.val) :
    bM m c t (ix2 r k) = aM m c (ix2 s k) := by
  unfold bM aM
  blk_ext [iblk, V, idx t]

theorem bV_apply (r : Fin 352) (k : Fin 1024) (s : Fin 352) (hs : s.val = r.val) :
    bV m c t (ix2 r k) = aV m c (ix2 s k) := by
  unfold bV aV
  blk_ext [iblk, V, idx t]

theorem bG_entry (z : Fin 4) (r : Fin 352) (k : Fin 1024) (s : Fin 352) (hs : s.val = r.val) :
    bG m c t (ix3 z r k) = aG m c (ix3 z s k) := by
  unfold bG aG
  blk_ext [iblk, V, idx t]

theorem bG_apply (r : Fin 352) (k : Fin 1024) (s : Fin 352) (hs : s.val = r.val) :
    gB (bG m c t) r k = gAt m c s k := by
  unfold gB gAt
  rw [bG_entry m c t 0 r k s hs, bG_entry m c t 1 r k s hs, bG_entry m c t 2 r k s hs, bG_entry m c t 3 r k s hs]

theorem final4 (c : Dev nD) : (dats m 0 c).arrAt 4 cfg0.N = resG m c := by
  refine (dats m 0 c).arrAt_eq_of_covers 4 (resG m c) (by decide +kernel) fun t hf y => ?_
  blk_simp
  rw [after0_4, out4 m c t]
  obtain ⟨r, k, rfl⟩ : ∃ r k, y = ix2 r k := ⟨y 0, y 1, eq_ix2 y⟩
  have ht : t.val < 1 := lt_of_lt_of_eq t.isLt N_0
  have hr : r.val < 352 := r.isLt
  refine (sum_ld (bG m c t) r k).trans ?_
  rw [bG_apply m c t r k r rfl]
  show resG m c (ix2 r k) = _
  refine congrArg (resG m c) ?_
  blk_ext [idx t]

theorem final5 (c : Dev nD) : (dats m 0 c).arrAt 5 cfg0.N = resD m c := by
  refine (dats m 0 c).arrAt_eq_of_covers 5 (resD m c) (by decide +kernel) fun t hf y => ?_
  blk_simp
  rw [after0_5, out5 m c t]
  obtain ⟨r, k, rfl⟩ : ∃ r k, y = ix2 r k := ⟨y 0, y 1, eq_ix2 y⟩
  have ht : t.val < 1 := lt_of_lt_of_eq t.isLt N_0
  have hr : r.val < 352 := r.isLt
  refine (blkD (bG m c t) (bW m c t) (bM m c t) (bV m c t) r k).trans ?_
  rw [bG_apply m c t r k r rfl, bW_apply m c t r k r rfl, bM_apply m c t r k r rfl, bV_apply m c t r k r rfl]
  show resD m c (ix2 r k) = _
  refine congrArg (resD m c) ?_
  blk_ext [idx t]

theorem final6 (c : Dev nD) : (dats m 0 c).arrAt 6 cfg0.N = resM m c := by
  refine (dats m 0 c).arrAt_eq_of_covers 6 (resM m c) (by decide +kernel) fun t hf y => ?_
  blk_simp
  rw [after0_6, out6 m c t]
  obtain ⟨r, k, rfl⟩ : ∃ r k, y = ix2 r k := ⟨y 0, y 1, eq_ix2 y⟩
  have ht : t.val < 1 := lt_of_lt_of_eq t.isLt N_0
  have hr : r.val < 352 := r.isLt
  refine (blkM (bG m c t) (bM m c t) r k).trans ?_
  rw [bG_apply m c t r k r rfl, bM_apply m c t r k r rfl]
  show resM m c (ix2 r k) = _
  refine congrArg (resM m c) ?_
  blk_ext [idx t]

theorem final7 (c : Dev nD) : (dats m 0 c).arrAt 7 cfg0.N = resV m c := by
  refine (dats m 0 c).arrAt_eq_of_covers 7 (resV m c) (by decide +kernel) fun t hf y => ?_
  blk_simp
  rw [after0_7, out7 m c t]
  obtain ⟨r, k, rfl⟩ : ∃ r k, y = ix2 r k := ⟨y 0, y 1, eq_ix2 y⟩
  have ht : t.val < 1 := lt_of_lt_of_eq t.isLt N_0
  have hr : r.val < 352 := r.isLt
  refine (blkV (bG m c t) (bV m c t) r k).trans ?_
  rw [bG_apply m c t r k r rfl, bV_apply m c t r k r rfl]
  show resV m c (ix2 r k) = _
  refine congrArg (resV m c) ?_
  blk_ext [idx t]

end Cert.Kernel16Ideal.Step

namespace Cert.Reference16Ideal.Step

open Cert.Reference16Ideal Cert.Reference16Ideal.Gen

variable (p : FVec Ideal S4x352x1024 .bf16) (w μ ν : FVec Ideal S352x1024 .f32)

/-- The gradient at a row and a column. -/
def gAt (s : Fin 352) (k : Fin 1024) : EReal := p (ix3 0 s k) + p (ix3 1 s k) + p (ix3 2 s k) + p (ix3 3 s k)

theorem red_apply (s : Fin 352) (k : Fin 1024) : (Host.reduceAdd (extf .f32 p bitsLt_bf16_f32) (constant S_ .f32 0x00000000#32) reducesTo_S4x352x1024_S352x1024_d0 h_S_) (ix2 s k) = gAt p s k := by
  have h : (Host.reduceAdd (extf .f32 p bitsLt_bf16_f32) (constant S_ .f32 0x00000000#32) reducesTo_S4x352x1024_S352x1024_d0 h_S_) (ix2 s k) = Ideal.ofBits .f32 0x00000000#32 + ∑ z : Fin 4, p (ix3 z s k) := by
    pointwise
  have h' : (Host.reduceAdd (extf .f32 p bitsLt_bf16_f32) (constant S_ .f32 0x00000000#32) reducesTo_S4x352x1024_S352x1024_d0 h_S_) (ix2 s k) = gAt p s k := by
    rw [h]
    unfold gAt
    rw [Fin.sum_univ_four, Ideal.ofBits_zero, zero_add]
  exact h'

theorem m_apply (s : Fin 352) (k : Fin 1024) : (addf (F := Ideal) (mulf (broadcastInDim S352x1024 ![] bcast_S_S352x1024 (constant S_ .f32 0x3F666666#32)) μ) (mulf (broadcastInDim S352x1024 ![] bcast_S_S352x1024 (constant S_ .f32 0x3DCCCCCD#32)) (Host.reduceAdd (extf .f32 p bitsLt_bf16_f32) (constant S_ .f32 0x00000000#32) reducesTo_S4x352x1024_S352x1024_d0 h_S_)) : FVec Ideal S352x1024 .f32) (ix2 s k)
    = newM (gAt p s k) (μ (ix2 s k)) := by
  rw [← red_apply p s k]
  generalize (Host.reduceAdd (extf .f32 p bitsLt_bf16_f32) (constant S_ .f32 0x00000000#32) reducesTo_S4x352x1024_S352x1024_d0 h_S_) = q
  unfold newM
  pointwise

theorem v_apply (s : Fin 352) (k : Fin 1024) : (addf (F := Ideal) (mulf (broadcastInDim S352x1024 ![] bcast_S_S352x1024 (constant S_ .f32 0x3F7FBE77#32)) ν) (mulf (broadcastInDim S352x1024 ![] bcast_S_S352x1024 (constant S_ .f32 0x3A83126F#32)) (mulf (Host.reduceAdd (extf .f32 p bitsLt_bf16_f32) (constant S_ .f32 0x00000000#32) reducesTo_S4x352x1024_S352x1024_d0 h_S_) (Host.reduceAdd (extf .f32 p bitsLt_bf16_f32) (constant S_ .f32 0x00000000#32) reducesTo_S4x352x1024_S352x1024_d0 h_S_))) : FVec Ideal S352x1024 .f32) (ix2 s k)
    = newV (gAt p s k) (ν (ix2 s k)) := by
  rw [← red_apply p s k]
  generalize (Host.reduceAdd (extf .f32 p bitsLt_bf16_f32) (constant S_ .f32 0x00000000#32) reducesTo_S4x352x1024_S352x1024_d0 h_S_) = q
  unfold newV
  pointwise

theorem d_apply (s : Fin 352) (k : Fin 1024) : (mulf (F := Ideal) (broadcastInDim S352x1024 ![] bcast_S_S352x1024 (constant S_ .f32 0xBA83126F#32)) (addf (Host.divf (Host.divf (addf (F := Ideal) (mulf (broadcastInDim S352x1024 ![] bcast_S_S352x1024 (constant S_ .f32 0x3F666666#32)) μ) (mulf (broadcastInDim S352x1024 ![] bcast_S_S352x1024 (constant S_ .f32 0x3DCCCCCD#32)) (Host.reduceAdd (extf .f32 p bitsLt_bf16_f32) (constant S_ .f32 0x00000000#32) reducesTo_S4x352x1024_S352x1024_d0 h_S_))) (broadcastInDim S352x1024 ![] bcast_S_S352x1024 (constant S_ .f32 0x3F26BD02#32))) (addf (Host.sqrt (Host.divf (addf (F := Ideal) (mulf (broadcastInDim S352x1024 ![] bcast_S_S352x1024 (constant S_ .f32 0x3F7FBE77#32)) ν) (mulf (broadcastInDim S352x1024 ![] bcast_S_S352x1024 (constant S_ .f32 0x3A83126F#32)) (mulf (Host.reduceAdd (extf .f32 p bitsLt_bf16_f32) (constant S_ .f32 0x00000000#32) reducesTo_S4x352x1024_S352x1024_d0 h_S_) (Host.reduceAdd (extf .f32 p bitsLt_bf16_f32) (constant S_ .f32 0x00000000#32) reducesTo_S4x352x1024_S352x1024_d0 h_S_)))) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) w)) : FVec Ideal S352x1024 .f32) (ix2 s k)
    = delta (newM (gAt p s k) (μ (ix2 s k))) (newV (gAt p s k) (ν (ix2 s k))) (w (ix2 s k)) := by
  rw [← red_apply p s k]
  generalize (Host.reduceAdd (extf .f32 p bitsLt_bf16_f32) (constant S_ .f32 0x00000000#32) reducesTo_S4x352x1024_S352x1024_d0 h_S_) = q
  unfold delta newM newV
  pointwise

theorem frame : Cert.quiescent_Reference16Ideal (hReference16Ideal := Cert.Reference16Ideal.Gen.facts) := by
  intro m ρ _
  exact (θ_run Cert.Reference16Ideal.defs _ _).mono
    (fun r h => ⟨fun c => (h c).2.2.2.2, sem_eq_zero_of_no_sems (by decide) r.2⟩) (Cert.Reference16Ideal.Value.run m ρ)

theorem algebraic : Cert.algebraic_Kernel16Ideal_Reference16Ideal (hKernel16Ideal := Cert.Kernel16Ideal.Gen.facts)
    (hReference16Ideal := Cert.Reference16Ideal.Gen.facts) := by
  intro m g m' g' _ hagree
  refine ⟨fun c => Cert.Kernel16Ideal.Step.resG m c, fun c => Cert.Kernel16Ideal.Step.resD m c, fun c => Cert.Kernel16Ideal.Step.resM m c, fun c => Cert.Kernel16Ideal.Step.resV m c, ?_, ?_⟩
  · refine (θ_run _ _ _).mono (fun r h c => ?_) (Cert.Kernel16Ideal.Value.run_blocks m g)
    obtain ⟨h0, h1, h2, h3, hk⟩ := h c
    exact ⟨h0.trans (Cert.Kernel16Ideal.Step.final4 m c), h1.trans (Cert.Kernel16Ideal.Step.final5 m c), h2.trans (Cert.Kernel16Ideal.Step.final6 m c), h3.trans (Cert.Kernel16Ideal.Step.final7 m c), hk⟩
  · refine (θ_run _ _ _).mono (fun r h c => ?_) (Cert.Reference16Ideal.Value.run m' g')
    obtain ⟨h0, h1, h2, h3, hk⟩ := h c
    obtain ⟨a0, a1, a2, a3⟩ := hagree c
    refine ⟨h0.trans ?_, h1.trans ?_, h2.trans ?_, h3.trans ?_, hk⟩
    · rw [a0]
      funext i
      obtain ⟨s, k, rfl⟩ : ∃ s k, i = ix2 s k := ⟨i 0, i 1, eq_ix2 i⟩
      exact red_apply _ s k
    · rw [a0, a1, a2, a3]
      funext i
      obtain ⟨s, k, rfl⟩ : ∃ s k, i = ix2 s k := ⟨i 0, i 1, eq_ix2 i⟩
      exact d_apply _ _ _ _ s k
    · rw [a0, a2]
      funext i
      obtain ⟨s, k, rfl⟩ : ∃ s k, i = ix2 s k := ⟨i 0, i 1, eq_ix2 i⟩
      exact m_apply _ _ s k
    · rw [a0, a3]
      funext i
      obtain ⟨s, k, rfl⟩ : ∃ s k, i = ix2 s k := ⟨i 0, i 1, eq_ix2 i⟩
      exact v_apply _ _ s k

end Cert.Reference16Ideal.Step
-- ==== Proof.Adam17.lean ====
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Adam
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The optimiser step of AdamW, program 17: the remaining sharded weights, packed in rows. The gradient is the sum of the four parts, one block. -/

set_option maxRecDepth 16384

noncomputable section

open Idealize.ShloMosaic Idealize.ShloMosaic.TcCoe Idealize.SL.Sem
open Cert.Adam

namespace Cert.Kernel17Ideal.Step

open Cert.Kernel17Ideal Cert.Kernel17Ideal.Gen

variable (m : (ℓ : Loc nD τ sig) → Buf (Elt Ideal) ℓ) (c : Dev nD)

/-- The arguments as arrays: the gradient or its parts, the weight, the two moments. -/
def aG : FVec Ideal S4x400x1024 .bf16 := m ((c : Thread nD τ).loc main_arg0)
def aW : FVec Ideal S400x1024 .f32 := m ((c : Thread nD τ).loc main_arg1)
def aM : FVec Ideal S400x1024 .f32 := m ((c : Thread nD τ).loc main_arg2)
def aV : FVec Ideal S400x1024 .f32 := m ((c : Thread nD τ).loc main_arg3)

/-- The blocks of the operands at a point. -/
def bG (t : Fin cfg0.N) : FVec Ideal S4x400x1024 .bf16 := iblk m c 0 t
def bW (t : Fin cfg0.N) : FVec Ideal S400x1024 .f32 := iblk m c 1 t
def bM (t : Fin cfg0.N) : FVec Ideal S400x1024 .f32 := iblk m c 2 t
def bV (t : Fin cfg0.N) : FVec Ideal S400x1024 .f32 := iblk m c 3 t

theorem idx : ∀ t : Fin cfg0.N,
    win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The gradient, the moments and the weight's change at a row and a column. -/
def gAt (s : Fin 400) (k : Fin 1024) : EReal := aG m c (ix3 0 s k) + aG m c (ix3 1 s k) + aG m c (ix3 2 s k) + aG m c (ix3 3 s k)
def mAt (s : Fin 400) (k : Fin 1024) : EReal := newM (gAt m c s k) (aM m c (ix2 s k))
def vAt (s : Fin 400) (k : Fin 1024) : EReal := newV (gAt m c s k) (aV m c (ix2 s k))
def dAt (s : Fin 400) (k : Fin 1024) : EReal := delta (mAt m c s k) (vAt m c s k) (aW m c (ix2 s k))

/-- The result arrays. -/
def resG : FVec Ideal S400x1024 .f32 := fun i => gAt m c (i 0) (i 1)
def resD : FVec Ideal S400x1024 .f32 := fun i => dAt m c (i 0) (i 1)
def resM : FVec Ideal S400x1024 .f32 := fun i => mAt m c (i 0) (i 1)
def resV : FVec Ideal S400x1024 .f32 := fun i => vAt m c (i 0) (i 1)

/-- The parts, one at a time. -/
def cut0 (x : FVec Ideal S4x400x1024 .bf16) : FVec Ideal S1x400x1024 .bf16 := fun i => x (r0_0.idx i)
def cut1 (x : FVec Ideal S4x400x1024 .bf16) : FVec Ideal S1x400x1024 .bf16 := fun i => x (r0_1.idx i)
def cut2 (x : FVec Ideal S4x400x1024 .bf16) : FVec Ideal S1x400x1024 .bf16 := fun i => x (r0_2.idx i)
def cut3 (x : FVec Ideal S4x400x1024 .bf16) : FVec Ideal S1x400x1024 .bf16 := fun i => x (r0_3.idx i)

/-- The gradient in a block of the parts. -/
def gB (x : FVec Ideal S4x400x1024 .bf16) (r : Fin 400) (k : Fin 1024) : EReal := x (ix3 0 r k) + x (ix3 1 r k) + x (ix3 2 r k) + x (ix3 3 r k)

section Block

variable (x0 : FVec Ideal S4x400x1024 .bf16) (x1 x2 x3 : FVec Ideal S400x1024 .f32) (r : Fin 400) (k : Fin 1024)

theorem paySum (p0 p1 p2 p3 : FVec Ideal S1x400x1024 .bf16) :
    k0_pay2 (F := Ideal) p0 p1 p2 p3 (ix2 r k) = p0 (ix3 0 r k) + p1 (ix3 0 r k) + p2 (ix3 0 r k) + p3 (ix3 0 r k) := by
  pointwise [k0_pay2]

theorem sum_ld : k0_pay2 (F := Ideal) (cut0 x0) (cut1 x0) (cut2 x0) (cut3 x0) (ix2 r k) = gB x0 r k := by
  refine (paySum r k _ _ _ _).trans ?_
  unfold gB
  have e0 : cut0 x0 (ix3 0 r k) = x0 (ix3 0 r k) := by
    refine congrArg x0 (funext fun a => Fin.ext ?_)
    match a with
    | ⟨0, _⟩ => show 0 + 1 * 0 = 0; rfl
    | ⟨1, _⟩ => show 0 + 1 * r.val = r.val; omega
    | ⟨2, _⟩ => show 0 + 1 * k.val = k.val; omega
  have e1 : cut1 x0 (ix3 0 r k) = x0 (ix3 1 r k) := by
    refine congrArg x0 (funext fun a => Fin.ext ?_)
    match a with
    | ⟨0, _⟩ => show 1 + 1 * 0 = 1; rfl
    | ⟨1, _⟩ => show 0 + 1 * r.val = r.val; omega
    | ⟨2, _⟩ => show 0 + 1 * k.val = k.val; omega
  have e2 : cut2 x0 (ix3 0 r k) = x0 (ix3 2 r k) := by
    refine congrArg x0 (funext fun a => Fin.ext ?_)
    match a with
    | ⟨0, _⟩ => show 2 + 1 * 0 = 2; rfl
    | ⟨1, _⟩ => show 0 + 1 * r.val = r.val; omega
    | ⟨2, _⟩ => show 0 + 1 * k.val = k.val; omega
  have e3 : cut3 x0 (ix3 0 r k) = x0 (ix3 3 r k) := by
    refine congrArg x0 (funext fun a => Fin.ext ?_)
    match a with
    | ⟨0, _⟩ => show 3 + 1 * 0 = 3; rfl
    | ⟨1, _⟩ => show 0 + 1 * r.val = r.val; omega
    | ⟨2, _⟩ => show 0 + 1 * k.val = k.val; omega
  rw [e0, e1, e2, e3]

theorem blkM : k0_pay3 (F := Ideal) (cut0 x0) (cut1 x0) (cut2 x0) (cut3 x0) x2 (ix2 r k)
    = newM (gB x0 r k) (x2 (ix2 r k)) := by
  rw [← sum_ld x0 r k]
  unfold k0_pay3
  generalize k0_pay2 (F := Ideal) (cut0 x0) (cut1 x0) (cut2 x0) (cut3 x0) = q
  unfold newM
  pointwise

theorem blkV : k0_pay4 (F := Ideal) (cut0 x0) (cut1 x0) (cut2 x0) (cut3 x0) x3 (ix2 r k)
    = newV (gB x0 r k) (x3 (ix2 r k)) := by
  rw [← sum_ld x0 r k]
  unfold k0_pay4
  generalize k0_pay2 (F := Ideal) (cut0 x0) (cut1 x0) (cut2 x0) (cut3 x0) = q
  unfold newV
  pointwise

theorem blkD : k0_pay1 (F := Ideal) (k0_pay3 (cut0 x0) (cut1 x0) (cut2 x0) (cut3 x0) x2) (k0_pay4 (cut0 x0) (cut1 x0) (cut2 x0) (cut3 x0) x3) x1 (ix2 r k)
    = delta (newM (gB x0 r k) (x2 (ix2 r k))) (newV (gB x0 r k) (x3 (ix2 r k))) (x1 (ix2 r k)) := by
  have hm := blkM x0 x2 r k
  have hv := blkV x0 x3 r k
  rw [← hm, ← hv]
  unfold k0_pay1
  generalize k0_pay3 (F := Ideal) (cut0 x0) (cut1 x0) (cut2 x0) (cut3 x0) x2 = p
  generalize k0_pay4 (F := Ideal) (cut0 x0) (cut1 x0) (cut2 x0) (cut3 x0) x3 = q
  unfold delta
  pointwise

end Block

variable (t : Fin cfg0.N)

theorem out4 : out0_4 (iblk m c 0 t) (iblk m c 1 t) (iblk m c 2 t) (iblk m c 3 t)
    = k0_pay2 (F := Ideal) (cut0 (bG m c t)) (cut1 (bG m c t)) (cut2 (bG m c t)) (cut3 (bG m c t)) := by
  frame_out
  rfl

theorem out5 : out0_5 (iblk m c 0 t) (iblk m c 1 t) (iblk m c 2 t) (iblk m c 3 t)
    = k0_pay1 (F := Ideal) (k0_pay3 (cut0 (bG m c t)) (cut1 (bG m c t)) (cut2 (bG m c t)) (cut3 (bG m c t)) (bM m c t)) (k0_pay4 (cut0 (bG m c t)) (cut1 (bG m c t)) (cut2 (bG m c t)) (cut3 (bG m c t)) (bV m c t)) (bW m c t) := by
  frame_out
  unfold k0_pay5
  simp (disch := decide) only [View.ld_unit_lit']
  rfl

theorem out6 : out0_6 (iblk m c 0 t) (iblk m c 1 t) (iblk m c 2 t) (iblk m c 3 t)
    = k0_pay3 (F := Ideal) (cut0 (bG m c t)) (cut1 (bG m c t)) (cut2 (bG m c t)) (cut3 (bG m c t)) (bM m c t) := by
  frame_out
  rfl

theorem out7 : out0_7 (iblk m c 0 t) (iblk m c 1 t) (iblk m c 2 t) (iblk m c 3 t)
    = k0_pay4 (F := Ideal) (cut0 (bG m c t)) (cut1 (bG m c t)) (cut2 (bG m c t)) (cut3 (bG m c t)) (bV m c t) := by
  frame_out
  unfold k0_pay5
  simp (disch := decide) only [View.ld_unit_lit']
  rfl

theorem bW_apply (r : Fin 400) (k : Fin 1024) (s : Fin 400) (hs : s.val = r.val) :
    bW m c t (ix2 r k) = aW m c (ix2 s k) := by
  unfold bW aW
  blk_ext [iblk, V, idx t]

theorem bM_apply (r : Fin 400) (k : Fin 1024) (s : Fin 400) (hs : s.val = r.val) :
    bM m c t (ix2 r k) = aM m c (ix2 s k) := by
  unfold bM aM
  blk_ext [iblk, V, idx t]

theorem bV_apply (r : Fin 400) (k : Fin 1024) (s : Fin 400) (hs : s.val = r.val) :
    bV m c t (ix2 r k) = aV m c (ix2 s k) := by
  unfold bV aV
  blk_ext [iblk, V, idx t]

theorem bG_entry (z : Fin 4) (r : Fin 400) (k : Fin 1024) (s : Fin 400) (hs : s.val = r.val) :
    bG m c t (ix3 z r k) = aG m c (ix3 z s k) := by
  unfold bG aG
  blk_ext [iblk, V, idx t]

theorem bG_apply (r : Fin 400) (k : Fin 1024) (s : Fin 400) (hs : s.val = r.val) :
    gB (bG m c t) r k = gAt m c s k := by
  unfold gB gAt
  rw [bG_entry m c t 0 r k s hs, bG_entry m c t 1 r k s hs, bG_entry m c t 2 r k s hs, bG_entry m c t 3 r k s hs]

theorem final4 (c : Dev nD) : (dats m 0 c).arrAt 4 cfg0.N = resG m c := by
  refine (dats m 0 c).arrAt_eq_of_covers 4 (resG m c) (by decide +kernel) fun t hf y => ?_
  blk_simp
  rw [after0_4, out4 m c t]
  obtain ⟨r, k, rfl⟩ : ∃ r k, y = ix2 r k := ⟨y 0, y 1, eq_ix2 y⟩
  have ht : t.val < 1 := lt_of_lt_of_eq t.isLt N_0
  have hr : r.val < 400 := r.isLt
  refine (sum_ld (bG m c t) r k).trans ?_
  rw [bG_apply m c t r k r rfl]
  show resG m c (ix2 r k) = _
  refine congrArg (resG m c) ?_
  blk_ext [idx t]

theorem final5 (c : Dev nD) : (dats m 0 c).arrAt 5 cfg0.N = resD m c := by
  refine (dats m 0 c).arrAt_eq_of_covers 5 (resD m c) (by decide +kernel) fun t hf y => ?_
  blk_simp
  rw [after0_5, out5 m c t]
  obtain ⟨r, k, rfl⟩ : ∃ r k, y = ix2 r k := ⟨y 0, y 1, eq_ix2 y⟩
  have ht : t.val < 1 := lt_of_lt_of_eq t.isLt N_0
  have hr : r.val < 400 := r.isLt
  refine (blkD (bG m c t) (bW m c t) (bM m c t) (bV m c t) r k).trans ?_
  rw [bG_apply m c t r k r rfl, bW_apply m c t r k r rfl, bM_apply m c t r k r rfl, bV_apply m c t r k r rfl]
  show resD m c (ix2 r k) = _
  refine congrArg (resD m c) ?_
  blk_ext [idx t]

theorem final6 (c : Dev nD) : (dats m 0 c).arrAt 6 cfg0.N = resM m c := by
  refine (dats m 0 c).arrAt_eq_of_covers 6 (resM m c) (by decide +kernel) fun t hf y => ?_
  blk_simp
  rw [after0_6, out6 m c t]
  obtain ⟨r, k, rfl⟩ : ∃ r k, y = ix2 r k := ⟨y 0, y 1, eq_ix2 y⟩
  have ht : t.val < 1 := lt_of_lt_of_eq t.isLt N_0
  have hr : r.val < 400 := r.isLt
  refine (blkM (bG m c t) (bM m c t) r k).trans ?_
  rw [bG_apply m c t r k r rfl, bM_apply m c t r k r rfl]
  show resM m c (ix2 r k) = _
  refine congrArg (resM m c) ?_
  blk_ext [idx t]

theorem final7 (c : Dev nD) : (dats m 0 c).arrAt 7 cfg0.N = resV m c := by
  refine (dats m 0 c).arrAt_eq_of_covers 7 (resV m c) (by decide +kernel) fun t hf y => ?_
  blk_simp
  rw [after0_7, out7 m c t]
  obtain ⟨r, k, rfl⟩ : ∃ r k, y = ix2 r k := ⟨y 0, y 1, eq_ix2 y⟩
  have ht : t.val < 1 := lt_of_lt_of_eq t.isLt N_0
  have hr : r.val < 400 := r.isLt
  refine (blkV (bG m c t) (bV m c t) r k).trans ?_
  rw [bG_apply m c t r k r rfl, bV_apply m c t r k r rfl]
  show resV m c (ix2 r k) = _
  refine congrArg (resV m c) ?_
  blk_ext [idx t]

end Cert.Kernel17Ideal.Step

namespace Cert.Reference17Ideal.Step

open Cert.Reference17Ideal Cert.Reference17Ideal.Gen

variable (p : FVec Ideal S4x400x1024 .bf16) (w μ ν : FVec Ideal S400x1024 .f32)

/-- The gradient at a row and a column. -/
def gAt (s : Fin 400) (k : Fin 1024) : EReal := p (ix3 0 s k) + p (ix3 1 s k) + p (ix3 2 s k) + p (ix3 3 s k)

theorem red_apply (s : Fin 400) (k : Fin 1024) : (Host.reduceAdd (extf .f32 p bitsLt_bf16_f32) (constant S_ .f32 0x00000000#32) reducesTo_S4x400x1024_S400x1024_d0 h_S_) (ix2 s k) = gAt p s k := by
  have h : (Host.reduceAdd (extf .f32 p bitsLt_bf16_f32) (constant S_ .f32 0x00000000#32) reducesTo_S4x400x1024_S400x1024_d0 h_S_) (ix2 s k) = Ideal.ofBits .f32 0x00000000#32 + ∑ z : Fin 4, p (ix3 z s k) := by
    pointwise
  have h' : (Host.reduceAdd (extf .f32 p bitsLt_bf16_f32) (constant S_ .f32 0x00000000#32) reducesTo_S4x400x1024_S400x1024_d0 h_S_) (ix2 s k) = gAt p s k := by
    rw [h]
    unfold gAt
    rw [Fin.sum_univ_four, Ideal.ofBits_zero, zero_add]
  exact h'

theorem m_apply (s : Fin 400) (k : Fin 1024) : (addf (F := Ideal) (mulf (broadcastInDim S400x1024 ![] bcast_S_S400x1024 (constant S_ .f32 0x3F666666#32)) μ) (mulf (broadcastInDim S400x1024 ![] bcast_S_S400x1024 (constant S_ .f32 0x3DCCCCCD#32)) (Host.reduceAdd (extf .f32 p bitsLt_bf16_f32) (constant S_ .f32 0x00000000#32) reducesTo_S4x400x1024_S400x1024_d0 h_S_)) : FVec Ideal S400x1024 .f32) (ix2 s k)
    = newM (gAt p s k) (μ (ix2 s k)) := by
  rw [← red_apply p s k]
  generalize (Host.reduceAdd (extf .f32 p bitsLt_bf16_f32) (constant S_ .f32 0x00000000#32) reducesTo_S4x400x1024_S400x1024_d0 h_S_) = q
  unfold newM
  pointwise

theorem v_apply (s : Fin 400) (k : Fin 1024) : (addf (F := Ideal) (mulf (broadcastInDim S400x1024 ![] bcast_S_S400x1024 (constant S_ .f32 0x3F7FBE77#32)) ν) (mulf (broadcastInDim S400x1024 ![] bcast_S_S400x1024 (constant S_ .f32 0x3A83126F#32)) (mulf (Host.reduceAdd (extf .f32 p bitsLt_bf16_f32) (constant S_ .f32 0x00000000#32) reducesTo_S4x400x1024_S400x1024_d0 h_S_) (Host.reduceAdd (extf .f32 p bitsLt_bf16_f32) (constant S_ .f32 0x00000000#32) reducesTo_S4x400x1024_S400x1024_d0 h_S_))) : FVec Ideal S400x1024 .f32) (ix2 s k)
    = newV (gAt p s k) (ν (ix2 s k)) := by
  rw [← red_apply p s k]
  generalize (Host.reduceAdd (extf .f32 p bitsLt_bf16_f32) (constant S_ .f32 0x00000000#32) reducesTo_S4x400x1024_S400x1024_d0 h_S_) = q
  unfold newV
  pointwise

theorem d_apply (s : Fin 400) (k : Fin 1024) : (mulf (F := Ideal) (broadcastInDim S400x1024 ![] bcast_S_S400x1024 (constant S_ .f32 0xBA83126F#32)) (addf (Host.divf (Host.divf (addf (F := Ideal) (mulf (broadcastInDim S400x1024 ![] bcast_S_S400x1024 (constant S_ .f32 0x3F666666#32)) μ) (mulf (broadcastInDim S400x1024 ![] bcast_S_S400x1024 (constant S_ .f32 0x3DCCCCCD#32)) (Host.reduceAdd (extf .f32 p bitsLt_bf16_f32) (constant S_ .f32 0x00000000#32) reducesTo_S4x400x1024_S400x1024_d0 h_S_))) (broadcastInDim S400x1024 ![] bcast_S_S400x1024 (constant S_ .f32 0x3F26BD02#32))) (addf (Host.sqrt (Host.divf (addf (F := Ideal) (mulf (broadcastInDim S400x1024 ![] bcast_S_S400x1024 (constant S_ .f32 0x3F7FBE77#32)) ν) (mulf (broadcastInDim S400x1024 ![] bcast_S_S400x1024 (constant S_ .f32 0x3A83126F#32)) (mulf (Host.reduceAdd (extf .f32 p bitsLt_bf16_f32) (constant S_ .f32 0x00000000#32) reducesTo_S4x400x1024_S400x1024_d0 h_S_) (Host.reduceAdd (extf .f32 p bitsLt_bf16_f32) (constant S_ .f32 0x00000000#32) reducesTo_S4x400x1024_S400x1024_d0 h_S_)))) (broadcastInDim S400x1024 ![] bcast_S_S400x1024 (constant S_ .f32 0x3C231ACC#32)))) (broadcastInDim S400x1024 ![] bcast_S_S400x1024 (constant S_ .f32 0x322BCC77#32)))) (mulf (broadcastInDim S400x1024 ![] bcast_S_S400x1024 (constant S_ .f32 0x3C23D70A#32)) w)) : FVec Ideal S400x1024 .f32) (ix2 s k)
    = delta (newM (gAt p s k) (μ (ix2 s k))) (newV (gAt p s k) (ν (ix2 s k))) (w (ix2 s k)) := by
  rw [← red_apply p s k]
  generalize (Host.reduceAdd (extf .f32 p bitsLt_bf16_f32) (constant S_ .f32 0x00000000#32) reducesTo_S4x400x1024_S400x1024_d0 h_S_) = q
  unfold delta newM newV
  pointwise

theorem frame : Cert.quiescent_Reference17Ideal (hReference17Ideal := Cert.Reference17Ideal.Gen.facts) := by
  intro m ρ _
  exact (θ_run Cert.Reference17Ideal.defs _ _).mono
    (fun r h => ⟨fun c => (h c).2.2.2.2, sem_eq_zero_of_no_sems (by decide) r.2⟩) (Cert.Reference17Ideal.Value.run m ρ)

theorem algebraic : Cert.algebraic_Kernel17Ideal_Reference17Ideal (hKernel17Ideal := Cert.Kernel17Ideal.Gen.facts)
    (hReference17Ideal := Cert.Reference17Ideal.Gen.facts) := by
  intro m g m' g' _ hagree
  refine ⟨fun c => Cert.Kernel17Ideal.Step.resG m c, fun c => Cert.Kernel17Ideal.Step.resD m c, fun c => Cert.Kernel17Ideal.Step.resM m c, fun c => Cert.Kernel17Ideal.Step.resV m c, ?_, ?_⟩
  · refine (θ_run _ _ _).mono (fun r h c => ?_) (Cert.Kernel17Ideal.Value.run_blocks m g)
    obtain ⟨h0, h1, h2, h3, hk⟩ := h c
    exact ⟨h0.trans (Cert.Kernel17Ideal.Step.final4 m c), h1.trans (Cert.Kernel17Ideal.Step.final5 m c), h2.trans (Cert.Kernel17Ideal.Step.final6 m c), h3.trans (Cert.Kernel17Ideal.Step.final7 m c), hk⟩
  · refine (θ_run _ _ _).mono (fun r h c => ?_) (Cert.Reference17Ideal.Value.run m' g')
    obtain ⟨h0, h1, h2, h3, hk⟩ := h c
    obtain ⟨a0, a1, a2, a3⟩ := hagree c
    refine ⟨h0.trans ?_, h1.trans ?_, h2.trans ?_, h3.trans ?_, hk⟩
    · rw [a0]
      funext i
      obtain ⟨s, k, rfl⟩ : ∃ s k, i = ix2 s k := ⟨i 0, i 1, eq_ix2 i⟩
      exact red_apply _ s k
    · rw [a0, a1, a2, a3]
      funext i
      obtain ⟨s, k, rfl⟩ : ∃ s k, i = ix2 s k := ⟨i 0, i 1, eq_ix2 i⟩
      exact d_apply _ _ _ _ s k
    · rw [a0, a2]
      funext i
      obtain ⟨s, k, rfl⟩ : ∃ s k, i = ix2 s k := ⟨i 0, i 1, eq_ix2 i⟩
      exact m_apply _ _ s k
    · rw [a0, a3]
      funext i
      obtain ⟨s, k, rfl⟩ : ∃ s k, i = ix2 s k := ⟨i 0, i 1, eq_ix2 i⟩
      exact v_apply _ _ s k

end Cert.Reference17Ideal.Step
-- ==== Proof.Adam18.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Adam
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The optimiser step of AdamW, program 18: the weights every device holds, packed in rows. The gradient is the sum of the eight parts, one block. -/

set_option maxRecDepth 16384

noncomputable section

open Idealize.ShloMosaic Idealize.ShloMosaic.TcCoe Idealize.SL.Sem
open Cert.Adam

namespace Cert.Kernel18Ideal.Step

open Cert.Kernel18Ideal Cert.Kernel18Ideal.Gen

variable (m : (ℓ : Loc nD τ sig) → Buf (Elt Ideal) ℓ) (c : Dev nD)

/-- The arguments as arrays: the gradient or its parts, the weight, the two moments. -/
def aG : FVec Ideal S8x136x128 .f32 := m ((c : Thread nD τ).loc main_arg0)
def aW : FVec Ideal S136x128 .f32 := m ((c : Thread nD τ).loc main_arg1)
def aM : FVec Ideal S136x128 .f32 := m ((c : Thread nD τ).loc main_arg2)
def aV : FVec Ideal S136x128 .f32 := m ((c : Thread nD τ).loc main_arg3)

/-- The blocks of the operands at a point. -/
def bG (t : Fin cfg0.N) : FVec Ideal S8x136x128 .f32 := iblk m c 0 t
def bW (t : Fin cfg0.N) : FVec Ideal S136x128 .f32 := iblk m c 1 t
def bM (t : Fin cfg0.N) : FVec Ideal S136x128 .f32 := iblk m c 2 t
def bV (t : Fin cfg0.N) : FVec Ideal S136x128 .f32 := iblk m c 3 t

theorem idx : ∀ t : Fin cfg0.N,
    win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The gradient, the moments and the weight's change at a row and a column. -/
def gAt (s : Fin 136) (k : Fin 128) : EReal := aG m c (ix3 0 s k) + aG m c (ix3 1 s k) + aG m c (ix3 2 s k) + aG m c (ix3 3 s k) + aG m c (ix3 4 s k) + aG m c (ix3 5 s k) + aG m c (ix3 6 s k) + aG m c (ix3 7 s k)
def mAt (s : Fin 136) (k : Fin 128) : EReal := newM (gAt m c s k) (aM m c (ix2 s k))
def vAt (s : Fin 136) (k : Fin 128) : EReal := newV (gAt m c s k) (aV m c (ix2 s k))
def dAt (s : Fin 136) (k : Fin 128) : EReal := delta (mAt m c s k) (vAt m c s k) (aW m c (ix2 s k))

/-- The result arrays. -/
def resG : FVec Ideal S136x128 .f32 := fun i => gAt m c (i 0) (i 1)
def resD : FVec Ideal S136x128 .f32 := fun i => dAt m c (i 0) (i 1)
def resM : FVec Ideal S136x128 .f32 := fun i => mAt m c (i 0) (i 1)
def resV : FVec Ideal S136x128 .f32 := fun i => vAt m c (i 0) (i 1)

/-- The parts, one at a time. -/
def cut0 (x : FVec Ideal S8x136x128 .f32) : FVec Ideal S1x136x128 .f32 := fun i => x (r0_0.idx i)
def cut1 (x : FVec Ideal S8x136x128 .f32) : FVec Ideal S1x136x128 .f32 := fun i => x (r0_1.idx i)
def cut2 (x : FVec Ideal S8x136x128 .f32) : FVec Ideal S1x136x128 .f32 := fun i => x (r0_2.idx i)
def cut3 (x : FVec Ideal S8x136x128 .f32) : FVec Ideal S1x136x128 .f32 := fun i => x (r0_3.idx i)
def cut4 (x : FVec Ideal S8x136x128 .f32) : FVec Ideal S1x136x128 .f32 := fun i => x (r0_4.idx i)
def cut5 (x : FVec Ideal S8x136x128 .f32) : FVec Ideal S1x136x128 .f32 := fun i => x (r0_5.idx i)
def cut6 (x : FVec Ideal S8x136x128 .f32) : FVec Ideal S1x136x128 .f32 := fun i => x (r0_6.idx i)
def cut7 (x : FVec Ideal S8x136x128 .f32) : FVec Ideal S1x136x128 .f32 := fun i => x (r0_7.idx i)

/-- The gradient in a block of the parts. -/
def gB (x : FVec Ideal S8x136x128 .f32) (r : Fin 136) (k : Fin 128) : EReal := x (ix3 0 r k) + x (ix3 1 r k) + x (ix3 2 r k) + x (ix3 3 r k) + x (ix3 4 r k) + x (ix3 5 r k) + x (ix3 6 r k) + x (ix3 7 r k)

section Block

variable (x0 : FVec Ideal S8x136x128 .f32) (x1 x2 x3 : FVec Ideal S136x128 .f32) (r : Fin 136) (k : Fin 128)

theorem paySum (p0 p1 p2 p3 p4 p5 p6 p7 : FVec Ideal S1x136x128 .f32) :
    k0_pay3 (F := Ideal) p0 p1 p2 p3 p4 p5 p6 p7 (ix2 r k) = p0 (ix3 0 r k) + p1 (ix3 0 r k) + p2 (ix3 0 r k) + p3 (ix3 0 r k) + p4 (ix3 0 r k) + p5 (ix3 0 r k) + p6 (ix3 0 r k) + p7 (ix3 0 r k) := by
  pointwise [k0_pay3]

theorem sum_ld : k0_pay3 (F := Ideal) (cut0 x0) (cut1 x0) (cut2 x0) (cut3 x0) (cut4 x0) (cut5 x0) (cut6 x0) (cut7 x0) (ix2 r k) = gB x0 r k := by
  refine (paySum r k _ _ _ _ _ _ _ _).trans ?_
  unfold gB
  have e0 : cut0 x0 (ix3 0 r k) = x0 (ix3 0 r k) := by
    refine congrArg x0 (funext fun a => Fin.ext ?_)
    match a with
    | ⟨0, _⟩ => show 0 + 1 * 0 = 0; rfl
    | ⟨1, _⟩ => show 0 + 1 * r.val = r.val; omega
    | ⟨2, _⟩ => show 0 + 1 * k.val = k.val; omega
  have e1 : cut1 x0 (ix3 0 r k) = x0 (ix3 1 r k) := by
    refine congrArg x0 (funext fun a => Fin.ext ?_)
    match a with
    | ⟨0, _⟩ => show 1 + 1 * 0 = 1; rfl
    | ⟨1, _⟩ => show 0 + 1 * r.val = r.val; omega
    | ⟨2, _⟩ => show 0 + 1 * k.val = k.val; omega
  have e2 : cut2 x0 (ix3 0 r k) = x0 (ix3 2 r k) := by
    refine congrArg x0 (funext fun a => Fin.ext ?_)
    match a with
    | ⟨0, _⟩ => show 2 + 1 * 0 = 2; rfl
    | ⟨1, _⟩ => show 0 + 1 * r.val = r.val; omega
    | ⟨2, _⟩ => show 0 + 1 * k.val = k.val; omega
  have e3 : cut3 x0 (ix3 0 r k) = x0 (ix3 3 r k) := by
    refine congrArg x0 (funext fun a => Fin.ext ?_)
    match a with
    | ⟨0, _⟩ => show 3 + 1 * 0 = 3; rfl
    | ⟨1, _⟩ => show 0 + 1 * r.val = r.val; omega
    | ⟨2, _⟩ => show 0 + 1 * k.val = k.val; omega
  have e4 : cut4 x0 (ix3 0 r k) = x0 (ix3 4 r k) := by
    refine congrArg x0 (funext fun a => Fin.ext ?_)
    match a with
    | ⟨0, _⟩ => show 4 + 1 * 0 = 4; rfl
    | ⟨1, _⟩ => show 0 + 1 * r.val = r.val; omega
    | ⟨2, _⟩ => show 0 + 1 * k.val = k.val; omega
  have e5 : cut5 x0 (ix3 0 r k) = x0 (ix3 5 r k) := by
    refine congrArg x0 (funext fun a => Fin.ext ?_)
    match a with
    | ⟨0, _⟩ => show 5 + 1 * 0 = 5; rfl
    | ⟨1, _⟩ => show 0 + 1 * r.val = r.val; omega
    | ⟨2, _⟩ => show 0 + 1 * k.val = k.val; omega
  have e6 : cut6 x0 (ix3 0 r k) = x0 (ix3 6 r k) := by
    refine congrArg x0 (funext fun a => Fin.ext ?_)
    match a with
    | ⟨0, _⟩ => show 6 + 1 * 0 = 6; rfl
    | ⟨1, _⟩ => show 0 + 1 * r.val = r.val; omega
    | ⟨2, _⟩ => show 0 + 1 * k.val = k.val; omega
  have e7 : cut7 x0 (ix3 0 r k) = x0 (ix3 7 r k) := by
    refine congrArg x0 (funext fun a => Fin.ext ?_)
    match a with
    | ⟨0, _⟩ => show 7 + 1 * 0 = 7; rfl
    | ⟨1, _⟩ => show 0 + 1 * r.val = r.val; omega
    | ⟨2, _⟩ => show 0 + 1 * k.val = k.val; omega
  rw [e0, e1, e2, e3, e4, e5, e6, e7]

theorem blkM : k0_pay4 (F := Ideal) (cut0 x0) (cut1 x0) (cut2 x0) (cut3 x0) (cut4 x0) (cut5 x0) (cut6 x0) (cut7 x0) x2 (ix2 r k)
    = newM (gB x0 r k) (x2 (ix2 r k)) := by
  rw [← sum_ld x0 r k]
  unfold k0_pay4
  generalize k0_pay3 (F := Ideal) (cut0 x0) (cut1 x0) (cut2 x0) (cut3 x0) (cut4 x0) (cut5 x0) (cut6 x0) (cut7 x0) = q
  unfold newM
  pointwise

theorem blkV : k0_pay1 (F := Ideal) (k0_pay3 (cut0 x0) (cut1 x0) (cut2 x0) (cut3 x0) (cut4 x0) (cut5 x0) (cut6 x0) (cut7 x0)) x3 (ix2 r k)
    = newV (gB x0 r k) (x3 (ix2 r k)) := by
  rw [← sum_ld x0 r k]
  generalize k0_pay3 (F := Ideal) (cut0 x0) (cut1 x0) (cut2 x0) (cut3 x0) (cut4 x0) (cut5 x0) (cut6 x0) (cut7 x0) = q
  unfold newV
  pointwise [k0_pay1]

theorem blkD : k0_pay2 (F := Ideal) (k0_pay3 (cut0 x0) (cut1 x0) (cut2 x0) (cut3 x0) (cut4 x0) (cut5 x0) (cut6 x0) (cut7 x0)) (k0_pay4 (cut0 x0) (cut1 x0) (cut2 x0) (cut3 x0) (cut4 x0) (cut5 x0) (cut6 x0) (cut7 x0) x2) x3 x1 (ix2 r k)
    = delta (newM (gB x0 r k) (x2 (ix2 r k))) (newV (gB x0 r k) (x3 (ix2 r k))) (x1 (ix2 r k)) := by
  have hm := blkM x0 x2 r k
  have hv := blkV x0 x3 r k
  rw [← hm, ← hv]
  unfold k0_pay2
  generalize k0_pay4 (F := Ideal) (cut0 x0) (cut1 x0) (cut2 x0) (cut3 x0) (cut4 x0) (cut5 x0) (cut6 x0) (cut7 x0) x2 = p
  generalize k0_pay1 (F := Ideal) (k0_pay3 (cut0 x0) (cut1 x0) (cut2 x0) (cut3 x0) (cut4 x0) (cut5 x0) (cut6 x0) (cut7 x0)) x3 = q
  unfold delta
  pointwise

end Block

variable (t : Fin cfg0.N)

theorem out4 : out0_4 (iblk m c 0 t) (iblk m c 1 t) (iblk m c 2 t) (iblk m c 3 t)
    = k0_pay3 (F := Ideal) (cut0 (bG m c t)) (cut1 (bG m c t)) (cut2 (bG m c t)) (cut3 (bG m c t)) (cut4 (bG m c t)) (cut5 (bG m c t)) (cut6 (bG m c t)) (cut7 (bG m c t)) := by
  frame_out
  unfold k0_pay5
  rfl

theorem out5 : out0_5 (iblk m c 0 t) (iblk m c 1 t) (iblk m c 2 t) (iblk m c 3 t)
    = k0_pay2 (F := Ideal) (k0_pay3 (cut0 (bG m c t)) (cut1 (bG m c t)) (cut2 (bG m c t)) (cut3 (bG m c t)) (cut4 (bG m c t)) (cut5 (bG m c t)) (cut6 (bG m c t)) (cut7 (bG m c t))) (k0_pay4 (cut0 (bG m c t)) (cut1 (bG m c t)) (cut2 (bG m c t)) (cut3 (bG m c t)) (cut4 (bG m c t)) (cut5 (bG m c t)) (cut6 (bG m c t)) (cut7 (bG m c t)) (bM m c t)) (bV m c t) (bW m c t) := by
  frame_out
  unfold k0_pay5 k0_pay6
  simp (disch := decide) only [View.ld_unit_lit']
  rfl

theorem out6 : out0_6 (iblk m c 0 t) (iblk m c 1 t) (iblk m c 2 t) (iblk m c 3 t)
    = k0_pay4 (F := Ideal) (cut0 (bG m c t)) (cut1 (bG m c t)) (cut2 (bG m c t)) (cut3 (bG m c t)) (cut4 (bG m c t)) (cut5 (bG m c t)) (cut6 (bG m c t)) (cut7 (bG m c t)) (bM m c t) := by
  frame_out
  unfold k0_pay6
  simp (disch := decide) only [View.ld_unit_lit']
  rfl

theorem out7 : out0_7 (iblk m c 0 t) (iblk m c 1 t) (iblk m c 2 t) (iblk m c 3 t)
    = k0_pay1 (F := Ideal) (k0_pay3 (cut0 (bG m c t)) (cut1 (bG m c t)) (cut2 (bG m c t)) (cut3 (bG m c t)) (cut4 (bG m c t)) (cut5 (bG m c t)) (cut6 (bG m c t)) (cut7 (bG m c t))) (bV m c t) := by
  frame_out
  unfold k0_pay5
  rfl

theorem bW_apply (r : Fin 136) (k : Fin 128) (s : Fin 136) (hs : s.val = r.val) :
    bW m c t (ix2 r k) = aW m c (ix2 s k) := by
  unfold bW aW
  blk_ext [iblk, V, idx t]

theorem bM_apply (r : Fin 136) (k : Fin 128) (s : Fin 136) (hs : s.val = r.val) :
    bM m c t (ix2 r k) = aM m c (ix2 s k) := by
  unfold bM aM
  blk_ext [iblk, V, idx t]

theorem bV_apply (r : Fin 136) (k : Fin 128) (s : Fin 136) (hs : s.val = r.val) :
    bV m c t (ix2 r k) = aV m c (ix2 s k) := by
  unfold bV aV
  blk_ext [iblk, V, idx t]

theorem bG_entry (z : Fin 8) (r : Fin 136) (k : Fin 128) (s : Fin 136) (hs : s.val = r.val) :
    bG m c t (ix3 z r k) = aG m c (ix3 z s k) := by
  unfold bG aG
  blk_ext [iblk, V, idx t]

theorem bG_apply (r : Fin 136) (k : Fin 128) (s : Fin 136) (hs : s.val = r.val) :
    gB (bG m c t) r k = gAt m c s k := by
  unfold gB gAt
  rw [bG_entry m c t 0 r k s hs, bG_entry m c t 1 r k s hs, bG_entry m c t 2 r k s hs, bG_entry m c t 3 r k s hs, bG_entry m c t 4 r k s hs, bG_entry m c t 5 r k s hs, bG_entry m c t 6 r k s hs, bG_entry m c t 7 r k s hs]

theorem final4 (c : Dev nD) : (dats m 0 c).arrAt 4 cfg0.N = resG m c := by
  refine (dats m 0 c).arrAt_eq_of_covers 4 (resG m c) (by decide +kernel) fun t hf y => ?_
  blk_simp
  rw [after0_4, out4 m c t]
  obtain ⟨r, k, rfl⟩ : ∃ r k, y = ix2 r k := ⟨y 0, y 1, eq_ix2 y⟩
  have ht : t.val < 1 := lt_of_lt_of_eq t.isLt N_0
  have hr : r.val < 136 := r.isLt
  refine (sum_ld (bG m c t) r k).trans ?_
  rw [bG_apply m c t r k r rfl]
  show resG m c (ix2 r k) = _
  refine congrArg (resG m c) ?_
  blk_ext [idx t]

theorem final5 (c : Dev nD) : (dats m 0 c).arrAt 5 cfg0.N = resD m c := by
  refine (dats m 0 c).arrAt_eq_of_covers 5 (resD m c) (by decide +kernel) fun t hf y => ?_
  blk_simp
  rw [after0_5, out5 m c t]
  obtain ⟨r, k, rfl⟩ : ∃ r k, y = ix2 r k := ⟨y 0, y 1, eq_ix2 y⟩
  have ht : t.val < 1 := lt_of_lt_of_eq t.isLt N_0
  have hr : r.val < 136 := r.isLt
  refine (blkD (bG m c t) (bW m c t) (bM m c t) (bV m c t) r k).trans ?_
  rw [bG_apply m c t r k r rfl, bW_apply m c t r k r rfl, bM_apply m c t r k r rfl, bV_apply m c t r k r rfl]
  show resD m c (ix2 r k) = _
  refine congrArg (resD m c) ?_
  blk_ext [idx t]

theorem final6 (c : Dev nD) : (dats m 0 c).arrAt 6 cfg0.N = resM m c := by
  refine (dats m 0 c).arrAt_eq_of_covers 6 (resM m c) (by decide +kernel) fun t hf y => ?_
  blk_simp
  rw [after0_6, out6 m c t]
  obtain ⟨r, k, rfl⟩ : ∃ r k, y = ix2 r k := ⟨y 0, y 1, eq_ix2 y⟩
  have ht : t.val < 1 := lt_of_lt_of_eq t.isLt N_0
  have hr : r.val < 136 := r.isLt
  refine (blkM (bG m c t) (bM m c t) r k).trans ?_
  rw [bG_apply m c t r k r rfl, bM_apply m c t r k r rfl]
  show resM m c (ix2 r k) = _
  refine congrArg (resM m c) ?_
  blk_ext [idx t]

theorem final7 (c : Dev nD) : (dats m 0 c).arrAt 7 cfg0.N = resV m c := by
  refine (dats m 0 c).arrAt_eq_of_covers 7 (resV m c) (by decide +kernel) fun t hf y => ?_
  blk_simp
  rw [after0_7, out7 m c t]
  obtain ⟨r, k, rfl⟩ : ∃ r k, y = ix2 r k := ⟨y 0, y 1, eq_ix2 y⟩
  have ht : t.val < 1 := lt_of_lt_of_eq t.isLt N_0
  have hr : r.val < 136 := r.isLt
  refine (blkV (bG m c t) (bV m c t) r k).trans ?_
  rw [bG_apply m c t r k r rfl, bV_apply m c t r k r rfl]
  show resV m c (ix2 r k) = _
  refine congrArg (resV m c) ?_
  blk_ext [idx t]

end Cert.Kernel18Ideal.Step

namespace Cert.Reference18Ideal.Step

open Cert.Reference18Ideal Cert.Reference18Ideal.Gen

variable (p : FVec Ideal S8x136x128 .f32) (w μ ν : FVec Ideal S136x128 .f32)

/-- The gradient at a row and a column. -/
def gAt (s : Fin 136) (k : Fin 128) : EReal := p (ix3 0 s k) + p (ix3 1 s k) + p (ix3 2 s k) + p (ix3 3 s k) + p (ix3 4 s k) + p (ix3 5 s k) + p (ix3 6 s k) + p (ix3 7 s k)

theorem red_apply (s : Fin 136) (k : Fin 128) : (Host.reduceAdd p (constant S_ .f32 0x00000000#32) reducesTo_S8x136x128_S136x128_d0 h_S_) (ix2 s k) = gAt p s k := by
  have h : (Host.reduceAdd p (constant S_ .f32 0x00000000#32) reducesTo_S8x136x128_S136x128_d0 h_S_) (ix2 s k) = Ideal.ofBits .f32 0x00000000#32 + ∑ z : Fin 8, p (ix3 z s k) := by
    pointwise
  have h' : (Host.reduceAdd p (constant S_ .f32 0x00000000#32) reducesTo_S8x136x128_S136x128_d0 h_S_) (ix2 s k) = gAt p s k := by
    rw [h]
    unfold gAt
    rw [Fin.sum_univ_eight, Ideal.ofBits_zero, zero_add]
  exact h'

theorem m_apply (s : Fin 136) (k : Fin 128) : (addf (F := Ideal) (mulf (broadcastInDim S136x128 ![] bcast_S_S136x128 (constant S_ .f32 0x3F666666#32)) μ) (mulf (broadcastInDim S136x128 ![] bcast_S_S136x128 (constant S_ .f32 0x3DCCCCCD#32)) (Host.reduceAdd p (constant S_ .f32 0x00000000#32) reducesTo_S8x136x128_S136x128_d0 h_S_)) : FVec Ideal S136x128 .f32) (ix2 s k)
    = newM (gAt p s k) (μ (ix2 s k)) := by
  rw [← red_apply p s k]
  generalize (Host.reduceAdd p (constant S_ .f32 0x00000000#32) reducesTo_S8x136x128_S136x128_d0 h_S_) = q
  unfold newM
  pointwise

theorem v_apply (s : Fin 136) (k : Fin 128) : (addf (F := Ideal) (mulf (broadcastInDim S136x128 ![] bcast_S_S136x128 (constant S_ .f32 0x3F7FBE77#32)) ν) (mulf (broadcastInDim S136x128 ![] bcast_S_S136x128 (constant S_ .f32 0x3A83126F#32)) (mulf (Host.reduceAdd p (constant S_ .f32 0x00000000#32) reducesTo_S8x136x128_S136x128_d0 h_S_) (Host.reduceAdd p (constant S_ .f32 0x00000000#32) reducesTo_S8x136x128_S136x128_d0 h_S_))) : FVec Ideal S136x128 .f32) (ix2 s k)
    = newV (gAt p s k) (ν (ix2 s k)) := by
  rw [← red_apply p s k]
  generalize (Host.reduceAdd p (constant S_ .f32 0x00000000#32) reducesTo_S8x136x128_S136x128_d0 h_S_) = q
  unfold newV
  pointwise

theorem d_apply (s : Fin 136) (k : Fin 128) : (mulf (F := Ideal) (broadcastInDim S136x128 ![] bcast_S_S136x128 (constant S_ .f32 0xBA83126F#32)) (addf (Host.divf (Host.divf (addf (F := Ideal) (mulf (broadcastInDim S136x128 ![] bcast_S_S136x128 (constant S_ .f32 0x3F666666#32)) μ) (mulf (broadcastInDim S136x128 ![] bcast_S_S136x128 (constant S_ .f32 0x3DCCCCCD#32)) (Host.reduceAdd p (constant S_ .f32 0x00000000#32) reducesTo_S8x136x128_S136x128_d0 h_S_))) (broadcastInDim S136x128 ![] bcast_S_S136x128 (constant S_ .f32 0x3F26BD02#32))) (addf (Host.sqrt (Host.divf (addf (F := Ideal) (mulf (broadcastInDim S136x128 ![] bcast_S_S136x128 (constant S_ .f32 0x3F7FBE77#32)) ν) (mulf (broadcastInDim S136x128 ![] bcast_S_S136x128 (constant S_ .f32 0x3A83126F#32)) (mulf (Host.reduceAdd p (constant S_ .f32 0x00000000#32) reducesTo_S8x136x128_S136x128_d0 h_S_) (Host.reduceAdd p (constant S_ .f32 0x00000000#32) reducesTo_S8x136x128_S136x128_d0 h_S_)))) (broadcastInDim S136x128 ![] bcast_S_S136x128 (constant S_ .f32 0x3C231ACC#32)))) (broadcastInDim S136x128 ![] bcast_S_S136x128 (constant S_ .f32 0x322BCC77#32)))) (mulf (broadcastInDim S136x128 ![] bcast_S_S136x128 (constant S_ .f32 0x3C23D70A#32)) w)) : FVec Ideal S136x128 .f32) (ix2 s k)
    = delta (newM (gAt p s k) (μ (ix2 s k))) (newV (gAt p s k) (ν (ix2 s k))) (w (ix2 s k)) := by
  rw [← red_apply p s k]
  generalize (Host.reduceAdd p (constant S_ .f32 0x00000000#32) reducesTo_S8x136x128_S136x128_d0 h_S_) = q
  unfold delta newM newV
  pointwise

theorem frame : Cert.quiescent_Reference18Ideal (hReference18Ideal := Cert.Reference18Ideal.Gen.facts) := by
  intro m ρ _
  exact (θ_run Cert.Reference18Ideal.defs _ _).mono
    (fun r h => ⟨fun c => (h c).2.2.2.2, sem_eq_zero_of_no_sems (by decide) r.2⟩) (Cert.Reference18Ideal.Value.run m ρ)

theorem algebraic : Cert.algebraic_Kernel18Ideal_Reference18Ideal (hKernel18Ideal := Cert.Kernel18Ideal.Gen.facts)
    (hReference18Ideal := Cert.Reference18Ideal.Gen.facts) := by
  intro m g m' g' _ hagree
  refine ⟨fun c => Cert.Kernel18Ideal.Step.resG m c, fun c => Cert.Kernel18Ideal.Step.resD m c, fun c => Cert.Kernel18Ideal.Step.resM m c, fun c => Cert.Kernel18Ideal.Step.resV m c, ?_, ?_⟩
  · refine (θ_run _ _ _).mono (fun r h c => ?_) (Cert.Kernel18Ideal.Value.run_blocks m g)
    obtain ⟨h0, h1, h2, h3, hk⟩ := h c
    exact ⟨h0.trans (Cert.Kernel18Ideal.Step.final4 m c), h1.trans (Cert.Kernel18Ideal.Step.final5 m c), h2.trans (Cert.Kernel18Ideal.Step.final6 m c), h3.trans (Cert.Kernel18Ideal.Step.final7 m c), hk⟩
  · refine (θ_run _ _ _).mono (fun r h c => ?_) (Cert.Reference18Ideal.Value.run m' g')
    obtain ⟨h0, h1, h2, h3, hk⟩ := h c
    obtain ⟨a0, a1, a2, a3⟩ := hagree c
    refine ⟨h0.trans ?_, h1.trans ?_, h2.trans ?_, h3.trans ?_, hk⟩
    · rw [a0]
      funext i
      obtain ⟨s, k, rfl⟩ : ∃ s k, i = ix2 s k := ⟨i 0, i 1, eq_ix2 i⟩
      exact red_apply _ s k
    · rw [a0, a1, a2, a3]
      funext i
      obtain ⟨s, k, rfl⟩ : ∃ s k, i = ix2 s k := ⟨i 0, i 1, eq_ix2 i⟩
      exact d_apply _ _ _ _ s k
    · rw [a0, a2]
      funext i
      obtain ⟨s, k, rfl⟩ : ∃ s k, i = ix2 s k := ⟨i 0, i 1, eq_ix2 i⟩
      exact m_apply _ _ s k
    · rw [a0, a3]
      funext i
      obtain ⟨s, k, rfl⟩ : ∃ s k, i = ix2 s k := ⟨i 0, i 1, eq_ix2 i⟩
      exact v_apply _ _ s k

end Cert.Reference18Ideal.Step
-- ==== Proof.Cond19.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The conditioning backward, program 19: the gradients of the weight (SiLU of the conditioning, transposed, times the modulation's
gradient) and of the bias (the sum over the sequences). Point `t` of the grid is a layer. -/

set_option maxRecDepth 16384

noncomputable section

open Idealize.ShloMosaic Idealize.ShloMosaic.TcCoe Idealize.SL.Sem

namespace Cert.Kernel19Ideal.Cond

open Cert.Kernel19Ideal Cert.Kernel19Ideal.Gen

variable (m : (ℓ : Loc nD τ sig) → Buf (Elt Ideal) ℓ) (c : Dev nD)

/-- The arguments as arrays: the conditioning, the modulation's gradient in this device's columns, and in all. -/
def aC : FVec Ideal S16x1024 .f32 := m ((c : Thread nD τ).loc main_arg0)
def aM : FVec Ideal S2x16x768 .f32 := m ((c : Thread nD τ).loc main_arg1)
def aA : FVec Ideal S2x16x6144 .f32 := m ((c : Thread nD τ).loc main_arg2)

/-- The blocks of the operands at a point. -/
def bC (t : Fin cfg0.N) : FVec Ideal S16x1024 .f32 := iblk m c 0 t
def bM (t : Fin cfg0.N) : FVec Ideal S1x16x768 .f32 := iblk m c 1 t
def bA (t : Fin cfg0.N) : FVec Ideal S1x16x6144 .f32 := iblk m c 2 t

theorem idx : ∀ t : Fin cfg0.N,
    win0_0.index t = ![0, 0] ∧ win0_1.index t = ![t.val, 0, 0] ∧ win0_2.index t = ![t.val, 0, 0] ∧ win0_3.index t = ![t.val, 0, 0]
    ∧ win0_4.index t = ![t.val, 0, 0] :=
  (by decide +kernel : ∀ t : Fin grid0.N, _)

/-- The weight's gradient at a layer, a row and a column; the bias's at a layer and a column. -/
def wAt (l : Fin 2) (d : Fin 1024) (e : Fin 768) : EReal := ∑ s : Fin 16, aC m c (ix2 s d) * Ideal.div 1 (1 + Ideal.exp (0 - aC m c (ix2 s d))) * aM m c (ix3 l s e)
def vAt (l : Fin 2) (e : Fin 6144) : EReal := ∑ s : Fin 16, aA m c (ix3 l s e)

/-- The result arrays. -/
def resW : FVec Ideal S2x1024x768 .f32 := fun i => wAt m c (i 0) (i 1) (i 2)
def resV : FVec Ideal S2x1x6144 .f32 := fun i => vAt m c (i 0) (i 2)

theorem pay1_apply (x : FVec Ideal S16x1024 .f32) (g : FVec Ideal S1x16x768 .f32) (z : Fin 1) (d : Fin 1024) (e : Fin 768) :
    k0_pay1 (F := Ideal) x g (ix3 z d e) = ∑ s : Fin 16, x (ix2 s d) * Ideal.div 1 (1 + Ideal.exp (0 - x (ix2 s d))) * g (ix3 0 s e) := by
  pointwise [k0_pay1]

theorem pay2_apply (g : FVec Ideal S1x16x6144 .f32) (z z' : Fin 1) (e : Fin 6144) :
    k0_pay2 (F := Ideal) g (ix3 z z' e) = ∑ s : Fin 16, g (ix3 0 s e) := by
  pointwise [k0_pay2]

variable (t : Fin cfg0.N)

theorem bC_apply (s : Fin 16) (d : Fin 1024) : bC m c t (ix2 s d) = aC m c (ix2 s d) := by
  unfold bC aC
  blk_ext [iblk, V, idx t]

theorem bM_apply (s : Fin 16) (e : Fin 768) (l : Fin 2) (hl : l.val = t.val) : bM m c t (ix3 0 s e) = aM m c (ix3 l s e) := by
  unfold bM aM
  blk_ext [iblk, V, idx t]

theorem bA_apply (s : Fin 16) (e : Fin 6144) (l : Fin 2) (hl : l.val = t.val) : bA m c t (ix3 0 s e) = aA m c (ix3 l s e) := by
  unfold bA aA
  blk_ext [iblk, V, idx t]

theorem out3 : out0_3 (iblk m c 0 t) (iblk m c 1 t) (iblk m c 2 t) = k0_pay1 (F := Ideal) (bC m c t) (bM m c t) := by
  frame_out
  rfl

theorem out4 : out0_4 (iblk m c 0 t) (iblk m c 1 t) (iblk m c 2 t) = k0_pay2 (F := Ideal) (bA m c t) := by
  frame_out
  rfl

theorem w_at (d : Fin 1024) (e : Fin 768) (l : Fin 2) (hl : l.val = t.val) :
    (∑ s : Fin 16, bC m c t (ix2 s d) * Ideal.div 1 (1 + Ideal.exp (0 - bC m c t (ix2 s d))) * bM m c t (ix3 0 s e)) = wAt m c l d e := by
  unfold wAt
  exact Finset.sum_congr rfl fun s _ => by rw [bC_apply m c t s d, bM_apply m c t s e l hl]

theorem v_at (e : Fin 6144) (l : Fin 2) (hl : l.val = t.val) : (∑ s : Fin 16, bA m c t (ix3 0 s e)) = vAt m c l e := by
  unfold vAt
  exact Finset.sum_congr rfl fun s _ => bA_apply m c t s e l hl

theorem final3 (c : Dev nD) : (dats m 0 c).arrAt 3 cfg0.N = resW m c := by
  refine (dats m 0 c).arrAt_eq_of_covers 3 (resW m c) (by decide +kernel) fun t hf y => ?_
  blk_simp
  rw [after0_3, out3 m c t]
  obtain ⟨z, d, e, rfl⟩ : ∃ z d e, y = ix3 z d e := ⟨y 0, y 1, y 2, eq_ix3 y⟩
  have ht : t.val < 2 := lt_of_lt_of_eq t.isLt N_0
  refine (pay1_apply _ _ z d e).trans ?_
  refine (w_at m c t d e ⟨t.val, ht⟩ rfl).trans ?_
  show resW m c (ix3 ⟨t.val, by omega⟩ d e) = _
  refine congrArg (resW m c) ?_
  obtain rfl : z = 0 := Subsingleton.elim _ _
  blk_ext [idx t]

theorem final4 (c : Dev nD) : (dats m 0 c).arrAt 4 cfg0.N = resV m c := by
  refine (dats m 0 c).arrAt_eq_of_covers 4 (resV m c) (by decide +kernel) fun t hf y => ?_
  blk_simp
  rw [after0_4, out4 m c t]
  obtain ⟨z, z', e, rfl⟩ : ∃ z z' e, y = ix3 z z' e := ⟨y 0, y 1, y 2, eq_ix3 y⟩
  have ht : t.val < 2 := lt_of_lt_of_eq t.isLt N_0
  refine (pay2_apply _ z z' e).trans ?_
  refine (v_at m c t e ⟨t.val, ht⟩ rfl).trans ?_
  show resV m c (ix3 ⟨t.val, by omega⟩ 0 e) = _
  refine congrArg (resV m c) ?_
  obtain rfl : z = 0 := Subsingleton.elim _ _
  obtain rfl : z' = 0 := Subsingleton.elim _ _
  blk_ext [idx t]

end Cert.Kernel19Ideal.Cond

namespace Cert.Reference19Ideal.Cond

open Cert.Reference19Ideal Cert.Reference19Ideal.Gen

/-- The product, as the reference writes it. -/
def dotR (x : FVec Ideal S16x1024 .f32) (g : FVec Ideal S2x16x768 .f32) : FVec Ideal S2x768x1024 .f32 :=
  Host.dotGeneral dot_S2x768x16_S16x1024_S2x768x1024_2_0_01_1_n_n none
    (transpose S2x768x16 [0, 2, 1] g transposes_S2x16x768_S2x768x16_0_2_1) (mulf (F := Ideal) x (Host.divf (broadcastInDim S16x1024 ![] bcast_S_S16x1024 (constant S_ .f32 0x3F800000#32)) (addf (broadcastInDim S16x1024 ![] bcast_S_S16x1024 (constant S_ .f32 0x3F800000#32)) (Host.exp (Host.negf x)))))

theorem dotR_apply (x : FVec Ideal S16x1024 .f32) (g : FVec Ideal S2x16x768 .f32) (l : Fin 2) (e : Fin 768) (d : Fin 1024) :
    dotR x g (ix3 l e d) = ∑ s : Fin 16, g (ix3 l s e) * (x (ix2 s d) * Ideal.div 1 (1 + Ideal.exp (-x (ix2 s d)))) := by
  pointwise [dotR]

/-- The weight's gradient, as the reference writes it. -/
def wR (x : FVec Ideal S16x1024 .f32) (g : FVec Ideal S2x16x768 .f32) : FVec Ideal S2x1024x768 .f32 :=
  transpose S2x1024x768 [0, 2, 1] (dotR x g) transposes_S2x768x1024_S2x1024x768_0_2_1

theorem wR_apply (x : FVec Ideal S16x1024 .f32) (g : FVec Ideal S2x16x768 .f32) (l : Fin 2) (d : Fin 1024) (e : Fin 768) :
    wR x g (ix3 l d e) = dotR x g (ix3 l e d) := by
  unfold wR
  generalize dotR x g = q
  pointwise

theorem w_eq (x : FVec Ideal S16x1024 .f32) (g : FVec Ideal S2x16x768 .f32) (l : Fin 2) (d : Fin 1024) (e : Fin 768) :
    wR x g (ix3 l d e) = ∑ s : Fin 16, x (ix2 s d) * Ideal.div 1 (1 + Ideal.exp (0 - x (ix2 s d))) * g (ix3 l s e) := by
  rw [wR_apply, dotR_apply]
  refine Finset.sum_congr rfl fun s _ => ?_
  rw [zero_sub, mul_comm]

theorem v_eq (g : FVec Ideal S2x16x6144 .f32) (l : Fin 2) (z : Fin 1) (e : Fin 6144) :
    (broadcastInDim S2x1x6144 ![0, 2] bcast_S2x6144_S2x1x6144_0_2 (Host.reduceAdd (F := Ideal) g (constant S_ .f32 0x00000000#32)
      reducesTo_S2x16x6144_S2x6144_d1 h_S_) : FVec Ideal S2x1x6144 .f32) (ix3 l z e) = ∑ s : Fin 16, g (ix3 l s e) := by
  pointwise

theorem frame : Cert.quiescent_Reference19Ideal (hReference19Ideal := Cert.Reference19Ideal.Gen.facts) := by
  intro m ρ _
  exact (θ_run Cert.Reference19Ideal.defs _ _).mono
    (fun r h => ⟨fun c => (h c).2.2, sem_eq_zero_of_no_sems (by decide) r.2⟩) (Cert.Reference19Ideal.Value.run m ρ)

theorem algebraic : Cert.algebraic_Kernel19Ideal_Reference19Ideal (hKernel19Ideal := Cert.Kernel19Ideal.Gen.facts)
    (hReference19Ideal := Cert.Reference19Ideal.Gen.facts) := by
  intro m g m' g' _ hagree
  refine ⟨fun c => Cert.Kernel19Ideal.Cond.resW m c, fun c => Cert.Kernel19Ideal.Cond.resV m c, ?_, ?_⟩
  · refine (θ_run _ _ _).mono (fun r h c => ?_) (Cert.Kernel19Ideal.Value.run_blocks m g)
    obtain ⟨h0, h1, hk⟩ := h c
    exact ⟨h0.trans (Cert.Kernel19Ideal.Cond.final3 m c), h1.trans (Cert.Kernel19Ideal.Cond.final4 m c), hk⟩
  · refine (θ_run _ _ _).mono (fun r h c => ?_) (Cert.Reference19Ideal.Value.run m' g')
    obtain ⟨h0, h1, hk⟩ := h c
    obtain ⟨a0, a1, a2⟩ := hagree c
    refine ⟨h0.trans ?_, h1.trans ?_, hk⟩
    · rw [a0, a1]
      funext i
      obtain ⟨l, d, e, rfl⟩ : ∃ l d e, i = ix3 l d e := ⟨i 0, i 1, i 2, eq_ix3 i⟩
      exact w_eq _ _ l d e
    · rw [a2]
      funext i
      obtain ⟨l, z, e, rfl⟩ : ∃ l z e, i = ix3 l z e := ⟨i 0, i 1, i 2, eq_ix3 i⟩
      exact v_eq _ l z e

end Cert.Reference19Ideal.Cond
-- ==== Proof.Cond20.lean ====
module

public import proofs.«01_k».proof.Defs
public import proofs.«01_k».proof.Proof.Gen.Kernel20.Frame
public import proofs.«01_k».proof.Proof.Gen.Kernel20Ideal.Value
public import proofs.«01_k».proof.Proof.Gen.Reference20Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The conditioning, program 20: the modulation of every layer, SiLU of the conditioning times the weight, and the bias. Point `t` of the
grid is a layer. -/

set_option maxRecDepth 16384

noncomputable section

open Idealize.ShloMosaic Idealize.ShloMosaic.TcCoe Idealize.SL.Sem

namespace Cert.Kernel20Ideal.Cond

open Cert.Kernel20Ideal Cert.Kernel20Ideal.Gen

variable (m : (ℓ : Loc nD τ sig) → Buf (Elt Ideal) ℓ) (c : Dev nD)

/-- The arguments as arrays: the conditioning, the weight, the bias. -/
def aC : FVec Ideal S16x1024 .f32 := m ((c : Thread nD τ).loc main_arg0)
def aW : FVec Ideal S2x1024x768 .f32 := m ((c : Thread nD τ).loc main_arg1)
def aB : FVec Ideal S2x1x768 .f32 := m ((c : Thread nD τ).loc main_arg2)

/-- The blocks of the operands at a point. -/
def bC (t : Fin cfg0.N) : FVec Ideal S16x1024 .f32 := iblk m c 0 t
def bW (t : Fin cfg0.N) : FVec Ideal S1x1024x768 .f32 := iblk m c 1 t
def bB (t : Fin cfg0.N) : FVec Ideal S1x1x768 .f32 := iblk m c 2 t

theorem idx : ∀ t : Fin cfg0.N,
    win0_0.index t = ![0, 0] ∧ win0_1.index t = ![t.val, 0, 0] ∧ win0_2.index t = ![t.val, 0, 0] ∧ win0_3.index t = ![t.val, 0, 0] :=
  (by decide +kernel : ∀ t : Fin grid0.N, _)

/-- The modulation at a layer, a sequence and a column. -/
def yAt (l : Fin 2) (s : Fin 16) (e : Fin 768) : EReal :=
  (∑ d : Fin 1024, aC m c (ix2 s d) * Ideal.div 1 (1 + Ideal.exp (0 - aC m c (ix2 s d))) * aW m c (ix3 l d e)) + aB m c (ix3 l 0 e)

/-- The result array. -/
def resY : FVec Ideal S2x16x768 .f32 := fun i => yAt m c (i 0) (i 1) (i 2)

theorem pay1_apply (x : FVec Ideal S16x1024 .f32) (w : FVec Ideal S1x1024x768 .f32) (v : FVec Ideal S1x1x768 .f32)
    (z : Fin 1) (s : Fin 16) (e : Fin 768) :
    k0_pay1 (F := Ideal) x w v (ix3 z s e)
      = (∑ d : Fin 1024, x (ix2 s d) * Ideal.div 1 (1 + Ideal.exp (0 - x (ix2 s d))) * w (ix3 0 d e)) + v (ix3 0 0 e) := by
  pointwise [k0_pay1]

variable (t : Fin cfg0.N)

theorem bC_apply (s : Fin 16) (d : Fin 1024) : bC m c t (ix2 s d) = aC m c (ix2 s d) := by
  unfold bC aC
  blk_ext [iblk, V, idx t]

theorem bW_apply (d : Fin 1024) (e : Fin 768) (l : Fin 2) (hl : l.val = t.val) : bW m c t (ix3 0 d e) = aW m c (ix3 l d e) := by
  unfold bW aW
  blk_ext [iblk, V, idx t]

theorem bB_apply (e : Fin 768) (l : Fin 2) (hl : l.val = t.val) : bB m c t (ix3 0 0 e) = aB m c (ix3 l 0 e) := by
  unfold bB aB
  blk_ext [iblk, V, idx t]

theorem out3 : out0_3 (iblk m c 0 t) (iblk m c 1 t) (iblk m c 2 t)
    = k0_pay1 (F := Ideal) (bC m c t) (bW m c t) (bB m c t) := by
  frame_out
  rfl

theorem y_at (s : Fin 16) (e : Fin 768) (l : Fin 2) (hl : l.val = t.val) :
    (∑ d : Fin 1024, bC m c t (ix2 s d) * Ideal.div 1 (1 + Ideal.exp (0 - bC m c t (ix2 s d))) * bW m c t (ix3 0 d e)) + bB m c t (ix3 0 0 e) = yAt m c l s e := by
  unfold yAt
  congr 1
  · exact Finset.sum_congr rfl fun d _ => by rw [bC_apply m c t s d, bW_apply m c t d e l hl]
  · exact bB_apply m c t e l hl

theorem final3 (c : Dev nD) : (dats m 0 c).arrAt 3 cfg0.N = resY m c := by
  refine (dats m 0 c).arrAt_eq_of_covers 3 (resY m c) (by decide +kernel) fun t hf y => ?_
  blk_simp
  rw [after0_3, out3 m c t]
  obtain ⟨z, s, e, rfl⟩ : ∃ z s e, y = ix3 z s e := ⟨y 0, y 1, y 2, eq_ix3 y⟩
  have ht : t.val < 2 := lt_of_lt_of_eq t.isLt N_0
  refine (pay1_apply _ _ _ z s e).trans ?_
  refine (y_at m c t s e ⟨t.val, ht⟩ rfl).trans ?_
  show resY m c (ix3 ⟨t.val, by omega⟩ s e) = _
  refine congrArg (resY m c) ?_
  obtain rfl : z = 0 := Subsingleton.elim _ _
  blk_ext [idx t]

end Cert.Kernel20Ideal.Cond

namespace Cert.Reference20Ideal.Cond

open Cert.Reference20Ideal Cert.Reference20Ideal.Gen

/-- The product, as the reference writes it. -/
def dotR (x : FVec Ideal S16x1024 .f32) (w : FVec Ideal S2x1024x768 .f32) : FVec Ideal S2x768x16 .f32 :=
  Host.dotGeneral dot_S2x1024x768_S16x1024_S2x768x16_1_1_02_0_n_n none w (mulf (F := Ideal) x (Host.divf (broadcastInDim S16x1024 ![] bcast_S_S16x1024 (constant S_ .f32 0x3F800000#32)) (addf (broadcastInDim S16x1024 ![] bcast_S_S16x1024 (constant S_ .f32 0x3F800000#32)) (Host.exp (Host.negf x)))))

theorem dotR_apply (x : FVec Ideal S16x1024 .f32) (w : FVec Ideal S2x1024x768 .f32) (l : Fin 2) (e : Fin 768) (s : Fin 16) :
    dotR x w (ix3 l e s) = ∑ d : Fin 1024, w (ix3 l d e) * (x (ix2 s d) * Ideal.div 1 (1 + Ideal.exp (-x (ix2 s d)))) := by
  pointwise [dotR]

/-- The modulation, as the reference writes it. -/
def yR (x : FVec Ideal S16x1024 .f32) (w : FVec Ideal S2x1024x768 .f32) (v : FVec Ideal S2x1x768 .f32) : FVec Ideal S2x16x768 .f32 :=
  addf (transpose S2x16x768 [0, 2, 1] (dotR x w) transposes_S2x768x16_S2x16x768_0_2_1)
    (broadcastInDim S2x16x768 ![0, 1, 2] bcast_S2x1x768_S2x16x768_0_1_2 v)

theorem yR_apply (x : FVec Ideal S16x1024 .f32) (w : FVec Ideal S2x1024x768 .f32) (v : FVec Ideal S2x1x768 .f32)
    (l : Fin 2) (s : Fin 16) (e : Fin 768) :
    yR x w v (ix3 l s e) = dotR x w (ix3 l e s) + v (ix3 l 0 e) := by
  unfold yR
  generalize dotR x w = q
  pointwise

theorem y_eq (x : FVec Ideal S16x1024 .f32) (w : FVec Ideal S2x1024x768 .f32) (v : FVec Ideal S2x1x768 .f32)
    (l : Fin 2) (s : Fin 16) (e : Fin 768) :
    yR x w v (ix3 l s e) = (∑ d : Fin 1024, x (ix2 s d) * Ideal.div 1 (1 + Ideal.exp (0 - x (ix2 s d))) * w (ix3 l d e)) + v (ix3 l 0 e) := by
  rw [yR_apply, dotR_apply]
  congr 1
  refine Finset.sum_congr rfl fun d _ => ?_
  rw [zero_sub, mul_comm]

theorem frame : Cert.quiescent_Reference20Ideal (hReference20Ideal := Cert.Reference20Ideal.Gen.facts) := by
  intro m ρ _
  exact (θ_run Cert.Reference20Ideal.defs _ _).mono
    (fun r h => ⟨fun c => (h c).2, sem_eq_zero_of_no_sems (by decide) r.2⟩) (Cert.Reference20Ideal.Value.run m ρ)

theorem algebraic : Cert.algebraic_Kernel20Ideal_Reference20Ideal (hKernel20Ideal := Cert.Kernel20Ideal.Gen.facts)
    (hReference20Ideal := Cert.Reference20Ideal.Gen.facts) := by
  intro m g m' g' _ hagree
  refine ⟨fun c => Cert.Kernel20Ideal.Cond.resY m c, ?_, ?_⟩
  · refine (θ_run _ _ _).mono (fun r h c => ?_) (Cert.Kernel20Ideal.Value.run_blocks m g)
    obtain ⟨h0, hk⟩ := h c
    exact ⟨h0.trans (Cert.Kernel20Ideal.Cond.final3 m c), hk⟩
  · refine (θ_run _ _ _).mono (fun r h c => ?_) (Cert.Reference20Ideal.Value.run m' g')
    obtain ⟨h0, hk⟩ := h c
    obtain ⟨a0, a1, a2⟩ := hagree c
    refine ⟨h0.trans ?_, hk⟩
    rw [a0, a1, a2]
    funext i
    obtain ⟨l, s, e, rfl⟩ : ∃ l s e, i = ix3 l s e := ⟨i 0, i 1, i 2, eq_ix3 i⟩
    exact y_eq _ _ _ l s e

end Cert.Reference20Ideal.Cond
-- ==== Proof.Loss21.lean ====
module

public import proofs.«01_k».proof.Defs
public import proofs.«01_k».proof.Proof.Model
public import proofs.«01_k».proof.Proof.Gen.Kernel21.Frame
public import proofs.«01_k».proof.Proof.Gen.Kernel21Ideal.Value
public import proofs.«01_k».proof.Proof.Gen.Reference21Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

/-! The loss head, program 21: half the sum, over every row of both sequences, of the mean square of the row's error; and the error
divided by 1024, the loss's gradient. Point `t` of the grid is sequence `t / 4`, row block `t % 4`, and adds its rows to the block that
holds the loss in every entry. -/

set_option maxRecDepth 16384

noncomputable section

open Idealize.ShloMosaic Idealize.ShloMosaic.TcCoe Idealize.SL.Sem

namespace Cert.Kernel21Ideal.Loss

open Cert.Kernel21Ideal Cert.Kernel21Ideal.Gen

/-- The constant one half, and the constant two. -/
theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

variable (m : (ℓ : Loc nD τ sig) → Buf (Elt Ideal) ℓ) (c : Dev nD)

/-- The arguments as arrays: the result of the forward pass, and the target. -/
def aY : FVec Ideal S2x2048x1024 .f32 := m ((c : Thread nD τ).loc main_arg0)
def aT : FVec Ideal S2x2048x1024 .f32 := m ((c : Thread nD τ).loc main_arg1)

/-- The blocks of the operands at a point, and what the loss's block holds after a point. -/
def bY (t : Fin cfg0.N) : FVec Ideal S1x512x1024 .f32 := iblk m c 0 t
def bT (t : Fin cfg0.N) : FVec Ideal S1x512x1024 .f32 := iblk m c 1 t
def acc (n : Nat) (h : n < cfg0.N) : FVec Ideal S8x128 .f32 := (outsAt0 m c n h).1

theorem idx : ∀ t : Fin cfg0.N,
    win0_0.index t = ![t.val / 4, t.val % 4, 0] ∧ win0_1.index t = ![t.val / 4, t.val % 4, 0] ∧ win0_2.index t = ![0, 0]
    ∧ win0_3.index t = ![t.val / 4, t.val % 4, 0] :=
  (by decide +kernel : ∀ t : Fin grid0.N, _)

/-- The mean square of an error row. -/
def meanSq (e : Fin 1024 → EReal) : EReal := Model.mean (fun d => e d * e d)

theorem pay1_apply (i : Fin 8) (j : Fin 128) : k0_pay1 (F := Ideal) (ix2 i j) = 0 := by
  pointwise [k0_pay1]

theorem pay2_apply (y u : FVec Ideal S1x512x1024 .f32) (r : Fin 512) (d : Fin 1024) :
    k0_pay2 (F := Ideal) y u (ix2 r d) = y (ix3 0 r d) - u (ix3 0 r d) := by
  pointwise [k0_pay2]

theorem pay3_apply (y u : FVec Ideal S1x512x1024 .f32) (z : Fin 1) (r : Fin 512) (d : Fin 1024) :
    k0_pay3 (F := Ideal) y u (ix3 z r d) = Ideal.div (y (ix3 0 r d) - u (ix3 0 r d)) (Ideal.ofBits .f32 0x44800000#32) := by
  rw [← pay2_apply]
  unfold k0_pay3
  generalize k0_pay2 (F := Ideal) y u = p
  pointwise

theorem pay4_apply (y u : FVec Ideal S1x512x1024 .f32) (a : FVec Ideal S8x128 .f32) (i : Fin 8) (j : Fin 128) :
    k0_pay4 (F := Ideal) y u a (ix2 i j) = a (ix2 i j)
      + Ideal.ofBits .f32 0x3F000000#32 * ∑ r : Fin 512, meanSq (fun d => y (ix3 0 r d) - u (ix3 0 r d)) := by
  have h : ∀ (r : Fin 512) (d : Fin 1024), y (ix3 0 r d) - u (ix3 0 r d) = k0_pay2 (F := Ideal) y u (ix2 r d) :=
    fun r d => (pay2_apply y u r d).symm
  simp only [h]
  unfold k0_pay4 meanSq Model.mean
  generalize k0_pay2 (F := Ideal) y u = p
  pointwise
  simp only [Finset.univ_unique, Finset.sum_singleton]

variable (t : Fin cfg0.N)

theorem bY_apply (r : Fin 512) (d : Fin 1024) (b : Fin 2) (s : Fin 2048) (hb : b.val = t.val / 4) (hs : s.val = t.val % 4 * 512 + r.val) :
    bY m c t (ix3 0 r d) = aY m c (ix3 b s d) := by
  unfold bY aY
  blk_ext [iblk, V, idx t]

theorem bT_apply (r : Fin 512) (d : Fin 1024) (b : Fin 2) (s : Fin 2048) (hb : b.val = t.val / 4) (hs : s.val = t.val % 4 * 512 + r.val) :
    bT m c t (ix3 0 r d) = aT m c (ix3 b s d) := by
  unfold bT aT
  blk_ext [iblk, V, idx t]

theorem acc_A (h : t.val % 8 = 0) : acc m c t.val t.isLt = k0_pay4 (F := Ideal) (bY m c t) (bT m c t) (k0_pay1 (F := Ideal)) := by
  unfold acc
  rw [outsAt0_A m c t h]
  frame_out
  rfl

theorem acc_B (h : ¬t.val % 8 = 0) : acc m c t.val t.isLt
    = k0_pay4 (F := Ideal) (bY m c t) (bT m c t) (acc m c (t.val - 1) (Nat.lt_of_le_of_lt (Nat.sub_le _ _) t.isLt)) := by
  unfold acc
  rw [outsAt0_B m c t h]
  frame_out
  rfl

theorem out3 : (outsAt0 m c t.val t.isLt).2 = k0_pay3 (F := Ideal) (bY m c t) (bT m c t) := by
  by_cases h : t.val % 8 = 0
  · rw [outsAt0_A m c t h]
    frame_out
    rfl
  · rw [outsAt0_B m c t h]
    frame_out
    rfl

/-- The error at a sequence, a row and a column. -/
def errAt (b : Fin 2) (s : Fin 2048) (d : Fin 1024) : EReal := aY m c (ix3 b s d) - aT m c (ix3 b s d)

/-- The mean squares of all rows, added, and halved; the gradient. -/
def lossAt : EReal := Ideal.ofBits .f32 0x3F000000#32 * ∑ b : Fin 2, ∑ s : Fin 2048, meanSq (fun d => errAt m c b s d)
def dyAt (b : Fin 2) (s : Fin 2048) (d : Fin 1024) : EReal := Ideal.div (errAt m c b s d) (Ideal.ofBits .f32 0x44800000#32)

/-- The result arrays. -/
def resL : FVec Ideal S8x128 .f32 := fun _ => lossAt m c
def resD : FVec Ideal S2x2048x1024 .f32 := fun i => dyAt m c (i 0) (i 1) (i 2)

/-- A point's rows. -/
def rows (t : Fin cfg0.N) : EReal := ∑ r : Fin 512, meanSq (fun d => bY m c t (ix3 0 r d) - bT m c t (ix3 0 r d))

theorem acc_reset (h : t.val % 8 = 0) (i : Fin 8) (j : Fin 128) :
    acc m c t.val t.isLt (ix2 i j) = 0 + Ideal.ofBits .f32 0x3F000000#32 * rows m c t := by
  rw [acc_A m c t h, pay4_apply, pay1_apply]
  rfl

theorem acc_step (h : ¬t.val % 8 = 0) (i : Fin 8) (j : Fin 128) :
    acc m c t.val t.isLt (ix2 i j) = acc m c (t.val - 1) (Nat.lt_of_le_of_lt (Nat.sub_le _ _) t.isLt) (ix2 i j)
      + Ideal.ofBits .f32 0x3F000000#32 * rows m c t := by
  rw [acc_B m c t h, pay4_apply]
  rfl

theorem rows_eq (b : Fin 2) (q : Fin 4) (ht : t.val = 4 * b.val + q.val) :
    rows m c t = ∑ r : Fin 512, meanSq (fun d => errAt m c b ⟨q.val * 512 + r.val, by omega⟩ d) := by
  unfold rows errAt
  have hb := b.isLt
  have hq := q.isLt
  refine Finset.sum_congr rfl fun r _ => ?_
  refine congrArg meanSq (funext fun d => ?_)
  rw [bY_apply m c t r d b ⟨q.val * 512 + r.val, by omega⟩ (by omega) (by simp only; omega),
    bT_apply m c t r d b ⟨q.val * 512 + r.val, by omega⟩ (by omega) (by simp only; omega)]

/-- One half comes out of the sum of the eight points. -/
theorem half_sum (f : Fin 8 → EReal) :
    ∑ k, Ideal.ofBits .f32 0x3F000000#32 * f k = Ideal.ofBits .f32 0x3F000000#32 * ∑ k, f k := by
  rw [ofBits_half, mul_comm _ (∑ k, f k), ← Model.sum_mul_coe f (by norm_num : (0 : ℝ) ≤ 1 / 2)]
  exact Finset.sum_congr rfl fun k _ => mul_comm _ _

theorem sum_points : ∑ k : Fin 8, rows m c ⟨k.val, by rw [show cfg0.N = 8 from N_0]; exact k.isLt⟩
    = ∑ b : Fin 2, ∑ s : Fin 2048, meanSq (fun d => errAt m c b s d) := by
  rw [Fin.sum_univ_tiles 2 4 rfl]
  refine Finset.sum_congr rfl fun b _ => ?_
  rw [Fin.sum_univ_tiles 4 512 rfl]
  refine Finset.sum_congr rfl fun q _ => ?_
  exact rows_eq m c _ b q (by simp only; omega)

theorem last (h : t.val % 8 = 7) (i : Fin 8) (j : Fin 128) : acc m c t.val t.isLt (ix2 i j) = lossAt m c := by
  have ht : t.val < 8 := lt_of_lt_of_eq t.isLt N_0
  have e := Pipeline.eq_sum_fin_of_reset_step_apply_of_flush (fun n h (i : Fin 8 × Fin 128) => acc m c n h (ix2 i.1 i.2)) 8
    (fun _ => 0) (fun t _ => Ideal.ofBits .f32 0x3F000000#32 * rows m c t)
    (fun t h i => acc_reset m c t h i.1 i.2) (fun t h i => acc_step m c t h i.1 i.2) t h (i, j)
  simp only at e
  rw [e, zero_add, half_sum]
  unfold lossAt
  rw [← sum_points m c]
  refine congrArg _ (Finset.sum_congr rfl fun k _ => ?_)
  refine congrArg (rows m c) (Fin.ext ?_)
  simp only
  omega

theorem final2 (c : Dev nD) : (dats m 0 c).arrAt 2 cfg0.N = resL m c := by
  refine (dats m 0 c).arrAt_eq_of_covers 2 (resL m c) (by decide +kernel) fun t hf y => ?_
  have h7 := (flush0_2 t).mp hf
  blk_simp
  rw [after0_2]
  obtain ⟨i, j, rfl⟩ : ∃ i j, y = ix2 i j := ⟨y 0, y 1, eq_ix2 y⟩
  exact last m c t h7 i j

theorem final3 (c : Dev nD) : (dats m 0 c).arrAt 3 cfg0.N = resD m c := by
  refine (dats m 0 c).arrAt_eq_of_covers 3 (resD m c) (by decide +kernel) fun t hf y => ?_
  blk_simp
  rw [after0_3, out3 m c t]
  obtain ⟨z, r, d, rfl⟩ : ∃ z r d, y = ix3 z r d := ⟨y 0, y 1, y 2, eq_ix3 y⟩
  have ht : t.val < 8 := lt_of_lt_of_eq t.isLt N_0
  have hr : r.val < 512 := r.isLt
  refine (pay3_apply _ _ z r d).trans ?_
  rw [bY_apply m c t r d ⟨t.val / 4, by omega⟩ ⟨t.val % 4 * 512 + r.val, by omega⟩ rfl rfl,
    bT_apply m c t r d ⟨t.val / 4, by omega⟩ ⟨t.val % 4 * 512 + r.val, by omega⟩ rfl rfl]
  show resD m c (ix3 ⟨t.val / 4, by omega⟩ ⟨t.val % 4 * 512 + r.val, by omega⟩ d) = _
  refine congrArg (resD m c) ?_
  obtain rfl : z = 0 := Subsingleton.elim _ _
  blk_ext [idx t]

end Cert.Kernel21Ideal.Loss

namespace Cert.Reference21Ideal.Loss

open Cert.Reference21Ideal Cert.Reference21Ideal.Gen
open Cert.Kernel21Ideal.Loss (meanSq ofBits_half ofBits_two)

/-- The rows' mean squares, as the reference writes them. -/
def meanR (y u : FVec Ideal S2x2048x1024 .f32) : FVec Ideal S2x2048 .f32 :=
  Host.divf (Host.reduceAdd (mulf (subf y u) (subf y u)) (constant S_ .f32 0x00000000#32) reducesTo_S2x2048x1024_S2x2048_d2 h_S_)
    (broadcastInDim S2x2048 ![] bcast_S_S2x2048 (constant S_ .f32 0x44800000#32))

theorem meanR_apply (y u : FVec Ideal S2x2048x1024 .f32) (b : Fin 2) (s : Fin 2048) :
    meanR y u (ix2 b s) = meanSq (fun d => y (ix3 b s d) - u (ix3 b s d)) := by
  unfold meanSq Model.mean
  pointwise [meanR]

/-- The loss, as the reference writes it. -/
def lossR (y u : FVec Ideal S2x2048x1024 .f32) : FVec Ideal S8x128 .f32 :=
  broadcastInDim S8x128 ![] bcast_S_S8x128 (mulf (constant S_ .f32 0x3F000000#32)
    (Host.reduceAdd (meanR y u) (constant S_ .f32 0x00000000#32) reducesTo_S2x2048_S_d0_1 h_S_))

theorem lossR_apply (y u : FVec Ideal S2x2048x1024 .f32) (i : Fin 8) (j : Fin 128) :
    lossR y u (ix2 i j) = Ideal.ofBits .f32 0x3F000000#32
      * ∑ b : Fin 2, ∑ s : Fin 2048, meanSq (fun d => y (ix3 b s d) - u (ix3 b s d)) := by
  have h : ∀ (b : Fin 2) (s : Fin 2048), meanSq (fun d => y (ix3 b s d) - u (ix3 b s d)) = meanR y u (ix2 b s) :=
    fun b s => (meanR_apply y u b s).symm
  simp only [h]
  unfold lossR
  generalize meanR y u = p
  pointwise

theorem dy_apply (y u : FVec Ideal S2x2048x1024 .f32) (b : Fin 2) (s : Fin 2048) (d : Fin 1024) :
    mulf (F := Ideal) (broadcastInDim S2x2048x1024 ![0, 1] bcast_S2x2048_S2x2048x1024_0_1
      (Host.divf (broadcastInDim S2x2048 ![] bcast_S_S2x2048 (mulf (constant S_ .f32 0x3F000000#32) (constant S_ .f32 0x3F800000#32)))
        (broadcastInDim S2x2048 ![] bcast_S_S2x2048 (constant S_ .f32 0x44800000#32))))
      (mulf (broadcastInDim S2x2048x1024 ![] bcast_S_S2x2048x1024 (constant S_ .f32 0x40000000#32)) (subf y u)) (ix3 b s d)
      = Ideal.div (y (ix3 b s d) - u (ix3 b s d)) (Ideal.ofBits .f32 0x44800000#32) := by
  have h : mulf (F := Ideal) (broadcastInDim S2x2048x1024 ![0, 1] bcast_S2x2048_S2x2048x1024_0_1
      (Host.divf (broadcastInDim S2x2048 ![] bcast_S_S2x2048 (mulf (constant S_ .f32 0x3F000000#32) (constant S_ .f32 0x3F800000#32)))
        (broadcastInDim S2x2048 ![] bcast_S_S2x2048 (constant S_ .f32 0x44800000#32))))
      (mulf (broadcastInDim S2x2048x1024 ![] bcast_S_S2x2048x1024 (constant S_ .f32 0x40000000#32)) (subf y u)) (ix3 b s d)
      = Ideal.div (Ideal.ofBits .f32 0x3F000000#32 * 1) (Ideal.ofBits .f32 0x44800000#32)
        * (Ideal.ofBits .f32 0x40000000#32 * (y (ix3 b s d) - u (ix3 b s d))) := by
    pointwise
  rw [h, mul_one, Model.ofBits_1024, Ideal.div_coe (by norm_num), Ideal.div_coe (by norm_num), ofBits_half, ofBits_two,
    ← mul_assoc, mul_comm (((1 / 2 : ℝ) : EReal) * ((1 / 1024 : ℝ) : EReal) * ((2 : ℝ) : EReal)), ← EReal.coe_mul, ← EReal.coe_mul]
  congr 2
  norm_num

theorem frame : Cert.quiescent_Reference21Ideal (hReference21Ideal := Cert.Reference21Ideal.Gen.facts) := by
  intro m ρ _
  exact (θ_run Cert.Reference21Ideal.defs _ _).mono
    (fun r h => ⟨fun c => (h c).2.2, sem_eq_zero_of_no_sems (by decide) r.2⟩) (Cert.Reference21Ideal.Value.run m ρ)

theorem algebraic : Cert.algebraic_Kernel21Ideal_Reference21Ideal (hKernel21Ideal := Cert.Kernel21Ideal.Gen.facts)
    (hReference21Ideal := Cert.Reference21Ideal.Gen.facts) := by
  intro m g m' g' _ hagree
  refine ⟨fun c => Cert.Kernel21Ideal.Loss.resL m c, fun c => Cert.Kernel21Ideal.Loss.resD m c, ?_, ?_⟩
  · refine (θ_run _ _ _).mono (fun r h c => ?_) (Cert.Kernel21Ideal.Value.run_blocks m g)
    obtain ⟨h0, h1, hk⟩ := h c
    exact ⟨h0.trans (Cert.Kernel21Ideal.Loss.final2 m c), h1.trans (Cert.Kernel21Ideal.Loss.final3 m c), hk⟩
  · refine (θ_run _ _ _).mono (fun r h c => ?_) (Cert.Reference21Ideal.Value.run m' g')
    obtain ⟨h0, h1, hk⟩ := h c
    obtain ⟨a0, a1⟩ := hagree c
    refine ⟨h0.trans ?_, h1.trans ?_, hk⟩
    · rw [a0, a1]
      funext i
      obtain ⟨i, j, rfl⟩ : ∃ k j, i = ix2 k j := ⟨i 0, i 1, eq_ix2 i⟩
      exact lossR_apply _ _ i j
    · rw [a0, a1]
      funext i
      obtain ⟨b, s, d, rfl⟩ : ∃ b s d, i = ix3 b s d := ⟨i 0, i 1, i 2, eq_ix3 i⟩
      exact dy_apply _ _ b s d

end Cert.Reference21Ideal.Loss
-- ==== Proof.Bias22.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent
public import Idealize.ShloMosaic.Lib.Routing.OpsPair

@[expose] public section

set_option maxRecDepth 65536

noncomputable section

open Idealize.ShloMosaic Idealize.ShloMosaic.TcCoe Idealize.SL.Sem

namespace Cert.Kernel22Ideal.Bias

open Cert.Kernel22Ideal Cert.Kernel22Ideal.Gen

/-- One step of the body: the sum over the places of bucket `t` put into row `h`, column `t`. -/
def step (h t : BitVec 32) (bk : IVec S128x256 32) (row col : IVec S8x128 32) (db : FVec Ideal S128x256 .f32) (res : FVec Ideal S8x128 .f32) :
    FVec Ideal S8x128 .f32 :=
  select (andi (cmpi .eq row (broadcast S8x128 h)) (cmpi .eq col (broadcast S8x128 t)))
    (broadcastTo S8x128 (shapeCast S1x1 (broadcast S1x1 (extractAt ![0, 0, 0] (shapeCast S1x1x1
      (multiReduction .add [1, 2] S1 (shapeCast S1x128x256 (select (cmpi .eq bk (broadcast S128x256 t)) db
        (broadcast S128x256 (Scalar.ofBits .f32 0x00000000#32 : Ideal .f32))) shapeCasts_S128x256_S1x128x256) 0x00000000#32 reduces_S1x128x256_S1 (.inl rfl) rfl)
      shapeCasts_S1_S1x1x1) inpos_S1x1x1_p0_0_0)) shapeCasts_S1x1_S1x1) broadcasts_S1x1_S8x128) res

/-- The slice of one head. -/
def slice (x0 : FVec Ideal S6x128x256 .f32) : Nat → FVec Ideal S128x256 .f32
  | 0 => k0_pay3 (View.ld x0 r0_1)
  | 1 => k0_pay3 (View.ld x0 r0_2)
  | 2 => k0_pay3 (View.ld x0 r0_3)
  | 3 => k0_pay3 (View.ld x0 r0_4)
  | 4 => k0_pay3 (View.ld x0 r0_5)
  | _ => k0_pay3 (View.ld x0 r0_6)

/-- The body's steps, head by head and bucket by bucket. -/
def chain (x0 : FVec Ideal S6x128x256 .f32) (x1 : IVec S128x256 32) : Nat → FVec Ideal S8x128 .f32
  | 0 => broadcast S8x128 (Scalar.ofBits .f32 0x00000000#32 : Ideal .f32)
  | n + 1 => step (BitVec.ofNat 32 (n / 32)) (BitVec.ofNat 32 (n % 32)) (k0_pay2 (F := Ideal) (View.ld x1 r0_0))
      (iota .tc S8x128 32 [0] iota_S8x128_d0_w32) (iota .tc S8x128 32 [1] iota_S8x128_d1_w32) (slice x0 (n / 32)) (chain x0 x1 n)

theorem out_eq (x0 : FVec Ideal S6x128x256 .f32) (x1 : IVec S128x256 32) : out0_2 (F := Ideal) x0 x1 = chain x0 x1 192 := by
  unfold out0_2
  refine (View.canon_cons_unit_lit _ _ _ (by decide)).trans ?_
  rfl

/-- The sum of a head's entries at the places of one bucket. -/
def bucketSum (bk : IVec S128x256 32) (t : BitVec 32) (db : Fin 128 → Fin 256 → EReal) : EReal :=
  ∑ a : Fin 128, ∑ b : Fin 256, if bk (ix2 a b) = t then db a b else 0

theorem select_eq {α : Type} (x y : BitVec 32) (a b : α) : Scalar.select (IntOp.cmpi .eq x y) a b = if x = y then a else b := by
  by_cases h : x = y
  · simp [Scalar.select, IntOp.cmpi, h]
  · have e : (x == y) = false := by simpa using h
    simp [Scalar.select, IntOp.cmpi, e, h]

theorem select_and {α : Type} (x y u v : BitVec 32) (a b : α) :
    Scalar.select (IntOp.andi (IntOp.cmpi .eq x y) (IntOp.cmpi .eq u v)) a b = if x = y ∧ u = v then a else b := by
  have e : (x == y) = decide (x = y) := rfl
  have f : (u == v) = decide (u = v) := rfl
  by_cases h : x = y <;> by_cases k : u = v <;> simp [Scalar.select, IntOp.cmpi, IntOp.andi, e, f, h, k]

theorem step_apply (h t : BitVec 32) (bk : IVec S128x256 32) (db : FVec Ideal S128x256 .f32) (res : FVec Ideal S8x128 .f32)
    (r : Fin 8) (k : Fin 128) :
    step h t bk (iota .tc S8x128 32 [0] iota_S8x128_d0_w32) (iota .tc S8x128 32 [1] iota_S8x128_d1_w32) db res (ix2 r k)
      = if BitVec.ofNat 32 r.val = h ∧ BitVec.ofNat 32 k.val = t then bucketSum bk t (fun a b => db (ix2 a b)) else res (ix2 r k) := by
  pointwise [step, bucketSum]
  rw [select_and]
  simp only [select_eq]

theorem slice_apply (x0 : FVec Ideal S6x128x256 .f32) (h : Fin 6) (a : Fin 128) (b : Fin 256) :
    slice x0 h.val (ix2 a b) = x0 (ix3 h a b) := by
  fin_cases h <;> (unfold slice; pointwise [k0_pay3])

/-- After `n` steps the first `n` buckets are filled in. -/
theorem chain_apply (x0 : FVec Ideal S6x128x256 .f32) (x1 : IVec S128x256 32) (r : Fin 8) (k : Fin 128) (n : Nat) (hn : n ≤ 192) :
    chain x0 x1 n (ix2 r k) = if h : r.val * 32 + k.val < n ∧ k.val < 32 then
      bucketSum x1 (BitVec.ofNat 32 k.val) (fun a b => x0 (ix3 ⟨r.val, by omega⟩ a b)) else 0 := by
  have hr := r.isLt
  have hk := k.isLt
  induction n with
  | zero =>
    rw [dif_neg (by omega)]
    unfold chain
    pointwise
  | succ n ih =>
    rw [show chain x0 x1 (n + 1) = step (BitVec.ofNat 32 (n / 32)) (BitVec.ofNat 32 (n % 32)) (k0_pay2 (F := Ideal) (View.ld x1 r0_0))
      (iota .tc S8x128 32 [0] iota_S8x128_d0_w32) (iota .tc S8x128 32 [1] iota_S8x128_d1_w32) (slice x0 (n / 32)) (chain x0 x1 n) from rfl,
      step_apply, ih (by omega)]
    have e : k0_pay2 (F := Ideal) (View.ld x1 r0_0) = x1 := by
      funext i
      obtain ⟨a, b, rfl⟩ : ∃ a b, i = ix2 a b := ⟨i 0, i 1, eq_ix2 i⟩
      pointwise [k0_pay2]
    rw [e]
    have e1 : BitVec.ofNat 32 r.val = BitVec.ofNat 32 (n / 32) ↔ r.val = n / 32 := by
      constructor
      · intro h
        have := congrArg BitVec.toNat h
        simp only [BitVec.toNat_ofNat] at this
        omega
      · intro h
        rw [h]
    have e2 : BitVec.ofNat 32 k.val = BitVec.ofNat 32 (n % 32) ↔ k.val = n % 32 := by
      constructor
      · intro h
        have := congrArg BitVec.toNat h
        simp only [BitVec.toNat_ofNat] at this
        omega
      · intro h
        rw [h]
    simp only [e1, e2]
    by_cases h : r.val = n / 32 ∧ k.val = n % 32
    · obtain ⟨h1, h2⟩ := h
      rw [if_pos ⟨h1, h2⟩, dif_pos (by omega), ← h2, ← h1]
      refine congrArg (bucketSum x1 _) (funext fun a => funext fun b => ?_)
      exact slice_apply x0 ⟨r.val, by omega⟩ a b
    · rw [if_neg h]
      by_cases g : r.val * 32 + k.val < n ∧ k.val < 32
      · rw [dif_pos g, dif_pos (by omega)]
      · rw [dif_neg g, dif_neg (by omega)]

variable (m : (ℓ : Loc nD τ sig) → Buf (Elt Ideal) ℓ) (c : Dev nD)

/-- The gradient of the bias, and the buckets of the places. -/
def aB : FVec Ideal S6x128x256 .f32 := m ((c : Thread nD τ).loc main_arg0)
def aK : IVec S128x256 32 := V m c main_v28

/-- The result: the bucket sums, and zeros in the rows and columns past the table. -/
def resG : FVec Ideal S8x128 .f32 := fun i => if h : (i 0).val < 6 ∧ (i 1).val < 32 then
  bucketSum (aK m c) (BitVec.ofNat 32 (i 1).val) (fun a b => aB m c (ix3 ⟨(i 0).val, h.1⟩ a b)) else 0

theorem idx : ∀ t : Fin cfg0.N, win0_0.index t = ![0, 0, 0] ∧ win0_1.index t = ![0, 0] ∧ win0_2.index t = ![0, 0] :=
  (by decide +kernel : ∀ t : Fin grid0.N, _)

variable (t : Fin cfg0.N)

theorem b0_eq : (iblk m c 0 t : FVec Ideal S6x128x256 .f32) = aB m c := by
  funext i
  obtain ⟨h, a, b, rfl⟩ : ∃ h a b, i = ix3 h a b := ⟨i 0, i 1, i 2, eq_ix3 i⟩
  unfold aB
  blk_ext [iblk, V, idx t]

theorem b1_eq : (iblk m c 1 t : IVec S128x256 32) = aK m c := by
  funext i
  obtain ⟨a, b, rfl⟩ : ∃ a b, i = ix2 a b := ⟨i 0, i 1, eq_ix2 i⟩
  unfold aK
  blk_ext [iblk, idx t]

theorem final2 (c : Dev nD) : (dats m 0 c).arrAt 2 cfg0.N = resG m c := by
  refine (dats m 0 c).arrAt_eq_of_covers 2 (resG m c) (by decide +kernel) fun t hf y => ?_
  blk_simp
  rw [after0_2, b0_eq m c t, b1_eq m c t, out_eq]
  obtain ⟨r, k, rfl⟩ : ∃ r k, y = ix2 r k := ⟨y 0, y 1, eq_ix2 y⟩
  refine (chain_apply _ _ r k 192 (le_refl _)).trans ?_
  have e : resG m c (ix2 r k) = if h : r.val < 6 ∧ k.val < 32 then
      bucketSum (aK m c) (BitVec.ofNat 32 k.val) (fun a b => aB m c (ix3 ⟨r.val, h.1⟩ a b)) else 0 := rfl
  trans resG m c (ix2 r k)
  · rw [e]
    by_cases g : r.val < 6 ∧ k.val < 32
    · rw [dif_pos (by omega), dif_pos g]
    · rw [dif_neg (by omega), dif_neg g]
  · refine congrArg (resG m c) ?_
    blk_ext [idx t]

/-- The distance of a place's query and key, at least zero. -/
def dist : IVec S128x256 32 :=
  maxsi (subi (broadcastInDim S128x256 ![0, 1] bcast_S128x1_S128x256_0_1 (addi (broadcastInDim S128x1 ![] bcast_S_S128x1 (constantI S_ 32 128#32))
      (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0))))
    (broadcastInDim S128x256 ![] bcast_S_S128x256 (constantI S_ 32 0#32))

/-- The buckets of the places: the distance itself below 16, past it by the distance's logarithm, 31 at most. -/
def bucket : IVec S128x256 32 :=
  select (cmpi .slt dist (broadcastInDim S128x256 ![] bcast_S_S128x256 (constantI S_ 32 16#32))) dist
    (minsi (addi (broadcastInDim S128x256 ![] bcast_S_S128x256 (constantI S_ 32 16#32))
      (fptosi 32 (mulf (Host.divf (Host.log (Host.divf (sitofp .f32 (maxsi dist (broadcastInDim S128x256 ![] bcast_S_S128x256 (constantI S_ 32 1#32))))
          (broadcastInDim S128x256 ![] bcast_S_S128x256 (constant S_ .f32 0x41800000#32))))
        (broadcastInDim S128x256 ![] bcast_S_S128x256 (constant S_ .f32 0x40051592#32)))
        (broadcastInDim S128x256 ![] bcast_S_S128x256 (constant S_ .f32 0x41800000#32)) : FVec Ideal S128x256 .f32)))
      (broadcastInDim S128x256 ![] bcast_S_S128x256 (constantI S_ 32 31#32)))

theorem aK_eq : aK m c = bucket := by
  unfold aK
  entry_read
  rfl

/-- The distance's word of a place. -/
def dw (a : Fin 128) (b : Fin 256) : BitVec 32 :=
  IntOp.maxsi (IntOp.subi (IntOp.addi 128#32 (BitVec.ofNat 32 a.val)) (BitVec.ofNat 32 b.val)) 0#32

theorem dist_apply (a : Fin 128) (b : Fin 256) : dist (ix2 a b) = dw a b := by
  pointwise [dist, dw]

theorem dw_range (a : Fin 128) (b : Fin 256) : 0 ≤ (dw a b).toInt ∧ (dw a b).toInt ≤ 255 := by
  have ha := a.isLt
  have hb := b.isLt
  unfold dw IntOp.maxsi IntOp.subi IntOp.addi
  have e : (128#32 + BitVec.ofNat 32 a.val - BitVec.ofNat 32 b.val).toInt = 128 + (a.val : Int) - b.val := by
    rw [BitVec.toInt_sub, BitVec.toInt_add]
    rw [BitVec.toInt_eq_toNat_cond (BitVec.ofNat 32 a.val), BitVec.toInt_eq_toNat_cond (BitVec.ofNat 32 b.val), BitVec.toInt_eq_toNat_cond 128#32]
    simp only [BitVec.toNat_ofNat, Int.bmod]
    omega
  simp only [BitVec.slt, e]
  split
  · next h =>
    have h := of_decide_eq_true h
    rw [e]
    simp at h
    omega
  · simp

theorem ofBits_16 : Ideal.ofBits .f32 0x41800000#32 = ((16 : ℝ) : EReal) := by
  simp [Ideal.ofBits, Ideal.ieee, -EReal.coe_mul]; norm_num

theorem ofBits_log8 : Ideal.ofBits .f32 0x40051592#32 = ((8721810 / 4194304 : ℝ) : EReal) := by
  simp [Ideal.ofBits, Ideal.ieee, -EReal.coe_mul]; norm_num

/-- The real a distance's logarithm is read at. -/
theorem log_word (k : Int) (h : 16 ≤ k) (h' : k ≤ 255) :
    ∃ z : Int, 0 ≤ z ∧ z ≤ 1000 ∧ Ideal.fptosi 32 (Ideal.div (Ideal.log (Ideal.div ((k : ℝ) : EReal) (Ideal.ofBits .f32 0x41800000#32)))
      (Ideal.ofBits .f32 0x40051592#32) * Ideal.ofBits .f32 0x41800000#32) = BitVec.ofInt 32 z := by
  have hk : (16 : ℝ) ≤ k := by exact_mod_cast h
  have hk' : (k : ℝ) ≤ 255 := by exact_mod_cast h'
  have d : Ideal.div ((k : ℝ) : EReal) ((16 : ℝ) : EReal) = (((k : ℝ) * (1 / 16) : ℝ) : EReal) := by
    rw [Ideal.div_coe (by norm_num), ← EReal.coe_mul]
  rw [ofBits_16, ofBits_log8, d, Ideal.log_coe, if_neg (by intro g; linarith), Ideal.div_coe (by norm_num), ← EReal.coe_mul, ← EReal.coe_mul]
  have l0 : 0 ≤ Real.log ((k : ℝ) * (1 / 16)) := Real.log_nonneg (by linarith)
  have l1 : Real.log ((k : ℝ) * (1 / 16)) ≤ (k : ℝ) * (1 / 16) - 1 := Real.log_le_sub_one_of_pos (by linarith)
  generalize hr : Real.log ((k : ℝ) * (1 / 16)) * (1 / (8721810 / 4194304)) * 16 = r
  have r0 : 0 ≤ r := by rw [← hr]; positivity
  have r1 : r ≤ 1000 := by rw [← hr]; linarith
  have f0 : 0 ≤ ⌊r⌋ := Int.floor_nonneg.2 r0
  have f1 : ⌊r⌋ ≤ 1000 := by
    have := Int.floor_le r
    have : (⌊r⌋ : ℝ) ≤ (1000 : Int) := by push_cast; linarith
    exact_mod_cast this
  refine ⟨⌊r⌋, f0, f1, ?_⟩
  show BitVec.ofInt 32 (max (-(2 ^ (32 - 1) : Nat)) (min ((2 ^ (32 - 1) : Nat) - 1) (if 0 ≤ r then ⌊r⌋ else ⌈r⌉))) = _
  rw [if_pos r0, min_eq_right (by norm_num; omega), max_eq_right (by norm_num; omega)]

theorem word_nonneg (w : BitVec 32) (h0 : 0 ≤ w.toInt) (h1 : w.toInt ≤ 255) :
    0 ≤ (Scalar.select (IntOp.cmpi CmpIPredicate.slt w 16#32) w (IntOp.minsi (IntOp.addi (16#32)
      (FloatOps.fptosi (F := Ideal) (φ := .f32) 32 (Ideal.div (Ideal.log (Ideal.div (FloatOps.sitofp (F := Ideal) FTy.f32 (IntOp.maxsi w 1#32))
        (Ideal.ofBits FTy.f32 1098907648#32))) (Ideal.ofBits FTy.f32 1074075026#32) * Ideal.ofBits FTy.f32 1098907648#32))) 31#32)).toInt := by
  have e16 : (16#32 : BitVec 32).toInt = 16 := by decide
  by_cases h : w.toInt < 16
  · have : Scalar.select (IntOp.cmpi CmpIPredicate.slt w 16#32) w (IntOp.minsi (IntOp.addi (16#32)
      (FloatOps.fptosi (F := Ideal) (φ := .f32) 32 (Ideal.div (Ideal.log (Ideal.div (FloatOps.sitofp (F := Ideal) FTy.f32 (IntOp.maxsi w 1#32))
        (Ideal.ofBits FTy.f32 1098907648#32))) (Ideal.ofBits FTy.f32 1074075026#32) * Ideal.ofBits FTy.f32 1098907648#32))) 31#32) = w := by
      simp [Scalar.select, IntOp.cmpi, BitVec.slt, e16, h]
    rw [this]
    exact h0
  · have e : IntOp.maxsi w 1#32 = w := by
      unfold IntOp.maxsi
      have : (1#32 : BitVec 32).toInt = 1 := by decide
      simp [BitVec.slt, this]
      intro g
      omega
    obtain ⟨z, z0, z1, hz⟩ := log_word w.toInt (by omega) h1
    rw [e, show FloatOps.sitofp (F := Ideal) FTy.f32 w = ((w.toInt : ℝ) : EReal) from rfl]
    rw [show ∀ x : EReal, FloatOps.fptosi (F := Ideal) (φ := .f32) 32 x = Ideal.fptosi 32 x from fun _ => rfl, hz]
    have ez : (BitVec.ofInt 32 z).toInt = z := by
      rw [BitVec.toInt_ofInt, Int.bmod]
      norm_num
      omega
    have es : (16#32 + BitVec.ofInt 32 z).toInt = 16 + z := by
      rw [BitVec.toInt_add, ez, e16, Int.bmod]
      norm_num
      omega
    simp only [Scalar.select, IntOp.cmpi, BitVec.slt, e16, h, IntOp.minsi, IntOp.addi, es]
    simp
    split
    · rw [es]; omega
    · decide

theorem bucket_nonneg (a : Fin 128) (b : Fin 256) : 0 ≤ (bucket (ix2 a b)).toInt := by
  obtain ⟨h0, h1⟩ := dw_range a b
  have h := word_nonneg _ h0 h1
  rw [← dist_apply a b] at h
  pointwise [bucket]
  exact h

end Cert.Kernel22Ideal.Bias

namespace Cert.Reference22Ideal.Bias

open Cert.Reference22Ideal Cert.Reference22Ideal.Gen
open Cert.Kernel22Ideal.Bias (bucketSum)

/-- The places' scatter indices: a bucket below zero would count from the table's end. -/
def wrap (bk : IVec S128x256 32) : IVec S128x256x1 32 :=
  broadcastInDim S128x256x1 ![0, 1] bcast_S128x256_S128x256x1_0_1 (select (cmpi .slt bk (broadcastInDim S128x256 ![] bcast_S_S128x256 (constantI S_ 32 0#32)))
    (addi bk (broadcastInDim S128x256 ![] bcast_S_S128x256 (constantI S_ 32 32#32))) bk)

/-- The reference's scatter: every place's gradient added to its bucket's row. -/
def sumR (bk : IVec S128x256 32) (db : FVec Ideal S6x128x256 .f32) : FVec Ideal S6x32 .f32 :=
  transpose S6x32 [1, 0] (Host.scatterAdd scatter_S32x6_S128x256x1_S128x256x6_2_0_0_2
    (broadcastInDim S32x6 ![] bcast_S_S32x6 (constant S_ .f32 0x00000000#32)) (wrap bk)
    (transpose S128x256x6 [1, 2, 0] db transposes_S6x128x256_S128x256x6_1_2_0)) transposes_S32x6_S6x32_1_0

theorem wrap_apply (bk : IVec S128x256 32) (a : Fin 128) (b : Fin 256) (h : 0 ≤ (bk (ix2 a b)).toInt) (z : Fin 1) :
    wrap bk (ix3 a b z) = bk (ix2 a b) := by
  pointwise [wrap]
  have e : (0#32 : BitVec 32).toInt = 0 := by decide
  have g : ¬ (bk (ix2 a b)).toInt < 0 := by omega
  simp [Scalar.select, IntOp.cmpi, BitVec.slt, e, g]

theorem lands (idx : IVec S128x256x1 32) (a : Fin 128) (b : Fin 256) (h' : Fin 6) (t : Fin 32) (h : Fin 6) :
    (scatter_S32x6_S128x256x1_S128x256x6_2_0_0_2).resultIdx? (ix3 a b h') idx = some (ix2 t h) ↔ (idx (ix3 a b 0)).toInt = t.val ∧ h' = h := by
  have s0 : (scatter_S32x6_S128x256x1_S128x256x6_2_0_0_2).start (ix3 a b h') idx 0 = (idx (ix3 a b 0)).toInt := by
    unfold ScatterDims.start
    rw [dif_pos (by decide)]
    refine congrArg (fun i => (idx i).toInt) (funext fun k => ?_)
    match k with
    | ⟨0, _⟩ => rfl
    | ⟨1, _⟩ => rfl
    | ⟨2, _⟩ => rfl
  have s1 : (scatter_S32x6_S128x256x1_S128x256x6_2_0_0_2).start (ix3 a b h') idx 1 = 0 := by
    unfold ScatterDims.start
    rw [dif_neg (by decide)]
  have w0 : (scatter_S32x6_S128x256x1_S128x256x6_2_0_0_2).window (ix3 a b h') 0 = 0 := by
    unfold ScatterDims.window
    rw [dif_neg (by decide)]
  have w1 : (scatter_S32x6_S128x256x1_S128x256x6_2_0_0_2).window (ix3 a b h') 1 = h'.val := by
    unfold ScatterDims.window
    rw [dif_pos (by decide)]
    rfl
  refine (Routing.resultIdx?_ix2 _ _ _ t h).trans ?_
  rw [s0, s1, w0, w1]
  constructor
  · rintro ⟨p, q⟩
    exact ⟨by omega, Fin.ext (by omega)⟩
  · rintro ⟨p, rfl⟩
    exact ⟨by omega, by omega⟩

theorem toInt_eq (w : BitVec 32) (t : Fin 32) : w.toInt = (t.val : Int) ↔ w = BitVec.ofNat 32 t.val := by
  have ht := t.isLt
  constructor
  · intro h
    refine BitVec.eq_of_toNat_eq ?_
    have := w.isLt
    rw [BitVec.toInt_eq_toNat_cond] at h
    rw [BitVec.toNat_ofNat]
    split at h <;> omega
  · rintro rfl
    rw [BitVec.toInt_eq_toNat_cond, BitVec.toNat_ofNat]
    split <;> omega

theorem sumR_apply (bk : IVec S128x256 32) (hb : ∀ a b, 0 ≤ (bk (ix2 a b)).toInt) (db : FVec Ideal S6x128x256 .f32) (h : Fin 6) (t : Fin 32) :
    sumR bk db (ix2 h t) = bucketSum bk (BitVec.ofNat 32 t.val) (fun a b => db (ix3 h a b)) := by
  have tr : ∀ p : FVec Ideal S32x6 .f32, transpose S6x32 [1, 0] p transposes_S32x6_S6x32_1_0 (ix2 h t) = p (ix2 t h) := by
    intro p
    pointwise
  have up : ∀ a b h', transpose S128x256x6 [1, 2, 0] db transposes_S6x128x256_S128x256x6_1_2_0 (ix3 a b h') = db (ix3 h' a b) := by
    intro a b h'
    pointwise
  have z0 : broadcastInDim S32x6 ![] bcast_S_S32x6 (constant (F := Ideal) S_ .f32 0x00000000#32) (ix2 t h) = (0 : EReal) := by
    pointwise
  refine (tr _).trans ?_
  show broadcastInDim S32x6 ![] bcast_S_S32x6 (constant (F := Ideal) S_ .f32 0x00000000#32) (ix2 t h) + ∑ j ∈ Finset.univ.filter (fun j =>
    (scatter_S32x6_S128x256x1_S128x256x6_2_0_0_2).resultIdx? j (wrap bk) = some (ix2 t h)),
      transpose S128x256x6 [1, 2, 0] db transposes_S6x128x256_S128x256x6_1_2_0 j = _
  rw [z0, zero_add, Finset.sum_filter, sum_idx3]
  unfold bucketSum
  refine Finset.sum_congr rfl fun a _ => Finset.sum_congr rfl fun b _ => ?_
  simp only [lands, wrap_apply bk a b (hb a b), toInt_eq, up]
  by_cases g : bk (ix2 a b) = BitVec.ofNat 32 t.val
  · simp [g]
  · simp [g]

theorem pad_apply (p : FVec Ideal S6x32 .f32) (r : Fin 8) (k : Fin 128) :
    pad S8x128 ![0, 0] ![2, 96] ![0, 0] p (sitofp .f32 (constantI S_ 32 0#32) : FVec Ideal S_ .f32) pads_S6x32_S8x128_020_0960 h_S_ (ix2 r k)
      = if h : r.val < 6 ∧ k.val < 32 then p (ix2 ⟨r.val, h.1⟩ ⟨k.val, h.2⟩) else 0 := by
  by_cases h : r.val < 6 ∧ k.val < 32
  · rw [dif_pos h]
    unfold pad
    rw [dif_pos]
    · refine congrArg p ?_
      funext a
      match a with
      | ⟨0, _⟩ => exact Fin.ext (by show (r.val - 0) / 1 = r.val; omega)
      | ⟨1, _⟩ => exact Fin.ext (by show (k.val - 0) / 1 = k.val; omega)
    · intro a
      match a with
      | ⟨0, _⟩ => exact ⟨Nat.zero_le _, by show (r.val - 0) % 1 = 0; omega, by show (r.val - 0) / 1 < 6; omega⟩
      | ⟨1, _⟩ => exact ⟨Nat.zero_le _, by show (k.val - 0) % 1 = 0; omega, by show (k.val - 0) / 1 < 32; omega⟩
  · rw [dif_neg h]
    unfold pad
    rw [dif_neg]
    · pointwise
      show (((0#32 : BitVec 32).toInt : ℝ) : EReal) = 0
      simp
    · intro g
      refine h ⟨?_, ?_⟩
      · have := (g ⟨0, by decide⟩).2.2
        have : (r.val - 0) / 1 < 6 := this
        omega
      · have := (g ⟨1, by decide⟩).2.2
        have : (k.val - 0) / 1 < 32 := this
        omega

theorem frame : Cert.quiescent_Reference22Ideal (hReference22Ideal := Cert.Reference22Ideal.Gen.facts) := by
  intro m ρ _
  exact (θ_run Cert.Reference22Ideal.defs _ _).mono
    (fun r h => ⟨fun c => (h c).2, sem_eq_zero_of_no_sems (by decide) r.2⟩) (Cert.Reference22Ideal.Value.run m ρ)

theorem algebraic : Cert.algebraic_Kernel22Ideal_Reference22Ideal (hKernel22Ideal := Cert.Kernel22Ideal.Gen.facts)
    (hReference22Ideal := Cert.Reference22Ideal.Gen.facts) := by
  intro m g m' g' _ hagree
  refine ⟨fun c => Cert.Kernel22Ideal.Bias.resG m c, ?_, ?_⟩
  · refine (θ_run _ _ _).mono (fun r h c => ?_) (Cert.Kernel22Ideal.Value.run_blocks m g)
    obtain ⟨h0, hk⟩ := h c
    exact ⟨h0.trans (Cert.Kernel22Ideal.Bias.final2 m c), hk⟩
  · refine (θ_run _ _ _).mono (fun r h c => ?_) (Cert.Reference22Ideal.Value.run m' g')
    obtain ⟨h0, hk⟩ := h c
    have a0 := hagree c
    refine ⟨h0.trans ?_, hk⟩
    unfold Cert.Reference22Ideal.Value.res_main_v42
    rw [a0]
    funext i
    obtain ⟨r, k, rfl⟩ : ∃ r k, i = ix2 r k := ⟨i 0, i 1, eq_ix2 i⟩
    refine (pad_apply _ r k).trans ?_
    refine Eq.trans ?_ (show (if h : r.val < 6 ∧ k.val < 32 then bucketSum (Cert.Kernel22Ideal.Bias.aK m c) (BitVec.ofNat 32 k.val)
      (fun a b => Cert.Kernel22Ideal.Bias.aB m c (ix3 ⟨r.val, h.1⟩ a b)) else 0) = _ from rfl)
    by_cases h : r.val < 6 ∧ k.val < 32
    · rw [dif_pos h, dif_pos h]
      rw [Cert.Kernel22Ideal.Bias.aK_eq]
      exact sumR_apply Cert.Kernel22Ideal.Bias.bucket Cert.Kernel22Ideal.Bias.bucket_nonneg _ ⟨r.val, h.1⟩ ⟨k.val, h.2⟩
    · rw [dif_neg h, dif_neg h]

end Cert.Reference22Ideal.Bias
-- ==== Proof.MlaRunA.lean ====
/- The run of program 28's whole body at the first point of the grid, over any float values: its triple over the printed skeleton, with what each
   buffer ends with as the witness. -/
module

public import proofs.«01_k».proof.Proof.Gen.Kernel28Ideal.Frame.Runs

@[expose] public section

set_option maxRecDepth 16384

noncomputable section

namespace Cert.Kernel28Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body's stores at the first point of the grid leave in each result's buffer and in the two scratch buffers, as pieces, last first,
    with the run that leaves them. -/
noncomputable def kernelRun0_A (c : Dev nD) (i : grid0.Coords) (arg2 : Memref sig .tc .vmem S1x512x256 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S768x256 .bf16) (harg11 : arg11.IsWhole) (arg12 : Memref sig .tc .vmem S768x128 .bf16) (harg12 : arg12.IsWhole) (arg13 : Memref sig .tc .vmem S1x512x768 .f32) (harg13 : arg13.IsWhole) (arg14 : Memref sig .tc .vmem S1x512x768 .f32) (harg14 : arg14.IsWhole) (arg15 : Memref sig .tc .vmem S1x512x384 .f32) (harg15 : arg15.IsWhole) (arg16 : Memref sig .tc .vmem S1x512x256 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S768x256 .f32) (harg19 : arg19.IsWhole) (arg20 : Memref sig .tc .vmem S768x128 .f32) (harg20 : arg20.IsWhole) (arg21 : Memref sig .tc .vmem S1x256 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S512x768 .bf16) (harg25 : arg25.IsWhole) (arg26 : Memref sig .tc .vmem S512x768 .bf16) (harg26 : arg26.IsWhole) (hc0 : cond0_0 i)
    (x0 : Vec F S1x512x256 .bf16) (x1 : Vec F S1x512x128 .bf16) (x2 : Vec F S1x512x128 .bf16) (x3 : Vec F S1x512x128 .f32) (x4 : Vec F S1x512x128 .f32) (x5 : Vec F S1x256 .f32) (x6 : Vec F S1x128 .f32) (x7 : Vec F S1x128 .f32) (x8 : Vec F S1x128 .f32) (x9 : Vec F S768x256 .bf16) (x10 : Vec F S768x128 .bf16) (x11 : Vec F S1x512x768 .f32) (x12 : Vec F S1x512x768 .f32) (x13 : Vec F S1x512x384 .f32) :
    Σ' (L14 : List (View.Piece (Elt F) S1x512x256 .f32)), Σ' (L15 : List (View.Piece (Elt F) S1x512x128 .f32)), Σ' (L16 : List (View.Piece (Elt F) S1x512x128 .f32)), Σ' (L17 : List (View.Piece (Elt F) S768x256 .f32)), Σ' (L18 : List (View.Piece (Elt F) S768x128 .f32)), Σ' (L19 : List (View.Piece (Elt F) S1x256 .f32)), Σ' (L20 : List (View.Piece (Elt F) S1x128 .f32)), Σ' (L21 : List (View.Piece (Elt F) S1x128 .f32)), Σ' (L22 : List (View.Piece (Elt F) S1x128 .f32)), Σ' (LT0 : List (View.Piece (Elt F) S512x768 .bf16)), { LT1 : List (View.Piece (Elt F) S512x768 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LT0) ∗ (∃ f, arg26.view.loc (c : Thread nD τ) ↦[arg26.view.set]{fullShare} arg26.view.writes (Elt F) f LT1)) -∗ K ⟨⟩))
          ⊢ wp frame (wpE (defs₀ (F := F)) Variants.none c none) E (cc0_l1_mla_prep_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, fun E K => ?run⟩
  case run =>
    simp only [cc0_l1_mla_prep_bwd_eq_skeleton]; unfold cc0_l1_mla_prep_bwd_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    iexists _; iexact HS1

end Cert.Kernel28Ideal.Gen

end
-- ==== Proof.MlaOut28.lean ====
module

public import proofs.«01_k».proof.Proof.MlaRunB
public import Idealize.ShloMosaic.Lib.Claim

@[expose] public section

/-! What the blocks of program 28's nine results hold point by point, over any float values. -/

set_option maxRecDepth 16384

noncomputable section

namespace Cert.Kernel28Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel28Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nine results' blocks. -/
abbrev Outs (F : FTy → Type) := Vec F S1x512x256 .f32 × Vec F S1x512x128 .f32 × Vec F S1x512x128 .f32 × Vec F S768x256 .f32 × Vec F S768x128 .f32
  × Vec F S1x256 .f32 × Vec F S1x128 .f32 × Vec F S1x128 .f32 × Vec F S1x128 .f32

/-- The body's run at the first point, on the point's buffers, -/
def runA (c : Dev nD) (t : Fin cfg0.N) (h0 : t.val % 8 = 0) :=
  kernelRun0_A (F := F) c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t) (hs0_20 t) (ms0_21 t) (hs0_21 t)
    (ms0_22 t) (hs0_22 t) scM0_0 (Memref.isWhole_whole _) scM0_1 (Memref.isWhole_whole _) ((hcond0_0 t).mpr h0) (iblk m c 0 t) (iblk m c 1 t)
    (iblk m c 2 t) (iblk m c 3 t) (iblk m c 4 t) (iblk m c 5 t) (iblk m c 6 t) (iblk m c 7 t) (iblk m c 8 t) (iblk m c 9 t) (iblk m c 10 t)
    (iblk m c 11 t) (iblk m c 12 t) (iblk m c 13 t)
/-- and at a later one, over what the point before left. -/
def runB (c : Dev nD) (t : Fin cfg0.N) (h0 : ¬t.val % 8 = 0) (p : Outs F) :=
  kernelRun0_B (F := F) c (grid0.coords t) (ms0_0 t) (hs0_0 t) (ms0_1 t)
    (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t)
    (hs0_8 t) (ms0_9 t) (hs0_9 t) (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t) (ms0_20 t) (hs0_20 t) (ms0_21 t)
    (hs0_21 t) (ms0_22 t) (hs0_22 t) scM0_0 (Memref.isWhole_whole _) scM0_1 (Memref.isWhole_whole _) (fun h => h0 ((hcond0_0 t).mp h)) (iblk m c 0 t)
    (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) p.2.2.2.1 p.2.2.2.2.1 p.2.2.2.2.2.1 p.2.2.2.2.2.2.1 p.2.2.2.2.2.2.2.1
    p.2.2.2.2.2.2.2.2

/-- What the run leaves in each block. -/
def outA (c : Dev nD) (t : Fin cfg0.N) (h0 : t.val % 8 = 0) : Outs F :=
  (VO0_14.read (Elt F) (VO0_14.writes (Elt F) VO0_14.junk (runA m c t h0).1),
    VO0_15.read (Elt F) (VO0_15.writes (Elt F) VO0_15.junk (runA m c t h0).2.1),
    VO0_16.read (Elt F) (VO0_16.writes (Elt F) VO0_16.junk (runA m c t h0).2.2.1),
    VO0_17.read (Elt F) (VO0_17.writes (Elt F) VO0_17.junk (runA m c t h0).2.2.2.1),
    VO0_18.read (Elt F) (VO0_18.writes (Elt F) VO0_18.junk (runA m c t h0).2.2.2.2.1),
    VO0_19.read (Elt F) (VO0_19.writes (Elt F) VO0_19.junk (runA m c t h0).2.2.2.2.2.1),
    VO0_20.read (Elt F) (VO0_20.writes (Elt F) VO0_20.junk (runA m c t h0).2.2.2.2.2.2.1),
    VO0_21.read (Elt F) (VO0_21.writes (Elt F) VO0_21.junk (runA m c t h0).2.2.2.2.2.2.2.1),
    VO0_22.read (Elt F) (VO0_22.writes (Elt F) VO0_22.junk (runA m c t h0).2.2.2.2.2.2.2.2.1))

/-- The stores cover each block. -/
theorem coverA (c : Dev nD) (t : Fin cfg0.N) (h0 : t.val % 8 = 0) :
    (∀ y, ∃ pc ∈ (runA m c t h0).1, y ∈ pc.1.set) ∧
    (∀ y, ∃ pc ∈ (runA m c t h0).2.1, y ∈ pc.1.set) ∧
    (∀ y, ∃ pc ∈ (runA m c t h0).2.2.1, y ∈ pc.1.set) ∧
    (∀ y, ∃ pc ∈ (runA m c t h0).2.2.2.1, y ∈ pc.1.set) ∧
    (∀ y, ∃ pc ∈ (runA m c t h0).2.2.2.2.1, y ∈ pc.1.set) ∧
    (∀ y, ∃ pc ∈ (runA m c t h0).2.2.2.2.2.1, y ∈ pc.1.set) ∧
    (∀ y, ∃ pc ∈ (runA m c t h0).2.2.2.2.2.2.1, y ∈ pc.1.set) ∧
    (∀ y, ∃ pc ∈ (runA m c t h0).2.2.2.2.2.2.2.1, y ∈ pc.1.set) ∧
    (∀ y, ∃ pc ∈ (runA m c t h0).2.2.2.2.2.2.2.2.1, y ∈ pc.1.set) :=
  ⟨View.cover_of_tiledL _ S1x512x256.size (by sl_kernel_rfl),
    View.cover_of_tiledL _ S1x512x128.size (by sl_kernel_rfl),
    View.cover_of_tiledL _ S1x512x128.size (by sl_kernel_rfl),
    View.cover_of_tiledL _ S768x256.size (by sl_kernel_rfl),
    View.cover_of_tiledL _ S768x128.size (by sl_kernel_rfl),
    View.cover_of_tiledL _ S1x256.size (by sl_kernel_rfl),
    View.cover_of_tiledL _ S1x128.size (by sl_kernel_rfl),
    View.cover_of_tiledL _ S1x128.size (by sl_kernel_rfl),
    View.cover_of_tiledL _ S1x128.size (by sl_kernel_rfl)⟩

/-- What the run leaves in each block. -/
def outB (c : Dev nD) (t : Fin cfg0.N) (h0 : ¬t.val % 8 = 0) (p : Outs F) : Outs F :=
  (VO0_14.read (Elt F) (VO0_14.writes (Elt F) VO0_14.junk (runB m c t h0 p).1),
    VO0_15.read (Elt F) (VO0_15.writes (Elt F) VO0_15.junk (runB m c t h0 p).2.1),
    VO0_16.read (Elt F) (VO0_16.writes (Elt F) VO0_16.junk (runB m c t h0 p).2.2.1),
    VO0_17.read (Elt F) (VO0_17.writes (Elt F) VO0_17.junk (runB m c t h0 p).2.2.2.1),
    VO0_18.read (Elt F) (VO0_18.writes (Elt F) VO0_18.junk (runB m c t h0 p).2.2.2.2.1),
    VO0_19.read (Elt F) (VO0_19.writes (Elt F) VO0_19.junk (runB m c t h0 p).2.2.2.2.2.1),
    VO0_20.read (Elt F) (VO0_20.writes (Elt F) VO0_20.junk (runB m c t h0 p).2.2.2.2.2.2.1),
    VO0_21.read (Elt F) (VO0_21.writes (Elt F) VO0_21.junk (runB m c t h0 p).2.2.2.2.2.2.2.1),
    VO0_22.read (Elt F) (VO0_22.writes (Elt F) VO0_22.junk (runB m c t h0 p).2.2.2.2.2.2.2.2.1))

/-- The stores cover each block. -/
theorem coverB (c : Dev nD) (t : Fin cfg0.N) (h0 : ¬t.val % 8 = 0) (p : Outs F) :
    (∀ y, ∃ pc ∈ (runB m c t h0 p).1, y ∈ pc.1.set) ∧
    (∀ y, ∃ pc ∈ (runB m c t h0 p).2.1, y ∈ pc.1.set) ∧
    (∀ y, ∃ pc ∈ (runB m c t h0 p).2.2.1, y ∈ pc.1.set) ∧
    (∀ y, ∃ pc ∈ (runB m c t h0 p).2.2.2.1, y ∈ pc.1.set) ∧
    (∀ y, ∃ pc ∈ (runB m c t h0 p).2.2.2.2.1, y ∈ pc.1.set) ∧
    (∀ y, ∃ pc ∈ (runB m c t h0 p).2.2.2.2.2.1, y ∈ pc.1.set) ∧
    (∀ y, ∃ pc ∈ (runB m c t h0 p).2.2.2.2.2.2.1, y ∈ pc.1.set) ∧
    (∀ y, ∃ pc ∈ (runB m c t h0 p).2.2.2.2.2.2.2.1, y ∈ pc.1.set) ∧
    (∀ y, ∃ pc ∈ (runB m c t h0 p).2.2.2.2.2.2.2.2.1, y ∈ pc.1.set) :=
  ⟨View.cover_of_tiledL _ S1x512x256.size (by sl_kernel_rfl),
    View.cover_of_tiledL _ S1x512x128.size (by sl_kernel_rfl),
    View.cover_of_tiledL _ S1x512x128.size (by sl_kernel_rfl),
    View.cover_of_tiledL _ S768x256.size (by sl_kernel_rfl),
    View.cover_of_tiledL _ S768x128.size (by sl_kernel_rfl),
    View.cover_of_tiledL _ S1x256.size (by sl_kernel_rfl),
    View.cover_of_tiledL _ S1x128.size (by sl_kernel_rfl),
    View.cover_of_tiledL _ S1x128.size (by sl_kernel_rfl),
    View.cover_of_tiledL _ S1x128.size (by sl_kernel_rfl)⟩

/-- What the blocks hold after each point. -/
def outsAt (c : Dev nD) : (n : ℕ) → n < cfg0.N → Outs F
  | 0, hn => outA m c ⟨0, hn⟩ (Nat.zero_mod _)
  | n + 1, hn => if h0 : (n + 1) % 8 = 0 then outA m c ⟨n + 1, hn⟩ h0 else outB m c ⟨n + 1, hn⟩ h0 (outsAt c n (Nat.lt_of_succ_lt hn))

theorem outsAt_A (c : Dev nD) (t : Fin cfg0.N) (h0 : t.val % 8 = 0) : outsAt m c t.val t.isLt = outA m c t h0 := by
  obtain ⟨n, hn⟩ := t
  cases n with
  | zero => exact rfl
  | succ n => exact (dif_pos h0).trans rfl

/-- What the point before left. -/
abbrev prev (c : Dev nD) (t : Fin cfg0.N) : Outs F := outsAt m c (t.val - 1) (Nat.lt_of_le_of_lt (Nat.sub_le _ _) t.isLt)

theorem outsAt_B (c : Dev nD) (t : Fin cfg0.N) (h0 : ¬t.val % 8 = 0) : outsAt m c t.val t.isLt = outB m c t h0 (prev m c t) := by
  obtain ⟨n, hn⟩ := t
  cases n with
  | zero => exact absurd (Nat.zero_mod _) h0
  | succ n => exact (dif_neg h0).trans rfl

/-- The pipeline's data: the inputs at their blocks, the results at what the runs leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt m c t.val t.isLt).1
    | ⟨15, _⟩ => (outsAt m c t.val t.isLt).2.1
    | ⟨16, _⟩ => (outsAt m c t.val t.isLt).2.2.1
    | ⟨17, _⟩ => (outsAt m c t.val t.isLt).2.2.2.1
    | ⟨18, _⟩ => (outsAt m c t.val t.isLt).2.2.2.2.1
    | ⟨19, _⟩ => (outsAt m c t.val t.isLt).2.2.2.2.2.1
    | ⟨20, _⟩ => (outsAt m c t.val t.isLt).2.2.2.2.2.2.1
    | ⟨21, _⟩ => (outsAt m c t.val t.isLt).2.2.2.2.2.2.2.1
    | ⟨22, _⟩ => (outsAt m c t.val t.isLt).2.2.2.2.2.2.2.2
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem before0_10 (c : Dev nD) (t : Fin cfg0.N) (d) : (dats m 0 c).before 10 t d = iblk m c 10 t :=
  before0_10_of m (dats m 0 c) (A_eq m c 10) (fun t => by dsimp only [dats]) t d
theorem before0_11 (c : Dev nD) (t : Fin cfg0.N) (d) : (dats m 0 c).before 11 t d = iblk m c 11 t :=
  before0_11_of m (dats m 0 c) (A_eq m c 11) (fun t => by dsimp only [dats]) t d
theorem before0_12 (c : Dev nD) (t : Fin cfg0.N) (d) : (dats m 0 c).before 12 t d = iblk m c 12 t :=
  before0_12_of m (dats m 0 c) (A_eq m c 12) (fun t => by dsimp only [dats]) t d
theorem before0_13 (c : Dev nD) (t : Fin cfg0.N) (d) : (dats m 0 c).before 13 t d = iblk m c 13 t :=
  before0_13_of m (dats m 0 c) (A_eq m c 13) (fun t => by dsimp only [dats]) t d
theorem after0_14 (c : Dev nD) (t : Fin cfg0.N) : (dats m 0 c).after 14 t = (outsAt m c t.val t.isLt).1 := by dsimp only [dats]
theorem after0_15 (c : Dev nD) (t : Fin cfg0.N) : (dats m 0 c).after 15 t = (outsAt m c t.val t.isLt).2.1 := by dsimp only [dats]
theorem after0_16 (c : Dev nD) (t : Fin cfg0.N) : (dats m 0 c).after 16 t = (outsAt m c t.val t.isLt).2.2.1 := by dsimp only [dats]
theorem after0_17 (c : Dev nD) (t : Fin cfg0.N) : (dats m 0 c).after 17 t = (outsAt m c t.val t.isLt).2.2.2.1 := by dsimp only [dats]
theorem after0_18 (c : Dev nD) (t : Fin cfg0.N) : (dats m 0 c).after 18 t = (outsAt m c t.val t.isLt).2.2.2.2.1 := by dsimp only [dats]
theorem after0_19 (c : Dev nD) (t : Fin cfg0.N) : (dats m 0 c).after 19 t = (outsAt m c t.val t.isLt).2.2.2.2.2.1 := by dsimp only [dats]
theorem after0_20 (c : Dev nD) (t : Fin cfg0.N) : (dats m 0 c).after 20 t = (outsAt m c t.val t.isLt).2.2.2.2.2.2.1 := by dsimp only [dats]
theorem after0_21 (c : Dev nD) (t : Fin cfg0.N) : (dats m 0 c).after 21 t = (outsAt m c t.val t.isLt).2.2.2.2.2.2.2.1 := by dsimp only [dats]
theorem after0_22 (c : Dev nD) (t : Fin cfg0.N) : (dats m 0 c).after 22 t = (outsAt m c t.val t.isLt).2.2.2.2.2.2.2.2 := by dsimp only [dats]

theorem before0_17_B (c : Dev nD) (t : Fin cfg0.N) (h0 : ¬t.val % 8 = 0) (d) :
    (dats m 0 c).before 17 t d = (prev m c t).2.2.2.1 := by
  have hN : t.val < 8 := lt_of_lt_of_eq t.isLt (show cfg0.N = 8 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 8 = 0) (d) :
    (dats m 0 c).before 18 t d = (prev m c t).2.2.2.2.1 := by
  have hN : t.val < 8 := lt_of_lt_of_eq t.isLt (show cfg0.N = 8 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 8 = 0) (d) :
    (dats m 0 c).before 19 t d = (prev m c t).2.2.2.2.2.1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 8 = 0) (d) :
    (dats m 0 c).before 20 t d = (prev m c t).2.2.2.2.2.2.1 := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_21_B (c : Dev nD) (t : Fin cfg0.N) (h0 : ¬t.val % 8 = 0) (d) :
    (dats m 0 c).before 21 t d = (prev m c t).2.2.2.2.2.2.2.1 := by
  have hN : t.val < 8 := lt_of_lt_of_eq t.isLt (show cfg0.N = 8 from N_0)
  rw [Dat.before_out_kept _ 21 rfl t (by omega) (Bool.eq_false_iff.mpr fun h => by have := (flush0_21 _).mp h; dsimp only at this; omega)
    (fun _ => rfl) (fun _ _ => rfl)]
  dsimp only [dats]
theorem before0_22_B (c : Dev nD) (t : Fin cfg0.N) (h0 : ¬t.val % 8 = 0) (d) :
    (dats m 0 c).before 22 t d = (prev m c t).2.2.2.2.2.2.2.2 := by
  have hN : t.val < 8 := lt_of_lt_of_eq t.isLt (show cfg0.N = 8 from N_0)
  rw [Dat.before_out_kept _ 22 rfl t (by omega) (Bool.eq_false_iff.mpr fun h => by have := (flush0_22 _).mp h; dsimp only at this; omega)
    (fun _ => rfl) (fun _ _ => rfl)]
  dsimp only [dats]

end Cert.Kernel28Ideal.Mla
-- ==== Proof.MlaBody28.lean ====
module

public import proofs.«01_k».proof.Proof.MlaOut28
public import Idealize.ShloMosaic.Lib.Claim

@[expose] public section

/-! Program 28's body at a point of the grid, over any float values: from the blocks before it to the blocks after it. -/

set_option maxRecDepth 16384

noncomputable section

namespace Cert.Kernel28Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel28Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 0 in
/-- The body at any point: the run of the point's case, its invariant, inputs and results handed over and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_14, after0_15, after0_16, after0_17, after0_18, after0_19, after0_20, after0_21, after0_22]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · rw [outsAt_A m c t h0]
    have hc := coverA m c t h0
    unfold outA; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runA m c t h0).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexact HS0
    isplitl [HS1]; · iexact HS1
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%fT0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (hc.1)
    isplitl [H15]
    · unfold owns; iexists _; isplitr
      swap; · iexact H15
      ipureintro; exact View.read_writes_of_cover _ _ _ _ _ (hc.2.1)
    isplitl [H16]
    · unfold owns; iexists _; isplitr
      swap; · iexact H16
      ipureintro; exact View.read_writes_of_cover _ _ _ _ _ (hc.2.2.1)
    isplitl [H17]
    · unfold owns; iexists _; isplitr
      swap; · iexact H17
      ipureintro; exact View.read_writes_of_cover _ _ _ _ _ (hc.2.2.2.1)
    isplitl [H18]
    · unfold owns; iexists _; isplitr
      swap; · iexact H18
      ipureintro; exact View.read_writes_of_cover _ _ _ _ _ (hc.2.2.2.2.1)
    isplitl [H19]
    · unfold owns; iexists _; isplitr
      swap; · iexact H19
      ipureintro; exact View.read_writes_of_cover _ _ _ _ _ (hc.2.2.2.2.2.1)
    isplitl [H20]
    · unfold owns; iexists _; isplitr
      swap; · iexact H20
      ipureintro; exact View.read_writes_of_cover _ _ _ _ _ (hc.2.2.2.2.2.2.1)
    isplitl [H21]
    · unfold owns; iexists _; isplitr
      swap; · iexact H21
      ipureintro; exact View.read_writes_of_cover _ _ _ _ _ (hc.2.2.2.2.2.2.2.1)
    unfold owns; iexists _; isplitr
    swap; · iexact H22
    ipureintro; exact View.read_writes_of_cover _ _ _ _ _ (hc.2.2.2.2.2.2.2.2)
  · rw [outsAt_B m c t h0]
    have hc := coverB m c t h0 (prev m c t)
    simp only [before0_17_B m c t h0, before0_18_B m c t h0, before0_19_B m c t h0, before0_20_B m c t h0, before0_21_B m c t h0, before0_22_B m c t h0]
    unfold outB; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runB m c t h0 (prev m c t)).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · iexact H20
    isplitl [H21]; · iexact H21
    isplitl [H22]; · iexact H22
    isplitl [HS0]; · iexact HS0
    isplitl [HS1]; · iexact HS1
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%fT0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (hc.1)
    isplitl [H15]
    · unfold owns; iexists _; isplitr
      swap; · iexact H15
      ipureintro; exact View.read_writes_of_cover _ _ _ _ _ (hc.2.1)
    isplitl [H16]
    · unfold owns; iexists _; isplitr
      swap; · iexact H16
      ipureintro; exact View.read_writes_of_cover _ _ _ _ _ (hc.2.2.1)
    isplitl [H17]
    · unfold owns; iexists _; isplitr
      swap; · iexact H17
      ipureintro; exact View.read_writes_of_cover _ _ _ _ _ (hc.2.2.2.1)
    isplitl [H18]
    · unfold owns; iexists _; isplitr
      swap; · iexact H18
      ipureintro; exact View.read_writes_of_cover _ _ _ _ _ (hc.2.2.2.2.1)
    isplitl [H19]
    · unfold owns; iexists _; isplitr
      swap; · iexact H19
      ipureintro; exact View.read_writes_of_cover _ _ _ _ _ (hc.2.2.2.2.2.1)
    isplitl [H20]
    · unfold owns; iexists _; isplitr
      swap; · iexact H20
      ipureintro; exact View.read_writes_of_cover _ _ _ _ _ (hc.2.2.2.2.2.2.1)
    isplitl [H21]
    · unfold owns; iexists _; isplitr
      swap; · iexact H21
      ipureintro; exact View.read_writes_of_cover _ _ _ _ _ (hc.2.2.2.2.2.2.2.1)
    unfold owns; iexists _; isplitr
    swap; · iexact H22
    ipureintro; exact View.read_writes_of_cover _ _ _ _ _ (hc.2.2.2.2.2.2.2.2)

end Cert.Kernel28Ideal.Mla
-- ==== Proof.MlaFrame28.lean ====
module

public import proofs.«01_k».proof.Proof.MlaBody28
public import Idealize.ShloMosaic.Lib.Claim

@[expose] public section

/-! The run of program 28, over any float values: it ends, its arguments are unchanged, its semaphores are zero. -/

set_option maxRecDepth 16384

noncomputable section

namespace Cert.Kernel28Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel28Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 0 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel28Ideal.Mla
-- ==== Proof.MlaFrame28B.lean ====
module

public import proofs.«01_k».proof.Proof.Gen.Kernel28
public import proofs.«01_k».proof.Defs
public import proofs.«01_k».proof.Proof.MlaFrame28

@[expose] public section

/-! The frame of program 28 as printed: its body is the one whose run is shown over any float values. -/

set_option maxRecDepth 65536

noncomputable section

namespace Cert.Kernel28.Mla

open Idealize.ShloMosaic Idealize.ShloMosaic.TcCoe Idealize.SL.Sem

set_option maxHeartbeats 0 in
/-- The two programs' texts are the same, so their body tables are. -/
theorem defs₀_eq {F : FTy → Type} [FloatOps F] : Cert.Kernel28Ideal.defs₀ (F := F) = defs₀ (F := F) :=
  by sl_kernel_rfl

set_option maxHeartbeats 0 in
/-- So are their tables with the pipeline's. -/
theorem defs_eq {F : FTy → Type} [FloatOps F] : Cert.Kernel28Ideal.defs (F := F) = defs (F := F) :=
  congrArg (Pipeline.defs (pcfgs (F := F))) defs₀_eq

variable (m : (ℓ : Loc nD τ sig) → Buf (Elt Bits) ℓ) (ρ : Dev nD → PrngReg)

/-- So are their bodies outside the call. -/
theorem main_eq {F : FTy → Type} [FloatOps F] : Cert.Kernel28Ideal.main (F := F) = main (F := F) :=
  by sl_kernel_rfl

set_option maxHeartbeats 0 in
/-- The frame of program 28, from the run shown for its idealization over any float values. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have e := Cert.Kernel28Ideal.Mla.frame (F := Bits) m ρ
  rw [defs_eq, main_eq] at e
  exact e

end Cert.Kernel28.Mla
-- ==== Proof.MlaMath28.lean ====
module

public import Idealize.ShloMosaic.Lib.Pointwise

@[expose] public section

/-! The gradients of the two head gains of the latent attention, free of any program: a head's gradient turned back by the rotation, times the
head normalised, summed over every row and every head. -/

set_option maxRecDepth 16384

noncomputable section

open Idealize.ShloMosaic

namespace Cert.Mla

/-- The inverse root mean square of `n` numbers, their mean taken over `a`. -/
def rs {n : ℕ} (a : EReal) (f : Fin n → EReal) : EReal := Ideal.rsqrt (Ideal.div (∑ j, f j * f j) a + Ideal.ofBits .f32 0x358637BD#32)

/-- A row of numbers normalised, scaled by a gain and multiplied by a column of weights. -/
def proj {n : ℕ} (a : EReal) (x g w : Fin n → EReal) : EReal := ∑ j, x j * rs a x * g j * w j

/-- The angle of a position at a frequency. -/
def ang (p : EReal) (i : Fin 16) : EReal :=
  p * Ideal.pow (Ideal.ofBits .f32 0x461C4000#32) (Ideal.div (-FloatOps.sitofp (F := Ideal) .f32 (BitVec.ofNat 32 i.val)) (Ideal.ofBits .f32 0x41800000#32))

/-- The gradient of a head before its rotation: the last 32 of its 96 lanes are two halves turned by an angle. -/
def turn (d : Fin 96 → EReal) (cs sn : Fin 16 → EReal) (k : Fin 96) : EReal :=
  if k.val < 64 then d k
  else if h : k.val < 80 then d k * cs ⟨k.val - 64, by omega⟩ + d ⟨k.val + 16, by omega⟩ * sn ⟨k.val - 64, by omega⟩
  else d k * cs ⟨k.val - 80, by omega⟩ + -(d ⟨k.val - 16, by omega⟩ * sn ⟨k.val - 80, by omega⟩)

/-- What a row's head adds to the gain's gradient. -/
def term (x d : Fin 96 → EReal) (cs sn : Fin 16 → EReal) (k : Fin 96) : EReal :=
  turn d cs sn k * (x k * rs (Ideal.ofBits .f32 0x42C00000#32) x)

/-- The gain's gradient, 32 zeros after its 96 lanes. -/
def gain (x d : Fin 2 → Fin 2048 → Fin 6 → Fin 96 → EReal) (cs sn : Fin 2 → Fin 2048 → Fin 16 → EReal) (k : Fin 128) : EReal :=
  if h : k.val < 96 then ∑ b, ∑ s, ∑ h', term (x b s h') (d b s h') (cs b s) (sn b s) ⟨k.val, h⟩ else 0

/-- Zeros after a row leave its inverse root mean square. -/
theorem rs_pad (a : EReal) (f : Fin 128 → EReal) (g : Fin 96 → EReal) (h : ∀ j : Fin 128, f j = if h : j.val < 96 then g ⟨j.val, h⟩ else 0) :
    rs a f = rs a g := by
  unfold rs
  congr 3
  show ∑ j : Fin (96 + 32), f j * f j = _
  rw [Fin.sum_univ_add, Finset.sum_eq_zero (s := (Finset.univ : Finset (Fin 32))), add_zero]
  · refine Finset.sum_congr rfl fun j _ => ?_
    rw [h (Fin.castAdd 32 j), dif_pos (show (Fin.castAdd 32 j).val < 96 from j.isLt)]
    rfl
  · intro j _
    rw [h (Fin.natAdd 96 j), dif_neg (by show ¬(96 + j.val < 96); omega), mul_zero]

/-- The sum over the three leading axes of a rank-4 array, read at an index. -/
theorem hostReduceAdd_012 {n0 n1 n2 n3 : ℕ} (h : (⟨4, ![n0, n1, n2, n3]⟩ : Shape).ReducesTo [0, 1, 2] ⟨1, ![n3]⟩)
    (v : (⟨4, ![n0, n1, n2, n3]⟩ : Shape).Idx → EReal) (e : EReal) (j : Fin n3) :
    Ideal.hostReduceAdd h v e (ix1 j) = e + ∑ a : Fin n0, ∑ b : Fin n1, ∑ c : Fin n2, v (ix4 a b c j) := by
  unfold Ideal.hostReduceAdd
  congr 1
  rw [Finset.sum_filter_eq_sum_of_fiber _
    (fun k : Fin n0 × Fin n1 × Fin n2 => (ix4 k.1 k.2.1 k.2.2 j : (⟨4, ![n0, n1, n2, n3]⟩ : Shape).Idx)), Fintype.sum_prod_type]
  · exact Finset.sum_congr rfl fun a _ => Fintype.sum_prod_type _
  · intro k k' hk
    exact Prod.ext (congrFun hk 0) (Prod.ext (congrFun hk 1) (congrFun hk 2))
  · intro i
    constructor
    · intro e
      refine ⟨(i 0, i 1, i 2), ?_⟩
      funext a
      match a with
      | ⟨0, _⟩ => rfl
      | ⟨1, _⟩ => rfl
      | ⟨2, _⟩ => rfl
      | ⟨3, _⟩ => exact Fin.ext (congrArg Fin.val (congrFun e 0)).symm
    · rintro ⟨k, rfl⟩
      funext a
      match a with
      | ⟨0, _⟩ => rfl

/-- The sum over the three leading axes of a rank-4 array which are one long. -/
theorem sum_one3 (v : Fin 1 → Fin 1 → Fin 1 → EReal) : ∑ a : Fin 1, ∑ b : Fin 1, ∑ c : Fin 1, v a b c = v 0 0 0 := by
  simp only [Fin.sum_univ_one]

/-! The same on the call's arguments: the packed latents, the gains of the latents, the two up-projections, the gradients of the heads. -/

def headQ (x : FVec Ideal ⟨3, ![2, 2048, 1824]⟩ .bf16) (g : FVec Ideal ⟨1, ![256]⟩ .f32) (w : FVec Ideal ⟨2, ![256, 576]⟩ .bf16)
    (b : Fin 2) (s : Fin 2048) (h : Fin 6) (k : Fin 96) : EReal :=
  proj (Ideal.ofBits .f32 0x43800000#32) (fun j : Fin 256 => x (ix3 b s ⟨768 + j.val, by omega⟩)) (fun j => g (ix1 j))
    (fun j => w (ix2 j ⟨h.val * 96 + k.val, by omega⟩))
def headK (x : FVec Ideal ⟨3, ![2, 2048, 1824]⟩ .bf16) (g : FVec Ideal ⟨1, ![128]⟩ .f32) (w : FVec Ideal ⟨2, ![128, 768]⟩ .bf16)
    (b : Fin 2) (s : Fin 2048) (h : Fin 6) (k : Fin 96) : EReal :=
  if k.val < 64 then
    proj (Ideal.ofBits .f32 0x43000000#32) (fun j : Fin 128 => x (ix3 b s ⟨1024 + j.val, by omega⟩)) (fun j => g (ix1 j))
      (fun j => w (ix2 j ⟨h.val * 128 + k.val, by omega⟩))
  else x (ix3 b s ⟨1152 + (k.val - 64), by omega⟩)
def headD (d : FVec Ideal ⟨3, ![2, 2048, 768]⟩ .f32) (b : Fin 2) (s : Fin 2048) (h : Fin 6) (k : Fin 96) : EReal :=
  d (ix3 b s ⟨h.val * 128 + k.val, by omega⟩)
def cosA (p : IVec ⟨2, ![2, 2048]⟩ 32) (b : Fin 2) (s : Fin 2048) (i : Fin 16) : EReal := Ideal.cos (ang (FloatOps.sitofp (F := Ideal) .f32 (p (ix2 b s))) i)
def sinA (p : IVec ⟨2, ![2, 2048]⟩ 32) (b : Fin 2) (s : Fin 2048) (i : Fin 16) : EReal := Ideal.sin (ang (FloatOps.sitofp (F := Ideal) .f32 (p (ix2 b s))) i)

end Cert.Mla
-- ==== Proof.MlaPay28.lean ====
module

public import proofs.«01_k».proof.Proof.MlaMath28
public import proofs.«01_k».proof.Proof.Gen.Kernel28Ideal.Skeleton
public import Idealize.ShloMosaic.Lib.Pointwise
public import Idealize.ShloMosaic.Lib.WordCmp
public import Idealize.ShloMosaic.Lib.Pipeline.ValueKit

@[expose] public section

/-! The latent attention's backward, program 28: what the body computes of one head of 128 lanes, at an index. -/

set_option maxRecDepth 16384

noncomputable section

open Idealize.ShloMosaic Idealize.ShloMosaic.TcCoe Idealize.SL.Sem

namespace Cert.Kernel28Ideal.Mla

open Cert.Kernel28Ideal Cert.Kernel28Ideal.Gen
open Cert.Mla (rs)

/-- The lanes' numbers. -/
def lane : IVec S512x128 32 := iota .tc S512x128 32 [1] iota_S512x128_d1_w32

/-- The gradient of a head before its rotation. -/
def dnP (cv sv : FVec Ideal S512x128 .f32) (d : FVec Ideal S1x512x128 .f32) : FVec Ideal S512x128 .f32 := k0_pay136 (F := Ideal) lane cv sv d
/-- A head normalised. -/
def hatP (x : FVec Ideal S512x128 .f32) : FVec Ideal S512x128 .f32 := k0_pay135 (F := Ideal) x
/-- A head's part of a gain's gradient added. -/
def stepP (cv sv : FVec Ideal S512x128 .f32) (a : FVec Ideal S1x128 .f32) (x : FVec Ideal S512x128 .f32) (d : FVec Ideal S1x512x128 .f32) : FVec Ideal S1x128 .f32 :=
  k0_pay137 (F := Ideal) lane cv sv a x d
/-- A head's columns of the keys, with the rotated lanes from the other block. -/
def kP {o : Fin 2 → ℕ} (ho : S512x768.Slices o S512x128) (v : FVec Ideal S512x768 .f32) (kr : FVec Ideal S512x128 .f32) : FVec Ideal S512x128 .f32 :=
  select (cmpi .slt lane (broadcast S512x128 64#32)) (extractStridedSlice S512x128 o v ho) kr

theorem dnP_apply (cv sv : FVec Ideal S512x128 .f32) (d : FVec Ideal S1x512x128 .f32) (r : Fin 512) (k : Fin 128) :
    dnP cv sv d (ix2 r k) = d (ix3 0 r k) * cv (ix2 r k)
      + (if h : 80 ≤ k.val ∧ k.val < 96 then 0 - d (ix3 0 r ⟨k.val - 16, by omega⟩) * sv (ix2 r ⟨k.val - 16, by omega⟩)
        else if h : 64 ≤ k.val ∧ k.val < 80 then d (ix3 0 r ⟨k.val + 16, by omega⟩) * sv (ix2 r ⟨k.val + 16, by omega⟩) else 0) := by
  pointwise [dnP, lane, k0_pay136]
  simp (disch := word_cmp_side) only [hlo_ix]
  split_ifs
  · rw [show (⟨(k.val + 128 - 16) % 128, by omega⟩ : Fin 128) = ⟨k.val - 16, by omega⟩ from Fin.ext (by simp only; omega)]
  · rw [show (⟨(k.val + 128 - 112) % 128, by omega⟩ : Fin 128) = ⟨k.val + 16, by omega⟩ from Fin.ext (by simp only; omega)]
  · rfl

theorem hatP_apply (x : FVec Ideal S512x128 .f32) (r : Fin 512) (k : Fin 128) :
    hatP x (ix2 r k) = x (ix2 r k) * rs (Ideal.ofBits .f32 0x42C00000#32) (fun j : Fin 128 => x (ix2 r j)) := by
  unfold rs
  pointwise [hatP, k0_pay135, k0_pay134]

theorem stepP_apply (cv sv : FVec Ideal S512x128 .f32) (a : FVec Ideal S1x128 .f32) (x : FVec Ideal S512x128 .f32) (d : FVec Ideal S1x512x128 .f32) (k : Fin 128) :
    stepP cv sv a x d (ix2 0 k) = a (ix2 0 k) + ∑ r : Fin 512, dnP cv sv d (ix2 r k) * hatP x (ix2 r k) := by
  unfold stepP dnP hatP
  generalize hp : k0_pay136 (F := Ideal) lane cv sv d = p
  generalize hq : k0_pay135 (F := Ideal) x = q
  pointwise [k0_pay137]
  rw [hp, hq]

theorem kP_apply {o : ℕ} (ho : S512x768.Slices ![0, o] S512x128) (v : FVec Ideal S512x768 .f32) (kr : FVec Ideal S512x128 .f32) (r : Fin 512) (k : Fin 128)
    (K : Fin 768) (hK : K.val = o + k.val) :
    kP ho v kr (ix2 r k) = if k.val < 64 then v (ix2 r K) else kr (ix2 r k) := by
  pointwise [kP, lane]
  simp (disch := word_cmp_side) only [hlo_ix]
  rw [show K = ⟨o + k.val, hK ▸ K.isLt⟩ from Fin.ext hK]

theorem q_apply (x : FVec Ideal S1x512x256 .bf16) (g : FVec Ideal S1x256 .f32) (w : FVec Ideal S768x256 .bf16) (r : Fin 512) (K : Fin 768) :
    k0_pay17 (F := Ideal) (k0_pay15 x g) (k0_pay16 w) (ix2 r K)
      = ∑ j : Fin 256, x (ix3 0 r j) * rs (Ideal.ofBits .f32 0x43800000#32) (fun j : Fin 256 => x (ix3 0 r j)) * g (ix2 0 j) * w (ix2 K j) := by
  unfold rs
  pointwise [k0_pay17, k0_pay15, k0_pay16, k0_pay14, k0_pay13, k0_pay12]

theorem k_apply (x : FVec Ideal S1x512x128 .bf16) (g : FVec Ideal S1x128 .f32) (w : FVec Ideal S768x128 .bf16) (r : Fin 512) (K : Fin 768) :
    k0_pay22 (F := Ideal) x g w (ix2 r K)
      = ∑ j : Fin 128, x (ix3 0 r j) * rs (Ideal.ofBits .f32 0x43000000#32) (fun j : Fin 128 => x (ix3 0 r j)) * g (ix2 0 j) * w (ix2 K j) := by
  unfold rs
  pointwise [k0_pay22, k0_pay21, k0_pay20, k0_pay19, k0_pay18]

theorem last_apply (a : FVec Ideal S1x128 .f32) (s : FVec Ideal S1x128 .f32) (k : Fin 128) :
    k0_pay142 (F := Ideal) a s (ix2 0 k) = s (ix2 0 k) + a (ix2 0 k) := by
  pointwise [k0_pay142]

theorem tab_apply (x : FVec Ideal S1x512x128 .f32) (r : Fin 512) (k : Fin 128) : k0_pay8 (F := Ideal) x (ix2 r k) = x (ix3 0 r k) := by
  pointwise [k0_pay8]
theorem kr_apply (x : FVec Ideal S1x512x128 .bf16) (r : Fin 512) (k : Fin 128) : k0_pay23 (F := Ideal) x (ix2 r k) = x (ix3 0 r k) := by
  pointwise [k0_pay23]
theorem zero_apply (y : S1x128.Idx) : k0_pay6 (F := Ideal) y = 0 := by
  pointwise [k0_pay6]
theorem zero24_apply (y : S1x128.Idx) : k0_pay24 (F := Ideal) y = 0 := by
  pointwise [k0_pay24]

end Cert.Kernel28Ideal.Mla
-- ==== Proof.MlaBlk28.lean ====
module

public import proofs.«01_k».proof.Proof.MlaPay28
public import proofs.«01_k».proof.Proof.Gen.Kernel28Ideal.Frame.Runs
public import Idealize.ShloMosaic.Lib.Pipeline.ReadBack

@[expose] public section

/-! Program 28's blocks on the arguments: point `t` of the grid is sequence `t / 4`, row block `t % 4`. -/

set_option maxRecDepth 65536

noncomputable section

open Idealize.ShloMosaic Idealize.ShloMosaic.TcCoe Idealize.SL.Sem

namespace Cert.Kernel28Ideal.Mla

open Cert.Kernel28Ideal Cert.Kernel28Ideal.Gen Cert.Mla

variable (m : (ℓ : Loc nD τ sig) → Buf (Elt Ideal) ℓ) (c : Dev nD)

/-- The arguments as arrays. -/
def x0 : FVec Ideal S2x2048x1824 .bf16 := m ((c : Thread nD τ).loc main_arg0)
def p1 : IVec S2x2048 32 := m ((c : Thread nD τ).loc main_arg1)
def g2 : FVec Ideal S256 .f32 := m ((c : Thread nD τ).loc main_arg2)
def g3 : FVec Ideal S128 .f32 := m ((c : Thread nD τ).loc main_arg3)
def w6 : FVec Ideal S256x576 .bf16 := m ((c : Thread nD τ).loc main_arg6)
def w7 : FVec Ideal S128x768 .bf16 := m ((c : Thread nD τ).loc main_arg7)
def d8 : FVec Ideal S2x2048x768 .f32 := m ((c : Thread nD τ).loc main_arg8)
def d9 : FVec Ideal S2x2048x768 .f32 := m ((c : Thread nD τ).loc main_arg9)

/-- The blocks of the operands at a point. -/
def bCq (t : Fin cfg0.N) : FVec Ideal S1x512x256 .bf16 := iblk m c 0 t
def bCk (t : Fin cfg0.N) : FVec Ideal S1x512x128 .bf16 := iblk m c 1 t
def bKr (t : Fin cfg0.N) : FVec Ideal S1x512x128 .bf16 := iblk m c 2 t
def bC (t : Fin cfg0.N) : FVec Ideal S1x512x128 .f32 := iblk m c 3 t
def bS (t : Fin cfg0.N) : FVec Ideal S1x512x128 .f32 := iblk m c 4 t
def bGq (t : Fin cfg0.N) : FVec Ideal S1x256 .f32 := iblk m c 5 t
def bGk (t : Fin cfg0.N) : FVec Ideal S1x128 .f32 := iblk m c 6 t
def bWq (t : Fin cfg0.N) : FVec Ideal S768x256 .bf16 := iblk m c 9 t
def bWk (t : Fin cfg0.N) : FVec Ideal S768x128 .bf16 := iblk m c 10 t
def bDq (t : Fin cfg0.N) : FVec Ideal S1x512x768 .f32 := iblk m c 11 t
def bDk (t : Fin cfg0.N) : FVec Ideal S1x512x768 .f32 := iblk m c 12 t

theorem idx : ∀ t : Fin cfg0.N,
    win0_0.index t = ![t.val / 4, t.val % 4, 3] ∧ win0_1.index t = ![t.val / 4, t.val % 4, 8]
    ∧ win0_2.index t = ![t.val / 4, t.val % 4, 14] ∧ win0_3.index t = ![t.val / 4, t.val % 4, 0] ∧ win0_4.index t = ![t.val / 4, t.val % 4, 0]
    ∧ win0_5.index t = ![0, 0] ∧ win0_6.index t = ![0, 0] ∧ win0_9.index t = ![0, 0] ∧ win0_10.index t = ![0, 0]
    ∧ win0_11.index t = ![t.val / 4, t.val % 4, 0] ∧ win0_12.index t = ![t.val / 4, t.val % 4, 0]
    ∧ win0_21.index t = ![0, 0] ∧ win0_22.index t = ![0, 0] :=
  (by decide +kernel : ∀ t : Fin grid0.N, _)

/-! The arrays the windows read. -/

open StableHlo in
/-- An operation over five buffers, with each operand's contents at its own buffer. -/
theorem nary5_result {x a b e d y : Ref sig .tc}
    (f : ((k : Fin 5) → ((![x, a, b, e, d] : Fin 5 → Ref sig .tc) k).ty.Contents (Elt Ideal)) → y.ty.Contents (Elt Ideal)) (hxs hy)
    (F : Valuation τ sig (Elt Ideal)) :
    (nary (τ := τ) ![x, a, b, e, d] y f hxs hy).result F (no_index (Proc.devRef .tc y))
      = f (Fin.cons (F (Proc.devRef .tc x)) (Fin.cons (F (Proc.devRef .tc a)) (Fin.cons (F (Proc.devRef .tc b)) (Fin.cons (F (Proc.devRef .tc e))
        (Fin.cons (F (Proc.devRef .tc d)) (fun i => i.elim0)))))) := by
  rw [nary_result]; congr 1; funext k; fin_cases k <;> rfl

/-- The packed latents rearranged: the rotated lanes of the keys moved to the end, between zeros. -/
def packA (x : FVec Ideal S2x2048x1824 .bf16) : FVec Ideal S2x2048x2048 .bf16 :=
  concatenate S2x2048x2048 2
    [⟨S2x2048x1152, extractStridedSlice S2x2048x1152 ![0, 0, 0] x slices_S2x2048x1824_S2x2048x1152_0_0_0⟩,
      ⟨S2x2048x640, extractStridedSlice S2x2048x640 ![0, 0, 1184] x slices_S2x2048x1824_S2x2048x640_0_0_1184⟩,
      ⟨S2x2048x64, broadcastInDim S2x2048x64 ![] bcast_S_S2x2048x64 (constant S_ .bf16 0#16)⟩,
      ⟨S2x2048x32, extractStridedSlice S2x2048x32 ![0, 0, 1152] x slices_S2x2048x1824_S2x2048x32_0_0_1152⟩,
      ⟨S2x2048x160, broadcastInDim S2x2048x160 ![] bcast_S_S2x2048x160 (constant S_ .bf16 0#16)⟩]
    concatenates_S2x2048x1152_S2x2048x640_S2x2048x64_S2x2048x32_S2x2048x160_S2x2048x2048_d2

/-- The angles of the positions. -/
def angA (p : IVec S2x2048 32) : FVec Ideal S2x2048x16 .f32 :=
  mulf (broadcastInDim S2x2048x16 ![0, 1, 2] bcast_S2x2048x1_S2x2048x16_0_1_2 (broadcastInDim S2x2048x1 ![0, 1] bcast_S2x2048_S2x2048x1_0_1 (sitofp .f32 p)))
    (broadcastInDim S2x2048x16 ![0, 1, 2] bcast_S1x1x16_S2x2048x16_0_1_2 (broadcastInDim S1x1x16 ![2] bcast_S16_S1x1x16_2
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- A table over 128 lanes: a constant, an array twice, the constant again. -/
def tabA (z : BitVec 32) (a : FVec Ideal S2x2048x16 .f32) : FVec Ideal S2x2048x128 .f32 :=
  concatenate S2x2048x128 2
    [⟨S2x2048x64, broadcastInDim S2x2048x64 ![] bcast_S_S2x2048x64 (constant S_ .f32 z)⟩, ⟨S2x2048x16, a⟩, ⟨S2x2048x16, a⟩,
      ⟨S2x2048x32, broadcastInDim S2x2048x32 ![] bcast_S_S2x2048x32 (constant S_ .f32 z)⟩]
    concatenates_S2x2048x64_S2x2048x16_S2x2048x16_S2x2048x32_S2x2048x128_d2

set_option maxHeartbeats 1600000 in
open StableHlo in
theorem V5_eq : V m c main_v5 = packA (x0 m c) := by
  unfold V hostOps0 hostOps0_1 hostOps0_2 hostOps0_3 hostOps0_4 hostOps0_5 hostOps0_6
  simp only [List.flatten_cons, List.flatten_nil, List.append_nil, List.cons_append, List.nil_append]
  simp (disch := decide) only [after_cons, after_nil, nary5_result, nullary_result', unary_result', binary_result', ternary_result', reshape_result',
    nullary_result_ne', unary_result_ne', binary_result_ne', ternary_result_ne', reshape_result_ne', nary_result_ne']
  rfl

set_option maxHeartbeats 1600000 in
open StableHlo in
theorem V22_eq : V m c main_v22 = tabA 0x3F800000#32 (Host.cos (angA (p1 m c))) := by
  unfold V hostOps0 hostOps0_1 hostOps0_2 hostOps0_3 hostOps0_4 hostOps0_5 hostOps0_6
  simp only [List.flatten_cons, List.flatten_nil, List.append_nil, List.cons_append, List.nil_append]
  simp (disch := decide) only [after_cons, after_nil, nary4_result', nullary_result', unary_result', binary_result', ternary_result', reshape_result',
    nullary_result_ne', unary_result_ne', binary_result_ne', ternary_result_ne', reshape_result_ne', nary_result_ne']
  rfl

set_option maxHeartbeats 1600000 in
open StableHlo in
theorem V27_eq : V m c main_v27 = tabA 0x00000000#32 (Host.sin (angA (p1 m c))) := by
  unfold V hostOps0 hostOps0_1 hostOps0_2 hostOps0_3 hostOps0_4 hostOps0_5 hostOps0_6
  simp only [List.flatten_cons, List.flatten_nil, List.append_nil, List.cons_append, List.nil_append]
  simp (disch := decide) only [after_cons, after_nil, nary4_result', nullary_result', unary_result', binary_result', ternary_result', reshape_result',
    nullary_result_ne', unary_result_ne', binary_result_ne', ternary_result_ne', reshape_result_ne', nary_result_ne']
  rfl

theorem packA_apply (x : FVec Ideal S2x2048x1824 .bf16) (b : Fin 2) (s : Fin 2048) (n : Fin 2048) : packA x (ix3 b s n)
    = if h : n.val < 1152 then x (ix3 b s ⟨n.val, by omega⟩)
      else if h : n.val - 1152 < 640 then x (ix3 b s ⟨1184 + (n.val - 1152), by omega⟩)
      else if h : n.val - 1152 - 640 < 64 then 0
      else if h : n.val - 1152 - 640 - 64 < 32 then x (ix3 b s ⟨1152 + (n.val - 1152 - 640 - 64), by omega⟩) else 0 := by
  pointwise [packA]

theorem angA_apply (p : IVec S2x2048 32) (b : Fin 2) (s : Fin 2048) (i : Fin 16) :
    angA p (ix3 b s i) = ang (FloatOps.sitofp (F := Ideal) .f32 (p (ix2 b s))) i := by
  unfold ang
  pointwise [angA]

theorem tabA_apply (z : BitVec 32) (a : FVec Ideal S2x2048x16 .f32) (b : Fin 2) (s : Fin 2048) (k : Fin 128) : tabA z a (ix3 b s k)
    = if h : k.val < 64 then Ideal.ofBits .f32 z else if h : k.val - 64 < 16 then a (ix3 b s ⟨k.val - 64, h⟩)
      else if h : k.val - 64 - 16 < 16 then a (ix3 b s ⟨k.val - 64 - 16, h⟩) else Ideal.ofBits .f32 z := by
  pointwise [tabA]

theorem V37_apply (h : Fin 6) (k : Fin 128) (j : Fin 256) : (V m c main_v37 : FVec Ideal S768x256 .bf16) (ix2 ⟨h.val * 128 + k.val, by omega⟩ j)
    = if hk : k.val < 96 then w6 m c (ix2 j ⟨h.val * 96 + k.val, by omega⟩) else 0 := by
  unfold w6
  unfold V hostOps0 hostOps0_1 hostOps0_2 hostOps0_3 hostOps0_4 hostOps0_5 hostOps0_6
  simp only [List.flatten_cons, List.flatten_nil, List.append_nil, List.cons_append, List.nil_append]
  entry_read
  simp -implicitDefEqProofs only [StableHlo.TRef.toBuf, StableHlo.TRef.ofBuf, cast_cast, cast_eq]
  pointwise
  split_ifs
  · rfl
  · show (((0#32 : BitVec 32).toInt : ℝ) : EReal) = 0
    simp

theorem V38_apply (K : Fin 768) (j : Fin 128) : (V m c main_v38 : FVec Ideal S768x128 .bf16) (ix2 K j) = w7 m c (ix2 j K) := by
  unfold w7
  unfold V hostOps0 hostOps0_1 hostOps0_2 hostOps0_3 hostOps0_4 hostOps0_5 hostOps0_6
  simp only [List.flatten_cons, List.flatten_nil, List.append_nil, List.cons_append, List.nil_append]
  entry_read
  pointwise

theorem V28_apply (j : Fin 256) : (V m c main_v28 : FVec Ideal S1x256 .f32) (ix2 0 j) = g2 m c (ix1 j) := by
  unfold g2
  unfold V hostOps0 hostOps0_1 hostOps0_2 hostOps0_3 hostOps0_4 hostOps0_5 hostOps0_6
  simp only [List.flatten_cons, List.flatten_nil, List.append_nil, List.cons_append, List.nil_append]
  entry_read
  pointwise

theorem V29_apply (j : Fin 128) : (V m c main_v29 : FVec Ideal S1x128 .f32) (ix2 0 j) = g3 m c (ix1 j) := by
  unfold g3
  unfold V hostOps0 hostOps0_1 hostOps0_2 hostOps0_3 hostOps0_4 hostOps0_5 hostOps0_6
  simp only [List.flatten_cons, List.flatten_nil, List.append_nil, List.cons_append, List.nil_append]
  entry_read
  pointwise

/-! The blocks. -/

variable (t : Fin cfg0.N)

theorem bGq_apply (j : Fin 256) : bGq m c t (ix2 0 j) = g2 m c (ix1 j) := by
  refine Eq.trans ?_ (V28_apply m c j)
  unfold bGq
  blk_ext [iblk, idx t]

theorem bGk_apply (j : Fin 128) : bGk m c t (ix2 0 j) = g3 m c (ix1 j) := by
  refine Eq.trans ?_ (V29_apply m c j)
  unfold bGk
  blk_ext [iblk, idx t]

theorem bWq_apply (h : Fin 6) (k : Fin 128) (j : Fin 256) : bWq m c t (ix2 ⟨h.val * 128 + k.val, by omega⟩ j)
    = if hk : k.val < 96 then w6 m c (ix2 j ⟨h.val * 96 + k.val, by omega⟩) else 0 := by
  refine Eq.trans ?_ (V37_apply m c h k j)
  unfold bWq
  blk_ext [iblk, idx t]

theorem bWk_apply (K : Fin 768) (j : Fin 128) : bWk m c t (ix2 K j) = w7 m c (ix2 j K) := by
  refine Eq.trans ?_ (V38_apply m c K j)
  unfold bWk
  blk_ext [iblk, idx t]

variable (r : Fin 512) (b : Fin 2) (s : Fin 2048) (hb : b.val = t.val / 4) (hs : s.val = t.val % 4 * 512 + r.val)
include hb hs

theorem bCq_apply (j : Fin 256) : bCq m c t (ix3 0 r j) = x0 m c (ix3 b s ⟨768 + j.val, by omega⟩) := by
  have h : bCq m c t (ix3 0 r j) = V m c main_v5 (ix3 b s ⟨768 + j.val, by omega⟩) := by
    unfold bCq
    blk_ext [iblk, idx t]
  rw [h, V5_eq]
  exact (packA_apply _ b s _).trans (dif_pos (by simp only; omega))

theorem bCk_apply (j : Fin 128) : bCk m c t (ix3 0 r j) = x0 m c (ix3 b s ⟨1024 + j.val, by omega⟩) := by
  have h : bCk m c t (ix3 0 r j) = V m c main_v5 (ix3 b s ⟨1024 + j.val, by omega⟩) := by
    unfold bCk
    blk_ext [iblk, idx t]
  rw [h, V5_eq]
  exact (packA_apply _ b s _).trans (dif_pos (by simp only; omega))

theorem bKr_apply (k : Fin 128) (hk : ¬k.val < 64) : bKr m c t (ix3 0 r k)
    = if h : k.val < 96 then x0 m c (ix3 b s ⟨1152 + (k.val - 64), by omega⟩) else 0 := by
  have h : bKr m c t (ix3 0 r k) = V m c main_v5 (ix3 b s ⟨1792 + k.val, by omega⟩) := by
    unfold bKr
    blk_ext [iblk, idx t]
  rw [h, V5_eq]
  refine (packA_apply _ b s _).trans ?_
  rw [dif_neg (by simp only; omega), dif_neg (by simp only; omega), dif_neg (by simp only; omega)]
  by_cases hk' : k.val < 96
  · rw [dif_pos hk', dif_pos (by simp only; omega)]
    exact congrArg (fun n => x0 m c (ix3 b s n)) (Fin.ext (by simp only; omega))
  · rw [dif_neg hk', dif_neg (by simp only; omega)]

theorem bC_apply (k : Fin 128) : bC m c t (ix3 0 r k)
    = if h : k.val < 64 then Ideal.ofBits .f32 0x3F800000#32 else if h : k.val - 64 < 16 then cosA (p1 m c) b s ⟨k.val - 64, h⟩
      else if h : k.val - 64 - 16 < 16 then cosA (p1 m c) b s ⟨k.val - 64 - 16, h⟩ else Ideal.ofBits .f32 0x3F800000#32 := by
  have h : bC m c t (ix3 0 r k) = V m c main_v22 (ix3 b s k) := by
    unfold bC
    blk_ext [iblk, idx t]
  have e : ∀ i, Host.cos (F := Ideal) (angA (p1 m c)) (ix3 b s i) = cosA (p1 m c) b s i := fun i => congrArg Ideal.cos (angA_apply _ b s i)
  rw [h, V22_eq]
  refine (tabA_apply _ _ b s k).trans ?_
  simp only [e]

theorem bS_apply (k : Fin 128) : bS m c t (ix3 0 r k)
    = if h : k.val < 64 then Ideal.ofBits .f32 0x00000000#32 else if h : k.val - 64 < 16 then sinA (p1 m c) b s ⟨k.val - 64, h⟩
      else if h : k.val - 64 - 16 < 16 then sinA (p1 m c) b s ⟨k.val - 64 - 16, h⟩ else Ideal.ofBits .f32 0x00000000#32 := by
  have h : bS m c t (ix3 0 r k) = V m c main_v27 (ix3 b s k) := by
    unfold bS
    blk_ext [iblk, idx t]
  have e : ∀ i, Host.sin (F := Ideal) (angA (p1 m c)) (ix3 b s i) = sinA (p1 m c) b s i := fun i => congrArg Ideal.sin (angA_apply _ b s i)
  rw [h, V27_eq]
  refine (tabA_apply _ _ b s k).trans ?_
  simp only [e]

theorem bDq_apply (K : Fin 768) : bDq m c t (ix3 0 r K) = d8 m c (ix3 b s K) := by
  unfold bDq d8
  blk_ext [iblk, V, idx t]

theorem bDk_apply (K : Fin 768) : bDk m c t (ix3 0 r K) = d9 m c (ix3 b s K) := by
  unfold bDk d9
  blk_ext [iblk, V, idx t]

end Cert.Kernel28Ideal.Mla
-- ==== Proof.MlaVal28.lean ====
module

public import proofs.«01_k».proof.Proof.MlaBlk28
public import proofs.«01_k».proof.Proof.MlaOut28
public import Idealize.ShloMosaic.Lib.Pipeline.ReadBack

@[expose] public section

/-! What each point of program 28's grid leaves in the two rows of the gains' gradients: the six heads' parts added to what was there. -/

set_option maxRecDepth 65536

noncomputable section

open Idealize.ShloMosaic Idealize.ShloMosaic.TcCoe Idealize.SL.Sem

namespace Cert.Kernel28Ideal.Mla

open Cert.Kernel28Ideal Cert.Kernel28Ideal.Gen

theorem sliceH (h : Fin 6) : S512x768.Slices ![0, h.val * 128] S512x128 := by
  revert h
  decide
theorem inbD {o : ℕ} (ho : o + 128 ≤ 768) : ∀ a, (![0, 0, o] : Fin 3 → ℕ) a + (![1, 512, 128] : Fin 3 → ℕ) a ≤ S1x512x768.size a
  | 0 => Nat.le_refl _
  | 1 => Nat.le_refl _
  | 2 => ho

/-- A head's columns of a block of gradients. -/
def dL (d : FVec Ideal S1x512x768 .f32) (h : Fin 6) : FVec Ideal S1x512x128 .f32 :=
  View.ld (Val := Elt Ideal) (S := S1x512x768) (e' := .f32) d (Rect.unit (s := S1x512x768) ![0, 0, h.val * 128] ![1, 512, 128] (inbD (by omega)))
theorem dL_apply (d : FVec Ideal S1x512x768 .f32) (h : Fin 6) (r : Fin 512) (k : Fin 128) :
    dL d h (ix3 0 r k) = d (ix3 0 r ⟨h.val * 128 + k.val, by omega⟩) :=
  congrArg d (by funext a; apply Fin.ext; rw [Rect.idx_unit_val]; fin_cases a <;> simp [ix3])

/-- The six heads' parts, one after the other. -/
def sixP (cv sv : FVec Ideal S512x128 .f32) (x : Fin 6 → FVec Ideal S512x128 .f32) (d : FVec Ideal S1x512x768 .f32) : FVec Ideal S1x128 .f32 :=
  stepP cv sv (stepP cv sv (stepP cv sv (stepP cv sv (stepP cv sv (stepP cv sv (k0_pay24 (F := Ideal)) (x 0) (dL d 0)) (x 1) (dL d 1)) (x 2) (dL d 2))
    (x 3) (dL d 3)) (x 4) (dL d 4)) (x 5) (dL d 5)

theorem sixP_apply (cv sv : FVec Ideal S512x128 .f32) (x : Fin 6 → FVec Ideal S512x128 .f32) (d : FVec Ideal S1x512x768 .f32) (k : Fin 128) :
    sixP cv sv x d (ix2 0 k) = ∑ h : Fin 6, ∑ r : Fin 512, dnP cv sv (dL d h) (ix2 r k) * hatP (x h) (ix2 r k) := by
  unfold sixP
  simp only [stepP_apply, zero24_apply, zero_add, Fin.sum_univ_six]

variable (m : (ℓ : Loc nD τ sig) → Buf (Elt Ideal) ℓ) (c : Dev nD)

/-- The six heads of the queries and of the keys, before they are normalised. -/
def hQ (t : Fin cfg0.N) (h : Fin 6) : FVec Ideal S512x128 .f32 :=
  extractStridedSlice S512x128 ![0, h.val * 128] (k0_pay17 (F := Ideal) (k0_pay15 (bCq m c t) (bGq m c t)) (k0_pay16 (bWq m c t))) (sliceH h)
def hK (t : Fin cfg0.N) (h : Fin 6) : FVec Ideal S512x128 .f32 :=
  kP (sliceH h) (k0_pay22 (F := Ideal) (bCk m c t) (bGk m c t) (bWk m c t)) (k0_pay23 (F := Ideal) (bKr m c t))

/-- A point's part of the two gradients. -/
def pQ (t : Fin cfg0.N) : FVec Ideal S1x128 .f32 := sixP (k0_pay8 (F := Ideal) (bC m c t)) (k0_pay9 (F := Ideal) (bS m c t)) (hQ m c t) (bDq m c t)
def pK (t : Fin cfg0.N) : FVec Ideal S1x128 .f32 := sixP (k0_pay8 (F := Ideal) (bC m c t)) (k0_pay9 (F := Ideal) (bS m c t)) (hK m c t) (bDk m c t)

theorem q_A (t : Fin cfg0.N) (h : t.val % 8 = 0) :
    (outsAt m c t.val t.isLt).2.2.2.2.2.2.2.1 = k0_pay142 (F := Ideal) (pQ m c t) (k0_pay6 (F := Ideal)) := by
  rw [outsAt_A m c t h]
  unfold outA runA
  frame_out
  rfl

theorem q_B (t : Fin cfg0.N) (h : ¬t.val % 8 = 0) : (outsAt m c t.val t.isLt).2.2.2.2.2.2.2.1
    = k0_pay142 (F := Ideal) (pQ m c t) ((outsAt m c (t.val - 1) (Nat.lt_of_le_of_lt (Nat.sub_le _ _) t.isLt)).2.2.2.2.2.2.2.1) := by
  rw [outsAt_B m c t h]
  unfold outB runB
  frame_out
  rfl

theorem k_A (t : Fin cfg0.N) (h : t.val % 8 = 0) :
    (outsAt m c t.val t.isLt).2.2.2.2.2.2.2.2 = k0_pay142 (F := Ideal) (pK m c t) (k0_pay6 (F := Ideal)) := by
  rw [outsAt_A m c t h]
  unfold outA runA
  frame_out
  rfl

theorem k_B (t : Fin cfg0.N) (h : ¬t.val % 8 = 0) : (outsAt m c t.val t.isLt).2.2.2.2.2.2.2.2
    = k0_pay142 (F := Ideal) (pK m c t) ((outsAt m c (t.val - 1) (Nat.lt_of_le_of_lt (Nat.sub_le _ _) t.isLt)).2.2.2.2.2.2.2.2) := by
  rw [outsAt_B m c t h]
  unfold outB runB
  frame_out
  rfl

end Cert.Kernel28Ideal.Mla
-- ==== Proof.MlaFold28.lean ====
module

public import proofs.«01_k».proof.Proof.MlaVal28

@[expose] public section

/-! Program 28's two rows on the arguments: point `t` of the grid is sequence `t / 4`, row block `t % 4`. A head's 128 lanes are its 96 and 32
zeros after them; the sums over the heads, the rows of a block and the points are the gains' gradients. -/

set_option maxRecDepth 16384

noncomputable section

open Idealize.ShloMosaic Idealize.ShloMosaic.TcCoe Idealize.SL.Sem

namespace Cert.Kernel28Ideal.Mla

open Cert.Kernel28Ideal Cert.Kernel28Ideal.Gen
open Cert.Mla (rs proj turn term gain rs_pad headQ headK headD cosA sinA)

theorem slice_apply (v : FVec Ideal S512x768 .f32) (h : Fin 6) (r : Fin 512) (k : Fin 128) :
    extractStridedSlice S512x128 ![0, h.val * 128] v (sliceH h) (ix2 r k) = v (ix2 r ⟨h.val * 128 + k.val, by omega⟩) := by
  pointwise

theorem sin_apply (x : FVec Ideal S1x512x128 .f32) (r : Fin 512) (k : Fin 128) : k0_pay9 (F := Ideal) x (ix2 r k) = x (ix3 0 r k) := by
  pointwise [k0_pay9]

/-- A table over 128 lanes at a row: a constant, 16 numbers twice, the constant again. -/
def lanes (z : EReal) (C : Fin 16 → EReal) (k : Fin 128) : EReal :=
  if h : k.val < 64 then z else if h : k.val - 64 < 16 then C ⟨k.val - 64, h⟩ else if h : k.val - 64 - 16 < 16 then C ⟨k.val - 64 - 16, h⟩ else z

theorem lanes_lo (z : EReal) (C : Fin 16 → EReal) (k : Fin 128) (h : k.val < 64) : lanes z C k = z := dif_pos h
theorem lanes_a (z : EReal) (C : Fin 16 → EReal) (k : Fin 128) (h1 : 64 ≤ k.val) (h2 : k.val < 80) (i : Fin 16) (hi : k.val = 64 + i.val) :
    lanes z C k = C i := by
  unfold lanes
  rw [dif_neg (show ¬k.val < 64 by omega), dif_pos (show k.val - 64 < 16 by omega)]
  exact congrArg C (Fin.ext (by show k.val - 64 = i.val; omega))
theorem lanes_b (z : EReal) (C : Fin 16 → EReal) (k : Fin 128) (i : Fin 16) (hi : k.val = 80 + i.val) : lanes z C k = C i := by
  unfold lanes
  rw [dif_neg (show ¬k.val < 64 by omega), dif_neg (show ¬k.val - 64 < 16 by omega), dif_pos (show k.val - 64 - 16 < 16 by omega)]
  exact congrArg C (Fin.ext (by show k.val - 64 - 16 = i.val; omega))

/-- A head's part of the gradient, at a row and a lane. -/
theorem lane_apply (cv sv x : FVec Ideal S512x128 .f32) (d : FVec Ideal S1x512x128 .f32) (r : Fin 512) (X D : Fin 96 → EReal) (C S : Fin 16 → EReal)
    (hx : ∀ k : Fin 128, x (ix2 r k) = if hk : k.val < 96 then X ⟨k.val, hk⟩ else 0)
    (hd : ∀ (k : Fin 128) (hk : k.val < 96), d (ix3 0 r k) = D ⟨k.val, hk⟩)
    (hc : ∀ k : Fin 128, cv (ix2 r k) = lanes (Ideal.ofBits .f32 0x3F800000#32) C k)
    (hs : ∀ k : Fin 128, sv (ix2 r k) = lanes (Ideal.ofBits .f32 0x00000000#32) S k) (k : Fin 128) :
    dnP cv sv d (ix2 r k) * hatP x (ix2 r k) = if hk : k.val < 96 then term X D C S ⟨k.val, hk⟩ else 0 := by
  rw [hatP_apply, rs_pad _ _ X hx, hx k]
  by_cases hk : k.val < 96
  · rw [dif_pos hk, dif_pos hk, dnP_apply]
    unfold term
    congr 1
    unfold turn
    by_cases h1 : k.val < 64
    · rw [dif_neg (show ¬(80 ≤ k.val ∧ k.val < 96) by omega), dif_neg (show ¬(64 ≤ k.val ∧ k.val < 80) by omega), add_zero, hc k,
        lanes_lo _ _ k h1, Ideal.ofBits_one_f32, mul_one, hd k hk, if_pos h1]
    · rw [if_neg h1]
      by_cases h2 : k.val < 80
      · rw [dif_neg (show ¬(80 ≤ k.val ∧ k.val < 96) by omega), dif_pos (show 64 ≤ k.val ∧ k.val < 80 by omega), dif_pos h2, hc k, hs,
          lanes_a _ _ k (by omega) h2 ⟨k.val - 64, by omega⟩ (by show k.val = 64 + (k.val - 64); omega),
          lanes_b _ _ _ ⟨k.val - 64, by omega⟩ (by show k.val + 16 = 80 + (k.val - 64); omega), hd k hk,
          hd ⟨k.val + 16, by omega⟩ (by show k.val + 16 < 96; omega)]
      · rw [dif_pos (show 80 ≤ k.val ∧ k.val < 96 by omega), dif_neg h2, hc k, hs,
          lanes_b _ _ k ⟨k.val - 80, by omega⟩ (by show k.val = 80 + (k.val - 80); omega),
          lanes_a _ _ _ (by show 64 ≤ k.val - 16; omega) (by show k.val - 16 < 80; omega) ⟨k.val - 80, by omega⟩
            (by show k.val - 16 = 64 + (k.val - 80); omega), hd k hk,
          hd ⟨k.val - 16, by omega⟩ (by show k.val - 16 < 96; omega), zero_sub]
  · rw [dif_neg hk, dif_neg hk, zero_mul, mul_zero]

variable (m : (ℓ : Loc nD τ sig) → Buf (Elt Ideal) ℓ) (c : Dev nD)

section
variable (t : Fin cfg0.N) (r : Fin 512) (b : Fin 2) (s : Fin 2048) (hb : b.val = t.val / 4) (hs : s.val = t.val % 4 * 512 + r.val)
include hb hs

theorem hQ_apply (h : Fin 6) (k : Fin 128) : hQ m c t h (ix2 r k)
    = if hk : k.val < 96 then headQ (x0 m c) (g2 m c) (w6 m c) b s h ⟨k.val, hk⟩ else 0 := by
  unfold hQ
  rw [slice_apply, q_apply]
  simp only [bCq_apply m c t r b s hb hs, bGq_apply, bWq_apply]
  by_cases hk : k.val < 96
  · simp only [hk, dite_true]
    rfl
  · simp only [hk, dite_false, mul_zero, Finset.sum_const_zero]

theorem hK_apply (h : Fin 6) (k : Fin 128) : hK m c t h (ix2 r k)
    = if hk : k.val < 96 then headK (x0 m c) (g3 m c) (w7 m c) b s h ⟨k.val, hk⟩ else 0 := by
  unfold hK
  rw [kP_apply _ _ _ r k ⟨h.val * 128 + k.val, by omega⟩ rfl]
  by_cases h1 : k.val < 64
  · rw [if_pos h1, dif_pos (show k.val < 96 by omega), k_apply]
    simp only [bCk_apply m c t r b s hb hs, bGk_apply, bWk_apply]
    unfold headK
    rw [if_pos (show (⟨k.val, _⟩ : Fin 96).val < 64 from h1)]
    rfl
  · rw [if_neg h1, kr_apply, bKr_apply m c t r b s hb hs k h1]
    by_cases hk : k.val < 96
    · rw [dif_pos hk, dif_pos hk]
      unfold headK
      rw [if_neg (show ¬(⟨k.val, hk⟩ : Fin 96).val < 64 from h1)]
    · rw [dif_neg hk, dif_neg hk]

theorem c_apply (k : Fin 128) : k0_pay8 (F := Ideal) (bC m c t) (ix2 r k) = lanes (Ideal.ofBits .f32 0x3F800000#32) (cosA (p1 m c) b s) k :=
  (tab_apply _ r k).trans (bC_apply m c t r b s hb hs k)
theorem s_apply (k : Fin 128) : k0_pay9 (F := Ideal) (bS m c t) (ix2 r k) = lanes (Ideal.ofBits .f32 0x00000000#32) (sinA (p1 m c) b s) k :=
  (sin_apply _ r k).trans (bS_apply m c t r b s hb hs k)
end

/-- A point's part of the sum, over the rows of its block and the heads. -/
theorem part_q (t : Fin cfg0.N) (b : Fin 2) (a : Fin 4) (ht : t.val = 4 * b.val + a.val) (k : Fin 128) : pQ m c t (ix2 0 k)
    = ∑ r : Fin 512, ∑ h : Fin 6, if hk : k.val < 96 then term (headQ (x0 m c) (g2 m c) (w6 m c) b ⟨a.val * 512 + r.val, by omega⟩ h)
      (headD (d8 m c) b ⟨a.val * 512 + r.val, by omega⟩ h) (cosA (p1 m c) b ⟨a.val * 512 + r.val, by omega⟩)
      (sinA (p1 m c) b ⟨a.val * 512 + r.val, by omega⟩) ⟨k.val, hk⟩ else 0 := by
  have hb' := b.isLt
  have ha := a.isLt
  have hb : b.val = t.val / 4 := by omega
  have hs : ∀ r : Fin 512, (⟨a.val * 512 + r.val, by omega⟩ : Fin 2048).val = t.val % 4 * 512 + r.val := fun r => by simp only; omega
  unfold pQ
  rw [sixP_apply, Finset.sum_comm]
  exact Finset.sum_congr rfl fun r _ => Finset.sum_congr rfl fun h _ => lane_apply _ _ _ _ r _ _ _ _ (hQ_apply m c t r b _ hb (hs r) h)
    (fun k _ => (dL_apply _ h r k).trans (bDq_apply m c t r b _ hb (hs r) _)) (c_apply m c t r b _ hb (hs r)) (s_apply m c t r b _ hb (hs r)) k

theorem part_k (t : Fin cfg0.N) (b : Fin 2) (a : Fin 4) (ht : t.val = 4 * b.val + a.val) (k : Fin 128) : pK m c t (ix2 0 k)
    = ∑ r : Fin 512, ∑ h : Fin 6, if hk : k.val < 96 then term (headK (x0 m c) (g3 m c) (w7 m c) b ⟨a.val * 512 + r.val, by omega⟩ h)
      (headD (d9 m c) b ⟨a.val * 512 + r.val, by omega⟩ h) (cosA (p1 m c) b ⟨a.val * 512 + r.val, by omega⟩)
      (sinA (p1 m c) b ⟨a.val * 512 + r.val, by omega⟩) ⟨k.val, hk⟩ else 0 := by
  have hb' := b.isLt
  have ha := a.isLt
  have hb : b.val = t.val / 4 := by omega
  have hs : ∀ r : Fin 512, (⟨a.val * 512 + r.val, by omega⟩ : Fin 2048).val = t.val % 4 * 512 + r.val := fun r => by simp only; omega
  unfold pK
  rw [sixP_apply, Finset.sum_comm]
  exact Finset.sum_congr rfl fun r _ => Finset.sum_congr rfl fun h _ => lane_apply _ _ _ _ r _ _ _ _ (hK_apply m c t r b _ hb (hs r) h)
    (fun k _ => (dL_apply _ h r k).trans (bDk_apply m c t r b _ hb (hs r) _)) (c_apply m c t r b _ hb (hs r)) (s_apply m c t r b _ hb (hs r)) k

/-- A row which starts at a point's part and has each later point's part added holds after the last point the whole sum. -/
theorem fold (f : (n : ℕ) → n < cfg0.N → FVec Ideal S1x128 .f32) (p : Fin cfg0.N → FVec Ideal S1x128 .f32)
    (hA : ∀ t : Fin cfg0.N, t.val % 8 = 0 → f t.val t.isLt = k0_pay142 (F := Ideal) (p t) (k0_pay6 (F := Ideal)))
    (hB : ∀ t : Fin cfg0.N, ¬t.val % 8 = 0 → f t.val t.isLt
      = k0_pay142 (F := Ideal) (p t) (f (t.val - 1) (Nat.lt_of_le_of_lt (Nat.sub_le _ _) t.isLt)))
    (X D : Fin 2 → Fin 2048 → Fin 6 → Fin 96 → EReal) (C S : Fin 2 → Fin 2048 → Fin 16 → EReal)
    (hp : ∀ (t : Fin cfg0.N) (b : Fin 2) (a : Fin 4), t.val = 4 * b.val + a.val → ∀ k : Fin 128, p t (ix2 0 k)
      = ∑ r : Fin 512, ∑ h : Fin 6, if hk : k.val < 96 then term (X b ⟨a.val * 512 + r.val, by omega⟩ h) (D b ⟨a.val * 512 + r.val, by omega⟩ h)
        (C b ⟨a.val * 512 + r.val, by omega⟩) (S b ⟨a.val * 512 + r.val, by omega⟩) ⟨k.val, hk⟩ else 0)
    (t : Fin cfg0.N) (h : t.val % 8 = 7) (k : Fin 128) : f t.val t.isLt (ix2 0 k) = gain X D C S k := by
  have ht : t.val < 8 := lt_of_lt_of_eq t.isLt N_0
  have e := Pipeline.eq_sum_fin_of_reset_step_apply_of_flush (fun n h (i : Fin 128) => f n h (ix2 0 i)) 8 (fun _ => 0) (fun t i => p t (ix2 0 i))
    (fun t h i => (congrFun (hA t h) _).trans ((last_apply _ _ i).trans (congrArg (· + p t (ix2 0 i)) (zero_apply _))))
    (fun t h i => (congrFun (hB t h) _).trans (last_apply _ _ i)) t h k
  rw [e, zero_add, Fin.sum_univ_tiles 2 4 rfl]
  unfold gain
  by_cases hk : k.val < 96
  · rw [dif_pos hk]
    refine Finset.sum_congr rfl fun b _ => ?_
    rw [Fin.sum_univ_tiles 4 512 rfl]
    refine Finset.sum_congr rfl fun a _ => ?_
    refine (hp _ b a (by simp only; omega) k).trans ?_
    simp only [hk, dite_true]
  · rw [dif_neg hk]
    refine Finset.sum_eq_zero fun b _ => Finset.sum_eq_zero fun a _ => ?_
    refine (hp _ b a (by simp only; omega) k).trans ?_
    simp only [hk, dite_false, Finset.sum_const_zero]

/-- The result arrays: the gradients of the queries' gain and of the keys'. -/
def resQ : FVec Ideal S1x128 .f32 := fun i => gain (headQ (x0 m c) (g2 m c) (w6 m c)) (headD (d8 m c)) (cosA (p1 m c)) (sinA (p1 m c)) (i 1)
def resK : FVec Ideal S1x128 .f32 := fun i => gain (headK (x0 m c) (g3 m c) (w7 m c)) (headD (d9 m c)) (cosA (p1 m c)) (sinA (p1 m c)) (i 1)

theorem lastQ (t : Fin cfg0.N) (h : t.val % 8 = 7) (k : Fin 128) : (outsAt m c t.val t.isLt).2.2.2.2.2.2.2.1 (ix2 0 k) = resQ m c (ix2 0 k) :=
  fold (fun n h => (outsAt m c n h).2.2.2.2.2.2.2.1) (pQ m c) (q_A m c) (q_B m c) _ _ _ _ (part_q m c) t h k
theorem lastK (t : Fin cfg0.N) (h : t.val % 8 = 7) (k : Fin 128) : (outsAt m c t.val t.isLt).2.2.2.2.2.2.2.2 (ix2 0 k) = resK m c (ix2 0 k) :=
  fold (fun n h => (outsAt m c n h).2.2.2.2.2.2.2.2) (pK m c) (k_A m c) (k_B m c) _ _ _ _ (part_k m c) t h k

theorem final21 (c : Dev nD) : (dats m 0 c).arrAt 21 cfg0.N = resQ m c := by
  refine (dats m 0 c).arrAt_eq_of_covers 21 (resQ m c) (by decide +kernel) fun t hf y => ?_
  have h7 := (flush0_21 t).mp hf
  blk_simp
  rw [after0_21]
  obtain ⟨z, k, rfl⟩ : ∃ i j, y = ix2 i j := ⟨y 0, y 1, eq_ix2 y⟩
  obtain rfl : z = 0 := Subsingleton.elim _ _
  refine (lastQ m c t h7 k).trans ?_
  refine congrArg (resQ m c) ?_
  blk_ext [idx t]

theorem final22 (c : Dev nD) : (dats m 0 c).arrAt 22 cfg0.N = resK m c := by
  refine (dats m 0 c).arrAt_eq_of_covers 22 (resK m c) (by decide +kernel) fun t hf y => ?_
  have h7 := (flush0_22 t).mp hf
  blk_simp
  rw [after0_22]
  obtain ⟨z, k, rfl⟩ : ∃ i j, y = ix2 i j := ⟨y 0, y 1, eq_ix2 y⟩
  obtain rfl : z = 0 := Subsingleton.elim _ _
  refine (lastK m c t h7 k).trans ?_
  refine congrArg (resK m c) ?_
  blk_ext [idx t]

end Cert.Kernel28Ideal.Mla
-- ==== Proof.MlaRef28.lean ====
module

public import proofs.«01_k».proof.Proof.MlaMath28
public import proofs.«01_k».proof.Proof.Gen.Reference28Ideal.Run

@[expose] public section

/-! The reference of program 28 at an index: its heads, its rotation turned back, its sums. -/

set_option maxRecDepth 65536

noncomputable section

open Idealize.ShloMosaic Idealize.ShloMosaic.TcCoe Idealize.SL.Sem

namespace Cert.Reference28Ideal.Mla

open Cert.Reference28Ideal Cert.Reference28Ideal.Gen Cert.Reference28Ideal.Value Cert.Mla

variable (V0 : Valuation τ sig (Elt Ideal))

/-- The arguments as arrays. -/
def x0 : FVec Ideal S2x2048x1824 .bf16 := V0 (Proc.devRef .tc main_arg0)
def p1 : IVec S2x2048 32 := V0 (Proc.devRef .tc main_arg1)
def g2 : FVec Ideal S256 .f32 := V0 (Proc.devRef .tc main_arg2)
def g3 : FVec Ideal S128 .f32 := V0 (Proc.devRef .tc main_arg3)
def w6 : FVec Ideal S256x576 .bf16 := V0 (Proc.devRef .tc main_arg6)
def w7 : FVec Ideal S128x768 .bf16 := V0 (Proc.devRef .tc main_arg7)
def d8 : FVec Ideal S2x2048x768 .f32 := V0 (Proc.devRef .tc main_arg8)
def d9 : FVec Ideal S2x2048x768 .f32 := V0 (Proc.devRef .tc main_arg9)

/-- An array of heads normalised. -/
def normR (x : FVec Ideal S2x2048x6x96 .f32) : FVec Ideal S2x2048x6x96 .f32 :=
  mulf x (broadcastInDim S2x2048x6x96 ![0, 1, 2, 3] bcast_S2x2048x6x1_S2x2048x6x96_0_1_2_3 (Host.rsqrt (addf (Host.divf (broadcastInDim S2x2048x6x1 ![0, 1, 2] bcast_S2x2048x6_S2x2048x6x1_0_1_2 (Host.reduceAdd (mulf x x) (constant S_ .f32 0x00000000#32) reducesTo_S2x2048x6x96_S2x2048x6_d3 h_S_)) (broadcastInDim S2x2048x6x1 ![] bcast_S_S2x2048x6x1 (constant S_ .f32 0x42C00000#32))) (broadcastInDim S2x2048x6x1 ![] bcast_S_S2x2048x6x1 (constant S_ .f32 0x358637BD#32)))))

theorem normR_apply (x : FVec Ideal S2x2048x6x96 .f32) (b : Fin 2) (s : Fin 2048) (h : Fin 6) (k : Fin 96) :
    normR x (ix4 b s h k) = x (ix4 b s h k) * rs (Ideal.ofBits .f32 0x42C00000#32) (fun j : Fin 96 => x (ix4 b s h j)) := by
  unfold rs
  pointwise [normR]

theorem v27_apply (b : Fin 2) (s : Fin 2048) (h : Fin 6) (k : Fin 96) :
    res_main_v27 V0 (ix4 b s h k) = headQ (x0 V0) (g2 V0) (w6 V0) b s h k := by
  unfold headQ proj rs
  pointwise [res_main_v27, res_main_v9]
  rfl

theorem v92_apply (b : Fin 2) (s : Fin 2048) (h : Fin 6) (k : Fin 96) :
    res_main_v92 V0 (ix4 b s h k) = headK (x0 V0) (g3 V0) (w7 V0) b s h k := by
  unfold headK proj rs
  pointwise [res_main_v92, res_main_v10]
  split_ifs <;> rfl

theorem v139_apply (b : Fin 2) (s : Fin 2048) (h : Fin 6) (k : Fin 96) : res_main_v139 V0 (ix4 b s h k) = headD (d8 V0) b s h k := by
  unfold headD
  pointwise [res_main_v139]
  rfl

theorem v56_apply (b : Fin 2) (s : Fin 2048) (i : Fin 16) : res_main_v56 V0 (ix4 b s 0 i) = cosA (p1 V0) b s i := by
  unfold cosA ang
  pointwise [res_main_v56, res_main_v54]
  rfl

theorem v58_apply (b : Fin 2) (s : Fin 2048) (i : Fin 16) : res_main_v58 V0 (ix4 b s 0 i) = sinA (p1 V0) b s i := by
  unfold sinA ang
  pointwise [res_main_v58, res_main_v54]
  rfl

/-- A head's gradient turned back: its halves' products moved to their lanes, and the first 64 lanes as they are. -/
def turnR (d : FVec Ideal S2x2048x6x96 .f32) (a e : FVec Ideal S2x2048x6x16 .f32) (cs sn : FVec Ideal S2x2048x1x16 .f32) : FVec Ideal S2x2048x6x96 .f32 :=
  addf (pad S2x2048x6x96 ![0, 0, 0, 64] ![0, 0, 0, 0] ![0, 0, 0, 0] (addf (pad S2x2048x6x32 ![0, 0, 0, 16] ![0, 0, 0, 0] ![0, 0, 0, 0] (addf (mulf e (broadcastInDim S2x2048x6x16 ![0, 1, 2, 3] bcast_S2x2048x1x16_S2x2048x6x16_0_1_2_3 cs)) (mulf (Host.negf a) (broadcastInDim S2x2048x6x16 ![0, 1, 2, 3] bcast_S2x2048x1x16_S2x2048x6x16_0_1_2_3 sn))) (constant S_ .f32 0x00000000#32) pads_S2x2048x6x16_S2x2048x6x32_000_000_000_1600 h_S_) (pad S2x2048x6x32 ![0, 0, 0, 0] ![0, 0, 0, 16] ![0, 0, 0, 0] (addf (mulf e (broadcastInDim S2x2048x6x16 ![0, 1, 2, 3] bcast_S2x2048x1x16_S2x2048x6x16_0_1_2_3 sn)) (mulf a (broadcastInDim S2x2048x6x16 ![0, 1, 2, 3] bcast_S2x2048x1x16_S2x2048x6x16_0_1_2_3 cs))) (constant S_ .f32 0x00000000#32) pads_S2x2048x6x16_S2x2048x6x32_000_000_000_0160 h_S_)) (constant S_ .f32 0x00000000#32) pads_S2x2048x6x32_S2x2048x6x96_000_000_000_6400 h_S_) (pad S2x2048x6x96 ![0, 0, 0, 0] ![0, 0, 0, 32] ![0, 0, 0, 0] (extractStridedSlice S2x2048x6x64 ![0, 0, 0, 0] d slices_S2x2048x6x96_S2x2048x6x64_0_0_0_0) (constant S_ .f32 0x00000000#32) pads_S2x2048x6x64_S2x2048x6x96_000_000_000_0320 h_S_)

/-- The sum over every row and head, 32 zeros after it. -/
def sumR (x : FVec Ideal S2x2048x6x96 .f32) : FVec Ideal S1x128 .f32 :=
  shapeCast _ (pad S128 ![0] ![32] ![0] (Host.reduceAdd (shapeCast _ (Host.reduceAdd x (constant S_ .f32 0x00000000#32) reducesTo_S2x2048x6x96_S96_d0_1_2 h_S_) shapeCasts_S96_S1x1x1x96) (constant S_ .f32 0x00000000#32) reducesTo_S1x1x1x96_S96_d0_1_2 h_S_) (sitofp .f32 (constantI S_ 32 0#32)) pads_S96_S128_0320 h_S_) shapeCasts_S128_S1x128

theorem turnR_apply (d : FVec Ideal S2x2048x6x96 .f32) (a e : FVec Ideal S2x2048x6x16 .f32) (cs sn : FVec Ideal S2x2048x1x16 .f32)
    (b : Fin 2) (s : Fin 2048) (h : Fin 6) (k : Fin 96) : turnR d a e cs sn (ix4 b s h k)
      = if h1 : k.val < 64 then d (ix4 b s h k)
        else if h2 : k.val < 80 then e (ix4 b s h ⟨k.val - 64, by omega⟩) * sn (ix4 b s 0 ⟨k.val - 64, by omega⟩)
          + a (ix4 b s h ⟨k.val - 64, by omega⟩) * cs (ix4 b s 0 ⟨k.val - 64, by omega⟩)
        else e (ix4 b s h ⟨k.val - 80, by omega⟩) * cs (ix4 b s 0 ⟨k.val - 80, by omega⟩)
          + -a (ix4 b s h ⟨k.val - 80, by omega⟩) * sn (ix4 b s 0 ⟨k.val - 80, by omega⟩) := by
  pointwise [turnR]
  by_cases h1 : k.val < 64
  · have h2 : ¬(64 ≤ k.val ∧ k.val - 64 < 32) := by omega
    simp only [h1, h2, dite_true, dite_false, zero_add]
  · have h2 : 64 ≤ k.val ∧ k.val - 64 < 32 := by omega
    by_cases h3 : k.val < 80
    · have h4 : k.val - 64 < 16 := by omega
      have h5 : ¬(16 ≤ k.val - 64 ∧ k.val - 64 - 16 < 16) := by omega
      simp only [h1, h2, h3, h4, h5, dite_true, dite_false, zero_add, add_zero, and_self]
    · have h4 : ¬k.val - 64 < 16 := by omega
      have h5 : 16 ≤ k.val - 64 ∧ k.val - 64 - 16 < 16 := by omega
      simp only [h1, h2, h3, h4, h5, dite_true, dite_false, add_zero, and_self]
      simp only [Nat.sub_sub]

theorem sumR_apply (x : FVec Ideal S2x2048x6x96 .f32) (k : Fin 128) :
    sumR x (ix2 0 k) = if h : k.val < 96 then ∑ b : Fin 2, ∑ s : Fin 2048, ∑ h' : Fin 6, x (ix4 b s h' ⟨k.val, h⟩) else 0 := by
  pointwise [sumR]
  split_ifs with h
  · rw [hostReduceAdd_012, zero_add]
    simp only [Fin.sum_univ_one]
    pointwise
    rw [hostReduceAdd_012, zero_add]
  · show (((0#32 : BitVec 32).toInt : ℝ) : EReal) = 0
    simp

theorem gain_of (x y : FVec Ideal S2x2048x6x96 .f32) (a e : FVec Ideal S2x2048x6x16 .f32) (cs sn : FVec Ideal S2x2048x1x16 .f32)
    (X D : Fin 2 → Fin 2048 → Fin 6 → Fin 96 → EReal) (C S : Fin 2 → Fin 2048 → Fin 16 → EReal)
    (hx : ∀ b s h k, x (ix4 b s h k) = X b s h k) (hy : ∀ b s h k, y (ix4 b s h k) = D b s h k)
    (ha : ∀ b s h (i : Fin 16), a (ix4 b s h i) = D b s h ⟨64 + i.val, by omega⟩)
    (he : ∀ b s h (i : Fin 16), e (ix4 b s h i) = D b s h ⟨80 + i.val, by omega⟩)
    (hc : ∀ b s i, cs (ix4 b s 0 i) = C b s i) (hs : ∀ b s i, sn (ix4 b s 0 i) = S b s i) (k : Fin 128) :
    sumR (mulf (normR x) (turnR y a e cs sn)) (ix2 0 k) = gain X D C S k := by
  rw [sumR_apply]
  unfold gain
  split_ifs with hk
  · refine Finset.sum_congr rfl fun b _ => Finset.sum_congr rfl fun s _ => Finset.sum_congr rfl fun h _ => ?_
    show normR x _ * turnR y a e cs sn _ = _
    rw [normR_apply, turnR_apply, mul_comm]
    unfold term turn
    simp only [hx, hy, ha, he, hc, hs]
    congr 1
    split_ifs with h1 h2
    · rfl
    · refine (add_comm _ _).trans ?_
      have h1' : ¬k.val < 64 := h1
      simp only [show 64 + (k.val - 64) = k.val by omega, show 80 + (k.val - 64) = k.val + 16 by omega]
    · have h2' : ¬k.val < 80 := h2
      simp only [show 80 + (k.val - 80) = k.val by omega, show 64 + (k.val - 80) = k.val - 16 by omega, EReal.neg_mul]
  · rfl

theorem v142_apply (b : Fin 2) (s : Fin 2048) (h : Fin 6) (i : Fin 16) :
    res_main_v142 V0 (ix4 b s h i) = headD (d8 V0) b s h ⟨64 + i.val, by omega⟩ := by
  rw [← v139_apply]
  pointwise [res_main_v142, res_main_v141]
theorem v143_apply (b : Fin 2) (s : Fin 2048) (h : Fin 6) (i : Fin 16) :
    res_main_v143 V0 (ix4 b s h i) = headD (d8 V0) b s h ⟨80 + i.val, by omega⟩ := by
  rw [← v139_apply]
  pointwise [res_main_v143, res_main_v141]
  congr 2
  exact Fin.ext (by simp only; omega)
theorem v168_apply (b : Fin 2) (s : Fin 2048) (h : Fin 6) (k : Fin 96) : res_main_v168 V0 (ix4 b s h k) = headD (d9 V0) b s h k := by
  unfold headD
  pointwise [res_main_v168]
  rfl
theorem v171_apply (b : Fin 2) (s : Fin 2048) (h : Fin 6) (i : Fin 16) :
    res_main_v171 V0 (ix4 b s h i) = headD (d9 V0) b s h ⟨64 + i.val, by omega⟩ := by
  rw [← v168_apply]
  pointwise [res_main_v171, res_main_v170]
theorem v172_apply (b : Fin 2) (s : Fin 2048) (h : Fin 6) (i : Fin 16) :
    res_main_v172 V0 (ix4 b s h i) = headD (d9 V0) b s h ⟨80 + i.val, by omega⟩ := by
  rw [← v168_apply]
  pointwise [res_main_v172, res_main_v170]
  congr 2
  exact Fin.ext (by simp only; omega)

/-- The gradient of the queries' gain. -/
def outQ : FVec Ideal S1x128 .f32 :=
  sumR (mulf (res_main_v37 V0) (turnR (res_main_v139 V0) (res_main_v142 V0) (res_main_v143 V0) (res_main_v56 V0) (res_main_v58 V0)))
/-- The gradient of the keys' gain. -/
def outK : FVec Ideal S1x128 .f32 :=
  sumR (mulf (res_main_v102 V0) (turnR (res_main_v168 V0) (res_main_v171 V0) (res_main_v172 V0) (res_main_v121 V0) (res_main_v123 V0)))

theorem outQ_apply (k : Fin 128) : outQ V0 (ix2 0 k)
    = gain (headQ (x0 V0) (g2 V0) (w6 V0)) (headD (d8 V0)) (cosA (p1 V0)) (sinA (p1 V0)) k :=
  gain_of (res_main_v27 V0) _ _ _ _ _ _ _ _ _ (v27_apply V0) (v139_apply V0) (v142_apply V0) (v143_apply V0) (v56_apply V0) (v58_apply V0) k

theorem outK_apply (k : Fin 128) : outK V0 (ix2 0 k)
    = gain (headK (x0 V0) (g3 V0) (w7 V0)) (headD (d9 V0)) (cosA (p1 V0)) (sinA (p1 V0)) k :=
  gain_of (res_main_v92 V0) _ _ _ _ _ _ _ _ _ (v92_apply V0) (v168_apply V0) (v171_apply V0) (v172_apply V0) (v56_apply V0) (v58_apply V0) k

end Cert.Reference28Ideal.Mla
-- ==== Proof.Mla28.lean ====
module

public import proofs.«01_k».proof.Defs
public import proofs.«01_k».proof.Proof.MlaFrame28B
public import proofs.«01_k».proof.Proof.MlaFold28
public import proofs.«01_k».proof.Proof.MlaRef28
public import Idealize.ShloMosaic.Lib.Claim
public import Idealize.ShloMosaic.Lib.Quiescent

@[expose] public section

/-! The gradients of the two head gains of the latent attention, program 28: the kernel's rows are the reference's. The kernel keeps each head in
128 lanes, 32 of them zero, and turns the gradient back with whole-lane tables; the reference splits the lanes and turns the halves. -/

set_option maxRecDepth 65536

noncomputable section

open Idealize.ShloMosaic Idealize.ShloMosaic.TcCoe Idealize.SL.Sem

namespace Cert.Reference28Ideal.Mla

open Cert.Reference28Ideal Cert.Reference28Ideal.Gen Idealize.ShloMosaic Idealize.ShloMosaic.TcCoe Idealize.SL.Sem Idealize.ShloMosaic.StableHlo

theorem frame : Cert.quiescent_Reference28Ideal (hReference28Ideal := Cert.Reference28Ideal.Gen.facts) := by
  intro m ρ _
  exact (θ_run Cert.Reference28Ideal.defs _ _).mono
    (fun r h => ⟨fun c => (h c).2.2, sem_eq_zero_of_no_sems (by decide) r.2⟩) (Cert.Reference28Ideal.Value.run m ρ)

set_option maxHeartbeats 0 in
theorem algebraic : Cert.algebraic_Kernel28Ideal_Reference28Ideal (hKernel28Ideal := Cert.Kernel28Ideal.Gen.facts)
    (hReference28Ideal := Cert.Reference28Ideal.Gen.facts) := by
  intro m g m' g' _ hagree
  refine ⟨fun c => Cert.Kernel28Ideal.Mla.resQ m c, fun c => Cert.Kernel28Ideal.Mla.resK m c, ?_, ?_⟩
  · refine (θ_run _ _ _).mono (fun r h c => ?_) (θ_run_and (Cert.Kernel28Ideal.Mla.run_main m g) (Cert.Kernel28Ideal.Mla.unchanged m g))
    exact ⟨((h.1 c).1 21).trans (Cert.Kernel28Ideal.Mla.final21 m c), ((h.1 c).1 22).trans (Cert.Kernel28Ideal.Mla.final22 m c), h.2 c⟩
  · refine (θ_run _ _ _).mono (fun r h c => ?_) (Cert.Reference28Ideal.Value.run m' g')
    obtain ⟨h0, h1, hk⟩ := h c
    obtain ⟨a0, a1, a2, a3, a4, a5, a6, a7, a8, a9, a10⟩ := hagree c
    have e0 : x0 (launchContents m' c) = Cert.Kernel28Ideal.Mla.x0 m c := a0
    have e1 : p1 (launchContents m' c) = Cert.Kernel28Ideal.Mla.p1 m c := a1
    have e2 : g2 (launchContents m' c) = Cert.Kernel28Ideal.Mla.g2 m c := a2
    have e3 : g3 (launchContents m' c) = Cert.Kernel28Ideal.Mla.g3 m c := a3
    have e6 : w6 (launchContents m' c) = Cert.Kernel28Ideal.Mla.w6 m c := a6
    have e7 : w7 (launchContents m' c) = Cert.Kernel28Ideal.Mla.w7 m c := a7
    have e8 : d8 (launchContents m' c) = Cert.Kernel28Ideal.Mla.d8 m c := a8
    have e9 : d9 (launchContents m' c) = Cert.Kernel28Ideal.Mla.d9 m c := a9
    have q0 : outQ (launchContents m' c) = Cert.Kernel28Ideal.Mla.resQ m c := by
      funext i
      obtain ⟨z, k, rfl⟩ : ∃ z k, i = ix2 z k := ⟨i 0, i 1, eq_ix2 i⟩
      obtain rfl : z = 0 := Subsingleton.elim _ _
      rw [outQ_apply, e0, e1, e2, e6, e8]
      rfl
    have q1 : outK (launchContents m' c) = Cert.Kernel28Ideal.Mla.resK m c := by
      funext i
      obtain ⟨z, k, rfl⟩ : ∃ z k, i = ix2 z k := ⟨i 0, i 1, eq_ix2 i⟩
      obtain rfl : z = 0 := Subsingleton.elim _ _
      rw [outK_apply, e0, e1, e3, e7, e9]
      rfl
    exact ⟨h0.trans q0, h1.trans q1, hk⟩

end Cert.Reference28Ideal.Mla
-- ==== Proof.GatePay29.lean ====
module

public import proofs.«01_k».proof.Proof.Gen.Kernel29Ideal.Skeleton
public import Idealize.ShloMosaic.Lib.Pointwise
public import Idealize.ShloMosaic.Lib.WordCmp
public import Idealize.ShloMosaic.Lib.Pipeline.ValueKit

@[expose] public section

/-! The gradient behind the causal convolution and the gate, program 29: what the body computes of one piece of 128 columns, at an index. -/

set_option maxRecDepth 16384

noncomputable section

open Idealize.ShloMosaic Idealize.ShloMosaic.TcCoe Idealize.SL.Sem

namespace Cert.Kernel29Ideal.Gate

open Cert.Kernel29Ideal Cert.Kernel29Ideal.Gen

/-- The rows' numbers, and whether the block is a sequence's first. -/
def rows : IVec S128x1 32 := iota .tc S128x1 32 [0] iota_S128x1_d0_w32
def first (i : grid0.Coords) : BitVec 1 := Scalar.cmpi .eq (BitVec.ofNat 32 (i 1).val) 0#32

/-- A piece's rows one and two back, and its convolution. -/
def p1P (i : grid0.Coords) (u : FVec Ideal S1x128x128 .bf16) (h : FVec Ideal S1x16x128 .bf16) : FVec Ideal S128x128 .f32 :=
  k0_pay13 (F := Ideal) rows (first i) u h
def p2P (i : grid0.Coords) (u : FVec Ideal S1x128x128 .bf16) (h : FVec Ideal S1x16x128 .bf16) : FVec Ideal S128x128 .f32 :=
  k0_pay16 (F := Ideal) (k0_pay12 (first i) h) (k0_pay14 rows (first i) u h) (k0_pay15 rows)
def convP (i : grid0.Coords) (u : FVec Ideal S1x128x128 .bf16) (h : FVec Ideal S1x16x128 .bf16) (w : FVec Ideal S3x128 .f32)
    (b : FVec Ideal S1x128 .f32) : FVec Ideal S128x128 .f32 :=
  k0_pay8 (F := Ideal) (k0_pay9 u) (p1P i u h) (p2P i u h) w b

/-- The gated activation of a piece, from its two convolutions, and the gradients of the two. -/
def actP (g v : FVec Ideal S128x128 .f32) : FVec Ideal S1x128x128 .bf16 :=
  shapeCast S1x128x128 (truncf .bf16 (mulf (k0_pay19 (F := Ideal) g) v) bitsLt_bf16_f32) shapeCasts_S128x128_S1x128x128
def dgP (d : FVec Ideal S1x128x128 .f32) (g v : FVec Ideal S128x128 .f32) : FVec Ideal S128x128 .f32 :=
  mulf (mulf (k0_pay21 (F := Ideal) d) v) (mulf (k0_pay18 (F := Ideal) g)
    (addf (broadcast S128x128 (Scalar.ofBits .f32 0x3F800000#32))
      (mulf g (subf (broadcast S128x128 (Scalar.ofBits .f32 0x3F800000#32)) (k0_pay18 (F := Ideal) g)))))
def dvP (d : FVec Ideal S1x128x128 .f32) (g : FVec Ideal S128x128 .f32) : FVec Ideal S128x128 .f32 :=
  mulf (k0_pay21 (F := Ideal) d) (k0_pay19 (F := Ideal) g)

/-- A gradient as it is stored, and the rows of the sums with a piece's sums added. -/
def duP (d : FVec Ideal S128x128 .f32) : FVec Ideal S1x128x128 .bf16 :=
  shapeCast S1x128x128 (truncf .bf16 d bitsLt_bf16_f32) shapeCasts_S128x128_S1x128x128
def s0P (d : FVec Ideal S128x128 .f32) (s : FVec Ideal S1x128 .f32) : FVec Ideal S1x128 .f32 := k0_pay25 (F := Ideal) d s
def sP (d p : FVec Ideal S128x128 .f32) (s : FVec Ideal S1x128 .f32) : FVec Ideal S1x128 .f32 := k0_pay26 (F := Ideal) p d s

theorem p1P_apply (i : grid0.Coords) (u : FVec Ideal S1x128x128 .bf16) (h : FVec Ideal S1x16x128 .bf16) (r k : Fin 128) :
    p1P i u h (ix2 r k) = if r.val = 0 then (if (i 1).val = 0 then 0 else h (ix3 0 15 k)) else u (ix3 0 ⟨r.val - 1, by omega⟩ k) := by
  have hi : (i 1).val < 16 := (i 1).isLt
  pointwise [p1P, rows, first, k0_pay13, k0_pay9, k0_pay11, k0_pay10]
  simp (disch := word_cmp_side) only [hlo_ix]
  split_ifs with hr hi
  · rfl
  · rfl
  · congr 2; ext; simp only; omega

theorem p2P_apply (i : grid0.Coords) (u : FVec Ideal S1x128x128 .bf16) (h : FVec Ideal S1x16x128 .bf16) (r k : Fin 128) :
    p2P i u h (ix2 r k) = if r.val = 0 then (if (i 1).val = 0 then 0 else h (ix3 0 14 k))
      else if r.val = 1 then (if (i 1).val = 0 then 0 else h (ix3 0 15 k)) else u (ix3 0 ⟨r.val - 2, by omega⟩ k) := by
  have hi : (i 1).val < 16 := (i 1).isLt
  pointwise [p2P, rows, first, k0_pay16, k0_pay15, k0_pay14, k0_pay12, k0_pay9, k0_pay11, k0_pay10]
  simp (disch := word_cmp_side) only [hlo_ix]
  split_ifs
  all_goals first | rfl | (congr 2; ext; simp only; omega)

theorem convP_apply (i : grid0.Coords) (u : FVec Ideal S1x128x128 .bf16) (h : FVec Ideal S1x16x128 .bf16) (w : FVec Ideal S3x128 .f32)
    (b : FVec Ideal S1x128 .f32) (r k : Fin 128) :
    convP i u h w b (ix2 r k)
      = w (ix2 2 k) * u (ix3 0 r k) + w (ix2 1 k) * p1P i u h (ix2 r k) + w (ix2 0 k) * p2P i u h (ix2 r k) + b (ix2 0 k) := by
  unfold convP
  generalize p1P i u h = p
  generalize p2P i u h = q
  pointwise [k0_pay8, k0_pay9]

theorem xP_apply (u : FVec Ideal S1x128x128 .bf16) (r k : Fin 128) : k0_pay9 (F := Ideal) u (ix2 r k) = u (ix3 0 r k) := by
  pointwise [k0_pay9]

theorem actP_apply (g v : FVec Ideal S128x128 .f32) (z : Fin 1) (r k : Fin 128) :
    actP g v (ix3 z r k) = g (ix2 r k) * Ideal.div 1 (1 + Ideal.exp (0 - g (ix2 r k))) * v (ix2 r k) := by
  pointwise [actP, k0_pay19, k0_pay18]

theorem dgP_apply (d : FVec Ideal S1x128x128 .f32) (g v : FVec Ideal S128x128 .f32) (r k : Fin 128) :
    dgP d g v (ix2 r k) = d (ix3 0 r k) * v (ix2 r k) * (Ideal.div 1 (1 + Ideal.exp (0 - g (ix2 r k)))
      * (1 + g (ix2 r k) * (1 - Ideal.div 1 (1 + Ideal.exp (0 - g (ix2 r k)))))) := by
  pointwise [dgP, k0_pay18, k0_pay21]

theorem dvP_apply (d : FVec Ideal S1x128x128 .f32) (g : FVec Ideal S128x128 .f32) (r k : Fin 128) :
    dvP d g (ix2 r k) = d (ix3 0 r k) * (g (ix2 r k) * Ideal.div 1 (1 + Ideal.exp (0 - g (ix2 r k)))) := by
  pointwise [dvP, k0_pay19, k0_pay18, k0_pay21]

theorem duP_apply (d : FVec Ideal S128x128 .f32) (z : Fin 1) (r k : Fin 128) : duP d (ix3 z r k) = d (ix2 r k) := by
  pointwise [duP]

theorem s0P_apply (d : FVec Ideal S128x128 .f32) (s : FVec Ideal S1x128 .f32) (z : Fin 1) (k : Fin 128) :
    s0P d s (ix2 z k) = s (ix2 0 k) + ∑ r : Fin 128, d (ix2 r k) := by
  obtain rfl : z = 0 := Subsingleton.elim _ _
  pointwise [s0P, k0_pay25]

theorem sP_apply (d p : FVec Ideal S128x128 .f32) (s : FVec Ideal S1x128 .f32) (z : Fin 1) (k : Fin 128) :
    sP d p s (ix2 z k) = s (ix2 0 k) + ∑ r : Fin 128, d (ix2 r k) * p (ix2 r k) := by
  obtain rfl : z = 0 := Subsingleton.elim _ _
  pointwise [sP, k0_pay26]

theorem fill_apply (y : S8x5632.Idx) : k0_pay2 (F := Ideal) y = 0 := by
  pointwise [k0_pay2]

end Cert.Kernel29Ideal.Gate
-- ==== Proof.GateBlk29.lean ====
module

public import proofs.«01_k».proof.Proof.GatePay29

@[expose] public section

/-! Program 29's block at a grid point, as functions of the blocks it reads, and that a piece of 128 columns computes its part of them. -/

set_option maxRecDepth 16384

noncomputable section

open Idealize.ShloMosaic Idealize.ShloMosaic.TcCoe Idealize.SL.Sem

namespace Cert.Kernel29Ideal.Gate

open Cert.Kernel29Ideal Cert.Kernel29Ideal.Gen

def sg (x : EReal) : EReal := Ideal.div 1 (1 + Ideal.exp (0 - x))

section
variable (i : grid0.Coords) (d : FVec Ideal S1x128x2816 .f32) (u : FVec Ideal S1x128x5632 .bf16) (h : FVec Ideal S1x16x5632 .bf16)
  (w : FVec Ideal S3x5632 .f32) (b : FVec Ideal S1x5632 .f32)

/-- The rows one and two back, the convolution, the activation and the gradient of the convolution's result, on the block. -/
def b1 (r : Fin 128) (K : Fin 5632) : EReal :=
  if r.val = 0 then (if (i 1).val = 0 then 0 else h (ix3 0 15 K)) else u (ix3 0 ⟨r.val - 1, by omega⟩ K)
def b2 (r : Fin 128) (K : Fin 5632) : EReal :=
  if r.val = 0 then (if (i 1).val = 0 then 0 else h (ix3 0 14 K))
  else if r.val = 1 then (if (i 1).val = 0 then 0 else h (ix3 0 15 K)) else u (ix3 0 ⟨r.val - 2, by omega⟩ K)
def bConv (r : Fin 128) (K : Fin 5632) : EReal :=
  w (ix2 2 K) * u (ix3 0 r K) + w (ix2 1 K) * b1 i u h r K + w (ix2 0 K) * b2 i u h r K + b (ix2 0 K)
def bAct (r : Fin 128) (J : Fin 2816) : EReal :=
  bConv i u h w b r ⟨J.val, by omega⟩ * sg (bConv i u h w b r ⟨J.val, by omega⟩) * bConv i u h w b r ⟨2816 + J.val, by omega⟩
def bDg (r : Fin 128) (J : Fin 2816) : EReal :=
  d (ix3 0 r J) * bConv i u h w b r ⟨2816 + J.val, by omega⟩ * (sg (bConv i u h w b r ⟨J.val, by omega⟩)
    * (1 + bConv i u h w b r ⟨J.val, by omega⟩ * (1 - sg (bConv i u h w b r ⟨J.val, by omega⟩))))
def bDv (r : Fin 128) (J : Fin 2816) : EReal :=
  d (ix3 0 r J) * (bConv i u h w b r ⟨J.val, by omega⟩ * sg (bConv i u h w b r ⟨J.val, by omega⟩))
def bDu (r : Fin 128) (K : Fin 5632) : EReal :=
  if hK : K.val < 2816 then bDg i d u h w b r ⟨K.val, hK⟩ else bDv i d u h w b r ⟨K.val - 2816, by omega⟩
end

theorem inbU {o : ℕ} (ho : o + 128 ≤ 5632) : ∀ a, (![0, 0, o] : Fin 3 → ℕ) a + (![1, 128, 128] : Fin 3 → ℕ) a ≤ S1x128x5632.size a
  | 0 => Nat.le_refl _
  | 1 => Nat.le_refl _
  | 2 => ho
theorem inbH {o : ℕ} (ho : o + 128 ≤ 5632) : ∀ a, (![0, 0, o] : Fin 3 → ℕ) a + (![1, 16, 128] : Fin 3 → ℕ) a ≤ S1x16x5632.size a
  | 0 => Nat.le_refl _
  | 1 => Nat.le_refl _
  | 2 => ho
theorem inbW {o : ℕ} (ho : o + 128 ≤ 5632) : ∀ a, (![0, o] : Fin 2 → ℕ) a + (![3, 128] : Fin 2 → ℕ) a ≤ S3x5632.size a
  | 0 => Nat.le_refl _
  | 1 => ho
theorem inbB {o : ℕ} (ho : o + 128 ≤ 5632) : ∀ a, (![0, o] : Fin 2 → ℕ) a + (![1, 128] : Fin 2 → ℕ) a ≤ S1x5632.size a
  | 0 => Nat.le_refl _
  | 1 => ho
theorem inbD {o : ℕ} (ho : o + 128 ≤ 2816) : ∀ a, (![0, 0, o] : Fin 3 → ℕ) a + (![1, 128, 128] : Fin 3 → ℕ) a ≤ S1x128x2816.size a
  | 0 => Nat.le_refl _
  | 1 => Nat.le_refl _
  | 2 => ho
theorem inbS {s o : ℕ} (hs : s + 1 ≤ 8) (ho : o + 128 ≤ 5632) :
    ∀ a, (![s, o] : Fin 2 → ℕ) a + (![1, 128] : Fin 2 → ℕ) a ≤ S8x5632.size a
  | 0 => hs
  | 1 => ho

section
variable (i : grid0.Coords) (d : FVec Ideal S1x128x2816 .f32) (u : FVec Ideal S1x128x5632 .bf16) (h : FVec Ideal S1x16x5632 .bf16)
  (w : FVec Ideal S3x5632 .f32) (b : FVec Ideal S1x5632 .f32)

/-- The piece's columns of the blocks. -/
def uL {o : ℕ} (ho : o + 128 ≤ 5632) : FVec Ideal S1x128x128 .bf16 := View.ld (Val := Elt Ideal) (S := S1x128x5632) (e' := .bf16) u (Rect.unit (s := S1x128x5632) ![0, 0, o] ![1, 128, 128] (inbU ho))
def hL {o : ℕ} (ho : o + 128 ≤ 5632) : FVec Ideal S1x16x128 .bf16 := View.ld (Val := Elt Ideal) (S := S1x16x5632) (e' := .bf16) h (Rect.unit (s := S1x16x5632) ![0, 0, o] ![1, 16, 128] (inbH ho))
def wL {o : ℕ} (ho : o + 128 ≤ 5632) : FVec Ideal S3x128 .f32 := View.ld (Val := Elt Ideal) (S := S3x5632) (e' := .f32) w (Rect.unit (s := S3x5632) ![0, o] ![3, 128] (inbW ho))
def bL {o : ℕ} (ho : o + 128 ≤ 5632) : FVec Ideal S1x128 .f32 := View.ld (Val := Elt Ideal) (S := S1x5632) (e' := .f32) b (Rect.unit (s := S1x5632) ![0, o] ![1, 128] (inbB ho))
def dL {o : ℕ} (ho : o + 128 ≤ 2816) : FVec Ideal S1x128x128 .f32 := View.ld (Val := Elt Ideal) (S := S1x128x2816) (e' := .f32) d (Rect.unit (s := S1x128x2816) ![0, 0, o] ![1, 128, 128] (inbD ho))
def sL (s : FVec Ideal S8x5632 .f32) {q o : ℕ} (hq : q + 1 ≤ 8) (ho : o + 128 ≤ 5632) : FVec Ideal S1x128 .f32 :=
  View.ld (Val := Elt Ideal) (S := S8x5632) (e' := .f32) s (Rect.unit (s := S8x5632) ![q, o] ![1, 128] (inbS hq ho))

theorem uL_apply {o : ℕ} (ho : o + 128 ≤ 5632) (r k : Fin 128) : uL u ho (ix3 0 r k) = u (ix3 0 r ⟨o + k.val, by omega⟩) :=
  congrArg u (by funext a; apply Fin.ext; rw [Rect.idx_unit_val]; fin_cases a <;> simp [ix3])
theorem hL_apply {o : ℕ} (ho : o + 128 ≤ 5632) (r : Fin 16) (k : Fin 128) : hL h ho (ix3 0 r k) = h (ix3 0 r ⟨o + k.val, by omega⟩) :=
  congrArg h (by funext a; apply Fin.ext; rw [Rect.idx_unit_val]; fin_cases a <;> simp [ix3])
theorem wL_apply {o : ℕ} (ho : o + 128 ≤ 5632) (r : Fin 3) (k : Fin 128) : wL w ho (ix2 r k) = w (ix2 r ⟨o + k.val, by omega⟩) :=
  congrArg w (by funext a; apply Fin.ext; rw [Rect.idx_unit_val]; fin_cases a <;> simp [ix2])
theorem bL_apply {o : ℕ} (ho : o + 128 ≤ 5632) (k : Fin 128) : bL b ho (ix2 0 k) = b (ix2 0 ⟨o + k.val, by omega⟩) :=
  congrArg b (by funext a; apply Fin.ext; rw [Rect.idx_unit_val]; fin_cases a <;> simp [ix2])
theorem dL_apply {o : ℕ} (ho : o + 128 ≤ 2816) (r k : Fin 128) : dL d ho (ix3 0 r k) = d (ix3 0 r ⟨o + k.val, by omega⟩) :=
  congrArg d (by funext a; apply Fin.ext; rw [Rect.idx_unit_val]; fin_cases a <;> simp [ix3])

/-- The piece's convolution and rows back are the block's. -/
def cvL {o : ℕ} (ho : o + 128 ≤ 5632) : FVec Ideal S128x128 .f32 := convP i (uL u ho) (hL h ho) (wL w ho) (bL b ho)

theorem p1L {o : ℕ} (ho : o + 128 ≤ 5632) (r k : Fin 128) : p1P i (uL u ho) (hL h ho) (ix2 r k) = b1 i u h r ⟨o + k.val, by omega⟩ := by
  rw [p1P_apply, b1, hL_apply, uL_apply]
theorem p2L {o : ℕ} (ho : o + 128 ≤ 5632) (r k : Fin 128) : p2P i (uL u ho) (hL h ho) (ix2 r k) = b2 i u h r ⟨o + k.val, by omega⟩ := by
  rw [p2P_apply, b2, hL_apply, hL_apply, uL_apply]
theorem cvL_apply {o : ℕ} (ho : o + 128 ≤ 5632) (r k : Fin 128) : cvL i u h w b ho (ix2 r k) = bConv i u h w b r ⟨o + k.val, by omega⟩ := by
  rw [cvL, convP_apply, p1L, p2L, uL_apply, wL_apply, wL_apply, wL_apply, bL_apply, bConv]

/-- The activation's piece, and the two gradients'. -/
theorem act_piece {o o' : ℕ} (ho : o + 128 ≤ 5632) (ho' : o' + 128 ≤ 5632) (e : o' = 2816 + o) (x : S1x128x128.Idx) (r : Fin 128) (J : Fin 2816)
    (hr : r.val = (x 1).val) (hJ : J.val = o + (x 2).val) :
    actP (cvL i u h w b ho) (cvL i u h w b ho') x = bAct i u h w b r J := by
  obtain ⟨z, r', k, rfl⟩ : ∃ z r' k, x = ix3 z r' k := ⟨x 0, x 1, x 2, eq_ix3 x⟩
  obtain rfl : r = r' := Fin.ext hr
  subst e
  rw [actP_apply, cvL_apply, cvL_apply, bAct, sg]
  have e1 : (⟨o + k.val, by omega⟩ : Fin 5632) = ⟨J.val, by omega⟩ := Fin.ext hJ.symm
  have e2 : (⟨2816 + o + k.val, by omega⟩ : Fin 5632) = ⟨2816 + J.val, by omega⟩ := Fin.ext (by simp only; have : J.val = o + k.val := hJ; omega)
  rw [e1, e2]

theorem dgL {o o' p : ℕ} (ho : o + 128 ≤ 5632) (ho' : o' + 128 ≤ 5632) (hp : p + 128 ≤ 2816) (e : o' = 2816 + o) (e' : p = o) (r k : Fin 128) (K : Fin 5632)
    (hK : K.val = o + k.val) :
    dgP (dL d hp) (cvL i u h w b ho) (cvL i u h w b ho') (ix2 r k) = bDu i d u h w b r K := by
  subst e e'
  rw [dgP_apply, cvL_apply, cvL_apply, dL_apply, bDu, dif_pos (by omega), bDg, sg]
  have e1 : (⟨p + k.val, by omega⟩ : Fin 5632) = ⟨K.val, by omega⟩ := Fin.ext hK.symm
  have e2 : (⟨2816 + p + k.val, by omega⟩ : Fin 5632) = ⟨2816 + K.val, by omega⟩ := Fin.ext (by simp only; omega)
  have e3 : (⟨p + k.val, by omega⟩ : Fin 2816) = ⟨K.val, by omega⟩ := Fin.ext hK.symm
  simp only [e1, e2, e3]

theorem dvL {o p q : ℕ} (ho : o + 128 ≤ 5632) (hp : p + 128 ≤ 2816) (e : p = o) (e' : q = 2816 + o) (r k : Fin 128) (K : Fin 5632)
    (hK : K.val = q + k.val) :
    dvP (dL d hp) (cvL i u h w b ho) (ix2 r k) = bDu i d u h w b r K := by
  subst e e'
  rw [dvP_apply, cvL_apply, dL_apply, bDu, dif_neg (by omega), bDv, sg]
  have e1 : (⟨p + k.val, by omega⟩ : Fin 5632) = ⟨K.val - 2816, by omega⟩ := Fin.ext (by simp only; omega)
  have e3 : (⟨p + k.val, by omega⟩ : Fin 2816) = ⟨K.val - 2816, by omega⟩ := Fin.ext (by simp only; omega)
  simp only [e1, e3]

theorem dg_piece {o o' p : ℕ} (ho : o + 128 ≤ 5632) (ho' : o' + 128 ≤ 5632) (hp : p + 128 ≤ 2816) (e : o' = 2816 + o) (e' : p = o) (x : S1x128x128.Idx)
    (r : Fin 128) (K : Fin 5632) (hr : r.val = (x 1).val) (hK : K.val = o + (x 2).val) :
    duP (dgP (dL d hp) (cvL i u h w b ho) (cvL i u h w b ho')) x = bDu i d u h w b r K := by
  obtain ⟨z, r', k, rfl⟩ : ∃ z r' k, x = ix3 z r' k := ⟨x 0, x 1, x 2, eq_ix3 x⟩
  obtain rfl : r = r' := Fin.ext hr
  rw [duP_apply]
  exact dgL i d u h w b ho ho' hp e e' r k K hK

theorem dv_piece {o p q : ℕ} (ho : o + 128 ≤ 5632) (hp : p + 128 ≤ 2816) (e : p = o) (e' : q = 2816 + o) (x : S1x128x128.Idx)
    (r : Fin 128) (K : Fin 5632) (hr : r.val = (x 1).val) (hK : K.val = q + (x 2).val) :
    duP (dvP (dL d hp) (cvL i u h w b ho)) x = bDu i d u h w b r K := by
  obtain ⟨z, r', k, rfl⟩ : ∃ z r' k, x = ix3 z r' k := ⟨x 0, x 1, x 2, eq_ix3 x⟩
  obtain rfl : r = r' := Fin.ext hr
  rw [duP_apply]
  exact dvL i d u h w b ho hp e e' r k K hK
end

end Cert.Kernel29Ideal.Gate
-- ==== Proof.GateVal29.lean ====
module

public import proofs.«01_k».proof.Proof.GateBlk29
public import proofs.«01_k».proof.Proof.Gen.Kernel29Ideal.Value
public import Idealize.ShloMosaic.Lib.Pipeline.ReadBack

@[expose] public section

/-! What program 29 stores at a grid point, piece by piece, the activation. -/

set_option maxRecDepth 65536
set_option maxHeartbeats 0

noncomputable section

open Idealize.ShloMosaic Idealize.ShloMosaic.TcCoe Idealize.SL.Sem

namespace Cert.Kernel29Ideal.Gate

open Cert.Kernel29Ideal Cert.Kernel29Ideal.Gen

variable (m : (ℓ : Loc nD τ sig) → Buf (Elt Ideal) ℓ) (c : Dev nD) (t : Fin cfg0.N)

theorem act_A (h : t.val % 32 = 0) (y : S1x128x2816.Idx) :
    (outsAt0 m c t.val t.isLt).2.1 y = bAct (grid0.coords t) (iblk m c 1 t) (iblk m c 2 t) (iblk m c 3 t) (iblk m c 4 t) (y 1) (y 2) := by
  rw [outsAt0_A m c t h]
  frame_out
  canon_tiles x hx
  all_goals
    refine act_piece (grid0.coords t) (iblk m c 1 t) (iblk m c 2 t) (iblk m c 3 t) (iblk m c 4 t) ?_ ?_ ?_ x (y 1) (y 2) ?_ ?_ <;> omega

theorem act_B (h : ¬t.val % 32 = 0) (y : S1x128x2816.Idx) :
    (outsAt0 m c t.val t.isLt).2.1 y = bAct (grid0.coords t) (iblk m c 1 t) (iblk m c 2 t) (iblk m c 3 t) (iblk m c 4 t) (y 1) (y 2) := by
  rw [outsAt0_B m c t h]
  frame_out
  canon_tiles x hx
  all_goals
    refine act_piece (grid0.coords t) (iblk m c 1 t) (iblk m c 2 t) (iblk m c 3 t) (iblk m c 4 t) ?_ ?_ ?_ x (y 1) (y 2) ?_ ?_ <;> omega

end Cert.Kernel29Ideal.Gate
-- ==== Proof.GateDu29.lean ====
module

public import proofs.«01_k».proof.Proof.GateBlk29
public import proofs.«01_k».proof.Proof.Gen.Kernel29Ideal.Value
public import Idealize.ShloMosaic.Lib.Pipeline.ReadBack

@[expose] public section

/-! What program 29 stores at a grid point, piece by piece, the gradient. -/

set_option maxRecDepth 65536
set_option maxHeartbeats 0

noncomputable section

open Idealize.ShloMosaic Idealize.ShloMosaic.TcCoe Idealize.SL.Sem

namespace Cert.Kernel29Ideal.Gate

open Cert.Kernel29Ideal Cert.Kernel29Ideal.Gen

variable (m : (ℓ : Loc nD τ sig) → Buf (Elt Ideal) ℓ) (c : Dev nD) (t : Fin cfg0.N)

/-- A piece of the second half's gradient, and one of the first half's. -/
theorem dvAt (y : S1x128x5632.Idx) (x : S1x128x128.Idx) (o q : ℕ) (ho : o + 128 ≤ 5632 := by omega) (hp : o + 128 ≤ 2816 := by omega)
    (e : q = 2816 + o := by omega) (h1 : (y 1).val = (x 1).val := by omega) (h2 : (y 2).val = q + (x 2).val := by omega) :
    duP (dvP (dL (iblk m c 0 t) hp) (cvL (grid0.coords t) (iblk m c 1 t) (iblk m c 2 t) (iblk m c 3 t) (iblk m c 4 t) ho)) x = bDu (grid0.coords t) (iblk m c 0 t) (iblk m c 1 t) (iblk m c 2 t) (iblk m c 3 t) (iblk m c 4 t) (y 1) (y 2) :=
  dv_piece (grid0.coords t) (iblk m c 0 t) (iblk m c 1 t) (iblk m c 2 t) (iblk m c 3 t) (iblk m c 4 t) ho hp rfl e x (y 1) (y 2) h1 h2
theorem dgAt (y : S1x128x5632.Idx) (x : S1x128x128.Idx) (o q : ℕ) (ho : o + 128 ≤ 5632 := by omega) (hq : q + 128 ≤ 5632 := by omega)
    (hp : o + 128 ≤ 2816 := by omega) (e : q = 2816 + o := by omega) (h1 : (y 1).val = (x 1).val := by omega)
    (h2 : (y 2).val = o + (x 2).val := by omega) :
    duP (dgP (dL (iblk m c 0 t) hp) (cvL (grid0.coords t) (iblk m c 1 t) (iblk m c 2 t) (iblk m c 3 t) (iblk m c 4 t) ho)
      (cvL (grid0.coords t) (iblk m c 1 t) (iblk m c 2 t) (iblk m c 3 t) (iblk m c 4 t) hq)) x = bDu (grid0.coords t) (iblk m c 0 t) (iblk m c 1 t) (iblk m c 2 t) (iblk m c 3 t) (iblk m c 4 t) (y 1) (y 2) :=
  dg_piece (grid0.coords t) (iblk m c 0 t) (iblk m c 1 t) (iblk m c 2 t) (iblk m c 3 t) (iblk m c 4 t) ho hq hp e rfl x (y 1) (y 2) h1 h2

theorem du_A (h : t.val % 32 = 0) (y : S1x128x5632.Idx) :
    (outsAt0 m c t.val t.isLt).1 y = bDu (grid0.coords t) (iblk m c 0 t) (iblk m c 1 t) (iblk m c 2 t) (iblk m c 3 t) (iblk m c 4 t) (y 1) (y 2) := by
  rw [outsAt0_A m c t h]
  frame_out
  canon_tiles x hx
  · exact dvAt m c t y x 2688 5504
  · exact dgAt m c t y x 2688 5504
  · exact dvAt m c t y x 2560 5376
  · exact dgAt m c t y x 2560 5376
  · exact dvAt m c t y x 2432 5248
  · exact dgAt m c t y x 2432 5248
  · exact dvAt m c t y x 2304 5120
  · exact dgAt m c t y x 2304 5120
  · exact dvAt m c t y x 2176 4992
  · exact dgAt m c t y x 2176 4992
  · exact dvAt m c t y x 2048 4864
  · exact dgAt m c t y x 2048 4864
  · exact dvAt m c t y x 1920 4736
  · exact dgAt m c t y x 1920 4736
  · exact dvAt m c t y x 1792 4608
  · exact dgAt m c t y x 1792 4608
  · exact dvAt m c t y x 1664 4480
  · exact dgAt m c t y x 1664 4480
  · exact dvAt m c t y x 1536 4352
  · exact dgAt m c t y x 1536 4352
  · exact dvAt m c t y x 1408 4224
  · exact dgAt m c t y x 1408 4224
  · exact dvAt m c t y x 1280 4096
  · exact dgAt m c t y x 1280 4096
  · exact dvAt m c t y x 1152 3968
  · exact dgAt m c t y x 1152 3968
  · exact dvAt m c t y x 1024 3840
  · exact dgAt m c t y x 1024 3840
  · exact dvAt m c t y x 896 3712
  · exact dgAt m c t y x 896 3712
  · exact dvAt m c t y x 768 3584
  · exact dgAt m c t y x 768 3584
  · exact dvAt m c t y x 640 3456
  · exact dgAt m c t y x 640 3456
  · exact dvAt m c t y x 512 3328
  · exact dgAt m c t y x 512 3328
  · exact dvAt m c t y x 384 3200
  · exact dgAt m c t y x 384 3200
  · exact dvAt m c t y x 256 3072
  · exact dgAt m c t y x 256 3072
  · exact dvAt m c t y x 128 2944
  · exact dgAt m c t y x 128 2944
  · exact dvAt m c t y x 0 2816
  · exact dgAt m c t y x 0 2816

theorem du_B (h : ¬t.val % 32 = 0) (y : S1x128x5632.Idx) :
    (outsAt0 m c t.val t.isLt).1 y = bDu (grid0.coords t) (iblk m c 0 t) (iblk m c 1 t) (iblk m c 2 t) (iblk m c 3 t) (iblk m c 4 t) (y 1) (y 2) := by
  rw [outsAt0_B m c t h]
  frame_out
  canon_tiles x hx
  · exact dvAt m c t y x 2688 5504
  · exact dgAt m c t y x 2688 5504
  · exact dvAt m c t y x 2560 5376
  · exact dgAt m c t y x 2560 5376
  · exact dvAt m c t y x 2432 5248
  · exact dgAt m c t y x 2432 5248
  · exact dvAt m c t y x 2304 5120
  · exact dgAt m c t y x 2304 5120
  · exact dvAt m c t y x 2176 4992
  · exact dgAt m c t y x 2176 4992
  · exact dvAt m c t y x 2048 4864
  · exact dgAt m c t y x 2048 4864
  · exact dvAt m c t y x 1920 4736
  · exact dgAt m c t y x 1920 4736
  · exact dvAt m c t y x 1792 4608
  · exact dgAt m c t y x 1792 4608
  · exact dvAt m c t y x 1664 4480
  · exact dgAt m c t y x 1664 4480
  · exact dvAt m c t y x 1536 4352
  · exact dgAt m c t y x 1536 4352
  · exact dvAt m c t y x 1408 4224
  · exact dgAt m c t y x 1408 4224
  · exact dvAt m c t y x 1280 4096
  · exact dgAt m c t y x 1280 4096
  · exact dvAt m c t y x 1152 3968
  · exact dgAt m c t y x 1152 3968
  · exact dvAt m c t y x 1024 3840
  · exact dgAt m c t y x 1024 3840
  · exact dvAt m c t y x 896 3712
  · exact dgAt m c t y x 896 3712
  · exact dvAt m c t y x 768 3584
  · exact dgAt m c t y x 768 3584
  · exact dvAt m c t y x 640 3456
  · exact dgAt m c t y x 640 3456
  · exact dvAt m c t y x 512 3328
  · exact dgAt m c t y x 512 3328
  · exact dvAt m c t y x 384 3200
  · exact dgAt m c t y x 384 3200
  · exact dvAt m c t y x 256 3072
  · exact dgAt m c t y x 256 3072
  · exact dvAt m c t y x 128 2944
  · exact dgAt m c t y x 128 2944
  · exact dvAt m c t y x 0 2816
  · exact dgAt m c t y x 0 2816

end Cert.Kernel29Ideal.Gate
-- ==== Proof.GateSum29.lean ====
module

public import proofs.«01_k».proof.Proof.GateBlk29
public import Idealize.ShloMosaic.Lib.Pipeline.ReadBack
public import Idealize.ShloMosaic.Lib.Ring

@[expose] public section

/-! Program 29's sums at a grid point: what a piece adds to each of the four rows, and stores read back over a fill or over what the
buffer held. -/

set_option maxRecDepth 16384

noncomputable section

open Idealize.ShloMosaic Idealize.ShloMosaic.TcCoe Idealize.SL.Sem

namespace Cert.Kernel29Ideal.Gate

open Cert.Kernel29Ideal Cert.Kernel29Ideal.Gen

section
variable {Val : EltTy → Type} {S : Shape} {e : EltTy} [∀ e, Nonempty (Val e)]

/-- Every piece but the last, where it holds the index, has the value there. -/
def AllFront (y : S.Idx) (v : Val e) : List (View.Piece Val S e) → Prop
  | [] => True
  | [_] => True
  | p :: q :: L => View.RectAt y p.1 p.2 v ∧ AllFront y v (q :: L)

theorem consA {y : S.Idx} {v : Val e} {off size : Fin S.rank → ℕ} {inb : ∀ a, off a + size a ≤ S.size a}
    {w : (Rect.unit off size inb).shape.Idx → Val e} {q : View.Piece Val S e} {L : List (View.Piece Val S e)}
    (h1 : View.TileAt y off size w v) (h2 : AllFront y v (q :: L)) :
    AllFront y v ((⟨Rect.unit off size inb, w⟩ : View.Piece Val S e) :: q :: L) :=
  ⟨fun x hx => h1 x fun a => by rw [← hx, Rect.emb_apply]; show off a + 1 * (x a : ℕ) = _; omega, h2⟩

theorem consB {y : S.Idx} {v : Val e} {off size : Fin S.rank → ℕ} {inb : ∀ a, off a + size a ≤ S.size a}
    {w : (Rect.unit off size inb).shape.Idx → Val e} {L : List (View.Piece Val S e)} (h1 : View.TileAt y off size w v) (h2 : View.AllAt L y v) :
    View.AllAt ((⟨Rect.unit off size inb, w⟩ : View.Piece Val S e) :: L) y v :=
  View.allAt_cons_unit off size inb w L h1 h2

theorem canon_of_front (y : S.Idx) (v : Val e) : ∀ L : List (View.Piece Val S e),
    (∃ p ∈ L.dropLast, y ∈ p.1.set) → AllFront y v L → View.canon L y = v
  | [], hc, _ => by obtain ⟨p, hp, _⟩ := hc; exact absurd hp List.not_mem_nil
  | [_], hc, _ => by obtain ⟨p, hp, _⟩ := hc; exact absurd hp List.not_mem_nil
  | p :: q :: L, hc, h => by
    by_cases hm : y ∈ p.1.set
    · obtain ⟨x, rfl⟩ := p.1.exists_idx_of_mem hm
      rw [show p.1.idx x = p.1.emb x from rfl, View.canon_cons_emb]
      exact h.1 x rfl
    · rw [View.canon_cons_of_not_mem _ _ hm]
      refine canon_of_front y v (q :: L) ?_ h.2
      obtain ⟨r, hr, hyr⟩ := hc
      rcases List.mem_cons.mp hr with rfl | hr'
      · exact absurd hyr hm
      · exact ⟨r, hr', hyr⟩

theorem canon_last (y : S.Idx) (f : S.Idx → Val e) (off : Fin S.rank → ℕ) (ho : ∀ a, off a = 0) (inb) : ∀ L : List (View.Piece Val S e),
    (∀ p ∈ L.dropLast, y ∉ p.1.set) → L.getLast? = some ⟨Rect.unit off S.size inb, f⟩ → View.canon L y = f y
  | [], _, h => by cases h
  | [p], _, h => by
    obtain rfl := Option.some.inj h
    rw [View.canon_cons_unit_lit inb f [] ho]
  | p :: q :: L, hn, h => by
    rw [View.canon_cons_of_not_mem _ _ (hn p List.mem_cons_self)]
    exact canon_last y f off ho inb (q :: L) (fun r hr => hn r (List.mem_cons_of_mem _ hr)) h

/-- A load after stores elsewhere, over a fill of the whole. -/
theorem readCov_last {sig : RefSig} {κ : Kind} {sp : Space} (v : View sig κ sp S e) (f : S.Idx → Val e) (off : Fin S.rank → ℕ) (ho : ∀ a, off a = 0) (inb) (L : List (View.Piece Val S e))
    (r : Rect S) (h1 : (L.dropLast.all fun p => LoadRect.disj p.1 r.toLoadRect) = true)
    (h2 : L.getLast? = some ⟨Rect.unit off S.size inb, f⟩) (x : r.shape.Idx) : v.readCov L r.toLoadRect x = f (r.idx x) := by
  rw [View.readCov_eq_canon']
  exact canon_last _ f off ho inb L (fun p hp => LoadRect.idx_not_mem_of_disj (List.all_eq_true.mp h1 p hp) x) h2

theorem read_writes_front {sig : RefSig} {κ : Kind} {sp : Space} (v : View sig κ sp S e) (g) (y : S.Idx) : ∀ L : List (View.Piece Val S e),
    (∀ p ∈ L, y ∉ p.1.set) → v.read Val (v.writes Val g L) y = v.read Val g y
  | [], _ => rfl
  | p :: L, hn => by
    rw [View.writes_cons, View.read_slice_write_of_not_mem p.1 _ _ _ (by rw [Rect.map_emb_univ]; exact hn p List.mem_cons_self)]
    exact read_writes_front v g y L fun r hr => hn r (List.mem_cons_of_mem _ hr)

/-- The pieces' rows are below `n`. -/
def rowsBelow (n : ℕ) (L : List (View.Piece Val S8x5632 e)) : Bool := L.all fun p => decide (p.1.off 0 + p.1.size 0 ≤ n ∧ p.1.stride 0 = 1)

theorem not_mem_of_rowsBelow (n : ℕ) (L : List (View.Piece Val S8x5632 e)) (h : rowsBelow n L = true) (y : S8x5632.Idx) (hy : n ≤ (y 0).val) :
    ∀ p ∈ L, y ∉ p.1.set := by
  intro p hp hm
  have hb := of_decide_eq_true (List.all_eq_true.mp h p hp)
  obtain ⟨x, rfl⟩ := p.1.exists_idx_of_mem hm
  have hx : (x 0).val < p.1.size 0 := (x 0).isLt
  have he : (p.1.idx x 0).val = p.1.off 0 + p.1.stride 0 * (x 0).val := rfl
  rw [hb.2] at he
  omega

theorem inbRows : ∀ a, (![4, 0] : Fin 2 → ℕ) a + (![4, 5632] : Fin 2 → ℕ) a ≤ S8x5632.size a
  | 0 => Nat.le_refl _
  | 1 => Nat.le_refl _

/-- Pieces that tile the first four rows cover an index there. -/
theorem cover_rows (w) (L : List (View.Piece Val S8x5632 e)) (h : View.Piece.tiledBy ((⟨Rect.unit ![4, 0] ![4, 5632] inbRows, w⟩ : View.Piece Val S8x5632 e) :: L) ![1, 128] = true)
    (y : S8x5632.Idx) (hy : (y 0).val < 4) : ∃ p ∈ L, y ∈ p.1.set := by
  obtain ⟨p, hp, hm⟩ := View.cover_of_tiledBy _ _ h y
  rcases List.mem_cons.mp hp with rfl | hp
  · have h4 : 4 ≤ (y 0).val := ((Rect.mem_set_unit (inb := inbRows)).mp hm 0).1
    omega
  · exact ⟨p, hp, hm⟩
end

section
variable (i : grid0.Coords) (d : FVec Ideal S1x128x2816 .f32) (u : FVec Ideal S1x128x5632 .bf16) (h : FVec Ideal S1x16x5632 .bf16)
  (w : FVec Ideal S3x5632 .f32) (b : FVec Ideal S1x5632 .f32)

/-- What the block adds to a row of the sums. -/
def bTerm (q : Fin 8) (K : Fin 5632) : EReal :=
  if q = 0 then ∑ r : Fin 128, bDu i d u h w b r K
  else if q = 1 then ∑ r : Fin 128, bDu i d u h w b r K * b2 i u h r K
  else if q = 2 then ∑ r : Fin 128, bDu i d u h w b r K * b1 i u h r K
  else if q = 3 then ∑ r : Fin 128, bDu i d u h w b r K * u (ix3 0 r K)
  else 0

theorem bTerm_0 (K : Fin 5632) : bTerm i d u h w b 0 K = ∑ r : Fin 128, bDu i d u h w b r K := rfl
theorem bTerm_1 (K : Fin 5632) : bTerm i d u h w b 1 K = ∑ r : Fin 128, bDu i d u h w b r K * b2 i u h r K := rfl
theorem bTerm_2 (K : Fin 5632) : bTerm i d u h w b 2 K = ∑ r : Fin 128, bDu i d u h w b r K * b1 i u h r K := rfl
theorem bTerm_3 (K : Fin 5632) : bTerm i d u h w b 3 K = ∑ r : Fin 128, bDu i d u h w b r K * u (ix3 0 r K) := rfl
theorem bTerm_rest (q : Fin 8) (K : Fin 5632) (hq : 4 ≤ q.val) : bTerm i d u h w b q K = 0 := by
  rw [bTerm, if_neg, if_neg, if_neg, if_neg] <;> (rintro rfl; simp at hq)

theorem s0_dg {o o' p : ℕ} (ho : o + 128 ≤ 5632) (ho' : o' + 128 ≤ 5632) (hp : p + 128 ≤ 2816) (e : o' = 2816 + o) (e' : p = o) (s : FVec Ideal S1x128 .f32) (P : EReal) (x : S1x128.Idx) (y : S8x5632.Idx)
    (hs : s x = P) (h0 : (y 0).val = 0 + (x 0).val) (h1 : (y 1).val = o + (x 1).val) :
    s0P (dgP (dL d hp) (cvL i u h w b ho) (cvL i u h w b ho')) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (0 : Fin 8) := Fin.ext h0
  have hK : (⟨o + k.val, by omega⟩ : Fin 5632) = y 1 := Fin.ext h1.symm
  rw [s0P_apply, hs, hy]
  refine Eq.trans ?_ (congrArg (P + ·) (bTerm_0 i d u h w b (y 1)).symm)
  refine congrArg (P + ·) (Finset.sum_congr rfl fun r _ => ?_)
  rw [dgL i d u h w b ho ho' hp e e' r k (y 1) h1]
theorem s1_dg {o o' p : ℕ} (ho : o + 128 ≤ 5632) (ho' : o' + 128 ≤ 5632) (hp : p + 128 ≤ 2816) (e : o' = 2816 + o) (e' : p = o) (s : FVec Ideal S1x128 .f32) (P : EReal) (x : S1x128.Idx) (y : S8x5632.Idx)
    (hs : s x = P) (h0 : (y 0).val = 1 + (x 0).val) (h1 : (y 1).val = o + (x 1).val) :
    sP (dgP (dL d hp) (cvL i u h w b ho) (cvL i u h w b ho')) (p2P i (uL u ho) (hL h ho)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (1 : Fin 8) := Fin.ext h0
  have hK : (⟨o + k.val, by omega⟩ : Fin 5632) = y 1 := Fin.ext h1.symm
  rw [sP_apply, hs, hy]
  refine Eq.trans ?_ (congrArg (P + ·) (bTerm_1 i d u h w b (y 1)).symm)
  refine congrArg (P + ·) (Finset.sum_congr rfl fun r _ => ?_)
  rw [dgL i d u h w b ho ho' hp e e' r k (y 1) h1, p2L, hK]
theorem s2_dg {o o' p : ℕ} (ho : o + 128 ≤ 5632) (ho' : o' + 128 ≤ 5632) (hp : p + 128 ≤ 2816) (e : o' = 2816 + o) (e' : p = o) (s : FVec Ideal S1x128 .f32) (P : EReal) (x : S1x128.Idx) (y : S8x5632.Idx)
    (hs : s x = P) (h0 : (y 0).val = 2 + (x 0).val) (h1 : (y 1).val = o + (x 1).val) :
    sP (dgP (dL d hp) (cvL i u h w b ho) (cvL i u h w b ho')) (p1P i (uL u ho) (hL h ho)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (2 : Fin 8) := Fin.ext h0
  have hK : (⟨o + k.val, by omega⟩ : Fin 5632) = y 1 := Fin.ext h1.symm
  rw [sP_apply, hs, hy]
  refine Eq.trans ?_ (congrArg (P + ·) (bTerm_2 i d u h w b (y 1)).symm)
  refine congrArg (P + ·) (Finset.sum_congr rfl fun r _ => ?_)
  rw [dgL i d u h w b ho ho' hp e e' r k (y 1) h1, p1L, hK]
theorem s3_dg {o o' p : ℕ} (ho : o + 128 ≤ 5632) (ho' : o' + 128 ≤ 5632) (hp : p + 128 ≤ 2816) (e : o' = 2816 + o) (e' : p = o) (s : FVec Ideal S1x128 .f32) (P : EReal) (x : S1x128.Idx) (y : S8x5632.Idx)
    (hs : s x = P) (h0 : (y 0).val = 3 + (x 0).val) (h1 : (y 1).val = o + (x 1).val) :
    sP (dgP (dL d hp) (cvL i u h w b ho) (cvL i u h w b ho')) (k0_pay9 (F := Ideal) (uL u ho)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (3 : Fin 8) := Fin.ext h0
  have hK : (⟨o + k.val, by omega⟩ : Fin 5632) = y 1 := Fin.ext h1.symm
  rw [sP_apply, hs, hy]
  refine Eq.trans ?_ (congrArg (P + ·) (bTerm_3 i d u h w b (y 1)).symm)
  refine congrArg (P + ·) (Finset.sum_congr rfl fun r _ => ?_)
  rw [dgL i d u h w b ho ho' hp e e' r k (y 1) h1, xP_apply, uL_apply, hK]
theorem s0_dv {o p q : ℕ} (ho : o + 128 ≤ 5632) (hq : q + 128 ≤ 5632) (hp : p + 128 ≤ 2816) (e : p = o) (e' : q = 2816 + o) (s : FVec Ideal S1x128 .f32) (P : EReal) (x : S1x128.Idx) (y : S8x5632.Idx)
    (hs : s x = P) (h0 : (y 0).val = 0 + (x 0).val) (h1 : (y 1).val = q + (x 1).val) :
    s0P (dvP (dL d hp) (cvL i u h w b ho)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (0 : Fin 8) := Fin.ext h0
  have hK : (⟨q + k.val, by omega⟩ : Fin 5632) = y 1 := Fin.ext h1.symm
  rw [s0P_apply, hs, hy]
  refine Eq.trans ?_ (congrArg (P + ·) (bTerm_0 i d u h w b (y 1)).symm)
  refine congrArg (P + ·) (Finset.sum_congr rfl fun r _ => ?_)
  rw [dvL i d u h w b ho hp e e' r k (y 1) h1]
theorem s1_dv {o p q : ℕ} (ho : o + 128 ≤ 5632) (hq : q + 128 ≤ 5632) (hp : p + 128 ≤ 2816) (e : p = o) (e' : q = 2816 + o) (s : FVec Ideal S1x128 .f32) (P : EReal) (x : S1x128.Idx) (y : S8x5632.Idx)
    (hs : s x = P) (h0 : (y 0).val = 1 + (x 0).val) (h1 : (y 1).val = q + (x 1).val) :
    sP (dvP (dL d hp) (cvL i u h w b ho)) (p2P i (uL u hq) (hL h hq)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (1 : Fin 8) := Fin.ext h0
  have hK : (⟨q + k.val, by omega⟩ : Fin 5632) = y 1 := Fin.ext h1.symm
  rw [sP_apply, hs, hy]
  refine Eq.trans ?_ (congrArg (P + ·) (bTerm_1 i d u h w b (y 1)).symm)
  refine congrArg (P + ·) (Finset.sum_congr rfl fun r _ => ?_)
  rw [dvL i d u h w b ho hp e e' r k (y 1) h1, p2L, hK]
theorem s2_dv {o p q : ℕ} (ho : o + 128 ≤ 5632) (hq : q + 128 ≤ 5632) (hp : p + 128 ≤ 2816) (e : p = o) (e' : q = 2816 + o) (s : FVec Ideal S1x128 .f32) (P : EReal) (x : S1x128.Idx) (y : S8x5632.Idx)
    (hs : s x = P) (h0 : (y 0).val = 2 + (x 0).val) (h1 : (y 1).val = q + (x 1).val) :
    sP (dvP (dL d hp) (cvL i u h w b ho)) (p1P i (uL u hq) (hL h hq)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (2 : Fin 8) := Fin.ext h0
  have hK : (⟨q + k.val, by omega⟩ : Fin 5632) = y 1 := Fin.ext h1.symm
  rw [sP_apply, hs, hy]
  refine Eq.trans ?_ (congrArg (P + ·) (bTerm_2 i d u h w b (y 1)).symm)
  refine congrArg (P + ·) (Finset.sum_congr rfl fun r _ => ?_)
  rw [dvL i d u h w b ho hp e e' r k (y 1) h1, p1L, hK]
theorem s3_dv {o p q : ℕ} (ho : o + 128 ≤ 5632) (hq : q + 128 ≤ 5632) (hp : p + 128 ≤ 2816) (e : p = o) (e' : q = 2816 + o) (s : FVec Ideal S1x128 .f32) (P : EReal) (x : S1x128.Idx) (y : S8x5632.Idx)
    (hs : s x = P) (h0 : (y 0).val = 3 + (x 0).val) (h1 : (y 1).val = q + (x 1).val) :
    sP (dvP (dL d hp) (cvL i u h w b ho)) (k0_pay9 (F := Ideal) (uL u hq)) s x = P + bTerm i d u h w b (y 0) (y 1) := by
  obtain ⟨z, k, rfl⟩ : ∃ z k, x = ix2 z k := ⟨x 0, x 1, eq_ix2 x⟩
  obtain rfl : z = 0 := Subsingleton.elim _ _
  have hy : y 0 = (3 : Fin 8) := Fin.ext h0
  have hK : (⟨q + k.val, by omega⟩ : Fin 5632) = y 1 := Fin.ext h1.symm
  rw [sP_apply, hs, hy]
  refine Eq.trans ?_ (congrArg (P + ·) (bTerm_3 i d u h w b (y 1)).symm)
  refine congrArg (P + ·) (Finset.sum_congr rfl fun r _ => ?_)
  rw [dvL i d u h w b ho hp e e' r k (y 1) h1, xP_apply, uL_apply, hK]

theorem prior_apply (X : FVec Ideal S8x5632 .f32) {q o : ℕ} (hq : q + 1 ≤ 8) (ho : o + 128 ≤ 5632) (x : S1x128.Idx) (y : S8x5632.Idx)
    (h0 : (y 0).val = q + (x 0).val) (h1 : (y 1).val = o + (x 1).val) : sL X hq ho x = X y :=
  congrArg X (by funext a; apply Fin.ext; rw [Rect.idx_unit_val]; fin_cases a <;> simp [h0, h1])
end

end Cert.Kernel29Ideal.Gate
-- ==== Proof.GateTile29.lean ====
module

public import proofs.«01_k».proof.Proof.GateSum29
public import proofs.«01_k».proof.Proof.Gen.Kernel29Ideal.Value
public import Idealize.ShloMosaic.Lib.Pipeline.ReadBack

@[expose] public section

/-! What program 29 stores at a grid point, piece by piece: the pieces of the sums. -/

set_option maxRecDepth 65536
set_option maxHeartbeats 0

noncomputable section

open Idealize.ShloMosaic Idealize.ShloMosaic.TcCoe Idealize.SL.Sem

namespace Cert.Kernel29Ideal.Gate

open Cert.Kernel29Ideal Cert.Kernel29Ideal.Gen

variable (m : (ℓ : Loc nD τ sig) → Buf (Elt Ideal) ℓ) (c : Dev nD) (t : Fin cfg0.N)

theorem zeroLoad {sig : RefSig} {κ : Kind} {sp : Space} (v : View sig κ sp S8x5632 .f32) (inb) (L : List (View.Piece (Elt Ideal) S8x5632 .f32))
    (r : Rect S8x5632) (h1 : (L.dropLast.all fun p => LoadRect.disj p.1 r.toLoadRect) = true)
    (h2 : L.getLast? = some ⟨Rect.unit ![0, 0] S8x5632.size inb, k0_pay2 (F := Ideal)⟩) (x : r.shape.Idx) : v.readCov L r.toLoadRect x = (0 : EReal) :=
  (readCov_last v _ ![0, 0] (by decide) inb L r h1 h2 x).trans (fill_apply _)

theorem bg0 (X : FVec Ideal S8x5632 .f32) (y : S8x5632.Idx) (o : ℕ) (ho : o + 128 ≤ 2816 := by decide) :
    View.TileAt (Val := Elt Ideal) (e := .f32) y ![0, o] ![1, 128] (s0P (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (sL X (q := 0) (o := o) (by decide) (show o + 128 ≤ 5632 by omega))) (X y + bTerm (grid0.coords t) (iblk m c 0 t) (iblk m c 1 t) (iblk m c 2 t) (iblk m c 3 t) (iblk m c 4 t) (y 0) (y 1)) :=
  fun x hx => s0_dg (grid0.coords t) (iblk m c 0 t) (iblk m c 1 t) (iblk m c 2 t) (iblk m c 3 t) (iblk m c 4 t) (o := o) (o' := 2816 + o) (p := o) _ _ _ rfl rfl _ _ x y (prior_apply X _ _ x y (hx 0) (hx 1)) (hx 0) (hx 1)
theorem ag0 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![0, o] ![1, 128] (inbS (by decide) (show o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![0, o] ![1, 128] (s0P (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) ((ms0_7 t).view.readCov L (Rect.unit (s := S8x5632) ![0, o] ![1, 128] (inbS (by decide) (show o + 128 ≤ 5632 by omega))).toLoadRect)) (0 + bTerm (grid0.coords t) (iblk m c 0 t) (iblk m c 1 t) (iblk m c 2 t) (iblk m c 3 t) (iblk m c 4 t) (y 0) (y 1)) :=
  fun x hx => s0_dg (grid0.coords t) (iblk m c 0 t) (iblk m c 1 t) (iblk m c 2 t) (iblk m c 3 t) (iblk m c 4 t) (o := o) (o' := 2816 + o) (p := o) _ _ _ rfl rfl _ _ x y (zeroLoad _ _ _ _ h1 h2 x) (hx 0) (hx 1)

theorem bg1 (X : FVec Ideal S8x5632 .f32) (y : S8x5632.Idx) (o : ℕ) (ho : o + 128 ≤ 2816 := by decide) :
    View.TileAt (Val := Elt Ideal) (e := .f32) y ![1, o] ![1, 128] (sP (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (p2P (grid0.coords t) (uL (iblk m c 1 t) (show o + 128 ≤ 5632 by omega)) (hL (iblk m c 2 t) (show o + 128 ≤ 5632 by omega))) (sL X (q := 1) (o := o) (by decide) (show o + 128 ≤ 5632 by omega))) (X y + bTerm (grid0.coords t) (iblk m c 0 t) (iblk m c 1 t) (iblk m c 2 t) (iblk m c 3 t) (iblk m c 4 t) (y 0) (y 1)) :=
  fun x hx => s1_dg (grid0.coords t) (iblk m c 0 t) (iblk m c 1 t) (iblk m c 2 t) (iblk m c 3 t) (iblk m c 4 t) (o := o) (o' := 2816 + o) (p := o) _ _ _ rfl rfl _ _ x y (prior_apply X _ _ x y (hx 0) (hx 1)) (hx 0) (hx 1)
theorem ag1 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![1, o] ![1, 128] (inbS (by decide) (show o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![1, o] ![1, 128] (sP (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (p2P (grid0.coords t) (uL (iblk m c 1 t) (show o + 128 ≤ 5632 by omega)) (hL (iblk m c 2 t) (show o + 128 ≤ 5632 by omega))) ((ms0_7 t).view.readCov L (Rect.unit (s := S8x5632) ![1, o] ![1, 128] (inbS (by decide) (show o + 128 ≤ 5632 by omega))).toLoadRect)) (0 + bTerm (grid0.coords t) (iblk m c 0 t) (iblk m c 1 t) (iblk m c 2 t) (iblk m c 3 t) (iblk m c 4 t) (y 0) (y 1)) :=
  fun x hx => s1_dg (grid0.coords t) (iblk m c 0 t) (iblk m c 1 t) (iblk m c 2 t) (iblk m c 3 t) (iblk m c 4 t) (o := o) (o' := 2816 + o) (p := o) _ _ _ rfl rfl _ _ x y (zeroLoad _ _ _ _ h1 h2 x) (hx 0) (hx 1)

theorem bg2 (X : FVec Ideal S8x5632 .f32) (y : S8x5632.Idx) (o : ℕ) (ho : o + 128 ≤ 2816 := by decide) :
    View.TileAt (Val := Elt Ideal) (e := .f32) y ![2, o] ![1, 128] (sP (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (p1P (grid0.coords t) (uL (iblk m c 1 t) (show o + 128 ≤ 5632 by omega)) (hL (iblk m c 2 t) (show o + 128 ≤ 5632 by omega))) (sL X (q := 2) (o := o) (by decide) (show o + 128 ≤ 5632 by omega))) (X y + bTerm (grid0.coords t) (iblk m c 0 t) (iblk m c 1 t) (iblk m c 2 t) (iblk m c 3 t) (iblk m c 4 t) (y 0) (y 1)) :=
  fun x hx => s2_dg (grid0.coords t) (iblk m c 0 t) (iblk m c 1 t) (iblk m c 2 t) (iblk m c 3 t) (iblk m c 4 t) (o := o) (o' := 2816 + o) (p := o) _ _ _ rfl rfl _ _ x y (prior_apply X _ _ x y (hx 0) (hx 1)) (hx 0) (hx 1)
theorem ag2 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![2, o] ![1, 128] (inbS (by decide) (show o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![2, o] ![1, 128] (sP (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (p1P (grid0.coords t) (uL (iblk m c 1 t) (show o + 128 ≤ 5632 by omega)) (hL (iblk m c 2 t) (show o + 128 ≤ 5632 by omega))) ((ms0_7 t).view.readCov L (Rect.unit (s := S8x5632) ![2, o] ![1, 128] (inbS (by decide) (show o + 128 ≤ 5632 by omega))).toLoadRect)) (0 + bTerm (grid0.coords t) (iblk m c 0 t) (iblk m c 1 t) (iblk m c 2 t) (iblk m c 3 t) (iblk m c 4 t) (y 0) (y 1)) :=
  fun x hx => s2_dg (grid0.coords t) (iblk m c 0 t) (iblk m c 1 t) (iblk m c 2 t) (iblk m c 3 t) (iblk m c 4 t) (o := o) (o' := 2816 + o) (p := o) _ _ _ rfl rfl _ _ x y (zeroLoad _ _ _ _ h1 h2 x) (hx 0) (hx 1)

theorem bg3 (X : FVec Ideal S8x5632 .f32) (y : S8x5632.Idx) (o : ℕ) (ho : o + 128 ≤ 2816 := by decide) :
    View.TileAt (Val := Elt Ideal) (e := .f32) y ![3, o] ![1, 128] (sP (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (k0_pay9 (F := Ideal) (uL (iblk m c 1 t) (show o + 128 ≤ 5632 by omega))) (sL X (q := 3) (o := o) (by decide) (show o + 128 ≤ 5632 by omega))) (X y + bTerm (grid0.coords t) (iblk m c 0 t) (iblk m c 1 t) (iblk m c 2 t) (iblk m c 3 t) (iblk m c 4 t) (y 0) (y 1)) :=
  fun x hx => s3_dg (grid0.coords t) (iblk m c 0 t) (iblk m c 1 t) (iblk m c 2 t) (iblk m c 3 t) (iblk m c 4 t) (o := o) (o' := 2816 + o) (p := o) _ _ _ rfl rfl _ _ x y (prior_apply X _ _ x y (hx 0) (hx 1)) (hx 0) (hx 1)
theorem ag3 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![3, o] ![1, 128] (inbS (by decide) (show o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![3, o] ![1, 128] (sP (dgP (dL (iblk m c 0 t) ho) (cvL (grid0.coords t) (iblk m c 1 t) (iblk m c 2 t) (iblk m c 3 t) (iblk m c 4 t) (o := o) (show o + 128 ≤ 5632 by omega)) (cvL (grid0.coords t) (iblk m c 1 t) (iblk m c 2 t) (iblk m c 3 t) (iblk m c 4 t) (o := 2816 + o) (show 2816 + o + 128 ≤ 5632 by omega))) (k0_pay9 (F := Ideal) (uL (iblk m c 1 t) (show o + 128 ≤ 5632 by omega))) ((ms0_7 t).view.readCov L (Rect.unit (s := S8x5632) ![3, o] ![1, 128] (inbS (by decide) (show o + 128 ≤ 5632 by omega))).toLoadRect)) (0 + bTerm (grid0.coords t) (iblk m c 0 t) (iblk m c 1 t) (iblk m c 2 t) (iblk m c 3 t) (iblk m c 4 t) (y 0) (y 1)) :=
  fun x hx => s3_dg (grid0.coords t) (iblk m c 0 t) (iblk m c 1 t) (iblk m c 2 t) (iblk m c 3 t) (iblk m c 4 t) (o := o) (o' := 2816 + o) (p := o) _ _ _ rfl rfl _ _ x y (zeroLoad _ _ _ _ h1 h2 x) (hx 0) (hx 1)

theorem bv0 (X : FVec Ideal S8x5632 .f32) (y : S8x5632.Idx) (o : ℕ) (ho : o + 128 ≤ 2816 := by decide) :
    View.TileAt (Val := Elt Ideal) (e := .f32) y ![0, (2816 + o)] ![1, 128] (s0P (dvP (dL (iblk m c 0 t) ho) (cvL (grid0.coords t) (iblk m c 1 t) (iblk m c 2 t) (iblk m c 3 t) (iblk m c 4 t) (o := o) (show o + 128 ≤ 5632 by omega))) (sL X (q := 0) (o := (2816 + o)) (by decide) (show 2816 + o + 128 ≤ 5632 by omega))) (X y + bTerm (grid0.coords t) (iblk m c 0 t) (iblk m c 1 t) (iblk m c 2 t) (iblk m c 3 t) (iblk m c 4 t) (y 0) (y 1)) :=
  fun x hx => s0_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (prior_apply X _ _ x y (hx 0) (hx 1)) (hx 0) (hx 1)
theorem av0 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![0, (2816 + o)] ![1, 128] (inbS (by decide) (show 2816 + o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![0, (2816 + o)] ![1, 128] (s0P (dvP (dL (iblk m c 0 t) ho) (cvL (grid0.coords t) (iblk m c 1 t) (iblk m c 2 t) (iblk m c 3 t) (iblk m c 4 t) (o := o) (show o + 128 ≤ 5632 by omega))) ((ms0_7 t).view.readCov L (Rect.unit (s := S8x5632) ![0, (2816 + o)] ![1, 128] (inbS (by decide) (show 2816 + o + 128 ≤ 5632 by omega))).toLoadRect)) (0 + bTerm (grid0.coords t) (iblk m c 0 t) (iblk m c 1 t) (iblk m c 2 t) (iblk m c 3 t) (iblk m c 4 t) (y 0) (y 1)) :=
  fun x hx => s0_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (zeroLoad _ _ _ _ h1 h2 x) (hx 0) (hx 1)

theorem bv1 (X : FVec Ideal S8x5632 .f32) (y : S8x5632.Idx) (o : ℕ) (ho : o + 128 ≤ 2816 := by decide) :
    View.TileAt (Val := Elt Ideal) (e := .f32) y ![1, (2816 + o)] ![1, 128] (sP (dvP (dL (iblk m c 0 t) ho) (cvL (grid0.coords t) (iblk m c 1 t) (iblk m c 2 t) (iblk m c 3 t) (iblk m c 4 t) (o := o) (show o + 128 ≤ 5632 by omega))) (p2P (grid0.coords t) (uL (iblk m c 1 t) (show 2816 + o + 128 ≤ 5632 by omega)) (hL (iblk m c 2 t) (show 2816 + o + 128 ≤ 5632 by omega))) (sL X (q := 1) (o := (2816 + o)) (by decide) (show 2816 + o + 128 ≤ 5632 by omega))) (X y + bTerm (grid0.coords t) (iblk m c 0 t) (iblk m c 1 t) (iblk m c 2 t) (iblk m c 3 t) (iblk m c 4 t) (y 0) (y 1)) :=
  fun x hx => s1_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (prior_apply X _ _ x y (hx 0) (hx 1)) (hx 0) (hx 1)
theorem av1 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![1, (2816 + o)] ![1, 128] (inbS (by decide) (show 2816 + o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![1, (2816 + o)] ![1, 128] (sP (dvP (dL (iblk m c 0 t) ho) (cvL (grid0.coords t) (iblk m c 1 t) (iblk m c 2 t) (iblk m c 3 t) (iblk m c 4 t) (o := o) (show o + 128 ≤ 5632 by omega))) (p2P (grid0.coords t) (uL (iblk m c 1 t) (show 2816 + o + 128 ≤ 5632 by omega)) (hL (iblk m c 2 t) (show 2816 + o + 128 ≤ 5632 by omega))) ((ms0_7 t).view.readCov L (Rect.unit (s := S8x5632) ![1, (2816 + o)] ![1, 128] (inbS (by decide) (show 2816 + o + 128 ≤ 5632 by omega))).toLoadRect)) (0 + bTerm (grid0.coords t) (iblk m c 0 t) (iblk m c 1 t) (iblk m c 2 t) (iblk m c 3 t) (iblk m c 4 t) (y 0) (y 1)) :=
  fun x hx => s1_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (zeroLoad _ _ _ _ h1 h2 x) (hx 0) (hx 1)

theorem bv2 (X : FVec Ideal S8x5632 .f32) (y : S8x5632.Idx) (o : ℕ) (ho : o + 128 ≤ 2816 := by decide) :
    View.TileAt (Val := Elt Ideal) (e := .f32) y ![2, (2816 + o)] ![1, 128] (sP (dvP (dL (iblk m c 0 t) ho) (cvL (grid0.coords t) (iblk m c 1 t) (iblk m c 2 t) (iblk m c 3 t) (iblk m c 4 t) (o := o) (show o + 128 ≤ 5632 by omega))) (p1P (grid0.coords t) (uL (iblk m c 1 t) (show 2816 + o + 128 ≤ 5632 by omega)) (hL (iblk m c 2 t) (show 2816 + o + 128 ≤ 5632 by omega))) (sL X (q := 2) (o := (2816 + o)) (by decide) (show 2816 + o + 128 ≤ 5632 by omega))) (X y + bTerm (grid0.coords t) (iblk m c 0 t) (iblk m c 1 t) (iblk m c 2 t) (iblk m c 3 t) (iblk m c 4 t) (y 0) (y 1)) :=
  fun x hx => s2_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (prior_apply X _ _ x y (hx 0) (hx 1)) (hx 0) (hx 1)
theorem av2 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![2, (2816 + o)] ![1, 128] (inbS (by decide) (show 2816 + o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![2, (2816 + o)] ![1, 128] (sP (dvP (dL (iblk m c 0 t) ho) (cvL (grid0.coords t) (iblk m c 1 t) (iblk m c 2 t) (iblk m c 3 t) (iblk m c 4 t) (o := o) (show o + 128 ≤ 5632 by omega))) (p1P (grid0.coords t) (uL (iblk m c 1 t) (show 2816 + o + 128 ≤ 5632 by omega)) (hL (iblk m c 2 t) (show 2816 + o + 128 ≤ 5632 by omega))) ((ms0_7 t).view.readCov L (Rect.unit (s := S8x5632) ![2, (2816 + o)] ![1, 128] (inbS (by decide) (show 2816 + o + 128 ≤ 5632 by omega))).toLoadRect)) (0 + bTerm (grid0.coords t) (iblk m c 0 t) (iblk m c 1 t) (iblk m c 2 t) (iblk m c 3 t) (iblk m c 4 t) (y 0) (y 1)) :=
  fun x hx => s2_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (zeroLoad _ _ _ _ h1 h2 x) (hx 0) (hx 1)

theorem bv3 (X : FVec Ideal S8x5632 .f32) (y : S8x5632.Idx) (o : ℕ) (ho : o + 128 ≤ 2816 := by decide) :
    View.TileAt (Val := Elt Ideal) (e := .f32) y ![3, (2816 + o)] ![1, 128] (sP (dvP (dL (iblk m c 0 t) ho) (cvL (grid0.coords t) (iblk m c 1 t) (iblk m c 2 t) (iblk m c 3 t) (iblk m c 4 t) (o := o) (show o + 128 ≤ 5632 by omega))) (k0_pay9 (F := Ideal) (uL (iblk m c 1 t) (show 2816 + o + 128 ≤ 5632 by omega))) (sL X (q := 3) (o := (2816 + o)) (by decide) (show 2816 + o + 128 ≤ 5632 by omega))) (X y + bTerm (grid0.coords t) (iblk m c 0 t) (iblk m c 1 t) (iblk m c 2 t) (iblk m c 3 t) (iblk m c 4 t) (y 0) (y 1)) :=
  fun x hx => s3_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (prior_apply X _ _ x y (hx 0) (hx 1)) (hx 0) (hx 1)
theorem av3 (y : S8x5632.Idx) (o : ℕ) (ho : o + 128 ≤ 2816 := by decide) {inb} {L : List (View.Piece (Elt Ideal) S8x5632 .f32)}
    (h1 : (L.dropLast.all fun p => LoadRect.disj p.1 (Rect.unit (s := S8x5632) ![3, (2816 + o)] ![1, 128] (inbS (by decide) (show 2816 + o + 128 ≤ 5632 by omega))).toLoadRect) = true := by sl_kernel_rfl)
    (h2 : L.getLast? = some ⟨Rect.unit ![0, 0] S8x5632.size inb, k0_pay2 (F := Ideal)⟩ := by rfl) :
    View.TileAt (Val := Elt Ideal) (e := .f32) y ![3, (2816 + o)] ![1, 128] (sP (dvP (dL (iblk m c 0 t) ho) (cvL (grid0.coords t) (iblk m c 1 t) (iblk m c 2 t) (iblk m c 3 t) (iblk m c 4 t) (o := o) (show o + 128 ≤ 5632 by omega))) (k0_pay9 (F := Ideal) (uL (iblk m c 1 t) (show 2816 + o + 128 ≤ 5632 by omega))) ((ms0_7 t).view.readCov L (Rect.unit (s := S8x5632) ![3, (2816 + o)] ![1, 128] (inbS (by decide) (show 2816 + o + 128 ≤ 5632 by omega))).toLoadRect)) (0 + bTerm (grid0.coords t) (iblk m c 0 t) (iblk m c 1 t) (iblk m c 2 t) (iblk m c 3 t) (iblk m c 4 t) (y 0) (y 1)) :=
  fun x hx => s3_dv (grid0.coords t) (iblk m c 0 t) (iblk m c 1 t) (iblk m c 2 t) (iblk m c 3 t) (iblk m c 4 t) (o := o) (p := o) (q := 2816 + o) _ (show 2816 + o + 128 ≤ 5632 by omega) _ rfl rfl _ _ x y (zeroLoad _ _ _ _ h1 h2 x) (hx 0) (hx 1)

end Cert.Kernel29Ideal.Gate
-- ==== Proof.GateStA29.lean ====
module

public import proofs.«01_k».proof.Proof.GateTile29
public import proofs.«01_k».proof.Proof.Gen.Kernel29Ideal.Value
public import Idealize.ShloMosaic.Lib.Pipeline.ReadBack

@[expose] public section

/-! What program 29 stores at a grid point, piece by piece, the sums at the first point. -/

set_option maxRecDepth 65536
set_option maxHeartbeats 0

noncomputable section

open Idealize.ShloMosaic Idealize.ShloMosaic.TcCoe Idealize.SL.Sem

namespace Cert.Kernel29Ideal.Gate

open Cert.Kernel29Ideal Cert.Kernel29Ideal.Gen

variable (m : (ℓ : Loc nD τ sig) → Buf (Elt Ideal) ℓ) (c : Dev nD) (t : Fin cfg0.N)

theorem st_A (h : t.val % 32 = 0) (y : S8x5632.Idx) :
    (outsAt0 m c t.val t.isLt).2.2 y = 0 + bTerm (grid0.coords t) (iblk m c 0 t) (iblk m c 1 t) (iblk m c 2 t) (iblk m c 3 t) (iblk m c 4 t) (y 0) (y 1) := by
  rw [outsAt0_A m c t h]
  frame_out
  by_cases hy : 4 ≤ (y 0).val
  · refine Eq.trans ?_ ((congrArg (_ + ·) (bTerm_rest _ _ _ _ _ _ (y 0) (y 1) hy)).trans (add_zero _)).symm
    exact (canon_last y _ ![0, 0] (by decide) _ _ (not_mem_of_rowsBelow 4 _ (by sl_kernel_rfl) y hy) (by rfl)).trans (fill_apply y)
  refine canon_of_front _ _ _ (cover_rows (fun _ => (0 : EReal)) _ (by sl_kernel_rfl) y (by omega)) ?_
  refine consA (av3 m c t y 2688) ?_
  refine consA (av2 m c t y 2688) ?_
  refine consA (av1 m c t y 2688) ?_
  refine consA (av0 m c t y 2688) ?_
  refine consA (ag3 m c t y 2688) ?_
  refine consA (ag2 m c t y 2688) ?_
  refine consA (ag1 m c t y 2688) ?_
  refine consA (ag0 m c t y 2688) ?_
  refine consA (av3 m c t y 2560) ?_
  refine consA (av2 m c t y 2560) ?_
  refine consA (av1 m c t y 2560) ?_
  refine consA (av0 m c t y 2560) ?_
  refine consA (ag3 m c t y 2560) ?_
  refine consA (ag2 m c t y 2560) ?_
  refine consA (ag1 m c t y 2560) ?_
  refine consA (ag0 m c t y 2560) ?_
  refine consA (av3 m c t y 2432) ?_
  refine consA (av2 m c t y 2432) ?_
  refine consA (av1 m c t y 2432) ?_
  refine consA (av0 m c t y 2432) ?_
  refine consA (ag3 m c t y 2432) ?_
  refine consA (ag2 m c t y 2432) ?_
  refine consA (ag1 m c t y 2432) ?_
  refine consA (ag0 m c t y 2432) ?_
  refine consA (av3 m c t y 2304) ?_
  refine consA (av2 m c t y 2304) ?_
  refine consA (av1 m c t y 2304) ?_
  refine consA (av0 m c t y 2304) ?_
  refine consA (ag3 m c t y 2304) ?_
  refine consA (ag2 m c t y 2304) ?_
  refine consA (ag1 m c t y 2304) ?_
  refine consA (ag0 m c t y 2304) ?_
  refine consA (av3 m c t y 2176) ?_
  refine consA (av2 m c t y 2176) ?_
  refine consA (av1 m c t y 2176) ?_
  refine consA (av0 m c t y 2176) ?_
  refine consA (ag3 m c t y 2176) ?_
  refine consA (ag2 m c t y 2176) ?_
  refine consA (ag1 m c t y 2176) ?_
  refine consA (ag0 m c t y 2176) ?_
  refine consA (av3 m c t y 2048) ?_
  refine consA (av2 m c t y 2048) ?_
  refine consA (av1 m c t y 2048) ?_
  refine consA (av0 m c t y 2048) ?_
  refine consA (ag3 m c t y 2048) ?_
  refine consA (ag2 m c t y 2048) ?_
  refine consA (ag1 m c t y 2048) ?_
  refine consA (ag0 m c t y 2048) ?_
  refine consA (av3 m c t y 1920) ?_
  refine consA (av2 m c t y 1920) ?_
  refine consA (av1 m c t y 1920) ?_
  refine consA (av0 m c t y 1920) ?_
  refine consA (ag3 m c t y 1920) ?_
  refine consA (ag2 m c t y 1920) ?_
  refine consA (ag1 m c t y 1920) ?_
  refine consA (ag0 m c t y 1920) ?_
  refine consA (av3 m c t y 1792) ?_
  refine consA (av2 m c t y 1792) ?_
  refine consA (av1 m c t y 1792) ?_
  refine consA (av0 m c t y 1792) ?_
  refine consA (ag3 m c t y 1792) ?_
  refine consA (ag2 m c t y 1792) ?_
  refine consA (ag1 m c t y 1792) ?_
  refine consA (ag0 m c t y 1792) ?_
  refine consA (av3 m c t y 1664) ?_
  refine consA (av2 m c t y 1664) ?_
  refine consA (av1 m c t y 1664) ?_
  refine consA (av0 m c t y 1664) ?_
  refine consA (ag3 m c t y 1664) ?_
  refine consA (ag2 m c t y 1664) ?_
  refine consA (ag1 m c t y 1664) ?_
  refine consA (ag0 m c t y 1664) ?_
  refine consA (av3 m c t y 1536) ?_
  refine consA (av2 m c t y 1536) ?_
  refine consA (av1 m c t y 1536) ?_
  refine consA (av0 m c t y 1536) ?_
  refine consA (ag3 m c t y 1536) ?_
  refine consA (ag2 m c t y 1536) ?_
  refine consA (ag1 m c t y 1536) ?_
  refine consA (ag0 m c t y 1536) ?_
  refine consA (av3 m c t y 1408) ?_
  refine consA (av2 m c t y 1408) ?_
  refine consA (av1 m c t y 1408) ?_
  refine consA (av0 m c t y 1408) ?_
  refine consA (ag3 m c t y 1408) ?_
  refine consA (ag2 m c t y 1408) ?_
  refine consA (ag1 m c t y 1408) ?_
  refine consA (ag0 m c t y 1408) ?_
  refine consA (av3 m c t y 1280) ?_
  refine consA (av2 m c t y 1280) ?_
  refine consA (av1 m c t y 1280) ?_
  refine consA (av0 m c t y 1280) ?_
  refine consA (ag3 m c t y 1280) ?_
  refine consA (ag2 m c t y 1280) ?_
  refine consA (ag1 m c t y 1280) ?_
  refine consA (ag0 m c t y 1280) ?_
  refine consA (av3 m c t y 1152) ?_
  refine consA (av2 m c t y 1152) ?_
  refine consA (av1 m c t y 1152) ?_
  refine consA (av0 m c t y 1152) ?_
  refine consA (ag3 m c t y 1152) ?_
  refine consA (ag2 m c t y 1152) ?_
  refine consA (ag1 m c t y 1152) ?_
  refine consA (ag0 m c t y 1152) ?_
  refine consA (av3 m c t y 1024) ?_
  refine consA (av2 m c t y 1024) ?_
  refine consA (av1 m c t y 1024) ?_
  refine consA (av0 m c t y 1024) ?_
  refine consA (ag3 m c t y 1024) ?_
  refine consA (ag2 m c t y 1024) ?_
  refine consA (ag1 m c t y 1024) ?_
  refine consA (ag0 m c t y 1024) ?_
  refine consA (av3 m c t y 896) ?_
  refine consA (av2 m c t y 896) ?_
  refine consA (av1 m c t y 896) ?_
  refine consA (av0 m c t y 896) ?_
  refine consA (ag3 m c t y 896) ?_
  refine consA (ag2 m c t y 896) ?_
  refine consA (ag1 m c t y 896) ?_
  refine consA (ag0 m c t y 896) ?_
  refine consA (av3 m c t y 768) ?_
  refine consA (av2 m c t y 768) ?_
  refine consA (av1 m c t y 768) ?_
  refine consA (av0 m c t y 768) ?_
  refine consA (ag3 m c t y 768) ?_
  refine consA (ag2 m c t y 768) ?_
  refine consA (ag1 m c t y 768) ?_
  refine consA (ag0 m c t y 768) ?_
  refine consA (av3 m c t y 640) ?_
  refine consA (av2 m c t y 640) ?_
  refine consA (av1 m c t y 640) ?_
  refine consA (av0 m c t y 640) ?_
  refine consA (ag3 m c t y 640) ?_
  refine consA (ag2 m c t y 640) ?_
  refine consA (ag1 m c t y 640) ?_
  refine consA (ag0 m c t y 640) ?_
  refine consA (av3 m c t y 512) ?_
  refine consA (av2 m c t y 512) ?_
  refine consA (av1 m c t y 512) ?_
  refine consA (av0 m c t y 512) ?_
  refine consA (ag3 m c t y 512) ?_
  refine consA (ag2 m c t y 512) ?_
  refine consA (ag1 m c t y 512) ?_
  refine consA (ag0 m c t y 512) ?_
  refine consA (av3 m c t y 384) ?_
  refine consA (av2 m c t y 384) ?_
  refine consA (av1 m c t y 384) ?_
  refine consA (av0 m c t y 384) ?_
  refine consA (ag3 m c t y 384) ?_
  refine consA (ag2 m c t y 384) ?_
  refine consA (ag1 m c t y 384) ?_
  refine consA (ag0 m c t y 384) ?_
  refine consA (av3 m c t y 256) ?_
  refine consA (av2 m c t y 256) ?_
  refine consA (av1 m c t y 256) ?_
  refine consA (av0 m c t y 256) ?_
  refine consA (ag3 m c t y 256) ?_
  refine consA (ag2 m c t y 256) ?_
  refine consA (ag1 m c t y 256) ?_
  refine consA (ag0 m c t y 256) ?_
  refine consA (av3 m c t y 128) ?_
  refine consA (av2 m c t y 128) ?_
  refine consA (av1 m c t y 128) ?_
  refine consA (av0 m c t y 128) ?_
  refine consA (ag3 m c t y 128) ?_
  refine consA (ag2 m c t y 128) ?_
  refine consA (ag1 m c t y 128) ?_
  refine consA (ag0 m c t y 128) ?_
  refine consA (av3 m c t y 0) ?_
  refine consA (av2 m c t y 0) ?_
  refine consA (av1 m c t y 0) ?_
  refine consA (av0 m c t y 0) ?_
  refine consA (ag3 m c t y 0) ?_
  refine consA (ag2 m c t y 0) ?_
  refine consA (ag1 m c t y 0) ?_
  refine consA (ag0 m c t y 0) ?_
  exact trivial

end Cert.Kernel29Ideal.Gate
-- ==== Proof.GateStB29.lean ====
module

public import proofs.«01_k».proof.Proof.GateTile29
public import proofs.«01_k».proof.Proof.Gen.Kernel29Ideal.Value
public import Idealize.ShloMosaic.Lib.Pipeline.ReadBack

@[expose] public section

/-! What program 29 stores at a grid point, piece by piece, the sums after the first point. -/

set_option maxRecDepth 65536
set_option maxHeartbeats 0

noncomputable section

open Idealize.ShloMosaic Idealize.ShloMosaic.TcCoe Idealize.SL.Sem

namespace Cert.Kernel29Ideal.Gate

open Cert.Kernel29Ideal Cert.Kernel29Ideal.Gen

variable (m : (ℓ : Loc nD τ sig) → Buf (Elt Ideal) ℓ) (c : Dev nD) (t : Fin cfg0.N)

theorem st_B (h : ¬t.val % 32 = 0) (y : S8x5632.Idx) :
    (outsAt0 m c t.val t.isLt).2.2 y = (outsAt0 m c (t.val - 1) (by omega)).2.2 y + bTerm (grid0.coords t) (iblk m c 0 t) (iblk m c 1 t) (iblk m c 2 t) (iblk m c 3 t) (iblk m c 4 t) (y 0) (y 1) := by
  rw [outsAt0_B m c t h]
  frame_out
  by_cases hy : 4 ≤ (y 0).val
  · refine Eq.trans ?_ ((congrArg (_ + ·) (bTerm_rest _ _ _ _ _ _ (y 0) (y 1) hy)).trans (add_zero _)).symm
    refine (read_writes_front _ _ y _ (not_mem_of_rowsBelow 4 _ (by sl_kernel_rfl) y hy)).trans ?_
    exact congrFun ((hs0_7 t).read_unread _) y
  refine (View.read_writes_apply_eq_canon _ _ _ _ (cover_rows (fun _ => (0 : EReal)) _ (by sl_kernel_rfl) y (by omega))).trans ?_
  refine View.canon_eq_of_allAt _ _ _ (cover_rows (fun _ => (0 : EReal)) _ (by sl_kernel_rfl) y (by omega)) ?_
  refine consB (bv3 m c t _ y 2688) ?_
  refine consB (bv2 m c t _ y 2688) ?_
  refine consB (bv1 m c t _ y 2688) ?_
  refine consB (bv0 m c t _ y 2688) ?_
  refine consB (bg3 m c t _ y 2688) ?_
  refine consB (bg2 m c t _ y 2688) ?_
  refine consB (bg1 m c t _ y 2688) ?_
  refine consB (bg0 m c t _ y 2688) ?_
  refine consB (bv3 m c t _ y 2560) ?_
  refine consB (bv2 m c t _ y 2560) ?_
  refine consB (bv1 m c t _ y 2560) ?_
  refine consB (bv0 m c t _ y 2560) ?_
  refine consB (bg3 m c t _ y 2560) ?_
  refine consB (bg2 m c t _ y 2560) ?_
  refine consB (bg1 m c t _ y 2560) ?_
  refine consB (bg0 m c t _ y 2560) ?_
  refine consB (bv3 m c t _ y 2432) ?_
  refine consB (bv2 m c t _ y 2432) ?_
  refine consB (bv1 m c t _ y 2432) ?_
  refine consB (bv0 m c t _ y 2432) ?_
  refine consB (bg3 m c t _ y 2432) ?_
  refine consB (bg2 m c t _ y 2432) ?_
  refine consB (bg1 m c t _ y 2432) ?_
  refine consB (bg0 m c t _ y 2432) ?_
  refine consB (bv3 m c t _ y 2304) ?_
  refine consB (bv2 m c t _ y 2304) ?_
  refine consB (bv1 m c t _ y 2304) ?_
  refine consB (bv0 m c t _ y 2304) ?_
  refine consB (bg3 m c t _ y 2304) ?_
  refine consB (bg2 m c t _ y 2304) ?_
  refine consB (bg1 m c t _ y 2304) ?_
  refine consB (bg0 m c t _ y 2304) ?_
  refine consB (bv3 m c t _ y 2176) ?_
  refine consB (bv2 m c t _ y 2176) ?_
  refine consB (bv1 m c t _ y 2176) ?_
  refine consB (bv0 m c t _ y 2176) ?_
  refine consB (bg3 m c t _ y 2176) ?_
  refine consB (bg2 m c t _ y 2176) ?_
  refine consB (bg1 m c t _ y 2176) ?_
  refine consB (bg0 m c t _ y 2176) ?_
  refine consB (bv3 m c t _ y 2048) ?_
  refine consB (bv2 m c t _ y 2048) ?_
  refine consB (bv1 m c t _ y 2048) ?_
  refine consB (bv0 m c t _ y 2048) ?_
  refine consB (bg3 m c t _ y 2048) ?_
  refine consB (bg2 m c t _ y 2048) ?_
  refine consB (bg1 m c t _ y 2048) ?_
  refine consB (bg0 m c t _ y 2048) ?_
  refine consB (bv3 m c t _ y 1920) ?_
  refine consB (bv2 m c t _ y 1920) ?_
  refine consB (bv1 m c t _ y 1920) ?_
  refine consB (bv0 m c t _ y 1920) ?_
  refine consB (bg3 m c t _ y 1920) ?_
  refine consB (bg2 m c t _ y 1920) ?_
  refine consB (bg1 m c t _ y 1920) ?_
  refine consB (bg0 m c t _ y 1920) ?_
  refine consB (bv3 m c t _ y 1792) ?_
  refine consB (bv2 m c t _ y 1792) ?_
  refine consB (bv1 m c t _ y 1792) ?_
  refine consB (bv0 m c t _ y 1792) ?_
  refine consB (bg3 m c t _ y 1792) ?_
  refine consB (bg2 m c t _ y 1792) ?_
  refine consB (bg1 m c t _ y 1792) ?_
  refine consB (bg0 m c t _ y 1792) ?_
  refine consB (bv3 m c t _ y 1664) ?_
  refine consB (bv2 m c t _ y 1664) ?_
  refine consB (bv1 m c t _ y 1664) ?_
  refine consB (bv0 m c t _ y 1664) ?_
  refine consB (bg3 m c t _ y 1664) ?_
  refine consB (bg2 m c t _ y 1664) ?_
  refine consB (bg1 m c t _ y 1664) ?_
  refine consB (bg0 m c t _ y 1664) ?_
  refine consB (bv3 m c t _ y 1536) ?_
  refine consB (bv2 m c t _ y 1536) ?_
  refine consB (bv1 m c t _ y 1536) ?_
  refine consB (bv0 m c t _ y 1536) ?_
  refine consB (bg3 m c t _ y 1536) ?_
  refine consB (bg2 m c t _ y 1536) ?_
  refine consB (bg1 m c t _ y 1536) ?_
  refine consB (bg0 m c t _ y 1536) ?_
  refine consB (bv3 m c t _ y 1408) ?_
  refine consB (bv2 m c t _ y 1408) ?_
  refine consB (bv1 m c t _ y 1408) ?_
  refine consB (bv0 m c t _ y 1408) ?_
  refine consB (bg3 m c t _ y 1408) ?_
  refine consB (bg2 m c t _ y 1408) ?_
  refine consB (bg1 m c t _ y 1408) ?_
  refine consB (bg0 m c t _ y 1408) ?_
  refine consB (bv3 m c t _ y 1280) ?_
  refine consB (bv2 m c t _ y 1280) ?_
  refine consB (bv1 m c t _ y 1280) ?_
  refine consB (bv0 m c t _ y 1280) ?_
  refine consB (bg3 m c t _ y 1280) ?_
  refine consB (bg2 m c t _ y 1280) ?_
  refine consB (bg1 m c t _ y 1280) ?_
  refine consB (bg0 m c t _ y 1280) ?_
  refine consB (bv3 m c t _ y 1152) ?_
  refine consB (bv2 m c t _ y 1152) ?_
  refine consB (bv1 m c t _ y 1152) ?_
  refine consB (bv0 m c t _ y 1152) ?_
  refine consB (bg3 m c t _ y 1152) ?_
  refine consB (bg2 m c t _ y 1152) ?_
  refine consB (bg1 m c t _ y 1152) ?_
  refine consB (bg0 m c t _ y 1152) ?_
  refine consB (bv3 m c t _ y 1024) ?_
  refine consB (bv2 m c t _ y 1024) ?_
  refine consB (bv1 m c t _ y 1024) ?_
  refine consB (bv0 m c t _ y 1024) ?_
  refine consB (bg3 m c t _ y 1024) ?_
  refine consB (bg2 m c t _ y 1024) ?_
  refine consB (bg1 m c t _ y 1024) ?_
  refine consB (bg0 m c t _ y 1024) ?_
  refine consB (bv3 m c t _ y 896) ?_
  refine consB (bv2 m c t _ y 896) ?_
  refine consB (bv1 m c t _ y 896) ?_
  refine consB (bv0 m c t _ y 896) ?_
  refine consB (bg3 m c t _ y 896) ?_
  refine consB (bg2 m c t _ y 896) ?_
  refine consB (bg1 m c t _ y 896) ?_
  refine consB (bg0 m c t _ y 896) ?_
  refine consB (bv3 m c t _ y 768) ?_
  refine consB (bv2 m c t _ y 768) ?_
  refine consB (bv1 m c t _ y 768) ?_
  refine consB (bv0 m c t _ y 768) ?_
  refine consB (bg3 m c t _ y 768) ?_
  refine consB (bg2 m c t _ y 768) ?_
  refine consB (bg1 m c t _ y 768) ?_
  refine consB (bg0 m c t _ y 768) ?_
  refine consB (bv3 m c t _ y 640) ?_
  refine consB (bv2 m c t _ y 640) ?_
  refine consB (bv1 m c t _ y 640) ?_
  refine consB (bv0 m c t _ y 640) ?_
  refine consB (bg3 m c t _ y 640) ?_
  refine consB (bg2 m c t _ y 640) ?_
  refine consB (bg1 m c t _ y 640) ?_
  refine consB (bg0 m c t _ y 640) ?_
  refine consB (bv3 m c t _ y 512) ?_
  refine consB (bv2 m c t _ y 512) ?_
  refine consB (bv1 m c t _ y 512) ?_
  refine consB (bv0 m c t _ y 512) ?_
  refine consB (bg3 m c t _ y 512) ?_
  refine consB (bg2 m c t _ y 512) ?_
  refine consB (bg1 m c t _ y 512) ?_
  refine consB (bg0 m c t _ y 512) ?_
  refine consB (bv3 m c t _ y 384) ?_
  refine consB (bv2 m c t _ y 384) ?_
  refine consB (bv1 m c t _ y 384) ?_
  refine consB (bv0 m c t _ y 384) ?_
  refine consB (bg3 m c t _ y 384) ?_
  refine consB (bg2 m c t _ y 384) ?_
  refine consB (bg1 m c t _ y 384) ?_
  refine consB (bg0 m c t _ y 384) ?_
  refine consB (bv3 m c t _ y 256) ?_
  refine consB (bv2 m c t _ y 256) ?_
  refine consB (bv1 m c t _ y 256) ?_
  refine consB (bv0 m c t _ y 256) ?_
  refine consB (bg3 m c t _ y 256) ?_
  refine consB (bg2 m c t _ y 256) ?_
  refine consB (bg1 m c t _ y 256) ?_
  refine consB (bg0 m c t _ y 256) ?_
  refine consB (bv3 m c t _ y 128) ?_
  refine consB (bv2 m c t _ y 128) ?_
  refine consB (bv1 m c t _ y 128) ?_
  refine consB (bv0 m c t _ y 128) ?_
  refine consB (bg3 m c t _ y 128) ?_
  refine consB (bg2 m c t _ y 128) ?_
  refine consB (bg1 m c t _ y 128) ?_
  refine consB (bg0 m c t _ y 128) ?_
  refine consB (bv3 m c t _ y 0) ?_
  refine consB (bv2 m c t _ y 0) ?_
  refine consB (bv1 m c t _ y 0) ?_
  refine consB (bv0 m c t _ y 0) ?_
  refine consB (bg3 m c t _ y 0) ?_
  refine consB (bg2 m c t _ y 0) ?_
  refine consB (bg1 m c t _ y 0) ?_
  refine consB (bg0 m c t _ y 0) ?_
  exact View.allAt_nil _ _

end Cert.Kernel29Ideal.Gate
-- ==== Proof.GateFold29.lean ====
module

public import proofs.«01_k».proof.Proof.GateVal29
public import proofs.«01_k».proof.Proof.GateDu29
public import proofs.«01_k».proof.Proof.GateStA29
public import proofs.«01_k».proof.Proof.GateStB29

@[expose] public section

/-! Program 29's blocks on the arguments: point `t` of the grid is sequence `t / 16`, row block `t % 16`. The two blocks written at every
point, and the four sums over all the points. -/

set_option maxRecDepth 16384

noncomputable section

open Idealize.ShloMosaic Idealize.ShloMosaic.TcCoe Idealize.SL.Sem

namespace Cert.Kernel29Ideal.Gate

open Cert.Kernel29Ideal Cert.Kernel29Ideal.Gen

/-! The mathematics, on the arguments as arrays. -/

section
variable (d : FVec Ideal S2x2048x2816 .f32) (u : FVec Ideal S2x2048x5632 .bf16) (w : FVec Ideal S3x5632 .f32) (v : FVec Ideal S5632 .f32)

/-- The rows of a sequence with two rows of zeros in front of them. -/
def up (b : Fin 2) (n : ℕ) (hn : n < 2050) (K : Fin 5632) : EReal :=
  if h : n < 2 then 0 else u (ix3 b ⟨n - 2, by omega⟩ K)

/-- The causal convolution of width three with its bias. -/
def conv (b : Fin 2) (s : Fin 2048) (K : Fin 5632) : EReal :=
  w (ix2 2 K) * u (ix3 b s K) + w (ix2 1 K) * up u b (s.val + 1) (by omega) K + w (ix2 0 K) * up u b s.val (by omega) K + v (ix1 K)

/-- The gated activation: the first half through `x · 1 / (1 + exp (0 - x))`, times the second half. -/
def act (b : Fin 2) (s : Fin 2048) (J : Fin 2816) : EReal :=
  conv u w v b s ⟨J.val, by omega⟩ * sg (conv u w v b s ⟨J.val, by omega⟩) * conv u w v b s ⟨2816 + J.val, by omega⟩

/-- The gradients of the convolution's two halves, and of the whole. -/
def dg (b : Fin 2) (s : Fin 2048) (J : Fin 2816) : EReal :=
  d (ix3 b s J) * conv u w v b s ⟨2816 + J.val, by omega⟩ * (sg (conv u w v b s ⟨J.val, by omega⟩)
    * (1 + conv u w v b s ⟨J.val, by omega⟩ * (1 - sg (conv u w v b s ⟨J.val, by omega⟩))))
def dv (b : Fin 2) (s : Fin 2048) (J : Fin 2816) : EReal :=
  d (ix3 b s J) * (conv u w v b s ⟨J.val, by omega⟩ * sg (conv u w v b s ⟨J.val, by omega⟩))
def du (b : Fin 2) (s : Fin 2048) (K : Fin 5632) : EReal :=
  if hK : K.val < 2816 then dg d u w v b s ⟨K.val, hK⟩ else dv d u w v b s ⟨K.val - 2816, by omega⟩

/-- What a row of a sequence adds to the sums: the gradient, and the gradient times the convolution's three taps. -/
def term (q : Fin 8) (K : Fin 5632) (b : Fin 2) (s : Fin 2048) : EReal :=
  if q = 0 then du d u w v b s K
  else if q = 1 then du d u w v b s K * up u b s.val (by omega) K
  else if q = 2 then du d u w v b s K * up u b (s.val + 1) (by omega) K
  else if q = 3 then du d u w v b s K * u (ix3 b s K)
  else 0
def stat (q : Fin 8) (K : Fin 5632) : EReal := ∑ b : Fin 2, ∑ s : Fin 2048, term d u w v q K b s
end

variable (m : (ℓ : Loc nD τ sig) → Buf (Elt Ideal) ℓ) (c : Dev nD)

/-- The arguments as arrays: the gradient of the activation, the product before the convolution, the convolution's weight and bias. -/
def aD : FVec Ideal S2x2048x2816 .f32 := m ((c : Thread nD τ).loc main_arg0)
def aU : FVec Ideal S2x2048x5632 .bf16 := m ((c : Thread nD τ).loc main_arg1)
def aC : FVec Ideal S3x5632 .f32 := m ((c : Thread nD τ).loc main_arg2)
def aB : FVec Ideal S5632 .f32 := m ((c : Thread nD τ).loc main_arg3)

/-- The blocks of the operands at a point. -/
def bD (t : Fin cfg0.N) : FVec Ideal S1x128x2816 .f32 := iblk m c 0 t
def bU (t : Fin cfg0.N) : FVec Ideal S1x128x5632 .bf16 := iblk m c 1 t
def bH (t : Fin cfg0.N) : FVec Ideal S1x16x5632 .bf16 := iblk m c 2 t
def bC (t : Fin cfg0.N) : FVec Ideal S3x5632 .f32 := iblk m c 3 t
def bB (t : Fin cfg0.N) : FVec Ideal S1x5632 .f32 := iblk m c 4 t

theorem idx : ∀ t : Fin cfg0.N,
    win0_0.index t = ![t.val / 16, t.val % 16, 0] ∧ win0_1.index t = ![t.val / 16, t.val % 16, 0]
    ∧ win0_2.index t = ![t.val / 16, t.val % 16 * 8 - 1, 0] ∧ win0_3.index t = ![0, 0] ∧ win0_4.index t = ![0, 0]
    ∧ win0_5.index t = ![t.val / 16, t.val % 16, 0] ∧ win0_6.index t = ![t.val / 16, t.val % 16, 0] ∧ win0_7.index t = ![0, 0] :=
  (by decide +kernel : ∀ t : Fin grid0.N, _)

theorem rowBlock : ∀ t : Fin cfg0.N, ((grid0.coords t) 1).val = t.val % 16 :=
  (by decide +kernel : ∀ t : Fin grid0.N, _)

variable (t : Fin cfg0.N)

theorem bD_apply (r : Fin 128) (J : Fin 2816) (b : Fin 2) (s : Fin 2048) (hb : b.val = t.val / 16) (hs : s.val = t.val % 16 * 128 + r.val) :
    bD m c t (ix3 0 r J) = aD m c (ix3 b s J) := by
  unfold bD aD
  blk_ext [iblk, V, idx t]

theorem bU_apply (r : Fin 128) (K : Fin 5632) (b : Fin 2) (s : Fin 2048) (hb : b.val = t.val / 16) (hs : s.val = t.val % 16 * 128 + r.val) :
    bU m c t (ix3 0 r K) = aU m c (ix3 b s K) := by
  unfold bU aU
  blk_ext [iblk, V, idx t]

theorem bH_apply (r : Fin 16) (K : Fin 5632) (b : Fin 2) (s : Fin 2048) (hb : b.val = t.val / 16)
    (hs : s.val + 16 = t.val % 16 * 128 + r.val) : bH m c t (ix3 0 r K) = aU m c (ix3 b s K) := by
  unfold bH aU
  blk_ext [iblk, V, idx t] <;> omega

theorem bC_apply (j : Fin 3) (K : Fin 5632) : bC m c t (ix2 j K) = aC m c (ix2 j K) := by
  unfold bC aC
  blk_ext [iblk, V, idx t]

theorem bB_apply (K : Fin 5632) : bB m c t (ix2 0 K) = aB m c (ix1 K) := by
  have h : bB m c t (ix2 0 K) = V m c main_v0 (ix2 0 K) := by
    unfold bB
    blk_ext [iblk, idx t]
  rw [h]
  unfold aB
  entry_read
  pointwise

theorem halo (q : Fin 16) (K : Fin 5632) (b : Fin 2) (n : ℕ) (hn : n < 2050) (hb : b.val = t.val / 16)
    (hs : n + 14 = t.val % 16 * 128 + q.val) :
    (if ((grid0.coords t) 1).val = 0 then 0 else bH m c t (ix3 0 q K)) = up (aU m c) b n hn K := by
  have hq := q.isLt
  rw [rowBlock t]
  unfold up
  by_cases h0 : t.val % 16 = 0
  · rw [if_pos h0, dif_pos (by omega)]
  · rw [if_neg h0, dif_neg (by omega)]
    exact bH_apply m c t q K b _ hb (by simp only; omega)

theorem b1_eq (r : Fin 128) (K : Fin 5632) (b : Fin 2) (s : Fin 2048) (hb : b.val = t.val / 16) (hs : s.val = t.val % 16 * 128 + r.val) :
    b1 (grid0.coords t) (bU m c t) (bH m c t) r K = up (aU m c) b (s.val + 1) (by omega) K := by
  unfold b1
  by_cases h0 : r.val = 0
  · rw [if_pos h0]
    exact halo m c t 15 K b _ _ hb (by show _ = _ + 15; omega)
  · rw [if_neg h0]
    unfold up
    rw [dif_neg (by omega)]
    exact bU_apply m c t _ K b _ hb (by simp only; omega)

theorem b2_eq (r : Fin 128) (K : Fin 5632) (b : Fin 2) (s : Fin 2048) (hb : b.val = t.val / 16) (hs : s.val = t.val % 16 * 128 + r.val) :
    b2 (grid0.coords t) (bU m c t) (bH m c t) r K = up (aU m c) b s.val (by omega) K := by
  unfold b2
  by_cases h0 : r.val = 0
  · rw [if_pos h0]
    exact halo m c t 14 K b _ _ hb (by show _ = _ + 14; omega)
  · rw [if_neg h0]
    by_cases h1 : r.val = 1
    · rw [if_pos h1]
      exact halo m c t 15 K b _ _ hb (by show _ = _ + 15; omega)
    · rw [if_neg h1]
      unfold up
      rw [dif_neg (by omega)]
      exact bU_apply m c t _ K b _ hb (by simp only; omega)

theorem bConv_eq (r : Fin 128) (K : Fin 5632) (b : Fin 2) (s : Fin 2048) (hb : b.val = t.val / 16) (hs : s.val = t.val % 16 * 128 + r.val) :
    bConv (grid0.coords t) (bU m c t) (bH m c t) (bC m c t) (bB m c t) r K = conv (aU m c) (aC m c) (aB m c) b s K := by
  unfold bConv conv
  rw [b1_eq m c t r K b s hb hs, b2_eq m c t r K b s hb hs, bU_apply m c t r K b s hb hs, bC_apply, bC_apply, bC_apply, bB_apply]

theorem bAct_eq (r : Fin 128) (J : Fin 2816) (b : Fin 2) (s : Fin 2048) (hb : b.val = t.val / 16) (hs : s.val = t.val % 16 * 128 + r.val) :
    bAct (grid0.coords t) (bU m c t) (bH m c t) (bC m c t) (bB m c t) r J = act (aU m c) (aC m c) (aB m c) b s J := by
  unfold bAct act
  rw [bConv_eq m c t r _ b s hb hs, bConv_eq m c t r _ b s hb hs]

theorem bDu_eq (r : Fin 128) (K : Fin 5632) (b : Fin 2) (s : Fin 2048) (hb : b.val = t.val / 16) (hs : s.val = t.val % 16 * 128 + r.val) :
    bDu (grid0.coords t) (bD m c t) (bU m c t) (bH m c t) (bC m c t) (bB m c t) r K = du (aD m c) (aU m c) (aC m c) (aB m c) b s K := by
  unfold bDu du
  by_cases hK : K.val < 2816
  · rw [dif_pos hK, dif_pos hK]
    unfold bDg dg
    rw [bConv_eq m c t r _ b s hb hs, bConv_eq m c t r _ b s hb hs, bD_apply m c t r _ b s hb hs]
  · rw [dif_neg hK, dif_neg hK]
    unfold bDv dv
    rw [bConv_eq m c t r _ b s hb hs, bD_apply m c t r _ b s hb hs]

/-- A point's part of the sums. -/
def part (q : Fin 8) (K : Fin 5632) : EReal :=
  bTerm (grid0.coords t) (bD m c t) (bU m c t) (bH m c t) (bC m c t) (bB m c t) q K

theorem part_eq (q : Fin 8) (K : Fin 5632) (b : Fin 2) (a : Fin 16) (ht : t.val = 16 * b.val + a.val) :
    part m c t q K = ∑ r : Fin 128, term (aD m c) (aU m c) (aC m c) (aB m c) q K b ⟨a.val * 128 + r.val, by omega⟩ := by
  have hb' := b.isLt
  have ha := a.isLt
  have hb : b.val = t.val / 16 := by omega
  have hs : ∀ r : Fin 128, (⟨a.val * 128 + r.val, by omega⟩ : Fin 2048).val = t.val % 16 * 128 + r.val := fun r => by simp only; omega
  unfold part bTerm term
  by_cases h0 : q = 0
  · simp only [if_pos h0]
    exact Finset.sum_congr rfl fun r _ => bDu_eq m c t r K b _ hb (hs r)
  simp only [if_neg h0]
  by_cases h1 : q = 1
  · simp only [if_pos h1]
    exact Finset.sum_congr rfl fun r _ => congrArg₂ (· * ·) (bDu_eq m c t r K b _ hb (hs r)) (b2_eq m c t r K b _ hb (hs r))
  simp only [if_neg h1]
  by_cases h2 : q = 2
  · simp only [if_pos h2]
    exact Finset.sum_congr rfl fun r _ => congrArg₂ (· * ·) (bDu_eq m c t r K b _ hb (hs r)) (b1_eq m c t r K b _ hb (hs r))
  simp only [if_neg h2]
  by_cases h3 : q = 3
  · simp only [if_pos h3]
    exact Finset.sum_congr rfl fun r _ => congrArg₂ (· * ·) (bDu_eq m c t r K b _ hb (hs r)) (bU_apply m c t r K b _ hb (hs r))
  simp only [if_neg h3, Finset.sum_const_zero]

/-- After the last point the sums are over every row of both sequences. -/
theorem last (h : t.val % 32 = 31) (q : Fin 8) (K : Fin 5632) :
    (outsAt0 m c t.val t.isLt).2.2 (ix2 q K) = stat (aD m c) (aU m c) (aC m c) (aB m c) q K := by
  have ht : t.val < 32 := lt_of_lt_of_eq t.isLt N_0
  have e := Pipeline.eq_sum_fin_of_reset_step_apply_of_flush (fun n h (i : Fin 8 × Fin 5632) => (outsAt0 m c n h).2.2 (ix2 i.1 i.2)) 32
    (fun _ => 0) (fun t i => part m c t i.1 i.2)
    (fun t h i => st_A m c t h (ix2 i.1 i.2)) (fun t h i => st_B m c t h (ix2 i.1 i.2)) t h (q, K)
  simp only at e
  rw [e, zero_add, Fin.sum_univ_tiles 2 16 rfl]
  unfold stat
  refine Finset.sum_congr rfl fun b _ => ?_
  rw [Fin.sum_univ_tiles 16 128 rfl]
  refine Finset.sum_congr rfl fun a _ => ?_
  exact part_eq m c _ q K b a (by simp only; omega)

/-- The result arrays. -/
def resU : FVec Ideal S2x2048x5632 .bf16 := fun i => du (aD m c) (aU m c) (aC m c) (aB m c) (i 0) (i 1) (i 2)
def resA : FVec Ideal S2x2048x2816 .bf16 := fun i => act (aU m c) (aC m c) (aB m c) (i 0) (i 1) (i 2)
def resS : FVec Ideal S8x5632 .f32 := fun i => stat (aD m c) (aU m c) (aC m c) (aB m c) (i 0) (i 1)

theorem out5 (z : Fin 1) (r : Fin 128) (K : Fin 5632) : (outsAt0 m c t.val t.isLt).1 (ix3 z r K)
    = bDu (grid0.coords t) (bD m c t) (bU m c t) (bH m c t) (bC m c t) (bB m c t) r K := by
  by_cases h : t.val % 32 = 0
  · exact du_A m c t h (ix3 z r K)
  · exact du_B m c t h (ix3 z r K)

theorem out6 (z : Fin 1) (r : Fin 128) (J : Fin 2816) : (outsAt0 m c t.val t.isLt).2.1 (ix3 z r J)
    = bAct (grid0.coords t) (bU m c t) (bH m c t) (bC m c t) (bB m c t) r J := by
  by_cases h : t.val % 32 = 0
  · exact act_A m c t h (ix3 z r J)
  · exact act_B m c t h (ix3 z r J)

theorem final5 (c : Dev nD) : (dats m 0 c).arrAt 5 cfg0.N = resU m c := by
  refine (dats m 0 c).arrAt_eq_of_covers 5 (resU m c) (by decide +kernel) fun t hf y => ?_
  blk_simp
  rw [after0_5]
  obtain ⟨z, r, K, rfl⟩ : ∃ z r k, y = ix3 z r k := ⟨y 0, y 1, y 2, eq_ix3 y⟩
  have ht : t.val < 32 := lt_of_lt_of_eq t.isLt N_0
  have hr : r.val < 128 := r.isLt
  refine ((out5 m c t z r K).trans (bDu_eq m c t r K ⟨t.val / 16, by omega⟩ ⟨t.val % 16 * 128 + r.val, by omega⟩ rfl rfl)).trans ?_
  show resU m c (ix3 ⟨t.val / 16, by omega⟩ ⟨t.val % 16 * 128 + r.val, by omega⟩ K) = _
  refine congrArg (resU m c) ?_
  obtain rfl : z = 0 := Subsingleton.elim _ _
  blk_ext [idx t]

theorem final6 (c : Dev nD) : (dats m 0 c).arrAt 6 cfg0.N = resA m c := by
  refine (dats m 0 c).arrAt_eq_of_covers 6 (resA m c) (by decide +kernel) fun t hf y => ?_
  blk_simp
  rw [after0_6]
  obtain ⟨z, r, J, rfl⟩ : ∃ z r k, y = ix3 z r k := ⟨y 0, y 1, y 2, eq_ix3 y⟩
  have ht : t.val < 32 := lt_of_lt_of_eq t.isLt N_0
  have hr : r.val < 128 := r.isLt
  refine ((out6 m c t z r J).trans (bAct_eq m c t r J ⟨t.val / 16, by omega⟩ ⟨t.val % 16 * 128 + r.val, by omega⟩ rfl rfl)).trans ?_
  show resA m c (ix3 ⟨t.val / 16, by omega⟩ ⟨t.val % 16 * 128 + r.val, by omega⟩ J) = _
  refine congrArg (resA m c) ?_
  obtain rfl : z = 0 := Subsingleton.elim _ _
  blk_ext [idx t]

theorem final7 (c : Dev nD) : (dats m 0 c).arrAt 7 cfg0.N = resS m c := by
  refine (dats m 0 c).arrAt_eq_of_covers 7 (resS m c) (by decide +kernel) fun t hf y => ?_
  have h7 := (flush0_7 t).mp hf
  blk_simp
  rw [after0_7]
  obtain ⟨q, K, rfl⟩ : ∃ i j, y = ix2 i j := ⟨y 0, y 1, eq_ix2 y⟩
  refine (last m c t h7 q K).trans ?_
  show resS m c (ix2 q K) = _
  refine congrArg (resS m c) ?_
  blk_ext [idx t]

end Cert.Kernel29Ideal.Gate
-- ==== Proof.GateRef29.lean ====
module

public import proofs.«01_k».proof.Proof.Model
public import proofs.«01_k».proof.Proof.GateFold29
public import proofs.«01_k».proof.Proof.Gen.Reference29Ideal.Run

@[expose] public section

/-! Program 29's reference at an index: the convolution, the activation, the gradient of the convolution's result, and the sums. -/

set_option maxRecDepth 16384

noncomputable section

open Idealize.ShloMosaic Idealize.ShloMosaic.TcCoe Idealize.SL.Sem

namespace Cert.Reference29Ideal.Gate

open Cert.Reference29Ideal Cert.Reference29Ideal.Gen
open Cert.Kernel29Ideal.Gate (sg up conv act dg dv du term stat)

/-! The terms, named. -/

/-- The padded rows, the convolution of them, its two halves. -/
def padR (u : FVec Ideal S2x2048x5632 .bf16) : FVec Ideal S2x2050x5632 .f32 :=
  concatenate S2x2050x5632 1 [⟨S2x2x5632, (broadcastInDim S2x2x5632 ![] bcast_S_S2x2x5632 (constant S_ .f32 0x00000000#32))⟩, ⟨S2x2048x5632, (extf .f32 u bitsLt_bf16_f32)⟩] concatenates_S2x2x5632_S2x2048x5632_S2x2050x5632_d1
def convR (p : FVec Ideal S2x2050x5632 .f32) (w : FVec Ideal S3x5632 .f32) (v : FVec Ideal S5632 .f32) : FVec Ideal S2x2048x5632 .f32 :=
  addf (addf (addf (mulf (extractStridedSlice S2x2048x5632 ![0, 0, 0] p slices_S2x2050x5632_S2x2048x5632_0_0_0) (broadcastInDim S2x2048x5632 ![0, 1, 2] bcast_S1x1x5632_S2x2048x5632_0_1_2 (broadcastInDim S1x1x5632 ![2] bcast_S5632_S1x1x5632_2 (shapeCast _ (extractStridedSlice S1x5632 ![0, 0] w slices_S3x5632_S1x5632_0_0) shapeCasts_S1x5632_S5632)))) (mulf (extractStridedSlice S2x2048x5632 ![0, 1, 0] p slices_S2x2050x5632_S2x2048x5632_0_1_0) (broadcastInDim S2x2048x5632 ![0, 1, 2] bcast_S1x1x5632_S2x2048x5632_0_1_2 (broadcastInDim S1x1x5632 ![2] bcast_S5632_S1x1x5632_2 (shapeCast _ (extractStridedSlice S1x5632 ![1, 0] w slices_S3x5632_S1x5632_1_0) shapeCasts_S1x5632_S5632))))) (mulf (extractStridedSlice S2x2048x5632 ![0, 2, 0] p slices_S2x2050x5632_S2x2048x5632_0_2_0) (broadcastInDim S2x2048x5632 ![0, 1, 2] bcast_S1x1x5632_S2x2048x5632_0_1_2 (broadcastInDim S1x1x5632 ![2] bcast_S5632_S1x1x5632_2 (shapeCast _ (extractStridedSlice S1x5632 ![2, 0] w slices_S3x5632_S1x5632_2_0) shapeCasts_S1x5632_S5632))))) (broadcastInDim S2x2048x5632 ![0, 1, 2] bcast_S1x1x5632_S2x2048x5632_0_1_2 (broadcastInDim S1x1x5632 ![2] bcast_S5632_S1x1x5632_2 v))
def gR (f : FVec Ideal S2x2048x5632 .f32) : FVec Ideal S2x2048x2816 .f32 := extractStridedSlice S2x2048x2816 ![0, 0, 0] f slices_S2x2048x5632_S2x2048x2816_0_0_0
def vR (f : FVec Ideal S2x2048x5632 .f32) : FVec Ideal S2x2048x2816 .f32 := extractStridedSlice S2x2048x2816 ![0, 0, 2816] f slices_S2x2048x5632_S2x2048x2816_0_0_2816
/-- The logistic function, and the derivative of `x` times it. -/
def sgR (g : FVec Ideal S2x2048x2816 .f32) : FVec Ideal S2x2048x2816 .f32 :=
  Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf g)))
def dsR (g s : FVec Ideal S2x2048x2816 .f32) : FVec Ideal S2x2048x2816 .f32 :=
  addf s (mulf g (mulf s (subf (broadcastInDim S2x2048x2816 ![] bcast_S_S2x2048x2816 (constant S_ .f32 0x3F800000#32)) s)))
/-- The two halves put into the whole. -/
def hiR (p : FVec Ideal S2x2048x2816 .f32) : FVec Ideal S2x2048x5632 .f32 :=
  pad S2x2048x5632 ![0, 0, 2816] ![0, 0, 0] ![0, 0, 0] p (constant S_ .f32 0x00000000#32) pads_S2x2048x2816_S2x2048x5632_000_000_281600 h_S_
def loR (p : FVec Ideal S2x2048x2816 .f32) : FVec Ideal S2x2048x5632 .f32 :=
  pad S2x2048x5632 ![0, 0, 0] ![0, 0, 2816] ![0, 0, 0] p (constant S_ .f32 0x00000000#32) pads_S2x2048x2816_S2x2048x5632_000_000_028160 h_S_
def duR (d : FVec Ideal S2x2048x2816 .f32) (f : FVec Ideal S2x2048x5632 .f32) : FVec Ideal S2x2048x5632 .f32 :=
  addf (hiR (mulf (mulf (gR f) (sgR (gR f))) d)) (loR (mulf (mulf d (vR f)) (dsR (gR f) (sgR (gR f)))))
/-- The sum over both sequences, in a row; the rows of the convolution's weight; the result. -/
def rowR (p : FVec Ideal S2x2048x5632 .f32) : FVec Ideal S1x5632 .f32 :=
  broadcastInDim S1x5632 ![1] bcast_S5632_S1x5632_1 (Host.reduceAdd (shapeCast _ (Host.reduceAdd p (constant S_ .f32 0x00000000#32) reducesTo_S2x2048x5632_S5632_d0_1 h_S_) shapeCasts_S5632_S1x1x5632) (constant S_ .f32 0x00000000#32) reducesTo_S1x1x5632_S5632_d0_1 h_S_)
def pad2 (p : FVec Ideal S1x5632 .f32) : FVec Ideal S3x5632 .f32 :=
  pad S3x5632 ![2, 0] ![0, 0] ![0, 0] p (constant S_ .f32 0x00000000#32) pads_S1x5632_S3x5632_200_000 h_S_
def pad1 (p : FVec Ideal S1x5632 .f32) : FVec Ideal S3x5632 .f32 :=
  pad S3x5632 ![1, 0] ![1, 0] ![0, 0] p (constant S_ .f32 0x00000000#32) pads_S1x5632_S3x5632_110_000 h_S_
def pad0 (p : FVec Ideal S1x5632 .f32) : FVec Ideal S3x5632 .f32 :=
  pad S3x5632 ![0, 0] ![2, 0] ![0, 0] p (constant S_ .f32 0x00000000#32) pads_S1x5632_S3x5632_020_000 h_S_
def tap0 (p : FVec Ideal S2x2050x5632 .f32) : FVec Ideal S2x2048x5632 .f32 := extractStridedSlice S2x2048x5632 ![0, 0, 0] p slices_S2x2050x5632_S2x2048x5632_0_0_0
def tap1 (p : FVec Ideal S2x2050x5632 .f32) : FVec Ideal S2x2048x5632 .f32 := extractStridedSlice S2x2048x5632 ![0, 1, 0] p slices_S2x2050x5632_S2x2048x5632_0_1_0
def tap2 (p : FVec Ideal S2x2050x5632 .f32) : FVec Ideal S2x2048x5632 .f32 := extractStridedSlice S2x2048x5632 ![0, 2, 0] p slices_S2x2050x5632_S2x2048x5632_0_2_0
def dwR (p : FVec Ideal S2x2050x5632 .f32) (x : FVec Ideal S2x2048x5632 .f32) : FVec Ideal S3x5632 .f32 :=
  addf (addf (pad2 (rowR (mulf (tap2 p) x))) (pad1 (rowR (mulf (tap1 p) x)))) (pad0 (rowR (mulf (tap0 p) x)))
def catR (a : FVec Ideal S1x5632 .f32) (w : FVec Ideal S3x5632 .f32) : FVec Ideal S8x5632 .f32 :=
  concatenate S8x5632 0 [⟨S1x5632, a⟩, ⟨S3x5632, w⟩, ⟨S4x5632, ((broadcastInDim S4x5632 ![] bcast_S_S4x5632 (constant S_ .f32 0x00000000#32)) : FVec Ideal S4x5632 .f32)⟩] concatenates_S1x5632_S3x5632_S4x5632_S8x5632_d0

/-! The terms at an index. -/

theorem pad_apply (u : FVec Ideal S2x2048x5632 .bf16) (b : Fin 2) (n : Fin 2050) (k : Fin 5632) :
    padR u (ix3 b n k) = up u b n.val n.isLt k := by
  unfold up
  pointwise [padR]

theorem convR_apply (p : FVec Ideal S2x2050x5632 .f32) (w : FVec Ideal S3x5632 .f32) (v : FVec Ideal S5632 .f32) (b : Fin 2)
    (s : Fin 2048) (k : Fin 5632) :
    convR p w v (ix3 b s k) = p (ix3 b ⟨s.val, by omega⟩ k) * w (ix2 0 k) + p (ix3 b ⟨1 + s.val, by omega⟩ k) * w (ix2 1 k)
      + p (ix3 b ⟨2 + s.val, by omega⟩ k) * w (ix2 2 k) + v (ix1 k) := by
  pointwise [convR]

theorem gR_apply (f : FVec Ideal S2x2048x5632 .f32) (b : Fin 2) (s : Fin 2048) (J : Fin 2816) : gR f (ix3 b s J) = f (ix3 b s ⟨J.val, by omega⟩) := by
  pointwise [gR]
theorem vR_apply (f : FVec Ideal S2x2048x5632 .f32) (b : Fin 2) (s : Fin 2048) (J : Fin 2816) : vR f (ix3 b s J) = f (ix3 b s ⟨2816 + J.val, by omega⟩) := by
  pointwise [vR]
theorem sgR_apply (g : FVec Ideal S2x2048x2816 .f32) (b : Fin 2) (s : Fin 2048) (J : Fin 2816) : sgR g (ix3 b s J) = sg (g (ix3 b s J)) := by
  unfold sg
  rw [zero_sub]
  pointwise [sgR]
theorem dsR_apply (g x : FVec Ideal S2x2048x2816 .f32) (b : Fin 2) (s : Fin 2048) (J : Fin 2816) :
    dsR g x (ix3 b s J) = x (ix3 b s J) + g (ix3 b s J) * (x (ix3 b s J) * (1 - x (ix3 b s J))) := by
  pointwise [dsR]

theorem tap0_apply (u : FVec Ideal S2x2048x5632 .bf16) (b : Fin 2) (s : Fin 2048) (k : Fin 5632) :
    tap0 (padR u) (ix3 b s k) = up u b s.val (by omega) k := by
  have h : tap0 (padR u) (ix3 b s k) = padR u (ix3 b ⟨s.val, by omega⟩ k) := by
    generalize padR u = p
    pointwise [tap0]
  rw [h, pad_apply]
theorem tap1_apply (u : FVec Ideal S2x2048x5632 .bf16) (b : Fin 2) (s : Fin 2048) (k : Fin 5632) :
    tap1 (padR u) (ix3 b s k) = up u b (s.val + 1) (by omega) k := by
  have h : tap1 (padR u) (ix3 b s k) = padR u (ix3 b ⟨1 + s.val, by omega⟩ k) := by
    generalize padR u = p
    pointwise [tap1]
  rw [h, pad_apply]
  congr 1
  simp only
  omega
theorem up_two (u : FVec Ideal S2x2048x5632 .bf16) (b : Fin 2) (s : Fin 2048) (k : Fin 5632) :
    up u b (2 + s.val) (by omega) k = u (ix3 b s k) := by
  unfold up
  rw [dif_neg (by omega)]
  congr 2
  ext
  simp only
  omega
theorem tap2_apply (u : FVec Ideal S2x2048x5632 .bf16) (b : Fin 2) (s : Fin 2048) (k : Fin 5632) :
    tap2 (padR u) (ix3 b s k) = u (ix3 b s k) := by
  have h : tap2 (padR u) (ix3 b s k) = padR u (ix3 b ⟨2 + s.val, by omega⟩ k) := by
    generalize padR u = p
    pointwise [tap2]
  rw [h, pad_apply, up_two]

theorem conv_eq (u : FVec Ideal S2x2048x5632 .bf16) (w : FVec Ideal S3x5632 .f32) (v : FVec Ideal S5632 .f32) (b : Fin 2) (s : Fin 2048)
    (k : Fin 5632) : convR (padR u) w v (ix3 b s k) = conv u w v b s k := by
  have e1 : up u b (1 + s.val) (by omega) k = up u b (s.val + 1) (by omega) k := by
    congr 1
    omega
  rw [convR_apply, pad_apply, pad_apply, pad_apply]
  show up u b s.val _ k * w (ix2 0 k) + up u b (1 + s.val) _ k * w (ix2 1 k) + up u b (2 + s.val) _ k * w (ix2 2 k) + v (ix1 k) = _
  rw [e1, up_two]
  unfold conv
  rw [mul_comm (w (ix2 2 k)), mul_comm (w (ix2 1 k)), mul_comm (w (ix2 0 k))]
  congr 1
  rw [add_comm, add_comm (up u b s.val _ k * w (ix2 0 k)), ← add_assoc]

theorem hiR_apply (p : FVec Ideal S2x2048x2816 .f32) (b : Fin 2) (s : Fin 2048) (K : Fin 5632) :
    hiR p (ix3 b s K) = if h : K.val < 2816 then 0 else p (ix3 b s ⟨K.val - 2816, by omega⟩) := by
  unfold hiR pad
  by_cases h : K.val < 2816
  · rw [dif_pos h, dif_neg]
    · pointwise
    · intro g
      have := (g ⟨2, by decide⟩).1
      have : 2816 ≤ K.val := this
      omega
  · rw [dif_neg h, dif_pos]
    · refine congrArg p ?_
      funext a
      match a with
      | ⟨0, _⟩ => exact Fin.ext (by show (b.val - 0) / 1 = b.val; omega)
      | ⟨1, _⟩ => exact Fin.ext (by show (s.val - 0) / 1 = s.val; omega)
      | ⟨2, _⟩ => exact Fin.ext (by show (K.val - 2816) / 1 = K.val - 2816; omega)
    · intro a
      have hb := b.isLt
      have hs := s.isLt
      have hK := K.isLt
      match a with
      | ⟨0, _⟩ => exact ⟨Nat.zero_le _, by show (b.val - 0) % 1 = 0; omega, by show (b.val - 0) / 1 < 2; omega⟩
      | ⟨1, _⟩ => exact ⟨Nat.zero_le _, by show (s.val - 0) % 1 = 0; omega, by show (s.val - 0) / 1 < 2048; omega⟩
      | ⟨2, _⟩ => exact ⟨by show 2816 ≤ K.val; omega, by show (K.val - 2816) % 1 = 0; omega, by show (K.val - 2816) / 1 < 2816; omega⟩

theorem loR_apply (p : FVec Ideal S2x2048x2816 .f32) (b : Fin 2) (s : Fin 2048) (K : Fin 5632) :
    loR p (ix3 b s K) = if h : K.val < 2816 then p (ix3 b s ⟨K.val, h⟩) else 0 := by
  unfold loR pad
  by_cases h : K.val < 2816
  · rw [dif_pos h, dif_pos]
    · refine congrArg p ?_
      funext a
      match a with
      | ⟨0, _⟩ => exact Fin.ext (by show (b.val - 0) / 1 = b.val; omega)
      | ⟨1, _⟩ => exact Fin.ext (by show (s.val - 0) / 1 = s.val; omega)
      | ⟨2, _⟩ => exact Fin.ext (by show (K.val - 0) / 1 = K.val; omega)
    · intro a
      have hb := b.isLt
      have hs := s.isLt
      match a with
      | ⟨0, _⟩ => exact ⟨Nat.zero_le _, by show (b.val - 0) % 1 = 0; omega, by show (b.val - 0) / 1 < 2; omega⟩
      | ⟨1, _⟩ => exact ⟨Nat.zero_le _, by show (s.val - 0) % 1 = 0; omega, by show (s.val - 0) / 1 < 2048; omega⟩
      | ⟨2, _⟩ => exact ⟨Nat.zero_le _, by show (K.val - 0) % 1 = 0; omega, by show (K.val - 0) / 1 < 2816; omega⟩
  · rw [dif_neg h, dif_neg]
    · pointwise
    · intro g
      have := (g ⟨2, by decide⟩).2.2
      have : (K.val - 0) / 1 < 2816 := this
      omega

theorem rowR_apply (p : FVec Ideal S2x2048x5632 .f32) (K : Fin 5632) : rowR p (ix2 0 K) = ∑ b : Fin 2, ∑ s : Fin 2048, p (ix3 b s K) := by
  pointwise [rowR]
  rw [Model.hostReduceAdd_01, zero_add, Fin.sum_univ_one, Fin.sum_univ_one]
  pointwise
  rw [Model.hostReduceAdd_01, zero_add]

theorem pad0_apply (p : FVec Ideal S1x5632 .f32) (j : Fin 3) (K : Fin 5632) :
    pad0 p (ix2 j K) = if j.val = 0 then p (ix2 0 K) else 0 := by
  unfold pad0 pad
  by_cases h : j.val = 0
  · rw [if_pos h, dif_pos]
    · refine congrArg p ?_
      funext a
      match a with
      | ⟨0, _⟩ => exact Fin.ext (by show (j.val - 0) / 1 = 0; omega)
      | ⟨1, _⟩ => exact Fin.ext (by show (K.val - 0) / 1 = K.val; omega)
    · intro a
      have hK := K.isLt
      match a with
      | ⟨0, _⟩ => exact ⟨by show 0 ≤ j.val; omega, by show (j.val - 0) % 1 = 0; omega, by show (j.val - 0) / 1 < 1; omega⟩
      | ⟨1, _⟩ => exact ⟨Nat.zero_le _, by show (K.val - 0) % 1 = 0; omega, by show (K.val - 0) / 1 < 5632; omega⟩
  · rw [if_neg h, dif_neg]
    · pointwise
    · intro g
      have g1 := (g ⟨0, by decide⟩).1
      have g2 := (g ⟨0, by decide⟩).2.2
      have g1 : 0 ≤ j.val := g1
      have g2 : (j.val - 0) / 1 < 1 := g2
      omega

theorem pad1_apply (p : FVec Ideal S1x5632 .f32) (j : Fin 3) (K : Fin 5632) :
    pad1 p (ix2 j K) = if j.val = 1 then p (ix2 0 K) else 0 := by
  unfold pad1 pad
  by_cases h : j.val = 1
  · rw [if_pos h, dif_pos]
    · refine congrArg p ?_
      funext a
      match a with
      | ⟨0, _⟩ => exact Fin.ext (by show (j.val - 1) / 1 = 0; omega)
      | ⟨1, _⟩ => exact Fin.ext (by show (K.val - 0) / 1 = K.val; omega)
    · intro a
      have hK := K.isLt
      match a with
      | ⟨0, _⟩ => exact ⟨by show 1 ≤ j.val; omega, by show (j.val - 1) % 1 = 0; omega, by show (j.val - 1) / 1 < 1; omega⟩
      | ⟨1, _⟩ => exact ⟨Nat.zero_le _, by show (K.val - 0) % 1 = 0; omega, by show (K.val - 0) / 1 < 5632; omega⟩
  · rw [if_neg h, dif_neg]
    · pointwise
    · intro g
      have g1 := (g ⟨0, by decide⟩).1
      have g2 := (g ⟨0, by decide⟩).2.2
      have g1 : 1 ≤ j.val := g1
      have g2 : (j.val - 1) / 1 < 1 := g2
      omega

theorem pad2_apply (p : FVec Ideal S1x5632 .f32) (j : Fin 3) (K : Fin 5632) :
    pad2 p (ix2 j K) = if j.val = 2 then p (ix2 0 K) else 0 := by
  unfold pad2 pad
  by_cases h : j.val = 2
  · rw [if_pos h, dif_pos]
    · refine congrArg p ?_
      funext a
      match a with
      | ⟨0, _⟩ => exact Fin.ext (by show (j.val - 2) / 1 = 0; omega)
      | ⟨1, _⟩ => exact Fin.ext (by show (K.val - 0) / 1 = K.val; omega)
    · intro a
      have hK := K.isLt
      match a with
      | ⟨0, _⟩ => exact ⟨by show 2 ≤ j.val; omega, by show (j.val - 2) % 1 = 0; omega, by show (j.val - 2) / 1 < 1; omega⟩
      | ⟨1, _⟩ => exact ⟨Nat.zero_le _, by show (K.val - 0) % 1 = 0; omega, by show (K.val - 0) / 1 < 5632; omega⟩
  · rw [if_neg h, dif_neg]
    · pointwise
    · intro g
      have g1 := (g ⟨0, by decide⟩).1
      have g2 := (g ⟨0, by decide⟩).2.2
      have g1 : 2 ≤ j.val := g1
      have g2 : (j.val - 2) / 1 < 1 := g2
      omega

theorem catR_apply (a : FVec Ideal S1x5632 .f32) (w : FVec Ideal S3x5632 .f32) (q : Fin 8) (K : Fin 5632) :
    catR a w (ix2 q K) = if h : q.val < 1 then a (ix2 ⟨q.val, h⟩ K) else if h : q.val - 1 < 3 then w (ix2 ⟨q.val - 1, h⟩ K) else 0 := by
  pointwise [catR]

end Cert.Reference29Ideal.Gate
-- ==== Proof.Gate29.lean ====
module

public import proofs.«01_k».proof.Defs
public import proofs.«01_k».proof.Proof.Gen.Kernel29.Frame
public import proofs.«01_k».proof.Proof.GateRef29
public import Idealize.ShloMosaic.Lib.Claim
public import Idealize.ShloMosaic.Lib.Quiescent

@[expose] public section

/-! The gradient of the causal convolution and the gate, program 29: the kernel's arrays are the reference's. The derivative of
`x · 1 / (1 + exp (-x))` is written by the reference as a sum of two terms, by the kernel as a product; the two agree at the infinities
also. -/

set_option maxRecDepth 65536

noncomputable section

open Idealize.ShloMosaic Idealize.ShloMosaic.TcCoe Idealize.SL.Sem

namespace Cert.Reference29Ideal.Gate

open Cert.Reference29Ideal Cert.Reference29Ideal.Gen
open Cert.Kernel29Ideal.Gate (sg up conv act dg dv du term stat)

theorem sg_eq (x : EReal) : sg x = Ideal.logistic x := by
  unfold sg Ideal.logistic
  rw [zero_sub]

/-- The derivative of `x` times the logistic function, in its two forms. -/
theorem deriv_eq (x : EReal) : sg x + x * (sg x * (1 - sg x)) = sg x * (1 + x * (1 - sg x)) := by
  rw [sg_eq]
  induction x with
  | bot => simp
  | top =>
    have h : (1 : EReal) - 1 = 0 := by
      rw [← EReal.coe_one, ← EReal.coe_sub, sub_self, EReal.coe_zero]
    rw [Ideal.logistic_top, h]
    simp
  | coe r =>
    rw [Ideal.logistic_coe]
    generalize (1 + Real.exp (-r))⁻¹ = a
    rw [← EReal.coe_one, ← EReal.coe_sub, ← EReal.coe_mul, ← EReal.coe_mul, ← EReal.coe_add, ← EReal.coe_mul, ← EReal.coe_add, ← EReal.coe_mul]
    congr 1
    ring

section
variable (d : FVec Ideal S2x2048x2816 .f32) (u : FVec Ideal S2x2048x5632 .bf16) (w : FVec Ideal S3x5632 .f32) (v : FVec Ideal S5632 .f32)

theorem act_eq (b : Fin 2) (s : Fin 2048) (J : Fin 2816) :
    mulf (F := Ideal) (mulf (gR (convR (padR u) w v)) (sgR (gR (convR (padR u) w v)))) (vR (convR (padR u) w v)) (ix3 b s J)
      = act u w v b s J := by
  show gR (convR (padR u) w v) (ix3 b s J) * sgR (gR (convR (padR u) w v)) (ix3 b s J) * vR (convR (padR u) w v) (ix3 b s J) = _
  rw [sgR_apply, gR_apply, vR_apply, conv_eq, conv_eq]
  rfl

theorem du_eq (b : Fin 2) (s : Fin 2048) (K : Fin 5632) : duR d (convR (padR u) w v) (ix3 b s K) = du d u w v b s K := by
  unfold duR du
  refine Eq.trans (congrArg₂ (· + ·) (hiR_apply _ b s K) (loR_apply _ b s K)) ?_
  by_cases hK : K.val < 2816
  · rw [dif_pos hK, dif_pos hK, dif_pos hK, zero_add]
    show d (ix3 b s ⟨K.val, hK⟩) * vR (convR (padR u) w v) (ix3 b s ⟨K.val, hK⟩)
      * dsR (gR (convR (padR u) w v)) (sgR (gR (convR (padR u) w v))) (ix3 b s ⟨K.val, hK⟩) = _
    rw [dsR_apply, sgR_apply, gR_apply, vR_apply, conv_eq, conv_eq, deriv_eq]
    rfl
  · rw [dif_neg hK, dif_neg hK, dif_neg hK, add_zero]
    show gR (convR (padR u) w v) (ix3 b s ⟨K.val - 2816, by omega⟩) * sgR (gR (convR (padR u) w v)) (ix3 b s ⟨K.val - 2816, by omega⟩)
      * d (ix3 b s ⟨K.val - 2816, by omega⟩) = _
    rw [sgR_apply, gR_apply, conv_eq, mul_comm]
    rfl

theorem row_eq (f : FVec Ideal S2x2048x5632 .f32) (g : Fin 2 → Fin 2048 → EReal) (K : Fin 5632) (h : ∀ b s, f (ix3 b s K) = g b s) :
    rowR (mulf f (duR d (convR (padR u) w v))) (ix2 0 K) = ∑ b : Fin 2, ∑ s : Fin 2048, du d u w v b s K * g b s := by
  rw [rowR_apply]
  refine Finset.sum_congr rfl fun b _ => Finset.sum_congr rfl fun s _ => ?_
  show f (ix3 b s K) * duR d (convR (padR u) w v) (ix3 b s K) = _
  rw [h, du_eq, mul_comm]

theorem dw_apply (j : Fin 3) (K : Fin 5632) : dwR (padR u) (duR d (convR (padR u) w v)) (ix2 j K)
    = (if j.val = 2 then ∑ b : Fin 2, ∑ s : Fin 2048, du d u w v b s K * u (ix3 b s K) else 0)
      + (if j.val = 1 then ∑ b : Fin 2, ∑ s : Fin 2048, du d u w v b s K * up u b (s.val + 1) (by omega) K else 0)
      + (if j.val = 0 then ∑ b : Fin 2, ∑ s : Fin 2048, du d u w v b s K * up u b s.val (by omega) K else 0) := by
  rw [← row_eq d u w v (tap0 (padR u)) _ K (fun b s => tap0_apply u b s K), ← row_eq d u w v (tap1 (padR u)) _ K (fun b s => tap1_apply u b s K),
    ← row_eq d u w v (tap2 (padR u)) _ K (fun b s => tap2_apply u b s K), ← pad0_apply, ← pad1_apply, ← pad2_apply]
  rfl

theorem stat_eq (q : Fin 8) (K : Fin 5632) :
    catR (rowR (duR d (convR (padR u) w v))) (dwR (padR u) (duR d (convR (padR u) w v))) (ix2 q K) = stat d u w v q K := by
  rw [catR_apply]
  unfold stat term
  match q with
  | 0 =>
    refine (rowR_apply _ K).trans ?_
    exact Finset.sum_congr rfl fun b _ => Finset.sum_congr rfl fun s _ => du_eq d u w v b s K
  | 1 =>
    refine (dw_apply d u w v 0 K).trans ?_
    simp
  | 2 =>
    refine (dw_apply d u w v 1 K).trans ?_
    simp
  | 3 =>
    refine (dw_apply d u w v 2 K).trans ?_
    simp
  | 4 => simp
  | 5 => simp
  | 6 => simp
  | 7 => simp
end

theorem a_of (m : (ℓ : Loc nD τ sig) → Buf (Elt Ideal) ℓ) (c : Dev nD) : Cert.Reference29Ideal.Value.res_main_v75 m c
    = truncf .bf16 (mulf (F := Ideal) (mulf (gR (convR (padR (m ((c.tc : Thread nD τ).loc main_arg1))) (m ((c.tc : Thread nD τ).loc main_arg2)) (m ((c.tc : Thread nD τ).loc main_arg3))))
      (sgR (gR (convR (padR (m ((c.tc : Thread nD τ).loc main_arg1))) (m ((c.tc : Thread nD τ).loc main_arg2)) (m ((c.tc : Thread nD τ).loc main_arg3))))))
      (vR (convR (padR (m ((c.tc : Thread nD τ).loc main_arg1))) (m ((c.tc : Thread nD τ).loc main_arg2)) (m ((c.tc : Thread nD τ).loc main_arg3))))) bitsLt_bf16_f32 := rfl

theorem d_of (m : (ℓ : Loc nD τ sig) → Buf (Elt Ideal) ℓ) (c : Dev nD) : Cert.Reference29Ideal.Value.res_main_v74 m c
    = truncf .bf16 (duR (m ((c.tc : Thread nD τ).loc main_arg0)) (convR (padR (m ((c.tc : Thread nD τ).loc main_arg1))) (m ((c.tc : Thread nD τ).loc main_arg2)) (m ((c.tc : Thread nD τ).loc main_arg3))))
      bitsLt_bf16_f32 := rfl

theorem s_of (m : (ℓ : Loc nD τ sig) → Buf (Elt Ideal) ℓ) (c : Dev nD) : Cert.Reference29Ideal.Value.res_main_v73 m c
    = catR (rowR (duR (m ((c.tc : Thread nD τ).loc main_arg0)) (convR (padR (m ((c.tc : Thread nD τ).loc main_arg1))) (m ((c.tc : Thread nD τ).loc main_arg2)) (m ((c.tc : Thread nD τ).loc main_arg3)))))
      (dwR (padR (m ((c.tc : Thread nD τ).loc main_arg1))) (duR (m ((c.tc : Thread nD τ).loc main_arg0)) (convR (padR (m ((c.tc : Thread nD τ).loc main_arg1))) (m ((c.tc : Thread nD τ).loc main_arg2)) (m ((c.tc : Thread nD τ).loc main_arg3))))) := rfl

theorem frame : Cert.quiescent_Reference29Ideal (hReference29Ideal := Cert.Reference29Ideal.Gen.facts) := by
  intro m ρ _
  exact (θ_run Cert.Reference29Ideal.defs _ _).mono
    (fun r h => ⟨fun c => (h c).2.2.2, sem_eq_zero_of_no_sems (by decide) r.2⟩) (Cert.Reference29Ideal.Value.run m ρ)

theorem algebraic : Cert.algebraic_Kernel29Ideal_Reference29Ideal (hKernel29Ideal := Cert.Kernel29Ideal.Gen.facts)
    (hReference29Ideal := Cert.Reference29Ideal.Gen.facts) := by
  intro m g m' g' _ hagree
  refine ⟨fun c => Cert.Kernel29Ideal.Gate.resU m c, fun c => Cert.Kernel29Ideal.Gate.resA m c, fun c => Cert.Kernel29Ideal.Gate.resS m c, ?_, ?_⟩
  · refine (θ_run _ _ _).mono (fun r h c => ?_) (Cert.Kernel29Ideal.Value.run_blocks m g)
    obtain ⟨h0, h1, h2, hk⟩ := h c
    exact ⟨h0.trans (Cert.Kernel29Ideal.Gate.final5 m c), h1.trans (Cert.Kernel29Ideal.Gate.final6 m c),
      h2.trans (Cert.Kernel29Ideal.Gate.final7 m c), hk⟩
  · refine (θ_run _ _ _).mono (fun r h c => ?_) (Cert.Reference29Ideal.Value.run m' g')
    obtain ⟨h0, h1, h2, hk⟩ := h c
    obtain ⟨a0, a1, a2, a3⟩ := hagree c
    refine ⟨h0.trans ?_, h1.trans ?_, h2.trans ?_, hk⟩
    · rw [d_of, a0, a1, a2, a3]
      funext i
      obtain ⟨b, s, k, rfl⟩ : ∃ b s k, i = ix3 b s k := ⟨i 0, i 1, i 2, eq_ix3 i⟩
      exact du_eq _ _ _ _ b s k
    · rw [a_of, a1, a2, a3]
      funext i
      obtain ⟨b, s, k, rfl⟩ : ∃ b s k, i = ix3 b s k := ⟨i 0, i 1, i 2, eq_ix3 i⟩
      exact act_eq _ _ _ b s k
    · rw [s_of, a0, a1, a2, a3]
      funext i
      obtain ⟨q, k, rfl⟩ : ∃ q k, i = ix2 q k := ⟨i 0, i 1, eq_ix2 i⟩
      exact stat_eq _ _ _ _ q k

end Cert.Reference29Ideal.Gate
-- ==== Proof.LnFrame11.lean ====
module

public import proofs.«01_k».proof.Proof.Gen.Kernel11.Frame
public import proofs.«01_k».proof.Defs
public import proofs.«01_k».proof.Proof.LnFrame11I

@[expose] public section

set_option maxRecDepth 65536

noncomputable section

namespace Cert.Kernel11.Ln

open Idealize.ShloMosaic Idealize.ShloMosaic.TcCoe Idealize.SL.Sem

/-- The two programs' texts are the same, so their body tables are. -/
theorem defs₀_eq {F : FTy → Type} [FloatOps F] : Cert.Kernel11Ideal.defs₀ (F := F) = defs₀ (F := F) :=
  congrArg Defs.onTc (funext fun
    | 0 => funext fun (_, _) => rfl
    | ⟨_ + 1, h⟩ => absurd h (Nat.not_lt.2 (Nat.le_add_left _ _)))

theorem defs_eq {F : FTy → Type} [FloatOps F] : Cert.Kernel11Ideal.defs (F := F) = defs (F := F) :=
  congrArg (Pipeline.defs (pcfgs (F := F))) defs₀_eq

variable (m : (ℓ : Loc nD τ sig) → Buf (Elt Bits) ℓ) (ρ : Dev nD → PrngReg)

/-- The frame of program 11, from the run shown for its idealization over any float values. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [← defs_eq]
  exact Cert.Kernel11Ideal.Ln.frame (F := Bits) m ρ

end Cert.Kernel11.Ln
-- ==== Proof.LnFrame12.lean ====
module

public import proofs.«01_k».proof.Proof.Gen.Kernel12.Frame
public import proofs.«01_k».proof.Defs
public import proofs.«01_k».proof.Proof.LnFrame12I

@[expose] public section

set_option maxRecDepth 65536

noncomputable section

namespace Cert.Kernel12.Ln

open Idealize.ShloMosaic Idealize.ShloMosaic.TcCoe Idealize.SL.Sem

/-- The two programs' texts are the same, so their body tables are. -/
theorem defs₀_eq {F : FTy → Type} [FloatOps F] : Cert.Kernel12Ideal.defs₀ (F := F) = defs₀ (F := F) :=
  congrArg Defs.onTc (funext fun
    | 0 => funext fun (_, _) => rfl
    | ⟨_ + 1, h⟩ => absurd h (Nat.not_lt.2 (Nat.le_add_left _ _)))

theorem defs_eq {F : FTy → Type} [FloatOps F] : Cert.Kernel12Ideal.defs (F := F) = defs (F := F) :=
  congrArg (Pipeline.defs (pcfgs (F := F))) defs₀_eq

variable (m : (ℓ : Loc nD τ sig) → Buf (Elt Bits) ℓ) (ρ : Dev nD → PrngReg)

/-- The frame of program 12, from the run shown for its idealization over any float values. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [← defs_eq]
  exact Cert.Kernel12Ideal.Ln.frame (F := Bits) m ρ

end Cert.Kernel12.Ln
-- ==== Proof.lean ====
module

public import proofs.«01_k».proof.Defs
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.WGradEq2
public import proofs.«01_k».proof.Proof.WGradEq3
public import proofs.«01_k».proof.Proof.WGradEq4
public import proofs.«01_k».proof.Proof.WGradEq5
public import proofs.«01_k».proof.Proof.Gate6
public import proofs.«01_k».proof.Proof.Gate7
public import proofs.«01_k».proof.Proof.InBwd8
public import proofs.«01_k».proof.Proof.Out9
public import proofs.«01_k».proof.Proof.Down10
public import proofs.«01_k».proof.Proof.LnEq11
public import proofs.«01_k».proof.Proof.LnEq12
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.Adam18
public import proofs.«01_k».proof.Proof.Cond19
public import proofs.«01_k».proof.Proof.Cond20
public import proofs.«01_k».proof.Proof.Loss21
public import proofs.«01_k».proof.Proof.Bias22
public import proofs.«01_k».proof.Proof.Mla28
public import proofs.«01_k».proof.Proof.Gate29
public import proofs.«01_k».proof.Proof.LnFrame11
public import proofs.«01_k».proof.Proof.LnFrame12
public import Idealize.ShloMosaic.Lib.Claim
public import Idealize.ShloMosaic.Lib.Quiescent
public import Idealize.ShloMosaic.Adequacy
public import Idealize.ShloMosaic.Init

@[expose] public section

noncomputable section

-- The claims about the programs also say that every semaphore counter ends at zero; the proofs show that too.

namespace Cert.Proof

open Idealize.ShloMosaic Idealize.SL.Sem Cert.Kernel

/-- The reference leaves its arguments as they were; it declares no semaphore, so no counter can be off zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2.2.2.2.2, sem_eq_zero_of_no_sems (by decide) r.2⟩) (Cert.ReferenceIdeal.Value.run m ρ)

/-- All the claims together, in the order of the programs. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, Cert.Reference2Ideal.WGrad.frame,
  fun m ρ _ => Cert.Kernel3.Gen.frame m ρ, fun m ρ _ => Cert.Kernel3Ideal.Gen.frame m ρ, Cert.Reference3Ideal.WGrad.frame,
  fun m ρ _ => Cert.Kernel4.Gen.frame m ρ, fun m ρ _ => Cert.Kernel4Ideal.Gen.frame m ρ, Cert.Reference4Ideal.WGrad.frame,
  fun m ρ _ => Cert.Kernel5.Gen.frame m ρ, fun m ρ _ => Cert.Kernel5Ideal.Gen.frame m ρ, Cert.Reference5Ideal.WGrad.frame,
  fun m ρ _ => Cert.Kernel6.Gen.frame m ρ, fun m ρ _ => Cert.Kernel6Ideal.Gen.frame m ρ, Cert.Reference6Ideal.Gate.frame,
  fun m ρ _ => Cert.Kernel7.Gen.frame m ρ, fun m ρ _ => Cert.Kernel7Ideal.Gen.frame m ρ, Cert.Reference7Ideal.Gate.frame,
  fun m ρ _ => Cert.Kernel8.Gen.frame m ρ, fun m ρ _ => Cert.Kernel8Ideal.Gen.frame m ρ, Cert.Reference8Ideal.InBwd.frame,
  fun m ρ _ => Cert.Kernel9.Gen.frame m ρ, fun m ρ _ => Cert.Kernel9Ideal.Gen.frame m ρ, Cert.Reference9Ideal.Out.frame,
  fun m ρ _ => Cert.Kernel10.Gen.frame m ρ, fun m ρ _ => Cert.Kernel10Ideal.Gen.frame m ρ, Cert.Reference10Ideal.Down.frame,
  fun m ρ _ => Cert.Kernel11.Ln.frame m ρ, fun m ρ _ => Cert.Kernel11Ideal.Ln.frame m ρ, Cert.Reference11Ideal.Ln.frame,
  fun m ρ _ => Cert.Kernel12.Ln.frame m ρ, fun m ρ _ => Cert.Kernel12Ideal.Ln.frame m ρ, Cert.Reference12Ideal.Ln.frame,
  fun m ρ _ => Cert.Kernel13.Gen.frame m ρ, fun m ρ _ => Cert.Kernel13Ideal.Gen.frame m ρ, Cert.Reference13Ideal.Step.frame,
  fun m ρ _ => Cert.Kernel14.Gen.frame m ρ, fun m ρ _ => Cert.Kernel14Ideal.Gen.frame m ρ, Cert.Reference14Ideal.Step.frame,
  fun m ρ _ => Cert.Kernel15.Gen.frame m ρ, fun m ρ _ => Cert.Kernel15Ideal.Gen.frame m ρ, Cert.Reference15Ideal.Step.frame,
  fun m ρ _ => Cert.Kernel16.Gen.frame m ρ, fun m ρ _ => Cert.Kernel16Ideal.Gen.frame m ρ, Cert.Reference16Ideal.Step.frame,
  fun m ρ _ => Cert.Kernel17.Gen.frame m ρ, fun m ρ _ => Cert.Kernel17Ideal.Gen.frame m ρ, Cert.Reference17Ideal.Step.frame,
  fun m ρ _ => Cert.Kernel18.Gen.frame m ρ, fun m ρ _ => Cert.Kernel18Ideal.Gen.frame m ρ, Cert.Reference18Ideal.Step.frame,
  fun m ρ _ => Cert.Kernel19.Gen.frame m ρ, fun m ρ _ => Cert.Kernel19Ideal.Gen.frame m ρ, Cert.Reference19Ideal.Cond.frame,
  fun m ρ _ => Cert.Kernel20.Gen.frame m ρ, fun m ρ _ => Cert.Kernel20Ideal.Gen.frame m ρ, Cert.Reference20Ideal.Cond.frame,
  fun m ρ _ => Cert.Kernel21.Gen.frame m ρ, fun m ρ _ => Cert.Kernel21Ideal.Gen.frame m ρ, Cert.Reference21Ideal.Loss.frame,
  fun m ρ _ => Cert.Kernel22.Gen.frame m ρ, fun m ρ _ => Cert.Kernel22Ideal.Gen.frame m ρ, Cert.Reference22Ideal.Bias.frame,
  fun m ρ _ => Cert.Kernel28.Mla.frame m ρ, fun m ρ _ => Cert.Kernel28Ideal.Mla.frame m ρ, Cert.Reference28Ideal.Mla.frame,
  fun m ρ _ => Cert.Kernel29.Gen.frame m ρ, fun m ρ _ => Cert.Kernel29Ideal.Gen.frame m ρ, Cert.Reference29Ideal.Gate.frame,
  trivial, algebraic,
  trivial, Cert.Reference2Ideal.WGrad.algebraic,
  trivial, Cert.Reference3Ideal.WGrad.algebraic,
  trivial, Cert.Reference4Ideal.WGrad.algebraic,
  trivial, Cert.Reference5Ideal.WGrad.algebraic,
  trivial, Cert.Reference6Ideal.Gate.algebraic,
  trivial, Cert.Reference7Ideal.Gate.algebraic,
  trivial, Cert.Reference8Ideal.InBwd.algebraic,
  trivial, Cert.Reference9Ideal.Out.algebraic,
  trivial, Cert.Reference10Ideal.Down.algebraic,
  trivial, Cert.Reference11Ideal.Ln.algebraic,
  trivial, Cert.Reference12Ideal.Ln.algebraic,
  trivial, Cert.Reference13Ideal.Step.algebraic,
  trivial, Cert.Reference14Ideal.Step.algebraic,
  trivial, Cert.Reference15Ideal.Step.algebraic,
  trivial, Cert.Reference16Ideal.Step.algebraic,
  trivial, Cert.Reference17Ideal.Step.algebraic,
  trivial, Cert.Reference18Ideal.Step.algebraic,
  trivial, Cert.Reference19Ideal.Cond.algebraic,
  trivial, Cert.Reference20Ideal.Cond.algebraic,
  trivial, Cert.Reference21Ideal.Loss.algebraic,
  trivial, Cert.Reference22Ideal.Bias.algebraic,
  trivial, Cert.Reference28Ideal.Mla.algebraic,
  trivial, Cert.Reference29Ideal.Gate.algebraic⟩

end Cert.Proof

end
